-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_ProjFwd (m : (ℓ : Loc Cert.ProjFwd.nD Cert.ProjFwd.τ Cert.ProjFwd.sig) → Buf (Elt Bits) ℓ) : Prop :=
  True

def Pre_ProjFwdIdeal (m : (ℓ : Loc Cert.ProjFwdIdeal.nD Cert.ProjFwdIdeal.τ Cert.ProjFwdIdeal.sig) → Buf (Elt Ideal) ℓ) : Prop :=
  True

def Pre_ProjectionIdeal (m : (ℓ : Loc Cert.ProjectionIdeal.nD Cert.ProjectionIdeal.τ Cert.ProjectionIdeal.sig) → Buf (Elt Ideal) ℓ) : Prop :=
  True

def Pre_DwQ (m : (ℓ : Loc Cert.DwQ.nD Cert.DwQ.τ Cert.DwQ.sig) → Buf (Elt Bits) ℓ) : Prop :=
  True

def Pre_DwQIdeal (m : (ℓ : Loc Cert.DwQIdeal.nD Cert.DwQIdeal.τ Cert.DwQIdeal.sig) → Buf (Elt Ideal) ℓ) : Prop :=
  True

def Pre_DwQRefIdeal (m : (ℓ : Loc Cert.DwQRefIdeal.nD Cert.DwQRefIdeal.τ Cert.DwQRefIdeal.sig) → Buf (Elt Ideal) ℓ) : Prop :=
  True

def Pre_DwK (m : (ℓ : Loc Cert.DwK.nD Cert.DwK.τ Cert.DwK.sig) → Buf (Elt Bits) ℓ) : Prop :=
  True

def Pre_DwKIdeal (m : (ℓ : Loc Cert.DwKIdeal.nD Cert.DwKIdeal.τ Cert.DwKIdeal.sig) → Buf (Elt Ideal) ℓ) : Prop :=
  True

def Pre_DwKRefIdeal (m : (ℓ : Loc Cert.DwKRefIdeal.nD Cert.DwKRefIdeal.τ Cert.DwKRefIdeal.sig) → Buf (Elt Ideal) ℓ) : Prop :=
  True

def Pre_DwF (m : (ℓ : Loc Cert.DwF.nD Cert.DwF.τ Cert.DwF.sig) → Buf (Elt Bits) ℓ) : Prop :=
  True

def Pre_DwFIdeal (m : (ℓ : Loc Cert.DwFIdeal.nD Cert.DwFIdeal.τ Cert.DwFIdeal.sig) → Buf (Elt Ideal) ℓ) : Prop :=
  True

def Pre_DwFRefIdeal (m : (ℓ : Loc Cert.DwFRefIdeal.nD Cert.DwFRefIdeal.τ Cert.DwFRefIdeal.sig) → Buf (Elt Ideal) ℓ) : Prop :=
  True

def Pre_DwG (m : (ℓ : Loc Cert.DwG.nD Cert.DwG.τ Cert.DwG.sig) → Buf (Elt Bits) ℓ) : Prop :=
  True

def Pre_DwGIdeal (m : (ℓ : Loc Cert.DwGIdeal.nD Cert.DwGIdeal.τ Cert.DwGIdeal.sig) → Buf (Elt Ideal) ℓ) : Prop :=
  True

def Pre_DwGRefIdeal (m : (ℓ : Loc Cert.DwGRefIdeal.nD Cert.DwGRefIdeal.τ Cert.DwGRefIdeal.sig) → Buf (Elt Ideal) ℓ) : Prop :=
  True

def Pre_DwUp (m : (ℓ : Loc Cert.DwUp.nD Cert.DwUp.τ Cert.DwUp.sig) → Buf (Elt Bits) ℓ) : Prop :=
  True

def Pre_DwUpIdeal (m : (ℓ : Loc Cert.DwUpIdeal.nD Cert.DwUpIdeal.τ Cert.DwUpIdeal.sig) → Buf (Elt Ideal) ℓ) : Prop :=
  True

def Pre_DwUpRefIdeal (m : (ℓ : Loc Cert.DwUpRefIdeal.nD Cert.DwUpRefIdeal.τ Cert.DwUpRefIdeal.sig) → Buf (Elt Ideal) ℓ) : Prop :=
  True

def Pre_DwGlu (m : (ℓ : Loc Cert.DwGlu.nD Cert.DwGlu.τ Cert.DwGlu.sig) → Buf (Elt Bits) ℓ) : Prop :=
  True

def Pre_DwGluIdeal (m : (ℓ : Loc Cert.DwGluIdeal.nD Cert.DwGluIdeal.τ Cert.DwGluIdeal.sig) → Buf (Elt Ideal) ℓ) : Prop :=
  True

def Pre_DwGluRefIdeal (m : (ℓ : Loc Cert.DwGluRefIdeal.nD Cert.DwGluRefIdeal.τ Cert.DwGluRefIdeal.sig) → Buf (Elt Ideal) ℓ) : Prop :=
  True

def Pre_ProjBwd (m : (ℓ : Loc Cert.ProjBwd.nD Cert.ProjBwd.τ Cert.ProjBwd.sig) → Buf (Elt Bits) ℓ) : Prop :=
  True

def Pre_ProjBwdIdeal (m : (ℓ : Loc Cert.ProjBwdIdeal.nD Cert.ProjBwdIdeal.τ Cert.ProjBwdIdeal.sig) → Buf (Elt Ideal) ℓ) : Prop :=
  True

def Pre_ProjBwdIdeal_real [hPre_real : Cert.Pre_real.Facts] (m : (ℓ : Loc Cert.ProjBwdIdeal.nD Cert.ProjBwdIdeal.τ Cert.ProjBwdIdeal.sig) → Buf (Elt Ideal) ℓ) : Prop :=
  ∀ c : Dev Cert.ProjBwdIdeal.nD,
    (Cert.Pre_real.fn (F := Ideal) (m ((c.tc : Thread Cert.ProjBwdIdeal.nD Cert.ProjBwdIdeal.τ).loc Cert.ProjBwdIdeal.main_arg0)) (m ((c.tc : Thread Cert.ProjBwdIdeal.nD Cert.ProjBwdIdeal.τ).loc Cert.ProjBwdIdeal.main_arg1)) (m ((c.tc : Thread Cert.ProjBwdIdeal.nD Cert.ProjBwdIdeal.τ).loc Cert.ProjBwdIdeal.main_arg2)) (m ((c.tc : Thread Cert.ProjBwdIdeal.nD Cert.ProjBwdIdeal.τ).loc Cert.ProjBwdIdeal.main_arg3)) (m ((c.tc : Thread Cert.ProjBwdIdeal.nD Cert.ProjBwdIdeal.τ).loc Cert.ProjBwdIdeal.main_arg4)) (m ((c.tc : Thread Cert.ProjBwdIdeal.nD Cert.ProjBwdIdeal.τ).loc Cert.ProjBwdIdeal.main_arg5)) (m ((c.tc : Thread Cert.ProjBwdIdeal.nD Cert.ProjBwdIdeal.τ).loc Cert.ProjBwdIdeal.main_arg6)) (m ((c.tc : Thread Cert.ProjBwdIdeal.nD Cert.ProjBwdIdeal.τ).loc Cert.ProjBwdIdeal.main_arg7)) (m ((c.tc : Thread Cert.ProjBwdIdeal.nD Cert.ProjBwdIdeal.τ).loc Cert.ProjBwdIdeal.main_arg8)) (m ((c.tc : Thread Cert.ProjBwdIdeal.nD Cert.ProjBwdIdeal.τ).loc Cert.ProjBwdIdeal.main_arg9)) (m ((c.tc : Thread Cert.ProjBwdIdeal.nD Cert.ProjBwdIdeal.τ).loc Cert.ProjBwdIdeal.main_arg10)) (m ((c.tc : Thread Cert.ProjBwdIdeal.nD Cert.ProjBwdIdeal.τ).loc Cert.ProjBwdIdeal.main_arg11)) (m ((c.tc : Thread Cert.ProjBwdIdeal.nD Cert.ProjBwdIdeal.τ).loc Cert.ProjBwdIdeal.main_arg12)) (m ((c.tc : Thread Cert.ProjBwdIdeal.nD Cert.ProjBwdIdeal.τ).loc Cert.ProjBwdIdeal.main_arg13)) (m ((c.tc : Thread Cert.ProjBwdIdeal.nD Cert.ProjBwdIdeal.τ).loc Cert.ProjBwdIdeal.main_arg14))) = (fun _ => 1#1)

def Pre_ProjBwdRefIdeal (m : (ℓ : Loc Cert.ProjBwdRefIdeal.nD Cert.ProjBwdRefIdeal.τ Cert.ProjBwdRefIdeal.sig) → Buf (Elt Ideal) ℓ) : Prop :=
  True

def Pre_ProjBwdRefIdeal_real [hPre_real : Cert.Pre_real.Facts] (m : (ℓ : Loc Cert.ProjBwdRefIdeal.nD Cert.ProjBwdRefIdeal.τ Cert.ProjBwdRefIdeal.sig) → Buf (Elt Ideal) ℓ) : Prop :=
  ∀ c : Dev Cert.ProjBwdRefIdeal.nD,
    (Cert.Pre_real.fn (F := Ideal) (m ((c.tc : Thread Cert.ProjBwdRefIdeal.nD Cert.ProjBwdRefIdeal.τ).loc Cert.ProjBwdRefIdeal.main_arg0)) (m ((c.tc : Thread Cert.ProjBwdRefIdeal.nD Cert.ProjBwdRefIdeal.τ).loc Cert.ProjBwdRefIdeal.main_arg1)) (m ((c.tc : Thread Cert.ProjBwdRefIdeal.nD Cert.ProjBwdRefIdeal.τ).loc Cert.ProjBwdRefIdeal.main_arg2)) (m ((c.tc : Thread Cert.ProjBwdRefIdeal.nD Cert.ProjBwdRefIdeal.τ).loc Cert.ProjBwdRefIdeal.main_arg3)) (m ((c.tc : Thread Cert.ProjBwdRefIdeal.nD Cert.ProjBwdRefIdeal.τ).loc Cert.ProjBwdRefIdeal.main_arg4)) (m ((c.tc : Thread Cert.ProjBwdRefIdeal.nD Cert.ProjBwdRefIdeal.τ).loc Cert.ProjBwdRefIdeal.main_arg5)) (m ((c.tc : Thread Cert.ProjBwdRefIdeal.nD Cert.ProjBwdRefIdeal.τ).loc Cert.ProjBwdRefIdeal.main_arg6)) (m ((c.tc : Thread Cert.ProjBwdRefIdeal.nD Cert.ProjBwdRefIdeal.τ).loc Cert.ProjBwdRefIdeal.main_arg7)) (m ((c.tc : Thread Cert.ProjBwdRefIdeal.nD Cert.ProjBwdRefIdeal.τ).loc Cert.ProjBwdRefIdeal.main_arg8)) (m ((c.tc : Thread Cert.ProjBwdRefIdeal.nD Cert.ProjBwdRefIdeal.τ).loc Cert.ProjBwdRefIdeal.main_arg9)) (m ((c.tc : Thread Cert.ProjBwdRefIdeal.nD Cert.ProjBwdRefIdeal.τ).loc Cert.ProjBwdRefIdeal.main_arg10)) (m ((c.tc : Thread Cert.ProjBwdRefIdeal.nD Cert.ProjBwdRefIdeal.τ).loc Cert.ProjBwdRefIdeal.main_arg11)) (m ((c.tc : Thread Cert.ProjBwdRefIdeal.nD Cert.ProjBwdRefIdeal.τ).loc Cert.ProjBwdRefIdeal.main_arg12)) (m ((c.tc : Thread Cert.ProjBwdRefIdeal.nD Cert.ProjBwdRefIdeal.τ).loc Cert.ProjBwdRefIdeal.main_arg13)) (m ((c.tc : Thread Cert.ProjBwdRefIdeal.nD Cert.ProjBwdRefIdeal.τ).loc Cert.ProjBwdRefIdeal.main_arg14))) = (fun _ => 1#1)

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_AdamInRefIdeal (m : (ℓ : Loc Cert.AdamInRefIdeal.nD Cert.AdamInRefIdeal.τ Cert.AdamInRefIdeal.sig) → Buf (Elt Ideal) ℓ) : Prop :=
  True

def Pre_AdamGlu (m : (ℓ : Loc Cert.AdamGlu.nD Cert.AdamGlu.τ Cert.AdamGlu.sig) → Buf (Elt Bits) ℓ) : Prop :=
  True

def Pre_AdamGluIdeal (m : (ℓ : Loc Cert.AdamGluIdeal.nD Cert.AdamGluIdeal.τ Cert.AdamGluIdeal.sig) → Buf (Elt Ideal) ℓ) : Prop :=
  True

def Pre_AdamGluRefIdeal (m : (ℓ : Loc Cert.AdamGluRefIdeal.nD Cert.AdamGluRefIdeal.τ Cert.AdamGluRefIdeal.sig) → Buf (Elt Ideal) ℓ) : Prop :=
  True

def Pre_AdamUp (m : (ℓ : Loc Cert.AdamUp.nD Cert.AdamUp.τ Cert.AdamUp.sig) → Buf (Elt Bits) ℓ) : Prop :=
  True

def Pre_AdamUpIdeal (m : (ℓ : Loc Cert.AdamUpIdeal.nD Cert.AdamUpIdeal.τ Cert.AdamUpIdeal.sig) → Buf (Elt Ideal) ℓ) : Prop :=
  True

def Pre_AdamUpRefIdeal (m : (ℓ : Loc Cert.AdamUpRefIdeal.nD Cert.AdamUpRefIdeal.τ Cert.AdamUpRefIdeal.sig) → Buf (Elt Ideal) ℓ) : Prop :=
  True

def Pre_AdamOut (m : (ℓ : Loc Cert.AdamOut.nD Cert.AdamOut.τ Cert.AdamOut.sig) → Buf (Elt Bits) ℓ) : Prop :=
  True

def Pre_AdamOutIdeal (m : (ℓ : Loc Cert.AdamOutIdeal.nD Cert.AdamOutIdeal.τ Cert.AdamOutIdeal.sig) → Buf (Elt Ideal) ℓ) : Prop :=
  True

def Pre_AdamOutRefIdeal (m : (ℓ : Loc Cert.AdamOutRefIdeal.nD Cert.AdamOutRefIdeal.τ Cert.AdamOutRefIdeal.sig) → Buf (Elt Ideal) ℓ) : Prop :=
  True

def Pre_AdamAda (m : (ℓ : Loc Cert.AdamAda.nD Cert.AdamAda.τ Cert.AdamAda.sig) → Buf (Elt Bits) ℓ) : Prop :=
  True

def Pre_AdamAdaIdeal (m : (ℓ : Loc Cert.AdamAdaIdeal.nD Cert.AdamAdaIdeal.τ Cert.AdamAdaIdeal.sig) → Buf (Elt Ideal) ℓ) : Prop :=
  True

def Pre_AdamAdaRefIdeal (m : (ℓ : Loc Cert.AdamAdaRefIdeal.nD Cert.AdamAdaRefIdeal.τ Cert.AdamAdaRefIdeal.sig) → Buf (Elt Ideal) ℓ) : Prop :=
  True

def Pre_AdamSmall (m : (ℓ : Loc Cert.AdamSmall.nD Cert.AdamSmall.τ Cert.AdamSmall.sig) → Buf (Elt Bits) ℓ) : Prop :=
  True

def Pre_AdamSmallIdeal (m : (ℓ : Loc Cert.AdamSmallIdeal.nD Cert.AdamSmallIdeal.τ Cert.AdamSmallIdeal.sig) → Buf (Elt Ideal) ℓ) : Prop :=
  True

def Pre_AdamSmallRefIdeal (m : (ℓ : Loc Cert.AdamSmallRefIdeal.nD Cert.AdamSmallRefIdeal.τ Cert.AdamSmallRefIdeal.sig) → Buf (Elt Ideal) ℓ) : Prop :=
  True

def Pre_WAda (m : (ℓ : Loc Cert.WAda.nD Cert.WAda.τ Cert.WAda.sig) → Buf (Elt Bits) ℓ) : Prop :=
  True

def Pre_WAdaIdeal (m : (ℓ : Loc Cert.WAdaIdeal.nD Cert.WAdaIdeal.τ Cert.WAdaIdeal.sig) → Buf (Elt Ideal) ℓ) : Prop :=
  True

def Pre_WAdaRefIdeal (m : (ℓ : Loc Cert.WAdaRefIdeal.nD Cert.WAdaRefIdeal.τ Cert.WAdaRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ProjFwd [hProjFwd : Cert.ProjFwd.Facts] : Prop :=
  ∀ (m : (ℓ : Loc Cert.ProjFwd.nD Cert.ProjFwd.τ Cert.ProjFwd.sig) → Buf (Elt Bits) ℓ) (g : Dev Cert.ProjFwd.nD → PrngReg), Pre_ProjFwd m →
    θ_run (Cert.ProjFwd.defs (F := Bits)) (onTc (τ := Cert.ProjFwd.τ) (Cert.ProjFwd.main (F := Bits))) ⟨m, fun _ => 0, g⟩ (fun r => (∀ c : Dev Cert.ProjFwd.nD,
      r.2.mem ((c.tc : Thread Cert.ProjFwd.nD Cert.ProjFwd.τ).loc Cert.ProjFwd.main_arg0) = m ((c.tc : Thread Cert.ProjFwd.nD Cert.ProjFwd.τ).loc Cert.ProjFwd.main_arg0)
      ∧ r.2.mem ((c.tc : Thread Cert.ProjFwd.nD Cert.ProjFwd.τ).loc Cert.ProjFwd.main_arg1) = m ((c.tc : Thread Cert.ProjFwd.nD Cert.ProjFwd.τ).loc Cert.ProjFwd.main_arg1)
      ∧ r.2.mem ((c.tc : Thread Cert.ProjFwd.nD Cert.ProjFwd.τ).loc Cert.ProjFwd.main_arg2) = m ((c.tc : Thread Cert.ProjFwd.nD Cert.ProjFwd.τ).loc Cert.ProjFwd.main_arg2)
      ∧ r.2.mem ((c.tc : Thread Cert.ProjFwd.nD Cert.ProjFwd.τ).loc Cert.ProjFwd.main_arg3) = m ((c.tc : Thread Cert.ProjFwd.nD Cert.ProjFwd.τ).loc Cert.ProjFwd.main_arg3)
      ∧ r.2.mem ((c.tc : Thread Cert.ProjFwd.nD Cert.ProjFwd.τ).loc Cert.ProjFwd.main_arg4) = m ((c.tc : Thread Cert.ProjFwd.nD Cert.ProjFwd.τ).loc Cert.ProjFwd.main_arg4))
      ∧ r.2.sem = fun _ => 0)

def quiescent_ProjFwdIdeal [hProjFwdIdeal : Cert.ProjFwdIdeal.Facts] : Prop :=
  ∀ (m : (ℓ : Loc Cert.ProjFwdIdeal.nD Cert.ProjFwdIdeal.τ Cert.ProjFwdIdeal.sig) → Buf (Elt Ideal) ℓ) (g : Dev Cert.ProjFwdIdeal.nD → PrngReg), Pre_ProjFwdIdeal m →
    θ_run (Cert.ProjFwdIdeal.defs (F := Ideal)) (onTc (τ := Cert.ProjFwdIdeal.τ) (Cert.ProjFwdIdeal.main (F := Ideal))) ⟨m, fun _ => 0, g⟩ (fun r => (∀ c : Dev Cert.ProjFwdIdeal.nD,
      r.2.mem ((c.tc : Thread Cert.ProjFwdIdeal.nD Cert.ProjFwdIdeal.τ).loc Cert.ProjFwdIdeal.main_arg0) = m ((c.tc : Thread Cert.ProjFwdIdeal.nD Cert.ProjFwdIdeal.τ).loc Cert.ProjFwdIdeal.main_arg0)
      ∧ r.2.mem ((c.tc : Thread Cert.ProjFwdIdeal.nD Cert.ProjFwdIdeal.τ).loc Cert.ProjFwdIdeal.main_arg1) = m ((c.tc : Thread Cert.ProjFwdIdeal.nD Cert.ProjFwdIdeal.τ).loc Cert.ProjFwdIdeal.main_arg1)
      ∧ r.2.mem ((c.tc : Thread Cert.ProjFwdIdeal.nD Cert.ProjFwdIdeal.τ).loc Cert.ProjFwdIdeal.main_arg2) = m ((c.tc : Thread Cert.ProjFwdIdeal.nD Cert.ProjFwdIdeal.τ).loc Cert.ProjFwdIdeal.main_arg2)
      ∧ r.2.mem ((c.tc : Thread Cert.ProjFwdIdeal.nD Cert.ProjFwdIdeal.τ).loc Cert.ProjFwdIdeal.main_arg3) = m ((c.tc : Thread Cert.ProjFwdIdeal.nD Cert.ProjFwdIdeal.τ).loc Cert.ProjFwdIdeal.main_arg3)
      ∧ r.2.mem ((c.tc : Thread Cert.ProjFwdIdeal.nD Cert.ProjFwdIdeal.τ).loc Cert.ProjFwdIdeal.main_arg4) = m ((c.tc : Thread Cert.ProjFwdIdeal.nD Cert.ProjFwdIdeal.τ).loc Cert.ProjFwdIdeal.main_arg4))
      ∧ r.2.sem = fun _ => 0)

def quiescent_ProjectionIdeal [hProjectionIdeal : Cert.ProjectionIdeal.Facts] : Prop :=
  ∀ (m : (ℓ : Loc Cert.ProjectionIdeal.nD Cert.ProjectionIdeal.τ Cert.ProjectionIdeal.sig) → Buf (Elt Ideal) ℓ) (g : Dev Cert.ProjectionIdeal.nD → PrngReg), Pre_ProjectionIdeal m →
    θ_run (Cert.ProjectionIdeal.defs (F := Ideal)) (onTc (τ := Cert.ProjectionIdeal.τ) (Cert.ProjectionIdeal.main (F := Ideal))) ⟨m, fun _ => 0, g⟩ (fun r => (∀ c : Dev Cert.ProjectionIdeal.nD,
      r.2.mem ((c.tc : Thread Cert.ProjectionIdeal.nD Cert.ProjectionIdeal.τ).loc Cert.ProjectionIdeal.main_arg0) = m ((c.tc : Thread Cert.ProjectionIdeal.nD Cert.ProjectionIdeal.τ).loc Cert.ProjectionIdeal.main_arg0)
      ∧ r.2.mem ((c.tc : Thread Cert.ProjectionIdeal.nD Cert.ProjectionIdeal.τ).loc Cert.ProjectionIdeal.main_arg1) = m ((c.tc : Thread Cert.ProjectionIdeal.nD Cert.ProjectionIdeal.τ).loc Cert.ProjectionIdeal.main_arg1)
      ∧ r.2.mem ((c.tc : Thread Cert.ProjectionIdeal.nD Cert.ProjectionIdeal.τ).loc Cert.ProjectionIdeal.main_arg2) = m ((c.tc : Thread Cert.ProjectionIdeal.nD Cert.ProjectionIdeal.τ).loc Cert.ProjectionIdeal.main_arg2)
      ∧ r.2.mem ((c.tc : Thread Cert.ProjectionIdeal.nD Cert.ProjectionIdeal.τ).loc Cert.ProjectionIdeal.main_arg3) = m ((c.tc : Thread Cert.ProjectionIdeal.nD Cert.ProjectionIdeal.τ).loc Cert.ProjectionIdeal.main_arg3)
      ∧ r.2.mem ((c.tc : Thread Cert.ProjectionIdeal.nD Cert.ProjectionIdeal.τ).loc Cert.ProjectionIdeal.main_arg4) = m ((c.tc : Thread Cert.ProjectionIdeal.nD Cert.ProjectionIdeal.τ).loc Cert.ProjectionIdeal.main_arg4))
      ∧ r.2.sem = fun _ => 0)

def quiescent_DwQ [hDwQ : Cert.DwQ.Facts] : Prop :=
  ∀ (m : (ℓ : Loc Cert.DwQ.nD Cert.DwQ.τ Cert.DwQ.sig) → Buf (Elt Bits) ℓ) (g : Dev Cert.DwQ.nD → PrngReg), Pre_DwQ m →
    θ_run (Cert.DwQ.defs (F := Bits)) (onTc (τ := Cert.DwQ.τ) (Cert.DwQ.main (F := Bits))) ⟨m, fun _ => 0, g⟩ (fun r => (∀ c : Dev Cert.DwQ.nD,
      r.2.mem ((c.tc : Thread Cert.DwQ.nD Cert.DwQ.τ).loc Cert.DwQ.main_arg0) = m ((c.tc : Thread Cert.DwQ.nD Cert.DwQ.τ).loc Cert.DwQ.main_arg0)
      ∧ r.2.mem ((c.tc : Thread Cert.DwQ.nD Cert.DwQ.τ).loc Cert.DwQ.main_arg1) = m ((c.tc : Thread Cert.DwQ.nD Cert.DwQ.τ).loc Cert.DwQ.main_arg1))
      ∧ r.2.sem = fun _ => 0)

def quiescent_DwQIdeal [hDwQIdeal : Cert.DwQIdeal.Facts] : Prop :=
  ∀ (m : (ℓ : Loc Cert.DwQIdeal.nD Cert.DwQIdeal.τ Cert.DwQIdeal.sig) → Buf (Elt Ideal) ℓ) (g : Dev Cert.DwQIdeal.nD → PrngReg), Pre_DwQIdeal m →
    θ_run (Cert.DwQIdeal.defs (F := Ideal)) (onTc (τ := Cert.DwQIdeal.τ) (Cert.DwQIdeal.main (F := Ideal))) ⟨m, fun _ => 0, g⟩ (fun r => (∀ c : Dev Cert.DwQIdeal.nD,
      r.2.mem ((c.tc : Thread Cert.DwQIdeal.nD Cert.DwQIdeal.τ).loc Cert.DwQIdeal.main_arg0) = m ((c.tc : Thread Cert.DwQIdeal.nD Cert.DwQIdeal.τ).loc Cert.DwQIdeal.main_arg0)
      ∧ r.2.mem ((c.tc : Thread Cert.DwQIdeal.nD Cert.DwQIdeal.τ).loc Cert.DwQIdeal.main_arg1) = m ((c.tc : Thread Cert.DwQIdeal.nD Cert.DwQIdeal.τ).loc Cert.DwQIdeal.main_arg1))
      ∧ r.2.sem = fun _ => 0)

def quiescent_DwQRefIdeal [hDwQRefIdeal : Cert.DwQRefIdeal.Facts] : Prop :=
  ∀ (m : (ℓ : Loc Cert.DwQRefIdeal.nD Cert.DwQRefIdeal.τ Cert.DwQRefIdeal.sig) → Buf (Elt Ideal) ℓ) (g : Dev Cert.DwQRefIdeal.nD → PrngReg), Pre_DwQRefIdeal m →
    θ_run (Cert.DwQRefIdeal.defs (F := Ideal)) (onTc (τ := Cert.DwQRefIdeal.τ) (Cert.DwQRefIdeal.main (F := Ideal))) ⟨m, fun _ => 0, g⟩ (fun r => (∀ c : Dev Cert.DwQRefIdeal.nD,
      r.2.mem ((c.tc : Thread Cert.DwQRefIdeal.nD Cert.DwQRefIdeal.τ).loc Cert.DwQRefIdeal.main_arg0) = m ((c.tc : Thread Cert.DwQRefIdeal.nD Cert.DwQRefIdeal.τ).loc Cert.DwQRefIdeal.main_arg0)
      ∧ r.2.mem ((c.tc : Thread Cert.DwQRefIdeal.nD Cert.DwQRefIdeal.τ).loc Cert.DwQRefIdeal.main_arg1) = m ((c.tc : Thread Cert.DwQRefIdeal.nD Cert.DwQRefIdeal.τ).loc Cert.DwQRefIdeal.main_arg1))
      ∧ r.2.sem = fun _ => 0)

def quiescent_DwK [hDwK : Cert.DwK.Facts] : Prop :=
  ∀ (m : (ℓ : Loc Cert.DwK.nD Cert.DwK.τ Cert.DwK.sig) → Buf (Elt Bits) ℓ) (g : Dev Cert.DwK.nD → PrngReg), Pre_DwK m →
    θ_run (Cert.DwK.defs (F := Bits)) (onTc (τ := Cert.DwK.τ) (Cert.DwK.main (F := Bits))) ⟨m, fun _ => 0, g⟩ (fun r => (∀ c : Dev Cert.DwK.nD,
      r.2.mem ((c.tc : Thread Cert.DwK.nD Cert.DwK.τ).loc Cert.DwK.main_arg0) = m ((c.tc : Thread Cert.DwK.nD Cert.DwK.τ).loc Cert.DwK.main_arg0)
      ∧ r.2.mem ((c.tc : Thread Cert.DwK.nD Cert.DwK.τ).loc Cert.DwK.main_arg1) = m ((c.tc : Thread Cert.DwK.nD Cert.DwK.τ).loc Cert.DwK.main_arg1))
      ∧ r.2.sem = fun _ => 0)

def quiescent_DwKIdeal [hDwKIdeal : Cert.DwKIdeal.Facts] : Prop :=
  ∀ (m : (ℓ : Loc Cert.DwKIdeal.nD Cert.DwKIdeal.τ Cert.DwKIdeal.sig) → Buf (Elt Ideal) ℓ) (g : Dev Cert.DwKIdeal.nD → PrngReg), Pre_DwKIdeal m →
    θ_run (Cert.DwKIdeal.defs (F := Ideal)) (onTc (τ := Cert.DwKIdeal.τ) (Cert.DwKIdeal.main (F := Ideal))) ⟨m, fun _ => 0, g⟩ (fun r => (∀ c : Dev Cert.DwKIdeal.nD,
      r.2.mem ((c.tc : Thread Cert.DwKIdeal.nD Cert.DwKIdeal.τ).loc Cert.DwKIdeal.main_arg0) = m ((c.tc : Thread Cert.DwKIdeal.nD Cert.DwKIdeal.τ).loc Cert.DwKIdeal.main_arg0)
      ∧ r.2.mem ((c.tc : Thread Cert.DwKIdeal.nD Cert.DwKIdeal.τ).loc Cert.DwKIdeal.main_arg1) = m ((c.tc : Thread Cert.DwKIdeal.nD Cert.DwKIdeal.τ).loc Cert.DwKIdeal.main_arg1))
      ∧ r.2.sem = fun _ => 0)

def quiescent_DwKRefIdeal [hDwKRefIdeal : Cert.DwKRefIdeal.Facts] : Prop :=
  ∀ (m : (ℓ : Loc Cert.DwKRefIdeal.nD Cert.DwKRefIdeal.τ Cert.DwKRefIdeal.sig) → Buf (Elt Ideal) ℓ) (g : Dev Cert.DwKRefIdeal.nD → PrngReg), Pre_DwKRefIdeal m →
    θ_run (Cert.DwKRefIdeal.defs (F := Ideal)) (onTc (τ := Cert.DwKRefIdeal.τ) (Cert.DwKRefIdeal.main (F := Ideal))) ⟨m, fun _ => 0, g⟩ (fun r => (∀ c : Dev Cert.DwKRefIdeal.nD,
      r.2.mem ((c.tc : Thread Cert.DwKRefIdeal.nD Cert.DwKRefIdeal.τ).loc Cert.DwKRefIdeal.main_arg0) = m ((c.tc : Thread Cert.DwKRefIdeal.nD Cert.DwKRefIdeal.τ).loc Cert.DwKRefIdeal.main_arg0)
      ∧ r.2.mem ((c.tc : Thread Cert.DwKRefIdeal.nD Cert.DwKRefIdeal.τ).loc Cert.DwKRefIdeal.main_arg1) = m ((c.tc : Thread Cert.DwKRefIdeal.nD Cert.DwKRefIdeal.τ).loc Cert.DwKRefIdeal.main_arg1))
      ∧ r.2.sem = fun _ => 0)

def quiescent_DwF [hDwF : Cert.DwF.Facts] : Prop :=
  ∀ (m : (ℓ : Loc Cert.DwF.nD Cert.DwF.τ Cert.DwF.sig) → Buf (Elt Bits) ℓ) (g : Dev Cert.DwF.nD → PrngReg), Pre_DwF m →
    θ_run (Cert.DwF.defs (F := Bits)) (onTc (τ := Cert.DwF.τ) (Cert.DwF.main (F := Bits))) ⟨m, fun _ => 0, g⟩ (fun r => (∀ c : Dev Cert.DwF.nD,
      r.2.mem ((c.tc : Thread Cert.DwF.nD Cert.DwF.τ).loc Cert.DwF.main_arg0) = m ((c.tc : Thread Cert.DwF.nD Cert.DwF.τ).loc Cert.DwF.main_arg0)
      ∧ r.2.mem ((c.tc : Thread Cert.DwF.nD Cert.DwF.τ).loc Cert.DwF.main_arg1) = m ((c.tc : Thread Cert.DwF.nD Cert.DwF.τ).loc Cert.DwF.main_arg1))
      ∧ r.2.sem = fun _ => 0)

def quiescent_DwFIdeal [hDwFIdeal : Cert.DwFIdeal.Facts] : Prop :=
  ∀ (m : (ℓ : Loc Cert.DwFIdeal.nD Cert.DwFIdeal.τ Cert.DwFIdeal.sig) → Buf (Elt Ideal) ℓ) (g : Dev Cert.DwFIdeal.nD → PrngReg), Pre_DwFIdeal m →
    θ_run (Cert.DwFIdeal.defs (F := Ideal)) (onTc (τ := Cert.DwFIdeal.τ) (Cert.DwFIdeal.main (F := Ideal))) ⟨m, fun _ => 0, g⟩ (fun r => (∀ c : Dev Cert.DwFIdeal.nD,
      r.2.mem ((c.tc : Thread Cert.DwFIdeal.nD Cert.DwFIdeal.τ).loc Cert.DwFIdeal.main_arg0) = m ((c.tc : Thread Cert.DwFIdeal.nD Cert.DwFIdeal.τ).loc Cert.DwFIdeal.main_arg0)
      ∧ r.2.mem ((c.tc : Thread Cert.DwFIdeal.nD Cert.DwFIdeal.τ).loc Cert.DwFIdeal.main_arg1) = m ((c.tc : Thread Cert.DwFIdeal.nD Cert.DwFIdeal.τ).loc Cert.DwFIdeal.main_arg1))
      ∧ r.2.sem = fun _ => 0)

def quiescent_DwFRefIdeal [hDwFRefIdeal : Cert.DwFRefIdeal.Facts] : Prop :=
  ∀ (m : (ℓ : Loc Cert.DwFRefIdeal.nD Cert.DwFRefIdeal.τ Cert.DwFRefIdeal.sig) → Buf (Elt Ideal) ℓ) (g : Dev Cert.DwFRefIdeal.nD → PrngReg), Pre_DwFRefIdeal m →
    θ_run (Cert.DwFRefIdeal.defs (F := Ideal)) (onTc (τ := Cert.DwFRefIdeal.τ) (Cert.DwFRefIdeal.main (F := Ideal))) ⟨m, fun _ => 0, g⟩ (fun r => (∀ c : Dev Cert.DwFRefIdeal.nD,
      r.2.mem ((c.tc : Thread Cert.DwFRefIdeal.nD Cert.DwFRefIdeal.τ).loc Cert.DwFRefIdeal.main_arg0) = m ((c.tc : Thread Cert.DwFRefIdeal.nD Cert.DwFRefIdeal.τ).loc Cert.DwFRefIdeal.main_arg0)
      ∧ r.2.mem ((c.tc : Thread Cert.DwFRefIdeal.nD Cert.DwFRefIdeal.τ).loc Cert.DwFRefIdeal.main_arg1) = m ((c.tc : Thread Cert.DwFRefIdeal.nD Cert.DwFRefIdeal.τ).loc Cert.DwFRefIdeal.main_arg1))
      ∧ r.2.sem = fun _ => 0)

def quiescent_DwG [hDwG : Cert.DwG.Facts] : Prop :=
  ∀ (m : (ℓ : Loc Cert.DwG.nD Cert.DwG.τ Cert.DwG.sig) → Buf (Elt Bits) ℓ) (g : Dev Cert.DwG.nD → PrngReg), Pre_DwG m →
    θ_run (Cert.DwG.defs (F := Bits)) (onTc (τ := Cert.DwG.τ) (Cert.DwG.main (F := Bits))) ⟨m, fun _ => 0, g⟩ (fun r => (∀ c : Dev Cert.DwG.nD,
      r.2.mem ((c.tc : Thread Cert.DwG.nD Cert.DwG.τ).loc Cert.DwG.main_arg0) = m ((c.tc : Thread Cert.DwG.nD Cert.DwG.τ).loc Cert.DwG.main_arg0)
      ∧ r.2.mem ((c.tc : Thread Cert.DwG.nD Cert.DwG.τ).loc Cert.DwG.main_arg1) = m ((c.tc : Thread Cert.DwG.nD Cert.DwG.τ).loc Cert.DwG.main_arg1))
      ∧ r.2.sem = fun _ => 0)

def quiescent_DwGIdeal [hDwGIdeal : Cert.DwGIdeal.Facts] : Prop :=
  ∀ (m : (ℓ : Loc Cert.DwGIdeal.nD Cert.DwGIdeal.τ Cert.DwGIdeal.sig) → Buf (Elt Ideal) ℓ) (g : Dev Cert.DwGIdeal.nD → PrngReg), Pre_DwGIdeal m →
    θ_run (Cert.DwGIdeal.defs (F := Ideal)) (onTc (τ := Cert.DwGIdeal.τ) (Cert.DwGIdeal.main (F := Ideal))) ⟨m, fun _ => 0, g⟩ (fun r => (∀ c : Dev Cert.DwGIdeal.nD,
      r.2.mem ((c.tc : Thread Cert.DwGIdeal.nD Cert.DwGIdeal.τ).loc Cert.DwGIdeal.main_arg0) = m ((c.tc : Thread Cert.DwGIdeal.nD Cert.DwGIdeal.τ).loc Cert.DwGIdeal.main_arg0)
      ∧ r.2.mem ((c.tc : Thread Cert.DwGIdeal.nD Cert.DwGIdeal.τ).loc Cert.DwGIdeal.main_arg1) = m ((c.tc : Thread Cert.DwGIdeal.nD Cert.DwGIdeal.τ).loc Cert.DwGIdeal.main_arg1))
      ∧ r.2.sem = fun _ => 0)

def quiescent_DwGRefIdeal [hDwGRefIdeal : Cert.DwGRefIdeal.Facts] : Prop :=
  ∀ (m : (ℓ : Loc Cert.DwGRefIdeal.nD Cert.DwGRefIdeal.τ Cert.DwGRefIdeal.sig) → Buf (Elt Ideal) ℓ) (g : Dev Cert.DwGRefIdeal.nD → PrngReg), Pre_DwGRefIdeal m →
    θ_run (Cert.DwGRefIdeal.defs (F := Ideal)) (onTc (τ := Cert.DwGRefIdeal.τ) (Cert.DwGRefIdeal.main (F := Ideal))) ⟨m, fun _ => 0, g⟩ (fun r => (∀ c : Dev Cert.DwGRefIdeal.nD,
      r.2.mem ((c.tc : Thread Cert.DwGRefIdeal.nD Cert.DwGRefIdeal.τ).loc Cert.DwGRefIdeal.main_arg0) = m ((c.tc : Thread Cert.DwGRefIdeal.nD Cert.DwGRefIdeal.τ).loc Cert.DwGRefIdeal.main_arg0)
      ∧ r.2.mem ((c.tc : Thread Cert.DwGRefIdeal.nD Cert.DwGRefIdeal.τ).loc Cert.DwGRefIdeal.main_arg1) = m ((c.tc : Thread Cert.DwGRefIdeal.nD Cert.DwGRefIdeal.τ).loc Cert.DwGRefIdeal.main_arg1))
      ∧ r.2.sem = fun _ => 0)

def quiescent_DwUp [hDwUp : Cert.DwUp.Facts] : Prop :=
  ∀ (m : (ℓ : Loc Cert.DwUp.nD Cert.DwUp.τ Cert.DwUp.sig) → Buf (Elt Bits) ℓ) (g : Dev Cert.DwUp.nD → PrngReg), Pre_DwUp m →
    θ_run (Cert.DwUp.defs (F := Bits)) (onTc (τ := Cert.DwUp.τ) (Cert.DwUp.main (F := Bits))) ⟨m, fun _ => 0, g⟩ (fun r => (∀ c : Dev Cert.DwUp.nD,
      r.2.mem ((c.tc : Thread Cert.DwUp.nD Cert.DwUp.τ).loc Cert.DwUp.main_arg0) = m ((c.tc : Thread Cert.DwUp.nD Cert.DwUp.τ).loc Cert.DwUp.main_arg0)
      ∧ r.2.mem ((c.tc : Thread Cert.DwUp.nD Cert.DwUp.τ).loc Cert.DwUp.main_arg1) = m ((c.tc : Thread Cert.DwUp.nD Cert.DwUp.τ).loc Cert.DwUp.main_arg1))
      ∧ r.2.sem = fun _ => 0)

def quiescent_DwUpIdeal [hDwUpIdeal : Cert.DwUpIdeal.Facts] : Prop :=
  ∀ (m : (ℓ : Loc Cert.DwUpIdeal.nD Cert.DwUpIdeal.τ Cert.DwUpIdeal.sig) → Buf (Elt Ideal) ℓ) (g : Dev Cert.DwUpIdeal.nD → PrngReg), Pre_DwUpIdeal m →
    θ_run (Cert.DwUpIdeal.defs (F := Ideal)) (onTc (τ := Cert.DwUpIdeal.τ) (Cert.DwUpIdeal.main (F := Ideal))) ⟨m, fun _ => 0, g⟩ (fun r => (∀ c : Dev Cert.DwUpIdeal.nD,
      r.2.mem ((c.tc : Thread Cert.DwUpIdeal.nD Cert.DwUpIdeal.τ).loc Cert.DwUpIdeal.main_arg0) = m ((c.tc : Thread Cert.DwUpIdeal.nD Cert.DwUpIdeal.τ).loc Cert.DwUpIdeal.main_arg0)
      ∧ r.2.mem ((c.tc : Thread Cert.DwUpIdeal.nD Cert.DwUpIdeal.τ).loc Cert.DwUpIdeal.main_arg1) = m ((c.tc : Thread Cert.DwUpIdeal.nD Cert.DwUpIdeal.τ).loc Cert.DwUpIdeal.main_arg1))
      ∧ r.2.sem = fun _ => 0)

def quiescent_DwUpRefIdeal [hDwUpRefIdeal : Cert.DwUpRefIdeal.Facts] : Prop :=
  ∀ (m : (ℓ : Loc Cert.DwUpRefIdeal.nD Cert.DwUpRefIdeal.τ Cert.DwUpRefIdeal.sig) → Buf (Elt Ideal) ℓ) (g : Dev Cert.DwUpRefIdeal.nD → PrngReg), Pre_DwUpRefIdeal m →
    θ_run (Cert.DwUpRefIdeal.defs (F := Ideal)) (onTc (τ := Cert.DwUpRefIdeal.τ) (Cert.DwUpRefIdeal.main (F := Ideal))) ⟨m, fun _ => 0, g⟩ (fun r => (∀ c : Dev Cert.DwUpRefIdeal.nD,
      r.2.mem ((c.tc : Thread Cert.DwUpRefIdeal.nD Cert.DwUpRefIdeal.τ).loc Cert.DwUpRefIdeal.main_arg0) = m ((c.tc : Thread Cert.DwUpRefIdeal.nD Cert.DwUpRefIdeal.τ).loc Cert.DwUpRefIdeal.main_arg0)
      ∧ r.2.mem ((c.tc : Thread Cert.DwUpRefIdeal.nD Cert.DwUpRefIdeal.τ).loc Cert.DwUpRefIdeal.main_arg1) = m ((c.tc : Thread Cert.DwUpRefIdeal.nD Cert.DwUpRefIdeal.τ).loc Cert.DwUpRefIdeal.main_arg1))
      ∧ r.2.sem = fun _ => 0)

def quiescent_DwGlu [hDwGlu : Cert.DwGlu.Facts] : Prop :=
  ∀ (m : (ℓ : Loc Cert.DwGlu.nD Cert.DwGlu.τ Cert.DwGlu.sig) → Buf (Elt Bits) ℓ) (g : Dev Cert.DwGlu.nD → PrngReg), Pre_DwGlu m →
    θ_run (Cert.DwGlu.defs (F := Bits)) (onTc (τ := Cert.DwGlu.τ) (Cert.DwGlu.main (F := Bits))) ⟨m, fun _ => 0, g⟩ (fun r => (∀ c : Dev Cert.DwGlu.nD,
      r.2.mem ((c.tc : Thread Cert.DwGlu.nD Cert.DwGlu.τ).loc Cert.DwGlu.main_arg0) = m ((c.tc : Thread Cert.DwGlu.nD Cert.DwGlu.τ).loc Cert.DwGlu.main_arg0)
      ∧ r.2.mem ((c.tc : Thread Cert.DwGlu.nD Cert.DwGlu.τ).loc Cert.DwGlu.main_arg1) = m ((c.tc : Thread Cert.DwGlu.nD Cert.DwGlu.τ).loc Cert.DwGlu.main_arg1))
      ∧ r.2.sem = fun _ => 0)

def quiescent_DwGluIdeal [hDwGluIdeal : Cert.DwGluIdeal.Facts] : Prop :=
  ∀ (m : (ℓ : Loc Cert.DwGluIdeal.nD Cert.DwGluIdeal.τ Cert.DwGluIdeal.sig) → Buf (Elt Ideal) ℓ) (g : Dev Cert.DwGluIdeal.nD → PrngReg), Pre_DwGluIdeal m →
    θ_run (Cert.DwGluIdeal.defs (F := Ideal)) (onTc (τ := Cert.DwGluIdeal.τ) (Cert.DwGluIdeal.main (F := Ideal))) ⟨m, fun _ => 0, g⟩ (fun r => (∀ c : Dev Cert.DwGluIdeal.nD,
      r.2.mem ((c.tc : Thread Cert.DwGluIdeal.nD Cert.DwGluIdeal.τ).loc Cert.DwGluIdeal.main_arg0) = m ((c.tc : Thread Cert.DwGluIdeal.nD Cert.DwGluIdeal.τ).loc Cert.DwGluIdeal.main_arg0)
      ∧ r.2.mem ((c.tc : Thread Cert.DwGluIdeal.nD Cert.DwGluIdeal.τ).loc Cert.DwGluIdeal.main_arg1) = m ((c.tc : Thread Cert.DwGluIdeal.nD Cert.DwGluIdeal.τ).loc Cert.DwGluIdeal.main_arg1))
      ∧ r.2.sem = fun _ => 0)

def quiescent_DwGluRefIdeal [hDwGluRefIdeal : Cert.DwGluRefIdeal.Facts] : Prop :=
  ∀ (m : (ℓ : Loc Cert.DwGluRefIdeal.nD Cert.DwGluRefIdeal.τ Cert.DwGluRefIdeal.sig) → Buf (Elt Ideal) ℓ) (g : Dev Cert.DwGluRefIdeal.nD → PrngReg), Pre_DwGluRefIdeal m →
    θ_run (Cert.DwGluRefIdeal.defs (F := Ideal)) (onTc (τ := Cert.DwGluRefIdeal.τ) (Cert.DwGluRefIdeal.main (F := Ideal))) ⟨m, fun _ => 0, g⟩ (fun r => (∀ c : Dev Cert.DwGluRefIdeal.nD,
      r.2.mem ((c.tc : Thread Cert.DwGluRefIdeal.nD Cert.DwGluRefIdeal.τ).loc Cert.DwGluRefIdeal.main_arg0) = m ((c.tc : Thread Cert.DwGluRefIdeal.nD Cert.DwGluRefIdeal.τ).loc Cert.DwGluRefIdeal.main_arg0)
      ∧ r.2.mem ((c.tc : Thread Cert.DwGluRefIdeal.nD Cert.DwGluRefIdeal.τ).loc Cert.DwGluRefIdeal.main_arg1) = m ((c.tc : Thread Cert.DwGluRefIdeal.nD Cert.DwGluRefIdeal.τ).loc Cert.DwGluRefIdeal.main_arg1))
      ∧ r.2.sem = fun _ => 0)

def quiescent_ProjBwd [hProjBwd : Cert.ProjBwd.Facts] : Prop :=
  ∀ (m : (ℓ : Loc Cert.ProjBwd.nD Cert.ProjBwd.τ Cert.ProjBwd.sig) → Buf (Elt Bits) ℓ) (g : Dev Cert.ProjBwd.nD → PrngReg), Pre_ProjBwd m →
    θ_run (Cert.ProjBwd.defs (F := Bits)) (onTc (τ := Cert.ProjBwd.τ) (Cert.ProjBwd.main (F := Bits))) ⟨m, fun _ => 0, g⟩ (fun r => (∀ c : Dev Cert.ProjBwd.nD,
      r.2.mem ((c.tc : Thread Cert.ProjBwd.nD Cert.ProjBwd.τ).loc Cert.ProjBwd.main_arg0) = m ((c.tc : Thread Cert.ProjBwd.nD Cert.ProjBwd.τ).loc Cert.ProjBwd.main_arg0)
      ∧ r.2.mem ((c.tc : Thread Cert.ProjBwd.nD Cert.ProjBwd.τ).loc Cert.ProjBwd.main_arg1) = m ((c.tc : Thread Cert.ProjBwd.nD Cert.ProjBwd.τ).loc Cert.ProjBwd.main_arg1)
      ∧ r.2.mem ((c.tc : Thread Cert.ProjBwd.nD Cert.ProjBwd.τ).loc Cert.ProjBwd.main_arg2) = m ((c.tc : Thread Cert.ProjBwd.nD Cert.ProjBwd.τ).loc Cert.ProjBwd.main_arg2)
      ∧ r.2.mem ((c.tc : Thread Cert.ProjBwd.nD Cert.ProjBwd.τ).loc Cert.ProjBwd.main_arg3) = m ((c.tc : Thread Cert.ProjBwd.nD Cert.ProjBwd.τ).loc Cert.ProjBwd.main_arg3)
      ∧ r.2.mem ((c.tc : Thread Cert.ProjBwd.nD Cert.ProjBwd.τ).loc Cert.ProjBwd.main_arg4) = m ((c.tc : Thread Cert.ProjBwd.nD Cert.ProjBwd.τ).loc Cert.ProjBwd.main_arg4)
      ∧ r.2.mem ((c.tc : Thread Cert.ProjBwd.nD Cert.ProjBwd.τ).loc Cert.ProjBwd.main_arg5) = m ((c.tc : Thread Cert.ProjBwd.nD Cert.ProjBwd.τ).loc Cert.ProjBwd.main_arg5)
      ∧ r.2.mem ((c.tc : Thread Cert.ProjBwd.nD Cert.ProjBwd.τ).loc Cert.ProjBwd.main_arg6) = m ((c.tc : Thread Cert.ProjBwd.nD Cert.ProjBwd.τ).loc Cert.ProjBwd.main_arg6)
      ∧ r.2.mem ((c.tc : Thread Cert.ProjBwd.nD Cert.ProjBwd.τ).loc Cert.ProjBwd.main_arg7) = m ((c.tc : Thread Cert.ProjBwd.nD Cert.ProjBwd.τ).loc Cert.ProjBwd.main_arg7)
      ∧ r.2.mem ((c.tc : Thread Cert.ProjBwd.nD Cert.ProjBwd.τ).loc Cert.ProjBwd.main_arg8) = m ((c.tc : Thread Cert.ProjBwd.nD Cert.ProjBwd.τ).loc Cert.ProjBwd.main_arg8)
      ∧ r.2.mem ((c.tc : Thread Cert.ProjBwd.nD Cert.ProjBwd.τ).loc Cert.ProjBwd.main_arg9) = m ((c.tc : Thread Cert.ProjBwd.nD Cert.ProjBwd.τ).loc Cert.ProjBwd.main_arg9)
      ∧ r.2.mem ((c.tc : Thread Cert.ProjBwd.nD Cert.ProjBwd.τ).loc Cert.ProjBwd.main_arg10) = m ((c.tc : Thread Cert.ProjBwd.nD Cert.ProjBwd.τ).loc Cert.ProjBwd.main_arg10)
      ∧ r.2.mem ((c.tc : Thread Cert.ProjBwd.nD Cert.ProjBwd.τ).loc Cert.ProjBwd.main_arg11) = m ((c.tc : Thread Cert.ProjBwd.nD Cert.ProjBwd.τ).loc Cert.ProjBwd.main_arg11)
      ∧ r.2.mem ((c.tc : Thread Cert.ProjBwd.nD Cert.ProjBwd.τ).loc Cert.ProjBwd.main_arg12) = m ((c.tc : Thread Cert.ProjBwd.nD Cert.ProjBwd.τ).loc Cert.ProjBwd.main_arg12)
      ∧ r.2.mem ((c.tc : Thread Cert.ProjBwd.nD Cert.ProjBwd.τ).loc Cert.ProjBwd.main_arg13) = m ((c.tc : Thread Cert.ProjBwd.nD Cert.ProjBwd.τ).loc Cert.ProjBwd.main_arg13)
      ∧ r.2.mem ((c.tc : Thread Cert.ProjBwd.nD Cert.ProjBwd.τ).loc Cert.ProjBwd.main_arg14) = m ((c.tc : Thread Cert.ProjBwd.nD Cert.ProjBwd.τ).loc Cert.ProjBwd.main_arg14))
      ∧ r.2.sem = fun _ => 0)

def quiescent_ProjBwdIdeal [hProjBwdIdeal : Cert.ProjBwdIdeal.Facts] : Prop :=
  ∀ (m : (ℓ : Loc Cert.ProjBwdIdeal.nD Cert.ProjBwdIdeal.τ Cert.ProjBwdIdeal.sig) → Buf (Elt Ideal) ℓ) (g : Dev Cert.ProjBwdIdeal.nD → PrngReg), Pre_ProjBwdIdeal m →
    θ_run (Cert.ProjBwdIdeal.defs (F := Ideal)) (onTc (τ := Cert.ProjBwdIdeal.τ) (Cert.ProjBwdIdeal.main (F := Ideal))) ⟨m, fun _ => 0, g⟩ (fun r => (∀ c : Dev Cert.ProjBwdIdeal.nD,
      r.2.mem ((c.tc : Thread Cert.ProjBwdIdeal.nD Cert.ProjBwdIdeal.τ).loc Cert.ProjBwdIdeal.main_arg0) = m ((c.tc : Thread Cert.ProjBwdIdeal.nD Cert.ProjBwdIdeal.τ).loc Cert.ProjBwdIdeal.main_arg0)
      ∧ r.2.mem ((c.tc : Thread Cert.ProjBwdIdeal.nD Cert.ProjBwdIdeal.τ).loc Cert.ProjBwdIdeal.main_arg1) = m ((c.tc : Thread Cert.ProjBwdIdeal.nD Cert.ProjBwdIdeal.τ).loc Cert.ProjBwdIdeal.main_arg1)
      ∧ r.2.mem ((c.tc : Thread Cert.ProjBwdIdeal.nD Cert.ProjBwdIdeal.τ).loc Cert.ProjBwdIdeal.main_arg2) = m ((c.tc : Thread Cert.ProjBwdIdeal.nD Cert.ProjBwdIdeal.τ).loc Cert.ProjBwdIdeal.main_arg2)
      ∧ r.2.mem ((c.tc : Thread Cert.ProjBwdIdeal.nD Cert.ProjBwdIdeal.τ).loc Cert.ProjBwdIdeal.main_arg3) = m ((c.tc : Thread Cert.ProjBwdIdeal.nD Cert.ProjBwdIdeal.τ).loc Cert.ProjBwdIdeal.main_arg3)
      ∧ r.2.mem ((c.tc : Thread Cert.ProjBwdIdeal.nD Cert.ProjBwdIdeal.τ).loc Cert.ProjBwdIdeal.main_arg4) = m ((c.tc : Thread Cert.ProjBwdIdeal.nD Cert.ProjBwdIdeal.τ).loc Cert.ProjBwdIdeal.main_arg4)
      ∧ r.2.mem ((c.tc : Thread Cert.ProjBwdIdeal.nD Cert.ProjBwdIdeal.τ).loc Cert.ProjBwdIdeal.main_arg5) = m ((c.tc : Thread Cert.ProjBwdIdeal.nD Cert.ProjBwdIdeal.τ).loc Cert.ProjBwdIdeal.main_arg5)
      ∧ r.2.mem ((c.tc : Thread Cert.ProjBwdIdeal.nD Cert.ProjBwdIdeal.τ).loc Cert.ProjBwdIdeal.main_arg6) = m ((c.tc : Thread Cert.ProjBwdIdeal.nD Cert.ProjBwdIdeal.τ).loc Cert.ProjBwdIdeal.main_arg6)
      ∧ r.2.mem ((c.tc : Thread Cert.ProjBwdIdeal.nD Cert.ProjBwdIdeal.τ).loc Cert.ProjBwdIdeal.main_arg7) = m ((c.tc : Thread Cert.ProjBwdIdeal.nD Cert.ProjBwdIdeal.τ).loc Cert.ProjBwdIdeal.main_arg7)
      ∧ r.2.mem ((c.tc : Thread Cert.ProjBwdIdeal.nD Cert.ProjBwdIdeal.τ).loc Cert.ProjBwdIdeal.main_arg8) = m ((c.tc : Thread Cert.ProjBwdIdeal.nD Cert.ProjBwdIdeal.τ).loc Cert.ProjBwdIdeal.main_arg8)
      ∧ r.2.mem ((c.tc : Thread Cert.ProjBwdIdeal.nD Cert.ProjBwdIdeal.τ).loc Cert.ProjBwdIdeal.main_arg9) = m ((c.tc : Thread Cert.ProjBwdIdeal.nD Cert.ProjBwdIdeal.τ).loc Cert.ProjBwdIdeal.main_arg9)
      ∧ r.2.mem ((c.tc : Thread Cert.ProjBwdIdeal.nD Cert.ProjBwdIdeal.τ).loc Cert.ProjBwdIdeal.main_arg10) = m ((c.tc : Thread Cert.ProjBwdIdeal.nD Cert.ProjBwdIdeal.τ).loc Cert.ProjBwdIdeal.main_arg10)
      ∧ r.2.mem ((c.tc : Thread Cert.ProjBwdIdeal.nD Cert.ProjBwdIdeal.τ).loc Cert.ProjBwdIdeal.main_arg11) = m ((c.tc : Thread Cert.ProjBwdIdeal.nD Cert.ProjBwdIdeal.τ).loc Cert.ProjBwdIdeal.main_arg11)
      ∧ r.2.mem ((c.tc : Thread Cert.ProjBwdIdeal.nD Cert.ProjBwdIdeal.τ).loc Cert.ProjBwdIdeal.main_arg12) = m ((c.tc : Thread Cert.ProjBwdIdeal.nD Cert.ProjBwdIdeal.τ).loc Cert.ProjBwdIdeal.main_arg12)
      ∧ r.2.mem ((c.tc : Thread Cert.ProjBwdIdeal.nD Cert.ProjBwdIdeal.τ).loc Cert.ProjBwdIdeal.main_arg13) = m ((c.tc : Thread Cert.ProjBwdIdeal.nD Cert.ProjBwdIdeal.τ).loc Cert.ProjBwdIdeal.main_arg13)
      ∧ r.2.mem ((c.tc : Thread Cert.ProjBwdIdeal.nD Cert.ProjBwdIdeal.τ).loc Cert.ProjBwdIdeal.main_arg14) = m ((c.tc : Thread Cert.ProjBwdIdeal.nD Cert.ProjBwdIdeal.τ).loc Cert.ProjBwdIdeal.main_arg14))
      ∧ r.2.sem = fun _ => 0)

def quiescent_ProjBwdIdeal_pre_real [hProjBwdIdeal : Cert.ProjBwdIdeal.Facts] [hPre_real : Cert.Pre_real.Facts] : Prop :=
  ∀ (m : (ℓ : Loc Cert.ProjBwdIdeal.nD Cert.ProjBwdIdeal.τ Cert.ProjBwdIdeal.sig) → Buf (Elt Ideal) ℓ) (g : Dev Cert.ProjBwdIdeal.nD → PrngReg), Pre_ProjBwdIdeal_real m →
    θ_run (Cert.ProjBwdIdeal.defs (F := Ideal)) (onTc (τ := Cert.ProjBwdIdeal.τ) (Cert.ProjBwdIdeal.main (F := Ideal))) ⟨m, fun _ => 0, g⟩ (fun r => (∀ c : Dev Cert.ProjBwdIdeal.nD,
      r.2.mem ((c.tc : Thread Cert.ProjBwdIdeal.nD Cert.ProjBwdIdeal.τ).loc Cert.ProjBwdIdeal.main_arg0) = m ((c.tc : Thread Cert.ProjBwdIdeal.nD Cert.ProjBwdIdeal.τ).loc Cert.ProjBwdIdeal.main_arg0)
      ∧ r.2.mem ((c.tc : Thread Cert.ProjBwdIdeal.nD Cert.ProjBwdIdeal.τ).loc Cert.ProjBwdIdeal.main_arg1) = m ((c.tc : Thread Cert.ProjBwdIdeal.nD Cert.ProjBwdIdeal.τ).loc Cert.ProjBwdIdeal.main_arg1)
      ∧ r.2.mem ((c.tc : Thread Cert.ProjBwdIdeal.nD Cert.ProjBwdIdeal.τ).loc Cert.ProjBwdIdeal.main_arg2) = m ((c.tc : Thread Cert.ProjBwdIdeal.nD Cert.ProjBwdIdeal.τ).loc Cert.ProjBwdIdeal.main_arg2)
      ∧ r.2.mem ((c.tc : Thread Cert.ProjBwdIdeal.nD Cert.ProjBwdIdeal.τ).loc Cert.ProjBwdIdeal.main_arg3) = m ((c.tc : Thread Cert.ProjBwdIdeal.nD Cert.ProjBwdIdeal.τ).loc Cert.ProjBwdIdeal.main_arg3)
      ∧ r.2.mem ((c.tc : Thread Cert.ProjBwdIdeal.nD Cert.ProjBwdIdeal.τ).loc Cert.ProjBwdIdeal.main_arg4) = m ((c.tc : Thread Cert.ProjBwdIdeal.nD Cert.ProjBwdIdeal.τ).loc Cert.ProjBwdIdeal.main_arg4)
      ∧ r.2.mem ((c.tc : Thread Cert.ProjBwdIdeal.nD Cert.ProjBwdIdeal.τ).loc Cert.ProjBwdIdeal.main_arg5) = m ((c.tc : Thread Cert.ProjBwdIdeal.nD Cert.ProjBwdIdeal.τ).loc Cert.ProjBwdIdeal.main_arg5)
      ∧ r.2.mem ((c.tc : Thread Cert.ProjBwdIdeal.nD Cert.ProjBwdIdeal.τ).loc Cert.ProjBwdIdeal.main_arg6) = m ((c.tc : Thread Cert.ProjBwdIdeal.nD Cert.ProjBwdIdeal.τ).loc Cert.ProjBwdIdeal.main_arg6)
      ∧ r.2.mem ((c.tc : Thread Cert.ProjBwdIdeal.nD Cert.ProjBwdIdeal.τ).loc Cert.ProjBwdIdeal.main_arg7) = m ((c.tc : Thread Cert.ProjBwdIdeal.nD Cert.ProjBwdIdeal.τ).loc Cert.ProjBwdIdeal.main_arg7)
      ∧ r.2.mem ((c.tc : Thread Cert.ProjBwdIdeal.nD Cert.ProjBwdIdeal.τ).loc Cert.ProjBwdIdeal.main_arg8) = m ((c.tc : Thread Cert.ProjBwdIdeal.nD Cert.ProjBwdIdeal.τ).loc Cert.ProjBwdIdeal.main_arg8)
      ∧ r.2.mem ((c.tc : Thread Cert.ProjBwdIdeal.nD Cert.ProjBwdIdeal.τ).loc Cert.ProjBwdIdeal.main_arg9) = m ((c.tc : Thread Cert.ProjBwdIdeal.nD Cert.ProjBwdIdeal.τ).loc Cert.ProjBwdIdeal.main_arg9)
      ∧ r.2.mem ((c.tc : Thread Cert.ProjBwdIdeal.nD Cert.ProjBwdIdeal.τ).loc Cert.ProjBwdIdeal.main_arg10) = m ((c.tc : Thread Cert.ProjBwdIdeal.nD Cert.ProjBwdIdeal.τ).loc Cert.ProjBwdIdeal.main_arg10)
      ∧ r.2.mem ((c.tc : Thread Cert.ProjBwdIdeal.nD Cert.ProjBwdIdeal.τ).loc Cert.ProjBwdIdeal.main_arg11) = m ((c.tc : Thread Cert.ProjBwdIdeal.nD Cert.ProjBwdIdeal.τ).loc Cert.ProjBwdIdeal.main_arg11)
      ∧ r.2.mem ((c.tc : Thread Cert.ProjBwdIdeal.nD Cert.ProjBwdIdeal.τ).loc Cert.ProjBwdIdeal.main_arg12) = m ((c.tc : Thread Cert.ProjBwdIdeal.nD Cert.ProjBwdIdeal.τ).loc Cert.ProjBwdIdeal.main_arg12)
      ∧ r.2.mem ((c.tc : Thread Cert.ProjBwdIdeal.nD Cert.ProjBwdIdeal.τ).loc Cert.ProjBwdIdeal.main_arg13) = m ((c.tc : Thread Cert.ProjBwdIdeal.nD Cert.ProjBwdIdeal.τ).loc Cert.ProjBwdIdeal.main_arg13)
      ∧ r.2.mem ((c.tc : Thread Cert.ProjBwdIdeal.nD Cert.ProjBwdIdeal.τ).loc Cert.ProjBwdIdeal.main_arg14) = m ((c.tc : Thread Cert.ProjBwdIdeal.nD Cert.ProjBwdIdeal.τ).loc Cert.ProjBwdIdeal.main_arg14))
      ∧ r.2.sem = fun _ => 0)

def quiescent_ProjBwdRefIdeal [hProjBwdRefIdeal : Cert.ProjBwdRefIdeal.Facts] : Prop :=
  ∀ (m : (ℓ : Loc Cert.ProjBwdRefIdeal.nD Cert.ProjBwdRefIdeal.τ Cert.ProjBwdRefIdeal.sig) → Buf (Elt Ideal) ℓ) (g : Dev Cert.ProjBwdRefIdeal.nD → PrngReg), Pre_ProjBwdRefIdeal m →
    θ_run (Cert.ProjBwdRefIdeal.defs (F := Ideal)) (onTc (τ := Cert.ProjBwdRefIdeal.τ) (Cert.ProjBwdRefIdeal.main (F := Ideal))) ⟨m, fun _ => 0, g⟩ (fun r => (∀ c : Dev Cert.ProjBwdRefIdeal.nD,
      r.2.mem ((c.tc : Thread Cert.ProjBwdRefIdeal.nD Cert.ProjBwdRefIdeal.τ).loc Cert.ProjBwdRefIdeal.main_arg0) = m ((c.tc : Thread Cert.ProjBwdRefIdeal.nD Cert.ProjBwdRefIdeal.τ).loc Cert.ProjBwdRefIdeal.main_arg0)
      ∧ r.2.mem ((c.tc : Thread Cert.ProjBwdRefIdeal.nD Cert.ProjBwdRefIdeal.τ).loc Cert.ProjBwdRefIdeal.main_arg1) = m ((c.tc : Thread Cert.ProjBwdRefIdeal.nD Cert.ProjBwdRefIdeal.τ).loc Cert.ProjBwdRefIdeal.main_arg1)
      ∧ r.2.mem ((c.tc : Thread Cert.ProjBwdRefIdeal.nD Cert.ProjBwdRefIdeal.τ).loc Cert.ProjBwdRefIdeal.main_arg2) = m ((c.tc : Thread Cert.ProjBwdRefIdeal.nD Cert.ProjBwdRefIdeal.τ).loc Cert.ProjBwdRefIdeal.main_arg2)
      ∧ r.2.mem ((c.tc : Thread Cert.ProjBwdRefIdeal.nD Cert.ProjBwdRefIdeal.τ).loc Cert.ProjBwdRefIdeal.main_arg3) = m ((c.tc : Thread Cert.ProjBwdRefIdeal.nD Cert.ProjBwdRefIdeal.τ).loc Cert.ProjBwdRefIdeal.main_arg3)
      ∧ r.2.mem ((c.tc : Thread Cert.ProjBwdRefIdeal.nD Cert.ProjBwdRefIdeal.τ).loc Cert.ProjBwdRefIdeal.main_arg4) = m ((c.tc : Thread Cert.ProjBwdRefIdeal.nD Cert.ProjBwdRefIdeal.τ).loc Cert.ProjBwdRefIdeal.main_arg4)
      ∧ r.2.mem ((c.tc : Thread Cert.ProjBwdRefIdeal.nD Cert.ProjBwdRefIdeal.τ).loc Cert.ProjBwdRefIdeal.main_arg5) = m ((c.tc : Thread Cert.ProjBwdRefIdeal.nD Cert.ProjBwdRefIdeal.τ).loc Cert.ProjBwdRefIdeal.main_arg5)
      ∧ r.2.mem ((c.tc : Thread Cert.ProjBwdRefIdeal.nD Cert.ProjBwdRefIdeal.τ).loc Cert.ProjBwdRefIdeal.main_arg6) = m ((c.tc : Thread Cert.ProjBwdRefIdeal.nD Cert.ProjBwdRefIdeal.τ).loc Cert.ProjBwdRefIdeal.main_arg6)
      ∧ r.2.mem ((c.tc : Thread Cert.ProjBwdRefIdeal.nD Cert.ProjBwdRefIdeal.τ).loc Cert.ProjBwdRefIdeal.main_arg7) = m ((c.tc : Thread Cert.ProjBwdRefIdeal.nD Cert.ProjBwdRefIdeal.τ).loc Cert.ProjBwdRefIdeal.main_arg7)
      ∧ r.2.mem ((c.tc : Thread Cert.ProjBwdRefIdeal.nD Cert.ProjBwdRefIdeal.τ).loc Cert.ProjBwdRefIdeal.main_arg8) = m ((c.tc : Thread Cert.ProjBwdRefIdeal.nD Cert.ProjBwdRefIdeal.τ).loc Cert.ProjBwdRefIdeal.main_arg8)
      ∧ r.2.mem ((c.tc : Thread Cert.ProjBwdRefIdeal.nD Cert.ProjBwdRefIdeal.τ).loc Cert.ProjBwdRefIdeal.main_arg9) = m ((c.tc : Thread Cert.ProjBwdRefIdeal.nD Cert.ProjBwdRefIdeal.τ).loc Cert.ProjBwdRefIdeal.main_arg9)
      ∧ r.2.mem ((c.tc : Thread Cert.ProjBwdRefIdeal.nD Cert.ProjBwdRefIdeal.τ).loc Cert.ProjBwdRefIdeal.main_arg10) = m ((c.tc : Thread Cert.ProjBwdRefIdeal.nD Cert.ProjBwdRefIdeal.τ).loc Cert.ProjBwdRefIdeal.main_arg10)
      ∧ r.2.mem ((c.tc : Thread Cert.ProjBwdRefIdeal.nD Cert.ProjBwdRefIdeal.τ).loc Cert.ProjBwdRefIdeal.main_arg11) = m ((c.tc : Thread Cert.ProjBwdRefIdeal.nD Cert.ProjBwdRefIdeal.τ).loc Cert.ProjBwdRefIdeal.main_arg11)
      ∧ r.2.mem ((c.tc : Thread Cert.ProjBwdRefIdeal.nD Cert.ProjBwdRefIdeal.τ).loc Cert.ProjBwdRefIdeal.main_arg12) = m ((c.tc : Thread Cert.ProjBwdRefIdeal.nD Cert.ProjBwdRefIdeal.τ).loc Cert.ProjBwdRefIdeal.main_arg12)
      ∧ r.2.mem ((c.tc : Thread Cert.ProjBwdRefIdeal.nD Cert.ProjBwdRefIdeal.τ).loc Cert.ProjBwdRefIdeal.main_arg13) = m ((c.tc : Thread Cert.ProjBwdRefIdeal.nD Cert.ProjBwdRefIdeal.τ).loc Cert.ProjBwdRefIdeal.main_arg13)
      ∧ r.2.mem ((c.tc : Thread Cert.ProjBwdRefIdeal.nD Cert.ProjBwdRefIdeal.τ).loc Cert.ProjBwdRefIdeal.main_arg14) = m ((c.tc : Thread Cert.ProjBwdRefIdeal.nD Cert.ProjBwdRefIdeal.τ).loc Cert.ProjBwdRefIdeal.main_arg14))
      ∧ r.2.sem = fun _ => 0)

def quiescent_ProjBwdRefIdeal_pre_real [hProjBwdRefIdeal : Cert.ProjBwdRefIdeal.Facts] [hPre_real : Cert.Pre_real.Facts] : Prop :=
  ∀ (m : (ℓ : Loc Cert.ProjBwdRefIdeal.nD Cert.ProjBwdRefIdeal.τ Cert.ProjBwdRefIdeal.sig) → Buf (Elt Ideal) ℓ) (g : Dev Cert.ProjBwdRefIdeal.nD → PrngReg), Pre_ProjBwdRefIdeal_real m →
    θ_run (Cert.ProjBwdRefIdeal.defs (F := Ideal)) (onTc (τ := Cert.ProjBwdRefIdeal.τ) (Cert.ProjBwdRefIdeal.main (F := Ideal))) ⟨m, fun _ => 0, g⟩ (fun r => (∀ c : Dev Cert.ProjBwdRefIdeal.nD,
      r.2.mem ((c.tc : Thread Cert.ProjBwdRefIdeal.nD Cert.ProjBwdRefIdeal.τ).loc Cert.ProjBwdRefIdeal.main_arg0) = m ((c.tc : Thread Cert.ProjBwdRefIdeal.nD Cert.ProjBwdRefIdeal.τ).loc Cert.ProjBwdRefIdeal.main_arg0)
      ∧ r.2.mem ((c.tc : Thread Cert.ProjBwdRefIdeal.nD Cert.ProjBwdRefIdeal.τ).loc Cert.ProjBwdRefIdeal.main_arg1) = m ((c.tc : Thread Cert.ProjBwdRefIdeal.nD Cert.ProjBwdRefIdeal.τ).loc Cert.ProjBwdRefIdeal.main_arg1)
      ∧ r.2.mem ((c.tc : Thread Cert.ProjBwdRefIdeal.nD Cert.ProjBwdRefIdeal.τ).loc Cert.ProjBwdRefIdeal.main_arg2) = m ((c.tc : Thread Cert.ProjBwdRefIdeal.nD Cert.ProjBwdRefIdeal.τ).loc Cert.ProjBwdRefIdeal.main_arg2)
      ∧ r.2.mem ((c.tc : Thread Cert.ProjBwdRefIdeal.nD Cert.ProjBwdRefIdeal.τ).loc Cert.ProjBwdRefIdeal.main_arg3) = m ((c.tc : Thread Cert.ProjBwdRefIdeal.nD Cert.ProjBwdRefIdeal.τ).loc Cert.ProjBwdRefIdeal.main_arg3)
      ∧ r.2.mem ((c.tc : Thread Cert.ProjBwdRefIdeal.nD Cert.ProjBwdRefIdeal.τ).loc Cert.ProjBwdRefIdeal.main_arg4) = m ((c.tc : Thread Cert.ProjBwdRefIdeal.nD Cert.ProjBwdRefIdeal.τ).loc Cert.ProjBwdRefIdeal.main_arg4)
      ∧ r.2.mem ((c.tc : Thread Cert.ProjBwdRefIdeal.nD Cert.ProjBwdRefIdeal.τ).loc Cert.ProjBwdRefIdeal.main_arg5) = m ((c.tc : Thread Cert.ProjBwdRefIdeal.nD Cert.ProjBwdRefIdeal.τ).loc Cert.ProjBwdRefIdeal.main_arg5)
      ∧ r.2.mem ((c.tc : Thread Cert.ProjBwdRefIdeal.nD Cert.ProjBwdRefIdeal.τ).loc Cert.ProjBwdRefIdeal.main_arg6) = m ((c.tc : Thread Cert.ProjBwdRefIdeal.nD Cert.ProjBwdRefIdeal.τ).loc Cert.ProjBwdRefIdeal.main_arg6)
      ∧ r.2.mem ((c.tc : Thread Cert.ProjBwdRefIdeal.nD Cert.ProjBwdRefIdeal.τ).loc Cert.ProjBwdRefIdeal.main_arg7) = m ((c.tc : Thread Cert.ProjBwdRefIdeal.nD Cert.ProjBwdRefIdeal.τ).loc Cert.ProjBwdRefIdeal.main_arg7)
      ∧ r.2.mem ((c.tc : Thread Cert.ProjBwdRefIdeal.nD Cert.ProjBwdRefIdeal.τ).loc Cert.ProjBwdRefIdeal.main_arg8) = m ((c.tc : Thread Cert.ProjBwdRefIdeal.nD Cert.ProjBwdRefIdeal.τ).loc Cert.ProjBwdRefIdeal.main_arg8)
      ∧ r.2.mem ((c.tc : Thread Cert.ProjBwdRefIdeal.nD Cert.ProjBwdRefIdeal.τ).loc Cert.ProjBwdRefIdeal.main_arg9) = m ((c.tc : Thread Cert.ProjBwdRefIdeal.nD Cert.ProjBwdRefIdeal.τ).loc Cert.ProjBwdRefIdeal.main_arg9)
      ∧ r.2.mem ((c.tc : Thread Cert.ProjBwdRefIdeal.nD Cert.ProjBwdRefIdeal.τ).loc Cert.ProjBwdRefIdeal.main_arg10) = m ((c.tc : Thread Cert.ProjBwdRefIdeal.nD Cert.ProjBwdRefIdeal.τ).loc Cert.ProjBwdRefIdeal.main_arg10)
      ∧ r.2.mem ((c.tc : Thread Cert.ProjBwdRefIdeal.nD Cert.ProjBwdRefIdeal.τ).loc Cert.ProjBwdRefIdeal.main_arg11) = m ((c.tc : Thread Cert.ProjBwdRefIdeal.nD Cert.ProjBwdRefIdeal.τ).loc Cert.ProjBwdRefIdeal.main_arg11)
      ∧ r.2.mem ((c.tc : Thread Cert.ProjBwdRefIdeal.nD Cert.ProjBwdRefIdeal.τ).loc Cert.ProjBwdRefIdeal.main_arg12) = m ((c.tc : Thread Cert.ProjBwdRefIdeal.nD Cert.ProjBwdRefIdeal.τ).loc Cert.ProjBwdRefIdeal.main_arg12)
      ∧ r.2.mem ((c.tc : Thread Cert.ProjBwdRefIdeal.nD Cert.ProjBwdRefIdeal.τ).loc Cert.ProjBwdRefIdeal.main_arg13) = m ((c.tc : Thread Cert.ProjBwdRefIdeal.nD Cert.ProjBwdRefIdeal.τ).loc Cert.ProjBwdRefIdeal.main_arg13)
      ∧ r.2.mem ((c.tc : Thread Cert.ProjBwdRefIdeal.nD Cert.ProjBwdRefIdeal.τ).loc Cert.ProjBwdRefIdeal.main_arg14) = m ((c.tc : Thread Cert.ProjBwdRefIdeal.nD Cert.ProjBwdRefIdeal.τ).loc Cert.ProjBwdRefIdeal.main_arg14))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ r.2.sem = fun _ => 0)

def quiescent_AdamInRefIdeal [hAdamInRefIdeal : Cert.AdamInRefIdeal.Facts] : Prop :=
  ∀ (m : (ℓ : Loc Cert.AdamInRefIdeal.nD Cert.AdamInRefIdeal.τ Cert.AdamInRefIdeal.sig) → Buf (Elt Ideal) ℓ) (g : Dev Cert.AdamInRefIdeal.nD → PrngReg), Pre_AdamInRefIdeal m →
    θ_run (Cert.AdamInRefIdeal.defs (F := Ideal)) (onTc (τ := Cert.AdamInRefIdeal.τ) (Cert.AdamInRefIdeal.main (F := Ideal))) ⟨m, fun _ => 0, g⟩ (fun r => (∀ c : Dev Cert.AdamInRefIdeal.nD,
      r.2.mem ((c.tc : Thread Cert.AdamInRefIdeal.nD Cert.AdamInRefIdeal.τ).loc Cert.AdamInRefIdeal.main_arg0) = m ((c.tc : Thread Cert.AdamInRefIdeal.nD Cert.AdamInRefIdeal.τ).loc Cert.AdamInRefIdeal.main_arg0)
      ∧ r.2.mem ((c.tc : Thread Cert.AdamInRefIdeal.nD Cert.AdamInRefIdeal.τ).loc Cert.AdamInRefIdeal.main_arg1) = m ((c.tc : Thread Cert.AdamInRefIdeal.nD Cert.AdamInRefIdeal.τ).loc Cert.AdamInRefIdeal.main_arg1)
      ∧ r.2.mem ((c.tc : Thread Cert.AdamInRefIdeal.nD Cert.AdamInRefIdeal.τ).loc Cert.AdamInRefIdeal.main_arg2) = m ((c.tc : Thread Cert.AdamInRefIdeal.nD Cert.AdamInRefIdeal.τ).loc Cert.AdamInRefIdeal.main_arg2)
      ∧ r.2.mem ((c.tc : Thread Cert.AdamInRefIdeal.nD Cert.AdamInRefIdeal.τ).loc Cert.AdamInRefIdeal.main_arg3) = m ((c.tc : Thread Cert.AdamInRefIdeal.nD Cert.AdamInRefIdeal.τ).loc Cert.AdamInRefIdeal.main_arg3))
      ∧ r.2.sem = fun _ => 0)

def quiescent_AdamGlu [hAdamGlu : Cert.AdamGlu.Facts] : Prop :=
  ∀ (m : (ℓ : Loc Cert.AdamGlu.nD Cert.AdamGlu.τ Cert.AdamGlu.sig) → Buf (Elt Bits) ℓ) (g : Dev Cert.AdamGlu.nD → PrngReg), Pre_AdamGlu m →
    θ_run (Cert.AdamGlu.defs (F := Bits)) (onTc (τ := Cert.AdamGlu.τ) (Cert.AdamGlu.main (F := Bits))) ⟨m, fun _ => 0, g⟩ (fun r => (∀ c : Dev Cert.AdamGlu.nD,
      r.2.mem ((c.tc : Thread Cert.AdamGlu.nD Cert.AdamGlu.τ).loc Cert.AdamGlu.main_arg0) = m ((c.tc : Thread Cert.AdamGlu.nD Cert.AdamGlu.τ).loc Cert.AdamGlu.main_arg0)
      ∧ r.2.mem ((c.tc : Thread Cert.AdamGlu.nD Cert.AdamGlu.τ).loc Cert.AdamGlu.main_arg1) = m ((c.tc : Thread Cert.AdamGlu.nD Cert.AdamGlu.τ).loc Cert.AdamGlu.main_arg1)
      ∧ r.2.mem ((c.tc : Thread Cert.AdamGlu.nD Cert.AdamGlu.τ).loc Cert.AdamGlu.main_arg2) = m ((c.tc : Thread Cert.AdamGlu.nD Cert.AdamGlu.τ).loc Cert.AdamGlu.main_arg2)
      ∧ r.2.mem ((c.tc : Thread Cert.AdamGlu.nD Cert.AdamGlu.τ).loc Cert.AdamGlu.main_arg3) = m ((c.tc : Thread Cert.AdamGlu.nD Cert.AdamGlu.τ).loc Cert.AdamGlu.main_arg3))
      ∧ r.2.sem = fun _ => 0)

def quiescent_AdamGluIdeal [hAdamGluIdeal : Cert.AdamGluIdeal.Facts] : Prop :=
  ∀ (m : (ℓ : Loc Cert.AdamGluIdeal.nD Cert.AdamGluIdeal.τ Cert.AdamGluIdeal.sig) → Buf (Elt Ideal) ℓ) (g : Dev Cert.AdamGluIdeal.nD → PrngReg), Pre_AdamGluIdeal m →
    θ_run (Cert.AdamGluIdeal.defs (F := Ideal)) (onTc (τ := Cert.AdamGluIdeal.τ) (Cert.AdamGluIdeal.main (F := Ideal))) ⟨m, fun _ => 0, g⟩ (fun r => (∀ c : Dev Cert.AdamGluIdeal.nD,
      r.2.mem ((c.tc : Thread Cert.AdamGluIdeal.nD Cert.AdamGluIdeal.τ).loc Cert.AdamGluIdeal.main_arg0) = m ((c.tc : Thread Cert.AdamGluIdeal.nD Cert.AdamGluIdeal.τ).loc Cert.AdamGluIdeal.main_arg0)
      ∧ r.2.mem ((c.tc : Thread Cert.AdamGluIdeal.nD Cert.AdamGluIdeal.τ).loc Cert.AdamGluIdeal.main_arg1) = m ((c.tc : Thread Cert.AdamGluIdeal.nD Cert.AdamGluIdeal.τ).loc Cert.AdamGluIdeal.main_arg1)
      ∧ r.2.mem ((c.tc : Thread Cert.AdamGluIdeal.nD Cert.AdamGluIdeal.τ).loc Cert.AdamGluIdeal.main_arg2) = m ((c.tc : Thread Cert.AdamGluIdeal.nD Cert.AdamGluIdeal.τ).loc Cert.AdamGluIdeal.main_arg2)
      ∧ r.2.mem ((c.tc : Thread Cert.AdamGluIdeal.nD Cert.AdamGluIdeal.τ).loc Cert.AdamGluIdeal.main_arg3) = m ((c.tc : Thread Cert.AdamGluIdeal.nD Cert.AdamGluIdeal.τ).loc Cert.AdamGluIdeal.main_arg3))
      ∧ r.2.sem = fun _ => 0)

def quiescent_AdamGluRefIdeal [hAdamGluRefIdeal : Cert.AdamGluRefIdeal.Facts] : Prop :=
  ∀ (m : (ℓ : Loc Cert.AdamGluRefIdeal.nD Cert.AdamGluRefIdeal.τ Cert.AdamGluRefIdeal.sig) → Buf (Elt Ideal) ℓ) (g : Dev Cert.AdamGluRefIdeal.nD → PrngReg), Pre_AdamGluRefIdeal m →
    θ_run (Cert.AdamGluRefIdeal.defs (F := Ideal)) (onTc (τ := Cert.AdamGluRefIdeal.τ) (Cert.AdamGluRefIdeal.main (F := Ideal))) ⟨m, fun _ => 0, g⟩ (fun r => (∀ c : Dev Cert.AdamGluRefIdeal.nD,
      r.2.mem ((c.tc : Thread Cert.AdamGluRefIdeal.nD Cert.AdamGluRefIdeal.τ).loc Cert.AdamGluRefIdeal.main_arg0) = m ((c.tc : Thread Cert.AdamGluRefIdeal.nD Cert.AdamGluRefIdeal.τ).loc Cert.AdamGluRefIdeal.main_arg0)
      ∧ r.2.mem ((c.tc : Thread Cert.AdamGluRefIdeal.nD Cert.AdamGluRefIdeal.τ).loc Cert.AdamGluRefIdeal.main_arg1) = m ((c.tc : Thread Cert.AdamGluRefIdeal.nD Cert.AdamGluRefIdeal.τ).loc Cert.AdamGluRefIdeal.main_arg1)
      ∧ r.2.mem ((c.tc : Thread Cert.AdamGluRefIdeal.nD Cert.AdamGluRefIdeal.τ).loc Cert.AdamGluRefIdeal.main_arg2) = m ((c.tc : Thread Cert.AdamGluRefIdeal.nD Cert.AdamGluRefIdeal.τ).loc Cert.AdamGluRefIdeal.main_arg2)
      ∧ r.2.mem ((c.tc : Thread Cert.AdamGluRefIdeal.nD Cert.AdamGluRefIdeal.τ).loc Cert.AdamGluRefIdeal.main_arg3) = m ((c.tc : Thread Cert.AdamGluRefIdeal.nD Cert.AdamGluRefIdeal.τ).loc Cert.AdamGluRefIdeal.main_arg3))
      ∧ r.2.sem = fun _ => 0)

def quiescent_AdamUp [hAdamUp : Cert.AdamUp.Facts] : Prop :=
  ∀ (m : (ℓ : Loc Cert.AdamUp.nD Cert.AdamUp.τ Cert.AdamUp.sig) → Buf (Elt Bits) ℓ) (g : Dev Cert.AdamUp.nD → PrngReg), Pre_AdamUp m →
    θ_run (Cert.AdamUp.defs (F := Bits)) (onTc (τ := Cert.AdamUp.τ) (Cert.AdamUp.main (F := Bits))) ⟨m, fun _ => 0, g⟩ (fun r => (∀ c : Dev Cert.AdamUp.nD,
      r.2.mem ((c.tc : Thread Cert.AdamUp.nD Cert.AdamUp.τ).loc Cert.AdamUp.main_arg0) = m ((c.tc : Thread Cert.AdamUp.nD Cert.AdamUp.τ).loc Cert.AdamUp.main_arg0)
      ∧ r.2.mem ((c.tc : Thread Cert.AdamUp.nD Cert.AdamUp.τ).loc Cert.AdamUp.main_arg1) = m ((c.tc : Thread Cert.AdamUp.nD Cert.AdamUp.τ).loc Cert.AdamUp.main_arg1)
      ∧ r.2.mem ((c.tc : Thread Cert.AdamUp.nD Cert.AdamUp.τ).loc Cert.AdamUp.main_arg2) = m ((c.tc : Thread Cert.AdamUp.nD Cert.AdamUp.τ).loc Cert.AdamUp.main_arg2)
      ∧ r.2.mem ((c.tc : Thread Cert.AdamUp.nD Cert.AdamUp.τ).loc Cert.AdamUp.main_arg3) = m ((c.tc : Thread Cert.AdamUp.nD Cert.AdamUp.τ).loc Cert.AdamUp.main_arg3))
      ∧ r.2.sem = fun _ => 0)

def quiescent_AdamUpIdeal [hAdamUpIdeal : Cert.AdamUpIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg), Pre_AdamUpIdeal m →
    θ_run (Cert.AdamUpIdeal.defs (F := Ideal)) (onTc (τ := Cert.AdamUpIdeal.τ) (Cert.AdamUpIdeal.main (F := Ideal))) ⟨m, fun _ => 0, g⟩ (fun r => (∀ c : Dev Cert.AdamUpIdeal.nD,
      r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
      ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
      ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
      ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3))
      ∧ r.2.sem = fun _ => 0)

def quiescent_AdamUpRefIdeal [hAdamUpRefIdeal : Cert.AdamUpRefIdeal.Facts] : Prop :=
  ∀ (m : (ℓ : Loc Cert.AdamUpRefIdeal.nD Cert.AdamUpRefIdeal.τ Cert.AdamUpRefIdeal.sig) → Buf (Elt Ideal) ℓ) (g : Dev Cert.AdamUpRefIdeal.nD → PrngReg), Pre_AdamUpRefIdeal m →
    θ_run (Cert.AdamUpRefIdeal.defs (F := Ideal)) (onTc (τ := Cert.AdamUpRefIdeal.τ) (Cert.AdamUpRefIdeal.main (F := Ideal))) ⟨m, fun _ => 0, g⟩ (fun r => (∀ c : Dev Cert.AdamUpRefIdeal.nD,
      r.2.mem ((c.tc : Thread Cert.AdamUpRefIdeal.nD Cert.AdamUpRefIdeal.τ).loc Cert.AdamUpRefIdeal.main_arg0) = m ((c.tc : Thread Cert.AdamUpRefIdeal.nD Cert.AdamUpRefIdeal.τ).loc Cert.AdamUpRefIdeal.main_arg0)
      ∧ r.2.mem ((c.tc : Thread Cert.AdamUpRefIdeal.nD Cert.AdamUpRefIdeal.τ).loc Cert.AdamUpRefIdeal.main_arg1) = m ((c.tc : Thread Cert.AdamUpRefIdeal.nD Cert.AdamUpRefIdeal.τ).loc Cert.AdamUpRefIdeal.main_arg1)
      ∧ r.2.mem ((c.tc : Thread Cert.AdamUpRefIdeal.nD Cert.AdamUpRefIdeal.τ).loc Cert.AdamUpRefIdeal.main_arg2) = m ((c.tc : Thread Cert.AdamUpRefIdeal.nD Cert.AdamUpRefIdeal.τ).loc Cert.AdamUpRefIdeal.main_arg2)
      ∧ r.2.mem ((c.tc : Thread Cert.AdamUpRefIdeal.nD Cert.AdamUpRefIdeal.τ).loc Cert.AdamUpRefIdeal.main_arg3) = m ((c.tc : Thread Cert.AdamUpRefIdeal.nD Cert.AdamUpRefIdeal.τ).loc Cert.AdamUpRefIdeal.main_arg3))
      ∧ r.2.sem = fun _ => 0)

def quiescent_AdamOut [hAdamOut : Cert.AdamOut.Facts] : Prop :=
  ∀ (m : (ℓ : Loc Cert.AdamOut.nD Cert.AdamOut.τ Cert.AdamOut.sig) → Buf (Elt Bits) ℓ) (g : Dev Cert.AdamOut.nD → PrngReg), Pre_AdamOut m →
    θ_run (Cert.AdamOut.defs (F := Bits)) (onTc (τ := Cert.AdamOut.τ) (Cert.AdamOut.main (F := Bits))) ⟨m, fun _ => 0, g⟩ (fun r => (∀ c : Dev Cert.AdamOut.nD,
      r.2.mem ((c.tc : Thread Cert.AdamOut.nD Cert.AdamOut.τ).loc Cert.AdamOut.main_arg0) = m ((c.tc : Thread Cert.AdamOut.nD Cert.AdamOut.τ).loc Cert.AdamOut.main_arg0)
      ∧ r.2.mem ((c.tc : Thread Cert.AdamOut.nD Cert.AdamOut.τ).loc Cert.AdamOut.main_arg1) = m ((c.tc : Thread Cert.AdamOut.nD Cert.AdamOut.τ).loc Cert.AdamOut.main_arg1)
      ∧ r.2.mem ((c.tc : Thread Cert.AdamOut.nD Cert.AdamOut.τ).loc Cert.AdamOut.main_arg2) = m ((c.tc : Thread Cert.AdamOut.nD Cert.AdamOut.τ).loc Cert.AdamOut.main_arg2)
      ∧ r.2.mem ((c.tc : Thread Cert.AdamOut.nD Cert.AdamOut.τ).loc Cert.AdamOut.main_arg3) = m ((c.tc : Thread Cert.AdamOut.nD Cert.AdamOut.τ).loc Cert.AdamOut.main_arg3))
      ∧ r.2.sem = fun _ => 0)

def quiescent_AdamOutIdeal [hAdamOutIdeal : Cert.AdamOutIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg), Pre_AdamOutIdeal m →
    θ_run (Cert.AdamOutIdeal.defs (F := Ideal)) (onTc (τ := Cert.AdamOutIdeal.τ) (Cert.AdamOutIdeal.main (F := Ideal))) ⟨m, fun _ => 0, g⟩ (fun r => (∀ c : Dev Cert.AdamOutIdeal.nD,
      r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
      ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
      ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
      ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ r.2.sem = fun _ => 0)

def quiescent_AdamOutRefIdeal [hAdamOutRefIdeal : Cert.AdamOutRefIdeal.Facts] : Prop :=
  ∀ (m : (ℓ : Loc Cert.AdamOutRefIdeal.nD Cert.AdamOutRefIdeal.τ Cert.AdamOutRefIdeal.sig) → Buf (Elt Ideal) ℓ) (g : Dev Cert.AdamOutRefIdeal.nD → PrngReg), Pre_AdamOutRefIdeal m →
    θ_run (Cert.AdamOutRefIdeal.defs (F := Ideal)) (onTc (τ := Cert.AdamOutRefIdeal.τ) (Cert.AdamOutRefIdeal.main (F := Ideal))) ⟨m, fun _ => 0, g⟩ (fun r => (∀ c : Dev Cert.AdamOutRefIdeal.nD,
      r.2.mem ((c.tc : Thread Cert.AdamOutRefIdeal.nD Cert.AdamOutRefIdeal.τ).loc Cert.AdamOutRefIdeal.main_arg0) = m ((c.tc : Thread Cert.AdamOutRefIdeal.nD Cert.AdamOutRefIdeal.τ).loc Cert.AdamOutRefIdeal.main_arg0)
      ∧ r.2.mem ((c.tc : Thread Cert.AdamOutRefIdeal.nD Cert.AdamOutRefIdeal.τ).loc Cert.AdamOutRefIdeal.main_arg1) = m ((c.tc : Thread Cert.AdamOutRefIdeal.nD Cert.AdamOutRefIdeal.τ).loc Cert.AdamOutRefIdeal.main_arg1)
      ∧ r.2.mem ((c.tc : Thread Cert.AdamOutRefIdeal.nD Cert.AdamOutRefIdeal.τ).loc Cert.AdamOutRefIdeal.main_arg2) = m ((c.tc : Thread Cert.AdamOutRefIdeal.nD Cert.AdamOutRefIdeal.τ).loc Cert.AdamOutRefIdeal.main_arg2)
      ∧ r.2.mem ((c.tc : Thread Cert.AdamOutRefIdeal.nD Cert.AdamOutRefIdeal.τ).loc Cert.AdamOutRefIdeal.main_arg3) = m ((c.tc : Thread Cert.AdamOutRefIdeal.nD Cert.AdamOutRefIdeal.τ).loc Cert.AdamOutRefIdeal.main_arg3))
      ∧ r.2.sem = fun _ => 0)

def quiescent_AdamAda [hAdamAda : Cert.AdamAda.Facts] : Prop :=
  ∀ (m : (ℓ : Loc Cert.AdamAda.nD Cert.AdamAda.τ Cert.AdamAda.sig) → Buf (Elt Bits) ℓ) (g : Dev Cert.AdamAda.nD → PrngReg), Pre_AdamAda m →
    θ_run (Cert.AdamAda.defs (F := Bits)) (onTc (τ := Cert.AdamAda.τ) (Cert.AdamAda.main (F := Bits))) ⟨m, fun _ => 0, g⟩ (fun r => (∀ c : Dev Cert.AdamAda.nD,
      r.2.mem ((c.tc : Thread Cert.AdamAda.nD Cert.AdamAda.τ).loc Cert.AdamAda.main_arg0) = m ((c.tc : Thread Cert.AdamAda.nD Cert.AdamAda.τ).loc Cert.AdamAda.main_arg0)
      ∧ r.2.mem ((c.tc : Thread Cert.AdamAda.nD Cert.AdamAda.τ).loc Cert.AdamAda.main_arg1) = m ((c.tc : Thread Cert.AdamAda.nD Cert.AdamAda.τ).loc Cert.AdamAda.main_arg1)
      ∧ r.2.mem ((c.tc : Thread Cert.AdamAda.nD Cert.AdamAda.τ).loc Cert.AdamAda.main_arg2) = m ((c.tc : Thread Cert.AdamAda.nD Cert.AdamAda.τ).loc Cert.AdamAda.main_arg2)
      ∧ r.2.mem ((c.tc : Thread Cert.AdamAda.nD Cert.AdamAda.τ).loc Cert.AdamAda.main_arg3) = m ((c.tc : Thread Cert.AdamAda.nD Cert.AdamAda.τ).loc Cert.AdamAda.main_arg3))
      ∧ r.2.sem = fun _ => 0)

def quiescent_AdamAdaIdeal [hAdamAdaIdeal : Cert.AdamAdaIdeal.Facts] : Prop :=
  ∀ (m : (ℓ : Loc Cert.AdamAdaIdeal.nD Cert.AdamAdaIdeal.τ Cert.AdamAdaIdeal.sig) → Buf (Elt Ideal) ℓ) (g : Dev Cert.AdamAdaIdeal.nD → PrngReg), Pre_AdamAdaIdeal m →
    θ_run (Cert.AdamAdaIdeal.defs (F := Ideal)) (onTc (τ := Cert.AdamAdaIdeal.τ) (Cert.AdamAdaIdeal.main (F := Ideal))) ⟨m, fun _ => 0, g⟩ (fun r => (∀ c : Dev Cert.AdamAdaIdeal.nD,
      r.2.mem ((c.tc : Thread Cert.AdamAdaIdeal.nD Cert.AdamAdaIdeal.τ).loc Cert.AdamAdaIdeal.main_arg0) = m ((c.tc : Thread Cert.AdamAdaIdeal.nD Cert.AdamAdaIdeal.τ).loc Cert.AdamAdaIdeal.main_arg0)
      ∧ r.2.mem ((c.tc : Thread Cert.AdamAdaIdeal.nD Cert.AdamAdaIdeal.τ).loc Cert.AdamAdaIdeal.main_arg1) = m ((c.tc : Thread Cert.AdamAdaIdeal.nD Cert.AdamAdaIdeal.τ).loc Cert.AdamAdaIdeal.main_arg1)
      ∧ r.2.mem ((c.tc : Thread Cert.AdamAdaIdeal.nD Cert.AdamAdaIdeal.τ).loc Cert.AdamAdaIdeal.main_arg2) = m ((c.tc : Thread Cert.AdamAdaIdeal.nD Cert.AdamAdaIdeal.τ).loc Cert.AdamAdaIdeal.main_arg2)
      ∧ r.2.mem ((c.tc : Thread Cert.AdamAdaIdeal.nD Cert.AdamAdaIdeal.τ).loc Cert.AdamAdaIdeal.main_arg3) = m ((c.tc : Thread Cert.AdamAdaIdeal.nD Cert.AdamAdaIdeal.τ).loc Cert.AdamAdaIdeal.main_arg3))
      ∧ r.2.sem = fun _ => 0)

def quiescent_AdamAdaRefIdeal [hAdamAdaRefIdeal : Cert.AdamAdaRefIdeal.Facts] : Prop :=
  ∀ (m : (ℓ : Loc Cert.AdamAdaRefIdeal.nD Cert.AdamAdaRefIdeal.τ Cert.AdamAdaRefIdeal.sig) → Buf (Elt Ideal) ℓ) (g : Dev Cert.AdamAdaRefIdeal.nD → PrngReg), Pre_AdamAdaRefIdeal m →
    θ_run (Cert.AdamAdaRefIdeal.defs (F := Ideal)) (onTc (τ := Cert.AdamAdaRefIdeal.τ) (Cert.AdamAdaRefIdeal.main (F := Ideal))) ⟨m, fun _ => 0, g⟩ (fun r => (∀ c : Dev Cert.AdamAdaRefIdeal.nD,
      r.2.mem ((c.tc : Thread Cert.AdamAdaRefIdeal.nD Cert.AdamAdaRefIdeal.τ).loc Cert.AdamAdaRefIdeal.main_arg0) = m ((c.tc : Thread Cert.AdamAdaRefIdeal.nD Cert.AdamAdaRefIdeal.τ).loc Cert.AdamAdaRefIdeal.main_arg0)
      ∧ r.2.mem ((c.tc : Thread Cert.AdamAdaRefIdeal.nD Cert.AdamAdaRefIdeal.τ).loc Cert.AdamAdaRefIdeal.main_arg1) = m ((c.tc : Thread Cert.AdamAdaRefIdeal.nD Cert.AdamAdaRefIdeal.τ).loc Cert.AdamAdaRefIdeal.main_arg1)
      ∧ r.2.mem ((c.tc : Thread Cert.AdamAdaRefIdeal.nD Cert.AdamAdaRefIdeal.τ).loc Cert.AdamAdaRefIdeal.main_arg2) = m ((c.tc : Thread Cert.AdamAdaRefIdeal.nD Cert.AdamAdaRefIdeal.τ).loc Cert.AdamAdaRefIdeal.main_arg2)
      ∧ r.2.mem ((c.tc : Thread Cert.AdamAdaRefIdeal.nD Cert.AdamAdaRefIdeal.τ).loc Cert.AdamAdaRefIdeal.main_arg3) = m ((c.tc : Thread Cert.AdamAdaRefIdeal.nD Cert.AdamAdaRefIdeal.τ).loc Cert.AdamAdaRefIdeal.main_arg3))
      ∧ r.2.sem = fun _ => 0)

def quiescent_AdamSmall [hAdamSmall : Cert.AdamSmall.Facts] : Prop :=
  ∀ (m : (ℓ : Loc Cert.AdamSmall.nD Cert.AdamSmall.τ Cert.AdamSmall.sig) → Buf (Elt Bits) ℓ) (g : Dev Cert.AdamSmall.nD → PrngReg), Pre_AdamSmall m →
    θ_run (Cert.AdamSmall.defs (F := Bits)) (onTc (τ := Cert.AdamSmall.τ) (Cert.AdamSmall.main (F := Bits))) ⟨m, fun _ => 0, g⟩ (fun r => (∀ c : Dev Cert.AdamSmall.nD,
      r.2.mem ((c.tc : Thread Cert.AdamSmall.nD Cert.AdamSmall.τ).loc Cert.AdamSmall.main_arg0) = m ((c.tc : Thread Cert.AdamSmall.nD Cert.AdamSmall.τ).loc Cert.AdamSmall.main_arg0)
      ∧ r.2.mem ((c.tc : Thread Cert.AdamSmall.nD Cert.AdamSmall.τ).loc Cert.AdamSmall.main_arg1) = m ((c.tc : Thread Cert.AdamSmall.nD Cert.AdamSmall.τ).loc Cert.AdamSmall.main_arg1)
      ∧ r.2.mem ((c.tc : Thread Cert.AdamSmall.nD Cert.AdamSmall.τ).loc Cert.AdamSmall.main_arg2) = m ((c.tc : Thread Cert.AdamSmall.nD Cert.AdamSmall.τ).loc Cert.AdamSmall.main_arg2)
      ∧ r.2.mem ((c.tc : Thread Cert.AdamSmall.nD Cert.AdamSmall.τ).loc Cert.AdamSmall.main_arg3) = m ((c.tc : Thread Cert.AdamSmall.nD Cert.AdamSmall.τ).loc Cert.AdamSmall.main_arg3))
      ∧ r.2.sem = fun _ => 0)

def quiescent_AdamSmallIdeal [hAdamSmallIdeal : Cert.AdamSmallIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg), Pre_AdamSmallIdeal m →
    θ_run (Cert.AdamSmallIdeal.defs (F := Ideal)) (onTc (τ := Cert.AdamSmallIdeal.τ) (Cert.AdamSmallIdeal.main (F := Ideal))) ⟨m, fun _ => 0, g⟩ (fun r => (∀ c : Dev Cert.AdamSmallIdeal.nD,
      r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
      ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
      ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
      ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ r.2.sem = fun _ => 0)

def quiescent_AdamSmallRefIdeal [hAdamSmallRefIdeal : Cert.AdamSmallRefIdeal.Facts] : Prop :=
  ∀ (m : (ℓ : Loc Cert.AdamSmallRefIdeal.nD Cert.AdamSmallRefIdeal.τ Cert.AdamSmallRefIdeal.sig) → Buf (Elt Ideal) ℓ) (g : Dev Cert.AdamSmallRefIdeal.nD → PrngReg), Pre_AdamSmallRefIdeal m →
    θ_run (Cert.AdamSmallRefIdeal.defs (F := Ideal)) (onTc (τ := Cert.AdamSmallRefIdeal.τ) (Cert.AdamSmallRefIdeal.main (F := Ideal))) ⟨m, fun _ => 0, g⟩ (fun r => (∀ c : Dev Cert.AdamSmallRefIdeal.nD,
      r.2.mem ((c.tc : Thread Cert.AdamSmallRefIdeal.nD Cert.AdamSmallRefIdeal.τ).loc Cert.AdamSmallRefIdeal.main_arg0) = m ((c.tc : Thread Cert.AdamSmallRefIdeal.nD Cert.AdamSmallRefIdeal.τ).loc Cert.AdamSmallRefIdeal.main_arg0)
      ∧ r.2.mem ((c.tc : Thread Cert.AdamSmallRefIdeal.nD Cert.AdamSmallRefIdeal.τ).loc Cert.AdamSmallRefIdeal.main_arg1) = m ((c.tc : Thread Cert.AdamSmallRefIdeal.nD Cert.AdamSmallRefIdeal.τ).loc Cert.AdamSmallRefIdeal.main_arg1)
      ∧ r.2.mem ((c.tc : Thread Cert.AdamSmallRefIdeal.nD Cert.AdamSmallRefIdeal.τ).loc Cert.AdamSmallRefIdeal.main_arg2) = m ((c.tc : Thread Cert.AdamSmallRefIdeal.nD Cert.AdamSmallRefIdeal.τ).loc Cert.AdamSmallRefIdeal.main_arg2)
      ∧ r.2.mem ((c.tc : Thread Cert.AdamSmallRefIdeal.nD Cert.AdamSmallRefIdeal.τ).loc Cert.AdamSmallRefIdeal.main_arg3) = m ((c.tc : Thread Cert.AdamSmallRefIdeal.nD Cert.AdamSmallRefIdeal.τ).loc Cert.AdamSmallRefIdeal.main_arg3))
      ∧ r.2.sem = fun _ => 0)

def quiescent_WAda [hWAda : Cert.WAda.Facts] : Prop :=
  ∀ (m : (ℓ : Loc Cert.WAda.nD Cert.WAda.τ Cert.WAda.sig) → Buf (Elt Bits) ℓ) (g : Dev Cert.WAda.nD → PrngReg), Pre_WAda m →
    θ_run (Cert.WAda.defs (F := Bits)) (onTc (τ := Cert.WAda.τ) (Cert.WAda.main (F := Bits))) ⟨m, fun _ => 0, g⟩ (fun r => (∀ c : Dev Cert.WAda.nD,
      r.2.mem ((c.tc : Thread Cert.WAda.nD Cert.WAda.τ).loc Cert.WAda.main_arg0) = m ((c.tc : Thread Cert.WAda.nD Cert.WAda.τ).loc Cert.WAda.main_arg0)
      ∧ r.2.mem ((c.tc : Thread Cert.WAda.nD Cert.WAda.τ).loc Cert.WAda.main_arg1) = m ((c.tc : Thread Cert.WAda.nD Cert.WAda.τ).loc Cert.WAda.main_arg1))
      ∧ r.2.sem = fun _ => 0)

def quiescent_WAdaIdeal [hWAdaIdeal : Cert.WAdaIdeal.Facts] : Prop :=
  ∀ (m : (ℓ : Loc Cert.WAdaIdeal.nD Cert.WAdaIdeal.τ Cert.WAdaIdeal.sig) → Buf (Elt Ideal) ℓ) (g : Dev Cert.WAdaIdeal.nD → PrngReg), Pre_WAdaIdeal m →
    θ_run (Cert.WAdaIdeal.defs (F := Ideal)) (onTc (τ := Cert.WAdaIdeal.τ) (Cert.WAdaIdeal.main (F := Ideal))) ⟨m, fun _ => 0, g⟩ (fun r => (∀ c : Dev Cert.WAdaIdeal.nD,
      r.2.mem ((c.tc : Thread Cert.WAdaIdeal.nD Cert.WAdaIdeal.τ).loc Cert.WAdaIdeal.main_arg0) = m ((c.tc : Thread Cert.WAdaIdeal.nD Cert.WAdaIdeal.τ).loc Cert.WAdaIdeal.main_arg0)
      ∧ r.2.mem ((c.tc : Thread Cert.WAdaIdeal.nD Cert.WAdaIdeal.τ).loc Cert.WAdaIdeal.main_arg1) = m ((c.tc : Thread Cert.WAdaIdeal.nD Cert.WAdaIdeal.τ).loc Cert.WAdaIdeal.main_arg1))
      ∧ r.2.sem = fun _ => 0)

def quiescent_WAdaRefIdeal [hWAdaRefIdeal : Cert.WAdaRefIdeal.Facts] : Prop :=
  ∀ (m : (ℓ : Loc Cert.WAdaRefIdeal.nD Cert.WAdaRefIdeal.τ Cert.WAdaRefIdeal.sig) → Buf (Elt Ideal) ℓ) (g : Dev Cert.WAdaRefIdeal.nD → PrngReg), Pre_WAdaRefIdeal m →
    θ_run (Cert.WAdaRefIdeal.defs (F := Ideal)) (onTc (τ := Cert.WAdaRefIdeal.τ) (Cert.WAdaRefIdeal.main (F := Ideal))) ⟨m, fun _ => 0, g⟩ (fun r => (∀ c : Dev Cert.WAdaRefIdeal.nD,
      r.2.mem ((c.tc : Thread Cert.WAdaRefIdeal.nD Cert.WAdaRefIdeal.τ).loc Cert.WAdaRefIdeal.main_arg0) = m ((c.tc : Thread Cert.WAdaRefIdeal.nD Cert.WAdaRefIdeal.τ).loc Cert.WAdaRefIdeal.main_arg0)
      ∧ r.2.mem ((c.tc : Thread Cert.WAdaRefIdeal.nD Cert.WAdaRefIdeal.τ).loc Cert.WAdaRefIdeal.main_arg1) = m ((c.tc : Thread Cert.WAdaRefIdeal.nD Cert.WAdaRefIdeal.τ).loc Cert.WAdaRefIdeal.main_arg1))
      ∧ r.2.sem = fun _ => 0)

def preserves_Kernel_KernelIdeal : Prop :=
  IdealRules.named_const.Statement Cert.KernelIdeal.κ "mask" .f32 0xFF7FFFFF#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v118_0)) (v1 : (c : Dev Cert.KernelIdeal.nD) → Buf (Elt Ideal) ((c.tc : Thread Cert.KernelIdeal.nD Cert.KernelIdeal.τ).loc Cert.KernelIdeal.main_v118_1)) (v2 : (c : Dev Cert.KernelIdeal.nD) → Buf (Elt Ideal) ((c.tc : Thread Cert.KernelIdeal.nD Cert.KernelIdeal.τ).loc Cert.KernelIdeal.main_v118_2)) (v3 : (c : Dev Cert.KernelIdeal.nD) → Buf (Elt Ideal) ((c.tc : Thread Cert.KernelIdeal.nD Cert.KernelIdeal.τ).loc Cert.KernelIdeal.main_v118_3)) (v4 : (c : Dev Cert.KernelIdeal.nD) → Buf (Elt Ideal) ((c.tc : Thread Cert.KernelIdeal.nD Cert.KernelIdeal.τ).loc Cert.KernelIdeal.main_v118_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v118_0) = v0 c
          ∧ r.2.mem ((c.tc : Thread Cert.KernelIdeal.nD Cert.KernelIdeal.τ).loc Cert.KernelIdeal.main_v118_1) = v1 c
          ∧ r.2.mem ((c.tc : Thread Cert.KernelIdeal.nD Cert.KernelIdeal.τ).loc Cert.KernelIdeal.main_v118_2) = v2 c
          ∧ r.2.mem ((c.tc : Thread Cert.KernelIdeal.nD Cert.KernelIdeal.τ).loc Cert.KernelIdeal.main_v118_3) = v3 c
          ∧ r.2.mem ((c.tc : Thread Cert.KernelIdeal.nD Cert.KernelIdeal.τ).loc Cert.KernelIdeal.main_v118_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v78) = v0 c
          ∧ r.2.mem ((c.tc : Thread Cert.ReferenceIdeal.nD Cert.ReferenceIdeal.τ).loc Cert.ReferenceIdeal.main_v80) = v1 c
          ∧ r.2.mem ((c.tc : Thread Cert.ReferenceIdeal.nD Cert.ReferenceIdeal.τ).loc Cert.ReferenceIdeal.main_v82) = v2 c
          ∧ r.2.mem ((c.tc : Thread Cert.ReferenceIdeal.nD Cert.ReferenceIdeal.τ).loc Cert.ReferenceIdeal.main_v84) = v3 c
          ∧ r.2.mem ((c.tc : Thread Cert.ReferenceIdeal.nD Cert.ReferenceIdeal.τ).loc Cert.ReferenceIdeal.main_v87) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_ProjFwd_ProjFwdIdeal : Prop :=
  True

def algebraic_ProjFwdIdeal_ProjectionIdeal [hProjFwdIdeal : Cert.ProjFwdIdeal.Facts] [hProjectionIdeal : Cert.ProjectionIdeal.Facts] : Prop :=
  ∀ (m : (ℓ : Loc Cert.ProjFwdIdeal.nD Cert.ProjFwdIdeal.τ Cert.ProjFwdIdeal.sig) → Buf (Elt Ideal) ℓ) (g : Dev Cert.ProjFwdIdeal.nD → PrngReg)
    (m' : (ℓ : Loc Cert.ProjectionIdeal.nD Cert.ProjectionIdeal.τ Cert.ProjectionIdeal.sig) → Buf (Elt Ideal) ℓ) (g' : Dev Cert.ProjectionIdeal.nD → PrngReg), Pre_ProjFwdIdeal m →
    (∀ c : Dev Cert.ProjFwdIdeal.nD,
      m' ((c.tc : Thread Cert.ProjectionIdeal.nD Cert.ProjectionIdeal.τ).loc Cert.ProjectionIdeal.main_arg0) = m ((c.tc : Thread Cert.ProjFwdIdeal.nD Cert.ProjFwdIdeal.τ).loc Cert.ProjFwdIdeal.main_arg0)
      ∧ m' ((c.tc : Thread Cert.ProjectionIdeal.nD Cert.ProjectionIdeal.τ).loc Cert.ProjectionIdeal.main_arg1) = m ((c.tc : Thread Cert.ProjFwdIdeal.nD Cert.ProjFwdIdeal.τ).loc Cert.ProjFwdIdeal.main_arg1)
      ∧ m' ((c.tc : Thread Cert.ProjectionIdeal.nD Cert.ProjectionIdeal.τ).loc Cert.ProjectionIdeal.main_arg2) = m ((c.tc : Thread Cert.ProjFwdIdeal.nD Cert.ProjFwdIdeal.τ).loc Cert.ProjFwdIdeal.main_arg2)
      ∧ m' ((c.tc : Thread Cert.ProjectionIdeal.nD Cert.ProjectionIdeal.τ).loc Cert.ProjectionIdeal.main_arg3) = m ((c.tc : Thread Cert.ProjFwdIdeal.nD Cert.ProjFwdIdeal.τ).loc Cert.ProjFwdIdeal.main_arg3)
      ∧ m' ((c.tc : Thread Cert.ProjectionIdeal.nD Cert.ProjectionIdeal.τ).loc Cert.ProjectionIdeal.main_arg4) = m ((c.tc : Thread Cert.ProjFwdIdeal.nD Cert.ProjFwdIdeal.τ).loc Cert.ProjFwdIdeal.main_arg4)) →
    ∃ (v0 : (c : Dev Cert.ProjFwdIdeal.nD) → Buf (Elt Ideal) ((c.tc : Thread Cert.ProjFwdIdeal.nD Cert.ProjFwdIdeal.τ).loc Cert.ProjFwdIdeal.main_v6_0)) (v1 : (c : Dev Cert.ProjFwdIdeal.nD) → Buf (Elt Ideal) ((c.tc : Thread Cert.ProjFwdIdeal.nD Cert.ProjFwdIdeal.τ).loc Cert.ProjFwdIdeal.main_v6_1)) (v2 : (c : Dev Cert.ProjFwdIdeal.nD) → Buf (Elt Ideal) ((c.tc : Thread Cert.ProjFwdIdeal.nD Cert.ProjFwdIdeal.τ).loc Cert.ProjFwdIdeal.main_v6_2)) (v3 : (c : Dev Cert.ProjFwdIdeal.nD) → Buf (Elt Ideal) ((c.tc : Thread Cert.ProjFwdIdeal.nD Cert.ProjFwdIdeal.τ).loc Cert.ProjFwdIdeal.main_v6_3)) (v4 : (c : Dev Cert.ProjFwdIdeal.nD) → Buf (Elt Ideal) ((c.tc : Thread Cert.ProjFwdIdeal.nD Cert.ProjFwdIdeal.τ).loc Cert.ProjFwdIdeal.main_v6_4)) (v5 : (c : Dev Cert.ProjFwdIdeal.nD) → Buf (Elt Ideal) ((c.tc : Thread Cert.ProjFwdIdeal.nD Cert.ProjFwdIdeal.τ).loc Cert.ProjFwdIdeal.main_v6_5)) (v6 : (c : Dev Cert.ProjFwdIdeal.nD) → Buf (Elt Ideal) ((c.tc : Thread Cert.ProjFwdIdeal.nD Cert.ProjFwdIdeal.τ).loc Cert.ProjFwdIdeal.main_v6_6)) (v7 : (c : Dev Cert.ProjFwdIdeal.nD) → Buf (Elt Ideal) ((c.tc : Thread Cert.ProjFwdIdeal.nD Cert.ProjFwdIdeal.τ).loc Cert.ProjFwdIdeal.main_v6_7)) (v8 : (c : Dev Cert.ProjFwdIdeal.nD) → Buf (Elt Ideal) ((c.tc : Thread Cert.ProjFwdIdeal.nD Cert.ProjFwdIdeal.τ).loc Cert.ProjFwdIdeal.main_v6_8)) (v9 : (c : Dev Cert.ProjFwdIdeal.nD) → Buf (Elt Ideal) ((c.tc : Thread Cert.ProjFwdIdeal.nD Cert.ProjFwdIdeal.τ).loc Cert.ProjFwdIdeal.main_v6_9)),
      θ_run (Cert.ProjFwdIdeal.defs (F := Ideal)) (onTc (τ := Cert.ProjFwdIdeal.τ) (Cert.ProjFwdIdeal.main (F := Ideal))) ⟨m, fun _ => 0, g⟩ (fun r => ∀ c : Dev Cert.ProjFwdIdeal.nD,
          r.2.mem ((c.tc : Thread Cert.ProjFwdIdeal.nD Cert.ProjFwdIdeal.τ).loc Cert.ProjFwdIdeal.main_v6_0) = v0 c
          ∧ r.2.mem ((c.tc : Thread Cert.ProjFwdIdeal.nD Cert.ProjFwdIdeal.τ).loc Cert.ProjFwdIdeal.main_v6_1) = v1 c
          ∧ r.2.mem ((c.tc : Thread Cert.ProjFwdIdeal.nD Cert.ProjFwdIdeal.τ).loc Cert.ProjFwdIdeal.main_v6_2) = v2 c
          ∧ r.2.mem ((c.tc : Thread Cert.ProjFwdIdeal.nD Cert.ProjFwdIdeal.τ).loc Cert.ProjFwdIdeal.main_v6_3) = v3 c
          ∧ r.2.mem ((c.tc : Thread Cert.ProjFwdIdeal.nD Cert.ProjFwdIdeal.τ).loc Cert.ProjFwdIdeal.main_v6_4) = v4 c
          ∧ r.2.mem ((c.tc : Thread Cert.ProjFwdIdeal.nD Cert.ProjFwdIdeal.τ).loc Cert.ProjFwdIdeal.main_v6_5) = v5 c
          ∧ r.2.mem ((c.tc : Thread Cert.ProjFwdIdeal.nD Cert.ProjFwdIdeal.τ).loc Cert.ProjFwdIdeal.main_v6_6) = v6 c
          ∧ r.2.mem ((c.tc : Thread Cert.ProjFwdIdeal.nD Cert.ProjFwdIdeal.τ).loc Cert.ProjFwdIdeal.main_v6_7) = v7 c
          ∧ r.2.mem ((c.tc : Thread Cert.ProjFwdIdeal.nD Cert.ProjFwdIdeal.τ).loc Cert.ProjFwdIdeal.main_v6_8) = v8 c
          ∧ r.2.mem ((c.tc : Thread Cert.ProjFwdIdeal.nD Cert.ProjFwdIdeal.τ).loc Cert.ProjFwdIdeal.main_v6_9) = v9 c
          ∧ r.2.mem ((c.tc : Thread Cert.ProjFwdIdeal.nD Cert.ProjFwdIdeal.τ).loc Cert.ProjFwdIdeal.main_arg0) = m ((c.tc : Thread Cert.ProjFwdIdeal.nD Cert.ProjFwdIdeal.τ).loc Cert.ProjFwdIdeal.main_arg0)
          ∧ r.2.mem ((c.tc : Thread Cert.ProjFwdIdeal.nD Cert.ProjFwdIdeal.τ).loc Cert.ProjFwdIdeal.main_arg1) = m ((c.tc : Thread Cert.ProjFwdIdeal.nD Cert.ProjFwdIdeal.τ).loc Cert.ProjFwdIdeal.main_arg1)
          ∧ r.2.mem ((c.tc : Thread Cert.ProjFwdIdeal.nD Cert.ProjFwdIdeal.τ).loc Cert.ProjFwdIdeal.main_arg2) = m ((c.tc : Thread Cert.ProjFwdIdeal.nD Cert.ProjFwdIdeal.τ).loc Cert.ProjFwdIdeal.main_arg2)
          ∧ r.2.mem ((c.tc : Thread Cert.ProjFwdIdeal.nD Cert.ProjFwdIdeal.τ).loc Cert.ProjFwdIdeal.main_arg3) = m ((c.tc : Thread Cert.ProjFwdIdeal.nD Cert.ProjFwdIdeal.τ).loc Cert.ProjFwdIdeal.main_arg3)
          ∧ r.2.mem ((c.tc : Thread Cert.ProjFwdIdeal.nD Cert.ProjFwdIdeal.τ).loc Cert.ProjFwdIdeal.main_arg4) = m ((c.tc : Thread Cert.ProjFwdIdeal.nD Cert.ProjFwdIdeal.τ).loc Cert.ProjFwdIdeal.main_arg4))
      ∧ θ_run (Cert.ProjectionIdeal.defs (F := Ideal)) (onTc (τ := Cert.ProjectionIdeal.τ) (Cert.ProjectionIdeal.main (F := Ideal))) ⟨m', fun _ => 0, g'⟩ (fun r => ∀ c : Dev Cert.ProjectionIdeal.nD,
          r.2.mem ((c.tc : Thread Cert.ProjectionIdeal.nD Cert.ProjectionIdeal.τ).loc Cert.ProjectionIdeal.main_v30) = v0 c
          ∧ r.2.mem ((c.tc : Thread Cert.ProjectionIdeal.nD Cert.ProjectionIdeal.τ).loc Cert.ProjectionIdeal.main_v31) = v1 c
          ∧ r.2.mem ((c.tc : Thread Cert.ProjectionIdeal.nD Cert.ProjectionIdeal.τ).loc Cert.ProjectionIdeal.main_v32) = v2 c
          ∧ r.2.mem ((c.tc : Thread Cert.ProjectionIdeal.nD Cert.ProjectionIdeal.τ).loc Cert.ProjectionIdeal.main_v23) = v3 c
          ∧ r.2.mem ((c.tc : Thread Cert.ProjectionIdeal.nD Cert.ProjectionIdeal.τ).loc Cert.ProjectionIdeal.main_v24) = v4 c
          ∧ r.2.mem ((c.tc : Thread Cert.ProjectionIdeal.nD Cert.ProjectionIdeal.τ).loc Cert.ProjectionIdeal.main_v25) = v5 c
          ∧ r.2.mem ((c.tc : Thread Cert.ProjectionIdeal.nD Cert.ProjectionIdeal.τ).loc Cert.ProjectionIdeal.main_v26) = v6 c
          ∧ r.2.mem ((c.tc : Thread Cert.ProjectionIdeal.nD Cert.ProjectionIdeal.τ).loc Cert.ProjectionIdeal.main_v27) = v7 c
          ∧ r.2.mem ((c.tc : Thread Cert.ProjectionIdeal.nD Cert.ProjectionIdeal.τ).loc Cert.ProjectionIdeal.main_v22) = v8 c
          ∧ r.2.mem ((c.tc : Thread Cert.ProjectionIdeal.nD Cert.ProjectionIdeal.τ).loc Cert.ProjectionIdeal.main_v33) = v9 c
          ∧ r.2.mem ((c.tc : Thread Cert.ProjectionIdeal.nD Cert.ProjectionIdeal.τ).loc Cert.ProjectionIdeal.main_arg0) = m' ((c.tc : Thread Cert.ProjectionIdeal.nD Cert.ProjectionIdeal.τ).loc Cert.ProjectionIdeal.main_arg0)
          ∧ r.2.mem ((c.tc : Thread Cert.ProjectionIdeal.nD Cert.ProjectionIdeal.τ).loc Cert.ProjectionIdeal.main_arg1) = m' ((c.tc : Thread Cert.ProjectionIdeal.nD Cert.ProjectionIdeal.τ).loc Cert.ProjectionIdeal.main_arg1)
          ∧ r.2.mem ((c.tc : Thread Cert.ProjectionIdeal.nD Cert.ProjectionIdeal.τ).loc Cert.ProjectionIdeal.main_arg2) = m' ((c.tc : Thread Cert.ProjectionIdeal.nD Cert.ProjectionIdeal.τ).loc Cert.ProjectionIdeal.main_arg2)
          ∧ r.2.mem ((c.tc : Thread Cert.ProjectionIdeal.nD Cert.ProjectionIdeal.τ).loc Cert.ProjectionIdeal.main_arg3) = m' ((c.tc : Thread Cert.ProjectionIdeal.nD Cert.ProjectionIdeal.τ).loc Cert.ProjectionIdeal.main_arg3)
          ∧ r.2.mem ((c.tc : Thread Cert.ProjectionIdeal.nD Cert.ProjectionIdeal.τ).loc Cert.ProjectionIdeal.main_arg4) = m' ((c.tc : Thread Cert.ProjectionIdeal.nD Cert.ProjectionIdeal.τ).loc Cert.ProjectionIdeal.main_arg4))

def preserves_DwQ_DwQIdeal : Prop :=
  True

def algebraic_DwQIdeal_DwQRefIdeal [hDwQIdeal : Cert.DwQIdeal.Facts] [hDwQRefIdeal : Cert.DwQRefIdeal.Facts] : Prop :=
  ∀ (m : (ℓ : Loc Cert.DwQIdeal.nD Cert.DwQIdeal.τ Cert.DwQIdeal.sig) → Buf (Elt Ideal) ℓ) (g : Dev Cert.DwQIdeal.nD → PrngReg)
    (m' : (ℓ : Loc Cert.DwQRefIdeal.nD Cert.DwQRefIdeal.τ Cert.DwQRefIdeal.sig) → Buf (Elt Ideal) ℓ) (g' : Dev Cert.DwQRefIdeal.nD → PrngReg), Pre_DwQIdeal m →
    (∀ c : Dev Cert.DwQIdeal.nD,
      m' ((c.tc : Thread Cert.DwQRefIdeal.nD Cert.DwQRefIdeal.τ).loc Cert.DwQRefIdeal.main_arg0) = m ((c.tc : Thread Cert.DwQIdeal.nD Cert.DwQIdeal.τ).loc Cert.DwQIdeal.main_arg0)
      ∧ m' ((c.tc : Thread Cert.DwQRefIdeal.nD Cert.DwQRefIdeal.τ).loc Cert.DwQRefIdeal.main_arg1) = m ((c.tc : Thread Cert.DwQIdeal.nD Cert.DwQIdeal.τ).loc Cert.DwQIdeal.main_arg1)) →
    ∃ (v0 : (c : Dev Cert.DwQIdeal.nD) → Buf (Elt Ideal) ((c.tc : Thread Cert.DwQIdeal.nD Cert.DwQIdeal.τ).loc Cert.DwQIdeal.main_v0)),
      θ_run (Cert.DwQIdeal.defs (F := Ideal)) (onTc (τ := Cert.DwQIdeal.τ) (Cert.DwQIdeal.main (F := Ideal))) ⟨m, fun _ => 0, g⟩ (fun r => ∀ c : Dev Cert.DwQIdeal.nD,
          r.2.mem ((c.tc : Thread Cert.DwQIdeal.nD Cert.DwQIdeal.τ).loc Cert.DwQIdeal.main_v0) = v0 c
          ∧ r.2.mem ((c.tc : Thread Cert.DwQIdeal.nD Cert.DwQIdeal.τ).loc Cert.DwQIdeal.main_arg0) = m ((c.tc : Thread Cert.DwQIdeal.nD Cert.DwQIdeal.τ).loc Cert.DwQIdeal.main_arg0)
          ∧ r.2.mem ((c.tc : Thread Cert.DwQIdeal.nD Cert.DwQIdeal.τ).loc Cert.DwQIdeal.main_arg1) = m ((c.tc : Thread Cert.DwQIdeal.nD Cert.DwQIdeal.τ).loc Cert.DwQIdeal.main_arg1))
      ∧ θ_run (Cert.DwQRefIdeal.defs (F := Ideal)) (onTc (τ := Cert.DwQRefIdeal.τ) (Cert.DwQRefIdeal.main (F := Ideal))) ⟨m', fun _ => 0, g'⟩ (fun r => ∀ c : Dev Cert.DwQRefIdeal.nD,
          r.2.mem ((c.tc : Thread Cert.DwQRefIdeal.nD Cert.DwQRefIdeal.τ).loc Cert.DwQRefIdeal.main_v4) = v0 c
          ∧ r.2.mem ((c.tc : Thread Cert.DwQRefIdeal.nD Cert.DwQRefIdeal.τ).loc Cert.DwQRefIdeal.main_arg0) = m' ((c.tc : Thread Cert.DwQRefIdeal.nD Cert.DwQRefIdeal.τ).loc Cert.DwQRefIdeal.main_arg0)
          ∧ r.2.mem ((c.tc : Thread Cert.DwQRefIdeal.nD Cert.DwQRefIdeal.τ).loc Cert.DwQRefIdeal.main_arg1) = m' ((c.tc : Thread Cert.DwQRefIdeal.nD Cert.DwQRefIdeal.τ).loc Cert.DwQRefIdeal.main_arg1))

def preserves_DwK_DwKIdeal : Prop :=
  True

def algebraic_DwKIdeal_DwKRefIdeal [hDwKIdeal : Cert.DwKIdeal.Facts] [hDwKRefIdeal : Cert.DwKRefIdeal.Facts] : Prop :=
  ∀ (m : (ℓ : Loc Cert.DwKIdeal.nD Cert.DwKIdeal.τ Cert.DwKIdeal.sig) → Buf (Elt Ideal) ℓ) (g : Dev Cert.DwKIdeal.nD → PrngReg)
    (m' : (ℓ : Loc Cert.DwKRefIdeal.nD Cert.DwKRefIdeal.τ Cert.DwKRefIdeal.sig) → Buf (Elt Ideal) ℓ) (g' : Dev Cert.DwKRefIdeal.nD → PrngReg), Pre_DwKIdeal m →
    (∀ c : Dev Cert.DwKIdeal.nD,
      m' ((c.tc : Thread Cert.DwKRefIdeal.nD Cert.DwKRefIdeal.τ).loc Cert.DwKRefIdeal.main_arg0) = m ((c.tc : Thread Cert.DwKIdeal.nD Cert.DwKIdeal.τ).loc Cert.DwKIdeal.main_arg0)
      ∧ m' ((c.tc : Thread Cert.DwKRefIdeal.nD Cert.DwKRefIdeal.τ).loc Cert.DwKRefIdeal.main_arg1) = m ((c.tc : Thread Cert.DwKIdeal.nD Cert.DwKIdeal.τ).loc Cert.DwKIdeal.main_arg1)) →
    ∃ (v0 : (c : Dev Cert.DwKIdeal.nD) → Buf (Elt Ideal) ((c.tc : Thread Cert.DwKIdeal.nD Cert.DwKIdeal.τ).loc Cert.DwKIdeal.main_v0)),
      θ_run (Cert.DwKIdeal.defs (F := Ideal)) (onTc (τ := Cert.DwKIdeal.τ) (Cert.DwKIdeal.main (F := Ideal))) ⟨m, fun _ => 0, g⟩ (fun r => ∀ c : Dev Cert.DwKIdeal.nD,
          r.2.mem ((c.tc : Thread Cert.DwKIdeal.nD Cert.DwKIdeal.τ).loc Cert.DwKIdeal.main_v0) = v0 c
          ∧ r.2.mem ((c.tc : Thread Cert.DwKIdeal.nD Cert.DwKIdeal.τ).loc Cert.DwKIdeal.main_arg0) = m ((c.tc : Thread Cert.DwKIdeal.nD Cert.DwKIdeal.τ).loc Cert.DwKIdeal.main_arg0)
          ∧ r.2.mem ((c.tc : Thread Cert.DwKIdeal.nD Cert.DwKIdeal.τ).loc Cert.DwKIdeal.main_arg1) = m ((c.tc : Thread Cert.DwKIdeal.nD Cert.DwKIdeal.τ).loc Cert.DwKIdeal.main_arg1))
      ∧ θ_run (Cert.DwKRefIdeal.defs (F := Ideal)) (onTc (τ := Cert.DwKRefIdeal.τ) (Cert.DwKRefIdeal.main (F := Ideal))) ⟨m', fun _ => 0, g'⟩ (fun r => ∀ c : Dev Cert.DwKRefIdeal.nD,
          r.2.mem ((c.tc : Thread Cert.DwKRefIdeal.nD Cert.DwKRefIdeal.τ).loc Cert.DwKRefIdeal.main_v5) = v0 c
          ∧ r.2.mem ((c.tc : Thread Cert.DwKRefIdeal.nD Cert.DwKRefIdeal.τ).loc Cert.DwKRefIdeal.main_arg0) = m' ((c.tc : Thread Cert.DwKRefIdeal.nD Cert.DwKRefIdeal.τ).loc Cert.DwKRefIdeal.main_arg0)
          ∧ r.2.mem ((c.tc : Thread Cert.DwKRefIdeal.nD Cert.DwKRefIdeal.τ).loc Cert.DwKRefIdeal.main_arg1) = m' ((c.tc : Thread Cert.DwKRefIdeal.nD Cert.DwKRefIdeal.τ).loc Cert.DwKRefIdeal.main_arg1))

def preserves_DwF_DwFIdeal : Prop :=
  True

def algebraic_DwFIdeal_DwFRefIdeal [hDwFIdeal : Cert.DwFIdeal.Facts] [hDwFRefIdeal : Cert.DwFRefIdeal.Facts] : Prop :=
  ∀ (m : (ℓ : Loc Cert.DwFIdeal.nD Cert.DwFIdeal.τ Cert.DwFIdeal.sig) → Buf (Elt Ideal) ℓ) (g : Dev Cert.DwFIdeal.nD → PrngReg)
    (m' : (ℓ : Loc Cert.DwFRefIdeal.nD Cert.DwFRefIdeal.τ Cert.DwFRefIdeal.sig) → Buf (Elt Ideal) ℓ) (g' : Dev Cert.DwFRefIdeal.nD → PrngReg), Pre_DwFIdeal m →
    (∀ c : Dev Cert.DwFIdeal.nD,
      m' ((c.tc : Thread Cert.DwFRefIdeal.nD Cert.DwFRefIdeal.τ).loc Cert.DwFRefIdeal.main_arg0) = m ((c.tc : Thread Cert.DwFIdeal.nD Cert.DwFIdeal.τ).loc Cert.DwFIdeal.main_arg0)
      ∧ m' ((c.tc : Thread Cert.DwFRefIdeal.nD Cert.DwFRefIdeal.τ).loc Cert.DwFRefIdeal.main_arg1) = m ((c.tc : Thread Cert.DwFIdeal.nD Cert.DwFIdeal.τ).loc Cert.DwFIdeal.main_arg1)) →
    ∃ (v0 : (c : Dev Cert.DwFIdeal.nD) → Buf (Elt Ideal) ((c.tc : Thread Cert.DwFIdeal.nD Cert.DwFIdeal.τ).loc Cert.DwFIdeal.main_v0)),
      θ_run (Cert.DwFIdeal.defs (F := Ideal)) (onTc (τ := Cert.DwFIdeal.τ) (Cert.DwFIdeal.main (F := Ideal))) ⟨m, fun _ => 0, g⟩ (fun r => ∀ c : Dev Cert.DwFIdeal.nD,
          r.2.mem ((c.tc : Thread Cert.DwFIdeal.nD Cert.DwFIdeal.τ).loc Cert.DwFIdeal.main_v0) = v0 c
          ∧ r.2.mem ((c.tc : Thread Cert.DwFIdeal.nD Cert.DwFIdeal.τ).loc Cert.DwFIdeal.main_arg0) = m ((c.tc : Thread Cert.DwFIdeal.nD Cert.DwFIdeal.τ).loc Cert.DwFIdeal.main_arg0)
          ∧ r.2.mem ((c.tc : Thread Cert.DwFIdeal.nD Cert.DwFIdeal.τ).loc Cert.DwFIdeal.main_arg1) = m ((c.tc : Thread Cert.DwFIdeal.nD Cert.DwFIdeal.τ).loc Cert.DwFIdeal.main_arg1))
      ∧ θ_run (Cert.DwFRefIdeal.defs (F := Ideal)) (onTc (τ := Cert.DwFRefIdeal.τ) (Cert.DwFRefIdeal.main (F := Ideal))) ⟨m', fun _ => 0, g'⟩ (fun r => ∀ c : Dev Cert.DwFRefIdeal.nD,
          r.2.mem ((c.tc : Thread Cert.DwFRefIdeal.nD Cert.DwFRefIdeal.τ).loc Cert.DwFRefIdeal.main_v4) = v0 c
          ∧ r.2.mem ((c.tc : Thread Cert.DwFRefIdeal.nD Cert.DwFRefIdeal.τ).loc Cert.DwFRefIdeal.main_arg0) = m' ((c.tc : Thread Cert.DwFRefIdeal.nD Cert.DwFRefIdeal.τ).loc Cert.DwFRefIdeal.main_arg0)
          ∧ r.2.mem ((c.tc : Thread Cert.DwFRefIdeal.nD Cert.DwFRefIdeal.τ).loc Cert.DwFRefIdeal.main_arg1) = m' ((c.tc : Thread Cert.DwFRefIdeal.nD Cert.DwFRefIdeal.τ).loc Cert.DwFRefIdeal.main_arg1))

def preserves_DwG_DwGIdeal : Prop :=
  True

def algebraic_DwGIdeal_DwGRefIdeal [hDwGIdeal : Cert.DwGIdeal.Facts] [hDwGRefIdeal : Cert.DwGRefIdeal.Facts] : Prop :=
  ∀ (m : (ℓ : Loc Cert.DwGIdeal.nD Cert.DwGIdeal.τ Cert.DwGIdeal.sig) → Buf (Elt Ideal) ℓ) (g : Dev Cert.DwGIdeal.nD → PrngReg)
    (m' : (ℓ : Loc Cert.DwGRefIdeal.nD Cert.DwGRefIdeal.τ Cert.DwGRefIdeal.sig) → Buf (Elt Ideal) ℓ) (g' : Dev Cert.DwGRefIdeal.nD → PrngReg), Pre_DwGIdeal m →
    (∀ c : Dev Cert.DwGIdeal.nD,
      m' ((c.tc : Thread Cert.DwGRefIdeal.nD Cert.DwGRefIdeal.τ).loc Cert.DwGRefIdeal.main_arg0) = m ((c.tc : Thread Cert.DwGIdeal.nD Cert.DwGIdeal.τ).loc Cert.DwGIdeal.main_arg0)
      ∧ m' ((c.tc : Thread Cert.DwGRefIdeal.nD Cert.DwGRefIdeal.τ).loc Cert.DwGRefIdeal.main_arg1) = m ((c.tc : Thread Cert.DwGIdeal.nD Cert.DwGIdeal.τ).loc Cert.DwGIdeal.main_arg1)) →
    ∃ (v0 : (c : Dev Cert.DwGIdeal.nD) → Buf (Elt Ideal) ((c.tc : Thread Cert.DwGIdeal.nD Cert.DwGIdeal.τ).loc Cert.DwGIdeal.main_v0)),
      θ_run (Cert.DwGIdeal.defs (F := Ideal)) (onTc (τ := Cert.DwGIdeal.τ) (Cert.DwGIdeal.main (F := Ideal))) ⟨m, fun _ => 0, g⟩ (fun r => ∀ c : Dev Cert.DwGIdeal.nD,
          r.2.mem ((c.tc : Thread Cert.DwGIdeal.nD Cert.DwGIdeal.τ).loc Cert.DwGIdeal.main_v0) = v0 c
          ∧ r.2.mem ((c.tc : Thread Cert.DwGIdeal.nD Cert.DwGIdeal.τ).loc Cert.DwGIdeal.main_arg0) = m ((c.tc : Thread Cert.DwGIdeal.nD Cert.DwGIdeal.τ).loc Cert.DwGIdeal.main_arg0)
          ∧ r.2.mem ((c.tc : Thread Cert.DwGIdeal.nD Cert.DwGIdeal.τ).loc Cert.DwGIdeal.main_arg1) = m ((c.tc : Thread Cert.DwGIdeal.nD Cert.DwGIdeal.τ).loc Cert.DwGIdeal.main_arg1))
      ∧ θ_run (Cert.DwGRefIdeal.defs (F := Ideal)) (onTc (τ := Cert.DwGRefIdeal.τ) (Cert.DwGRefIdeal.main (F := Ideal))) ⟨m', fun _ => 0, g'⟩ (fun r => ∀ c : Dev Cert.DwGRefIdeal.nD,
          r.2.mem ((c.tc : Thread Cert.DwGRefIdeal.nD Cert.DwGRefIdeal.τ).loc Cert.DwGRefIdeal.main_v5) = v0 c
          ∧ r.2.mem ((c.tc : Thread Cert.DwGRefIdeal.nD Cert.DwGRefIdeal.τ).loc Cert.DwGRefIdeal.main_arg0) = m' ((c.tc : Thread Cert.DwGRefIdeal.nD Cert.DwGRefIdeal.τ).loc Cert.DwGRefIdeal.main_arg0)
          ∧ r.2.mem ((c.tc : Thread Cert.DwGRefIdeal.nD Cert.DwGRefIdeal.τ).loc Cert.DwGRefIdeal.main_arg1) = m' ((c.tc : Thread Cert.DwGRefIdeal.nD Cert.DwGRefIdeal.τ).loc Cert.DwGRefIdeal.main_arg1))

def preserves_DwUp_DwUpIdeal : Prop :=
  True

def algebraic_DwUpIdeal_DwUpRefIdeal [hDwUpIdeal : Cert.DwUpIdeal.Facts] [hDwUpRefIdeal : Cert.DwUpRefIdeal.Facts] : Prop :=
  ∀ (m : (ℓ : Loc Cert.DwUpIdeal.nD Cert.DwUpIdeal.τ Cert.DwUpIdeal.sig) → Buf (Elt Ideal) ℓ) (g : Dev Cert.DwUpIdeal.nD → PrngReg)
    (m' : (ℓ : Loc Cert.DwUpRefIdeal.nD Cert.DwUpRefIdeal.τ Cert.DwUpRefIdeal.sig) → Buf (Elt Ideal) ℓ) (g' : Dev Cert.DwUpRefIdeal.nD → PrngReg), Pre_DwUpIdeal m →
    (∀ c : Dev Cert.DwUpIdeal.nD,
      m' ((c.tc : Thread Cert.DwUpRefIdeal.nD Cert.DwUpRefIdeal.τ).loc Cert.DwUpRefIdeal.main_arg0) = m ((c.tc : Thread Cert.DwUpIdeal.nD Cert.DwUpIdeal.τ).loc Cert.DwUpIdeal.main_arg0)
      ∧ m' ((c.tc : Thread Cert.DwUpRefIdeal.nD Cert.DwUpRefIdeal.τ).loc Cert.DwUpRefIdeal.main_arg1) = m ((c.tc : Thread Cert.DwUpIdeal.nD Cert.DwUpIdeal.τ).loc Cert.DwUpIdeal.main_arg1)) →
    ∃ (v0 : (c : Dev Cert.DwUpIdeal.nD) → Buf (Elt Ideal) ((c.tc : Thread Cert.DwUpIdeal.nD Cert.DwUpIdeal.τ).loc Cert.DwUpIdeal.main_v0)),
      θ_run (Cert.DwUpIdeal.defs (F := Ideal)) (onTc (τ := Cert.DwUpIdeal.τ) (Cert.DwUpIdeal.main (F := Ideal))) ⟨m, fun _ => 0, g⟩ (fun r => ∀ c : Dev Cert.DwUpIdeal.nD,
          r.2.mem ((c.tc : Thread Cert.DwUpIdeal.nD Cert.DwUpIdeal.τ).loc Cert.DwUpIdeal.main_v0) = v0 c
          ∧ r.2.mem ((c.tc : Thread Cert.DwUpIdeal.nD Cert.DwUpIdeal.τ).loc Cert.DwUpIdeal.main_arg0) = m ((c.tc : Thread Cert.DwUpIdeal.nD Cert.DwUpIdeal.τ).loc Cert.DwUpIdeal.main_arg0)
          ∧ r.2.mem ((c.tc : Thread Cert.DwUpIdeal.nD Cert.DwUpIdeal.τ).loc Cert.DwUpIdeal.main_arg1) = m ((c.tc : Thread Cert.DwUpIdeal.nD Cert.DwUpIdeal.τ).loc Cert.DwUpIdeal.main_arg1))
      ∧ θ_run (Cert.DwUpRefIdeal.defs (F := Ideal)) (onTc (τ := Cert.DwUpRefIdeal.τ) (Cert.DwUpRefIdeal.main (F := Ideal))) ⟨m', fun _ => 0, g'⟩ (fun r => ∀ c : Dev Cert.DwUpRefIdeal.nD,
          r.2.mem ((c.tc : Thread Cert.DwUpRefIdeal.nD Cert.DwUpRefIdeal.τ).loc Cert.DwUpRefIdeal.main_v5) = v0 c
          ∧ r.2.mem ((c.tc : Thread Cert.DwUpRefIdeal.nD Cert.DwUpRefIdeal.τ).loc Cert.DwUpRefIdeal.main_arg0) = m' ((c.tc : Thread Cert.DwUpRefIdeal.nD Cert.DwUpRefIdeal.τ).loc Cert.DwUpRefIdeal.main_arg0)
          ∧ r.2.mem ((c.tc : Thread Cert.DwUpRefIdeal.nD Cert.DwUpRefIdeal.τ).loc Cert.DwUpRefIdeal.main_arg1) = m' ((c.tc : Thread Cert.DwUpRefIdeal.nD Cert.DwUpRefIdeal.τ).loc Cert.DwUpRefIdeal.main_arg1))

def preserves_DwGlu_DwGluIdeal : Prop :=
  True

def algebraic_DwGluIdeal_DwGluRefIdeal [hDwGluIdeal : Cert.DwGluIdeal.Facts] [hDwGluRefIdeal : Cert.DwGluRefIdeal.Facts] : Prop :=
  ∀ (m : (ℓ : Loc Cert.DwGluIdeal.nD Cert.DwGluIdeal.τ Cert.DwGluIdeal.sig) → Buf (Elt Ideal) ℓ) (g : Dev Cert.DwGluIdeal.nD → PrngReg)
    (m' : (ℓ : Loc Cert.DwGluRefIdeal.nD Cert.DwGluRefIdeal.τ Cert.DwGluRefIdeal.sig) → Buf (Elt Ideal) ℓ) (g' : Dev Cert.DwGluRefIdeal.nD → PrngReg), Pre_DwGluIdeal m →
    (∀ c : Dev Cert.DwGluIdeal.nD,
      m' ((c.tc : Thread Cert.DwGluRefIdeal.nD Cert.DwGluRefIdeal.τ).loc Cert.DwGluRefIdeal.main_arg0) = m ((c.tc : Thread Cert.DwGluIdeal.nD Cert.DwGluIdeal.τ).loc Cert.DwGluIdeal.main_arg0)
      ∧ m' ((c.tc : Thread Cert.DwGluRefIdeal.nD Cert.DwGluRefIdeal.τ).loc Cert.DwGluRefIdeal.main_arg1) = m ((c.tc : Thread Cert.DwGluIdeal.nD Cert.DwGluIdeal.τ).loc Cert.DwGluIdeal.main_arg1)) →
    ∃ (v0 : (c : Dev Cert.DwGluIdeal.nD) → Buf (Elt Ideal) ((c.tc : Thread Cert.DwGluIdeal.nD Cert.DwGluIdeal.τ).loc Cert.DwGluIdeal.main_v0)),
      θ_run (Cert.DwGluIdeal.defs (F := Ideal)) (onTc (τ := Cert.DwGluIdeal.τ) (Cert.DwGluIdeal.main (F := Ideal))) ⟨m, fun _ => 0, g⟩ (fun r => ∀ c : Dev Cert.DwGluIdeal.nD,
          r.2.mem ((c.tc : Thread Cert.DwGluIdeal.nD Cert.DwGluIdeal.τ).loc Cert.DwGluIdeal.main_v0) = v0 c
          ∧ r.2.mem ((c.tc : Thread Cert.DwGluIdeal.nD Cert.DwGluIdeal.τ).loc Cert.DwGluIdeal.main_arg0) = m ((c.tc : Thread Cert.DwGluIdeal.nD Cert.DwGluIdeal.τ).loc Cert.DwGluIdeal.main_arg0)
          ∧ r.2.mem ((c.tc : Thread Cert.DwGluIdeal.nD Cert.DwGluIdeal.τ).loc Cert.DwGluIdeal.main_arg1) = m ((c.tc : Thread Cert.DwGluIdeal.nD Cert.DwGluIdeal.τ).loc Cert.DwGluIdeal.main_arg1))
      ∧ θ_run (Cert.DwGluRefIdeal.defs (F := Ideal)) (onTc (τ := Cert.DwGluRefIdeal.τ) (Cert.DwGluRefIdeal.main (F := Ideal))) ⟨m', fun _ => 0, g'⟩ (fun r => ∀ c : Dev Cert.DwGluRefIdeal.nD,
          r.2.mem ((c.tc : Thread Cert.DwGluRefIdeal.nD Cert.DwGluRefIdeal.τ).loc Cert.DwGluRefIdeal.main_v5) = v0 c
          ∧ r.2.mem ((c.tc : Thread Cert.DwGluRefIdeal.nD Cert.DwGluRefIdeal.τ).loc Cert.DwGluRefIdeal.main_arg0) = m' ((c.tc : Thread Cert.DwGluRefIdeal.nD Cert.DwGluRefIdeal.τ).loc Cert.DwGluRefIdeal.main_arg0)
          ∧ r.2.mem ((c.tc : Thread Cert.DwGluRefIdeal.nD Cert.DwGluRefIdeal.τ).loc Cert.DwGluRefIdeal.main_arg1) = m' ((c.tc : Thread Cert.DwGluRefIdeal.nD Cert.DwGluRefIdeal.τ).loc Cert.DwGluRefIdeal.main_arg1))

def preserves_ProjBwd_ProjBwdIdeal : Prop :=
  True

def algebraic_ProjBwdIdeal_ProjBwdRefIdeal_pre_real [hProjBwdIdeal : Cert.ProjBwdIdeal.Facts] [hProjBwdRefIdeal : Cert.ProjBwdRefIdeal.Facts] [hPre_real : Cert.Pre_real.Facts] : Prop :=
  ∀ (m : (ℓ : Loc Cert.ProjBwdIdeal.nD Cert.ProjBwdIdeal.τ Cert.ProjBwdIdeal.sig) → Buf (Elt Ideal) ℓ) (g : Dev Cert.ProjBwdIdeal.nD → PrngReg)
    (m' : (ℓ : Loc Cert.ProjBwdRefIdeal.nD Cert.ProjBwdRefIdeal.τ Cert.ProjBwdRefIdeal.sig) → Buf (Elt Ideal) ℓ) (g' : Dev Cert.ProjBwdRefIdeal.nD → PrngReg), Pre_ProjBwdIdeal_real m →
    (∀ c : Dev Cert.ProjBwdIdeal.nD,
      m' ((c.tc : Thread Cert.ProjBwdRefIdeal.nD Cert.ProjBwdRefIdeal.τ).loc Cert.ProjBwdRefIdeal.main_arg0) = m ((c.tc : Thread Cert.ProjBwdIdeal.nD Cert.ProjBwdIdeal.τ).loc Cert.ProjBwdIdeal.main_arg0)
      ∧ m' ((c.tc : Thread Cert.ProjBwdRefIdeal.nD Cert.ProjBwdRefIdeal.τ).loc Cert.ProjBwdRefIdeal.main_arg1) = m ((c.tc : Thread Cert.ProjBwdIdeal.nD Cert.ProjBwdIdeal.τ).loc Cert.ProjBwdIdeal.main_arg1)
      ∧ m' ((c.tc : Thread Cert.ProjBwdRefIdeal.nD Cert.ProjBwdRefIdeal.τ).loc Cert.ProjBwdRefIdeal.main_arg2) = m ((c.tc : Thread Cert.ProjBwdIdeal.nD Cert.ProjBwdIdeal.τ).loc Cert.ProjBwdIdeal.main_arg2)
      ∧ m' ((c.tc : Thread Cert.ProjBwdRefIdeal.nD Cert.ProjBwdRefIdeal.τ).loc Cert.ProjBwdRefIdeal.main_arg3) = m ((c.tc : Thread Cert.ProjBwdIdeal.nD Cert.ProjBwdIdeal.τ).loc Cert.ProjBwdIdeal.main_arg3)
      ∧ m' ((c.tc : Thread Cert.ProjBwdRefIdeal.nD Cert.ProjBwdRefIdeal.τ).loc Cert.ProjBwdRefIdeal.main_arg4) = m ((c.tc : Thread Cert.ProjBwdIdeal.nD Cert.ProjBwdIdeal.τ).loc Cert.ProjBwdIdeal.main_arg4)
      ∧ m' ((c.tc : Thread Cert.ProjBwdRefIdeal.nD Cert.ProjBwdRefIdeal.τ).loc Cert.ProjBwdRefIdeal.main_arg5) = m ((c.tc : Thread Cert.ProjBwdIdeal.nD Cert.ProjBwdIdeal.τ).loc Cert.ProjBwdIdeal.main_arg5)
      ∧ m' ((c.tc : Thread Cert.ProjBwdRefIdeal.nD Cert.ProjBwdRefIdeal.τ).loc Cert.ProjBwdRefIdeal.main_arg6) = m ((c.tc : Thread Cert.ProjBwdIdeal.nD Cert.ProjBwdIdeal.τ).loc Cert.ProjBwdIdeal.main_arg6)
      ∧ m' ((c.tc : Thread Cert.ProjBwdRefIdeal.nD Cert.ProjBwdRefIdeal.τ).loc Cert.ProjBwdRefIdeal.main_arg7) = m ((c.tc : Thread Cert.ProjBwdIdeal.nD Cert.ProjBwdIdeal.τ).loc Cert.ProjBwdIdeal.main_arg7)
      ∧ m' ((c.tc : Thread Cert.ProjBwdRefIdeal.nD Cert.ProjBwdRefIdeal.τ).loc Cert.ProjBwdRefIdeal.main_arg8) = m ((c.tc : Thread Cert.ProjBwdIdeal.nD Cert.ProjBwdIdeal.τ).loc Cert.ProjBwdIdeal.main_arg8)
      ∧ m' ((c.tc : Thread Cert.ProjBwdRefIdeal.nD Cert.ProjBwdRefIdeal.τ).loc Cert.ProjBwdRefIdeal.main_arg9) = m ((c.tc : Thread Cert.ProjBwdIdeal.nD Cert.ProjBwdIdeal.τ).loc Cert.ProjBwdIdeal.main_arg9)
      ∧ m' ((c.tc : Thread Cert.ProjBwdRefIdeal.nD Cert.ProjBwdRefIdeal.τ).loc Cert.ProjBwdRefIdeal.main_arg10) = m ((c.tc : Thread Cert.ProjBwdIdeal.nD Cert.ProjBwdIdeal.τ).loc Cert.ProjBwdIdeal.main_arg10)
      ∧ m' ((c.tc : Thread Cert.ProjBwdRefIdeal.nD Cert.ProjBwdRefIdeal.τ).loc Cert.ProjBwdRefIdeal.main_arg11) = m ((c.tc : Thread Cert.ProjBwdIdeal.nD Cert.ProjBwdIdeal.τ).loc Cert.ProjBwdIdeal.main_arg11)
      ∧ m' ((c.tc : Thread Cert.ProjBwdRefIdeal.nD Cert.ProjBwdRefIdeal.τ).loc Cert.ProjBwdRefIdeal.main_arg12) = m ((c.tc : Thread Cert.ProjBwdIdeal.nD Cert.ProjBwdIdeal.τ).loc Cert.ProjBwdIdeal.main_arg12)
      ∧ m' ((c.tc : Thread Cert.ProjBwdRefIdeal.nD Cert.ProjBwdRefIdeal.τ).loc Cert.ProjBwdRefIdeal.main_arg13) = m ((c.tc : Thread Cert.ProjBwdIdeal.nD Cert.ProjBwdIdeal.τ).loc Cert.ProjBwdIdeal.main_arg13)
      ∧ m' ((c.tc : Thread Cert.ProjBwdRefIdeal.nD Cert.ProjBwdRefIdeal.τ).loc Cert.ProjBwdRefIdeal.main_arg14) = m ((c.tc : Thread Cert.ProjBwdIdeal.nD Cert.ProjBwdIdeal.τ).loc Cert.ProjBwdIdeal.main_arg14)) →
    ∃ (v0 : (c : Dev Cert.ProjBwdIdeal.nD) → Buf (Elt Ideal) ((c.tc : Thread Cert.ProjBwdIdeal.nD Cert.ProjBwdIdeal.τ).loc Cert.ProjBwdIdeal.main_v7_0)) (v1 : (c : Dev Cert.ProjBwdIdeal.nD) → Buf (Elt Ideal) ((c.tc : Thread Cert.ProjBwdIdeal.nD Cert.ProjBwdIdeal.τ).loc Cert.ProjBwdIdeal.main_v7_1)) (v2 : (c : Dev Cert.ProjBwdIdeal.nD) → Buf (Elt Ideal) ((c.tc : Thread Cert.ProjBwdIdeal.nD Cert.ProjBwdIdeal.τ).loc Cert.ProjBwdIdeal.main_v7_2)) (v3 : (c : Dev Cert.ProjBwdIdeal.nD) → Buf (Elt Ideal) ((c.tc : Thread Cert.ProjBwdIdeal.nD Cert.ProjBwdIdeal.τ).loc Cert.ProjBwdIdeal.main_v7_3)),
      θ_run (Cert.ProjBwdIdeal.defs (F := Ideal)) (onTc (τ := Cert.ProjBwdIdeal.τ) (Cert.ProjBwdIdeal.main (F := Ideal))) ⟨m, fun _ => 0, g⟩ (fun r => ∀ c : Dev Cert.ProjBwdIdeal.nD,
          r.2.mem ((c.tc : Thread Cert.ProjBwdIdeal.nD Cert.ProjBwdIdeal.τ).loc Cert.ProjBwdIdeal.main_v7_0) = v0 c
          ∧ r.2.mem ((c.tc : Thread Cert.ProjBwdIdeal.nD Cert.ProjBwdIdeal.τ).loc Cert.ProjBwdIdeal.main_v7_1) = v1 c
          ∧ r.2.mem ((c.tc : Thread Cert.ProjBwdIdeal.nD Cert.ProjBwdIdeal.τ).loc Cert.ProjBwdIdeal.main_v7_2) = v2 c
          ∧ r.2.mem ((c.tc : Thread Cert.ProjBwdIdeal.nD Cert.ProjBwdIdeal.τ).loc Cert.ProjBwdIdeal.main_v7_3) = v3 c
          ∧ r.2.mem ((c.tc : Thread Cert.ProjBwdIdeal.nD Cert.ProjBwdIdeal.τ).loc Cert.ProjBwdIdeal.main_arg0) = m ((c.tc : Thread Cert.ProjBwdIdeal.nD Cert.ProjBwdIdeal.τ).loc Cert.ProjBwdIdeal.main_arg0)
          ∧ r.2.mem ((c.tc : Thread Cert.ProjBwdIdeal.nD Cert.ProjBwdIdeal.τ).loc Cert.ProjBwdIdeal.main_arg1) = m ((c.tc : Thread Cert.ProjBwdIdeal.nD Cert.ProjBwdIdeal.τ).loc Cert.ProjBwdIdeal.main_arg1)
          ∧ r.2.mem ((c.tc : Thread Cert.ProjBwdIdeal.nD Cert.ProjBwdIdeal.τ).loc Cert.ProjBwdIdeal.main_arg2) = m ((c.tc : Thread Cert.ProjBwdIdeal.nD Cert.ProjBwdIdeal.τ).loc Cert.ProjBwdIdeal.main_arg2)
          ∧ r.2.mem ((c.tc : Thread Cert.ProjBwdIdeal.nD Cert.ProjBwdIdeal.τ).loc Cert.ProjBwdIdeal.main_arg3) = m ((c.tc : Thread Cert.ProjBwdIdeal.nD Cert.ProjBwdIdeal.τ).loc Cert.ProjBwdIdeal.main_arg3)
          ∧ r.2.mem ((c.tc : Thread Cert.ProjBwdIdeal.nD Cert.ProjBwdIdeal.τ).loc Cert.ProjBwdIdeal.main_arg4) = m ((c.tc : Thread Cert.ProjBwdIdeal.nD Cert.ProjBwdIdeal.τ).loc Cert.ProjBwdIdeal.main_arg4)
          ∧ r.2.mem ((c.tc : Thread Cert.ProjBwdIdeal.nD Cert.ProjBwdIdeal.τ).loc Cert.ProjBwdIdeal.main_arg5) = m ((c.tc : Thread Cert.ProjBwdIdeal.nD Cert.ProjBwdIdeal.τ).loc Cert.ProjBwdIdeal.main_arg5)
          ∧ r.2.mem ((c.tc : Thread Cert.ProjBwdIdeal.nD Cert.ProjBwdIdeal.τ).loc Cert.ProjBwdIdeal.main_arg6) = m ((c.tc : Thread Cert.ProjBwdIdeal.nD Cert.ProjBwdIdeal.τ).loc Cert.ProjBwdIdeal.main_arg6)
          ∧ r.2.mem ((c.tc : Thread Cert.ProjBwdIdeal.nD Cert.ProjBwdIdeal.τ).loc Cert.ProjBwdIdeal.main_arg7) = m ((c.tc : Thread Cert.ProjBwdIdeal.nD Cert.ProjBwdIdeal.τ).loc Cert.ProjBwdIdeal.main_arg7)
          ∧ r.2.mem ((c.tc : Thread Cert.ProjBwdIdeal.nD Cert.ProjBwdIdeal.τ).loc Cert.ProjBwdIdeal.main_arg8) = m ((c.tc : Thread Cert.ProjBwdIdeal.nD Cert.ProjBwdIdeal.τ).loc Cert.ProjBwdIdeal.main_arg8)
          ∧ r.2.mem ((c.tc : Thread Cert.ProjBwdIdeal.nD Cert.ProjBwdIdeal.τ).loc Cert.ProjBwdIdeal.main_arg9) = m ((c.tc : Thread Cert.ProjBwdIdeal.nD Cert.ProjBwdIdeal.τ).loc Cert.ProjBwdIdeal.main_arg9)
          ∧ r.2.mem ((c.tc : Thread Cert.ProjBwdIdeal.nD Cert.ProjBwdIdeal.τ).loc Cert.ProjBwdIdeal.main_arg10) = m ((c.tc : Thread Cert.ProjBwdIdeal.nD Cert.ProjBwdIdeal.τ).loc Cert.ProjBwdIdeal.main_arg10)
          ∧ r.2.mem ((c.tc : Thread Cert.ProjBwdIdeal.nD Cert.ProjBwdIdeal.τ).loc Cert.ProjBwdIdeal.main_arg11) = m ((c.tc : Thread Cert.ProjBwdIdeal.nD Cert.ProjBwdIdeal.τ).loc Cert.ProjBwdIdeal.main_arg11)
          ∧ r.2.mem ((c.tc : Thread Cert.ProjBwdIdeal.nD Cert.ProjBwdIdeal.τ).loc Cert.ProjBwdIdeal.main_arg12) = m ((c.tc : Thread Cert.ProjBwdIdeal.nD Cert.ProjBwdIdeal.τ).loc Cert.ProjBwdIdeal.main_arg12)
          ∧ r.2.mem ((c.tc : Thread Cert.ProjBwdIdeal.nD Cert.ProjBwdIdeal.τ).loc Cert.ProjBwdIdeal.main_arg13) = m ((c.tc : Thread Cert.ProjBwdIdeal.nD Cert.ProjBwdIdeal.τ).loc Cert.ProjBwdIdeal.main_arg13)
          ∧ r.2.mem ((c.tc : Thread Cert.ProjBwdIdeal.nD Cert.ProjBwdIdeal.τ).loc Cert.ProjBwdIdeal.main_arg14) = m ((c.tc : Thread Cert.ProjBwdIdeal.nD Cert.ProjBwdIdeal.τ).loc Cert.ProjBwdIdeal.main_arg14))
      ∧ θ_run (Cert.ProjBwdRefIdeal.defs (F := Ideal)) (onTc (τ := Cert.ProjBwdRefIdeal.τ) (Cert.ProjBwdRefIdeal.main (F := Ideal))) ⟨m', fun _ => 0, g'⟩ (fun r => ∀ c : Dev Cert.ProjBwdRefIdeal.nD,
          r.2.mem ((c.tc : Thread Cert.ProjBwdRefIdeal.nD Cert.ProjBwdRefIdeal.τ).loc Cert.ProjBwdRefIdeal.main_v65) = v0 c
          ∧ r.2.mem ((c.tc : Thread Cert.ProjBwdRefIdeal.nD Cert.ProjBwdRefIdeal.τ).loc Cert.ProjBwdRefIdeal.main_v40) = v1 c
          ∧ r.2.mem ((c.tc : Thread Cert.ProjBwdRefIdeal.nD Cert.ProjBwdRefIdeal.τ).loc Cert.ProjBwdRefIdeal.main_v43) = v2 c
          ∧ r.2.mem ((c.tc : Thread Cert.ProjBwdRefIdeal.nD Cert.ProjBwdRefIdeal.τ).loc Cert.ProjBwdRefIdeal.main_v48) = v3 c
          ∧ r.2.mem ((c.tc : Thread Cert.ProjBwdRefIdeal.nD Cert.ProjBwdRefIdeal.τ).loc Cert.ProjBwdRefIdeal.main_arg0) = m' ((c.tc : Thread Cert.ProjBwdRefIdeal.nD Cert.ProjBwdRefIdeal.τ).loc Cert.ProjBwdRefIdeal.main_arg0)
          ∧ r.2.mem ((c.tc : Thread Cert.ProjBwdRefIdeal.nD Cert.ProjBwdRefIdeal.τ).loc Cert.ProjBwdRefIdeal.main_arg1) = m' ((c.tc : Thread Cert.ProjBwdRefIdeal.nD Cert.ProjBwdRefIdeal.τ).loc Cert.ProjBwdRefIdeal.main_arg1)
          ∧ r.2.mem ((c.tc : Thread Cert.ProjBwdRefIdeal.nD Cert.ProjBwdRefIdeal.τ).loc Cert.ProjBwdRefIdeal.main_arg2) = m' ((c.tc : Thread Cert.ProjBwdRefIdeal.nD Cert.ProjBwdRefIdeal.τ).loc Cert.ProjBwdRefIdeal.main_arg2)
          ∧ r.2.mem ((c.tc : Thread Cert.ProjBwdRefIdeal.nD Cert.ProjBwdRefIdeal.τ).loc Cert.ProjBwdRefIdeal.main_arg3) = m' ((c.tc : Thread Cert.ProjBwdRefIdeal.nD Cert.ProjBwdRefIdeal.τ).loc Cert.ProjBwdRefIdeal.main_arg3)
          ∧ r.2.mem ((c.tc : Thread Cert.ProjBwdRefIdeal.nD Cert.ProjBwdRefIdeal.τ).loc Cert.ProjBwdRefIdeal.main_arg4) = m' ((c.tc : Thread Cert.ProjBwdRefIdeal.nD Cert.ProjBwdRefIdeal.τ).loc Cert.ProjBwdRefIdeal.main_arg4)
          ∧ r.2.mem ((c.tc : Thread Cert.ProjBwdRefIdeal.nD Cert.ProjBwdRefIdeal.τ).loc Cert.ProjBwdRefIdeal.main_arg5) = m' ((c.tc : Thread Cert.ProjBwdRefIdeal.nD Cert.ProjBwdRefIdeal.τ).loc Cert.ProjBwdRefIdeal.main_arg5)
          ∧ r.2.mem ((c.tc : Thread Cert.ProjBwdRefIdeal.nD Cert.ProjBwdRefIdeal.τ).loc Cert.ProjBwdRefIdeal.main_arg6) = m' ((c.tc : Thread Cert.ProjBwdRefIdeal.nD Cert.ProjBwdRefIdeal.τ).loc Cert.ProjBwdRefIdeal.main_arg6)
          ∧ r.2.mem ((c.tc : Thread Cert.ProjBwdRefIdeal.nD Cert.ProjBwdRefIdeal.τ).loc Cert.ProjBwdRefIdeal.main_arg7) = m' ((c.tc : Thread Cert.ProjBwdRefIdeal.nD Cert.ProjBwdRefIdeal.τ).loc Cert.ProjBwdRefIdeal.main_arg7)
          ∧ r.2.mem ((c.tc : Thread Cert.ProjBwdRefIdeal.nD Cert.ProjBwdRefIdeal.τ).loc Cert.ProjBwdRefIdeal.main_arg8) = m' ((c.tc : Thread Cert.ProjBwdRefIdeal.nD Cert.ProjBwdRefIdeal.τ).loc Cert.ProjBwdRefIdeal.main_arg8)
          ∧ r.2.mem ((c.tc : Thread Cert.ProjBwdRefIdeal.nD Cert.ProjBwdRefIdeal.τ).loc Cert.ProjBwdRefIdeal.main_arg9) = m' ((c.tc : Thread Cert.ProjBwdRefIdeal.nD Cert.ProjBwdRefIdeal.τ).loc Cert.ProjBwdRefIdeal.main_arg9)
          ∧ r.2.mem ((c.tc : Thread Cert.ProjBwdRefIdeal.nD Cert.ProjBwdRefIdeal.τ).loc Cert.ProjBwdRefIdeal.main_arg10) = m' ((c.tc : Thread Cert.ProjBwdRefIdeal.nD Cert.ProjBwdRefIdeal.τ).loc Cert.ProjBwdRefIdeal.main_arg10)
          ∧ r.2.mem ((c.tc : Thread Cert.ProjBwdRefIdeal.nD Cert.ProjBwdRefIdeal.τ).loc Cert.ProjBwdRefIdeal.main_arg11) = m' ((c.tc : Thread Cert.ProjBwdRefIdeal.nD Cert.ProjBwdRefIdeal.τ).loc Cert.ProjBwdRefIdeal.main_arg11)
          ∧ r.2.mem ((c.tc : Thread Cert.ProjBwdRefIdeal.nD Cert.ProjBwdRefIdeal.τ).loc Cert.ProjBwdRefIdeal.main_arg12) = m' ((c.tc : Thread Cert.ProjBwdRefIdeal.nD Cert.ProjBwdRefIdeal.τ).loc Cert.ProjBwdRefIdeal.main_arg12)
          ∧ r.2.mem ((c.tc : Thread Cert.ProjBwdRefIdeal.nD Cert.ProjBwdRefIdeal.τ).loc Cert.ProjBwdRefIdeal.main_arg13) = m' ((c.tc : Thread Cert.ProjBwdRefIdeal.nD Cert.ProjBwdRefIdeal.τ).loc Cert.ProjBwdRefIdeal.main_arg13)
          ∧ r.2.mem ((c.tc : Thread Cert.ProjBwdRefIdeal.nD Cert.ProjBwdRefIdeal.τ).loc Cert.ProjBwdRefIdeal.main_arg14) = m' ((c.tc : Thread Cert.ProjBwdRefIdeal.nD Cert.ProjBwdRefIdeal.τ).loc Cert.ProjBwdRefIdeal.main_arg14))

def preserves_AdamIn_AdamInIdeal : Prop :=
  True

def algebraic_AdamInIdeal_AdamInRefIdeal [hAdamInIdeal : Cert.AdamInIdeal.Facts] [hAdamInRefIdeal : Cert.AdamInRefIdeal.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.AdamInRefIdeal.nD Cert.AdamInRefIdeal.τ Cert.AdamInRefIdeal.sig) → Buf (Elt Ideal) ℓ) (g' : Dev Cert.AdamInRefIdeal.nD → PrngReg), Pre_AdamInIdeal m →
    (∀ c : Dev Cert.AdamInIdeal.nD,
      m' ((c.tc : Thread Cert.AdamInRefIdeal.nD Cert.AdamInRefIdeal.τ).loc Cert.AdamInRefIdeal.main_arg0) = m ((c.tc : Thread Cert.AdamInIdeal.nD Cert.AdamInIdeal.τ).loc Cert.AdamInIdeal.main_arg0)
      ∧ m' ((c.tc : Thread Cert.AdamInRefIdeal.nD Cert.AdamInRefIdeal.τ).loc Cert.AdamInRefIdeal.main_arg1) = m ((c.tc : Thread Cert.AdamInIdeal.nD Cert.AdamInIdeal.τ).loc Cert.AdamInIdeal.main_arg1)
      ∧ m' ((c.tc : Thread Cert.AdamInRefIdeal.nD Cert.AdamInRefIdeal.τ).loc Cert.AdamInRefIdeal.main_arg2) = m ((c.tc : Thread Cert.AdamInIdeal.nD Cert.AdamInIdeal.τ).loc Cert.AdamInIdeal.main_arg2)
      ∧ m' ((c.tc : Thread Cert.AdamInRefIdeal.nD Cert.AdamInRefIdeal.τ).loc Cert.AdamInRefIdeal.main_arg3) = m ((c.tc : Thread Cert.AdamInIdeal.nD Cert.AdamInIdeal.τ).loc Cert.AdamInIdeal.main_arg3)) →
    ∃ (v0 : (c : Dev Cert.AdamInIdeal.nD) → Buf (Elt Ideal) ((c.tc : Thread Cert.AdamInIdeal.nD Cert.AdamInIdeal.τ).loc Cert.AdamInIdeal.main_v0_0)) (v1 : (c : Dev Cert.AdamInIdeal.nD) → Buf (Elt Ideal) ((c.tc : Thread Cert.AdamInIdeal.nD Cert.AdamInIdeal.τ).loc Cert.AdamInIdeal.main_v0_1)) (v2 : (c : Dev Cert.AdamInIdeal.nD) → Buf (Elt Ideal) ((c.tc : Thread Cert.AdamInIdeal.nD Cert.AdamInIdeal.τ).loc Cert.AdamInIdeal.main_v0_2)) (v3 : (c : Dev Cert.AdamInIdeal.nD) → Buf (Elt Ideal) ((c.tc : Thread Cert.AdamInIdeal.nD Cert.AdamInIdeal.τ).loc Cert.AdamInIdeal.main_v0_3)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v0_0) = v0 c
          ∧ r.2.mem ((c.tc : Thread Cert.AdamInIdeal.nD Cert.AdamInIdeal.τ).loc Cert.AdamInIdeal.main_v0_1) = v1 c
          ∧ r.2.mem ((c.tc : Thread Cert.AdamInIdeal.nD Cert.AdamInIdeal.τ).loc Cert.AdamInIdeal.main_v0_2) = v2 c
          ∧ r.2.mem ((c.tc : Thread Cert.AdamInIdeal.nD Cert.AdamInIdeal.τ).loc Cert.AdamInIdeal.main_v0_3) = v3 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ θ_run (Cert.AdamInRefIdeal.defs (F := Ideal)) (onTc (τ := Cert.AdamInRefIdeal.τ) (Cert.AdamInRefIdeal.main (F := Ideal))) ⟨m', fun _ => 0, g'⟩ (fun r => ∀ c : Dev Cert.AdamInRefIdeal.nD,
          r.2.mem ((c.tc : Thread Cert.AdamInRefIdeal.nD Cert.AdamInRefIdeal.τ).loc Cert.AdamInRefIdeal.main_v1) = v0 c
          ∧ r.2.mem ((c.tc : Thread Cert.AdamInRefIdeal.nD Cert.AdamInRefIdeal.τ).loc Cert.AdamInRefIdeal.main_v25) = v1 c
          ∧ r.2.mem ((c.tc : Thread Cert.AdamInRefIdeal.nD Cert.AdamInRefIdeal.τ).loc Cert.AdamInRefIdeal.main_v6) = v2 c
          ∧ r.2.mem ((c.tc : Thread Cert.AdamInRefIdeal.nD Cert.AdamInRefIdeal.τ).loc Cert.AdamInRefIdeal.main_v12) = v3 c
          ∧ r.2.mem ((c.tc : Thread Cert.AdamInRefIdeal.nD Cert.AdamInRefIdeal.τ).loc Cert.AdamInRefIdeal.main_arg0) = m' ((c.tc : Thread Cert.AdamInRefIdeal.nD Cert.AdamInRefIdeal.τ).loc Cert.AdamInRefIdeal.main_arg0)
          ∧ r.2.mem ((c.tc : Thread Cert.AdamInRefIdeal.nD Cert.AdamInRefIdeal.τ).loc Cert.AdamInRefIdeal.main_arg1) = m' ((c.tc : Thread Cert.AdamInRefIdeal.nD Cert.AdamInRefIdeal.τ).loc Cert.AdamInRefIdeal.main_arg1)
          ∧ r.2.mem ((c.tc : Thread Cert.AdamInRefIdeal.nD Cert.AdamInRefIdeal.τ).loc Cert.AdamInRefIdeal.main_arg2) = m' ((c.tc : Thread Cert.AdamInRefIdeal.nD Cert.AdamInRefIdeal.τ).loc Cert.AdamInRefIdeal.main_arg2)
          ∧ r.2.mem ((c.tc : Thread Cert.AdamInRefIdeal.nD Cert.AdamInRefIdeal.τ).loc Cert.AdamInRefIdeal.main_arg3) = m' ((c.tc : Thread Cert.AdamInRefIdeal.nD Cert.AdamInRefIdeal.τ).loc Cert.AdamInRefIdeal.main_arg3))

def preserves_AdamGlu_AdamGluIdeal : Prop :=
  True

def algebraic_AdamGluIdeal_AdamGluRefIdeal [hAdamGluIdeal : Cert.AdamGluIdeal.Facts] [hAdamGluRefIdeal : Cert.AdamGluRefIdeal.Facts] : Prop :=
  ∀ (m : (ℓ : Loc Cert.AdamGluIdeal.nD Cert.AdamGluIdeal.τ Cert.AdamGluIdeal.sig) → Buf (Elt Ideal) ℓ) (g : Dev Cert.AdamGluIdeal.nD → PrngReg)
    (m' : (ℓ : Loc Cert.AdamGluRefIdeal.nD Cert.AdamGluRefIdeal.τ Cert.AdamGluRefIdeal.sig) → Buf (Elt Ideal) ℓ) (g' : Dev Cert.AdamGluRefIdeal.nD → PrngReg), Pre_AdamGluIdeal m →
    (∀ c : Dev Cert.AdamGluIdeal.nD,
      m' ((c.tc : Thread Cert.AdamGluRefIdeal.nD Cert.AdamGluRefIdeal.τ).loc Cert.AdamGluRefIdeal.main_arg0) = m ((c.tc : Thread Cert.AdamGluIdeal.nD Cert.AdamGluIdeal.τ).loc Cert.AdamGluIdeal.main_arg0)
      ∧ m' ((c.tc : Thread Cert.AdamGluRefIdeal.nD Cert.AdamGluRefIdeal.τ).loc Cert.AdamGluRefIdeal.main_arg1) = m ((c.tc : Thread Cert.AdamGluIdeal.nD Cert.AdamGluIdeal.τ).loc Cert.AdamGluIdeal.main_arg1)
      ∧ m' ((c.tc : Thread Cert.AdamGluRefIdeal.nD Cert.AdamGluRefIdeal.τ).loc Cert.AdamGluRefIdeal.main_arg2) = m ((c.tc : Thread Cert.AdamGluIdeal.nD Cert.AdamGluIdeal.τ).loc Cert.AdamGluIdeal.main_arg2)
      ∧ m' ((c.tc : Thread Cert.AdamGluRefIdeal.nD Cert.AdamGluRefIdeal.τ).loc Cert.AdamGluRefIdeal.main_arg3) = m ((c.tc : Thread Cert.AdamGluIdeal.nD Cert.AdamGluIdeal.τ).loc Cert.AdamGluIdeal.main_arg3)) →
    ∃ (v0 : (c : Dev Cert.AdamGluIdeal.nD) → Buf (Elt Ideal) ((c.tc : Thread Cert.AdamGluIdeal.nD Cert.AdamGluIdeal.τ).loc Cert.AdamGluIdeal.main_v0_0)) (v1 : (c : Dev Cert.AdamGluIdeal.nD) → Buf (Elt Ideal) ((c.tc : Thread Cert.AdamGluIdeal.nD Cert.AdamGluIdeal.τ).loc Cert.AdamGluIdeal.main_v0_1)) (v2 : (c : Dev Cert.AdamGluIdeal.nD) → Buf (Elt Ideal) ((c.tc : Thread Cert.AdamGluIdeal.nD Cert.AdamGluIdeal.τ).loc Cert.AdamGluIdeal.main_v0_2)) (v3 : (c : Dev Cert.AdamGluIdeal.nD) → Buf (Elt Ideal) ((c.tc : Thread Cert.AdamGluIdeal.nD Cert.AdamGluIdeal.τ).loc Cert.AdamGluIdeal.main_v0_3)),
      θ_run (Cert.AdamGluIdeal.defs (F := Ideal)) (onTc (τ := Cert.AdamGluIdeal.τ) (Cert.AdamGluIdeal.main (F := Ideal))) ⟨m, fun _ => 0, g⟩ (fun r => ∀ c : Dev Cert.AdamGluIdeal.nD,
          r.2.mem ((c.tc : Thread Cert.AdamGluIdeal.nD Cert.AdamGluIdeal.τ).loc Cert.AdamGluIdeal.main_v0_0) = v0 c
          ∧ r.2.mem ((c.tc : Thread Cert.AdamGluIdeal.nD Cert.AdamGluIdeal.τ).loc Cert.AdamGluIdeal.main_v0_1) = v1 c
          ∧ r.2.mem ((c.tc : Thread Cert.AdamGluIdeal.nD Cert.AdamGluIdeal.τ).loc Cert.AdamGluIdeal.main_v0_2) = v2 c
          ∧ r.2.mem ((c.tc : Thread Cert.AdamGluIdeal.nD Cert.AdamGluIdeal.τ).loc Cert.AdamGluIdeal.main_v0_3) = v3 c
          ∧ r.2.mem ((c.tc : Thread Cert.AdamGluIdeal.nD Cert.AdamGluIdeal.τ).loc Cert.AdamGluIdeal.main_arg0) = m ((c.tc : Thread Cert.AdamGluIdeal.nD Cert.AdamGluIdeal.τ).loc Cert.AdamGluIdeal.main_arg0)
          ∧ r.2.mem ((c.tc : Thread Cert.AdamGluIdeal.nD Cert.AdamGluIdeal.τ).loc Cert.AdamGluIdeal.main_arg1) = m ((c.tc : Thread Cert.AdamGluIdeal.nD Cert.AdamGluIdeal.τ).loc Cert.AdamGluIdeal.main_arg1)
          ∧ r.2.mem ((c.tc : Thread Cert.AdamGluIdeal.nD Cert.AdamGluIdeal.τ).loc Cert.AdamGluIdeal.main_arg2) = m ((c.tc : Thread Cert.AdamGluIdeal.nD Cert.AdamGluIdeal.τ).loc Cert.AdamGluIdeal.main_arg2)
          ∧ r.2.mem ((c.tc : Thread Cert.AdamGluIdeal.nD Cert.AdamGluIdeal.τ).loc Cert.AdamGluIdeal.main_arg3) = m ((c.tc : Thread Cert.AdamGluIdeal.nD Cert.AdamGluIdeal.τ).loc Cert.AdamGluIdeal.main_arg3))
      ∧ θ_run (Cert.AdamGluRefIdeal.defs (F := Ideal)) (onTc (τ := Cert.AdamGluRefIdeal.τ) (Cert.AdamGluRefIdeal.main (F := Ideal))) ⟨m', fun _ => 0, g'⟩ (fun r => ∀ c : Dev Cert.AdamGluRefIdeal.nD,
          r.2.mem ((c.tc : Thread Cert.AdamGluRefIdeal.nD Cert.AdamGluRefIdeal.τ).loc Cert.AdamGluRefIdeal.main_v1) = v0 c
          ∧ r.2.mem ((c.tc : Thread Cert.AdamGluRefIdeal.nD Cert.AdamGluRefIdeal.τ).loc Cert.AdamGluRefIdeal.main_v25) = v1 c
          ∧ r.2.mem ((c.tc : Thread Cert.AdamGluRefIdeal.nD Cert.AdamGluRefIdeal.τ).loc Cert.AdamGluRefIdeal.main_v6) = v2 c
          ∧ r.2.mem ((c.tc : Thread Cert.AdamGluRefIdeal.nD Cert.AdamGluRefIdeal.τ).loc Cert.AdamGluRefIdeal.main_v12) = v3 c
          ∧ r.2.mem ((c.tc : Thread Cert.AdamGluRefIdeal.nD Cert.AdamGluRefIdeal.τ).loc Cert.AdamGluRefIdeal.main_arg0) = m' ((c.tc : Thread Cert.AdamGluRefIdeal.nD Cert.AdamGluRefIdeal.τ).loc Cert.AdamGluRefIdeal.main_arg0)
          ∧ r.2.mem ((c.tc : Thread Cert.AdamGluRefIdeal.nD Cert.AdamGluRefIdeal.τ).loc Cert.AdamGluRefIdeal.main_arg1) = m' ((c.tc : Thread Cert.AdamGluRefIdeal.nD Cert.AdamGluRefIdeal.τ).loc Cert.AdamGluRefIdeal.main_arg1)
          ∧ r.2.mem ((c.tc : Thread Cert.AdamGluRefIdeal.nD Cert.AdamGluRefIdeal.τ).loc Cert.AdamGluRefIdeal.main_arg2) = m' ((c.tc : Thread Cert.AdamGluRefIdeal.nD Cert.AdamGluRefIdeal.τ).loc Cert.AdamGluRefIdeal.main_arg2)
          ∧ r.2.mem ((c.tc : Thread Cert.AdamGluRefIdeal.nD Cert.AdamGluRefIdeal.τ).loc Cert.AdamGluRefIdeal.main_arg3) = m' ((c.tc : Thread Cert.AdamGluRefIdeal.nD Cert.AdamGluRefIdeal.τ).loc Cert.AdamGluRefIdeal.main_arg3))

def preserves_AdamUp_AdamUpIdeal : Prop :=
  True

def algebraic_AdamUpIdeal_AdamUpRefIdeal [hAdamUpIdeal : Cert.AdamUpIdeal.Facts] [hAdamUpRefIdeal : Cert.AdamUpRefIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg)
    (m' : (ℓ : Loc Cert.AdamUpRefIdeal.nD Cert.AdamUpRefIdeal.τ Cert.AdamUpRefIdeal.sig) → Buf (Elt Ideal) ℓ) (g' : Dev Cert.AdamUpRefIdeal.nD → PrngReg), Pre_AdamUpIdeal m →
    (∀ c : Dev Cert.AdamUpIdeal.nD,
      m' ((c.tc : Thread Cert.AdamUpRefIdeal.nD Cert.AdamUpRefIdeal.τ).loc Cert.AdamUpRefIdeal.main_arg0) = m ((c.tc : Thread Cert.AdamUpIdeal.nD Cert.AdamUpIdeal.τ).loc Cert.AdamUpIdeal.main_arg0)
      ∧ m' ((c.tc : Thread Cert.AdamUpRefIdeal.nD Cert.AdamUpRefIdeal.τ).loc Cert.AdamUpRefIdeal.main_arg1) = m ((c.tc : Thread Cert.AdamUpIdeal.nD Cert.AdamUpIdeal.τ).loc Cert.AdamUpIdeal.main_arg1)
      ∧ m' ((c.tc : Thread Cert.AdamUpRefIdeal.nD Cert.AdamUpRefIdeal.τ).loc Cert.AdamUpRefIdeal.main_arg2) = m ((c.tc : Thread Cert.AdamUpIdeal.nD Cert.AdamUpIdeal.τ).loc Cert.AdamUpIdeal.main_arg2)
      ∧ m' ((c.tc : Thread Cert.AdamUpRefIdeal.nD Cert.AdamUpRefIdeal.τ).loc Cert.AdamUpRefIdeal.main_arg3) = m ((c.tc : Thread Cert.AdamUpIdeal.nD Cert.AdamUpIdeal.τ).loc Cert.AdamUpIdeal.main_arg3)) →
    ∃ (v0 : (c : Dev Cert.AdamUpIdeal.nD) → Buf (Elt Ideal) ((c.tc : Thread Cert.AdamUpIdeal.nD Cert.AdamUpIdeal.τ).loc Cert.AdamUpIdeal.main_v0_0)) (v1 : (c : Dev Cert.AdamUpIdeal.nD) → Buf (Elt Ideal) ((c.tc : Thread Cert.AdamUpIdeal.nD Cert.AdamUpIdeal.τ).loc Cert.AdamUpIdeal.main_v0_1)) (v2 : (c : Dev Cert.AdamUpIdeal.nD) → Buf (Elt Ideal) ((c.tc : Thread Cert.AdamUpIdeal.nD Cert.AdamUpIdeal.τ).loc Cert.AdamUpIdeal.main_v0_2)) (v3 : (c : Dev Cert.AdamUpIdeal.nD) → Buf (Elt Ideal) ((c.tc : Thread Cert.AdamUpIdeal.nD Cert.AdamUpIdeal.τ).loc Cert.AdamUpIdeal.main_v0_3)),
      θ_run (Cert.AdamUpIdeal.defs (F := Ideal)) (onTc (τ := Cert.AdamUpIdeal.τ) (Cert.AdamUpIdeal.main (F := Ideal))) ⟨m, fun _ => 0, g⟩ (fun r => ∀ c : Dev Cert.AdamUpIdeal.nD,
          r.2.mem ((c.tc : Thread Cert.AdamUpIdeal.nD Cert.AdamUpIdeal.τ).loc Cert.AdamUpIdeal.main_v0_0) = v0 c
          ∧ r.2.mem ((c.tc : Thread Cert.AdamUpIdeal.nD Cert.AdamUpIdeal.τ).loc Cert.AdamUpIdeal.main_v0_1) = v1 c
          ∧ r.2.mem ((c.tc : Thread Cert.AdamUpIdeal.nD Cert.AdamUpIdeal.τ).loc Cert.AdamUpIdeal.main_v0_2) = v2 c
          ∧ r.2.mem ((c.tc : Thread Cert.AdamUpIdeal.nD Cert.AdamUpIdeal.τ).loc Cert.AdamUpIdeal.main_v0_3) = v3 c
          ∧ r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
          ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
          ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
          ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3))
      ∧ θ_run (Cert.AdamUpRefIdeal.defs (F := Ideal)) (onTc (τ := Cert.AdamUpRefIdeal.τ) (Cert.AdamUpRefIdeal.main (F := Ideal))) ⟨m', fun _ => 0, g'⟩ (fun r => ∀ c : Dev Cert.AdamUpRefIdeal.nD,
          r.2.mem ((c.tc : Thread Cert.AdamUpRefIdeal.nD Cert.AdamUpRefIdeal.τ).loc Cert.AdamUpRefIdeal.main_v1) = v0 c
          ∧ r.2.mem ((c.tc : Thread Cert.AdamUpRefIdeal.nD Cert.AdamUpRefIdeal.τ).loc Cert.AdamUpRefIdeal.main_v25) = v1 c
          ∧ r.2.mem ((c.tc : Thread Cert.AdamUpRefIdeal.nD Cert.AdamUpRefIdeal.τ).loc Cert.AdamUpRefIdeal.main_v6) = v2 c
          ∧ r.2.mem ((c.tc : Thread Cert.AdamUpRefIdeal.nD Cert.AdamUpRefIdeal.τ).loc Cert.AdamUpRefIdeal.main_v12) = v3 c
          ∧ r.2.mem ((c.tc : Thread Cert.AdamUpRefIdeal.nD Cert.AdamUpRefIdeal.τ).loc Cert.AdamUpRefIdeal.main_arg0) = m' ((c.tc : Thread Cert.AdamUpRefIdeal.nD Cert.AdamUpRefIdeal.τ).loc Cert.AdamUpRefIdeal.main_arg0)
          ∧ r.2.mem ((c.tc : Thread Cert.AdamUpRefIdeal.nD Cert.AdamUpRefIdeal.τ).loc Cert.AdamUpRefIdeal.main_arg1) = m' ((c.tc : Thread Cert.AdamUpRefIdeal.nD Cert.AdamUpRefIdeal.τ).loc Cert.AdamUpRefIdeal.main_arg1)
          ∧ r.2.mem ((c.tc : Thread Cert.AdamUpRefIdeal.nD Cert.AdamUpRefIdeal.τ).loc Cert.AdamUpRefIdeal.main_arg2) = m' ((c.tc : Thread Cert.AdamUpRefIdeal.nD Cert.AdamUpRefIdeal.τ).loc Cert.AdamUpRefIdeal.main_arg2)
          ∧ r.2.mem ((c.tc : Thread Cert.AdamUpRefIdeal.nD Cert.AdamUpRefIdeal.τ).loc Cert.AdamUpRefIdeal.main_arg3) = m' ((c.tc : Thread Cert.AdamUpRefIdeal.nD Cert.AdamUpRefIdeal.τ).loc Cert.AdamUpRefIdeal.main_arg3))

def preserves_AdamOut_AdamOutIdeal : Prop :=
  True

def algebraic_AdamOutIdeal_AdamOutRefIdeal [hAdamOutIdeal : Cert.AdamOutIdeal.Facts] [hAdamOutRefIdeal : Cert.AdamOutRefIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg)
    (m' : (ℓ : Loc Cert.AdamOutRefIdeal.nD Cert.AdamOutRefIdeal.τ Cert.AdamOutRefIdeal.sig) → Buf (Elt Ideal) ℓ) (g' : Dev Cert.AdamOutRefIdeal.nD → PrngReg), Pre_AdamOutIdeal m →
    (∀ c : Dev Cert.AdamOutIdeal.nD,
      m' ((c.tc : Thread Cert.AdamOutRefIdeal.nD Cert.AdamOutRefIdeal.τ).loc Cert.AdamOutRefIdeal.main_arg0) = m ((c.tc : Thread Cert.AdamOutIdeal.nD Cert.AdamOutIdeal.τ).loc Cert.AdamOutIdeal.main_arg0)
      ∧ m' ((c.tc : Thread Cert.AdamOutRefIdeal.nD Cert.AdamOutRefIdeal.τ).loc Cert.AdamOutRefIdeal.main_arg1) = m ((c.tc : Thread Cert.AdamOutIdeal.nD Cert.AdamOutIdeal.τ).loc Cert.AdamOutIdeal.main_arg1)
      ∧ m' ((c.tc : Thread Cert.AdamOutRefIdeal.nD Cert.AdamOutRefIdeal.τ).loc Cert.AdamOutRefIdeal.main_arg2) = m ((c.tc : Thread Cert.AdamOutIdeal.nD Cert.AdamOutIdeal.τ).loc Cert.AdamOutIdeal.main_arg2)
      ∧ m' ((c.tc : Thread Cert.AdamOutRefIdeal.nD Cert.AdamOutRefIdeal.τ).loc Cert.AdamOutRefIdeal.main_arg3) = m ((c.tc : Thread Cert.AdamOutIdeal.nD Cert.AdamOutIdeal.τ).loc Cert.AdamOutIdeal.main_arg3)) →
    ∃ (v0 : (c : Dev Cert.AdamOutIdeal.nD) → Buf (Elt Ideal) ((c.tc : Thread Cert.AdamOutIdeal.nD Cert.AdamOutIdeal.τ).loc Cert.AdamOutIdeal.main_v0_0)) (v1 : (c : Dev Cert.AdamOutIdeal.nD) → Buf (Elt Ideal) ((c.tc : Thread Cert.AdamOutIdeal.nD Cert.AdamOutIdeal.τ).loc Cert.AdamOutIdeal.main_v0_1)) (v2 : (c : Dev Cert.AdamOutIdeal.nD) → Buf (Elt Ideal) ((c.tc : Thread Cert.AdamOutIdeal.nD Cert.AdamOutIdeal.τ).loc Cert.AdamOutIdeal.main_v0_2)) (v3 : (c : Dev Cert.AdamOutIdeal.nD) → Buf (Elt Ideal) ((c.tc : Thread Cert.AdamOutIdeal.nD Cert.AdamOutIdeal.τ).loc Cert.AdamOutIdeal.main_v0_3)),
      θ_run (Cert.AdamOutIdeal.defs (F := Ideal)) (onTc (τ := Cert.AdamOutIdeal.τ) (Cert.AdamOutIdeal.main (F := Ideal))) ⟨m, fun _ => 0, g⟩ (fun r => ∀ c : Dev Cert.AdamOutIdeal.nD,
          r.2.mem ((c.tc : Thread Cert.AdamOutIdeal.nD Cert.AdamOutIdeal.τ).loc Cert.AdamOutIdeal.main_v0_0) = v0 c
          ∧ r.2.mem ((c.tc : Thread Cert.AdamOutIdeal.nD Cert.AdamOutIdeal.τ).loc Cert.AdamOutIdeal.main_v0_1) = v1 c
          ∧ r.2.mem ((c.tc : Thread Cert.AdamOutIdeal.nD Cert.AdamOutIdeal.τ).loc Cert.AdamOutIdeal.main_v0_2) = v2 c
          ∧ r.2.mem ((c.tc : Thread Cert.AdamOutIdeal.nD Cert.AdamOutIdeal.τ).loc Cert.AdamOutIdeal.main_v0_3) = v3 c
          ∧ r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
          ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
          ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
          ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ θ_run (Cert.AdamOutRefIdeal.defs (F := Ideal)) (onTc (τ := Cert.AdamOutRefIdeal.τ) (Cert.AdamOutRefIdeal.main (F := Ideal))) ⟨m', fun _ => 0, g'⟩ (fun r => ∀ c : Dev Cert.AdamOutRefIdeal.nD,
          r.2.mem ((c.tc : Thread Cert.AdamOutRefIdeal.nD Cert.AdamOutRefIdeal.τ).loc Cert.AdamOutRefIdeal.main_v1) = v0 c
          ∧ r.2.mem ((c.tc : Thread Cert.AdamOutRefIdeal.nD Cert.AdamOutRefIdeal.τ).loc Cert.AdamOutRefIdeal.main_v25) = v1 c
          ∧ r.2.mem ((c.tc : Thread Cert.AdamOutRefIdeal.nD Cert.AdamOutRefIdeal.τ).loc Cert.AdamOutRefIdeal.main_v6) = v2 c
          ∧ r.2.mem ((c.tc : Thread Cert.AdamOutRefIdeal.nD Cert.AdamOutRefIdeal.τ).loc Cert.AdamOutRefIdeal.main_v12) = v3 c
          ∧ r.2.mem ((c.tc : Thread Cert.AdamOutRefIdeal.nD Cert.AdamOutRefIdeal.τ).loc Cert.AdamOutRefIdeal.main_arg0) = m' ((c.tc : Thread Cert.AdamOutRefIdeal.nD Cert.AdamOutRefIdeal.τ).loc Cert.AdamOutRefIdeal.main_arg0)
          ∧ r.2.mem ((c.tc : Thread Cert.AdamOutRefIdeal.nD Cert.AdamOutRefIdeal.τ).loc Cert.AdamOutRefIdeal.main_arg1) = m' ((c.tc : Thread Cert.AdamOutRefIdeal.nD Cert.AdamOutRefIdeal.τ).loc Cert.AdamOutRefIdeal.main_arg1)
          ∧ r.2.mem ((c.tc : Thread Cert.AdamOutRefIdeal.nD Cert.AdamOutRefIdeal.τ).loc Cert.AdamOutRefIdeal.main_arg2) = m' ((c.tc : Thread Cert.AdamOutRefIdeal.nD Cert.AdamOutRefIdeal.τ).loc Cert.AdamOutRefIdeal.main_arg2)
          ∧ r.2.mem ((c.tc : Thread Cert.AdamOutRefIdeal.nD Cert.AdamOutRefIdeal.τ).loc Cert.AdamOutRefIdeal.main_arg3) = m' ((c.tc : Thread Cert.AdamOutRefIdeal.nD Cert.AdamOutRefIdeal.τ).loc Cert.AdamOutRefIdeal.main_arg3))

def preserves_AdamAda_AdamAdaIdeal : Prop :=
  True

def algebraic_AdamAdaIdeal_AdamAdaRefIdeal [hAdamAdaIdeal : Cert.AdamAdaIdeal.Facts] [hAdamAdaRefIdeal : Cert.AdamAdaRefIdeal.Facts] : Prop :=
  ∀ (m : (ℓ : Loc Cert.AdamAdaIdeal.nD Cert.AdamAdaIdeal.τ Cert.AdamAdaIdeal.sig) → Buf (Elt Ideal) ℓ) (g : Dev Cert.AdamAdaIdeal.nD → PrngReg)
    (m' : (ℓ : Loc Cert.AdamAdaRefIdeal.nD Cert.AdamAdaRefIdeal.τ Cert.AdamAdaRefIdeal.sig) → Buf (Elt Ideal) ℓ) (g' : Dev Cert.AdamAdaRefIdeal.nD → PrngReg), Pre_AdamAdaIdeal m →
    (∀ c : Dev Cert.AdamAdaIdeal.nD,
      m' ((c.tc : Thread Cert.AdamAdaRefIdeal.nD Cert.AdamAdaRefIdeal.τ).loc Cert.AdamAdaRefIdeal.main_arg0) = m ((c.tc : Thread Cert.AdamAdaIdeal.nD Cert.AdamAdaIdeal.τ).loc Cert.AdamAdaIdeal.main_arg0)
      ∧ m' ((c.tc : Thread Cert.AdamAdaRefIdeal.nD Cert.AdamAdaRefIdeal.τ).loc Cert.AdamAdaRefIdeal.main_arg1) = m ((c.tc : Thread Cert.AdamAdaIdeal.nD Cert.AdamAdaIdeal.τ).loc Cert.AdamAdaIdeal.main_arg1)
      ∧ m' ((c.tc : Thread Cert.AdamAdaRefIdeal.nD Cert.AdamAdaRefIdeal.τ).loc Cert.AdamAdaRefIdeal.main_arg2) = m ((c.tc : Thread Cert.AdamAdaIdeal.nD Cert.AdamAdaIdeal.τ).loc Cert.AdamAdaIdeal.main_arg2)
      ∧ m' ((c.tc : Thread Cert.AdamAdaRefIdeal.nD Cert.AdamAdaRefIdeal.τ).loc Cert.AdamAdaRefIdeal.main_arg3) = m ((c.tc : Thread Cert.AdamAdaIdeal.nD Cert.AdamAdaIdeal.τ).loc Cert.AdamAdaIdeal.main_arg3)) →
    ∃ (v0 : (c : Dev Cert.AdamAdaIdeal.nD) → Buf (Elt Ideal) ((c.tc : Thread Cert.AdamAdaIdeal.nD Cert.AdamAdaIdeal.τ).loc Cert.AdamAdaIdeal.main_v0_0)) (v1 : (c : Dev Cert.AdamAdaIdeal.nD) → Buf (Elt Ideal) ((c.tc : Thread Cert.AdamAdaIdeal.nD Cert.AdamAdaIdeal.τ).loc Cert.AdamAdaIdeal.main_v0_1)) (v2 : (c : Dev Cert.AdamAdaIdeal.nD) → Buf (Elt Ideal) ((c.tc : Thread Cert.AdamAdaIdeal.nD Cert.AdamAdaIdeal.τ).loc Cert.AdamAdaIdeal.main_v0_2)) (v3 : (c : Dev Cert.AdamAdaIdeal.nD) → Buf (Elt Ideal) ((c.tc : Thread Cert.AdamAdaIdeal.nD Cert.AdamAdaIdeal.τ).loc Cert.AdamAdaIdeal.main_v0_3)),
      θ_run (Cert.AdamAdaIdeal.defs (F := Ideal)) (onTc (τ := Cert.AdamAdaIdeal.τ) (Cert.AdamAdaIdeal.main (F := Ideal))) ⟨m, fun _ => 0, g⟩ (fun r => ∀ c : Dev Cert.AdamAdaIdeal.nD,
          r.2.mem ((c.tc : Thread Cert.AdamAdaIdeal.nD Cert.AdamAdaIdeal.τ).loc Cert.AdamAdaIdeal.main_v0_0) = v0 c
          ∧ r.2.mem ((c.tc : Thread Cert.AdamAdaIdeal.nD Cert.AdamAdaIdeal.τ).loc Cert.AdamAdaIdeal.main_v0_1) = v1 c
          ∧ r.2.mem ((c.tc : Thread Cert.AdamAdaIdeal.nD Cert.AdamAdaIdeal.τ).loc Cert.AdamAdaIdeal.main_v0_2) = v2 c
          ∧ r.2.mem ((c.tc : Thread Cert.AdamAdaIdeal.nD Cert.AdamAdaIdeal.τ).loc Cert.AdamAdaIdeal.main_v0_3) = v3 c
          ∧ r.2.mem ((c.tc : Thread Cert.AdamAdaIdeal.nD Cert.AdamAdaIdeal.τ).loc Cert.AdamAdaIdeal.main_arg0) = m ((c.tc : Thread Cert.AdamAdaIdeal.nD Cert.AdamAdaIdeal.τ).loc Cert.AdamAdaIdeal.main_arg0)
          ∧ r.2.mem ((c.tc : Thread Cert.AdamAdaIdeal.nD Cert.AdamAdaIdeal.τ).loc Cert.AdamAdaIdeal.main_arg1) = m ((c.tc : Thread Cert.AdamAdaIdeal.nD Cert.AdamAdaIdeal.τ).loc Cert.AdamAdaIdeal.main_arg1)
          ∧ r.2.mem ((c.tc : Thread Cert.AdamAdaIdeal.nD Cert.AdamAdaIdeal.τ).loc Cert.AdamAdaIdeal.main_arg2) = m ((c.tc : Thread Cert.AdamAdaIdeal.nD Cert.AdamAdaIdeal.τ).loc Cert.AdamAdaIdeal.main_arg2)
          ∧ r.2.mem ((c.tc : Thread Cert.AdamAdaIdeal.nD Cert.AdamAdaIdeal.τ).loc Cert.AdamAdaIdeal.main_arg3) = m ((c.tc : Thread Cert.AdamAdaIdeal.nD Cert.AdamAdaIdeal.τ).loc Cert.AdamAdaIdeal.main_arg3))
      ∧ θ_run (Cert.AdamAdaRefIdeal.defs (F := Ideal)) (onTc (τ := Cert.AdamAdaRefIdeal.τ) (Cert.AdamAdaRefIdeal.main (F := Ideal))) ⟨m', fun _ => 0, g'⟩ (fun r => ∀ c : Dev Cert.AdamAdaRefIdeal.nD,
          r.2.mem ((c.tc : Thread Cert.AdamAdaRefIdeal.nD Cert.AdamAdaRefIdeal.τ).loc Cert.AdamAdaRefIdeal.main_v0) = v0 c
          ∧ r.2.mem ((c.tc : Thread Cert.AdamAdaRefIdeal.nD Cert.AdamAdaRefIdeal.τ).loc Cert.AdamAdaRefIdeal.main_v24) = v1 c
          ∧ r.2.mem ((c.tc : Thread Cert.AdamAdaRefIdeal.nD Cert.AdamAdaRefIdeal.τ).loc Cert.AdamAdaRefIdeal.main_v5) = v2 c
          ∧ r.2.mem ((c.tc : Thread Cert.AdamAdaRefIdeal.nD Cert.AdamAdaRefIdeal.τ).loc Cert.AdamAdaRefIdeal.main_v11) = v3 c
          ∧ r.2.mem ((c.tc : Thread Cert.AdamAdaRefIdeal.nD Cert.AdamAdaRefIdeal.τ).loc Cert.AdamAdaRefIdeal.main_arg0) = m' ((c.tc : Thread Cert.AdamAdaRefIdeal.nD Cert.AdamAdaRefIdeal.τ).loc Cert.AdamAdaRefIdeal.main_arg0)
          ∧ r.2.mem ((c.tc : Thread Cert.AdamAdaRefIdeal.nD Cert.AdamAdaRefIdeal.τ).loc Cert.AdamAdaRefIdeal.main_arg1) = m' ((c.tc : Thread Cert.AdamAdaRefIdeal.nD Cert.AdamAdaRefIdeal.τ).loc Cert.AdamAdaRefIdeal.main_arg1)
          ∧ r.2.mem ((c.tc : Thread Cert.AdamAdaRefIdeal.nD Cert.AdamAdaRefIdeal.τ).loc Cert.AdamAdaRefIdeal.main_arg2) = m' ((c.tc : Thread Cert.AdamAdaRefIdeal.nD Cert.AdamAdaRefIdeal.τ).loc Cert.AdamAdaRefIdeal.main_arg2)
          ∧ r.2.mem ((c.tc : Thread Cert.AdamAdaRefIdeal.nD Cert.AdamAdaRefIdeal.τ).loc Cert.AdamAdaRefIdeal.main_arg3) = m' ((c.tc : Thread Cert.AdamAdaRefIdeal.nD Cert.AdamAdaRefIdeal.τ).loc Cert.AdamAdaRefIdeal.main_arg3))

def preserves_AdamSmall_AdamSmallIdeal : Prop :=
  True

def algebraic_AdamSmallIdeal_AdamSmallRefIdeal [hAdamSmallIdeal : Cert.AdamSmallIdeal.Facts] [hAdamSmallRefIdeal : Cert.AdamSmallRefIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg)
    (m' : (ℓ : Loc Cert.AdamSmallRefIdeal.nD Cert.AdamSmallRefIdeal.τ Cert.AdamSmallRefIdeal.sig) → Buf (Elt Ideal) ℓ) (g' : Dev Cert.AdamSmallRefIdeal.nD → PrngReg), Pre_AdamSmallIdeal m →
    (∀ c : Dev Cert.AdamSmallIdeal.nD,
      m' ((c.tc : Thread Cert.AdamSmallRefIdeal.nD Cert.AdamSmallRefIdeal.τ).loc Cert.AdamSmallRefIdeal.main_arg0) = m ((c.tc : Thread Cert.AdamSmallIdeal.nD Cert.AdamSmallIdeal.τ).loc Cert.AdamSmallIdeal.main_arg0)
      ∧ m' ((c.tc : Thread Cert.AdamSmallRefIdeal.nD Cert.AdamSmallRefIdeal.τ).loc Cert.AdamSmallRefIdeal.main_arg1) = m ((c.tc : Thread Cert.AdamSmallIdeal.nD Cert.AdamSmallIdeal.τ).loc Cert.AdamSmallIdeal.main_arg1)
      ∧ m' ((c.tc : Thread Cert.AdamSmallRefIdeal.nD Cert.AdamSmallRefIdeal.τ).loc Cert.AdamSmallRefIdeal.main_arg2) = m ((c.tc : Thread Cert.AdamSmallIdeal.nD Cert.AdamSmallIdeal.τ).loc Cert.AdamSmallIdeal.main_arg2)
      ∧ m' ((c.tc : Thread Cert.AdamSmallRefIdeal.nD Cert.AdamSmallRefIdeal.τ).loc Cert.AdamSmallRefIdeal.main_arg3) = m ((c.tc : Thread Cert.AdamSmallIdeal.nD Cert.AdamSmallIdeal.τ).loc Cert.AdamSmallIdeal.main_arg3)) →
    ∃ (v0 : (c : Dev Cert.AdamSmallIdeal.nD) → Buf (Elt Ideal) ((c.tc : Thread Cert.AdamSmallIdeal.nD Cert.AdamSmallIdeal.τ).loc Cert.AdamSmallIdeal.main_v0_0)) (v1 : (c : Dev Cert.AdamSmallIdeal.nD) → Buf (Elt Ideal) ((c.tc : Thread Cert.AdamSmallIdeal.nD Cert.AdamSmallIdeal.τ).loc Cert.AdamSmallIdeal.main_v0_1)) (v2 : (c : Dev Cert.AdamSmallIdeal.nD) → Buf (Elt Ideal) ((c.tc : Thread Cert.AdamSmallIdeal.nD Cert.AdamSmallIdeal.τ).loc Cert.AdamSmallIdeal.main_v0_2)) (v3 : (c : Dev Cert.AdamSmallIdeal.nD) → Buf (Elt Ideal) ((c.tc : Thread Cert.AdamSmallIdeal.nD Cert.AdamSmallIdeal.τ).loc Cert.AdamSmallIdeal.main_v0_3)),
      θ_run (Cert.AdamSmallIdeal.defs (F := Ideal)) (onTc (τ := Cert.AdamSmallIdeal.τ) (Cert.AdamSmallIdeal.main (F := Ideal))) ⟨m, fun _ => 0, g⟩ (fun r => ∀ c : Dev Cert.AdamSmallIdeal.nD,
          r.2.mem ((c.tc : Thread Cert.AdamSmallIdeal.nD Cert.AdamSmallIdeal.τ).loc Cert.AdamSmallIdeal.main_v0_0) = v0 c
          ∧ r.2.mem ((c.tc : Thread Cert.AdamSmallIdeal.nD Cert.AdamSmallIdeal.τ).loc Cert.AdamSmallIdeal.main_v0_1) = v1 c
          ∧ r.2.mem ((c.tc : Thread Cert.AdamSmallIdeal.nD Cert.AdamSmallIdeal.τ).loc Cert.AdamSmallIdeal.main_v0_2) = v2 c
          ∧ r.2.mem ((c.tc : Thread Cert.AdamSmallIdeal.nD Cert.AdamSmallIdeal.τ).loc Cert.AdamSmallIdeal.main_v0_3) = v3 c
          ∧ r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
          ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
          ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
          ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ θ_run (Cert.AdamSmallRefIdeal.defs (F := Ideal)) (onTc (τ := Cert.AdamSmallRefIdeal.τ) (Cert.AdamSmallRefIdeal.main (F := Ideal))) ⟨m', fun _ => 0, g'⟩ (fun r => ∀ c : Dev Cert.AdamSmallRefIdeal.nD,
          r.2.mem ((c.tc : Thread Cert.AdamSmallRefIdeal.nD Cert.AdamSmallRefIdeal.τ).loc Cert.AdamSmallRefIdeal.main_v0) = v0 c
          ∧ r.2.mem ((c.tc : Thread Cert.AdamSmallRefIdeal.nD Cert.AdamSmallRefIdeal.τ).loc Cert.AdamSmallRefIdeal.main_v24) = v1 c
          ∧ r.2.mem ((c.tc : Thread Cert.AdamSmallRefIdeal.nD Cert.AdamSmallRefIdeal.τ).loc Cert.AdamSmallRefIdeal.main_v5) = v2 c
          ∧ r.2.mem ((c.tc : Thread Cert.AdamSmallRefIdeal.nD Cert.AdamSmallRefIdeal.τ).loc Cert.AdamSmallRefIdeal.main_v11) = v3 c
          ∧ r.2.mem ((c.tc : Thread Cert.AdamSmallRefIdeal.nD Cert.AdamSmallRefIdeal.τ).loc Cert.AdamSmallRefIdeal.main_arg0) = m' ((c.tc : Thread Cert.AdamSmallRefIdeal.nD Cert.AdamSmallRefIdeal.τ).loc Cert.AdamSmallRefIdeal.main_arg0)
          ∧ r.2.mem ((c.tc : Thread Cert.AdamSmallRefIdeal.nD Cert.AdamSmallRefIdeal.τ).loc Cert.AdamSmallRefIdeal.main_arg1) = m' ((c.tc : Thread Cert.AdamSmallRefIdeal.nD Cert.AdamSmallRefIdeal.τ).loc Cert.AdamSmallRefIdeal.main_arg1)
          ∧ r.2.mem ((c.tc : Thread Cert.AdamSmallRefIdeal.nD Cert.AdamSmallRefIdeal.τ).loc Cert.AdamSmallRefIdeal.main_arg2) = m' ((c.tc : Thread Cert.AdamSmallRefIdeal.nD Cert.AdamSmallRefIdeal.τ).loc Cert.AdamSmallRefIdeal.main_arg2)
          ∧ r.2.mem ((c.tc : Thread Cert.AdamSmallRefIdeal.nD Cert.AdamSmallRefIdeal.τ).loc Cert.AdamSmallRefIdeal.main_arg3) = m' ((c.tc : Thread Cert.AdamSmallRefIdeal.nD Cert.AdamSmallRefIdeal.τ).loc Cert.AdamSmallRefIdeal.main_arg3))

def preserves_WAda_WAdaIdeal : Prop :=
  True

def algebraic_WAdaIdeal_WAdaRefIdeal [hWAdaIdeal : Cert.WAdaIdeal.Facts] [hWAdaRefIdeal : Cert.WAdaRefIdeal.Facts] : Prop :=
  ∀ (m : (ℓ : Loc Cert.WAdaIdeal.nD Cert.WAdaIdeal.τ Cert.WAdaIdeal.sig) → Buf (Elt Ideal) ℓ) (g : Dev Cert.WAdaIdeal.nD → PrngReg)
    (m' : (ℓ : Loc Cert.WAdaRefIdeal.nD Cert.WAdaRefIdeal.τ Cert.WAdaRefIdeal.sig) → Buf (Elt Ideal) ℓ) (g' : Dev Cert.WAdaRefIdeal.nD → PrngReg), Pre_WAdaIdeal m →
    (∀ c : Dev Cert.WAdaIdeal.nD,
      m' ((c.tc : Thread Cert.WAdaRefIdeal.nD Cert.WAdaRefIdeal.τ).loc Cert.WAdaRefIdeal.main_arg0) = m ((c.tc : Thread Cert.WAdaIdeal.nD Cert.WAdaIdeal.τ).loc Cert.WAdaIdeal.main_arg0)
      ∧ m' ((c.tc : Thread Cert.WAdaRefIdeal.nD Cert.WAdaRefIdeal.τ).loc Cert.WAdaRefIdeal.main_arg1) = m ((c.tc : Thread Cert.WAdaIdeal.nD Cert.WAdaIdeal.τ).loc Cert.WAdaIdeal.main_arg1)) →
    ∃ (v0 : (c : Dev Cert.WAdaIdeal.nD) → Buf (Elt Ideal) ((c.tc : Thread Cert.WAdaIdeal.nD Cert.WAdaIdeal.τ).loc Cert.WAdaIdeal.main_v0)),
      θ_run (Cert.WAdaIdeal.defs (F := Ideal)) (onTc (τ := Cert.WAdaIdeal.τ) (Cert.WAdaIdeal.main (F := Ideal))) ⟨m, fun _ => 0, g⟩ (fun r => ∀ c : Dev Cert.WAdaIdeal.nD,
          r.2.mem ((c.tc : Thread Cert.WAdaIdeal.nD Cert.WAdaIdeal.τ).loc Cert.WAdaIdeal.main_v0) = v0 c
          ∧ r.2.mem ((c.tc : Thread Cert.WAdaIdeal.nD Cert.WAdaIdeal.τ).loc Cert.WAdaIdeal.main_arg0) = m ((c.tc : Thread Cert.WAdaIdeal.nD Cert.WAdaIdeal.τ).loc Cert.WAdaIdeal.main_arg0)
          ∧ r.2.mem ((c.tc : Thread Cert.WAdaIdeal.nD Cert.WAdaIdeal.τ).loc Cert.WAdaIdeal.main_arg1) = m ((c.tc : Thread Cert.WAdaIdeal.nD Cert.WAdaIdeal.τ).loc Cert.WAdaIdeal.main_arg1))
      ∧ θ_run (Cert.WAdaRefIdeal.defs (F := Ideal)) (onTc (τ := Cert.WAdaRefIdeal.τ) (Cert.WAdaRefIdeal.main (F := Ideal))) ⟨m', fun _ => 0, g'⟩ (fun r => ∀ c : Dev Cert.WAdaRefIdeal.nD,
          r.2.mem ((c.tc : Thread Cert.WAdaRefIdeal.nD Cert.WAdaRefIdeal.τ).loc Cert.WAdaRefIdeal.main_v7) = v0 c
          ∧ r.2.mem ((c.tc : Thread Cert.WAdaRefIdeal.nD Cert.WAdaRefIdeal.τ).loc Cert.WAdaRefIdeal.main_arg0) = m' ((c.tc : Thread Cert.WAdaRefIdeal.nD Cert.WAdaRefIdeal.τ).loc Cert.WAdaRefIdeal.main_arg0)
          ∧ r.2.mem ((c.tc : Thread Cert.WAdaRefIdeal.nD Cert.WAdaRefIdeal.τ).loc Cert.WAdaRefIdeal.main_arg1) = m' ((c.tc : Thread Cert.WAdaRefIdeal.nD Cert.WAdaRefIdeal.τ).loc Cert.WAdaRefIdeal.main_arg1))

def Claim : Prop :=
  ∃ (hKernel : Cert.Kernel.Facts) (hKernelIdeal : Cert.KernelIdeal.Facts) (hReferenceIdeal : Cert.ReferenceIdeal.Facts) (hProjFwd : Cert.ProjFwd.Facts) (hProjFwdIdeal : Cert.ProjFwdIdeal.Facts) (hProjectionIdeal : Cert.ProjectionIdeal.Facts) (hDwQ : Cert.DwQ.Facts) (hDwQIdeal : Cert.DwQIdeal.Facts) (hDwQRefIdeal : Cert.DwQRefIdeal.Facts) (hDwK : Cert.DwK.Facts) (hDwKIdeal : Cert.DwKIdeal.Facts) (hDwKRefIdeal : Cert.DwKRefIdeal.Facts) (hDwF : Cert.DwF.Facts) (hDwFIdeal : Cert.DwFIdeal.Facts) (hDwFRefIdeal : Cert.DwFRefIdeal.Facts) (hDwG : Cert.DwG.Facts) (hDwGIdeal : Cert.DwGIdeal.Facts) (hDwGRefIdeal : Cert.DwGRefIdeal.Facts) (hDwUp : Cert.DwUp.Facts) (hDwUpIdeal : Cert.DwUpIdeal.Facts) (hDwUpRefIdeal : Cert.DwUpRefIdeal.Facts) (hDwGlu : Cert.DwGlu.Facts) (hDwGluIdeal : Cert.DwGluIdeal.Facts) (hDwGluRefIdeal : Cert.DwGluRefIdeal.Facts) (hProjBwd : Cert.ProjBwd.Facts) (hProjBwdIdeal : Cert.ProjBwdIdeal.Facts) (hProjBwdRefIdeal : Cert.ProjBwdRefIdeal.Facts) (hAdamIn : Cert.AdamIn.Facts) (hAdamInIdeal : Cert.AdamInIdeal.Facts) (hAdamInRefIdeal : Cert.AdamInRefIdeal.Facts) (hAdamGlu : Cert.AdamGlu.Facts) (hAdamGluIdeal : Cert.AdamGluIdeal.Facts) (hAdamGluRefIdeal : Cert.AdamGluRefIdeal.Facts) (hAdamUp : Cert.AdamUp.Facts) (hAdamUpIdeal : Cert.AdamUpIdeal.Facts) (hAdamUpRefIdeal : Cert.AdamUpRefIdeal.Facts) (hAdamOut : Cert.AdamOut.Facts) (hAdamOutIdeal : Cert.AdamOutIdeal.Facts) (hAdamOutRefIdeal : Cert.AdamOutRefIdeal.Facts) (hAdamAda : Cert.AdamAda.Facts) (hAdamAdaIdeal : Cert.AdamAdaIdeal.Facts) (hAdamAdaRefIdeal : Cert.AdamAdaRefIdeal.Facts) (hAdamSmall : Cert.AdamSmall.Facts) (hAdamSmallIdeal : Cert.AdamSmallIdeal.Facts) (hAdamSmallRefIdeal : Cert.AdamSmallRefIdeal.Facts) (hWAda : Cert.WAda.Facts) (hWAdaIdeal : Cert.WAdaIdeal.Facts) (hWAdaRefIdeal : Cert.WAdaRefIdeal.Facts) (hPre_finite : Cert.Pre_finite.Facts) (hPre_real : Cert.Pre_real.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_ProjFwd (hProjFwd := hProjFwd)
    ∧ quiescent_ProjFwdIdeal (hProjFwdIdeal := hProjFwdIdeal)
    ∧ quiescent_ProjectionIdeal (hProjectionIdeal := hProjectionIdeal)
    ∧ quiescent_DwQ (hDwQ := hDwQ)
    ∧ quiescent_DwQIdeal (hDwQIdeal := hDwQIdeal)
    ∧ quiescent_DwQRefIdeal (hDwQRefIdeal := hDwQRefIdeal)
    ∧ quiescent_DwK (hDwK := hDwK)
    ∧ quiescent_DwKIdeal (hDwKIdeal := hDwKIdeal)
    ∧ quiescent_DwKRefIdeal (hDwKRefIdeal := hDwKRefIdeal)
    ∧ quiescent_DwF (hDwF := hDwF)
    ∧ quiescent_DwFIdeal (hDwFIdeal := hDwFIdeal)
    ∧ quiescent_DwFRefIdeal (hDwFRefIdeal := hDwFRefIdeal)
    ∧ quiescent_DwG (hDwG := hDwG)
    ∧ quiescent_DwGIdeal (hDwGIdeal := hDwGIdeal)
    ∧ quiescent_DwGRefIdeal (hDwGRefIdeal := hDwGRefIdeal)
    ∧ quiescent_DwUp (hDwUp := hDwUp)
    ∧ quiescent_DwUpIdeal (hDwUpIdeal := hDwUpIdeal)
    ∧ quiescent_DwUpRefIdeal (hDwUpRefIdeal := hDwUpRefIdeal)
    ∧ quiescent_DwGlu (hDwGlu := hDwGlu)
    ∧ quiescent_DwGluIdeal (hDwGluIdeal := hDwGluIdeal)
    ∧ quiescent_DwGluRefIdeal (hDwGluRefIdeal := hDwGluRefIdeal)
    ∧ quiescent_ProjBwd (hProjBwd := hProjBwd)
    ∧ quiescent_ProjBwdIdeal (hProjBwdIdeal := hProjBwdIdeal)
    ∧ quiescent_ProjBwdIdeal_pre_real (hProjBwdIdeal := hProjBwdIdeal) (hPre_real := hPre_real)
    ∧ quiescent_ProjBwdRefIdeal (hProjBwdRefIdeal := hProjBwdRefIdeal)
    ∧ quiescent_ProjBwdRefIdeal_pre_real (hProjBwdRefIdeal := hProjBwdRefIdeal) (hPre_real := hPre_real)
    ∧ quiescent_AdamIn (hAdamIn := hAdamIn)
    ∧ quiescent_AdamInIdeal (hAdamInIdeal := hAdamInIdeal)
    ∧ quiescent_AdamInRefIdeal (hAdamInRefIdeal := hAdamInRefIdeal)
    ∧ quiescent_AdamGlu (hAdamGlu := hAdamGlu)
    ∧ quiescent_AdamGluIdeal (hAdamGluIdeal := hAdamGluIdeal)
    ∧ quiescent_AdamGluRefIdeal (hAdamGluRefIdeal := hAdamGluRefIdeal)
    ∧ quiescent_AdamUp (hAdamUp := hAdamUp)
    ∧ quiescent_AdamUpIdeal (hAdamUpIdeal := hAdamUpIdeal)
    ∧ quiescent_AdamUpRefIdeal (hAdamUpRefIdeal := hAdamUpRefIdeal)
    ∧ quiescent_AdamOut (hAdamOut := hAdamOut)
    ∧ quiescent_AdamOutIdeal (hAdamOutIdeal := hAdamOutIdeal)
    ∧ quiescent_AdamOutRefIdeal (hAdamOutRefIdeal := hAdamOutRefIdeal)
    ∧ quiescent_AdamAda (hAdamAda := hAdamAda)
    ∧ quiescent_AdamAdaIdeal (hAdamAdaIdeal := hAdamAdaIdeal)
    ∧ quiescent_AdamAdaRefIdeal (hAdamAdaRefIdeal := hAdamAdaRefIdeal)
    ∧ quiescent_AdamSmall (hAdamSmall := hAdamSmall)
    ∧ quiescent_AdamSmallIdeal (hAdamSmallIdeal := hAdamSmallIdeal)
    ∧ quiescent_AdamSmallRefIdeal (hAdamSmallRefIdeal := hAdamSmallRefIdeal)
    ∧ quiescent_WAda (hWAda := hWAda)
    ∧ quiescent_WAdaIdeal (hWAdaIdeal := hWAdaIdeal)
    ∧ quiescent_WAdaRefIdeal (hWAdaRefIdeal := hWAdaRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_ProjFwd_ProjFwdIdeal
    ∧ algebraic_ProjFwdIdeal_ProjectionIdeal (hProjFwdIdeal := hProjFwdIdeal) (hProjectionIdeal := hProjectionIdeal)
    ∧ preserves_DwQ_DwQIdeal
    ∧ algebraic_DwQIdeal_DwQRefIdeal (hDwQIdeal := hDwQIdeal) (hDwQRefIdeal := hDwQRefIdeal)
    ∧ preserves_DwK_DwKIdeal
    ∧ algebraic_DwKIdeal_DwKRefIdeal (hDwKIdeal := hDwKIdeal) (hDwKRefIdeal := hDwKRefIdeal)
    ∧ preserves_DwF_DwFIdeal
    ∧ algebraic_DwFIdeal_DwFRefIdeal (hDwFIdeal := hDwFIdeal) (hDwFRefIdeal := hDwFRefIdeal)
    ∧ preserves_DwG_DwGIdeal
    ∧ algebraic_DwGIdeal_DwGRefIdeal (hDwGIdeal := hDwGIdeal) (hDwGRefIdeal := hDwGRefIdeal)
    ∧ preserves_DwUp_DwUpIdeal
    ∧ algebraic_DwUpIdeal_DwUpRefIdeal (hDwUpIdeal := hDwUpIdeal) (hDwUpRefIdeal := hDwUpRefIdeal)
    ∧ preserves_DwGlu_DwGluIdeal
    ∧ algebraic_DwGluIdeal_DwGluRefIdeal (hDwGluIdeal := hDwGluIdeal) (hDwGluRefIdeal := hDwGluRefIdeal)
    ∧ preserves_ProjBwd_ProjBwdIdeal
    ∧ algebraic_ProjBwdIdeal_ProjBwdRefIdeal_pre_real (hProjBwdIdeal := hProjBwdIdeal) (hProjBwdRefIdeal := hProjBwdRefIdeal) (hPre_real := hPre_real)
    ∧ preserves_AdamIn_AdamInIdeal
    ∧ algebraic_AdamInIdeal_AdamInRefIdeal (hAdamInIdeal := hAdamInIdeal) (hAdamInRefIdeal := hAdamInRefIdeal)
    ∧ preserves_AdamGlu_AdamGluIdeal
    ∧ algebraic_AdamGluIdeal_AdamGluRefIdeal (hAdamGluIdeal := hAdamGluIdeal) (hAdamGluRefIdeal := hAdamGluRefIdeal)
    ∧ preserves_AdamUp_AdamUpIdeal
    ∧ algebraic_AdamUpIdeal_AdamUpRefIdeal (hAdamUpIdeal := hAdamUpIdeal) (hAdamUpRefIdeal := hAdamUpRefIdeal)
    ∧ preserves_AdamOut_AdamOutIdeal
    ∧ algebraic_AdamOutIdeal_AdamOutRefIdeal (hAdamOutIdeal := hAdamOutIdeal) (hAdamOutRefIdeal := hAdamOutRefIdeal)
    ∧ preserves_AdamAda_AdamAdaIdeal
    ∧ algebraic_AdamAdaIdeal_AdamAdaRefIdeal (hAdamAdaIdeal := hAdamAdaIdeal) (hAdamAdaRefIdeal := hAdamAdaRefIdeal)
    ∧ preserves_AdamSmall_AdamSmallIdeal
    ∧ algebraic_AdamSmallIdeal_AdamSmallRefIdeal (hAdamSmallIdeal := hAdamSmallIdeal) (hAdamSmallRefIdeal := hAdamSmallRefIdeal)
    ∧ preserves_WAda_WAdaIdeal
    ∧ algebraic_WAdaIdeal_WAdaRefIdeal (hWAdaIdeal := hWAdaIdeal) (hWAdaRefIdeal := hWAdaRefIdeal)
-- ==== Pre_finite.lean ====
abbrev S8192x8x64 : Shape := ⟨3, ![8192, 8, 64]⟩
abbrev S8192x8 : Shape := ⟨2, ![8192, 8]⟩
abbrev S_ : Shape := ⟨0, ![]⟩
abbrev S8192x8x1 : Shape := ⟨3, ![8192, 8, 1]⟩

class Facts : Prop where
  bcast_S_S8192x8x64 : S_.BroadcastsInDim S8192x8x64 (![] : Fin 0 → Fin S8192x8x64.rank)
  bcast_S_S8192x8 : S_.BroadcastsInDim S8192x8 (![] : Fin 0 → Fin S8192x8.rank)
  bcast_S8192x8_S8192x8x1_0_1 : S8192x8.BroadcastsInDim S8192x8x1 (![0, 1] : Fin 2 → Fin S8192x8x1.rank)
  bcast_S8192x8x1_S8192x8x64_0_1_2 : S8192x8x1.BroadcastsInDim S8192x8x64 (![0, 1, 2] : Fin 3 → Fin S8192x8x64.rank)

variable [Facts]

def fn_part1 {F : FTy → Type} [FloatOps F] (main_v16 : IVec S8192x8x64 1) (main_v17 : FVec F S8192x8x64 .f32) (main_v18 : FVec F S8192x8x64 .f32) : IVec S8192x8x64 1 :=
  let main_v19 : IVec S8192x8x64 1 := cmpf .olt main_v17 main_v18
  let main_v20 : IVec S8192x8x64 1 := andi main_v16 main_v19
  main_v20

def fn {F : FTy → Type} [FloatOps F] (main_arg0 : FVec F S8192x8x64 .f32) (main_arg1 : FVec F S8192x8x64 .f32) (main_arg2 : FVec F S8192x8x64 .f32) (main_arg3 : FVec F S8192x8 .f32) (main_arg4 : FVec F S8192x8x64 .f32) : IVec S8192x8x64 1 :=
  let main_v0 : FVec F S8192x8x64 .f32 := Host.absf main_arg0
  let main_cst : FVec F S_ .f32 := constant S_ .f32 0x7F800000#32
  let main_v1 : FVec F S8192x8x64 .f32 := broadcastInDim S8192x8x64 ![] bcast_S_S8192x8x64 main_cst
  let main_v2 : IVec S8192x8x64 1 := cmpf .olt main_v0 main_v1
  let main_v3 : FVec F S8192x8x64 .f32 := Host.absf main_arg1
  let main_cst_0 : FVec F S_ .f32 := constant S_ .f32 0x7F800000#32
  let main_v4 : FVec F S8192x8x64 .f32 := broadcastInDim S8192x8x64 ![] bcast_S_S8192x8x64 main_cst_0
  let main_v5 : IVec S8192x8x64 1 := cmpf .olt main_v3 main_v4
  let main_v6 : IVec S8192x8x64 1 := andi main_v2 main_v5
  let main_v7 : FVec F S8192x8x64 .f32 := Host.absf main_arg2
  let main_cst_1 : FVec F S_ .f32 := constant S_ .f32 0x7F800000#32
  let main_v8 : FVec F S8192x8x64 .f32 := broadcastInDim S8192x8x64 ![] bcast_S_S8192x8x64 main_cst_1
  let main_v9 : IVec S8192x8x64 1 := cmpf .olt main_v7 main_v8
  let main_v10 : IVec S8192x8x64 1 := andi main_v6 main_v9
  let main_v11 : FVec F S8192x8 .f32 := Host.absf main_arg3
  let main_cst_2 : FVec F S_ .f32 := constant S_ .f32 0x7F800000#32
  let main_v12 : FVec F S8192x8 .f32 := broadcastInDim S8192x8 ![] bcast_S_S8192x8 main_cst_2
  let main_v13 : IVec S8192x8 1 := cmpf .olt main_v11 main_v12
  let main_v14 : IVec S8192x8x1 1 := broadcastInDim S8192x8x1 ![0, 1] bcast_S8192x8_S8192x8x1_0_1 main_v13
  let main_v15 : IVec S8192x8x64 1 := broadcastInDim S8192x8x64 ![0, 1, 2] bcast_S8192x8x1_S8192x8x64_0_1_2 main_v14
  let main_v16 : IVec S8192x8x64 1 := andi main_v10 main_v15
  let main_v17 : FVec F S8192x8x64 .f32 := Host.absf main_arg4
  let main_cst_3 : FVec F S_ .f32 := constant S_ .f32 0x7F800000#32
  let main_v18 : FVec F S8192x8x64 .f32 := broadcastInDim S8192x8x64 ![] bcast_S_S8192x8x64 main_cst_3
  fn_part1 (F := F) main_v16 main_v17 main_v18
-- ==== Pre_real.lean ====
abbrev S8192x512 : Shape := ⟨2, ![8192, 512]⟩
abbrev S8192x8 : Shape := ⟨2, ![8192, 8]⟩
abbrev S8192x1024 : Shape := ⟨2, ![8192, 1024]⟩
abbrev S1x1024 : Shape := ⟨2, ![1, 1024]⟩
abbrev S1024x5128 : Shape := ⟨2, ![1024, 5128]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bitsLt_bf16_f32 : FTy.bits .bf16 < FTy.bits .f32
  bcast_S_S8192x8 : S_.BroadcastsInDim S8192x8 (![] : Fin 0 → Fin S8192x8.rank)
  reducesTo_S8192x8_S_d0_1 : S8192x8.ReducesTo [0, 1] S_
  bcast_S_S8192x1024 : S_.BroadcastsInDim S8192x1024 (![] : Fin 0 → Fin S8192x1024.rank)
  reducesTo_S8192x1024_S_d0_1 : S8192x1024.ReducesTo [0, 1] S_
  bcast_S_S1x1024 : S_.BroadcastsInDim S1x1024 (![] : Fin 0 → Fin S1x1024.rank)
  reducesTo_S1x1024_S_d0_1 : S1x1024.ReducesTo [0, 1] S_
  bcast_S_S1024x5128 : S_.BroadcastsInDim S1024x5128 (![] : Fin 0 → Fin S1024x5128.rank)
  reducesTo_S1024x5128_S_d0_1 : S1024x5128.ReducesTo [0, 1] S_

variable [Facts]

def fn_part3 {F : FTy → Type} [FloatOps F] (main_arg13 : FVec F S1x1024 .f32) (main_arg14 : FVec F S1024x5128 .f32) (main_v3 : IVec S_ 1) (main_v8 : IVec S_ 1) (main_v13 : IVec S_ 1) (main_v17 : IVec S_ 1) (main_v22 : IVec S_ 1) (main_v26 : IVec S_ 1) (main_v31 : IVec S_ 1) (main_v36 : IVec S_ 1) (main_v41 : IVec S_ 1) (main_v45 : IVec S_ 1) (main_v49 : IVec S_ 1) : IVec S_ 1 :=
  let main_v50 : FVec F S1x1024 .f32 := Host.absf main_arg13
  let main_cst_20 : FVec F S_ .f32 := constant S_ .f32 0x7F800000#32
  let main_v51 : FVec F S1x1024 .f32 := broadcastInDim S1x1024 ![] bcast_S_S1x1024 main_cst_20
  let main_v52 : IVec S1x1024 1 := cmpf .olt main_v50 main_v51
  let main_c_21 : IVec S_ 1 := constantI S_ 1 1#1
  let main_v53 : IVec S_ 1 := (fun x v => Host.reduce IntOp.andi x v reducesTo_S1x1024_S_d0_1 h_S_) main_v52 main_c_21
  let main_v54 : FVec F S1024x5128 .f32 := Host.absf main_arg14
  let main_cst_22 : FVec F S_ .f32 := constant S_ .f32 0x7F800000#32
  let main_v55 : FVec F S1024x5128 .f32 := broadcastInDim S1024x5128 ![] bcast_S_S1024x5128 main_cst_22
  let main_v56 : IVec S1024x5128 1 := cmpf .olt main_v54 main_v55
  let main_c_23 : IVec S_ 1 := constantI S_ 1 1#1
  let main_v57 : IVec S_ 1 := (fun x v => Host.reduce IntOp.andi x v reducesTo_S1024x5128_S_d0_1 h_S_) main_v56 main_c_23
  let main_v58 : IVec S_ 1 := andi main_v3 main_v8
  let main_v59 : IVec S_ 1 := andi main_v58 main_v13
  let main_v60 : IVec S_ 1 := andi main_v59 main_v17
  let main_v61 : IVec S_ 1 := andi main_v60 main_v22
  let main_v62 : IVec S_ 1 := andi main_v61 main_v26
  let main_v63 : IVec S_ 1 := andi main_v62 main_v31
  let main_v64 : IVec S_ 1 := andi main_v63 main_v36
  let main_v65 : IVec S_ 1 := andi main_v64 main_v41
  let main_v66 : IVec S_ 1 := andi main_v65 main_v45
  let main_v67 : IVec S_ 1 := andi main_v66 main_v49
  let main_v68 : IVec S_ 1 := andi main_v67 main_v53
  let main_v69 : IVec S_ 1 := andi main_v68 main_v57
  main_v69

def fn_part2 {F : FTy → Type} [FloatOps F] (main_arg8 : FVec F S8192x1024 .bf16) (main_arg9 : FVec F S8192x1024 .f32) (main_arg12 : FVec F S1x1024 .f32) (main_arg13 : FVec F S1x1024 .f32) (main_arg14 : FVec F S1024x5128 .f32) (main_v3 : IVec S_ 1) (main_v8 : IVec S_ 1) (main_v13 : IVec S_ 1) (main_v17 : IVec S_ 1) (main_v22 : IVec S_ 1) (main_v26 : IVec S_ 1) (main_v31 : IVec S_ 1) (main_v33 : FVec F S8192x1024 .f32) : IVec S_ 1 :=
  let main_cst_12 : FVec F S_ .f32 := constant S_ .f32 0x7F800000#32
  let main_v34 : FVec F S8192x1024 .f32 := broadcastInDim S8192x1024 ![] bcast_S_S8192x1024 main_cst_12
  let main_v35 : IVec S8192x1024 1 := cmpf .olt main_v33 main_v34
  let main_c_13 : IVec S_ 1 := constantI S_ 1 1#1
  let main_v36 : IVec S_ 1 := (fun x v => Host.reduce IntOp.andi x v reducesTo_S8192x1024_S_d0_1 h_S_) main_v35 main_c_13
  let main_v37 : FVec F S8192x1024 .f32 := (extf .f32 · bitsLt_bf16_f32) main_arg8
  let main_v38 : FVec F S8192x1024 .f32 := Host.absf main_v37
  let main_cst_14 : FVec F S_ .f32 := constant S_ .f32 0x7F800000#32
  let main_v39 : FVec F S8192x1024 .f32 := broadcastInDim S8192x1024 ![] bcast_S_S8192x1024 main_cst_14
  let main_v40 : IVec S8192x1024 1 := cmpf .olt main_v38 main_v39
  let main_c_15 : IVec S_ 1 := constantI S_ 1 1#1
  let main_v41 : IVec S_ 1 := (fun x v => Host.reduce IntOp.andi x v reducesTo_S8192x1024_S_d0_1 h_S_) main_v40 main_c_15
  let main_v42 : FVec F S8192x1024 .f32 := Host.absf main_arg9
  let main_cst_16 : FVec F S_ .f32 := constant S_ .f32 0x7F800000#32
  let main_v43 : FVec F S8192x1024 .f32 := broadcastInDim S8192x1024 ![] bcast_S_S8192x1024 main_cst_16
  let main_v44 : IVec S8192x1024 1 := cmpf .olt main_v42 main_v43
  let main_c_17 : IVec S_ 1 := constantI S_ 1 1#1
  let main_v45 : IVec S_ 1 := (fun x v => Host.reduce IntOp.andi x v reducesTo_S8192x1024_S_d0_1 h_S_) main_v44 main_c_17
  let main_v46 : FVec F S1x1024 .f32 := Host.absf main_arg12
  let main_cst_18 : FVec F S_ .f32 := constant S_ .f32 0x7F800000#32
  let main_v47 : FVec F S1x1024 .f32 := broadcastInDim S1x1024 ![] bcast_S_S1x1024 main_cst_18
  let main_v48 : IVec S1x1024 1 := cmpf .olt main_v46 main_v47
  let main_c_19 : IVec S_ 1 := constantI S_ 1 1#1
  let main_v49 : IVec S_ 1 := (fun x v => Host.reduce IntOp.andi x v reducesTo_S1x1024_S_d0_1 h_S_) main_v48 main_c_19
  fn_part3 (F := F) main_arg13 main_arg14 main_v3 main_v8 main_v13 main_v17 main_v22 main_v26 main_v31 main_v36 main_v41 main_v45 main_v49

def fn_part1 {F : FTy → Type} [FloatOps F] (main_arg4 : FVec F S8192x512 .bf16) (main_arg5 : FVec F S8192x512 .f32) (main_arg6 : FVec F S8192x512 .bf16) (main_arg7 : FVec F S8192x1024 .bf16) (main_arg8 : FVec F S8192x1024 .bf16) (main_arg9 : FVec F S8192x1024 .f32) (main_arg12 : FVec F S1x1024 .f32) (main_arg13 : FVec F S1x1024 .f32) (main_arg14 : FVec F S1024x5128 .f32) (main_v3 : IVec S_ 1) (main_v8 : IVec S_ 1) (main_v13 : IVec S_ 1) (main_v16 : IVec S8192x8 1) : IVec S_ 1 :=
  let main_c_5 : IVec S_ 1 := constantI S_ 1 1#1
  let main_v17 : IVec S_ 1 := (fun x v => Host.reduce IntOp.andi x v reducesTo_S8192x8_S_d0_1 h_S_) main_v16 main_c_5
  let main_v18 : FVec F S8192x512 .f32 := (extf .f32 · bitsLt_bf16_f32) main_arg4
  let main_v19 : FVec F S8192x512 .f32 := Host.absf main_v18
  let main_cst_6 : FVec F S_ .f32 := constant S_ .f32 0x7F800000#32
  let main_v20 : FVec F S8192x512 .f32 := broadcastInDim S8192x512 ![] bcast_S_S8192x512 main_cst_6
  let main_v21 : IVec S8192x512 1 := cmpf .olt main_v19 main_v20
  let main_c_7 : IVec S_ 1 := constantI S_ 1 1#1
  let main_v22 : IVec S_ 1 := (fun x v => Host.reduce IntOp.andi x v reducesTo_S8192x512_S_d0_1 h_S_) main_v21 main_c_7
  let main_v23 : FVec F S8192x512 .f32 := Host.absf main_arg5
  let main_cst_8 : FVec F S_ .f32 := constant S_ .f32 0x7F800000#32
  let main_v24 : FVec F S8192x512 .f32 := broadcastInDim S8192x512 ![] bcast_S_S8192x512 main_cst_8
  let main_v25 : IVec S8192x512 1 := cmpf .olt main_v23 main_v24
  let main_c_9 : IVec S_ 1 := constantI S_ 1 1#1
  let main_v26 : IVec S_ 1 := (fun x v => Host.reduce IntOp.andi x v reducesTo_S8192x512_S_d0_1 h_S_) main_v25 main_c_9
  let main_v27 : FVec F S8192x512 .f32 := (extf .f32 · bitsLt_bf16_f32) main_arg6
  let main_v28 : FVec F S8192x512 .f32 := Host.absf main_v27
  let main_cst_10 : FVec F S_ .f32 := constant S_ .f32 0x7F800000#32
  let main_v29 : FVec F S8192x512 .f32 := broadcastInDim S8192x512 ![] bcast_S_S8192x512 main_cst_10
  let main_v30 : IVec S8192x512 1 := cmpf .olt main_v28 main_v29
  let main_c_11 : IVec S_ 1 := constantI S_ 1 1#1
  let main_v31 : IVec S_ 1 := (fun x v => Host.reduce IntOp.andi x v reducesTo_S8192x512_S_d0_1 h_S_) main_v30 main_c_11
  let main_v32 : FVec F S8192x1024 .f32 := (extf .f32 · bitsLt_bf16_f32) main_arg7
  let main_v33 : FVec F S8192x1024 .f32 := Host.absf main_v32
  fn_part2 (F := F) main_arg8 main_arg9 main_arg12 main_arg13 main_arg14 main_v3 main_v8 main_v13 main_v17 main_v22 main_v26 main_v31 main_v33

def fn {F : FTy → Type} [FloatOps F] (main_arg0 : FVec F S8192x512 .f32) (main_arg1 : FVec F S8192x512 .bf16) (main_arg2 : FVec F S8192x512 .bf16) (main_arg3 : FVec F S8192x8 .f32) (main_arg4 : FVec F S8192x512 .bf16) (main_arg5 : FVec F S8192x512 .f32) (main_arg6 : FVec F S8192x512 .bf16) (main_arg7 : FVec F S8192x1024 .bf16) (main_arg8 : FVec F S8192x1024 .bf16) (main_arg9 : FVec F S8192x1024 .f32) (main_arg10 : FVec F S8192x1024 .f32) (main_arg11 : FVec F S1x1024 .f32) (main_arg12 : FVec F S1x1024 .f32) (main_arg13 : FVec F S1x1024 .f32) (main_arg14 : FVec F S1024x5128 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S8192x512 .f32 := (extf .f32 · bitsLt_bf16_f32) main_arg1
  let main_v5 : FVec F S8192x512 .f32 := Host.absf main_v4
  let main_cst_0 : FVec F S_ .f32 := constant S_ .f32 0x7F800000#32
  let main_v6 : FVec F S8192x512 .f32 := broadcastInDim S8192x512 ![] bcast_S_S8192x512 main_cst_0
  let main_v7 : IVec S8192x512 1 := cmpf .olt main_v5 main_v6
  let main_c_1 : IVec S_ 1 := constantI S_ 1 1#1
  let main_v8 : IVec S_ 1 := (fun x v => Host.reduce IntOp.andi x v reducesTo_S8192x512_S_d0_1 h_S_) main_v7 main_c_1
  let main_v9 : FVec F S8192x512 .f32 := (extf .f32 · bitsLt_bf16_f32) main_arg2
  let main_v10 : FVec F S8192x512 .f32 := Host.absf main_v9
  let main_cst_2 : FVec F S_ .f32 := constant S_ .f32 0x7F800000#32
  let main_v11 : FVec F S8192x512 .f32 := broadcastInDim S8192x512 ![] bcast_S_S8192x512 main_cst_2
  let main_v12 : IVec S8192x512 1 := cmpf .olt main_v10 main_v11
  let main_c_3 : IVec S_ 1 := constantI S_ 1 1#1
  let main_v13 : IVec S_ 1 := (fun x v => Host.reduce IntOp.andi x v reducesTo_S8192x512_S_d0_1 h_S_) main_v12 main_c_3
  let main_v14 : FVec F S8192x8 .f32 := Host.absf main_arg3
  let main_cst_4 : FVec F S_ .f32 := constant S_ .f32 0x7F800000#32
  let main_v15 : FVec F S8192x8 .f32 := broadcastInDim S8192x8 ![] bcast_S_S8192x8 main_cst_4
  let main_v16 : IVec S8192x8 1 := cmpf .olt main_v14 main_v15
  fn_part1 (F := F) main_arg4 main_arg5 main_arg6 main_arg7 main_arg8 main_arg9 main_arg12 main_arg13 main_arg14 main_v3 main_v8 main_v13 main_v16
-- ==== Kernel.lean ====
abbrev S8192x8x64 : Shape := ⟨3, ![8192, 8, 64]⟩
abbrev S8192x8 : Shape := ⟨2, ![8192, 8]⟩
abbrev S_ : Shape := ⟨0, ![]⟩
abbrev S8x8192 : Shape := ⟨2, ![8, 8192]⟩
abbrev S8x8192x8192 : Shape := ⟨3, ![8, 8192, 8192]⟩
abbrev S8x8192x1 : Shape := ⟨3, ![8, 8192, 1]⟩
abbrev S8x1x8192 : Shape := ⟨3, ![8, 1, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S8x64x8192 : Shape := ⟨3, ![8, 64, 8192]⟩
abbrev S4x2x16x512 : Shape := ⟨4, ![4, 2, 16, 512]⟩
abbrev S4x16x2x512 : Shape := ⟨4, ![4, 16, 2, 512]⟩
abbrev S4x2x8192x1 : Shape := ⟨4, ![4, 2, 8192, 1]⟩
abbrev S1x2x1x128 : Shape := ⟨4, ![1, 2, 1, 128]⟩
abbrev S4x2x8192x128 : Shape := ⟨4, ![4, 2, 8192, 128]⟩
abbrev S8192x4x1x128 : Shape := ⟨4, ![8192, 4, 1, 128]⟩
abbrev S4x1x8192x128 : Shape := ⟨4, ![4, 1, 8192, 128]⟩
abbrev S8x8192x128 : Shape := ⟨3, ![8, 8192, 128]⟩
abbrev S8192x512 : Shape := ⟨2, ![8192, 512]⟩
abbrev S4x8192x2 : Shape := ⟨3, ![4, 8192, 2]⟩
abbrev S2x8192x128 : Shape := ⟨3, ![2, 8192, 128]⟩
abbrev S8192x128 : Shape := ⟨2, ![8192, 128]⟩
abbrev S2x512x128 : Shape := ⟨3, ![2, 512, 128]⟩
abbrev S512x128 : Shape := ⟨2, ![512, 128]⟩
abbrev S1x16x2x512 : Shape := ⟨4, ![1, 16, 2, 512]⟩
abbrev S1x512x2 : Shape := ⟨3, ![1, 512, 2]⟩
abbrev S2x512x1 : Shape := ⟨3, ![2, 512, 1]⟩
abbrev S16x2x512 : Shape := ⟨3, ![16, 2, 512]⟩
abbrev S1x512x128 : Shape := ⟨3, ![1, 512, 128]⟩
abbrev S1x1x2x512 : Shape := ⟨4, ![1, 1, 2, 512]⟩
abbrev S2x512 : Shape := ⟨2, ![2, 512]⟩
abbrev S512x512 : Shape := ⟨2, ![512, 512]⟩
abbrev S1x512 : Shape := ⟨2, ![1, 512]⟩
abbrev S1x512x1 : Shape := ⟨3, ![1, 512, 1]⟩
abbrev S512x1 : Shape := ⟨2, ![512, 1]⟩
abbrev S512 : Shape := ⟨1, ![512]⟩
abbrev S512x2 : Shape := ⟨2, ![512, 2]⟩

abbrev nBuf : Space → Nat
  | .hbm => 180
  | .vmem => 27
  | .smem => 0
  | _ => 0

abbrev hbmTy0_0 (i : Nat) : BufTy := match i % 128 with
  | 0 => ⟨S8192x8x64, .f32⟩
  | 1 => ⟨S8192x8x64, .f32⟩
  | 2 => ⟨S8192x8x64, .f32⟩
  | 3 => ⟨S8192x8, .f32⟩
  | 4 => ⟨S8192x8x64, .f32⟩
  | 5 => ⟨S_, .f32⟩
  | 6 => ⟨S_, .f32⟩
  | 7 => ⟨S8192x8, .f32⟩
  | 8 => ⟨S8x8192, .f32⟩
  | 9 => ⟨S8x8192x8192, .f32⟩
  | 10 => ⟨S_, .f32⟩
  | 11 => ⟨S8x8192x8192, .f32⟩
  | 12 => ⟨S8x8192x8192, .f32⟩
  | 13 => ⟨S8x8192x1, .f32⟩
  | 14 => ⟨S8x8192x8192, .f32⟩
  | 15 => ⟨S8x8192x8192, .f32⟩
  | 16 => ⟨S8x1x8192, .f32⟩
  | 17 => ⟨S8x8192x8192, .f32⟩
  | 18 => ⟨S8x8192x8192, .f32⟩
  | 19 => ⟨S8192, .i32⟩
  | 20 => ⟨S1x8192, .i32⟩
  | 21 => ⟨S8192x1, .i32⟩
  | 22 => ⟨S8192x8192, .i32⟩
  | 23 => ⟨S8192x8192, .i32⟩
  | 24 => ⟨S8192x8192, .i1⟩
  | 25 => ⟨S_, .f32⟩
  | 26 => ⟨S_, .f32⟩
  | 27 => ⟨S8x8192x8192, .i1⟩
  | 28 => ⟨S8x8192x8192, .f32⟩
  | 29 => ⟨S8x8192x8192, .f32⟩
  | 30 => ⟨S_, .f32⟩
  | 31 => ⟨S8x8192, .f32⟩
  | 32 => ⟨S8x8192x1, .f32⟩
  | 33 => ⟨S8x8192x8192, .f32⟩
  | 34 => ⟨S8x8192x8192, .f32⟩
  | 35 => ⟨S8x8192x8192, .f32⟩
  | 36 => ⟨S_, .f32⟩
  | 37 => ⟨S8x8192, .f32⟩
  | 38 => ⟨S8x8192x1, .f32⟩
  | 39 => ⟨S8x8192x8192, .f32⟩
  | 40 => ⟨S8x8192x8192, .f32⟩
  | 41 => ⟨S8x64x8192, .f32⟩
  | 42 => ⟨S8192x8x64, .f32⟩
  | 43 => ⟨S8x8192x1, .f32⟩
  | 44 => ⟨S8x8192x1, .f32⟩
  | 45 => ⟨S4x2x16x512, .f32⟩
  | 46 => ⟨S4x16x2x512, .f32⟩
  | 47 => ⟨S8192x8x64, .f32⟩
  | 48 => ⟨S_, .f32⟩
  | 49 => ⟨S8192x8, .f32⟩
  | 50 => ⟨S8x8192, .f32⟩
  | 51 => ⟨S4x2x16x512, .f32⟩
  | 52 => ⟨S4x16x2x512, .f32⟩
  | 53 => ⟨S4x2x8192x1, .f32⟩
  | 54 => ⟨S4x2x8192x1, .bf16⟩
  | 55 => ⟨S4x2x8192x1, .f32⟩
  | 56 => ⟨S4x2x8192x1, .f32⟩
  | 57 => ⟨S4x2x8192x1, .bf16⟩
  | 58 => ⟨S4x2x8192x1, .f32⟩
  | 59 => ⟨S4x2x8192x1, .f32⟩
  | 60 => ⟨S4x2x8192x1, .bf16⟩
  | 61 => ⟨S4x2x8192x1, .f32⟩
  | 62 => ⟨S4x2x8192x1, .f32⟩
  | 63 => ⟨S1x2x1x128, .i32⟩
  | 64 => ⟨S1x2x1x128, .i32⟩
  | 65 => ⟨S_, .i32⟩
  | 66 => ⟨S1x2x1x128, .i32⟩
  | 67 => ⟨S1x2x1x128, .i1⟩
  | 68 => ⟨S_, .i32⟩
  | 69 => ⟨S1x2x1x128, .i32⟩
  | 70 => ⟨S1x2x1x128, .i1⟩
  | 71 => ⟨S1x2x1x128, .i1⟩
  | 72 => ⟨S_, .i32⟩
  | 73 => ⟨S1x2x1x128, .i32⟩
  | 74 => ⟨S1x2x1x128, .i1⟩
  | 75 => ⟨S_, .i32⟩
  | 76 => ⟨S1x2x1x128, .i32⟩
  | 77 => ⟨S1x2x1x128, .i32⟩
  | 78 => ⟨S1x2x1x128, .i32⟩
  | 79 => ⟨S_, .bf16⟩
  | 80 => ⟨S4x2x8192x128, .bf16⟩
  | 81 => ⟨S_, .bf16⟩
  | 82 => ⟨S4x2x8192x128, .bf16⟩
  | 83 => ⟨S_, .bf16⟩
  | 84 => ⟨S4x2x8192x128, .bf16⟩
  | 85 => ⟨S_, .i32⟩
  | 86 => ⟨S1x2x1x128, .i32⟩
  | 87 => ⟨S1x2x1x128, .i1⟩
  | 88 => ⟨S4x2x8192x128, .i1⟩
  | 89 => ⟨S4x2x8192x128, .bf16⟩
  | 90 => ⟨S4x2x8192x128, .bf16⟩
  | 91 => ⟨S_, .i32⟩
  | 92 => ⟨S1x2x1x128, .i32⟩
  | 93 => ⟨S1x2x1x128, .i1⟩
  | 94 => ⟨S4x2x8192x128, .i1⟩
  | 95 => ⟨S4x2x8192x128, .bf16⟩
  | 96 => ⟨S_, .i32⟩
  | 97 => ⟨S1x2x1x128, .i32⟩
  | 98 => ⟨S1x2x1x128, .i1⟩
  | 99 => ⟨S4x2x8192x128, .i1⟩
  | 100 => ⟨S4x2x8192x128, .bf16⟩
  | 101 => ⟨S_, .i32⟩
  | 102 => ⟨S1x2x1x128, .i32⟩
  | 103 => ⟨S1x2x1x128, .i1⟩
  | 104 => ⟨S4x2x8192x1, .bf16⟩
  | 105 => ⟨S4x2x8192x128, .i1⟩
  | 106 => ⟨S4x2x8192x128, .bf16⟩
  | 107 => ⟨S4x2x8192x128, .bf16⟩
  | 108 => ⟨S_, .i32⟩
  | 109 => ⟨S1x2x1x128, .i32⟩
  | 110 => ⟨S1x2x1x128, .i1⟩
  | 111 => ⟨S4x2x8192x128, .i1⟩
  | 112 => ⟨S4x2x8192x128, .bf16⟩
  | 113 => ⟨S4x2x8192x128, .bf16⟩
  | 114 => ⟨S_, .i32⟩
  | 115 => ⟨S1x2x1x128, .i32⟩
  | 116 => ⟨S1x2x1x128, .i1⟩
  | 117 => ⟨S4x2x8192x128, .i1⟩
  | 118 => ⟨S4x2x8192x128, .bf16⟩
  | 119 => ⟨S_, .i32⟩
  | 120 => ⟨S1x2x1x128, .i32⟩
  | 121 => ⟨S1x2x1x128, .i1⟩
  | 122 => ⟨S4x2x8192x128, .i1⟩
  | 123 => ⟨S4x2x8192x128, .bf16⟩
  | 124 => ⟨S_, .i32⟩
  | 125 => ⟨S1x2x1x128, .i32⟩
  | 126 => ⟨S1x2x1x128, .i1⟩
  | 127 => ⟨S4x2x8192x1, .bf16⟩
  | _ => ⟨S8192x8x64, .f32⟩

abbrev hbmTy0_1 (i : Nat) : BufTy := match i % 128 with
  | 0 => ⟨S4x2x8192x128, .i1⟩
  | 1 => ⟨S4x2x8192x128, .bf16⟩
  | 2 => ⟨S4x2x8192x128, .bf16⟩
  | 3 => ⟨S_, .i32⟩
  | 4 => ⟨S1x2x1x128, .i32⟩
  | 5 => ⟨S1x2x1x128, .i1⟩
  | 6 => ⟨S4x2x8192x128, .i1⟩
  | 7 => ⟨S4x2x8192x128, .bf16⟩
  | 8 => ⟨S4x2x8192x128, .bf16⟩
  | 9 => ⟨S_, .i32⟩
  | 10 => ⟨S1x2x1x128, .i32⟩
  | 11 => ⟨S1x2x1x128, .i1⟩
  | 12 => ⟨S4x2x8192x128, .i1⟩
  | 13 => ⟨S4x2x8192x128, .bf16⟩
  | 14 => ⟨S_, .i32⟩
  | 15 => ⟨S1x2x1x128, .i32⟩
  | 16 => ⟨S1x2x1x128, .i1⟩
  | 17 => ⟨S4x2x8192x128, .i1⟩
  | 18 => ⟨S4x2x8192x128, .bf16⟩
  | 19 => ⟨S_, .i32⟩
  | 20 => ⟨S1x2x1x128, .i32⟩
  | 21 => ⟨S1x2x1x128, .i1⟩
  | 22 => ⟨S4x2x8192x1, .bf16⟩
  | 23 => ⟨S4x2x8192x128, .i1⟩
  | 24 => ⟨S4x2x8192x128, .bf16⟩
  | 25 => ⟨S4x2x8192x128, .bf16⟩
  | 26 => ⟨S_, .f32⟩
  | 27 => ⟨S8192x8x64, .f32⟩
  | 28 => ⟨S8192x8x64, .f32⟩
  | 29 => ⟨S8192x8x64, .bf16⟩
  | 30 => ⟨S8192x4x1x128, .bf16⟩
  | 31 => ⟨S4x1x8192x128, .bf16⟩
  | 32 => ⟨S4x2x8192x128, .i1⟩
  | 33 => ⟨S4x2x8192x128, .bf16⟩
  | 34 => ⟨S4x2x8192x128, .bf16⟩
  | 35 => ⟨S8x8192x128, .bf16⟩
  | 36 => ⟨S8192x8x64, .bf16⟩
  | 37 => ⟨S8192x4x1x128, .bf16⟩
  | 38 => ⟨S4x1x8192x128, .bf16⟩
  | 39 => ⟨S4x2x8192x128, .i1⟩
  | 40 => ⟨S4x2x8192x128, .bf16⟩
  | 41 => ⟨S4x2x8192x128, .bf16⟩
  | 42 => ⟨S8x8192x128, .bf16⟩
  | 43 => ⟨S8192x512, .f32⟩
  | 44 => ⟨S8192x512, .bf16⟩
  | 45 => ⟨S8192x512, .f32⟩
  | 46 => ⟨S8192x512, .bf16⟩
  | 47 => ⟨S8192x512, .f32⟩
  | 48 => ⟨S8192x512, .bf16⟩
  | 49 => ⟨S8192x512, .bf16⟩
  | 50 => ⟨S4x16x2x512, .f32⟩
  | 51 => ⟨S4x8192x2, .f32⟩
  | _ => ⟨S8192x8x64, .f32⟩

abbrev hbmTy (i : Nat) : BufTy := match i / 128 with
  | 0 => hbmTy0_0 i
  | 1 => hbmTy0_1 i
  | _ => ⟨S8192x8x64, .f32⟩

abbrev bufTy : (tb : Table) → Fin (tcTables nBuf tb) → BufTy
  | .hbm, ⟨i, _⟩ => hbmTy i
  | .local _ .vmem, ⟨0, _⟩ => ⟨S2x8192x128, .bf16⟩
  | .local _ .vmem, ⟨1, _⟩ => ⟨S2x8192x128, .bf16⟩
  | .local _ .vmem, ⟨2, _⟩ => ⟨S8192x128, .bf16⟩
  | .local _ .vmem, ⟨3, _⟩ => ⟨S8192x128, .bf16⟩
  | .local _ .vmem, ⟨4, _⟩ => ⟨S2x512x128, .bf16⟩
  | .local _ .vmem, ⟨5, _⟩ => ⟨S2x512x128, .bf16⟩
  | .local _ .vmem, ⟨6, _⟩ => ⟨S512x128, .bf16⟩
  | .local _ .vmem, ⟨7, _⟩ => ⟨S512x128, .bf16⟩
  | .local _ .vmem, ⟨8, _⟩ => ⟨S1x16x2x512, .f32⟩
  | .local _ .vmem, ⟨9, _⟩ => ⟨S1x16x2x512, .f32⟩
  | .local _ .vmem, ⟨10, _⟩ => ⟨S1x16x2x512, .f32⟩
  | .local _ .vmem, ⟨11, _⟩ => ⟨S1x16x2x512, .f32⟩
  | .local _ .vmem, ⟨12, _⟩ => ⟨S8192x128, .f32⟩
  | .local _ .vmem, ⟨13, _⟩ => ⟨S8192x128, .f32⟩
  | .local _ .vmem, ⟨14, _⟩ => ⟨S512x128, .bf16⟩
  | .local _ .vmem, ⟨15, _⟩ => ⟨S512x128, .bf16⟩
  | .local _ .vmem, ⟨16, _⟩ => ⟨S512x128, .bf16⟩
  | .local _ .vmem, ⟨17, _⟩ => ⟨S512x128, .bf16⟩
  | .local _ .vmem, ⟨18, _⟩ => ⟨S1x16x2x512, .f32⟩
  | .local _ .vmem, ⟨19, _⟩ => ⟨S1x16x2x512, .f32⟩
  | .local _ .vmem, ⟨20, _⟩ => ⟨S1x512x2, .f32⟩
  | .local _ .vmem, ⟨21, _⟩ => ⟨S1x512x2, .f32⟩
  | .local _ .vmem, ⟨22, _⟩ => ⟨S2x512x128, .bf16⟩
  | .local _ .vmem, ⟨23, _⟩ => ⟨S2x512x128, .bf16⟩
  | .local _ .vmem, ⟨24, _⟩ => ⟨S512x128, .f32⟩
  | .local _ .vmem, ⟨25, _⟩ => ⟨S512x128, .f32⟩
  | .local _ .vmem, ⟨26, _⟩ => ⟨S2x512x1, .f32⟩
  | _, _ => ⟨S8192x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_call0_cst : Ref sig .tc := ⟨.hbm, 5, rfl⟩
abbrev main_call0_call0_v0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_0 : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_v17 : Ref sig .tc := ⟨.hbm, 29, rfl⟩
abbrev main_cst_1 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_2 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_3 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_c : Ref sig .tc := ⟨.hbm, 65, rfl⟩
abbrev main_v50 : Ref sig .tc := ⟨.hbm, 66, rfl⟩
abbrev main_v51 : Ref sig .tc := ⟨.hbm, 67, rfl⟩
abbrev main_c_4 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_c_5 : Ref sig .tc := ⟨.hbm, 72, rfl⟩
abbrev main_v55 : Ref sig .tc := ⟨.hbm, 73, rfl⟩
abbrev main_v56 : Ref sig .tc := ⟨.hbm, 74, rfl⟩
abbrev main_c_6 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_cst_7 : Ref sig .tc := ⟨.hbm, 79, rfl⟩
abbrev main_v60 : Ref sig .tc := ⟨.hbm, 80, rfl⟩
abbrev main_cst_8 : Ref sig .tc := ⟨.hbm, 81, rfl⟩
abbrev main_v61 : Ref sig .tc := ⟨.hbm, 82, rfl⟩
abbrev main_cst_9 : Ref sig .tc := ⟨.hbm, 83, rfl⟩
abbrev main_v62 : Ref sig .tc := ⟨.hbm, 84, rfl⟩
abbrev main_c_10 : Ref sig .tc := ⟨.hbm, 85, rfl⟩
abbrev main_v63 : Ref sig .tc := ⟨.hbm, 86, rfl⟩
abbrev main_v64 : Ref sig .tc := ⟨.hbm, 87, rfl⟩
abbrev main_call3_v0 : Ref sig .tc := ⟨.hbm, 88, rfl⟩
abbrev main_call3_v1 : Ref sig .tc := ⟨.hbm, 89, rfl⟩
abbrev main_v65 : Ref sig .tc := ⟨.hbm, 90, rfl⟩
abbrev main_c_11 : Ref sig .tc := ⟨.hbm, 91, rfl⟩
abbrev main_v66 : Ref sig .tc := ⟨.hbm, 92, rfl⟩
abbrev main_v67 : Ref sig .tc := ⟨.hbm, 93, rfl⟩
abbrev main_call4_v0 : Ref sig .tc := ⟨.hbm, 94, rfl⟩
abbrev main_v68 : Ref sig .tc := ⟨.hbm, 95, rfl⟩
abbrev main_c_12 : Ref sig .tc := ⟨.hbm, 96, rfl⟩
abbrev main_v69 : Ref sig .tc := ⟨.hbm, 97, rfl⟩
abbrev main_v70 : Ref sig .tc := ⟨.hbm, 98, rfl⟩
abbrev main_call5_v0 : Ref sig .tc := ⟨.hbm, 99, rfl⟩
abbrev main_v71 : Ref sig .tc := ⟨.hbm, 100, rfl⟩
abbrev main_c_13 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_call6_v0 : Ref sig .tc := ⟨.hbm, 105, rfl⟩
abbrev main_call6_v1 : Ref sig .tc := ⟨.hbm, 106, rfl⟩
abbrev main_v75 : Ref sig .tc := ⟨.hbm, 107, rfl⟩
abbrev main_c_14 : Ref sig .tc := ⟨.hbm, 108, rfl⟩
abbrev main_v76 : Ref sig .tc := ⟨.hbm, 109, rfl⟩
abbrev main_v77 : Ref sig .tc := ⟨.hbm, 110, rfl⟩
abbrev main_call7_v0 : Ref sig .tc := ⟨.hbm, 111, rfl⟩
abbrev main_call7_v1 : Ref sig .tc := ⟨.hbm, 112, rfl⟩
abbrev main_v78 : Ref sig .tc := ⟨.hbm, 113, rfl⟩
abbrev main_c_15 : Ref sig .tc := ⟨.hbm, 114, rfl⟩
abbrev main_v79 : Ref sig .tc := ⟨.hbm, 115, rfl⟩
abbrev main_v80 : Ref sig .tc := ⟨.hbm, 116, rfl⟩
abbrev main_call8_v0 : Ref sig .tc := ⟨.hbm, 117, rfl⟩
abbrev main_v81 : Ref sig .tc := ⟨.hbm, 118, rfl⟩
abbrev main_c_16 : Ref sig .tc := ⟨.hbm, 119, rfl⟩
abbrev main_v82 : Ref sig .tc := ⟨.hbm, 120, rfl⟩
abbrev main_v83 : Ref sig .tc := ⟨.hbm, 121, rfl⟩
abbrev main_call9_v0 : Ref sig .tc := ⟨.hbm, 122, rfl⟩
abbrev main_v84 : Ref sig .tc := ⟨.hbm, 123, rfl⟩
abbrev main_c_17 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_call10_v0 : Ref sig .tc := ⟨.hbm, 128, rfl⟩
abbrev main_call10_v1 : Ref sig .tc := ⟨.hbm, 129, rfl⟩
abbrev main_v88 : Ref sig .tc := ⟨.hbm, 130, rfl⟩
abbrev main_c_18 : Ref sig .tc := ⟨.hbm, 131, rfl⟩
abbrev main_v89 : Ref sig .tc := ⟨.hbm, 132, rfl⟩
abbrev main_v90 : Ref sig .tc := ⟨.hbm, 133, rfl⟩
abbrev main_call11_v0 : Ref sig .tc := ⟨.hbm, 134, rfl⟩
abbrev main_call11_v1 : Ref sig .tc := ⟨.hbm, 135, rfl⟩
abbrev main_v91 : Ref sig .tc := ⟨.hbm, 136, rfl⟩
abbrev main_c_19 : Ref sig .tc := ⟨.hbm, 137, rfl⟩
abbrev main_v92 : Ref sig .tc := ⟨.hbm, 138, rfl⟩
abbrev main_v93 : Ref sig .tc := ⟨.hbm, 139, rfl⟩
abbrev main_call12_v0 : Ref sig .tc := ⟨.hbm, 140, rfl⟩
abbrev main_v94 : Ref sig .tc := ⟨.hbm, 141, rfl⟩
abbrev main_c_20 : Ref sig .tc := ⟨.hbm, 142, rfl⟩
abbrev main_v95 : Ref sig .tc := ⟨.hbm, 143, rfl⟩
abbrev main_v96 : Ref sig .tc := ⟨.hbm, 144, rfl⟩
abbrev main_call13_v0 : Ref sig .tc := ⟨.hbm, 145, rfl⟩
abbrev main_v97 : Ref sig .tc := ⟨.hbm, 146, rfl⟩
abbrev main_c_21 : Ref sig .tc := ⟨.hbm, 147, rfl⟩
abbrev main_v98 : Ref sig .tc := ⟨.hbm, 148, rfl⟩
abbrev main_v99 : Ref sig .tc := ⟨.hbm, 149, rfl⟩
abbrev main_v100 : Ref sig .tc := ⟨.hbm, 150, rfl⟩
abbrev main_call14_v0 : Ref sig .tc := ⟨.hbm, 151, rfl⟩
abbrev main_call14_v1 : Ref sig .tc := ⟨.hbm, 152, rfl⟩
abbrev main_v101 : Ref sig .tc := ⟨.hbm, 153, rfl⟩
abbrev main_cst_22 : Ref sig .tc := ⟨.hbm, 154, rfl⟩
abbrev main_v102 : Ref sig .tc := ⟨.hbm, 155, rfl⟩
abbrev main_v103 : Ref sig .tc := ⟨.hbm, 156, rfl⟩
abbrev main_v104 : Ref sig .tc := ⟨.hbm, 157, rfl⟩
abbrev main_v105 : Ref sig .tc := ⟨.hbm, 158, rfl⟩
abbrev main_v106 : Ref sig .tc := ⟨.hbm, 159, rfl⟩
abbrev main_call15_v0 : Ref sig .tc := ⟨.hbm, 160, rfl⟩
abbrev main_call15_v1 : Ref sig .tc := ⟨.hbm, 161, rfl⟩
abbrev main_v107 : Ref sig .tc := ⟨.hbm, 162, rfl⟩
abbrev main_v108 : Ref sig .tc := ⟨.hbm, 163, rfl⟩
abbrev main_v109 : Ref sig .tc := ⟨.hbm, 164, rfl⟩
abbrev main_v110 : Ref sig .tc := ⟨.hbm, 165, rfl⟩
abbrev main_v111 : Ref sig .tc := ⟨.hbm, 166, rfl⟩
abbrev main_call16_v0 : Ref sig .tc := ⟨.hbm, 167, rfl⟩
abbrev main_call16_v1 : Ref sig .tc := ⟨.hbm, 168, rfl⟩
abbrev main_v112 : Ref sig .tc := ⟨.hbm, 169, rfl⟩
abbrev main_v113 : Ref sig .tc := ⟨.hbm, 170, rfl⟩
abbrev main_v114 : Ref sig .tc := ⟨.hbm, 171, rfl⟩
abbrev main_v115 : Ref sig .tc := ⟨.hbm, 172, rfl⟩
abbrev main_v116 : Ref sig .tc := ⟨.hbm, 173, rfl⟩
abbrev main_v117 : Ref sig .tc := ⟨.hbm, 174, rfl⟩
abbrev main_v118_0 : Ref sig .tc := ⟨.hbm, 175, rfl⟩
abbrev main_v118_1 : Ref sig .tc := ⟨.hbm, 176, rfl⟩
abbrev main_v118_2 : Ref sig .tc := ⟨.hbm, 177, rfl⟩
abbrev main_v118_3 : Ref sig .tc := ⟨.hbm, 178, rfl⟩
abbrev main_v118_4 : Ref sig .tc := ⟨.hbm, 179, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_scratch3 : Ref sig .tc := ⟨.vmem, 25, rfl⟩
abbrev cc0_scratch4 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![4, 16], ![false, false]⟩

def k0_mult1 (i : grid0.Coords) : BitVec 32 :=
  let arg1 : BitVec 32 := BitVec.ofNat 32 (i 1).val
  let c512_i32 : BitVec 32 := 512#32
  let v41 : BitVec 32 := Scalar.muli arg1 c512_i32
  v41
def k0_off1 (i : grid0.Coords) : Fin 2 → Nat :=
  let arg1 : BitVec 32 := BitVec.ofNat 32 (i 1).val
  let c512_i32 : BitVec 32 := 512#32
  let v41 : BitVec 32 := Scalar.muli arg1 c512_i32
  let v42 : BitVec 32 := v41
  let v43 : Index := Scalar.indexCast v42
  let c0_29 : Index := 0#32
  ![v43.toNat, 0]
def k0_off2 (i : grid0.Coords) : Fin 4 → Nat :=
  let c0_30 : Index := 0#32
  let arg1 : BitVec 32 := BitVec.ofNat 32 (i 1).val
  let v46 : Index := Scalar.indexCast arg1
  let c0_31 : Index := 0#32
  let c0_32 : Index := 0#32
  ![0, v46.toNat, 0, 0]
def k0_off3 (i : grid0.Coords) : Fin 3 → Nat :=
  let c0_37 : Index := 0#32
  let arg1 : BitVec 32 := BitVec.ofNat 32 (i 1).val
  let c512_i32 : BitVec 32 := 512#32
  let v41 : BitVec 32 := Scalar.muli arg1 c512_i32
  let v42 : BitVec 32 := v41
  let v53 : Index := Scalar.indexCast v42
  let c0_38 : Index := 0#32
  ![0, v53.toNat, 0]
def k0_off4 (i : grid0.Coords) : Fin 3 → Nat :=
  let c1_74 : Index := 1#32
  let arg1 : BitVec 32 := BitVec.ofNat 32 (i 1).val
  let c512_i32 : BitVec 32 := 512#32
  let v41 : BitVec 32 := Scalar.muli arg1 c512_i32
  let v42 : BitVec 32 := v41
  let v113 : Index := Scalar.indexCast v42
  let c0_75 : Index := 0#32
  ![1, v113.toNat, 0]
@[reducible] def k0_t1_loop (i : grid0.Coords) : Scf.Loop 32 :=
  let arg1 : BitVec 32 := BitVec.ofNat 32 (i 1).val
  let c1_i32 : BitVec 32 := 1#32
  let v181 : BitVec 32 := Scalar.addi arg1 c1_i32
  let c16_i32 : BitVec 32 := 16#32
  let v182 : BitVec 32 := Scalar.subi c16_i32 v181
  let c1_i32_117 : BitVec 32 := 1#32
  let v184 : BitVec 32 := Scalar.divsi v182 c1_i32_117
  let v185 : BitVec 32 := Scalar.muli v184 c1_i32_117
  let v186 : BitVec 32 := Scalar.addi v181 v185
  let c1_i32_118 : BitVec 32 := 1#32
  ⟨v181, v186, c1_i32_118⟩
def k0_mult2 (i : grid0.Coords) (k0_t1 : Fin (k0_t1_loop i).trips) : BitVec 32 :=
  let arg1 : BitVec 32 := BitVec.ofNat 32 (i 1).val
  let c1_i32 : BitVec 32 := 1#32
  let v181 : BitVec 32 := Scalar.addi arg1 c1_i32
  let c1_i32_118 : BitVec 32 := 1#32
  let arg18 : BitVec 32 := Scf.iv v181 c1_i32_118 k0_t1
  let c512_i32_139 : BitVec 32 := 512#32
  let v211 : BitVec 32 := Scalar.muli arg18 c512_i32_139
  v211
def k0_off5 (i : grid0.Coords) (k0_t1 : Fin (k0_t1_loop i).trips) : Fin 2 → Nat :=
  let arg1 : BitVec 32 := BitVec.ofNat 32 (i 1).val
  let c1_i32 : BitVec 32 := 1#32
  let v181 : BitVec 32 := Scalar.addi arg1 c1_i32
  let c1_i32_118 : BitVec 32 := 1#32
  let arg18 : BitVec 32 := Scf.iv v181 c1_i32_118 k0_t1
  let c512_i32_139 : BitVec 32 := 512#32
  let v211 : BitVec 32 := Scalar.muli arg18 c512_i32_139
  let v212 : BitVec 32 := v211
  let v213 : Index := Scalar.indexCast v212
  let c0_140 : Index := 0#32
  ![v213.toNat, 0]
def k0_off6 (i : grid0.Coords) (k0_t1 : Fin (k0_t1_loop i).trips) : Fin 4 → Nat :=
  let c0_141 : Index := 0#32
  let arg1 : BitVec 32 := BitVec.ofNat 32 (i 1).val
  let c1_i32 : BitVec 32 := 1#32
  let v181 : BitVec 32 := Scalar.addi arg1 c1_i32
  let c1_i32_118 : BitVec 32 := 1#32
  let arg18 : BitVec 32 := Scf.iv v181 c1_i32_118 k0_t1
  let v216 : Index := Scalar.indexCast arg18
  let c0_142 : Index := 0#32
  let c0_143 : Index := 0#32
  ![0, v216.toNat, 0, 0]
def k0_off7 (i : grid0.Coords) (k0_t1 : Fin (k0_t1_loop i).trips) : Fin 3 → Nat :=
  let c0_148 : Index := 0#32
  let arg1 : BitVec 32 := BitVec.ofNat 32 (i 1).val
  let c1_i32 : BitVec 32 := 1#32
  let v181 : BitVec 32 := Scalar.addi arg1 c1_i32
  let c1_i32_118 : BitVec 32 := 1#32
  let arg18 : BitVec 32 := Scf.iv v181 c1_i32_118 k0_t1
  let c512_i32_139 : BitVec 32 := 512#32
  let v211 : BitVec 32 := Scalar.muli arg18 c512_i32_139
  let v212 : BitVec 32 := v211
  let v223 : Index := Scalar.indexCast v212
  let c0_149 : Index := 0#32
  ![0, v223.toNat, 0]
def k0_off8 (i : grid0.Coords) (k0_t1 : Fin (k0_t1_loop i).trips) : Fin 3 → Nat :=
  let c1_184 : Index := 1#32
  let arg1 : BitVec 32 := BitVec.ofNat 32 (i 1).val
  let c1_i32 : BitVec 32 := 1#32
  let v181 : BitVec 32 := Scalar.addi arg1 c1_i32
  let c1_i32_118 : BitVec 32 := 1#32
  let arg18 : BitVec 32 := Scf.iv v181 c1_i32_118 k0_t1
  let c512_i32_139 : BitVec 32 := 512#32
  let v211 : BitVec 32 := Scalar.muli arg18 c512_i32_139
  let v212 : BitVec 32 := v211
  let v278 : Index := Scalar.indexCast v212
  let c0_185 : Index := 0#32
  ![1, v278.toNat, 0]
@[reducible] def k0_t2_loop (i : grid0.Coords) : Scf.Loop 32 :=
  let arg1 : BitVec 32 := BitVec.ofNat 32 (i 1).val
  let c1_i32 : BitVec 32 := 1#32
  let v181 : BitVec 32 := Scalar.addi arg1 c1_i32
  let c16_i32 : BitVec 32 := 16#32
  let v182 : BitVec 32 := Scalar.subi c16_i32 v181
  let c1_i32_117 : BitVec 32 := 1#32
  let v184 : BitVec 32 := Scalar.divsi v182 c1_i32_117
  let v185 : BitVec 32 := Scalar.muli v184 c1_i32_117
  let v186 : BitVec 32 := Scalar.addi v181 v185
  let v183 : BitVec 32 := Scalar.addi v181 v182
  let c1_i32_119 : BitVec 32 := 1#32
  ⟨v186, v183, c1_i32_119⟩
def k0_mult3 (i : grid0.Coords) (k0_t2 : Fin (k0_t2_loop i).trips) : BitVec 32 :=
  let arg1 : BitVec 32 := BitVec.ofNat 32 (i 1).val
  let c1_i32 : BitVec 32 := 1#32
  let v181 : BitVec 32 := Scalar.addi arg1 c1_i32
  let c16_i32 : BitVec 32 := 16#32
  let v182 : BitVec 32 := Scalar.subi c16_i32 v181
  let c1_i32_117 : BitVec 32 := 1#32
  let v184 : BitVec 32 := Scalar.divsi v182 c1_i32_117
  let v185 : BitVec 32 := Scalar.muli v184 c1_i32_117
  let v186 : BitVec 32 := Scalar.addi v181 v185
  let c1_i32_119 : BitVec 32 := 1#32
  let arg18 : BitVec 32 := Scf.iv v186 c1_i32_119 k0_t2
  let c512_i32_139 : BitVec 32 := 512#32
  let v211 : BitVec 32 := Scalar.muli arg18 c512_i32_139
  v211
def k0_off9 (i : grid0.Coords) (k0_t2 : Fin (k0_t2_loop i).trips) : Fin 2 → Nat :=
  let arg1 : BitVec 32 := BitVec.ofNat 32 (i 1).val
  let c1_i32 : BitVec 32 := 1#32
  let v181 : BitVec 32 := Scalar.addi arg1 c1_i32
  let c16_i32 : BitVec 32 := 16#32
  let v182 : BitVec 32 := Scalar.subi c16_i32 v181
  let c1_i32_117 : BitVec 32 := 1#32
  let v184 : BitVec 32 := Scalar.divsi v182 c1_i32_117
  let v185 : BitVec 32 := Scalar.muli v184 c1_i32_117
  let v186 : BitVec 32 := Scalar.addi v181 v185
  let c1_i32_119 : BitVec 32 := 1#32
  let arg18 : BitVec 32 := Scf.iv v186 c1_i32_119 k0_t2
  let c512_i32_139 : BitVec 32 := 512#32
  let v211 : BitVec 32 := Scalar.muli arg18 c512_i32_139
  let v212 : BitVec 32 := v211
  let v213 : Index := Scalar.indexCast v212
  let c0_140 : Index := 0#32
  ![v213.toNat, 0]
def k0_off10 (i : grid0.Coords) (k0_t2 : Fin (k0_t2_loop i).trips) : Fin 4 → Nat :=
  let c0_141 : Index := 0#32
  let arg1 : BitVec 32 := BitVec.ofNat 32 (i 1).val
  let c1_i32 : BitVec 32 := 1#32
  let v181 : BitVec 32 := Scalar.addi arg1 c1_i32
  let c16_i32 : BitVec 32 := 16#32
  let v182 : BitVec 32 := Scalar.subi c16_i32 v181
  let c1_i32_117 : BitVec 32 := 1#32
  let v184 : BitVec 32 := Scalar.divsi v182 c1_i32_117
  let v185 : BitVec 32 := Scalar.muli v184 c1_i32_117
  let v186 : BitVec 32 := Scalar.addi v181 v185
  let c1_i32_119 : BitVec 32 := 1#32
  let arg18 : BitVec 32 := Scf.iv v186 c1_i32_119 k0_t2
  let v216 : Index := Scalar.indexCast arg18
  let c0_142 : Index := 0#32
  let c0_143 : Index := 0#32
  ![0, v216.toNat, 0, 0]
def k0_off11 (i : grid0.Coords) (k0_t2 : Fin (k0_t2_loop i).trips) : Fin 3 → Nat :=
  let c0_148 : Index := 0#32
  let arg1 : BitVec 32 := BitVec.ofNat 32 (i 1).val
  let c1_i32 : BitVec 32 := 1#32
  let v181 : BitVec 32 := Scalar.addi arg1 c1_i32
  let c16_i32 : BitVec 32 := 16#32
  let v182 : BitVec 32 := Scalar.subi c16_i32 v181
  let c1_i32_117 : BitVec 32 := 1#32
  let v184 : BitVec 32 := Scalar.divsi v182 c1_i32_117
  let v185 : BitVec 32 := Scalar.muli v184 c1_i32_117
  let v186 : BitVec 32 := Scalar.addi v181 v185
  let c1_i32_119 : BitVec 32 := 1#32
  let arg18 : BitVec 32 := Scf.iv v186 c1_i32_119 k0_t2
  let c512_i32_139 : BitVec 32 := 512#32
  let v211 : BitVec 32 := Scalar.muli arg18 c512_i32_139
  let v212 : BitVec 32 := v211
  let v223 : Index := Scalar.indexCast v212
  let c0_149 : Index := 0#32
  ![0, v223.toNat, 0]
def k0_off12 (i : grid0.Coords) (k0_t2 : Fin (k0_t2_loop i).trips) : Fin 3 → Nat :=
  let c1_184 : Index := 1#32
  let arg1 : BitVec 32 := BitVec.ofNat 32 (i 1).val
  let c1_i32 : BitVec 32 := 1#32
  let v181 : BitVec 32 := Scalar.addi arg1 c1_i32
  let c16_i32 : BitVec 32 := 16#32
  let v182 : BitVec 32 := Scalar.subi c16_i32 v181
  let c1_i32_117 : BitVec 32 := 1#32
  let v184 : BitVec 32 := Scalar.divsi v182 c1_i32_117
  let v185 : BitVec 32 := Scalar.muli v184 c1_i32_117
  let v186 : BitVec 32 := Scalar.addi v181 v185
  let c1_i32_119 : BitVec 32 := 1#32
  let arg18 : BitVec 32 := Scf.iv v186 c1_i32_119 k0_t2
  let c512_i32_139 : BitVec 32 := 512#32
  let v211 : BitVec 32 := Scalar.muli arg18 c512_i32_139
  let v212 : BitVec 32 := v211
  let v278 : Index := Scalar.indexCast v212
  let c0_185 : Index := 0#32
  ![1, v278.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S2x8192x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2x512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x16x2x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x16x2x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S8192x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x16x2x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x512x2 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S8192x8x64 : Shape := ⟨3, ![8192, 8, 64]⟩
abbrev S8192x8 : Shape := ⟨2, ![8192, 8]⟩
abbrev S_ : Shape := ⟨0, ![]⟩
abbrev S8x8192 : Shape := ⟨2, ![8, 8192]⟩
abbrev S8x8192x8192 : Shape := ⟨3, ![8, 8192, 8192]⟩
abbrev S8x8192x1 : Shape := ⟨3, ![8, 8192, 1]⟩
abbrev S8x1x8192 : Shape := ⟨3, ![8, 1, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S8x64x8192 : Shape := ⟨3, ![8, 64, 8192]⟩
abbrev S8x8192x64 : Shape := ⟨3, ![8, 8192, 64]⟩
abbrev S8192x512 : Shape := ⟨2, ![8192, 512]⟩
abbrev S4x2x16x512 : Shape := ⟨4, ![4, 2, 16, 512]⟩
abbrev S4x16x2x512 : Shape := ⟨4, ![4, 16, 2, 512]⟩
abbrev S4x2x8192 : Shape := ⟨3, ![4, 2, 8192]⟩
abbrev S4x8192x2 : Shape := ⟨3, ![4, 8192, 2]⟩

abbrev nBuf : Space → Nat
  | .hbm => 121
  | .vmem => 0
  | .smem => 0
  | _ => 0

abbrev bufTy : (tb : Table) → Fin (tcTables nBuf tb) → BufTy
  | .hbm, ⟨0, _⟩ => ⟨S8192x8x64, .f32⟩
  | .hbm, ⟨1, _⟩ => ⟨S8192x8x64, .f32⟩
  | .hbm, ⟨2, _⟩ => ⟨S8192x8x64, .f32⟩
  | .hbm, ⟨3, _⟩ => ⟨S8192x8, .f32⟩
  | .hbm, ⟨4, _⟩ => ⟨S8192x8x64, .f32⟩
  | .hbm, ⟨5, _⟩ => ⟨S_, .f32⟩
  | .hbm, ⟨6, _⟩ => ⟨S_, .f32⟩
  | .hbm, ⟨7, _⟩ => ⟨S8192x8, .f32⟩
  | .hbm, ⟨8, _⟩ => ⟨S8x8192, .f32⟩
  | .hbm, ⟨9, _⟩ => ⟨S8x8192x8192, .f32⟩
  | .hbm, ⟨10, _⟩ => ⟨S_, .f32⟩
  | .hbm, ⟨11, _⟩ => ⟨S8x8192x8192, .f32⟩
  | .hbm, ⟨12, _⟩ => ⟨S8x8192x8192, .f32⟩
  | .hbm, ⟨13, _⟩ => ⟨S8x8192x1, .f32⟩
  | .hbm, ⟨14, _⟩ => ⟨S8x8192x8192, .f32⟩
  | .hbm, ⟨15, _⟩ => ⟨S8x8192x8192, .f32⟩
  | .hbm, ⟨16, _⟩ => ⟨S8x1x8192, .f32⟩
  | .hbm, ⟨17, _⟩ => ⟨S8x8192x8192, .f32⟩
  | .hbm, ⟨18, _⟩ => ⟨S8x8192x8192, .f32⟩
  | .hbm, ⟨19, _⟩ => ⟨S8192, .i32⟩
  | .hbm, ⟨20, _⟩ => ⟨S1x8192, .i32⟩
  | .hbm, ⟨21, _⟩ => ⟨S8192x1, .i32⟩
  | .hbm, ⟨22, _⟩ => ⟨S8192x8192, .i32⟩
  | .hbm, ⟨23, _⟩ => ⟨S8192x8192, .i32⟩
  | .hbm, ⟨24, _⟩ => ⟨S8192x8192, .i1⟩
  | .hbm, ⟨25, _⟩ => ⟨S_, .f32⟩
  | .hbm, ⟨26, _⟩ => ⟨S_, .f32⟩
  | .hbm, ⟨27, _⟩ => ⟨S8x8192x8192, .i1⟩
  | .hbm, ⟨28, _⟩ => ⟨S8x8192x8192, .f32⟩
  | .hbm, ⟨29, _⟩ => ⟨S8x8192x8192, .f32⟩
  | .hbm, ⟨30, _⟩ => ⟨S_, .f32⟩
  | .hbm, ⟨31, _⟩ => ⟨S8x8192x8192, .f32⟩
  | .hbm, ⟨32, _⟩ => ⟨S_, .f32⟩
  | .hbm, ⟨33, _⟩ => ⟨S8x8192, .f32⟩
  | .hbm, ⟨34, _⟩ => ⟨S8x8192x1, .f32⟩
  | .hbm, ⟨35, _⟩ => ⟨S8x8192x8192, .f32⟩
  | .hbm, ⟨36, _⟩ => ⟨S8x8192x8192, .i1⟩
  | .hbm, ⟨37, _⟩ => ⟨S8x8192x8192, .f32⟩
  | .hbm, ⟨38, _⟩ => ⟨S_, .f32⟩
  | .hbm, ⟨39, _⟩ => ⟨S8x8192, .f32⟩
  | .hbm, ⟨40, _⟩ => ⟨S_, .f32⟩
  | .hbm, ⟨41, _⟩ => ⟨S8x8192, .f32⟩
  | .hbm, ⟨42, _⟩ => ⟨S8x8192, .f32⟩
  | .hbm, ⟨43, _⟩ => ⟨S_, .f32⟩
  | .hbm, ⟨44, _⟩ => ⟨S8x8192, .f32⟩
  | .hbm, ⟨45, _⟩ => ⟨S8x8192, .i1⟩
  | .hbm, ⟨46, _⟩ => ⟨S_, .f32⟩
  | .hbm, ⟨47, _⟩ => ⟨S8x8192, .f32⟩
  | .hbm, ⟨48, _⟩ => ⟨S8x8192, .i1⟩
  | .hbm, ⟨49, _⟩ => ⟨S_, .f32⟩
  | .hbm, ⟨50, _⟩ => ⟨S8x8192, .f32⟩
  | .hbm, ⟨51, _⟩ => ⟨S_, .f32⟩
  | .hbm, ⟨52, _⟩ => ⟨S8x8192, .f32⟩
  | .hbm, ⟨53, _⟩ => ⟨S_, .f32⟩
  | .hbm, ⟨54, _⟩ => ⟨S8x8192, .f32⟩
  | .hbm, ⟨55, _⟩ => ⟨S8x8192, .f32⟩
  | .hbm, ⟨56, _⟩ => ⟨S8x8192, .f32⟩
  | .hbm, ⟨57, _⟩ => ⟨S8x8192x1, .f32⟩
  | .hbm, ⟨58, _⟩ => ⟨S8x8192x8192, .f32⟩
  | .hbm, ⟨59, _⟩ => ⟨S8x8192x8192, .f32⟩
  | .hbm, ⟨60, _⟩ => ⟨S8x8192x8192, .f32⟩
  | .hbm, ⟨61, _⟩ => ⟨S_, .f32⟩
  | .hbm, ⟨62, _⟩ => ⟨S8x8192, .f32⟩
  | .hbm, ⟨63, _⟩ => ⟨S8x8192x1, .f32⟩
  | .hbm, ⟨64, _⟩ => ⟨S8x8192x8192, .f32⟩
  | .hbm, ⟨65, _⟩ => ⟨S8x8192x8192, .f32⟩
  | .hbm, ⟨66, _⟩ => ⟨S8x8192x1, .f32⟩
  | .hbm, ⟨67, _⟩ => ⟨S_, .f32⟩
  | .hbm, ⟨68, _⟩ => ⟨S8x8192x1, .f32⟩
  | .hbm, ⟨69, _⟩ => ⟨S8x8192x1, .f32⟩
  | .hbm, ⟨70, _⟩ => ⟨S8x64x8192, .f32⟩
  | .hbm, ⟨71, _⟩ => ⟨S8192x8x64, .f32⟩
  | .hbm, ⟨72, _⟩ => ⟨S8x64x8192, .f32⟩
  | .hbm, ⟨73, _⟩ => ⟨S8x8192x8192, .f32⟩
  | .hbm, ⟨74, _⟩ => ⟨S8x64x8192, .f32⟩
  | .hbm, ⟨75, _⟩ => ⟨S8192x8x64, .f32⟩
  | .hbm, ⟨76, _⟩ => ⟨S8x8192x8192, .f32⟩
  | .hbm, ⟨77, _⟩ => ⟨S8x8192x8192, .f32⟩
  | .hbm, ⟨78, _⟩ => ⟨S8x8192x8192, .f32⟩
  | .hbm, ⟨79, _⟩ => ⟨S_, .f32⟩
  | .hbm, ⟨80, _⟩ => ⟨S8x8192, .f32⟩
  | .hbm, ⟨81, _⟩ => ⟨S8x8192x1, .f32⟩
  | .hbm, ⟨82, _⟩ => ⟨S8x8192x1, .f32⟩
  | .hbm, ⟨83, _⟩ => ⟨S8x8192x8192, .f32⟩
  | .hbm, ⟨84, _⟩ => ⟨S8x8192x8192, .f32⟩
  | .hbm, ⟨85, _⟩ => ⟨S_, .f32⟩
  | .hbm, ⟨86, _⟩ => ⟨S8x8192, .f32⟩
  | .hbm, ⟨87, _⟩ => ⟨S8x8192x8192, .f32⟩
  | .hbm, ⟨88, _⟩ => ⟨S8x8192x8192, .f32⟩
  | .hbm, ⟨89, _⟩ => ⟨S8x8192x8192, .f32⟩
  | .hbm, ⟨90, _⟩ => ⟨S_, .f32⟩
  | .hbm, ⟨91, _⟩ => ⟨S8x8192x8192, .f32⟩
  | .hbm, ⟨92, _⟩ => ⟨S8x8192x8192, .f32⟩
  | .hbm, ⟨93, _⟩ => ⟨S8x8192x8192, .f32⟩
  | .hbm, ⟨94, _⟩ => ⟨S_, .f32⟩
  | .hbm, ⟨95, _⟩ => ⟨S8x8192, .f32⟩
  | .hbm, ⟨96, _⟩ => ⟨S8x1x8192, .f32⟩
  | .hbm, ⟨97, _⟩ => ⟨S_, .f32⟩
  | .hbm, ⟨98, _⟩ => ⟨S8x8192, .f32⟩
  | .hbm, ⟨99, _⟩ => ⟨S_, .f32⟩
  | .hbm, ⟨100, _⟩ => ⟨S8x8192, .f32⟩
  | .hbm, ⟨101, _⟩ => ⟨S8x8192x1, .f32⟩
  | .hbm, ⟨102, _⟩ => ⟨S_, .f32⟩
  | .hbm, ⟨103, _⟩ => ⟨S8x8192, .f32⟩
  | .hbm, ⟨104, _⟩ => ⟨S_, .f32⟩
  | .hbm, ⟨105, _⟩ => ⟨S8x8192x8192, .f32⟩
  | .hbm, ⟨106, _⟩ => ⟨S8x8192x8192, .f32⟩
  | .hbm, ⟨107, _⟩ => ⟨S8x8192x64, .f32⟩
  | .hbm, ⟨108, _⟩ => ⟨S8192x8x64, .f32⟩
  | .hbm, ⟨109, _⟩ => ⟨S8x8192x64, .f32⟩
  | .hbm, ⟨110, _⟩ => ⟨S8192x8x64, .f32⟩
  | .hbm, ⟨111, _⟩ => ⟨S8192x512, .f32⟩
  | .hbm, ⟨112, _⟩ => ⟨S8192x512, .f32⟩
  | .hbm, ⟨113, _⟩ => ⟨S8192x512, .bf16⟩
  | .hbm, ⟨114, _⟩ => ⟨S8192x512, .f32⟩
  | .hbm, ⟨115, _⟩ => ⟨S8192x512, .bf16⟩
  | .hbm, ⟨116, _⟩ => ⟨S4x2x16x512, .f32⟩
  | .hbm, ⟨117, _⟩ => ⟨S4x16x2x512, .f32⟩
  | .hbm, ⟨118, _⟩ => ⟨S8x8192, .f32⟩
  | .hbm, ⟨119, _⟩ => ⟨S4x2x8192, .f32⟩
  | .hbm, ⟨120, _⟩ => ⟨S4x8192x2, .f32⟩
  | _, _ => ⟨S8192x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_call0_cst : Ref sig .tc := ⟨.hbm, 5, rfl⟩
abbrev main_call0_call0_v0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_0 : Ref sig .tc := ⟨.hbm, 25, rfl⟩
abbrev main_call1_v0 : Ref sig .tc := ⟨.hbm, 26, rfl⟩
abbrev main_v17_1 : Ref sig .tc := ⟨.hbm, 27, rfl⟩
abbrev main_call1_v2 : Ref sig .tc := ⟨.hbm, 28, rfl⟩
abbrev main_v17_0 : Ref sig .tc := ⟨.hbm, 29, rfl⟩
abbrev main_call1_cst : Ref sig .tc := ⟨.hbm, 30, rfl⟩
abbrev main_v17_2 : Ref sig .tc := ⟨.hbm, 31, rfl⟩
abbrev main_cst_1 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_2 : Ref sig .tc := ⟨.hbm, 38, rfl⟩
abbrev main_v23 : Ref sig .tc := ⟨.hbm, 39, rfl⟩
abbrev main_cst_3 : Ref sig .tc := ⟨.hbm, 40, rfl⟩
abbrev main_v24 : Ref sig .tc := ⟨.hbm, 41, rfl⟩
abbrev main_v25 : Ref sig .tc := ⟨.hbm, 42, rfl⟩
abbrev main_cst_4 : Ref sig .tc := ⟨.hbm, 43, rfl⟩
abbrev main_v26 : Ref sig .tc := ⟨.hbm, 44, rfl⟩
abbrev main_v27 : Ref sig .tc := ⟨.hbm, 45, rfl⟩
abbrev main_cst_5 : Ref sig .tc := ⟨.hbm, 46, rfl⟩
abbrev main_v28 : Ref sig .tc := ⟨.hbm, 47, rfl⟩
abbrev main_v29 : Ref sig .tc := ⟨.hbm, 48, rfl⟩
abbrev main_cst_6 : Ref sig .tc := ⟨.hbm, 49, rfl⟩
abbrev main_v30 : Ref sig .tc := ⟨.hbm, 50, rfl⟩
abbrev main_cst_7 : Ref sig .tc := ⟨.hbm, 51, rfl⟩
abbrev main_v31 : Ref sig .tc := ⟨.hbm, 52, rfl⟩
abbrev main_cst_8 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_cst_9 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_cst_10 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_cst_11 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_cst_12 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_call2_cst : Ref sig .tc := ⟨.hbm, 90, rfl⟩
abbrev main_call2_v0 : Ref sig .tc := ⟨.hbm, 91, rfl⟩
abbrev main_v64 : Ref sig .tc := ⟨.hbm, 92, rfl⟩
abbrev main_v65 : Ref sig .tc := ⟨.hbm, 93, rfl⟩
abbrev main_cst_13 : Ref sig .tc := ⟨.hbm, 94, rfl⟩
abbrev main_v66 : Ref sig .tc := ⟨.hbm, 95, rfl⟩
abbrev main_v67 : Ref sig .tc := ⟨.hbm, 96, rfl⟩
abbrev main_cst_14 : Ref sig .tc := ⟨.hbm, 97, rfl⟩
abbrev main_v68 : Ref sig .tc := ⟨.hbm, 98, rfl⟩
abbrev main_cst_15 : Ref sig .tc := ⟨.hbm, 99, rfl⟩
abbrev main_v69 : Ref sig .tc := ⟨.hbm, 100, rfl⟩
abbrev main_v70 : Ref sig .tc := ⟨.hbm, 101, rfl⟩
abbrev main_cst_16 : Ref sig .tc := ⟨.hbm, 102, rfl⟩
abbrev main_v71 : Ref sig .tc := ⟨.hbm, 103, rfl⟩
abbrev main_cst_17 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩

abbrev nD : Nat := 1
abbrev τ : Topo := Topo.v7x

variable {F : FTy → Type} [FloatOps F]
-- ==== ProjFwd.lean ====
abbrev S8192x1024 : Shape := ⟨2, ![8192, 1024]⟩
abbrev S1x1024 : Shape := ⟨2, ![1, 1024]⟩
abbrev S1024x5128 : Shape := ⟨2, ![1024, 5128]⟩
abbrev S1024x1536 : Shape := ⟨2, ![1024, 1536]⟩
abbrev S1024x3584 : Shape := ⟨2, ![1024, 3584]⟩
abbrev S1024x5120 : Shape := ⟨2, ![1024, 5120]⟩
abbrev S1024x8 : Shape := ⟨2, ![1024, 8]⟩
abbrev S8192x512 : Shape := ⟨2, ![8192, 512]⟩
abbrev S8192x8 : Shape := ⟨2, ![8192, 8]⟩
abbrev S256x1024 : Shape := ⟨2, ![256, 1024]⟩
abbrev S256x512 : Shape := ⟨2, ![256, 512]⟩
abbrev S256x8 : Shape := ⟨2, ![256, 8]⟩
abbrev S256 : Shape := ⟨1, ![256]⟩
abbrev S256x1 : Shape := ⟨2, ![256, 1]⟩
abbrev S1024x512 : Shape := ⟨2, ![1024, 512]⟩
abbrev S1024x1024 : Shape := ⟨2, ![1024, 1024]⟩

abbrev nBuf : Space → Nat
  | .hbm => 21
  | .vmem => 27
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1024x5128, .f32⟩
  | .hbm, ⟨5, _⟩ => ⟨S1024x5128, .bf16⟩
  | .hbm, ⟨6, _⟩ => ⟨S1024x1536, .bf16⟩
  | .hbm, ⟨7, _⟩ => ⟨S1024x3584, .bf16⟩
  | .hbm, ⟨8, _⟩ => ⟨S1024x5120, .bf16⟩
  | .hbm, ⟨9, _⟩ => ⟨S1024x8, .bf16⟩
  | .hbm, ⟨10, _⟩ => ⟨S1024x8, .f32⟩
  | .hbm, ⟨11, _⟩ => ⟨S8192x512, .bf16⟩
  | .hbm, ⟨12, _⟩ => ⟨S8192x512, .bf16⟩
  | .hbm, ⟨13, _⟩ => ⟨S8192x512, .bf16⟩
  | .hbm, ⟨14, _⟩ => ⟨S8192x512, .f32⟩
  | .hbm, ⟨15, _⟩ => ⟨S8192x512, .f32⟩
  | .hbm, ⟨16, _⟩ => ⟨S8192x512, .f32⟩
  | .hbm, ⟨17, _⟩ => ⟨S8192x1024, .f32⟩
  | .hbm, ⟨18, _⟩ => ⟨S8192x1024, .f32⟩
  | .hbm, ⟨19, _⟩ => ⟨S8192x8, .f32⟩
  | .hbm, ⟨20, _⟩ => ⟨S8192x1024, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1024x5120, .bf16⟩
  | .local _ .vmem, ⟨6, _⟩ => ⟨S1024x8, .f32⟩
  | .local _ .vmem, ⟨7, _⟩ => ⟨S256x512, .bf16⟩
  | .local _ .vmem, ⟨8, _⟩ => ⟨S256x512, .bf16⟩
  | .local _ .vmem, ⟨9, _⟩ => ⟨S256x512, .bf16⟩
  | .local _ .vmem, ⟨10, _⟩ => ⟨S256x512, .bf16⟩
  | .local _ .vmem, ⟨11, _⟩ => ⟨S256x512, .bf16⟩
  | .local _ .vmem, ⟨12, _⟩ => ⟨S256x512, .bf16⟩
  | .local _ .vmem, ⟨13, _⟩ => ⟨S256x512, .f32⟩
  | .local _ .vmem, ⟨14, _⟩ => ⟨S256x512, .f32⟩
  | .local _ .vmem, ⟨15, _⟩ => ⟨S256x512, .f32⟩
  | .local _ .vmem, ⟨16, _⟩ => ⟨S256x512, .f32⟩
  | .local _ .vmem, ⟨17, _⟩ => ⟨S256x512, .f32⟩
  | .local _ .vmem, ⟨18, _⟩ => ⟨S256x512, .f32⟩
  | .local _ .vmem, ⟨19, _⟩ => ⟨S256x1024, .f32⟩
  | .local _ .vmem, ⟨20, _⟩ => ⟨S256x1024, .f32⟩
  | .local _ .vmem, ⟨21, _⟩ => ⟨S256x1024, .f32⟩
  | .local _ .vmem, ⟨22, _⟩ => ⟨S256x1024, .f32⟩
  | .local _ .vmem, ⟨23, _⟩ => ⟨S256x8, .f32⟩
  | .local _ .vmem, ⟨24, _⟩ => ⟨S256x8, .f32⟩
  | .local _ .vmem, ⟨25, _⟩ => ⟨S256x1024, .bf16⟩
  | .local _ .vmem, ⟨26, _⟩ => ⟨S256x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev main_v6_2 : Ref sig .tc := ⟨.hbm, 13, rfl⟩
abbrev main_v6_3 : Ref sig .tc := ⟨.hbm, 14, rfl⟩
abbrev main_v6_4 : Ref sig .tc := ⟨.hbm, 15, rfl⟩
abbrev main_v6_5 : Ref sig .tc := ⟨.hbm, 16, rfl⟩
abbrev main_v6_6 : Ref sig .tc := ⟨.hbm, 17, rfl⟩
abbrev main_v6_7 : Ref sig .tc := ⟨.hbm, 18, rfl⟩
abbrev main_v6_8 : Ref sig .tc := ⟨.hbm, 19, rfl⟩
abbrev main_v6_9 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x5120 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x8 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== ProjectionIdeal.lean ====
abbrev S8192x1024 : Shape := ⟨2, ![8192, 1024]⟩
abbrev S1x1024 : Shape := ⟨2, ![1, 1024]⟩
abbrev S1024x5128 : Shape := ⟨2, ![1024, 5128]⟩
abbrev S_ : Shape := ⟨0, ![]⟩
abbrev S8192 : Shape := ⟨1, ![8192]⟩
abbrev S8192x1 : Shape := ⟨2, ![8192, 1]⟩
abbrev S8192x5128 : Shape := ⟨2, ![8192, 5128]⟩
abbrev S8192x512 : Shape := ⟨2, ![8192, 512]⟩
abbrev S8192x8 : Shape := ⟨2, ![8192, 8]⟩

abbrev nBuf : Space → Nat
  | .hbm => 44
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1024x5128, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S_, .f32⟩
  | .hbm, ⟨21, _⟩ => ⟨S1x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x5128, .f32⟩
  | .hbm, ⟨28, _⟩ => ⟨S8192x512, .f32⟩
  | .hbm, ⟨29, _⟩ => ⟨S8192x512, .f32⟩
  | .hbm, ⟨30, _⟩ => ⟨S8192x512, .f32⟩
  | .hbm, ⟨31, _⟩ => ⟨S8192x8, .f32⟩
  | .hbm, ⟨32, _⟩ => ⟨S8192x512, .f32⟩
  | .hbm, ⟨33, _⟩ => ⟨S8192x512, .f32⟩
  | .hbm, ⟨34, _⟩ => ⟨S8192x512, .f32⟩
  | .hbm, ⟨35, _⟩ => ⟨S8192x1024, .f32⟩
  | .hbm, ⟨36, _⟩ => ⟨S8192x1024, .f32⟩
  | .hbm, ⟨37, _⟩ => ⟨S_, .f32⟩
  | .hbm, ⟨38, _⟩ => ⟨S8192x512, .f32⟩
  | .hbm, ⟨39, _⟩ => ⟨S8192x512, .f32⟩
  | .hbm, ⟨40, _⟩ => ⟨S8192x512, .bf16⟩
  | .hbm, ⟨41, _⟩ => ⟨S8192x512, .bf16⟩
  | .hbm, ⟨42, _⟩ => ⟨S8192x512, .bf16⟩
  | .hbm, ⟨43, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_3 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩

abbrev nD : Nat := 1
abbrev τ : Topo := Topo.v7x

variable {F : FTy → Type} [FloatOps F]
-- ==== DwQ.lean ====
abbrev S8192x1024 : Shape := ⟨2, ![8192, 1024]⟩
abbrev S8192x512 : Shape := ⟨2, ![8192, 512]⟩
abbrev S1024x512 : Shape := ⟨2, ![1024, 512]⟩
abbrev S2048x1024 : Shape := ⟨2, ![2048, 1024]⟩
abbrev S2048x512 : Shape := ⟨2, ![2048, 512]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S8192x512, .f32⟩
  | .hbm, ⟨2, _⟩ => ⟨S1024x512, .f32⟩
  | .local _ .vmem, ⟨0, _⟩ => ⟨S2048x1024, .bf16⟩
  | .local _ .vmem, ⟨1, _⟩ => ⟨S2048x1024, .bf16⟩
  | .local _ .vmem, ⟨2, _⟩ => ⟨S2048x512, .f32⟩
  | .local _ .vmem, ⟨3, _⟩ => ⟨S2048x512, .f32⟩
  | .local _ .vmem, ⟨4, _⟩ => ⟨S1024x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== DwQIdeal.lean ====
abbrev S8192x1024 : Shape := ⟨2, ![8192, 1024]⟩
abbrev S8192x512 : Shape := ⟨2, ![8192, 512]⟩
abbrev S1024x512 : Shape := ⟨2, ![1024, 512]⟩
abbrev S2048x1024 : Shape := ⟨2, ![2048, 1024]⟩
abbrev S2048x512 : Shape := ⟨2, ![2048, 512]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S8192x512, .f32⟩
  | .hbm, ⟨2, _⟩ => ⟨S1024x512, .f32⟩
  | .local _ .vmem, ⟨0, _⟩ => ⟨S2048x1024, .bf16⟩
  | .local _ .vmem, ⟨1, _⟩ => ⟨S2048x1024, .bf16⟩
  | .local _ .vmem, ⟨2, _⟩ => ⟨S2048x512, .f32⟩
  | .local _ .vmem, ⟨3, _⟩ => ⟨S2048x512, .f32⟩
  | .local _ .vmem, ⟨4, _⟩ => ⟨S1024x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== DwQRefIdeal.lean ====
abbrev S8192x1024 : Shape := ⟨2, ![8192, 1024]⟩
abbrev S8192x512 : Shape := ⟨2, ![8192, 512]⟩
abbrev S_ : Shape := ⟨0, ![]⟩
abbrev S1024x512 : Shape := ⟨2, ![1024, 512]⟩
abbrev S512x1024 : Shape := ⟨2, ![512, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x512, .f32⟩
  | .hbm, ⟨2, _⟩ => ⟨S_, .f32⟩
  | .hbm, ⟨3, _⟩ => ⟨S1024x512, .f32⟩
  | .hbm, ⟨4, _⟩ => ⟨S8192x1024, .f32⟩
  | .hbm, ⟨5, _⟩ => ⟨S8192x512, .f32⟩
  | .hbm, ⟨6, _⟩ => ⟨S512x1024, .f32⟩
  | .hbm, ⟨7, _⟩ => ⟨S1024x512, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== DwK.lean ====
abbrev S8192x1024 : Shape := ⟨2, ![8192, 1024]⟩
abbrev S8192x512 : Shape := ⟨2, ![8192, 512]⟩
abbrev S1024x512 : Shape := ⟨2, ![1024, 512]⟩
abbrev S2048x1024 : Shape := ⟨2, ![2048, 1024]⟩
abbrev S2048x512 : Shape := ⟨2, ![2048, 512]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S8192x512, .bf16⟩
  | .hbm, ⟨2, _⟩ => ⟨S1024x512, .f32⟩
  | .local _ .vmem, ⟨0, _⟩ => ⟨S2048x1024, .bf16⟩
  | .local _ .vmem, ⟨1, _⟩ => ⟨S2048x1024, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== DwKIdeal.lean ====
abbrev S8192x1024 : Shape := ⟨2, ![8192, 1024]⟩
abbrev S8192x512 : Shape := ⟨2, ![8192, 512]⟩
abbrev S1024x512 : Shape := ⟨2, ![1024, 512]⟩
abbrev S2048x1024 : Shape := ⟨2, ![2048, 1024]⟩
abbrev S2048x512 : Shape := ⟨2, ![2048, 512]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S8192x512, .bf16⟩
  | .hbm, ⟨2, _⟩ => ⟨S1024x512, .f32⟩
  | .local _ .vmem, ⟨0, _⟩ => ⟨S2048x1024, .bf16⟩
  | .local _ .vmem, ⟨1, _⟩ => ⟨S2048x1024, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== DwKRefIdeal.lean ====
abbrev S8192x1024 : Shape := ⟨2, ![8192, 1024]⟩
abbrev S8192x512 : Shape := ⟨2, ![8192, 512]⟩
abbrev S_ : Shape := ⟨0, ![]⟩
abbrev S1024x512 : Shape := ⟨2, ![1024, 512]⟩
abbrev S512x1024 : Shape := ⟨2, ![512, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x512, .bf16⟩
  | .hbm, ⟨2, _⟩ => ⟨S_, .f32⟩
  | .hbm, ⟨3, _⟩ => ⟨S1024x512, .f32⟩
  | .hbm, ⟨4, _⟩ => ⟨S8192x1024, .f32⟩
  | .hbm, ⟨5, _⟩ => ⟨S8192x512, .f32⟩
  | .hbm, ⟨6, _⟩ => ⟨S8192x512, .f32⟩
  | .hbm, ⟨7, _⟩ => ⟨S512x1024, .f32⟩
  | .hbm, ⟨8, _⟩ => ⟨S1024x512, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== DwF.lean ====
abbrev S8192x1024 : Shape := ⟨2, ![8192, 1024]⟩
abbrev S8192x8 : Shape := ⟨2, ![8192, 8]⟩
abbrev S1024x8 : Shape := ⟨2, ![1024, 8]⟩
abbrev S2048x1024 : Shape := ⟨2, ![2048, 1024]⟩
abbrev S2048x8 : Shape := ⟨2, ![2048, 8]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S8192x8, .f32⟩
  | .hbm, ⟨2, _⟩ => ⟨S1024x8, .f32⟩
  | .local _ .vmem, ⟨0, _⟩ => ⟨S2048x1024, .bf16⟩
  | .local _ .vmem, ⟨1, _⟩ => ⟨S2048x1024, .bf16⟩
  | .local _ .vmem, ⟨2, _⟩ => ⟨S2048x8, .f32⟩
  | .local _ .vmem, ⟨3, _⟩ => ⟨S2048x8, .f32⟩
  | .local _ .vmem, ⟨4, _⟩ => ⟨S1024x8, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x8 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== DwFIdeal.lean ====
abbrev S8192x1024 : Shape := ⟨2, ![8192, 1024]⟩
abbrev S8192x8 : Shape := ⟨2, ![8192, 8]⟩
abbrev S1024x8 : Shape := ⟨2, ![1024, 8]⟩
abbrev S2048x1024 : Shape := ⟨2, ![2048, 1024]⟩
abbrev S2048x8 : Shape := ⟨2, ![2048, 8]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S8192x8, .f32⟩
  | .hbm, ⟨2, _⟩ => ⟨S1024x8, .f32⟩
  | .local _ .vmem, ⟨0, _⟩ => ⟨S2048x1024, .bf16⟩
  | .local _ .vmem, ⟨1, _⟩ => ⟨S2048x1024, .bf16⟩
  | .local _ .vmem, ⟨2, _⟩ => ⟨S2048x8, .f32⟩
  | .local _ .vmem, ⟨3, _⟩ => ⟨S2048x8, .f32⟩
  | .local _ .vmem, ⟨4, _⟩ => ⟨S1024x8, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x8 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== DwFRefIdeal.lean ====
abbrev S8192x1024 : Shape := ⟨2, ![8192, 1024]⟩
abbrev S8192x8 : Shape := ⟨2, ![8192, 8]⟩
abbrev S_ : Shape := ⟨0, ![]⟩
abbrev S1024x8 : Shape := ⟨2, ![1024, 8]⟩
abbrev S8x1024 : Shape := ⟨2, ![8, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x8, .f32⟩
  | .hbm, ⟨2, _⟩ => ⟨S_, .f32⟩
  | .hbm, ⟨3, _⟩ => ⟨S1024x8, .f32⟩
  | .hbm, ⟨4, _⟩ => ⟨S8192x1024, .f32⟩
  | .hbm, ⟨5, _⟩ => ⟨S8192x8, .f32⟩
  | .hbm, ⟨6, _⟩ => ⟨S8x1024, .f32⟩
  | .hbm, ⟨7, _⟩ => ⟨S1024x8, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== DwG.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== DwGIdeal.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== DwGRefIdeal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S1024x1024, .f32⟩
  | .hbm, ⟨8, _⟩ => ⟨S1024x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== DwUp.lean ====
abbrev S8192x512 : Shape := ⟨2, ![8192, 512]⟩
abbrev S8192x1024 : Shape := ⟨2, ![8192, 1024]⟩
abbrev S512x1024 : Shape := ⟨2, ![512, 1024]⟩
abbrev S2048x512 : Shape := ⟨2, ![2048, 512]⟩
abbrev S2048x1024 : Shape := ⟨2, ![2048, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x512, .bf16⟩
  | .hbm, ⟨1, _⟩ => ⟨S8192x1024, .bf16⟩
  | .hbm, ⟨2, _⟩ => ⟨S512x1024, .f32⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== DwUpIdeal.lean ====
abbrev S8192x512 : Shape := ⟨2, ![8192, 512]⟩
abbrev S8192x1024 : Shape := ⟨2, ![8192, 1024]⟩
abbrev S512x1024 : Shape := ⟨2, ![512, 1024]⟩
abbrev S2048x512 : Shape := ⟨2, ![2048, 512]⟩
abbrev S2048x1024 : Shape := ⟨2, ![2048, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x512, .bf16⟩
  | .hbm, ⟨1, _⟩ => ⟨S8192x1024, .bf16⟩
  | .hbm, ⟨2, _⟩ => ⟨S512x1024, .f32⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== DwUpRefIdeal.lean ====
abbrev S8192x512 : Shape := ⟨2, ![8192, 512]⟩
abbrev S8192x1024 : Shape := ⟨2, ![8192, 1024]⟩
abbrev S_ : Shape := ⟨0, ![]⟩
abbrev S512x1024 : Shape := ⟨2, ![512, 1024]⟩
abbrev S1024x512 : Shape := ⟨2, ![1024, 512]⟩

abbrev nBuf : Space → Nat
  | .hbm => 9
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x1024, .bf16⟩
  | .hbm, ⟨2, _⟩ => ⟨S_, .f32⟩
  | .hbm, ⟨3, _⟩ => ⟨S512x1024, .f32⟩
  | .hbm, ⟨4, _⟩ => ⟨S8192x512, .f32⟩
  | .hbm, ⟨5, _⟩ => ⟨S8192x1024, .f32⟩
  | .hbm, ⟨6, _⟩ => ⟨S8192x1024, .f32⟩
  | .hbm, ⟨7, _⟩ => ⟨S1024x512, .f32⟩
  | .hbm, ⟨8, _⟩ => ⟨S512x1024, .f32⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== DwGlu.lean ====
abbrev S8192x512 : Shape := ⟨2, ![8192, 512]⟩
abbrev S512x512 : Shape := ⟨2, ![512, 512]⟩
abbrev S2048x512 : Shape := ⟨2, ![2048, 512]⟩

abbrev nBuf : Space → Nat
  | .hbm => 3
  | .vmem => 5
  | .smem => 0
  | _ => 0

abbrev bufTy : (tb : Table) → Fin (tcTables nBuf tb) → BufTy
  | .hbm, ⟨0, _⟩ => ⟨S8192x512, .bf16⟩
  | .hbm, ⟨1, _⟩ => ⟨S8192x512, .bf16⟩
  | .hbm, ⟨2, _⟩ => ⟨S512x512, .f32⟩
  | .local _ .vmem, ⟨0, _⟩ => ⟨S2048x512, .bf16⟩
  | .local _ .vmem, ⟨1, _⟩ => ⟨S2048x512, .bf16⟩
  | .local _ .vmem, ⟨2, _⟩ => ⟨S2048x512, .bf16⟩
  | .local _ .vmem, ⟨3, _⟩ => ⟨S2048x512, .bf16⟩
  | .local _ .vmem, ⟨4, _⟩ => ⟨S512x512, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== DwGluRefIdeal.lean ====
abbrev S8192x512 : Shape := ⟨2, ![8192, 512]⟩
abbrev S_ : Shape := ⟨0, ![]⟩
abbrev S512x512 : Shape := ⟨2, ![512, 512]⟩

abbrev nBuf : Space → Nat
  | .hbm => 9
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x512, .bf16⟩
  | .hbm, ⟨2, _⟩ => ⟨S_, .f32⟩
  | .hbm, ⟨3, _⟩ => ⟨S512x512, .f32⟩
  | .hbm, ⟨4, _⟩ => ⟨S8192x512, .f32⟩
  | .hbm, ⟨5, _⟩ => ⟨S8192x512, .f32⟩
  | .hbm, ⟨6, _⟩ => ⟨S8192x512, .f32⟩
  | .hbm, ⟨7, _⟩ => ⟨S512x512, .f32⟩
  | .hbm, ⟨8, _⟩ => ⟨S512x512, .f32⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== ProjBwd.lean ====
abbrev S8192x512 : Shape := ⟨2, ![8192, 512]⟩
abbrev S8192x8 : Shape := ⟨2, ![8192, 8]⟩
abbrev S8192x1024 : Shape := ⟨2, ![8192, 1024]⟩
abbrev S1x1024 : Shape := ⟨2, ![1, 1024]⟩
abbrev S1024x5128 : Shape := ⟨2, ![1024, 5128]⟩
abbrev S1024x1536 : Shape := ⟨2, ![1024, 1536]⟩
abbrev S1024x3584 : Shape := ⟨2, ![1024, 3584]⟩
abbrev S1024x5120 : Shape := ⟨2, ![1024, 5120]⟩
abbrev S1024x8 : Shape := ⟨2, ![1024, 8]⟩
abbrev S8x1024 : Shape := ⟨2, ![8, 1024]⟩
abbrev S256x512 : Shape := ⟨2, ![256, 512]⟩
abbrev S256x1024 : Shape := ⟨2, ![256, 1024]⟩
abbrev S256x8 : Shape := ⟨2, ![256, 8]⟩
abbrev S1024x512 : Shape := ⟨2, ![1024, 512]⟩
abbrev S1024x1024 : Shape := ⟨2, ![1024, 1024]⟩
abbrev S256 : Shape := ⟨1, ![256]⟩
abbrev S256x1 : Shape := ⟨2, ![256, 1]⟩
abbrev S1024 : Shape := ⟨1, ![1024]⟩

abbrev nBuf : Space → Nat
  | .hbm => 26
  | .vmem => 31
  | .smem => 0
  | _ => 0

abbrev bufTy : (tb : Table) → Fin (tcTables nBuf tb) → BufTy
  | .hbm, ⟨0, _⟩ => ⟨S8192x512, .f32⟩
  | .hbm, ⟨1, _⟩ => ⟨S8192x512, .bf16⟩
  | .hbm, ⟨2, _⟩ => ⟨S8192x512, .bf16⟩
  | .hbm, ⟨3, _⟩ => ⟨S8192x8, .f32⟩
  | .hbm, ⟨4, _⟩ => ⟨S8192x512, .bf16⟩
  | .hbm, ⟨5, _⟩ => ⟨S8192x512, .f32⟩
  | .hbm, ⟨6, _⟩ => ⟨S8192x512, .bf16⟩
  | .hbm, ⟨7, _⟩ => ⟨S8192x1024, .bf16⟩
  | .hbm, ⟨8, _⟩ => ⟨S8192x1024, .bf16⟩
  | .hbm, ⟨9, _⟩ => ⟨S8192x1024, .f32⟩
  | .hbm, ⟨10, _⟩ => ⟨S8192x1024, .f32⟩
  | .hbm, ⟨11, _⟩ => ⟨S1x1024, .f32⟩
  | .hbm, ⟨12, _⟩ => ⟨S1x1024, .f32⟩
  | .hbm, ⟨13, _⟩ => ⟨S1x1024, .f32⟩
  | .hbm, ⟨14, _⟩ => ⟨S1024x5128, .f32⟩
  | .hbm, ⟨15, _⟩ => ⟨S1024x5128, .bf16⟩
  | .hbm, ⟨16, _⟩ => ⟨S1024x1536, .bf16⟩
  | .hbm, ⟨17, _⟩ => ⟨S1024x3584, .bf16⟩
  | .hbm, ⟨18, _⟩ => ⟨S1024x5120, .bf16⟩
  | .hbm, ⟨19, _⟩ => ⟨S1024x8, .bf16⟩
  | .hbm, ⟨20, _⟩ => ⟨S1024x8, .f32⟩
  | .hbm, ⟨21, _⟩ => ⟨S8x1024, .f32⟩
  | .hbm, ⟨22, _⟩ => ⟨S8192x1024, .f32⟩
  | .hbm, ⟨23, _⟩ => ⟨S1x1024, .f32⟩
  | .hbm, ⟨24, _⟩ => ⟨S1x1024, .f32⟩
  | .hbm, ⟨25, _⟩ => ⟨S1x1024, .f32⟩
  | .local _ .vmem, ⟨0, _⟩ => ⟨S256x512, .f32⟩
  | .local _ .vmem, ⟨1, _⟩ => ⟨S256x512, .f32⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S256x512, .bf16⟩
  | .local _ .vmem, ⟨7, _⟩ => ⟨S256x512, .bf16⟩
  | .local _ .vmem, ⟨8, _⟩ => ⟨S256x512, .f32⟩
  | .local _ .vmem, ⟨9, _⟩ => ⟨S256x512, .f32⟩
  | .local _ .vmem, ⟨10, _⟩ => ⟨S256x512, .bf16⟩
  | .local _ .vmem, ⟨11, _⟩ => ⟨S256x512, .bf16⟩
  | .local _ .vmem, ⟨12, _⟩ => ⟨S256x1024, .bf16⟩
  | .local _ .vmem, ⟨13, _⟩ => ⟨S256x1024, .bf16⟩
  | .local _ .vmem, ⟨14, _⟩ => ⟨S256x1024, .bf16⟩
  | .local _ .vmem, ⟨15, _⟩ => ⟨S256x1024, .bf16⟩
  | .local _ .vmem, ⟨16, _⟩ => ⟨S256x8, .f32⟩
  | .local _ .vmem, ⟨17, _⟩ => ⟨S256x8, .f32⟩
  | .local _ .vmem, ⟨18, _⟩ => ⟨S256x1024, .f32⟩
  | .local _ .vmem, ⟨19, _⟩ => ⟨S256x1024, .f32⟩
  | .local _ .vmem, ⟨20, _⟩ => ⟨S256x1024, .f32⟩
  | .local _ .vmem, ⟨21, _⟩ => ⟨S256x1024, .f32⟩
  | .local _ .vmem, ⟨22, _⟩ => ⟨S1x1024, .f32⟩
  | .local _ .vmem, ⟨23, _⟩ => ⟨S1x1024, .f32⟩
  | .local _ .vmem, ⟨24, _⟩ => ⟨S1024x5120, .bf16⟩
  | .local _ .vmem, ⟨25, _⟩ => ⟨S8x1024, .f32⟩
  | .local _ .vmem, ⟨26, _⟩ => ⟨S256x1024, .f32⟩
  | .local _ .vmem, ⟨27, _⟩ => ⟨S256x1024, .f32⟩
  | .local _ .vmem, ⟨28, _⟩ => ⟨S1x1024, .f32⟩
  | .local _ .vmem, ⟨29, _⟩ => ⟨S1x1024, .f32⟩
  | .local _ .vmem, ⟨30, _⟩ => ⟨S1x1024, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7_0 : Ref sig .tc := ⟨.hbm, 22, rfl⟩
abbrev main_v7_1 : Ref sig .tc := ⟨.hbm, 23, rfl⟩
abbrev main_v7_2 : Ref sig .tc := ⟨.hbm, 24, rfl⟩
abbrev main_v7_3 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg12_0 : Ref sig .tc := ⟨.vmem, 23, rfl⟩
abbrev cc0_stg13_0 : Ref sig .tc := ⟨.vmem, 24, rfl⟩
abbrev cc0_stg14_0 : Ref sig .tc := ⟨.vmem, 25, rfl⟩
abbrev cc0_stg15_0 : Ref sig .tc := ⟨.vmem, 26, rfl⟩
abbrev cc0_stg15_1 : Ref sig .tc := ⟨.vmem, 27, rfl⟩
abbrev cc0_stg16_0 : Ref sig .tc := ⟨.vmem, 28, rfl⟩
abbrev cc0_stg17_0 : Ref sig .tc := ⟨.vmem, 29, rfl⟩
abbrev cc0_stg18_0 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem12_0 : DmaSem sig := 23
abbrev cc0_sem13_0 : DmaSem sig := 24
abbrev cc0_sem14_0 : DmaSem sig := 25
abbrev cc0_sem15_0 : DmaSem sig := 26
abbrev cc0_sem15_1 : DmaSem sig := 27
abbrev cc0_sem16_0 : DmaSem sig := 28
abbrev cc0_sem17_0 : DmaSem sig := 29
abbrev cc0_sem18_0 : DmaSem sig := 30

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x8 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1024x5120 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S8x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S256x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]
-- ==== ProjBwdRefIdeal.lean ====
abbrev S8192x512 : Shape := ⟨2, ![8192, 512]⟩
abbrev S8192x8 : Shape := ⟨2, ![8192, 8]⟩
abbrev S8192x1024 : Shape := ⟨2, ![8192, 1024]⟩
abbrev S1x1024 : Shape := ⟨2, ![1, 1024]⟩
abbrev S1024x5128 : Shape := ⟨2, ![1024, 5128]⟩
abbrev S_ : Shape := ⟨0, ![]⟩
abbrev S8192 : Shape := ⟨1, ![8192]⟩
abbrev S8192x1 : Shape := ⟨2, ![8192, 1]⟩
abbrev S8192x5128 : Shape := ⟨2, ![8192, 5128]⟩
abbrev S1024 : Shape := ⟨1, ![1024]⟩

abbrev nBuf : Space → Nat
  | .hbm => 92
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x512, .bf16⟩
  | .hbm, ⟨2, _⟩ => ⟨S8192x512, .bf16⟩
  | .hbm, ⟨3, _⟩ => ⟨S8192x8, .f32⟩
  | .hbm, ⟨4, _⟩ => ⟨S8192x512, .bf16⟩
  | .hbm, ⟨5, _⟩ => ⟨S8192x512, .f32⟩
  | .hbm, ⟨6, _⟩ => ⟨S8192x512, .bf16⟩
  | .hbm, ⟨7, _⟩ => ⟨S8192x1024, .bf16⟩
  | .hbm, ⟨8, _⟩ => ⟨S8192x1024, .bf16⟩
  | .hbm, ⟨9, _⟩ => ⟨S8192x1024, .f32⟩
  | .hbm, ⟨10, _⟩ => ⟨S8192x1024, .f32⟩
  | .hbm, ⟨11, _⟩ => ⟨S1x1024, .f32⟩
  | .hbm, ⟨12, _⟩ => ⟨S1x1024, .f32⟩
  | .hbm, ⟨13, _⟩ => ⟨S1x1024, .f32⟩
  | .hbm, ⟨14, _⟩ => ⟨S1024x5128, .f32⟩
  | .hbm, ⟨15, _⟩ => ⟨S8192x512, .f32⟩
  | .hbm, ⟨16, _⟩ => ⟨S8192x512, .f32⟩
  | .hbm, ⟨17, _⟩ => ⟨S8192x512, .f32⟩
  | .hbm, ⟨18, _⟩ => ⟨S8192x512, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S_, .f32⟩
  | .hbm, ⟨23, _⟩ => ⟨S8192, .f32⟩
  | .hbm, ⟨24, _⟩ => ⟨S8192x1, .f32⟩
  | .hbm, ⟨25, _⟩ => ⟨S_, .f32⟩
  | .hbm, ⟨26, _⟩ => ⟨S8192x1, .f32⟩
  | .hbm, ⟨27, _⟩ => ⟨S8192x1, .f32⟩
  | .hbm, ⟨28, _⟩ => ⟨S_, .f32⟩
  | .hbm, ⟨29, _⟩ => ⟨S8192x1, .f32⟩
  | .hbm, ⟨30, _⟩ => ⟨S8192x1, .f32⟩
  | .hbm, ⟨31, _⟩ => ⟨S8192x1, .f32⟩
  | .hbm, ⟨32, _⟩ => ⟨S8192x1, .f32⟩
  | .hbm, ⟨33, _⟩ => ⟨S_, .f32⟩
  | .hbm, ⟨34, _⟩ => ⟨S8192x1, .f32⟩
  | .hbm, ⟨35, _⟩ => ⟨S8192x1, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S_, .f32⟩
  | .hbm, ⟨41, _⟩ => ⟨S1x1024, .f32⟩
  | .hbm, ⟨42, _⟩ => ⟨S1x1024, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x5128, .f32⟩
  | .hbm, ⟨48, _⟩ => ⟨S8192x512, .f32⟩
  | .hbm, ⟨49, _⟩ => ⟨S8192x512, .f32⟩
  | .hbm, ⟨50, _⟩ => ⟨S8192x512, .f32⟩
  | .hbm, ⟨51, _⟩ => ⟨S8192x8, .f32⟩
  | .hbm, ⟨52, _⟩ => ⟨S8192x512, .f32⟩
  | .hbm, ⟨53, _⟩ => ⟨S8192x512, .f32⟩
  | .hbm, ⟨54, _⟩ => ⟨S8192x512, .f32⟩
  | .hbm, ⟨55, _⟩ => ⟨S8192x1024, .f32⟩
  | .hbm, ⟨56, _⟩ => ⟨S8192x1024, .f32⟩
  | .hbm, ⟨57, _⟩ => ⟨S8192x5128, .f32⟩
  | .hbm, ⟨58, _⟩ => ⟨S8192x1024, .f32⟩
  | .hbm, ⟨59, _⟩ => ⟨S_, .f32⟩
  | .hbm, ⟨60, _⟩ => ⟨S1024, .f32⟩
  | .hbm, ⟨61, _⟩ => ⟨S1x1024, .f32⟩
  | .hbm, ⟨62, _⟩ => ⟨S8192x1024, .f32⟩
  | .hbm, ⟨63, _⟩ => ⟨S_, .f32⟩
  | .hbm, ⟨64, _⟩ => ⟨S1024, .f32⟩
  | .hbm, ⟨65, _⟩ => ⟨S1x1024, .f32⟩
  | .hbm, ⟨66, _⟩ => ⟨S8192x1024, .f32⟩
  | .hbm, ⟨67, _⟩ => ⟨S8192x1024, .f32⟩
  | .hbm, ⟨68, _⟩ => ⟨S8192x1024, .f32⟩
  | .hbm, ⟨69, _⟩ => ⟨S_, .f32⟩
  | .hbm, ⟨70, _⟩ => ⟨S1024, .f32⟩
  | .hbm, ⟨71, _⟩ => ⟨S1x1024, .f32⟩
  | .hbm, ⟨72, _⟩ => ⟨S8192x1024, .f32⟩
  | .hbm, ⟨73, _⟩ => ⟨S8192x1024, .f32⟩
  | .hbm, ⟨74, _⟩ => ⟨S8192x1024, .f32⟩
  | .hbm, ⟨75, _⟩ => ⟨S_, .f32⟩
  | .hbm, ⟨76, _⟩ => ⟨S8192, .f32⟩
  | .hbm, ⟨77, _⟩ => ⟨S8192x1, .f32⟩
  | .hbm, ⟨78, _⟩ => ⟨S8192x1024, .f32⟩
  | .hbm, ⟨79, _⟩ => ⟨S8192x1024, .f32⟩
  | .hbm, ⟨80, _⟩ => ⟨S8192x1024, .f32⟩
  | .hbm, ⟨81, _⟩ => ⟨S8192x1, .f32⟩
  | .hbm, ⟨82, _⟩ => ⟨S_, .f32⟩
  | .hbm, ⟨83, _⟩ => ⟨S8192x1, .f32⟩
  | .hbm, ⟨84, _⟩ => ⟨S8192x1, .f32⟩
  | .hbm, ⟨85, _⟩ => ⟨S_, .f32⟩
  | .hbm, ⟨86, _⟩ => ⟨S8192, .f32⟩
  | .hbm, ⟨87, _⟩ => ⟨S8192x1024, .f32⟩
  | .hbm, ⟨88, _⟩ => ⟨S8192x1024, .f32⟩
  | .hbm, ⟨89, _⟩ => ⟨S8192x1024, .f32⟩
  | .hbm, ⟨90, _⟩ => ⟨S8192x1024, .f32⟩
  | .hbm, ⟨91, _⟩ => ⟨S8192x1024, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst : Ref sig .tc := ⟨.hbm, 22, rfl⟩
abbrev main_v7 : Ref sig .tc := ⟨.hbm, 23, rfl⟩
abbrev main_v8 : Ref sig .tc := ⟨.hbm, 24, rfl⟩
abbrev main_cst_0 : Ref sig .tc := ⟨.hbm, 25, rfl⟩
abbrev main_v9 : Ref sig .tc := ⟨.hbm, 26, rfl⟩
abbrev main_v10 : Ref sig .tc := ⟨.hbm, 27, rfl⟩
abbrev main_cst_1 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_cst_2 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_cst_3 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_4 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_5 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_cst_6 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_cst_7 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_cst_8 : Ref sig .tc := ⟨.hbm, 82, rfl⟩
abbrev main_v58 : Ref sig .tc := ⟨.hbm, 83, rfl⟩
abbrev main_v59 : Ref sig .tc := ⟨.hbm, 84, rfl⟩
abbrev main_cst_9 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩

abbrev nD : Nat := 1
abbrev τ : Topo := Topo.v7x

variable {F : FTy → Type} [FloatOps F]
-- ==== AdamIn.lean ====
abbrev S4x1024x641 : Shape := ⟨3, ![4, 1024, 641]⟩
abbrev S1024x641 : Shape := ⟨2, ![1024, 641]⟩
abbrev S4x256x641 : Shape := ⟨3, ![4, 256, 641]⟩
abbrev S256x641 : Shape := ⟨2, ![256, 641]⟩
abbrev S1x256x641 : Shape := ⟨3, ![1, 256, 641]⟩

abbrev nBuf : Space → Nat
  | .hbm => 8
  | .vmem => 16
  | .smem => 0
  | _ => 0

abbrev bufTy : (tb : Table) → Fin (tcTables nBuf tb) → BufTy
  | .hbm, ⟨0, _⟩ => ⟨S4x1024x641, .bf16⟩
  | .hbm, ⟨1, _⟩ => ⟨S1024x641, .f32⟩
  | .hbm, ⟨2, _⟩ => ⟨S1024x641, .f32⟩
  | .hbm, ⟨3, _⟩ => ⟨S1024x641, .f32⟩
  | .hbm, ⟨4, _⟩ => ⟨S1024x641, .f32⟩
  | .hbm, ⟨5, _⟩ => ⟨S1024x641, .f32⟩
  | .hbm, ⟨6, _⟩ => ⟨S1024x641, .f32⟩
  | .hbm, ⟨7, _⟩ => ⟨S1024x641, .f32⟩
  | .local _ .vmem, ⟨0, _⟩ => ⟨S4x256x641, .bf16⟩
  | .local _ .vmem, ⟨1, _⟩ => ⟨S4x256x641, .bf16⟩
  | .local _ .vmem, ⟨2, _⟩ => ⟨S256x641, .f32⟩
  | .local _ .vmem, ⟨3, _⟩ => ⟨S256x641, .f32⟩
  | .local _ .vmem, ⟨4, _⟩ => ⟨S256x641, .f32⟩
  | .local _ .vmem, ⟨5, _⟩ => ⟨S256x641, .f32⟩
  | .local _ .vmem, ⟨6, _⟩ => ⟨S256x641, .f32⟩
  | .local _ .vmem, ⟨7, _⟩ => ⟨S256x641, .f32⟩
  | .local _ .vmem, ⟨8, _⟩ => ⟨S256x641, .f32⟩
  | .local _ .vmem, ⟨9, _⟩ => ⟨S256x641, .f32⟩
  | .local _ .vmem, ⟨10, _⟩ => ⟨S256x641, .f32⟩
  | .local _ .vmem, ⟨11, _⟩ => ⟨S256x641, .f32⟩
  | .local _ .vmem, ⟨12, _⟩ => ⟨S256x641, .f32⟩
  | .local _ .vmem, ⟨13, _⟩ => ⟨S256x641, .f32⟩
  | .local _ .vmem, ⟨14, _⟩ => ⟨S256x641, .f32⟩
  | .local _ .vmem, ⟨15, _⟩ => ⟨S256x641, .f32⟩
  | _, _ => ⟨S4x1024x641, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x256x641 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x641 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x641 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x641 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x641 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x641 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x641 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x641 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamInIdeal.lean ====
abbrev S4x1024x641 : Shape := ⟨3, ![4, 1024, 641]⟩
abbrev S1024x641 : Shape := ⟨2, ![1024, 641]⟩
abbrev S4x256x641 : Shape := ⟨3, ![4, 256, 641]⟩
abbrev S256x641 : Shape := ⟨2, ![256, 641]⟩
abbrev S1x256x641 : Shape := ⟨3, ![1, 256, 641]⟩

abbrev nBuf : Space → Nat
  | .hbm => 8
  | .vmem => 16
  | .smem => 0
  | _ => 0

abbrev bufTy : (tb : Table) → Fin (tcTables nBuf tb) → BufTy
  | .hbm, ⟨0, _⟩ => ⟨S4x1024x641, .bf16⟩
  | .hbm, ⟨1, _⟩ => ⟨S1024x641, .f32⟩
  | .hbm, ⟨2, _⟩ => ⟨S1024x641, .f32⟩
  | .hbm, ⟨3, _⟩ => ⟨S1024x641, .f32⟩
  | .hbm, ⟨4, _⟩ => ⟨S1024x641, .f32⟩
  | .hbm, ⟨5, _⟩ => ⟨S1024x641, .f32⟩
  | .hbm, ⟨6, _⟩ => ⟨S1024x641, .f32⟩
  | .hbm, ⟨7, _⟩ => ⟨S1024x641, .f32⟩
  | .local _ .vmem, ⟨0, _⟩ => ⟨S4x256x641, .bf16⟩
  | .local _ .vmem, ⟨1, _⟩ => ⟨S4x256x641, .bf16⟩
  | .local _ .vmem, ⟨2, _⟩ => ⟨S256x641, .f32⟩
  | .local _ .vmem, ⟨3, _⟩ => ⟨S256x641, .f32⟩
  | .local _ .vmem, ⟨4, _⟩ => ⟨S256x641, .f32⟩
  | .local _ .vmem, ⟨5, _⟩ => ⟨S256x641, .f32⟩
  | .local _ .vmem, ⟨6, _⟩ => ⟨S256x641, .f32⟩
  | .local _ .vmem, ⟨7, _⟩ => ⟨S256x641, .f32⟩
  | .local _ .vmem, ⟨8, _⟩ => ⟨S256x641, .f32⟩
  | .local _ .vmem, ⟨9, _⟩ => ⟨S256x641, .f32⟩
  | .local _ .vmem, ⟨10, _⟩ => ⟨S256x641, .f32⟩
  | .local _ .vmem, ⟨11, _⟩ => ⟨S256x641, .f32⟩
  | .local _ .vmem, ⟨12, _⟩ => ⟨S256x641, .f32⟩
  | .local _ .vmem, ⟨13, _⟩ => ⟨S256x641, .f32⟩
  | .local _ .vmem, ⟨14, _⟩ => ⟨S256x641, .f32⟩
  | .local _ .vmem, ⟨15, _⟩ => ⟨S256x641, .f32⟩
  | _, _ => ⟨S4x1024x641, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x256x641 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x641 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x641 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x641 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x641 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x641 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x641 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x641 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamInRefIdeal.lean ====
abbrev S4x1024x641 : Shape := ⟨3, ![4, 1024, 641]⟩
abbrev S1024x641 : Shape := ⟨2, ![1024, 641]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S4x1024x641, .bf16⟩
  | .hbm, ⟨1, _⟩ => ⟨S1024x641, .f32⟩
  | .hbm, ⟨2, _⟩ => ⟨S1024x641, .f32⟩
  | .hbm, ⟨3, _⟩ => ⟨S1024x641, .f32⟩
  | .hbm, ⟨4, _⟩ => ⟨S4x1024x641, .f32⟩
  | .hbm, ⟨5, _⟩ => ⟨S_, .f32⟩
  | .hbm, ⟨6, _⟩ => ⟨S1024x641, .f32⟩
  | .hbm, ⟨7, _⟩ => ⟨S_, .f32⟩
  | .hbm, ⟨8, _⟩ => ⟨S1024x641, .f32⟩
  | .hbm, ⟨9, _⟩ => ⟨S1024x641, .f32⟩
  | .hbm, ⟨10, _⟩ => ⟨S_, .f32⟩
  | .hbm, ⟨11, _⟩ => ⟨S1024x641, .f32⟩
  | .hbm, ⟨12, _⟩ => ⟨S1024x641, .f32⟩
  | .hbm, ⟨13, _⟩ => ⟨S1024x641, .f32⟩
  | .hbm, ⟨14, _⟩ => ⟨S_, .f32⟩
  | .hbm, ⟨15, _⟩ => ⟨S1024x641, .f32⟩
  | .hbm, ⟨16, _⟩ => ⟨S1024x641, .f32⟩
  | .hbm, ⟨17, _⟩ => ⟨S1024x641, .f32⟩
  | .hbm, ⟨18, _⟩ => ⟨S_, .f32⟩
  | .hbm, ⟨19, _⟩ => ⟨S1024x641, .f32⟩
  | .hbm, ⟨20, _⟩ => ⟨S1024x641, .f32⟩
  | .hbm, ⟨21, _⟩ => ⟨S1024x641, .f32⟩
  | .hbm, ⟨22, _⟩ => ⟨S_, .f32⟩
  | .hbm, ⟨23, _⟩ => ⟨S1024x641, .f32⟩
  | .hbm, ⟨24, _⟩ => ⟨S1024x641, .f32⟩
  | .hbm, ⟨25, _⟩ => ⟨S_, .f32⟩
  | .hbm, ⟨26, _⟩ => ⟨S1024x641, .f32⟩
  | .hbm, ⟨27, _⟩ => ⟨S1024x641, .f32⟩
  | .hbm, ⟨28, _⟩ => ⟨S1024x641, .f32⟩
  | .hbm, ⟨29, _⟩ => ⟨S_, .f32⟩
  | .hbm, ⟨30, _⟩ => ⟨S1024x641, .f32⟩
  | .hbm, ⟨31, _⟩ => ⟨S1024x641, .f32⟩
  | .hbm, ⟨32, _⟩ => ⟨S1024x641, .f32⟩
  | .hbm, ⟨33, _⟩ => ⟨S_, .f32⟩
  | .hbm, ⟨34, _⟩ => ⟨S1024x641, .f32⟩
  | .hbm, ⟨35, _⟩ => ⟨S1024x641, .f32⟩
  | .hbm, ⟨36, _⟩ => ⟨S1024x641, .f32⟩
  | .hbm, ⟨37, _⟩ => ⟨S_, .f32⟩
  | .hbm, ⟨38, _⟩ => ⟨S1024x641, .f32⟩
  | .hbm, ⟨39, _⟩ => ⟨S1024x641, .f32⟩
  | _, _ => ⟨S4x1024x641, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamGlu.lean ====
abbrev S4x64x512 : Shape := ⟨3, ![4, 64, 512]⟩
abbrev S64x512 : Shape := ⟨2, ![64, 512]⟩
abbrev S1x64x512 : Shape := ⟨3, ![1, 64, 512]⟩

abbrev nBuf : Space → Nat
  | .hbm => 8
  | .vmem => 8
  | .smem => 0
  | _ => 0

abbrev bufTy : (tb : Table) → Fin (tcTables nBuf tb) → BufTy
  | .hbm, ⟨0, _⟩ => ⟨S4x64x512, .bf16⟩
  | .hbm, ⟨1, _⟩ => ⟨S64x512, .f32⟩
  | .hbm, ⟨2, _⟩ => ⟨S64x512, .f32⟩
  | .hbm, ⟨3, _⟩ => ⟨S64x512, .f32⟩
  | .hbm, ⟨4, _⟩ => ⟨S64x512, .f32⟩
  | .hbm, ⟨5, _⟩ => ⟨S64x512, .f32⟩
  | .hbm, ⟨6, _⟩ => ⟨S64x512, .f32⟩
  | .hbm, ⟨7, _⟩ => ⟨S64x512, .f32⟩
  | .local _ .vmem, ⟨0, _⟩ => ⟨S4x64x512, .bf16⟩
  | .local _ .vmem, ⟨1, _⟩ => ⟨S64x512, .f32⟩
  | .local _ .vmem, ⟨2, _⟩ => ⟨S64x512, .f32⟩
  | .local _ .vmem, ⟨3, _⟩ => ⟨S64x512, .f32⟩
  | .local _ .vmem, ⟨4, _⟩ => ⟨S64x512, .f32⟩
  | .local _ .vmem, ⟨5, _⟩ => ⟨S64x512, .f32⟩
  | .local _ .vmem, ⟨6, _⟩ => ⟨S64x512, .f32⟩
  | .local _ .vmem, ⟨7, _⟩ => ⟨S64x512, .f32⟩
  | _, _ => ⟨S4x64x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x64x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S64x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S64x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S64x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S64x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S64x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S64x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S64x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamGluIdeal.lean ====
abbrev S4x64x512 : Shape := ⟨3, ![4, 64, 512]⟩
abbrev S64x512 : Shape := ⟨2, ![64, 512]⟩
abbrev S1x64x512 : Shape := ⟨3, ![1, 64, 512]⟩

abbrev nBuf : Space → Nat
  | .hbm => 8
  | .vmem => 8
  | .smem => 0
  | _ => 0

abbrev bufTy : (tb : Table) → Fin (tcTables nBuf tb) → BufTy
  | .hbm, ⟨0, _⟩ => ⟨S4x64x512, .bf16⟩
  | .hbm, ⟨1, _⟩ => ⟨S64x512, .f32⟩
  | .hbm, ⟨2, _⟩ => ⟨S64x512, .f32⟩
  | .hbm, ⟨3, _⟩ => ⟨S64x512, .f32⟩
  | .hbm, ⟨4, _⟩ => ⟨S64x512, .f32⟩
  | .hbm, ⟨5, _⟩ => ⟨S64x512, .f32⟩
  | .hbm, ⟨6, _⟩ => ⟨S64x512, .f32⟩
  | .hbm, ⟨7, _⟩ => ⟨S64x512, .f32⟩
  | .local _ .vmem, ⟨0, _⟩ => ⟨S4x64x512, .bf16⟩
  | .local _ .vmem, ⟨1, _⟩ => ⟨S64x512, .f32⟩
  | .local _ .vmem, ⟨2, _⟩ => ⟨S64x512, .f32⟩
  | .local _ .vmem, ⟨3, _⟩ => ⟨S64x512, .f32⟩
  | .local _ .vmem, ⟨4, _⟩ => ⟨S64x512, .f32⟩
  | .local _ .vmem, ⟨5, _⟩ => ⟨S64x512, .f32⟩
  | .local _ .vmem, ⟨6, _⟩ => ⟨S64x512, .f32⟩
  | .local _ .vmem, ⟨7, _⟩ => ⟨S64x512, .f32⟩
  | _, _ => ⟨S4x64x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x64x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S64x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S64x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S64x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S64x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S64x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S64x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S64x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamGluRefIdeal.lean ====
abbrev S4x64x512 : Shape := ⟨3, ![4, 64, 512]⟩
abbrev S64x512 : Shape := ⟨2, ![64, 512]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S4x64x512, .bf16⟩
  | .hbm, ⟨1, _⟩ => ⟨S64x512, .f32⟩
  | .hbm, ⟨2, _⟩ => ⟨S64x512, .f32⟩
  | .hbm, ⟨3, _⟩ => ⟨S64x512, .f32⟩
  | .hbm, ⟨4, _⟩ => ⟨S4x64x512, .f32⟩
  | .hbm, ⟨5, _⟩ => ⟨S_, .f32⟩
  | .hbm, ⟨6, _⟩ => ⟨S64x512, .f32⟩
  | .hbm, ⟨7, _⟩ => ⟨S_, .f32⟩
  | .hbm, ⟨8, _⟩ => ⟨S64x512, .f32⟩
  | .hbm, ⟨9, _⟩ => ⟨S64x512, .f32⟩
  | .hbm, ⟨10, _⟩ => ⟨S_, .f32⟩
  | .hbm, ⟨11, _⟩ => ⟨S64x512, .f32⟩
  | .hbm, ⟨12, _⟩ => ⟨S64x512, .f32⟩
  | .hbm, ⟨13, _⟩ => ⟨S64x512, .f32⟩
  | .hbm, ⟨14, _⟩ => ⟨S_, .f32⟩
  | .hbm, ⟨15, _⟩ => ⟨S64x512, .f32⟩
  | .hbm, ⟨16, _⟩ => ⟨S64x512, .f32⟩
  | .hbm, ⟨17, _⟩ => ⟨S64x512, .f32⟩
  | .hbm, ⟨18, _⟩ => ⟨S_, .f32⟩
  | .hbm, ⟨19, _⟩ => ⟨S64x512, .f32⟩
  | .hbm, ⟨20, _⟩ => ⟨S64x512, .f32⟩
  | .hbm, ⟨21, _⟩ => ⟨S64x512, .f32⟩
  | .hbm, ⟨22, _⟩ => ⟨S_, .f32⟩
  | .hbm, ⟨23, _⟩ => ⟨S64x512, .f32⟩
  | .hbm, ⟨24, _⟩ => ⟨S64x512, .f32⟩
  | .hbm, ⟨25, _⟩ => ⟨S_, .f32⟩
  | .hbm, ⟨26, _⟩ => ⟨S64x512, .f32⟩
  | .hbm, ⟨27, _⟩ => ⟨S64x512, .f32⟩
  | .hbm, ⟨28, _⟩ => ⟨S64x512, .f32⟩
  | .hbm, ⟨29, _⟩ => ⟨S_, .f32⟩
  | .hbm, ⟨30, _⟩ => ⟨S64x512, .f32⟩
  | .hbm, ⟨31, _⟩ => ⟨S64x512, .f32⟩
  | .hbm, ⟨32, _⟩ => ⟨S64x512, .f32⟩
  | .hbm, ⟨33, _⟩ => ⟨S_, .f32⟩
  | .hbm, ⟨34, _⟩ => ⟨S64x512, .f32⟩
  | .hbm, ⟨35, _⟩ => ⟨S64x512, .f32⟩
  | .hbm, ⟨36, _⟩ => ⟨S64x512, .f32⟩
  | .hbm, ⟨37, _⟩ => ⟨S_, .f32⟩
  | .hbm, ⟨38, _⟩ => ⟨S64x512, .f32⟩
  | .hbm, ⟨39, _⟩ => ⟨S64x512, .f32⟩
  | _, _ => ⟨S4x64x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamUp.lean ====
abbrev S4x512x128 : Shape := ⟨3, ![4, 512, 128]⟩
abbrev S512x128 : Shape := ⟨2, ![512, 128]⟩
abbrev S4x256x128 : Shape := ⟨3, ![4, 256, 128]⟩
abbrev S256x128 : Shape := ⟨2, ![256, 128]⟩
abbrev S1x256x128 : Shape := ⟨3, ![1, 256, 128]⟩

abbrev nBuf : Space → Nat
  | .hbm => 8
  | .vmem => 16
  | .smem => 0
  | _ => 0

abbrev bufTy : (tb : Table) → Fin (tcTables nBuf tb) → BufTy
  | .hbm, ⟨0, _⟩ => ⟨S4x512x128, .bf16⟩
  | .hbm, ⟨1, _⟩ => ⟨S512x128, .f32⟩
  | .hbm, ⟨2, _⟩ => ⟨S512x128, .f32⟩
  | .hbm, ⟨3, _⟩ => ⟨S512x128, .f32⟩
  | .hbm, ⟨4, _⟩ => ⟨S512x128, .f32⟩
  | .hbm, ⟨5, _⟩ => ⟨S512x128, .f32⟩
  | .hbm, ⟨6, _⟩ => ⟨S512x128, .f32⟩
  | .hbm, ⟨7, _⟩ => ⟨S512x128, .f32⟩
  | .local _ .vmem, ⟨0, _⟩ => ⟨S4x256x128, .bf16⟩
  | .local _ .vmem, ⟨1, _⟩ => ⟨S4x256x128, .bf16⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | .local _ .vmem, ⟨14, _⟩ => ⟨S256x128, .f32⟩
  | .local _ .vmem, ⟨15, _⟩ => ⟨S256x128, .f32⟩
  | _, _ => ⟨S4x512x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamUpIdeal.lean ====
abbrev S4x512x128 : Shape := ⟨3, ![4, 512, 128]⟩
abbrev S512x128 : Shape := ⟨2, ![512, 128]⟩
abbrev S4x256x128 : Shape := ⟨3, ![4, 256, 128]⟩
abbrev S256x128 : Shape := ⟨2, ![256, 128]⟩
abbrev S1x256x128 : Shape := ⟨3, ![1, 256, 128]⟩

abbrev nBuf : Space → Nat
  | .hbm => 8
  | .vmem => 16
  | .smem => 0
  | _ => 0

abbrev bufTy : (tb : Table) → Fin (tcTables nBuf tb) → BufTy
  | .hbm, ⟨0, _⟩ => ⟨S4x512x128, .bf16⟩
  | .hbm, ⟨1, _⟩ => ⟨S512x128, .f32⟩
  | .hbm, ⟨2, _⟩ => ⟨S512x128, .f32⟩
  | .hbm, ⟨3, _⟩ => ⟨S512x128, .f32⟩
  | .hbm, ⟨4, _⟩ => ⟨S512x128, .f32⟩
  | .hbm, ⟨5, _⟩ => ⟨S512x128, .f32⟩
  | .hbm, ⟨6, _⟩ => ⟨S512x128, .f32⟩
  | .hbm, ⟨7, _⟩ => ⟨S512x128, .f32⟩
  | .local _ .vmem, ⟨0, _⟩ => ⟨S4x256x128, .bf16⟩
  | .local _ .vmem, ⟨1, _⟩ => ⟨S4x256x128, .bf16⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | .local _ .vmem, ⟨14, _⟩ => ⟨S256x128, .f32⟩
  | .local _ .vmem, ⟨15, _⟩ => ⟨S256x128, .f32⟩
  | _, _ => ⟨S4x512x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamUpRefIdeal.lean ====
abbrev S4x512x128 : Shape := ⟨3, ![4, 512, 128]⟩
abbrev S512x128 : Shape := ⟨2, ![512, 128]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S4x512x128, .bf16⟩
  | .hbm, ⟨1, _⟩ => ⟨S512x128, .f32⟩
  | .hbm, ⟨2, _⟩ => ⟨S512x128, .f32⟩
  | .hbm, ⟨3, _⟩ => ⟨S512x128, .f32⟩
  | .hbm, ⟨4, _⟩ => ⟨S4x512x128, .f32⟩
  | .hbm, ⟨5, _⟩ => ⟨S_, .f32⟩
  | .hbm, ⟨6, _⟩ => ⟨S512x128, .f32⟩
  | .hbm, ⟨7, _⟩ => ⟨S_, .f32⟩
  | .hbm, ⟨8, _⟩ => ⟨S512x128, .f32⟩
  | .hbm, ⟨9, _⟩ => ⟨S512x128, .f32⟩
  | .hbm, ⟨10, _⟩ => ⟨S_, .f32⟩
  | .hbm, ⟨11, _⟩ => ⟨S512x128, .f32⟩
  | .hbm, ⟨12, _⟩ => ⟨S512x128, .f32⟩
  | .hbm, ⟨13, _⟩ => ⟨S512x128, .f32⟩
  | .hbm, ⟨14, _⟩ => ⟨S_, .f32⟩
  | .hbm, ⟨15, _⟩ => ⟨S512x128, .f32⟩
  | .hbm, ⟨16, _⟩ => ⟨S512x128, .f32⟩
  | .hbm, ⟨17, _⟩ => ⟨S512x128, .f32⟩
  | .hbm, ⟨18, _⟩ => ⟨S_, .f32⟩
  | .hbm, ⟨19, _⟩ => ⟨S512x128, .f32⟩
  | .hbm, ⟨20, _⟩ => ⟨S512x128, .f32⟩
  | .hbm, ⟨21, _⟩ => ⟨S512x128, .f32⟩
  | .hbm, ⟨22, _⟩ => ⟨S_, .f32⟩
  | .hbm, ⟨23, _⟩ => ⟨S512x128, .f32⟩
  | .hbm, ⟨24, _⟩ => ⟨S512x128, .f32⟩
  | .hbm, ⟨25, _⟩ => ⟨S_, .f32⟩
  | .hbm, ⟨26, _⟩ => ⟨S512x128, .f32⟩
  | .hbm, ⟨27, _⟩ => ⟨S512x128, .f32⟩
  | .hbm, ⟨28, _⟩ => ⟨S512x128, .f32⟩
  | .hbm, ⟨29, _⟩ => ⟨S_, .f32⟩
  | .hbm, ⟨30, _⟩ => ⟨S512x128, .f32⟩
  | .hbm, ⟨31, _⟩ => ⟨S512x128, .f32⟩
  | .hbm, ⟨32, _⟩ => ⟨S512x128, .f32⟩
  | .hbm, ⟨33, _⟩ => ⟨S_, .f32⟩
  | .hbm, ⟨34, _⟩ => ⟨S512x128, .f32⟩
  | .hbm, ⟨35, _⟩ => ⟨S512x128, .f32⟩
  | .hbm, ⟨36, _⟩ => ⟨S512x128, .f32⟩
  | .hbm, ⟨37, _⟩ => ⟨S_, .f32⟩
  | .hbm, ⟨38, _⟩ => ⟨S512x128, .f32⟩
  | .hbm, ⟨39, _⟩ => ⟨S512x128, .f32⟩
  | _, _ => ⟨S4x512x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamOut.lean ====
abbrev S4x128x1024 : Shape := ⟨3, ![4, 128, 1024]⟩
abbrev S128x1024 : Shape := ⟨2, ![128, 1024]⟩
abbrev S1x128x1024 : Shape := ⟨3, ![1, 128, 1024]⟩

abbrev nBuf : Space → Nat
  | .hbm => 8
  | .vmem => 8
  | .smem => 0
  | _ => 0

abbrev bufTy : (tb : Table) → Fin (tcTables nBuf tb) → BufTy
  | .hbm, ⟨0, _⟩ => ⟨S4x128x1024, .bf16⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S128x1024, .f32⟩
  | .hbm, ⟨5, _⟩ => ⟨S128x1024, .f32⟩
  | .hbm, ⟨6, _⟩ => ⟨S128x1024, .f32⟩
  | .hbm, ⟨7, _⟩ => ⟨S128x1024, .f32⟩
  | .local _ .vmem, ⟨0, _⟩ => ⟨S4x128x1024, .bf16⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | _, _ => ⟨S4x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamOutIdeal.lean ====
abbrev S4x128x1024 : Shape := ⟨3, ![4, 128, 1024]⟩
abbrev S128x1024 : Shape := ⟨2, ![128, 1024]⟩
abbrev S1x128x1024 : Shape := ⟨3, ![1, 128, 1024]⟩

abbrev nBuf : Space → Nat
  | .hbm => 8
  | .vmem => 8
  | .smem => 0
  | _ => 0

abbrev bufTy : (tb : Table) → Fin (tcTables nBuf tb) → BufTy
  | .hbm, ⟨0, _⟩ => ⟨S4x128x1024, .bf16⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S128x1024, .f32⟩
  | .hbm, ⟨5, _⟩ => ⟨S128x1024, .f32⟩
  | .hbm, ⟨6, _⟩ => ⟨S128x1024, .f32⟩
  | .hbm, ⟨7, _⟩ => ⟨S128x1024, .f32⟩
  | .local _ .vmem, ⟨0, _⟩ => ⟨S4x128x1024, .bf16⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | _, _ => ⟨S4x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamOutRefIdeal.lean ====
abbrev S4x128x1024 : Shape := ⟨3, ![4, 128, 1024]⟩
abbrev S128x1024 : Shape := ⟨2, ![128, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S4x128x1024, .bf16⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S4x128x1024, .f32⟩
  | .hbm, ⟨5, _⟩ => ⟨S_, .f32⟩
  | .hbm, ⟨6, _⟩ => ⟨S128x1024, .f32⟩
  | .hbm, ⟨7, _⟩ => ⟨S_, .f32⟩
  | .hbm, ⟨8, _⟩ => ⟨S128x1024, .f32⟩
  | .hbm, ⟨9, _⟩ => ⟨S128x1024, .f32⟩
  | .hbm, ⟨10, _⟩ => ⟨S_, .f32⟩
  | .hbm, ⟨11, _⟩ => ⟨S128x1024, .f32⟩
  | .hbm, ⟨12, _⟩ => ⟨S128x1024, .f32⟩
  | .hbm, ⟨13, _⟩ => ⟨S128x1024, .f32⟩
  | .hbm, ⟨14, _⟩ => ⟨S_, .f32⟩
  | .hbm, ⟨15, _⟩ => ⟨S128x1024, .f32⟩
  | .hbm, ⟨16, _⟩ => ⟨S128x1024, .f32⟩
  | .hbm, ⟨17, _⟩ => ⟨S128x1024, .f32⟩
  | .hbm, ⟨18, _⟩ => ⟨S_, .f32⟩
  | .hbm, ⟨19, _⟩ => ⟨S128x1024, .f32⟩
  | .hbm, ⟨20, _⟩ => ⟨S128x1024, .f32⟩
  | .hbm, ⟨21, _⟩ => ⟨S128x1024, .f32⟩
  | .hbm, ⟨22, _⟩ => ⟨S_, .f32⟩
  | .hbm, ⟨23, _⟩ => ⟨S128x1024, .f32⟩
  | .hbm, ⟨24, _⟩ => ⟨S128x1024, .f32⟩
  | .hbm, ⟨25, _⟩ => ⟨S_, .f32⟩
  | .hbm, ⟨26, _⟩ => ⟨S128x1024, .f32⟩
  | .hbm, ⟨27, _⟩ => ⟨S128x1024, .f32⟩
  | .hbm, ⟨28, _⟩ => ⟨S128x1024, .f32⟩
  | .hbm, ⟨29, _⟩ => ⟨S_, .f32⟩
  | .hbm, ⟨30, _⟩ => ⟨S128x1024, .f32⟩
  | .hbm, ⟨31, _⟩ => ⟨S128x1024, .f32⟩
  | .hbm, ⟨32, _⟩ => ⟨S128x1024, .f32⟩
  | .hbm, ⟨33, _⟩ => ⟨S_, .f32⟩
  | .hbm, ⟨34, _⟩ => ⟨S128x1024, .f32⟩
  | .hbm, ⟨35, _⟩ => ⟨S128x1024, .f32⟩
  | .hbm, ⟨36, _⟩ => ⟨S128x1024, .f32⟩
  | .hbm, ⟨37, _⟩ => ⟨S_, .f32⟩
  | .hbm, ⟨38, _⟩ => ⟨S128x1024, .f32⟩
  | .hbm, ⟨39, _⟩ => ⟨S128x1024, .f32⟩
  | _, _ => ⟨S4x128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamAda.lean ====
abbrev S1x1024x384 : Shape := ⟨3, ![1, 1024, 384]⟩
abbrev S1024x384 : Shape := ⟨2, ![1024, 384]⟩
abbrev S1x256x384 : Shape := ⟨3, ![1, 256, 384]⟩
abbrev S256x384 : Shape := ⟨2, ![256, 384]⟩

abbrev nBuf : Space → Nat
  | .hbm => 8
  | .vmem => 16
  | .smem => 0
  | _ => 0

abbrev bufTy : (tb : Table) → Fin (tcTables nBuf tb) → BufTy
  | .hbm, ⟨0, _⟩ => ⟨S1x1024x384, .f32⟩
  | .hbm, ⟨1, _⟩ => ⟨S1024x384, .f32⟩
  | .hbm, ⟨2, _⟩ => ⟨S1024x384, .f32⟩
  | .hbm, ⟨3, _⟩ => ⟨S1024x384, .f32⟩
  | .hbm, ⟨4, _⟩ => ⟨S1024x384, .f32⟩
  | .hbm, ⟨5, _⟩ => ⟨S1024x384, .f32⟩
  | .hbm, ⟨6, _⟩ => ⟨S1024x384, .f32⟩
  | .hbm, ⟨7, _⟩ => ⟨S1024x384, .f32⟩
  | .local _ .vmem, ⟨0, _⟩ => ⟨S1x256x384, .f32⟩
  | .local _ .vmem, ⟨1, _⟩ => ⟨S1x256x384, .f32⟩
  | .local _ .vmem, ⟨2, _⟩ => ⟨S256x384, .f32⟩
  | .local _ .vmem, ⟨3, _⟩ => ⟨S256x384, .f32⟩
  | .local _ .vmem, ⟨4, _⟩ => ⟨S256x384, .f32⟩
  | .local _ .vmem, ⟨5, _⟩ => ⟨S256x384, .f32⟩
  | .local _ .vmem, ⟨6, _⟩ => ⟨S256x384, .f32⟩
  | .local _ .vmem, ⟨7, _⟩ => ⟨S256x384, .f32⟩
  | .local _ .vmem, ⟨8, _⟩ => ⟨S256x384, .f32⟩
  | .local _ .vmem, ⟨9, _⟩ => ⟨S256x384, .f32⟩
  | .local _ .vmem, ⟨10, _⟩ => ⟨S256x384, .f32⟩
  | .local _ .vmem, ⟨11, _⟩ => ⟨S256x384, .f32⟩
  | .local _ .vmem, ⟨12, _⟩ => ⟨S256x384, .f32⟩
  | .local _ .vmem, ⟨13, _⟩ => ⟨S256x384, .f32⟩
  | .local _ .vmem, ⟨14, _⟩ => ⟨S256x384, .f32⟩
  | .local _ .vmem, ⟨15, _⟩ => ⟨S256x384, .f32⟩
  | _, _ => ⟨S1x1024x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x256x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x384 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamAdaIdeal.lean ====
abbrev S1x1024x384 : Shape := ⟨3, ![1, 1024, 384]⟩
abbrev S1024x384 : Shape := ⟨2, ![1024, 384]⟩
abbrev S1x256x384 : Shape := ⟨3, ![1, 256, 384]⟩
abbrev S256x384 : Shape := ⟨2, ![256, 384]⟩

abbrev nBuf : Space → Nat
  | .hbm => 8
  | .vmem => 16
  | .smem => 0
  | _ => 0

abbrev bufTy : (tb : Table) → Fin (tcTables nBuf tb) → BufTy
  | .hbm, ⟨0, _⟩ => ⟨S1x1024x384, .f32⟩
  | .hbm, ⟨1, _⟩ => ⟨S1024x384, .f32⟩
  | .hbm, ⟨2, _⟩ => ⟨S1024x384, .f32⟩
  | .hbm, ⟨3, _⟩ => ⟨S1024x384, .f32⟩
  | .hbm, ⟨4, _⟩ => ⟨S1024x384, .f32⟩
  | .hbm, ⟨5, _⟩ => ⟨S1024x384, .f32⟩
  | .hbm, ⟨6, _⟩ => ⟨S1024x384, .f32⟩
  | .hbm, ⟨7, _⟩ => ⟨S1024x384, .f32⟩
  | .local _ .vmem, ⟨0, _⟩ => ⟨S1x256x384, .f32⟩
  | .local _ .vmem, ⟨1, _⟩ => ⟨S1x256x384, .f32⟩
  | .local _ .vmem, ⟨2, _⟩ => ⟨S256x384, .f32⟩
  | .local _ .vmem, ⟨3, _⟩ => ⟨S256x384, .f32⟩
  | .local _ .vmem, ⟨4, _⟩ => ⟨S256x384, .f32⟩
  | .local _ .vmem, ⟨5, _⟩ => ⟨S256x384, .f32⟩
  | .local _ .vmem, ⟨6, _⟩ => ⟨S256x384, .f32⟩
  | .local _ .vmem, ⟨7, _⟩ => ⟨S256x384, .f32⟩
  | .local _ .vmem, ⟨8, _⟩ => ⟨S256x384, .f32⟩
  | .local _ .vmem, ⟨9, _⟩ => ⟨S256x384, .f32⟩
  | .local _ .vmem, ⟨10, _⟩ => ⟨S256x384, .f32⟩
  | .local _ .vmem, ⟨11, _⟩ => ⟨S256x384, .f32⟩
  | .local _ .vmem, ⟨12, _⟩ => ⟨S256x384, .f32⟩
  | .local _ .vmem, ⟨13, _⟩ => ⟨S256x384, .f32⟩
  | .local _ .vmem, ⟨14, _⟩ => ⟨S256x384, .f32⟩
  | .local _ .vmem, ⟨15, _⟩ => ⟨S256x384, .f32⟩
  | _, _ => ⟨S1x1024x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x256x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x384 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamAdaRefIdeal.lean ====
abbrev S1x1024x384 : Shape := ⟨3, ![1, 1024, 384]⟩
abbrev S1024x384 : Shape := ⟨2, ![1024, 384]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S1x1024x384, .f32⟩
  | .hbm, ⟨1, _⟩ => ⟨S1024x384, .f32⟩
  | .hbm, ⟨2, _⟩ => ⟨S1024x384, .f32⟩
  | .hbm, ⟨3, _⟩ => ⟨S1024x384, .f32⟩
  | .hbm, ⟨4, _⟩ => ⟨S_, .f32⟩
  | .hbm, ⟨5, _⟩ => ⟨S1024x384, .f32⟩
  | .hbm, ⟨6, _⟩ => ⟨S_, .f32⟩
  | .hbm, ⟨7, _⟩ => ⟨S1024x384, .f32⟩
  | .hbm, ⟨8, _⟩ => ⟨S1024x384, .f32⟩
  | .hbm, ⟨9, _⟩ => ⟨S_, .f32⟩
  | .hbm, ⟨10, _⟩ => ⟨S1024x384, .f32⟩
  | .hbm, ⟨11, _⟩ => ⟨S1024x384, .f32⟩
  | .hbm, ⟨12, _⟩ => ⟨S1024x384, .f32⟩
  | .hbm, ⟨13, _⟩ => ⟨S_, .f32⟩
  | .hbm, ⟨14, _⟩ => ⟨S1024x384, .f32⟩
  | .hbm, ⟨15, _⟩ => ⟨S1024x384, .f32⟩
  | .hbm, ⟨16, _⟩ => ⟨S1024x384, .f32⟩
  | .hbm, ⟨17, _⟩ => ⟨S_, .f32⟩
  | .hbm, ⟨18, _⟩ => ⟨S1024x384, .f32⟩
  | .hbm, ⟨19, _⟩ => ⟨S1024x384, .f32⟩
  | .hbm, ⟨20, _⟩ => ⟨S1024x384, .f32⟩
  | .hbm, ⟨21, _⟩ => ⟨S_, .f32⟩
  | .hbm, ⟨22, _⟩ => ⟨S1024x384, .f32⟩
  | .hbm, ⟨23, _⟩ => ⟨S1024x384, .f32⟩
  | .hbm, ⟨24, _⟩ => ⟨S_, .f32⟩
  | .hbm, ⟨25, _⟩ => ⟨S1024x384, .f32⟩
  | .hbm, ⟨26, _⟩ => ⟨S1024x384, .f32⟩
  | .hbm, ⟨27, _⟩ => ⟨S1024x384, .f32⟩
  | .hbm, ⟨28, _⟩ => ⟨S_, .f32⟩
  | .hbm, ⟨29, _⟩ => ⟨S1024x384, .f32⟩
  | .hbm, ⟨30, _⟩ => ⟨S1024x384, .f32⟩
  | .hbm, ⟨31, _⟩ => ⟨S1024x384, .f32⟩
  | .hbm, ⟨32, _⟩ => ⟨S_, .f32⟩
  | .hbm, ⟨33, _⟩ => ⟨S1024x384, .f32⟩
  | .hbm, ⟨34, _⟩ => ⟨S1024x384, .f32⟩
  | .hbm, ⟨35, _⟩ => ⟨S1024x384, .f32⟩
  | .hbm, ⟨36, _⟩ => ⟨S_, .f32⟩
  | .hbm, ⟨37, _⟩ => ⟨S1024x384, .f32⟩
  | .hbm, ⟨38, _⟩ => ⟨S1024x384, .f32⟩
  | _, _ => ⟨S1x1024x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== AdamSmall.lean ====
abbrev S8x1112x128 : Shape := ⟨3, ![8, 1112, 128]⟩
abbrev S1112x128 : Shape := ⟨2, ![1112, 128]⟩
abbrev S1x1112x128 : Shape := ⟨3, ![1, 1112, 128]⟩

abbrev nBuf : Space → Nat
  | .hbm => 8
  | .vmem => 8
  | .smem => 0
  | _ => 0

abbrev bufTy : (tb : Table) → Fin (tcTables nBuf tb) → BufTy
  | .hbm, ⟨0, _⟩ => ⟨S8x1112x128, .f32⟩
  | .hbm, ⟨1, _⟩ => ⟨S1112x128, .f32⟩
  | .hbm, ⟨2, _⟩ => ⟨S1112x128, .f32⟩
  | .hbm, ⟨3, _⟩ => ⟨S1112x128, .f32⟩
  | .hbm, ⟨4, _⟩ => ⟨S1112x128, .f32⟩
  | .hbm, ⟨5, _⟩ => ⟨S1112x128, .f32⟩
  | .hbm, ⟨6, _⟩ => ⟨S1112x128, .f32⟩
  | .hbm, ⟨7, _⟩ => ⟨S1112x128, .f32⟩
  | .local _ .vmem, ⟨0, _⟩ => ⟨S8x1112x128, .f32⟩
  | .local _ .vmem, ⟨1, _⟩ => ⟨S1112x128, .f32⟩
  | .local _ .vmem, ⟨2, _⟩ => ⟨S1112x128, .f32⟩
  | .local _ .vmem, ⟨3, _⟩ => ⟨S1112x128, .f32⟩
  | .local _ .vmem, ⟨4, _⟩ => ⟨S1112x128, .f32⟩
  | .local _ .vmem, ⟨5, _⟩ => ⟨S1112x128, .f32⟩
  | .local _ .vmem, ⟨6, _⟩ => ⟨S1112x128, .f32⟩
  | .local _ .vmem, ⟨7, _⟩ => ⟨S1112x128, .f32⟩
  | _, _ => ⟨S8x1112x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x1112x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1112x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1112x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1112x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1112x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1112x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1112x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1112x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamSmallRefIdeal.lean ====
abbrev S8x1112x128 : Shape := ⟨3, ![8, 1112, 128]⟩
abbrev S1112x128 : Shape := ⟨2, ![1112, 128]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x1112x128, .f32⟩
  | .hbm, ⟨1, _⟩ => ⟨S1112x128, .f32⟩
  | .hbm, ⟨2, _⟩ => ⟨S1112x128, .f32⟩
  | .hbm, ⟨3, _⟩ => ⟨S1112x128, .f32⟩
  | .hbm, ⟨4, _⟩ => ⟨S_, .f32⟩
  | .hbm, ⟨5, _⟩ => ⟨S1112x128, .f32⟩
  | .hbm, ⟨6, _⟩ => ⟨S_, .f32⟩
  | .hbm, ⟨7, _⟩ => ⟨S1112x128, .f32⟩
  | .hbm, ⟨8, _⟩ => ⟨S1112x128, .f32⟩
  | .hbm, ⟨9, _⟩ => ⟨S_, .f32⟩
  | .hbm, ⟨10, _⟩ => ⟨S1112x128, .f32⟩
  | .hbm, ⟨11, _⟩ => ⟨S1112x128, .f32⟩
  | .hbm, ⟨12, _⟩ => ⟨S1112x128, .f32⟩
  | .hbm, ⟨13, _⟩ => ⟨S_, .f32⟩
  | .hbm, ⟨14, _⟩ => ⟨S1112x128, .f32⟩
  | .hbm, ⟨15, _⟩ => ⟨S1112x128, .f32⟩
  | .hbm, ⟨16, _⟩ => ⟨S1112x128, .f32⟩
  | .hbm, ⟨17, _⟩ => ⟨S_, .f32⟩
  | .hbm, ⟨18, _⟩ => ⟨S1112x128, .f32⟩
  | .hbm, ⟨19, _⟩ => ⟨S1112x128, .f32⟩
  | .hbm, ⟨20, _⟩ => ⟨S1112x128, .f32⟩
  | .hbm, ⟨21, _⟩ => ⟨S_, .f32⟩
  | .hbm, ⟨22, _⟩ => ⟨S1112x128, .f32⟩
  | .hbm, ⟨23, _⟩ => ⟨S1112x128, .f32⟩
  | .hbm, ⟨24, _⟩ => ⟨S_, .f32⟩
  | .hbm, ⟨25, _⟩ => ⟨S1112x128, .f32⟩
  | .hbm, ⟨26, _⟩ => ⟨S1112x128, .f32⟩
  | .hbm, ⟨27, _⟩ => ⟨S1112x128, .f32⟩
  | .hbm, ⟨28, _⟩ => ⟨S_, .f32⟩
  | .hbm, ⟨29, _⟩ => ⟨S1112x128, .f32⟩
  | .hbm, ⟨30, _⟩ => ⟨S1112x128, .f32⟩
  | .hbm, ⟨31, _⟩ => ⟨S1112x128, .f32⟩
  | .hbm, ⟨32, _⟩ => ⟨S_, .f32⟩
  | .hbm, ⟨33, _⟩ => ⟨S1112x128, .f32⟩
  | .hbm, ⟨34, _⟩ => ⟨S1112x128, .f32⟩
  | .hbm, ⟨35, _⟩ => ⟨S1112x128, .f32⟩
  | .hbm, ⟨36, _⟩ => ⟨S_, .f32⟩
  | .hbm, ⟨37, _⟩ => ⟨S1112x128, .f32⟩
  | .hbm, ⟨38, _⟩ => ⟨S1112x128, .f32⟩
  | _, _ => ⟨S8x1112x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== WAda.lean ====
abbrev S8x1024 : Shape := ⟨2, ![8, 1024]⟩
abbrev S8x384 : Shape := ⟨2, ![8, 384]⟩
abbrev S1x1024x384 : Shape := ⟨3, ![1, 1024, 384]⟩
abbrev S1024x384 : Shape := ⟨2, ![1024, 384]⟩

abbrev nBuf : Space → Nat
  | .hbm => 3
  | .vmem => 3
  | .smem => 0
  | _ => 0

abbrev bufTy : (tb : Table) → Fin (tcTables nBuf tb) → BufTy
  | .hbm, ⟨0, _⟩ => ⟨S8x1024, .f32⟩
  | .hbm, ⟨1, _⟩ => ⟨S8x384, .f32⟩
  | .hbm, ⟨2, _⟩ => ⟨S1x1024x384, .f32⟩
  | .local _ .vmem, ⟨0, _⟩ => ⟨S8x1024, .f32⟩
  | .local _ .vmem, ⟨1, _⟩ => ⟨S8x384, .f32⟩
  | .local _ .vmem, ⟨2, _⟩ => ⟨S1x1024x384, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1024x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== WAdaRefIdeal.lean ====
abbrev S8x1024 : Shape := ⟨2, ![8, 1024]⟩
abbrev S8x384 : Shape := ⟨2, ![8, 384]⟩
abbrev S_ : Shape := ⟨0, ![]⟩
abbrev S1x384 : Shape := ⟨2, ![1, 384]⟩
abbrev S1024x384 : Shape := ⟨2, ![1024, 384]⟩
abbrev S384x1024 : Shape := ⟨2, ![384, 1024]⟩
abbrev S1x1024x384 : Shape := ⟨3, ![1, 1024, 384]⟩

abbrev nBuf : Space → Nat
  | .hbm => 12
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S8x384, .f32⟩
  | .hbm, ⟨2, _⟩ => ⟨S_, .f32⟩
  | .hbm, ⟨3, _⟩ => ⟨S1x384, .f32⟩
  | .hbm, ⟨4, _⟩ => ⟨S_, .f32⟩
  | .hbm, ⟨5, _⟩ => ⟨S1024x384, .f32⟩
  | .hbm, ⟨6, _⟩ => ⟨S8x384, .f32⟩
  | .hbm, ⟨7, _⟩ => ⟨S8x384, .f32⟩
  | .hbm, ⟨8, _⟩ => ⟨S8x384, .f32⟩
  | .hbm, ⟨9, _⟩ => ⟨S384x1024, .f32⟩
  | .hbm, ⟨10, _⟩ => ⟨S1024x384, .f32⟩
  | .hbm, ⟨11, _⟩ => ⟨S1x1024x384, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Proof.ProjH.lean ====
/- The normalised rows and the ten products of one block of rows, at an index. -/
module

public import proofs.«01_k».proof.Proof.Gen.ProjFwdIdeal.Value
public import proofs.«01_k».proof.Proof.Gen.ProjectionIdeal.Read
public import Idealize.ShloMosaic.Lib.Pointwise
public import Idealize.ShloMosaic.Lib.Pipeline.ValueKit

@[expose] public section

set_option maxRecDepth 16384

noncomputable section

namespace Cert.ProjFwdIdeal.Proj

open Idealize.ShloMosaic Idealize.ShloMosaic.TcCoe Idealize.ShloMosaic.Tactic
open Cert.ProjFwdIdeal Cert.ProjFwdIdeal.Gen
open Cert.ProjectionIdeal.Read

/-- Row `r` of block `n` of the 8192 rows. -/
def row (n : Fin 32) (r : Fin 256) : Fin 8192 := ⟨n.val * 256 + r.val, by have := n.isLt; omega⟩

variable (n : Fin 32) (xb : FVec Ideal S256x1024 .f32) (sh sc gn : FVec Ideal S1x1024 .f32) (X : FVec Ideal S8192x1024 .f32)

/-- The block's normalised and modulated rows are the reference's. -/
theorem pay3_at (hx : ∀ (r : Fin 256) (k : Fin 1024), xb (ix2 r k) = X (ix2 (row n r) k)) (r : Fin 256) (k : Fin 1024) :
    k0_pay3 (F := Ideal) xb gn sc sh (ix2 r k) = val_main_v17 (F := Ideal) X sh sc gn (ix2 (row n r) k) := by
  pointwise [k0_pay3, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2]
  simp only [hx]

variable (wb : FVec Ideal S1024x5120 .bf16) (wf : FVec Ideal S1024x8 .f32) (W : FVec Ideal S1024x5128 .f32)

theorem pay3_ld (hx : ∀ (r : Fin 256) (k : Fin 1024), xb (ix2 r k) = X (ix2 (row n r) k)) (r : Fin 256) (k : Fin 1024) :
    k0_pay3 (F := Ideal) (View.ld xb r0_0) (View.ld gn r0_1) (View.ld sc r0_1) (View.ld sh r0_1) (ix2 r k) = val_main_v17 (F := Ideal) X sh sc gn (ix2 (row n r) k) := by
  have e0 : View.ld (Val := Elt Ideal) (e' := .f32) xb r0_0 = xb := View.ld_unit_lit (Val := Elt Ideal) (e := .f32) (S := S256x1024) (off := ![0, 0]) inb_S256x1024_S256x1024_0_0 xb (by decide)
  have e1 : ∀ v : FVec Ideal S1x1024 .f32, View.ld (Val := Elt Ideal) (e' := .f32) v r0_1 = v := fun v => View.ld_unit_lit (Val := Elt Ideal) (e := .f32) (S := S1x1024) (off := ![0, 0]) inb_S1x1024_S1x1024_0_0 v (by decide)
  have h := pay3_at n xb sh sc gn X hx r k
  rw [← h]
  exact congrFun (by rw [e0, e1, e1, e1]) _

theorem out6_at (hx : ∀ (r : Fin 256) (k : Fin 1024), xb (ix2 r k) = X (ix2 (row n r) k))
    (hw : ∀ (k : Fin 1024) (a b : ℕ) (ha : a < 5120) (hb : b < 5128), (a < 1536 ∧ b = a ∨ 1536 ≤ a ∧ b = a + 8) → wb (ix2 k ⟨a, ha⟩) = W (ix2 k ⟨b, hb⟩))
    (r : Fin 256) (l : Fin 512) :
    out0_6 (F := Ideal) xb sh sc gn wb wf (ix2 r l) = val_main_v30 (F := Ideal) X sh sc gn W (ix2 (row n r) l) := by
  frame_out
  pointwise [k0_pay5, k0_pay4, val_main_v29, val_main_v28, val_main_cst_3, val_main_v19, val_main_v30, val_main_v18]
  congr 1
  refine Finset.sum_congr rfl fun x _ => ?_
  exact congrArg₂ (· * ·) (pay3_at n xb sh sc gn X hx r x) (hw x _ _ _ _ (by omega))

theorem out7_at (hx : ∀ (r : Fin 256) (k : Fin 1024), xb (ix2 r k) = X (ix2 (row n r) k))
    (hw : ∀ (k : Fin 1024) (a b : ℕ) (ha : a < 5120) (hb : b < 5128), (a < 1536 ∧ b = a ∨ 1536 ≤ a ∧ b = a + 8) → wb (ix2 k ⟨a, ha⟩) = W (ix2 k ⟨b, hb⟩))
    (r : Fin 256) (l : Fin 512) :
    out0_7 (F := Ideal) xb sh sc gn wb wf (ix2 r l) = val_main_v31 (F := Ideal) X sh sc gn W (ix2 (row n r) l) := by
  frame_out
  pointwise [k0_pay7, k0_pay6, k0_pay4, val_main_v20, val_main_v31, val_main_v18]
  refine Finset.sum_congr rfl fun x _ => ?_
  exact congrArg₂ (· * ·) (pay3_at n xb sh sc gn X hx r x) (hw x _ _ _ _ (by omega))

theorem out8_at (hx : ∀ (r : Fin 256) (k : Fin 1024), xb (ix2 r k) = X (ix2 (row n r) k))
    (hw : ∀ (k : Fin 1024) (a b : ℕ) (ha : a < 5120) (hb : b < 5128), (a < 1536 ∧ b = a ∨ 1536 ≤ a ∧ b = a + 8) → wb (ix2 k ⟨a, ha⟩) = W (ix2 k ⟨b, hb⟩))
    (r : Fin 256) (l : Fin 512) :
    out0_8 (F := Ideal) xb sh sc gn wb wf (ix2 r l) = val_main_v32 (F := Ideal) X sh sc gn W (ix2 (row n r) l) := by
  frame_out
  pointwise [k0_pay8, k0_pay14, k0_pay4, val_main_v21, val_main_v32, val_main_v18]
  refine Finset.sum_congr rfl fun x _ => ?_
  exact congrArg₂ (· * ·) (pay3_ld n xb sh sc gn X hx r x) (hw x _ _ _ _ (by omega))

theorem out9_at (hx : ∀ (r : Fin 256) (k : Fin 1024), xb (ix2 r k) = X (ix2 (row n r) k))
    (hw : ∀ (k : Fin 1024) (a b : ℕ) (ha : a < 5120) (hb : b < 5128), (a < 1536 ∧ b = a ∨ 1536 ≤ a ∧ b = a + 8) → wb (ix2 k ⟨a, ha⟩) = W (ix2 k ⟨b, hb⟩))
    (r : Fin 256) (l : Fin 512) :
    out0_9 (F := Ideal) xb sh sc gn wb wf (ix2 r l) = val_main_v23 (F := Ideal) X sh sc gn W (ix2 (row n r) l) := by
  frame_out
  pointwise [k0_pay9, k0_pay14, k0_pay4, val_main_v23, val_main_v18]
  refine Finset.sum_congr rfl fun x _ => ?_
  exact congrArg₂ (· * ·) (pay3_ld n xb sh sc gn X hx r x) (hw x _ _ _ _ (by omega))

theorem out10_at (hx : ∀ (r : Fin 256) (k : Fin 1024), xb (ix2 r k) = X (ix2 (row n r) k))
    (hw : ∀ (k : Fin 1024) (a b : ℕ) (ha : a < 5120) (hb : b < 5128), (a < 1536 ∧ b = a ∨ 1536 ≤ a ∧ b = a + 8) → wb (ix2 k ⟨a, ha⟩) = W (ix2 k ⟨b, hb⟩))
    (r : Fin 256) (l : Fin 512) :
    out0_10 (F := Ideal) xb sh sc gn wb wf (ix2 r l) = val_main_v24 (F := Ideal) X sh sc gn W (ix2 (row n r) l) := by
  frame_out
  pointwise [k0_pay10, k0_pay14, k0_pay4, val_main_v24, val_main_v18]
  refine Finset.sum_congr rfl fun x _ => ?_
  exact congrArg₂ (· * ·) (pay3_ld n xb sh sc gn X hx r x) (hw x _ _ _ _ (by omega))

theorem out11_at (hx : ∀ (r : Fin 256) (k : Fin 1024), xb (ix2 r k) = X (ix2 (row n r) k))
    (hw : ∀ (k : Fin 1024) (a b : ℕ) (ha : a < 5120) (hb : b < 5128), (a < 1536 ∧ b = a ∨ 1536 ≤ a ∧ b = a + 8) → wb (ix2 k ⟨a, ha⟩) = W (ix2 k ⟨b, hb⟩))
    (r : Fin 256) (l : Fin 512) :
    out0_11 (F := Ideal) xb sh sc gn wb wf (ix2 r l) = val_main_v25 (F := Ideal) X sh sc gn W (ix2 (row n r) l) := by
  frame_out
  pointwise [k0_pay11, k0_pay14, k0_pay4, val_main_v25, val_main_v18]
  refine Finset.sum_congr rfl fun x _ => ?_
  exact congrArg₂ (· * ·) (pay3_ld n xb sh sc gn X hx r x) (hw x _ _ _ _ (by omega))

theorem out12_at (hx : ∀ (r : Fin 256) (k : Fin 1024), xb (ix2 r k) = X (ix2 (row n r) k))
    (hw : ∀ (k : Fin 1024) (a b : ℕ) (ha : a < 5120) (hb : b < 5128), (a < 1536 ∧ b = a ∨ 1536 ≤ a ∧ b = a + 8) → wb (ix2 k ⟨a, ha⟩) = W (ix2 k ⟨b, hb⟩))
    (r : Fin 256) (l : Fin 1024) :
    out0_12 (F := Ideal) xb sh sc gn wb wf (ix2 r l) = val_main_v26 (F := Ideal) X sh sc gn W (ix2 (row n r) l) := by
  frame_out
  pointwise [k0_pay12, k0_pay14, k0_pay4, val_main_v26, val_main_v18]
  refine Finset.sum_congr rfl fun x _ => ?_
  exact congrArg₂ (· * ·) (pay3_ld n xb sh sc gn X hx r x) (hw x _ _ _ _ (by omega))

theorem out13_at (hx : ∀ (r : Fin 256) (k : Fin 1024), xb (ix2 r k) = X (ix2 (row n r) k))
    (hw : ∀ (k : Fin 1024) (a b : ℕ) (ha : a < 5120) (hb : b < 5128), (a < 1536 ∧ b = a ∨ 1536 ≤ a ∧ b = a + 8) → wb (ix2 k ⟨a, ha⟩) = W (ix2 k ⟨b, hb⟩))
    (r : Fin 256) (l : Fin 1024) :
    out0_13 (F := Ideal) xb sh sc gn wb wf (ix2 r l) = val_main_v27 (F := Ideal) X sh sc gn W (ix2 (row n r) l) := by
  frame_out
  pointwise [k0_pay1, k0_pay13, k0_pay14, k0_pay4, val_main_v27, val_main_v18]
  refine Finset.sum_congr rfl fun x _ => ?_
  exact congrArg₂ (· * ·) (pay3_ld n xb sh sc gn X hx r x) (hw x _ _ _ _ (by omega))

theorem out14_at (hx : ∀ (r : Fin 256) (k : Fin 1024), xb (ix2 r k) = X (ix2 (row n r) k))
    (hf : ∀ (k : Fin 1024) (l : Fin 8), wf (ix2 k l) = W (ix2 k ⟨1536 + l.val, by have := l.isLt; omega⟩))
    (r : Fin 256) (l : Fin 8) :
    out0_14 (F := Ideal) xb sh sc gn wb wf (ix2 r l) = val_main_v22 (F := Ideal) X sh sc gn W (ix2 (row n r) l) := by
  frame_out
  pointwise [k0_pay2, val_main_v22, val_main_v18]
  refine Finset.sum_congr rfl fun x _ => ?_
  exact congrArg₂ (· * ·) (pay3_at n xb sh sc gn X hx r x) (hf x l)

theorem out15_at (hx : ∀ (r : Fin 256) (k : Fin 1024), xb (ix2 r k) = X (ix2 (row n r) k)) (r : Fin 256) (l : Fin 1024) :
    out0_15 (F := Ideal) xb sh sc gn wb wf (ix2 r l) = val_main_v33 (F := Ideal) X sh sc gn (ix2 (row n r) l) := by
  frame_out
  pointwise [k0_pay4, val_main_v33]
  exact pay3_at n xb sh sc gn X hx r l

end Cert.ProjFwdIdeal.Proj

end
-- ==== Proof.ProjV.lean ====
/- The ten result arrays the projection kernel leaves are the reference's values. -/
module

public import proofs.«01_k».proof.Proof.ProjH
public import Idealize.ShloMosaic.Lib.Claim
public import Idealize.ShloMosaic.Lib.StableHlo.RunRead

@[expose] public section

set_option maxRecDepth 16384

noncomputable section

namespace Cert.ProjFwdIdeal.Proj

open Idealize.ShloMosaic Idealize.ShloMosaic.TcCoe Idealize.ShloMosaic.Tactic
open Cert.ProjFwdIdeal Cert.ProjFwdIdeal.Gen Cert.ProjFwdIdeal.Value
open Cert.ProjectionIdeal.Read

variable (m : (ℓ : Loc nD τ sig) → Buf (Elt Ideal) ℓ) (c : Dev nD)

/-- The host's weight without the eight columns of the forget gate. -/
def hMain (W : FVec Ideal S1024x5128 .f32) : FVec Ideal S1024x5120 .bf16 :=
  concatenate S1024x5120 1 [⟨S1024x1536, extractStridedSlice S1024x1536 ![0, 0] (truncf .bf16 W bitsLt_bf16_f32) slices_S1024x5128_S1024x1536_0_0⟩,
    ⟨S1024x3584, extractStridedSlice S1024x3584 ![0, 1544] (truncf .bf16 W bitsLt_bf16_f32) slices_S1024x5128_S1024x3584_0_1544⟩] concatenates_S1024x1536_S1024x3584_S1024x5120_d1

/-- The host's weight of the forget gate. -/
def hGate (W : FVec Ideal S1024x5128 .f32) : FVec Ideal S1024x8 .f32 :=
  extf .f32 (extractStridedSlice S1024x8 ![0, 1536] (truncf .bf16 W bitsLt_bf16_f32) slices_S1024x5128_S1024x8_0_1536) bitsLt_bf16_f32

theorem V_3 : V m c main_v3 = hMain (m ((c.tc : Thread nD τ).loc main_arg4)) := by
  simp only [V, hostOps0]
  after_reads_simp
  rfl

theorem V_5 : V m c main_v5 = hGate (m ((c.tc : Thread nD τ).loc main_arg4)) := by
  simp only [V, hostOps0]
  after_reads_simp
  rfl

theorem hMain_at (W : FVec Ideal S1024x5128 .f32) (k : Fin 1024) (a b : ℕ) (ha : a < 5120) (hb : b < 5128) (h : a < 1536 ∧ b = a ∨ 1536 ≤ a ∧ b = a + 8) :
    hMain W (ix2 k ⟨a, ha⟩) = W (ix2 k ⟨b, hb⟩) := by
  rcases h with ⟨h, rfl⟩ | ⟨h, rfl⟩
  · pointwise [hMain]
    rw [dif_pos h]
  · pointwise [hMain]
    rw [dif_neg (by omega)]
    congr 2
    apply Fin.ext
    show 1544 + (a - 1536) = a + 8
    omega

theorem hGate_at (W : FVec Ideal S1024x5128 .f32) (k : Fin 1024) (l : Fin 8) :
    hGate W (ix2 k l) = W (ix2 k ⟨1536 + l.val, by have := l.isLt; omega⟩) := by
  pointwise [hGate]

/-- The block of rows point `t` works on. -/
def nn (t : Fin cfg0.N) : Fin 32 := ⟨t.val, t.isLt⟩

theorem idx : ∀ t : Fin cfg0.N, win0_0.index t = ![t.val, 0] ∧ win0_1.index t = ![0, 0] ∧ win0_2.index t = ![0, 0] ∧ win0_3.index t = ![0, 0] ∧ win0_4.index t = ![0, 0] ∧ win0_5.index t = ![0, 0] ∧ win0_6.index t = ![t.val, 0] ∧ win0_7.index t = ![t.val, 0] ∧ win0_8.index t = ![t.val, 0] ∧ win0_9.index t = ![t.val, 0] ∧ win0_10.index t = ![t.val, 0] ∧ win0_11.index t = ![t.val, 0] ∧ win0_12.index t = ![t.val, 0] ∧ win0_13.index t = ![t.val, 0] ∧ win0_14.index t = ![t.val, 0] ∧ win0_15.index t = ![t.val, 0] :=
  (by decide +kernel : ∀ t : Fin grid0.N, _)

variable (t : Fin cfg0.N)

theorem rows (r : Fin 256) (k : Fin 1024) : (show FVec Ideal S256x1024 .f32 from iblk m c 0 t) (ix2 r k) = (m ((c.tc : Thread nD τ).loc main_arg0) : FVec Ideal S8192x1024 .f32) (ix2 (row (nn t) r) k) := by
  have h : ∀ A : FVec Ideal S8192x1024 .f32, (show FVec Ideal S256x1024 .f32 from ((cfg0.win 0).blk t).view.read (Elt Ideal) A) (ix2 r k) = A (ix2 (row (nn t) r) k) := fun A => by
    blk_ext! [idx t, nn, row]
  exact (congrFun (congrArg (((cfg0.win 0).blk t).view.read (Elt Ideal)) (V_main_arg0 m c)) _).trans (h _)

theorem vec1 : (show FVec Ideal S1x1024 .f32 from iblk m c 1 t) = m ((c.tc : Thread nD τ).loc main_arg1) := by
  have h : ∀ A : FVec Ideal S1x1024 .f32, (show FVec Ideal S1x1024 .f32 from ((cfg0.win 1).blk t).view.read (Elt Ideal) A) = A := fun A => by
    funext y
    blk_ext! [idx t]
  exact (congrArg (((cfg0.win 1).blk t).view.read (Elt Ideal)) (V_main_arg1 m c)).trans (h _)

theorem vec2 : (show FVec Ideal S1x1024 .f32 from iblk m c 2 t) = m ((c.tc : Thread nD τ).loc main_arg2) := by
  have h : ∀ A : FVec Ideal S1x1024 .f32, (show FVec Ideal S1x1024 .f32 from ((cfg0.win 2).blk t).view.read (Elt Ideal) A) = A := fun A => by
    funext y
    blk_ext! [idx t]
  exact (congrArg (((cfg0.win 2).blk t).view.read (Elt Ideal)) (V_main_arg2 m c)).trans (h _)

theorem vec3 : (show FVec Ideal S1x1024 .f32 from iblk m c 3 t) = m ((c.tc : Thread nD τ).loc main_arg3) := by
  have h : ∀ A : FVec Ideal S1x1024 .f32, (show FVec Ideal S1x1024 .f32 from ((cfg0.win 3).blk t).view.read (Elt Ideal) A) = A := fun A => by
    funext y
    blk_ext! [idx t]
  exact (congrArg (((cfg0.win 3).blk t).view.read (Elt Ideal)) (V_main_arg3 m c)).trans (h _)

theorem mat4 : (show FVec Ideal S1024x5120 .bf16 from iblk m c 4 t) = hMain (m ((c.tc : Thread nD τ).loc main_arg4)) := by
  have h : ∀ A : FVec Ideal S1024x5120 .bf16, (show FVec Ideal S1024x5120 .bf16 from ((cfg0.win 4).blk t).view.read (Elt Ideal) A) = A := fun A => by
    funext y
    blk_ext! [idx t]
  exact (congrArg (((cfg0.win 4).blk t).view.read (Elt Ideal)) (V_3 m c)).trans (h _)

theorem mat5 : (show FVec Ideal S1024x8 .f32 from iblk m c 5 t) = hGate (m ((c.tc : Thread nD τ).loc main_arg4)) := by
  have h : ∀ A : FVec Ideal S1024x8 .f32, (show FVec Ideal S1024x8 .f32 from ((cfg0.win 5).blk t).view.read (Elt Ideal) A) = A := fun A => by
    funext y
    blk_ext! [idx t]
  exact (congrArg (((cfg0.win 5).blk t).view.read (Elt Ideal)) (V_5 m c)).trans (h _)

theorem final6 : (dats m 0 c).arrAt 6 (cfgs 0).N = (val_main_v30 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) := by
  refine (dats m 0 c).arrAt_eq_of_covers 6 _ (by decide +kernel) fun t hf y => ?_
  blk_simp
  rw [after0_6]
  obtain ⟨x, l, rfl⟩ : ∃ (x : Fin 256) (l : Fin 512), y = ix2 x l := ⟨y 0, y 1, by blk_ext!⟩
  have e : ((cfg0.win 6).blk t).view.emb (ix2 x l) = ix2 (row (nn t) x) l := by
    blk_ext! [idx t, nn, row]
  rw [e]
  have o := out6_at (nn t) (iblk m c 0 t) (iblk m c 1 t) (iblk m c 2 t) (iblk m c 3 t) (m ((c.tc : Thread nD τ).loc main_arg0)) (iblk m c 4 t) (iblk m c 5 t) (m ((c.tc : Thread nD τ).loc main_arg4)) (rows m c t) (fun k a b ha hb h => (congrFun (mat4 m c t) _).trans (hMain_at _ k a b ha hb h)) x l
  refine Eq.trans o ?_
  exact congrFun (by rw [show iblk m c 1 t = m ((c.tc : Thread nD τ).loc main_arg1) from vec1 m c t, show iblk m c 2 t = m ((c.tc : Thread nD τ).loc main_arg2) from vec2 m c t, show iblk m c 3 t = m ((c.tc : Thread nD τ).loc main_arg3) from vec3 m c t]) _

theorem final7 : (dats m 0 c).arrAt 7 (cfgs 0).N = (val_main_v31 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) := by
  refine (dats m 0 c).arrAt_eq_of_covers 7 _ (by decide +kernel) fun t hf y => ?_
  blk_simp
  rw [after0_7]
  obtain ⟨x, l, rfl⟩ : ∃ (x : Fin 256) (l : Fin 512), y = ix2 x l := ⟨y 0, y 1, by blk_ext!⟩
  have e : ((cfg0.win 7).blk t).view.emb (ix2 x l) = ix2 (row (nn t) x) l := by
    blk_ext! [idx t, nn, row]
  rw [e]
  have o := out7_at (nn t) (iblk m c 0 t) (iblk m c 1 t) (iblk m c 2 t) (iblk m c 3 t) (m ((c.tc : Thread nD τ).loc main_arg0)) (iblk m c 4 t) (iblk m c 5 t) (m ((c.tc : Thread nD τ).loc main_arg4)) (rows m c t) (fun k a b ha hb h => (congrFun (mat4 m c t) _).trans (hMain_at _ k a b ha hb h)) x l
  refine Eq.trans o ?_
  exact congrFun (by rw [show iblk m c 1 t = m ((c.tc : Thread nD τ).loc main_arg1) from vec1 m c t, show iblk m c 2 t = m ((c.tc : Thread nD τ).loc main_arg2) from vec2 m c t, show iblk m c 3 t = m ((c.tc : Thread nD τ).loc main_arg3) from vec3 m c t]) _

theorem final8 : (dats m 0 c).arrAt 8 (cfgs 0).N = (val_main_v32 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) := by
  refine (dats m 0 c).arrAt_eq_of_covers 8 _ (by decide +kernel) fun t hf y => ?_
  blk_simp
  rw [after0_8]
  obtain ⟨x, l, rfl⟩ : ∃ (x : Fin 256) (l : Fin 512), y = ix2 x l := ⟨y 0, y 1, by blk_ext!⟩
  have e : ((cfg0.win 8).blk t).view.emb (ix2 x l) = ix2 (row (nn t) x) l := by
    blk_ext! [idx t, nn, row]
  rw [e]
  have o := out8_at (nn t) (iblk m c 0 t) (iblk m c 1 t) (iblk m c 2 t) (iblk m c 3 t) (m ((c.tc : Thread nD τ).loc main_arg0)) (iblk m c 4 t) (iblk m c 5 t) (m ((c.tc : Thread nD τ).loc main_arg4)) (rows m c t) (fun k a b ha hb h => (congrFun (mat4 m c t) _).trans (hMain_at _ k a b ha hb h)) x l
  refine Eq.trans o ?_
  exact congrFun (by rw [show iblk m c 1 t = m ((c.tc : Thread nD τ).loc main_arg1) from vec1 m c t, show iblk m c 2 t = m ((c.tc : Thread nD τ).loc main_arg2) from vec2 m c t, show iblk m c 3 t = m ((c.tc : Thread nD τ).loc main_arg3) from vec3 m c t]) _

theorem final9 : (dats m 0 c).arrAt 9 (cfgs 0).N = (val_main_v23 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) := by
  refine (dats m 0 c).arrAt_eq_of_covers 9 _ (by decide +kernel) fun t hf y => ?_
  blk_simp
  rw [after0_9]
  obtain ⟨x, l, rfl⟩ : ∃ (x : Fin 256) (l : Fin 512), y = ix2 x l := ⟨y 0, y 1, by blk_ext!⟩
  have e : ((cfg0.win 9).blk t).view.emb (ix2 x l) = ix2 (row (nn t) x) l := by
    blk_ext! [idx t, nn, row]
  rw [e]
  have o := out9_at (nn t) (iblk m c 0 t) (iblk m c 1 t) (iblk m c 2 t) (iblk m c 3 t) (m ((c.tc : Thread nD τ).loc main_arg0)) (iblk m c 4 t) (iblk m c 5 t) (m ((c.tc : Thread nD τ).loc main_arg4)) (rows m c t) (fun k a b ha hb h => (congrFun (mat4 m c t) _).trans (hMain_at _ k a b ha hb h)) x l
  refine Eq.trans o ?_
  exact congrFun (by rw [show iblk m c 1 t = m ((c.tc : Thread nD τ).loc main_arg1) from vec1 m c t, show iblk m c 2 t = m ((c.tc : Thread nD τ).loc main_arg2) from vec2 m c t, show iblk m c 3 t = m ((c.tc : Thread nD τ).loc main_arg3) from vec3 m c t]) _

theorem final10 : (dats m 0 c).arrAt 10 (cfgs 0).N = (val_main_v24 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) := by
  refine (dats m 0 c).arrAt_eq_of_covers 10 _ (by decide +kernel) fun t hf y => ?_
  blk_simp
  rw [after0_10]
  obtain ⟨x, l, rfl⟩ : ∃ (x : Fin 256) (l : Fin 512), y = ix2 x l := ⟨y 0, y 1, by blk_ext!⟩
  have e : ((cfg0.win 10).blk t).view.emb (ix2 x l) = ix2 (row (nn t) x) l := by
    blk_ext! [idx t, nn, row]
  rw [e]
  have o := out10_at (nn t) (iblk m c 0 t) (iblk m c 1 t) (iblk m c 2 t) (iblk m c 3 t) (m ((c.tc : Thread nD τ).loc main_arg0)) (iblk m c 4 t) (iblk m c 5 t) (m ((c.tc : Thread nD τ).loc main_arg4)) (rows m c t) (fun k a b ha hb h => (congrFun (mat4 m c t) _).trans (hMain_at _ k a b ha hb h)) x l
  refine Eq.trans o ?_
  exact congrFun (by rw [show iblk m c 1 t = m ((c.tc : Thread nD τ).loc main_arg1) from vec1 m c t, show iblk m c 2 t = m ((c.tc : Thread nD τ).loc main_arg2) from vec2 m c t, show iblk m c 3 t = m ((c.tc : Thread nD τ).loc main_arg3) from vec3 m c t]) _

theorem final11 : (dats m 0 c).arrAt 11 (cfgs 0).N = (val_main_v25 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) := by
  refine (dats m 0 c).arrAt_eq_of_covers 11 _ (by decide +kernel) fun t hf y => ?_
  blk_simp
  rw [after0_11]
  obtain ⟨x, l, rfl⟩ : ∃ (x : Fin 256) (l : Fin 512), y = ix2 x l := ⟨y 0, y 1, by blk_ext!⟩
  have e : ((cfg0.win 11).blk t).view.emb (ix2 x l) = ix2 (row (nn t) x) l := by
    blk_ext! [idx t, nn, row]
  rw [e]
  have o := out11_at (nn t) (iblk m c 0 t) (iblk m c 1 t) (iblk m c 2 t) (iblk m c 3 t) (m ((c.tc : Thread nD τ).loc main_arg0)) (iblk m c 4 t) (iblk m c 5 t) (m ((c.tc : Thread nD τ).loc main_arg4)) (rows m c t) (fun k a b ha hb h => (congrFun (mat4 m c t) _).trans (hMain_at _ k a b ha hb h)) x l
  refine Eq.trans o ?_
  exact congrFun (by rw [show iblk m c 1 t = m ((c.tc : Thread nD τ).loc main_arg1) from vec1 m c t, show iblk m c 2 t = m ((c.tc : Thread nD τ).loc main_arg2) from vec2 m c t, show iblk m c 3 t = m ((c.tc : Thread nD τ).loc main_arg3) from vec3 m c t]) _

theorem final12 : (dats m 0 c).arrAt 12 (cfgs 0).N = (val_main_v26 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) := by
  refine (dats m 0 c).arrAt_eq_of_covers 12 _ (by decide +kernel) fun t hf y => ?_
  blk_simp
  rw [after0_12]
  obtain ⟨x, l, rfl⟩ : ∃ (x : Fin 256) (l : Fin 1024), y = ix2 x l := ⟨y 0, y 1, by blk_ext!⟩
  have e : ((cfg0.win 12).blk t).view.emb (ix2 x l) = ix2 (row (nn t) x) l := by
    blk_ext! [idx t, nn, row]
  rw [e]
  have o := out12_at (nn t) (iblk m c 0 t) (iblk m c 1 t) (iblk m c 2 t) (iblk m c 3 t) (m ((c.tc : Thread nD τ).loc main_arg0)) (iblk m c 4 t) (iblk m c 5 t) (m ((c.tc : Thread nD τ).loc main_arg4)) (rows m c t) (fun k a b ha hb h => (congrFun (mat4 m c t) _).trans (hMain_at _ k a b ha hb h)) x l
  refine Eq.trans o ?_
  exact congrFun (by rw [show iblk m c 1 t = m ((c.tc : Thread nD τ).loc main_arg1) from vec1 m c t, show iblk m c 2 t = m ((c.tc : Thread nD τ).loc main_arg2) from vec2 m c t, show iblk m c 3 t = m ((c.tc : Thread nD τ).loc main_arg3) from vec3 m c t]) _

theorem final13 : (dats m 0 c).arrAt 13 (cfgs 0).N = (val_main_v27 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) := by
  refine (dats m 0 c).arrAt_eq_of_covers 13 _ (by decide +kernel) fun t hf y => ?_
  blk_simp
  rw [after0_13]
  obtain ⟨x, l, rfl⟩ : ∃ (x : Fin 256) (l : Fin 1024), y = ix2 x l := ⟨y 0, y 1, by blk_ext!⟩
  have e : ((cfg0.win 13).blk t).view.emb (ix2 x l) = ix2 (row (nn t) x) l := by
    blk_ext! [idx t, nn, row]
  rw [e]
  have o := out13_at (nn t) (iblk m c 0 t) (iblk m c 1 t) (iblk m c 2 t) (iblk m c 3 t) (m ((c.tc : Thread nD τ).loc main_arg0)) (iblk m c 4 t) (iblk m c 5 t) (m ((c.tc : Thread nD τ).loc main_arg4)) (rows m c t) (fun k a b ha hb h => (congrFun (mat4 m c t) _).trans (hMain_at _ k a b ha hb h)) x l
  refine Eq.trans o ?_
  exact congrFun (by rw [show iblk m c 1 t = m ((c.tc : Thread nD τ).loc main_arg1) from vec1 m c t, show iblk m c 2 t = m ((c.tc : Thread nD τ).loc main_arg2) from vec2 m c t, show iblk m c 3 t = m ((c.tc : Thread nD τ).loc main_arg3) from vec3 m c t]) _

theorem final14 : (dats m 0 c).arrAt 14 (cfgs 0).N = (val_main_v22 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) := by
  refine (dats m 0 c).arrAt_eq_of_covers 14 _ (by decide +kernel) fun t hf y => ?_
  blk_simp
  rw [after0_14]
  obtain ⟨x, l, rfl⟩ : ∃ (x : Fin 256) (l : Fin 8), y = ix2 x l := ⟨y 0, y 1, by blk_ext!⟩
  have e : ((cfg0.win 14).blk t).view.emb (ix2 x l) = ix2 (row (nn t) x) l := by
    blk_ext! [idx t, nn, row]
  rw [e]
  have o := out14_at (nn t) (iblk m c 0 t) (iblk m c 1 t) (iblk m c 2 t) (iblk m c 3 t) (m ((c.tc : Thread nD τ).loc main_arg0)) (iblk m c 4 t) (iblk m c 5 t) (m ((c.tc : Thread nD τ).loc main_arg4)) (rows m c t) (fun k l => (congrFun (mat5 m c t) _).trans (hGate_at _ k l)) x l
  refine Eq.trans o ?_
  exact congrFun (by rw [show iblk m c 1 t = m ((c.tc : Thread nD τ).loc main_arg1) from vec1 m c t, show iblk m c 2 t = m ((c.tc : Thread nD τ).loc main_arg2) from vec2 m c t, show iblk m c 3 t = m ((c.tc : Thread nD τ).loc main_arg3) from vec3 m c t]) _

theorem final15 : (dats m 0 c).arrAt 15 (cfgs 0).N = (val_main_v33 (F := Ideal) (m ((c.tc : Thread nD τ).loc main_arg0)) (m ((c.tc : Thread nD τ).loc main_arg1)) (m ((c.tc : Thread nD τ).loc main_arg2)) (m ((c.tc : Thread nD τ).loc main_arg3))) := by
  refine (dats m 0 c).arrAt_eq_of_covers 15 _ (by decide +kernel) fun t hf y => ?_
  blk_simp
  rw [after0_15]
  obtain ⟨x, l, rfl⟩ : ∃ (x : Fin 256) (l : Fin 1024), y = ix2 x l := ⟨y 0, y 1, by blk_ext!⟩
  have e : ((cfg0.win 15).blk t).view.emb (ix2 x l) = ix2 (row (nn t) x) l := by
    blk_ext! [idx t, nn, row]
  rw [e]
  have o := out15_at (nn t) (iblk m c 0 t) (iblk m c 1 t) (iblk m c 2 t) (iblk m c 3 t) (m ((c.tc : Thread nD τ).loc main_arg0)) (iblk m c 4 t) (iblk m c 5 t) (rows m c t) x l
  refine Eq.trans o ?_
  exact congrFun (by rw [show iblk m c 1 t = m ((c.tc : Thread nD τ).loc main_arg1) from vec1 m c t, show iblk m c 2 t = m ((c.tc : Thread nD τ).loc main_arg2) from vec2 m c t, show iblk m c 3 t = m ((c.tc : Thread nD τ).loc main_arg3) from vec3 m c t]) _

end Cert.ProjFwdIdeal.Proj

end
-- ==== Proof.ProjGradE.lean ====
/- What each case of the body leaves in the four output blocks: the payloads over the blocks it reads, the block of weights read in its eight parts. -/
module

public import proofs.«01_k».proof.Proof.Gen.ProjBwdIdeal.Value
public import Idealize.ShloMosaic.Lib.Pipeline.ValueKit

@[expose] public section

set_option maxRecDepth 16384

noncomputable section

namespace Cert.ProjBwdIdeal.Grad

open Idealize.ShloMosaic Idealize.ShloMosaic.TcCoe Idealize.ShloMosaic.Tactic
open Cert.ProjBwdIdeal Cert.ProjBwdIdeal.Gen Cert.ProjBwdIdeal.Value

variable {F : FTy → Type} [FloatOps F]
variable (x0 : Vec F S256x512 .f32) (x1 : Vec F S256x512 .bf16) (x2 : Vec F S256x512 .bf16) (x3 : Vec F S256x512 .bf16) (x4 : Vec F S256x512 .f32) (x5 : Vec F S256x512 .bf16) (x6 : Vec F S256x1024 .bf16) (x7 : Vec F S256x1024 .bf16) (x8 : Vec F S256x8 .f32) (x13 : Vec F S1024x5120 .bf16) (x14 : Vec F S8x1024 .f32)

/-- The gradient of the block's normalised rows: the nine products, added up. -/
def dhb : FVec F S256x1024 .f32 :=
  k0_pay6 (k0_pay5 x0 (View.ld x13 (Rect.unit (s := S1024x5120) ![0, 0] S1024x512.size inb_S1024x5120_S1024x512_0_0)) x1 (View.ld x13 (Rect.unit (s := S1024x5120) ![0, 512] S1024x512.size inb_S1024x5120_S1024x512_0_512)) x2 (View.ld x13 (Rect.unit (s := S1024x5120) ![0, 1024] S1024x512.size inb_S1024x5120_S1024x512_0_1024)) x3 (View.ld x13 (Rect.unit (s := S1024x5120) ![0, 1536] S1024x512.size inb_S1024x5120_S1024x512_0_1536)) x4 (View.ld x13 (Rect.unit (s := S1024x5120) ![0, 2048] S1024x512.size inb_S1024x5120_S1024x512_0_2048))) x5 (View.ld x13 (Rect.unit (s := S1024x5120) ![0, 2560] S1024x512.size inb_S1024x5120_S1024x512_0_2560)) x6 (View.ld x13 (Rect.unit (s := S1024x5120) ![0, 3072] S1024x1024.size inb_S1024x5120_S1024x1024_0_3072)) x7 (View.ld x13 (Rect.unit (s := S1024x5120) ![0, 4096] S1024x1024.size inb_S1024x5120_S1024x1024_0_4096)) x8 x14

variable (x9 : Vec F S256x1024 .f32) (x10 : Vec F S256x1024 .f32) (x11 : Vec F S1x1024 .f32) (x12 : Vec F S1x1024 .f32)

/-- The gradient of the block's rows. -/
def gxb : FVec F S256x1024 .f32 :=
  k0_pay1 x10 (k0_pay14 (dhb x0 x1 x2 x3 x4 x5 x6 x7 x8 x13 x14) (k0_pay7 x9) (k0_pay8 x9) x12 x11)

theorem off0 : (![0, 0] : Fin 2 → ℕ) = fun _ => 0 := by decide

variable (c : Dev nD) (i : grid0.Coords) (arg1 : Memref sig .tc .vmem S256x512 .f32) (harg1 : arg1.IsWhole) (arg2 : Memref sig .tc .vmem S256x512 .bf16) (harg2 : arg2.IsWhole) (arg3 : Memref sig .tc .vmem S256x512 .bf16) (harg3 : arg3.IsWhole) (arg4 : Memref sig .tc .vmem S256x512 .bf16) (harg4 : arg4.IsWhole) (arg5 : Memref sig .tc .vmem S256x512 .f32) (harg5 : arg5.IsWhole) (arg6 : Memref sig .tc .vmem S256x512 .bf16) (harg6 : arg6.IsWhole) (arg7 : Memref sig .tc .vmem S256x1024 .bf16) (harg7 : arg7.IsWhole) (arg8 : Memref sig .tc .vmem S256x1024 .bf16) (harg8 : arg8.IsWhole) (arg9 : Memref sig .tc .vmem S256x8 .f32) (harg9 : arg9.IsWhole) (arg10 : Memref sig .tc .vmem S256x1024 .f32) (harg10 : arg10.IsWhole) (arg11 : Memref sig .tc .vmem S256x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S1024x5120 .bf16) (harg14 : arg14.IsWhole) (arg15 : Memref sig .tc .vmem S8x1024 .f32) (harg15 : arg15.IsWhole) (arg16 : Memref sig .tc .vmem S256x1024 .f32) (harg16 : arg16.IsWhole) (arg17 : Memref sig .tc .vmem S1x1024 .f32) (harg17 : arg17.IsWhole) (arg18 : Memref sig .tc .vmem S1x1024 .f32) (harg18 : arg18.IsWhole) (arg19 : Memref sig .tc .vmem S1x1024 .f32) (harg19 : arg19.IsWhole)
variable (o16 o17 o18 : Vec F S1x1024 .f32)

theorem out_A_15 (hc0 : cond0_0 i) : out0_A_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 x13 x14 =
    gxb x0 x1 x2 x3 x4 x5 x6 x7 x8 x13 x14 x9 x10 x11 x12 := by
  unfold out0_A_15
  rw [View.read_writes_eq_canon _ _ _ (cover0_A_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 x13 x14)]
  unfold kernelRun0_A
  dsimp only
  try sl_unfold_words
  rw [View.canon_cons_unit_zero (S := S256x1024) off0]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, View.ld_unit_zero (S := S256x512) off0, View.ld_unit_zero (S := S256x1024) off0, View.ld_unit_zero (S := S256x8) off0, View.ld_unit_zero (S := S1x1024) off0, View.ld_unit_zero (S := S8x1024) off0, shapeCast_self]
  rfl

theorem out_B_15 (hc0 : ¬cond0_0 i) : out0_B_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 x13 x14 o16 o17 o18 =
    gxb x0 x1 x2 x3 x4 x5 x6 x7 x8 x13 x14 x9 x10 x11 x12 := by
  unfold out0_B_15
  rw [View.read_writes_eq_canon _ _ _ (cover0_B_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 x13 x14 o16 o17 o18)]
  unfold kernelRun0_B
  dsimp only
  try sl_unfold_words
  rw [View.canon_cons_unit_zero (S := S256x1024) off0]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, View.ld_unit_zero (S := S256x512) off0, View.ld_unit_zero (S := S256x1024) off0, View.ld_unit_zero (S := S256x8) off0, View.ld_unit_zero (S := S1x1024) off0, View.ld_unit_zero (S := S8x1024) off0, shapeCast_self]
  rfl

theorem out_A_16 (hc0 : cond0_0 i) : out0_A_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 x13 x14 =
    k0_pay10 (dhb x0 x1 x2 x3 x4 x5 x6 x7 x8 x13 x14) k0_pay2 := by
  unfold out0_A_16
  rw [View.read_writes_eq_canon _ _ _ (cover0_A_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 x13 x14)]
  unfold kernelRun0_A
  dsimp only
  try sl_unfold_words
  rw [View.canon_cons_unit_zero (S := S1x1024) off0, View.readCov_unit_zero (S := S1x1024) _ off0]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, View.ld_unit_zero (S := S256x512) off0, View.ld_unit_zero (S := S256x1024) off0, View.ld_unit_zero (S := S256x8) off0, View.ld_unit_zero (S := S1x1024) off0, View.ld_unit_zero (S := S8x1024) off0, shapeCast_self]
  rfl

theorem out_B_16 (hc0 : ¬cond0_0 i) : out0_B_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 x13 x14 o16 o17 o18 =
    k0_pay10 (dhb x0 x1 x2 x3 x4 x5 x6 x7 x8 x13 x14) o16 := by
  unfold out0_B_16
  rw [View.read_writes_eq_canon _ _ _ (cover0_B_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 x13 x14 o16 o17 o18)]
  unfold kernelRun0_B
  dsimp only
  try sl_unfold_words
  rw [View.canon_cons_unit_zero (S := S1x1024) off0]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, View.ld_unit_zero (S := S256x512) off0, View.ld_unit_zero (S := S256x1024) off0, View.ld_unit_zero (S := S256x8) off0, View.ld_unit_zero (S := S1x1024) off0, View.ld_unit_zero (S := S8x1024) off0, shapeCast_self]
  rfl

theorem out_A_17 (hc0 : cond0_0 i) : out0_A_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 x13 x14 =
    k0_pay12 (dhb x0 x1 x2 x3 x4 x5 x6 x7 x8 x13 x14) (k0_pay8 x9) x12 k0_pay3 := by
  unfold out0_A_17
  rw [View.read_writes_eq_canon _ _ _ (cover0_A_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 x13 x14)]
  unfold kernelRun0_A
  dsimp only
  try sl_unfold_words
  rw [View.canon_cons_unit_zero (S := S1x1024) off0, View.readCov_unit_zero (S := S1x1024) _ off0]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, View.ld_unit_zero (S := S256x512) off0, View.ld_unit_zero (S := S256x1024) off0, View.ld_unit_zero (S := S256x8) off0, View.ld_unit_zero (S := S1x1024) off0, View.ld_unit_zero (S := S8x1024) off0, shapeCast_self]
  rfl

theorem out_B_17 (hc0 : ¬cond0_0 i) : out0_B_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 x13 x14 o16 o17 o18 =
    k0_pay12 (dhb x0 x1 x2 x3 x4 x5 x6 x7 x8 x13 x14) (k0_pay8 x9) x12 o17 := by
  unfold out0_B_17
  rw [View.read_writes_eq_canon _ _ _ (cover0_B_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 x13 x14 o16 o17 o18)]
  unfold kernelRun0_B
  dsimp only
  try sl_unfold_words
  rw [View.canon_cons_unit_zero (S := S1x1024) off0]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, View.ld_unit_zero (S := S256x512) off0, View.ld_unit_zero (S := S256x1024) off0, View.ld_unit_zero (S := S256x8) off0, View.ld_unit_zero (S := S1x1024) off0, View.ld_unit_zero (S := S8x1024) off0, shapeCast_self]
  rfl

theorem out_A_18 (hc0 : cond0_0 i) : out0_A_18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 x13 x14 =
    k0_pay13 (dhb x0 x1 x2 x3 x4 x5 x6 x7 x8 x13 x14) (k0_pay8 x9) x11 k0_pay4 := by
  unfold out0_A_18
  rw [View.read_writes_eq_canon _ _ _ (cover0_A_18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 x13 x14)]
  unfold kernelRun0_A
  dsimp only
  try sl_unfold_words
  rw [View.canon_cons_unit_zero (S := S1x1024) off0, View.readCov_unit_zero (S := S1x1024) _ off0]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, View.ld_unit_zero (S := S256x512) off0, View.ld_unit_zero (S := S256x1024) off0, View.ld_unit_zero (S := S256x8) off0, View.ld_unit_zero (S := S1x1024) off0, View.ld_unit_zero (S := S8x1024) off0, shapeCast_self]
  rfl

theorem out_B_18 (hc0 : ¬cond0_0 i) : out0_B_18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 x13 x14 o16 o17 o18 =
    k0_pay13 (dhb x0 x1 x2 x3 x4 x5 x6 x7 x8 x13 x14) (k0_pay8 x9) x11 o18 := by
  unfold out0_B_18
  rw [View.read_writes_eq_canon _ _ _ (cover0_B_18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 x13 x14 o16 o17 o18)]
  unfold kernelRun0_B
  dsimp only
  try sl_unfold_words
  rw [View.canon_cons_unit_zero (S := S1x1024) off0]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, View.ld_unit_zero (S := S256x512) off0, View.ld_unit_zero (S := S256x1024) off0, View.ld_unit_zero (S := S256x8) off0, View.ld_unit_zero (S := S1x1024) off0, View.ld_unit_zero (S := S8x1024) off0, shapeCast_self]
  rfl

end Cert.ProjBwdIdeal.Grad

end
-- ==== Proof.ProjGradH.lean ====
/- The gradient of one block of normalised rows is the reference's: its nine products are the product of the joined gradients with the whole weight. -/
module

public import proofs.«01_k».proof.Proof.ProjGradE
public import proofs.«01_k».proof.Proof.Gen.ProjBwdRefIdeal.Read
public import Idealize.ShloMosaic.Lib.Pointwise

@[expose] public section

set_option maxRecDepth 16384

noncomputable section

namespace Cert.ProjBwdIdeal.Grad

open Idealize.ShloMosaic Idealize.ShloMosaic.TcCoe Idealize.ShloMosaic.Tactic
open Cert.ProjBwdIdeal Cert.ProjBwdIdeal.Gen
open Cert.ProjBwdRefIdeal.Read

/-- Row `r` of block `n` of the 8192 rows. -/
def row (n : Fin 32) (r : Fin 256) : Fin 8192 := ⟨n.val * 256 + r.val, by have := n.isLt; omega⟩

/-- A sum over the 5128 columns, part by part. -/
theorem sum_parts (f : ℕ → EReal) : ∑ c : Fin 5128, f c.val =
    (∑ j : Fin 512, f j.val) + (∑ j : Fin 512, f (512 + j.val)) + (∑ j : Fin 512, f (1024 + j.val)) + (∑ j : Fin 8, f (1536 + j.val)) +
    (∑ j : Fin 512, f (1544 + j.val)) + (∑ j : Fin 512, f (2056 + j.val)) + (∑ j : Fin 512, f (2568 + j.val)) +
    (∑ j : Fin 1024, f (3080 + j.val)) + (∑ j : Fin 1024, f (4104 + j.val)) := by
  have e (n : ℕ) (g : ℕ → EReal) : ∑ j : Fin n, g j.val = ∑ j ∈ Finset.range n, g j := (Finset.sum_range g).symm
  rw [e, e 512 f, e 512 (fun j => f (512 + j)), e 512 (fun j => f (1024 + j)), e 8 (fun j => f (1536 + j)), e 512 (fun j => f (1544 + j)),
    e 512 (fun j => f (2056 + j)), e 512 (fun j => f (2568 + j)), e 1024 (fun j => f (3080 + j)), e 1024 (fun j => f (4104 + j))]
  rw [← Finset.sum_range_add, ← Finset.sum_range_add, ← Finset.sum_range_add, ← Finset.sum_range_add, ← Finset.sum_range_add,
    ← Finset.sum_range_add, ← Finset.sum_range_add, ← Finset.sum_range_add]

variable (X0 : FVec Ideal S8192x512 .f32) (X1 X2 : FVec Ideal S8192x512 .bf16) (X3 : FVec Ideal S8192x8 .f32) (X4 : FVec Ideal S8192x512 .bf16)
  (X5 : FVec Ideal S8192x512 .f32) (X6 : FVec Ideal S8192x512 .bf16) (X7 X8 : FVec Ideal S8192x1024 .bf16) (W : FVec Ideal S1024x5128 .f32)

theorem joined_at (s : Fin 8192) (c : Fin 5128) : val_main_v37 (F := Ideal) X0 X1 X2 X3 X4 X5 X6 X7 X8 (ix2 s c) =
    (if h : c.val < 512 then X0 (ix2 s ⟨c.val, h⟩) else
    if h : c.val - 512 < 512 then X1 (ix2 s ⟨c.val - 512, h⟩) else
    if h : c.val - 512 - 512 < 512 then X2 (ix2 s ⟨c.val - 512 - 512, h⟩) else
    if h : c.val - 512 - 512 - 512 < 8 then X3 (ix2 s ⟨c.val - 512 - 512 - 512, h⟩) else
    if h : c.val - 512 - 512 - 512 - 8 < 512 then X4 (ix2 s ⟨c.val - 512 - 512 - 512 - 8, h⟩) else
    if h : c.val - 512 - 512 - 512 - 8 - 512 < 512 then X5 (ix2 s ⟨c.val - 512 - 512 - 512 - 8 - 512, h⟩) else
    if h : c.val - 512 - 512 - 512 - 8 - 512 - 512 < 512 then X6 (ix2 s ⟨c.val - 512 - 512 - 512 - 8 - 512 - 512, h⟩) else
    if h : c.val - 512 - 512 - 512 - 8 - 512 - 512 - 512 < 1024 then X7 (ix2 s ⟨c.val - 512 - 512 - 512 - 8 - 512 - 512 - 512, h⟩) else
    X8 (ix2 s ⟨c.val - 512 - 512 - 512 - 8 - 512 - 512 - 512 - 1024, by have := c.isLt; omega⟩)) := by
  pointwise [val_main_v37, val_main_v0, val_main_v1, val_main_v2, val_main_v3, val_main_v4, val_main_v5]

/-- The joined gradients, part by part. -/
theorem joined (s : Fin 8192) :
    (∀ (j : Fin 512) (h : 0 + j.val < 5128), val_main_v37 (F := Ideal) X0 X1 X2 X3 X4 X5 X6 X7 X8 (ix2 s ⟨0 + j.val, h⟩) = X0 (ix2 s j)) ∧
    (∀ (j : Fin 512) (h : 512 + j.val < 5128), val_main_v37 (F := Ideal) X0 X1 X2 X3 X4 X5 X6 X7 X8 (ix2 s ⟨512 + j.val, h⟩) = X1 (ix2 s j)) ∧
    (∀ (j : Fin 512) (h : 1024 + j.val < 5128), val_main_v37 (F := Ideal) X0 X1 X2 X3 X4 X5 X6 X7 X8 (ix2 s ⟨1024 + j.val, h⟩) = X2 (ix2 s j)) ∧
    (∀ (j : Fin 8) (h : 1536 + j.val < 5128), val_main_v37 (F := Ideal) X0 X1 X2 X3 X4 X5 X6 X7 X8 (ix2 s ⟨1536 + j.val, h⟩) = X3 (ix2 s j)) ∧
    (∀ (j : Fin 512) (h : 1544 + j.val < 5128), val_main_v37 (F := Ideal) X0 X1 X2 X3 X4 X5 X6 X7 X8 (ix2 s ⟨1544 + j.val, h⟩) = X4 (ix2 s j)) ∧
    (∀ (j : Fin 512) (h : 2056 + j.val < 5128), val_main_v37 (F := Ideal) X0 X1 X2 X3 X4 X5 X6 X7 X8 (ix2 s ⟨2056 + j.val, h⟩) = X5 (ix2 s j)) ∧
    (∀ (j : Fin 512) (h : 2568 + j.val < 5128), val_main_v37 (F := Ideal) X0 X1 X2 X3 X4 X5 X6 X7 X8 (ix2 s ⟨2568 + j.val, h⟩) = X6 (ix2 s j)) ∧
    (∀ (j : Fin 1024) (h : 3080 + j.val < 5128), val_main_v37 (F := Ideal) X0 X1 X2 X3 X4 X5 X6 X7 X8 (ix2 s ⟨3080 + j.val, h⟩) = X7 (ix2 s j)) ∧
    (∀ (j : Fin 1024) (h : 4104 + j.val < 5128), val_main_v37 (F := Ideal) X0 X1 X2 X3 X4 X5 X6 X7 X8 (ix2 s ⟨4104 + j.val, h⟩) = X8 (ix2 s j)) :=
  ⟨fun j h => (joined_at X0 X1 X2 X3 X4 X5 X6 X7 X8 s _).trans (by have hj := j.isLt; rw [dif_pos (by dsimp only; omega)]; exact congrArg (fun i => X0 (ix2 s i)) (Fin.ext (by dsimp only; omega))),
    fun j h => (joined_at X0 X1 X2 X3 X4 X5 X6 X7 X8 s _).trans (by have hj := j.isLt; rw [dif_neg (by dsimp only; omega), dif_pos (by dsimp only; omega)]; exact congrArg (fun i => X1 (ix2 s i)) (Fin.ext (by dsimp only; omega))),
    fun j h => (joined_at X0 X1 X2 X3 X4 X5 X6 X7 X8 s _).trans (by have hj := j.isLt; rw [dif_neg (by dsimp only; omega), dif_neg (by dsimp only; omega), dif_pos (by dsimp only; omega)]; exact congrArg (fun i => X2 (ix2 s i)) (Fin.ext (by dsimp only; omega))),
    fun j h => (joined_at X0 X1 X2 X3 X4 X5 X6 X7 X8 s _).trans (by have hj := j.isLt; rw [dif_neg (by dsimp only; omega), dif_neg (by dsimp only; omega), dif_neg (by dsimp only; omega), dif_pos (by dsimp only; omega)]; exact congrArg (fun i => X3 (ix2 s i)) (Fin.ext (by dsimp only; omega))),
    fun j h => (joined_at X0 X1 X2 X3 X4 X5 X6 X7 X8 s _).trans (by have hj := j.isLt; rw [dif_neg (by dsimp only; omega), dif_neg (by dsimp only; omega), dif_neg (by dsimp only; omega), dif_neg (by dsimp only; omega), dif_pos (by dsimp only; omega)]; exact congrArg (fun i => X4 (ix2 s i)) (Fin.ext (by dsimp only; omega))),
    fun j h => (joined_at X0 X1 X2 X3 X4 X5 X6 X7 X8 s _).trans (by have hj := j.isLt; rw [dif_neg (by dsimp only; omega), dif_neg (by dsimp only; omega), dif_neg (by dsimp only; omega), dif_neg (by dsimp only; omega), dif_neg (by dsimp only; omega), dif_pos (by dsimp only; omega)]; exact congrArg (fun i => X5 (ix2 s i)) (Fin.ext (by dsimp only; omega))),
    fun j h => (joined_at X0 X1 X2 X3 X4 X5 X6 X7 X8 s _).trans (by have hj := j.isLt; rw [dif_neg (by dsimp only; omega), dif_neg (by dsimp only; omega), dif_neg (by dsimp only; omega), dif_neg (by dsimp only; omega), dif_neg (by dsimp only; omega), dif_neg (by dsimp only; omega), dif_pos (by dsimp only; omega)]; exact congrArg (fun i => X6 (ix2 s i)) (Fin.ext (by dsimp only; omega))),
    fun j h => (joined_at X0 X1 X2 X3 X4 X5 X6 X7 X8 s _).trans (by have hj := j.isLt; rw [dif_neg (by dsimp only; omega), dif_neg (by dsimp only; omega), dif_neg (by dsimp only; omega), dif_neg (by dsimp only; omega), dif_neg (by dsimp only; omega), dif_neg (by dsimp only; omega), dif_neg (by dsimp only; omega), dif_pos (by dsimp only; omega)]; exact congrArg (fun i => X7 (ix2 s i)) (Fin.ext (by dsimp only; omega))),
    fun j h => (joined_at X0 X1 X2 X3 X4 X5 X6 X7 X8 s _).trans (by have hj := j.isLt; rw [dif_neg (by dsimp only; omega), dif_neg (by dsimp only; omega), dif_neg (by dsimp only; omega), dif_neg (by dsimp only; omega), dif_neg (by dsimp only; omega), dif_neg (by dsimp only; omega), dif_neg (by dsimp only; omega), dif_neg (by dsimp only; omega)]; exact congrArg (fun i => X8 (ix2 s i)) (Fin.ext (by dsimp only; omega)))⟩

variable (n : Fin 32) (x0 : FVec Ideal S256x512 .f32) (x1 x2 x3 : FVec Ideal S256x512 .bf16) (x4 : FVec Ideal S256x512 .f32) (x5 : FVec Ideal S256x512 .bf16)
  (x6 x7 : FVec Ideal S256x1024 .bf16) (x8 : FVec Ideal S256x8 .f32) (x13 : FVec Ideal S1024x5120 .bf16) (x14 : FVec Ideal S8x1024 .f32)

theorem dh_at (h0 : ∀ (r : Fin 256) (j : Fin 512), x0 (ix2 r j) = X0 (ix2 (row n r) j))
    (h1 : ∀ (r : Fin 256) (j : Fin 512), x1 (ix2 r j) = X1 (ix2 (row n r) j))
    (h2 : ∀ (r : Fin 256) (j : Fin 512), x2 (ix2 r j) = X2 (ix2 (row n r) j))
    (h3 : ∀ (r : Fin 256) (j : Fin 8), x8 (ix2 r j) = X3 (ix2 (row n r) j))
    (h4 : ∀ (r : Fin 256) (j : Fin 512), x3 (ix2 r j) = X4 (ix2 (row n r) j))
    (h5 : ∀ (r : Fin 256) (j : Fin 512), x4 (ix2 r j) = X5 (ix2 (row n r) j))
    (h6 : ∀ (r : Fin 256) (j : Fin 512), x5 (ix2 r j) = X6 (ix2 (row n r) j))
    (h7 : ∀ (r : Fin 256) (j : Fin 1024), x6 (ix2 r j) = X7 (ix2 (row n r) j))
    (h8 : ∀ (r : Fin 256) (j : Fin 1024), x7 (ix2 r j) = X8 (ix2 (row n r) j))
    (hw : ∀ (k : Fin 1024) (a b : ℕ) (ha : a < 5120) (hb : b < 5128), (a < 1536 ∧ b = a ∨ 1536 ≤ a ∧ b = a + 8) → x13 (ix2 k ⟨a, ha⟩) = W (ix2 k ⟨b, hb⟩))
    (hg : ∀ (k : Fin 1024) (l : Fin 8), x14 (ix2 l k) = W (ix2 k ⟨1536 + l.val, by have := l.isLt; omega⟩))
    (r : Fin 256) (k : Fin 1024) :
    dhb (F := Ideal) x0 x1 x2 x3 x4 x5 x6 x7 x8 x13 x14 (ix2 r k) = val_main_v38 (F := Ideal) X0 X1 X2 X3 X4 X5 X6 X7 X8 W (ix2 (row n r) k) := by
  have J := joined X0 X1 X2 X3 X4 X5 X6 X7 X8 (row n r)
  let f (c : ℕ) : EReal := if h : c < 5128 then val_main_v37 (F := Ideal) X0 X1 X2 X3 X4 X5 X6 X7 X8 (ix2 (row n r) ⟨c, h⟩) * W (ix2 k ⟨c, h⟩) else 0
  have hf (c : ℕ) (h : c < 5128) : f c = val_main_v37 (F := Ideal) X0 X1 X2 X3 X4 X5 X6 X7 X8 (ix2 (row n r) ⟨c, h⟩) * W (ix2 k ⟨c, h⟩) := dif_pos h
  pointwise [dhb, k0_pay6, k0_pay5, val_main_v38]
  refine Eq.trans ?_ (Finset.sum_congr rfl fun x _ => hf x.val x.isLt)
  rw [sum_parts f]
  have e (a b c d e f g h i : EReal) : a + b + c + e + f + g + h + i + d = a + b + c + d + e + f + g + h + i := by abel
  refine (e _ _ _ _ _ _ _ _ _).trans ?_
  rw [show (∑ j : Fin 512, f j.val) = ∑ j : Fin 512, f (0 + j.val) from Finset.sum_congr rfl fun j _ => by rw [Nat.zero_add]]
  exact (congrArg₂ (· + ·)
    (congrArg₂ (· + ·)
    (congrArg₂ (· + ·)
    (congrArg₂ (· + ·)
    (congrArg₂ (· + ·)
    (congrArg₂ (· + ·)
    (congrArg₂ (· + ·)
    (congrArg₂ (· + ·)
    (Finset.sum_congr rfl fun x _ => (congrArg₂ (· * ·) ((h0 r x).trans (J.1 x (by have := x.isLt; omega)).symm) (hw k _ _ _ _ (by omega))).trans (hf (0 + x.val) (by have := x.isLt; omega)).symm)
    (Finset.sum_congr rfl fun x _ => (congrArg₂ (· * ·) ((h1 r x).trans (J.2.1 x (by have := x.isLt; omega)).symm) (hw k _ _ _ _ (by omega))).trans (hf (512 + x.val) (by have := x.isLt; omega)).symm))
    (Finset.sum_congr rfl fun x _ => (congrArg₂ (· * ·) ((h2 r x).trans (J.2.2.1 x (by have := x.isLt; omega)).symm) (hw k _ _ _ _ (by omega))).trans (hf (1024 + x.val) (by have := x.isLt; omega)).symm))
    (Finset.sum_congr rfl fun x _ => (congrArg₂ (· * ·) ((h3 r x).trans (J.2.2.2.1 x (by have := x.isLt; omega)).symm) (hg k x)).trans (hf (1536 + x.val) (by have := x.isLt; omega)).symm))
    (Finset.sum_congr rfl fun x _ => (congrArg₂ (· * ·) ((h4 r x).trans (J.2.2.2.2.1 x (by have := x.isLt; omega)).symm) (hw k _ _ _ _ (by omega))).trans (hf (1544 + x.val) (by have := x.isLt; omega)).symm))
    (Finset.sum_congr rfl fun x _ => (congrArg₂ (· * ·) ((h5 r x).trans (J.2.2.2.2.2.1 x (by have := x.isLt; omega)).symm) (hw k _ _ _ _ (by omega))).trans (hf (2056 + x.val) (by have := x.isLt; omega)).symm))
    (Finset.sum_congr rfl fun x _ => (congrArg₂ (· * ·) ((h6 r x).trans (J.2.2.2.2.2.2.1 x (by have := x.isLt; omega)).symm) (hw k _ _ _ _ (by omega))).trans (hf (2568 + x.val) (by have := x.isLt; omega)).symm))
    (Finset.sum_congr rfl fun x _ => (congrArg₂ (· * ·) ((h7 r x).trans (J.2.2.2.2.2.2.2.1 x (by have := x.isLt; omega)).symm) (hw k _ _ _ _ (by omega))).trans (hf (3080 + x.val) (by have := x.isLt; omega)).symm))
    (Finset.sum_congr rfl fun x _ => (congrArg₂ (· * ·) ((h8 r x).trans (J.2.2.2.2.2.2.2.2 x (by have := x.isLt; omega)).symm) (hw k _ _ _ _ (by omega))).trans (hf (4104 + x.val) (by have := x.isLt; omega)).symm))

end Cert.ProjBwdIdeal.Grad

end
-- ==== Proof.Model.lean ====
module

public import Mathlib.Data.EReal.Operations
public import Mathlib.Data.EReal.Inv
public import Mathlib.Analysis.SpecialFunctions.Log.Basic
public import Idealize.ShloMosaic.Lib.Claim
public import Idealize.ShloMosaic.Lib.Pointwise

@[expose] public section

set_option maxRecDepth 16384

noncomputable section

namespace Cert.Fox

open Idealize.ShloMosaic

/-! ## The gradient of the forgetting attention over the reals -/

/-- Real arguments: queries, keys, values, the results' gradient, the running log gates, and a row's largest score. -/
structure Inputs where
  q : Fin 8192 → Fin 8 → Fin 64 → ℝ
  k : Fin 8192 → Fin 8 → Fin 64 → ℝ
  v : Fin 8192 → Fin 8 → Fin 64 → ℝ
  g : Fin 8192 → Fin 8 → Fin 64 → ℝ
  f : Fin 8 → Fin 8192 → ℝ
  M : Fin 8 → Fin 8192 → ℝ

namespace Inputs

variable (D : Inputs)

/-- The score of key `c` for query `r`, before the causal mask. -/
def sc (h : Fin 8) (r c : Fin 8192) : ℝ := (∑ d : Fin 64, D.q r h d * D.k c h d) * (1 / 8) + D.f h r - D.f h c

/-- The unnormalised weight of key `c` for query `r`. -/
def ex (h : Fin 8) (r c : Fin 8192) : ℝ := if c ≤ r then Real.exp (D.sc h r c - D.M h r) else 0

/-- A row's normaliser. -/
def L (h : Fin 8) (r : Fin 8192) : ℝ := ∑ c : Fin 8192, D.ex h r c

/-- The attention weight. -/
def pr (h : Fin 8) (r c : Fin 8192) : ℝ := D.ex h r c / D.L h r

/-- A row's log sum of exponentials. -/
def lse (h : Fin 8) (r : Fin 8192) : ℝ := D.M h r + Real.log (D.L h r)

/-- The gradient of the attention weight. -/
def dp (h : Fin 8) (r c : Fin 8192) : ℝ := ∑ d : Fin 64, D.g r h d * D.v c h d

/-- A row's mean of the weights' gradients. -/
def dl (h : Fin 8) (r : Fin 8192) : ℝ := ∑ c : Fin 8192, D.pr h r c * D.dp h r c

/-- The gradient of the score. -/
def ds (h : Fin 8) (r c : Fin 8192) : ℝ := D.pr h r c * (D.dp h r c - D.dl h r)

/-- The gradient of the queries. -/
def gq (r : Fin 8192) (h : Fin 8) (d : Fin 64) : ℝ := (∑ c : Fin 8192, D.ds h r c * D.k c h d) * (1 / 8)

/-- The gradient of the keys. -/
def gk (c : Fin 8192) (h : Fin 8) (d : Fin 64) : ℝ := (∑ r : Fin 8192, D.ds h r c * D.q r h d) * (1 / 8)

/-- The gradient of the values. -/
def gv (c : Fin 8192) (h : Fin 8) (d : Fin 64) : ℝ := ∑ r : Fin 8192, D.pr h r c * D.g r h d

/-- The gradient of the queries' running log gates. -/
def gfq (h : Fin 8) (r : Fin 8192) : ℝ := ∑ c : Fin 8192, D.ds h r c

/-- The gradient of the keys' running log gates, with the sign the step uses. -/
def gfk (h : Fin 8) (c : Fin 8192) : ℝ := ∑ r : Fin 8192, D.ds h r c

theorem ex_nonneg (h : Fin 8) (r c : Fin 8192) : 0 ≤ D.ex h r c := by
  unfold ex; split
  · exact (Real.exp_pos _).le
  · exact le_rfl

theorem L_pos (h : Fin 8) (r : Fin 8192) : 0 < D.L h r :=
  Finset.sum_pos' (fun c _ => D.ex_nonneg h r c) ⟨r, Finset.mem_univ r, by rw [ex, if_pos le_rfl]; exact Real.exp_pos _⟩

/-- Past the diagonal the weight is zero. -/
theorem pr_of_lt {h : Fin 8} {r c : Fin 8192} (hc : r < c) : D.pr h r c = 0 := by
  rw [pr, ex, if_neg (not_le.2 hc), zero_div]

/-- The weight from the row's log sum of exponentials. -/
theorem pr_of_le {h : Fin 8} {r c : Fin 8192} (hc : c ≤ r) : D.pr h r c = Real.exp (D.sc h r c - D.lse h r) := by
  rw [pr, ex, if_pos hc, lse, ← sub_sub, Real.exp_sub (D.sc h r c - D.M h r), Real.exp_log (D.L_pos h r)]

theorem ds_of_lt {h : Fin 8} {r c : Fin 8192} (hc : r < c) : D.ds h r c = 0 := by
  rw [ds, D.pr_of_lt hc, zero_mul]

/-- The score's gradient as the softmax's rule for it is written: through the exponentials and the squared normaliser. -/
theorem ds_eq (h : Fin 8) (r c : Fin 8192) :
    (D.dp h r c / D.L h r + -(∑ c', D.dp h r c' * (1 / (D.L h r * D.L h r)) * D.ex h r c')) * D.ex h r c = D.ds h r c := by
  have hL := (D.L_pos h r).ne'
  have : ∑ c', D.dp h r c' * (1 / (D.L h r * D.L h r)) * D.ex h r c' = D.dl h r / D.L h r := by
    rw [dl, Finset.sum_div]
    refine Finset.sum_congr rfl fun c' _ => ?_
    rw [pr]; field_simp
  rw [this, ds, pr]; field_simp; ring

/-- The row mean of the weights' gradients is the product of the result with its gradient. -/
theorem dl_eq (h : Fin 8) (r : Fin 8192) :
    ∑ d : Fin 64, D.g r h d * (∑ c : Fin 8192, D.v c h d * D.pr h r c) = D.dl h r := by
  simp only [dl, dp, Finset.mul_sum]
  rw [Finset.sum_comm]
  exact Finset.sum_congr rfl fun c _ => Finset.sum_congr rfl fun d _ => by ring

end Inputs

/-! ## From the extended reals to the reals -/

theorem coe_sum {ι : Type*} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

theorem div_real {x y : ℝ} (hy : y ≠ 0) : Ideal.div ((x : ℝ) : EReal) ((y : ℝ) : EReal) = ((x / y : ℝ) : EReal) := by
  rw [Ideal.div_coe hy, ← EReal.coe_mul, mul_one_div]

theorem log_real {x : ℝ} (hx : 0 < x) : Ideal.log ((x : ℝ) : EReal) = ((Real.log x : ℝ) : EReal) := by
  rw [Ideal.log_coe, if_neg (not_le.2 hx)]

/-- The largest of finitely many values, none of them `+∞` and one of them real, is real. -/
theorem fold_max_real {n : ℕ} (f : Fin n → EReal) (i : Fin n) (hi : f i ≠ ⊥) (hf : ∀ j, f j ≠ ⊤) :
    ∃ M : ℝ, Finset.univ.fold max (⊥ : EReal) f = (M : EReal) := by
  refine ⟨(Finset.univ.fold max (⊥ : EReal) f).toReal, (EReal.coe_toReal (ne_of_lt ?_) (ne_of_gt ?_)).symm⟩
  · exact (Finset.fold_max_lt ⊤).2 ⟨bot_lt_top, fun j _ => lt_top_iff_ne_top.2 (hf j)⟩
  · exact (Finset.lt_fold_max ⊥).2 (Or.inr ⟨i, Finset.mem_univ i, bot_lt_iff_ne_bot.2 hi⟩)

/-- A number whose absolute value is below `+∞` is real. -/
theorem real_of_abs_lt {x : EReal} (h : max x (-x) < ⊤) : x = ((x.toReal : ℝ) : EReal) := by
  refine (EReal.coe_toReal ?_ ?_).symm
  · rintro rfl; simp at h
  · rintro rfl; simp at h

end Cert.Fox

end
-- ==== Proof.ProjGradR.lean ====
/- The gradient through the norm and the modulation, on real rows: the reference's terms and the kernel's, and that they are equal. -/
module

public import proofs.«01_k».proof.Proof.ProjGradH
public import proofs.«01_k».proof.Proof.Model

@[expose] public section

set_option maxRecDepth 16384

noncomputable section

namespace Cert.ProjBwdIdeal.Grad

open Idealize.ShloMosaic Idealize.ShloMosaic.TcCoe Idealize.ShloMosaic.Tactic
open Cert.ProjBwdIdeal Cert.ProjBwdIdeal.Gen
open Cert.ProjBwdRefIdeal.Read
open Cert.Fox (coe_sum div_real)

/-- The norm's small constant. -/
def ε : ℝ := 8796093 / 2 ^ 43

theorem c1024 : Ideal.ofBits .f32 0x44800000#32 = ((1024 : ℝ) : EReal) := by
  simp [Ideal.ofBits, Ideal.ieee, -EReal.coe_mul]; norm_num

theorem cε : Ideal.ofBits .f32 0x358637BD#32 = ((ε : ℝ) : EReal) := by
  simp [Ideal.ofBits, Ideal.ieee, -EReal.coe_mul, ε]; norm_num

theorem chalf : Ideal.ofBits .f32 0xBF000000#32 = ((-(1 / 2) : ℝ) : EReal) := by
  simp [Ideal.ofBits, Ideal.ieee, -EReal.coe_mul]; norm_num

variable (x d g sc : Fin 1024 → ℝ)

/-- The mean square of a row, and the constant. -/
def ms : ℝ := (∑ k, x k * x k) / 1024 + ε

/-- The row's reciprocal root mean square. -/
def rs : ℝ := (Real.sqrt (ms x))⁻¹

theorem ms_pos : 0 < ms x := by
  have h : 0 ≤ ∑ k, x k * x k := Finset.sum_nonneg fun k _ => mul_self_nonneg (x k)
  unfold ms ε
  positivity

theorem rs_sq : rs x * rs x = (ms x)⁻¹ := by
  unfold rs
  rw [← mul_inv, Real.mul_self_sqrt (ms_pos x).le]

theorem rsqrt_ms : Ideal.rsqrt ((ms x : ℝ) : EReal) = ((rs x : ℝ) : EReal) := by
  rw [Ideal.rsqrt_coe, if_neg (ms_pos x).le.not_gt, if_neg (ms_pos x).ne']; rfl

/-- What the reference adds to the row's own gradient. -/
def refG (k : Fin 1024) : ℝ :=
  let q := (∑ j, x j * (d j * (1 + sc j) * g j)) * (-(1 / 2) * (rs x / ms x)) / 1024
  d k * (1 + sc k) * g k * rs x + x k * q + q * x k

/-- What the kernel adds to it. -/
def kerG (k : Fin 1024) : ℝ :=
  rs x * (d k * (g k * (1 + sc k)) - x k * rs x * ((∑ j, d j * (g j * (1 + sc j)) * (x j * rs x)) / 1024))

theorem kerG_eq (k : Fin 1024) : kerG x d g sc k = refG x d g sc k := by
  unfold kerG refG
  have h : (∑ j, d j * (g j * (1 + sc j)) * (x j * rs x)) = (∑ j, x j * (d j * (1 + sc j) * g j)) * rs x := by
    rw [Finset.sum_mul]
    exact Finset.sum_congr rfl fun j _ => by ring
  have e := rs_sq x
  rw [h, div_eq_mul_inv (rs x) (ms x), ← e]
  ring

section ref
variable (X0 : FVec Ideal S8192x512 .f32) (X1 X2 : FVec Ideal S8192x512 .bf16) (X3 : FVec Ideal S8192x8 .f32) (X4 : FVec Ideal S8192x512 .bf16)
  (X5 : FVec Ideal S8192x512 .f32) (X6 : FVec Ideal S8192x512 .bf16) (X7 X8 : FVec Ideal S8192x1024 .bf16) (W : FVec Ideal S1024x5128 .f32)
  (X9 X10 : FVec Ideal S8192x1024 .f32) (X12 X13 : FVec Ideal S1x1024 .f32) (s : Fin 8192)
  (hx : ∀ k : Fin 1024, X9 (ix2 s k) = ((x k : ℝ) : EReal))

include hx

theorem ref_ms : val_main_v12 (F := Ideal) X9 (ix2 s 0) = ((ms x : ℝ) : EReal) := by
  pointwise [val_main_v12, val_main_v11, val_main_v10, val_main_v9, val_main_v8, val_main_v7, val_main_v6, val_main_cst, val_main_cst_0, val_main_cst_1]
  simp only [hx, c1024, cε, ← EReal.coe_mul, coe_sum, zero_add]
  rw [div_real (by norm_num), ← EReal.coe_add]; rfl

theorem ref_rs : val_main_v13 (F := Ideal) X9 (ix2 s 0) = ((rs x : ℝ) : EReal) := by
  pointwise [val_main_v13]
  rw [ref_ms x X9 s hx, rsqrt_ms]

theorem ref_xn (k : Fin 1024) : val_main_v18 (F := Ideal) X9 (ix2 s k) = ((x k * rs x : ℝ) : EReal) := by
  pointwise [val_main_v18, val_main_v17]
  rw [ref_rs x X9 s hx, hx, EReal.coe_mul]

variable (hd : ∀ k : Fin 1024, val_main_v38 (F := Ideal) X0 X1 X2 X3 X4 X5 X6 X7 X8 W (ix2 s k) = ((d k : ℝ) : EReal))
  (hs : ∀ k : Fin 1024, X12 (ix2 0 k) = ((sc k : ℝ) : EReal)) (hg : ∀ k : Fin 1024, X13 (ix2 0 k) = ((g k : ℝ) : EReal))
include hd hs hg

theorem ref_dy (k : Fin 1024) : val_main_v50 (F := Ideal) X0 X1 X2 X3 X4 X5 X6 X7 X8 X12 X13 W (ix2 s k) = ((d k * (1 + sc k) * g k : ℝ) : EReal) := by
  pointwise [val_main_v50, val_main_v49, val_main_v45, val_main_v44, val_main_v22, val_main_v21, val_main_cst_3]
  rw [hd, hs, hg, ← EReal.coe_one]
  simp only [← EReal.coe_mul, ← EReal.coe_add]

theorem ref_gx (k : Fin 1024) : val_main_v65 (F := Ideal) X0 X1 X2 X3 X4 X5 X6 X7 X8 X9 X10 X12 X13 W (ix2 s k) = X10 (ix2 s k) + ((refG x d g sc k : ℝ) : EReal) := by
  pointwise [val_main_v65, val_main_v64, val_main_v63, val_main_v62, val_main_v61, val_main_v60, val_main_v59, val_main_v58, val_main_v57, val_main_v56, val_main_v55, val_main_v54, val_main_v53, val_main_v52, val_main_v51, val_main_v16, val_main_v15, val_main_v14, val_main_cst_2, val_main_cst_7, val_main_cst_8, val_main_cst_9]
  have e (u : Fin 1) : u = 0 := Subsingleton.elim u 0
  simp only [e, ref_ms x X9 s hx, ref_rs x X9 s hx, ref_dy x d g sc X0 X1 X2 X3 X4 X5 X6 X7 X8 W X9 X12 X13 s hx hd hs hg, hx, chalf, c1024, Finset.univ_unique, Finset.sum_singleton,
    div_real (ms_pos x).ne', div_real (show (1024 : ℝ) ≠ 0 by norm_num), ← EReal.coe_mul, coe_sum]
  simp only [add_assoc, ← EReal.coe_add]
  simp only [refG, add_assoc]

/-- A term of the gradient of `scale`. -/
theorem ref_dsc (k : Fin 1024) : val_main_v20 (F := Ideal) X9 X13 (ix2 s k) * val_main_v38 (F := Ideal) X0 X1 X2 X3 X4 X5 X6 X7 X8 W (ix2 s k)
    = ((d k * (x k * rs x) * g k : ℝ) : EReal) := by
  have e : val_main_v20 (F := Ideal) X9 X13 (ix2 s k) = val_main_v18 (F := Ideal) X9 (ix2 s k) * X13 (ix2 0 k) := by
    pointwise [val_main_v20, val_main_v19]
  rw [e, ref_xn x X9 s hx, hg, hd, ← EReal.coe_mul, ← EReal.coe_mul]
  congr 1; ring

/-- A term of the gradient of `g_norm`. -/
theorem ref_dgn (k : Fin 1024) : val_main_v18 (F := Ideal) X9 (ix2 s k) * val_main_v45 (F := Ideal) X0 X1 X2 X3 X4 X5 X6 X7 X8 X12 W (ix2 s k)
    = ((d k * (x k * rs x) * (1 + sc k) : ℝ) : EReal) := by
  have e : val_main_v45 (F := Ideal) X0 X1 X2 X3 X4 X5 X6 X7 X8 X12 W (ix2 s k)
      = val_main_v38 (F := Ideal) X0 X1 X2 X3 X4 X5 X6 X7 X8 W (ix2 s k) * (1 + X12 (ix2 0 k)) := by
    pointwise [val_main_v45, val_main_v44, val_main_v22, val_main_v21, val_main_cst_3]
  rw [e, ref_xn x X9 s hx, hs, hd, ← EReal.coe_one, ← EReal.coe_add, ← EReal.coe_mul, ← EReal.coe_mul]
  congr 1; ring

end ref

section kernel
variable (xb dx2 dh : FVec Ideal S256x1024 .f32) (scb gnb : FVec Ideal S1x1024 .f32) (r : Fin 256)
  (hx : ∀ k : Fin 1024, xb (ix2 r k) = ((x k : ℝ) : EReal))
include hx

theorem ker_rs : k0_pay7 (F := Ideal) xb (ix2 r 0) = ((rs x : ℝ) : EReal) := by
  rw [← rsqrt_ms]
  pointwise [k0_pay7]
  simp only [hx, c1024, cε, ← EReal.coe_mul, coe_sum, zero_add]
  rw [div_real (by norm_num), ← EReal.coe_add]; rfl

theorem ker_xn (k : Fin 1024) : k0_pay8 (F := Ideal) xb (ix2 r k) = ((x k * rs x : ℝ) : EReal) := by
  have e : k0_pay8 (F := Ideal) xb (ix2 r k) = xb (ix2 r k) * k0_pay7 (F := Ideal) xb (ix2 r 0) := by
    pointwise [k0_pay8]
  rw [e, ker_rs x xb r hx, hx, EReal.coe_mul]

variable (hd : ∀ k : Fin 1024, dh (ix2 r k) = ((d k : ℝ) : EReal))
include hd

variable (hs : ∀ k : Fin 1024, scb (ix2 0 k) = ((sc k : ℝ) : EReal)) (hg : ∀ k : Fin 1024, gnb (ix2 0 k) = ((g k : ℝ) : EReal))
include hs hg

theorem ker_gx (k : Fin 1024) : k0_pay1 (F := Ideal) dx2 (k0_pay14 dh (k0_pay7 xb) (k0_pay8 xb) gnb scb) (ix2 r k) = dx2 (ix2 r k) + ((kerG x d g sc k : ℝ) : EReal) := by
  pointwise [k0_pay1, k0_pay14, k0_pay9]
  simp only [ker_rs x xb r hx, ker_xn x xb r hx, hx, hd, hs, hg, c1024, ← EReal.coe_one, ← EReal.coe_add, ← EReal.coe_mul, coe_sum,
    div_real (show (1024 : ℝ) ≠ 0 by norm_num), ← EReal.coe_sub]
  rfl

end kernel

end Cert.ProjBwdIdeal.Grad

end
-- ==== Proof.ProjGradP.lean ====
/- Under the precondition every argument the gradients multiply by is real, and so is every entry of `dh`. -/
module

public import proofs.«01_k».proof.Proof.ProjGradR
public import proofs.«01_k».proof.Proof.Gen.Pre_real
public import Idealize.ShloMosaic.Lib.ReduceAll

@[expose] public section

set_option maxRecDepth 16384

noncomputable section

namespace Cert.ProjBwdIdeal.Grad

open Idealize.ShloMosaic Idealize.ShloMosaic.TcCoe Idealize.ShloMosaic.Tactic
open Cert.ProjBwdRefIdeal.Read
open Cert.Fox (coe_sum real_of_abs_lt)

theorem and_left {a b : BitVec 1} (h : IntOp.andi a b = 1#1) : a = 1#1 ∧ b = 1#1 := by
  revert a b; decide

theorem pinf : Ideal.ofBits .f32 0x7F800000#32 = (⊤ : EReal) := by
  simp [Ideal.ofBits, Ideal.ieee]

/-- Where the test `all (|x| < ∞)` holds, every entry is real. -/
theorem real_of_all {S U : Shape} [Subsingleton U.Idx] {axes : List (Fin S.rank)} (x : FVec Ideal S .f32) (init : IVec U 1) (hr : S.ReducesTo axes U) (hu : 0 < U.numel)
    (dims : Fin U.rank → Fin S.rank) (hb : U.BroadcastsInDim S dims) (j : U.Idx)
    (h : Host.reduce IntOp.andi (cmpf .olt (Host.absf x) (broadcastInDim S dims hb (constant U .f32 0x7F800000#32))) init hr hu j = 1#1) (i : S.Idx) :
    ∃ y : ℝ, x i = (y : EReal) := by
  have h := Host.reduce_andi_all _ _ _ _ j h i
  have h : BitVec.ofBool (decide (FloatOps.absf (F := Ideal) (φ := .f32) (x i) < Ideal.ofBits .f32 0x7F800000#32)) = 1#1 := h
  refine ⟨_, real_of_abs_lt ?_⟩
  rw [pinf] at h
  by_contra hn
  have : decide (FloatOps.absf (F := Ideal) (φ := .f32) (x i) < (⊤ : EReal)) = false := decide_eq_false hn
  rw [this] at h
  exact absurd h (by decide)

variable (X0 : FVec Ideal S8192x512 .f32) (X1 X2 : FVec Ideal S8192x512 .bf16) (X3 : FVec Ideal S8192x8 .f32) (X4 : FVec Ideal S8192x512 .bf16)
  (X5 : FVec Ideal S8192x512 .f32) (X6 : FVec Ideal S8192x512 .bf16) (X7 X8 : FVec Ideal S8192x1024 .bf16)
  (X9 X10 : FVec Ideal S8192x1024 .f32) (X11 X12 X13 : FVec Ideal S1x1024 .f32) (W : FVec Ideal S1024x5128 .f32)

/-- Every argument that the gradients multiply by is real. -/
structure Reals : Prop where
  h0 : ∀ i, ∃ y : ℝ, X0 i = (y : EReal)
  h1 : ∀ i, ∃ y : ℝ, X1 i = (y : EReal)
  h2 : ∀ i, ∃ y : ℝ, X2 i = (y : EReal)
  h3 : ∀ i, ∃ y : ℝ, X3 i = (y : EReal)
  h4 : ∀ i, ∃ y : ℝ, X4 i = (y : EReal)
  h5 : ∀ i, ∃ y : ℝ, X5 i = (y : EReal)
  h6 : ∀ i, ∃ y : ℝ, X6 i = (y : EReal)
  h7 : ∀ i, ∃ y : ℝ, X7 i = (y : EReal)
  h8 : ∀ i, ∃ y : ℝ, X8 i = (y : EReal)
  h9 : ∀ i, ∃ y : ℝ, X9 i = (y : EReal)
  h12 : ∀ i, ∃ y : ℝ, X12 i = (y : EReal)
  h13 : ∀ i, ∃ y : ℝ, X13 i = (y : EReal)
  hW : ∀ i, ∃ y : ℝ, W i = (y : EReal)

theorem reals [Cert.Pre_real.Facts] (h : Cert.Pre_real.fn (F := Ideal) X0 X1 X2 X3 X4 X5 X6 X7 X8 X9 X10 X11 X12 X13 W = fun _ => 1#1) :
    Reals X0 X1 X2 X3 X4 X5 X6 X7 X8 X9 X12 X13 W := by
  have h := congrFun h (Shape.Idx.first (by decide))
  obtain ⟨h, hW⟩ := and_left h
  obtain ⟨h, h13⟩ := and_left h
  obtain ⟨h, h12⟩ := and_left h
  obtain ⟨h, h9⟩ := and_left h
  obtain ⟨h, h8⟩ := and_left h
  obtain ⟨h, h7⟩ := and_left h
  obtain ⟨h, h6⟩ := and_left h
  obtain ⟨h, h5⟩ := and_left h
  obtain ⟨h, h4⟩ := and_left h
  obtain ⟨h, h3⟩ := and_left h
  obtain ⟨h, h2⟩ := and_left h
  obtain ⟨h0, h1⟩ := and_left h
  exact ⟨real_of_all X0 _ _ _ _ _ _ h0, real_of_all (extf .f32 X1 _) _ _ _ _ _ _ h1, real_of_all (extf .f32 X2 _) _ _ _ _ _ _ h2, real_of_all X3 _ _ _ _ _ _ h3,
    real_of_all (extf .f32 X4 _) _ _ _ _ _ _ h4, real_of_all X5 _ _ _ _ _ _ h5, real_of_all (extf .f32 X6 _) _ _ _ _ _ _ h6, real_of_all (extf .f32 X7 _) _ _ _ _ _ _ h7,
    real_of_all (extf .f32 X8 _) _ _ _ _ _ _ h8, real_of_all X9 _ _ _ _ _ _ h9, real_of_all X12 _ _ _ _ _ _ h12, real_of_all X13 _ _ _ _ _ _ h13, real_of_all W _ _ _ _ _ _ hW⟩

/-- So is every entry of the gradient of the projection's input. -/
theorem dh_real (R : Reals X0 X1 X2 X3 X4 X5 X6 X7 X8 X9 X12 X13 W) (s : Fin 8192) (k : Fin 1024) :
    ∃ y : ℝ, val_main_v38 (F := Ideal) X0 X1 X2 X3 X4 X5 X6 X7 X8 W (ix2 s k) = (y : EReal) := by
  have hv (c : Fin 5128) : ∃ y : ℝ, val_main_v37 (F := Ideal) X0 X1 X2 X3 X4 X5 X6 X7 X8 (ix2 s c) = (y : EReal) := by
    rw [joined_at]
    split_ifs
    exacts [R.h0 _, R.h1 _, R.h2 _, R.h3 _, R.h4 _, R.h5 _, R.h6 _, R.h7 _, R.h8 _]
  choose v hv using hv
  choose w hw using R.hW
  refine ⟨∑ c, v c * w (ix2 k c), ?_⟩
  pointwise [val_main_v38]
  simp only [hv, hw, ← EReal.coe_mul, coe_sum]

end Cert.ProjBwdIdeal.Grad

end
-- ==== Proof.ProjGradV.lean ====
/- What each window of the projection's backward kernel holds at a point: rows of the arguments, the two vectors, the two parts of the weight. -/
module

public import proofs.«01_k».proof.Proof.ProjGradP
public import Idealize.ShloMosaic.Lib.Claim
public import Idealize.ShloMosaic.Lib.StableHlo.RunRead

@[expose] public section

set_option maxRecDepth 16384

noncomputable section

namespace Cert.ProjBwdIdeal.Grad

open Idealize.ShloMosaic Idealize.ShloMosaic.TcCoe Idealize.ShloMosaic.Tactic
open Cert.ProjBwdIdeal Cert.ProjBwdIdeal.Gen Cert.ProjBwdIdeal.Value
open Cert.ProjBwdRefIdeal.Read

variable (m : (ℓ : Loc nD τ sig) → Buf (Elt Ideal) ℓ) (c : Dev nD)

/-! The arguments on chip `c`. -/

abbrev a0 : FVec Ideal S8192x512 .f32 := m ((c.tc : Thread nD τ).loc main_arg0)
abbrev a1 : FVec Ideal S8192x512 .bf16 := m ((c.tc : Thread nD τ).loc main_arg1)
abbrev a2 : FVec Ideal S8192x512 .bf16 := m ((c.tc : Thread nD τ).loc main_arg2)
abbrev a3 : FVec Ideal S8192x8 .f32 := m ((c.tc : Thread nD τ).loc main_arg3)
abbrev a4 : FVec Ideal S8192x512 .bf16 := m ((c.tc : Thread nD τ).loc main_arg4)
abbrev a5 : FVec Ideal S8192x512 .f32 := m ((c.tc : Thread nD τ).loc main_arg5)
abbrev a6 : FVec Ideal S8192x512 .bf16 := m ((c.tc : Thread nD τ).loc main_arg6)
abbrev a7 : FVec Ideal S8192x1024 .bf16 := m ((c.tc : Thread nD τ).loc main_arg7)
abbrev a8 : FVec Ideal S8192x1024 .bf16 := m ((c.tc : Thread nD τ).loc main_arg8)
abbrev a9 : FVec Ideal S8192x1024 .f32 := m ((c.tc : Thread nD τ).loc main_arg9)
abbrev a10 : FVec Ideal S8192x1024 .f32 := m ((c.tc : Thread nD τ).loc main_arg10)
abbrev a11 : FVec Ideal S1x1024 .f32 := m ((c.tc : Thread nD τ).loc main_arg11)
abbrev a12 : FVec Ideal S1x1024 .f32 := m ((c.tc : Thread nD τ).loc main_arg12)
abbrev a13 : FVec Ideal S1x1024 .f32 := m ((c.tc : Thread nD τ).loc main_arg13)
abbrev a14 : FVec Ideal S1024x5128 .f32 := m ((c.tc : Thread nD τ).loc main_arg14)

/-- The host's weight without the eight columns of the forget gate. -/
def hMain (W : FVec Ideal S1024x5128 .f32) : FVec Ideal S1024x5120 .bf16 :=
  concatenate S1024x5120 1 [⟨S1024x1536, extractStridedSlice S1024x1536 ![0, 0] (truncf .bf16 W bitsLt_bf16_f32) slices_S1024x5128_S1024x1536_0_0⟩,
    ⟨S1024x3584, extractStridedSlice S1024x3584 ![0, 1544] (truncf .bf16 W bitsLt_bf16_f32) slices_S1024x5128_S1024x3584_0_1544⟩] concatenates_S1024x1536_S1024x3584_S1024x5120_d1

/-- The host's weight of the forget gate, transposed. -/
def hGate (W : FVec Ideal S1024x5128 .f32) : FVec Ideal S8x1024 .f32 :=
  transpose S8x1024 [1, 0] (extf .f32 (extractStridedSlice S1024x8 ![0, 1536] (truncf .bf16 W bitsLt_bf16_f32) slices_S1024x5128_S1024x8_0_1536) bitsLt_bf16_f32) transposes_S1024x8_S8x1024_1_0

theorem V_3 : V m c main_v3 = hMain (a14 m c) := by
  simp only [V, hostOps0]
  after_reads_simp
  rfl

theorem V_6 : V m c main_v6 = hGate (a14 m c) := by
  simp only [V, hostOps0]
  after_reads_simp
  rfl

theorem hMain_at (W : FVec Ideal S1024x5128 .f32) (k : Fin 1024) (a b : ℕ) (ha : a < 5120) (hb : b < 5128) (h : a < 1536 ∧ b = a ∨ 1536 ≤ a ∧ b = a + 8) :
    hMain W (ix2 k ⟨a, ha⟩) = W (ix2 k ⟨b, hb⟩) := by
  rcases h with ⟨h, rfl⟩ | ⟨h, rfl⟩
  · pointwise [hMain]
    rw [dif_pos h]
  · pointwise [hMain]
    rw [dif_neg (by omega)]
    congr 2
    apply Fin.ext
    show 1544 + (a - 1536) = a + 8
    omega

theorem hGate_at (W : FVec Ideal S1024x5128 .f32) (k : Fin 1024) (l : Fin 8) :
    hGate W (ix2 l k) = W (ix2 k ⟨1536 + l.val, by have := l.isLt; omega⟩) := by
  pointwise [hGate]

/-- The block of rows point `t` works on. -/
def nn (t : Fin cfg0.N) : Fin 32 := ⟨t.val, t.isLt⟩

theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] ∧ win0_8.index t = ![t.val, 0] ∧ win0_9.index t = ![t.val, 0] ∧ win0_10.index t = ![t.val, 0] ∧ win0_11.index t = ![0, 0] ∧ win0_12.index t = ![0, 0] ∧ win0_13.index t = ![0, 0] ∧ win0_14.index t = ![0, 0] ∧ win0_15.index t = ![t.val, 0] ∧ win0_16.index t = ![0, 0] ∧ win0_17.index t = ![0, 0] ∧ win0_18.index t = ![0, 0] :=
  (by decide +kernel : ∀ t : Fin grid0.N, _)

variable (t : Fin cfg0.N)

theorem rows0 (r : Fin 256) (k : Fin 512) : (show FVec Ideal S256x512 .f32 from iblk m c 0 t) (ix2 r k) = a0 m c (ix2 (row (nn t) r) k) := by
  have h : ∀ A : FVec Ideal S8192x512 .f32, (show FVec Ideal S256x512 .f32 from ((cfg0.win 0).blk t).view.read (Elt Ideal) A) (ix2 r k) = A (ix2 (row (nn t) r) k) := fun A => by
    blk_ext! [idx t, nn, row]
  exact (congrFun (congrArg (((cfg0.win 0).blk t).view.read (Elt Ideal)) (V_main_arg0 m c)) _).trans (h _)

theorem rows1 (r : Fin 256) (k : Fin 512) : (show FVec Ideal S256x512 .bf16 from iblk m c 1 t) (ix2 r k) = a1 m c (ix2 (row (nn t) r) k) := by
  have h : ∀ A : FVec Ideal S8192x512 .bf16, (show FVec Ideal S256x512 .bf16 from ((cfg0.win 1).blk t).view.read (Elt Ideal) A) (ix2 r k) = A (ix2 (row (nn t) r) k) := fun A => by
    blk_ext! [idx t, nn, row]
  exact (congrFun (congrArg (((cfg0.win 1).blk t).view.read (Elt Ideal)) (V_main_arg1 m c)) _).trans (h _)

theorem rows2 (r : Fin 256) (k : Fin 512) : (show FVec Ideal S256x512 .bf16 from iblk m c 2 t) (ix2 r k) = a2 m c (ix2 (row (nn t) r) k) := by
  have h : ∀ A : FVec Ideal S8192x512 .bf16, (show FVec Ideal S256x512 .bf16 from ((cfg0.win 2).blk t).view.read (Elt Ideal) A) (ix2 r k) = A (ix2 (row (nn t) r) k) := fun A => by
    blk_ext! [idx t, nn, row]
  exact (congrFun (congrArg (((cfg0.win 2).blk t).view.read (Elt Ideal)) (V_main_arg2 m c)) _).trans (h _)

theorem rows3 (r : Fin 256) (k : Fin 512) : (show FVec Ideal S256x512 .bf16 from iblk m c 3 t) (ix2 r k) = a4 m c (ix2 (row (nn t) r) k) := by
  have h : ∀ A : FVec Ideal S8192x512 .bf16, (show FVec Ideal S256x512 .bf16 from ((cfg0.win 3).blk t).view.read (Elt Ideal) A) (ix2 r k) = A (ix2 (row (nn t) r) k) := fun A => by
    blk_ext! [idx t, nn, row]
  exact (congrFun (congrArg (((cfg0.win 3).blk t).view.read (Elt Ideal)) (V_main_arg4 m c)) _).trans (h _)

theorem rows4 (r : Fin 256) (k : Fin 512) : (show FVec Ideal S256x512 .f32 from iblk m c 4 t) (ix2 r k) = a5 m c (ix2 (row (nn t) r) k) := by
  have h : ∀ A : FVec Ideal S8192x512 .f32, (show FVec Ideal S256x512 .f32 from ((cfg0.win 4).blk t).view.read (Elt Ideal) A) (ix2 r k) = A (ix2 (row (nn t) r) k) := fun A => by
    blk_ext! [idx t, nn, row]
  exact (congrFun (congrArg (((cfg0.win 4).blk t).view.read (Elt Ideal)) (V_main_arg5 m c)) _).trans (h _)

theorem rows5 (r : Fin 256) (k : Fin 512) : (show FVec Ideal S256x512 .bf16 from iblk m c 5 t) (ix2 r k) = a6 m c (ix2 (row (nn t) r) k) := by
  have h : ∀ A : FVec Ideal S8192x512 .bf16, (show FVec Ideal S256x512 .bf16 from ((cfg0.win 5).blk t).view.read (Elt Ideal) A) (ix2 r k) = A (ix2 (row (nn t) r) k) := fun A => by
    blk_ext! [idx t, nn, row]
  exact (congrFun (congrArg (((cfg0.win 5).blk t).view.read (Elt Ideal)) (V_main_arg6 m c)) _).trans (h _)

theorem rows6 (r : Fin 256) (k : Fin 1024) : (show FVec Ideal S256x1024 .bf16 from iblk m c 6 t) (ix2 r k) = a7 m c (ix2 (row (nn t) r) k) := by
  have h : ∀ A : FVec Ideal S8192x1024 .bf16, (show FVec Ideal S256x1024 .bf16 from ((cfg0.win 6).blk t).view.read (Elt Ideal) A) (ix2 r k) = A (ix2 (row (nn t) r) k) := fun A => by
    blk_ext! [idx t, nn, row]
  exact (congrFun (congrArg (((cfg0.win 6).blk t).view.read (Elt Ideal)) (V_main_arg7 m c)) _).trans (h _)

theorem rows7 (r : Fin 256) (k : Fin 1024) : (show FVec Ideal S256x1024 .bf16 from iblk m c 7 t) (ix2 r k) = a8 m c (ix2 (row (nn t) r) k) := by
  have h : ∀ A : FVec Ideal S8192x1024 .bf16, (show FVec Ideal S256x1024 .bf16 from ((cfg0.win 7).blk t).view.read (Elt Ideal) A) (ix2 r k) = A (ix2 (row (nn t) r) k) := fun A => by
    blk_ext! [idx t, nn, row]
  exact (congrFun (congrArg (((cfg0.win 7).blk t).view.read (Elt Ideal)) (V_main_arg8 m c)) _).trans (h _)

theorem rows8 (r : Fin 256) (k : Fin 8) : (show FVec Ideal S256x8 .f32 from iblk m c 8 t) (ix2 r k) = a3 m c (ix2 (row (nn t) r) k) := by
  have h : ∀ A : FVec Ideal S8192x8 .f32, (show FVec Ideal S256x8 .f32 from ((cfg0.win 8).blk t).view.read (Elt Ideal) A) (ix2 r k) = A (ix2 (row (nn t) r) k) := fun A => by
    blk_ext! [idx t, nn, row]
  exact (congrFun (congrArg (((cfg0.win 8).blk t).view.read (Elt Ideal)) (V_main_arg3 m c)) _).trans (h _)

theorem rows9 (r : Fin 256) (k : Fin 1024) : (show FVec Ideal S256x1024 .f32 from iblk m c 9 t) (ix2 r k) = a9 m c (ix2 (row (nn t) r) k) := by
  have h : ∀ A : FVec Ideal S8192x1024 .f32, (show FVec Ideal S256x1024 .f32 from ((cfg0.win 9).blk t).view.read (Elt Ideal) A) (ix2 r k) = A (ix2 (row (nn t) r) k) := fun A => by
    blk_ext! [idx t, nn, row]
  exact (congrFun (congrArg (((cfg0.win 9).blk t).view.read (Elt Ideal)) (V_main_arg9 m c)) _).trans (h _)

theorem rows10 (r : Fin 256) (k : Fin 1024) : (show FVec Ideal S256x1024 .f32 from iblk m c 10 t) (ix2 r k) = a10 m c (ix2 (row (nn t) r) k) := by
  have h : ∀ A : FVec Ideal S8192x1024 .f32, (show FVec Ideal S256x1024 .f32 from ((cfg0.win 10).blk t).view.read (Elt Ideal) A) (ix2 r k) = A (ix2 (row (nn t) r) k) := fun A => by
    blk_ext! [idx t, nn, row]
  exact (congrFun (congrArg (((cfg0.win 10).blk t).view.read (Elt Ideal)) (V_main_arg10 m c)) _).trans (h _)

theorem whole11 : (show FVec Ideal S1x1024 .f32 from iblk m c 11 t) = a12 m c := by
  have h : ∀ A : FVec Ideal S1x1024 .f32, (show FVec Ideal S1x1024 .f32 from ((cfg0.win 11).blk t).view.read (Elt Ideal) A) = A := fun A => by
    funext y
    blk_ext! [idx t]
  exact (congrArg (((cfg0.win 11).blk t).view.read (Elt Ideal)) (V_main_arg12 m c)).trans (h _)

theorem whole12 : (show FVec Ideal S1x1024 .f32 from iblk m c 12 t) = a13 m c := by
  have h : ∀ A : FVec Ideal S1x1024 .f32, (show FVec Ideal S1x1024 .f32 from ((cfg0.win 12).blk t).view.read (Elt Ideal) A) = A := fun A => by
    funext y
    blk_ext! [idx t]
  exact (congrArg (((cfg0.win 12).blk t).view.read (Elt Ideal)) (V_main_arg13 m c)).trans (h _)

theorem whole13 : (show FVec Ideal S1024x5120 .bf16 from iblk m c 13 t) = hMain (a14 m c) := by
  have h : ∀ A : FVec Ideal S1024x5120 .bf16, (show FVec Ideal S1024x5120 .bf16 from ((cfg0.win 13).blk t).view.read (Elt Ideal) A) = A := fun A => by
    funext y
    blk_ext! [idx t]
  exact (congrArg (((cfg0.win 13).blk t).view.read (Elt Ideal)) (V_3 m c)).trans (h _)

theorem whole14 : (show FVec Ideal S8x1024 .f32 from iblk m c 14 t) = hGate (a14 m c) := by
  have h : ∀ A : FVec Ideal S8x1024 .f32, (show FVec Ideal S8x1024 .f32 from ((cfg0.win 14).blk t).view.read (Elt Ideal) A) = A := fun A => by
    funext y
    blk_ext! [idx t]
  exact (congrArg (((cfg0.win 14).blk t).view.read (Elt Ideal)) (V_6 m c)).trans (h _)

/-- The gradient of the normalised rows of point `t`. -/
def dhp : FVec Ideal S256x1024 .f32 :=
  dhb (F := Ideal) (iblk m c 0 t) (iblk m c 1 t) (iblk m c 2 t) (iblk m c 3 t) (iblk m c 4 t) (iblk m c 5 t) (iblk m c 6 t) (iblk m c 7 t) (iblk m c 8 t) (iblk m c 13 t) (iblk m c 14 t)

/-- The reference's gradient of all of them. -/
def DH : FVec Ideal S8192x1024 .f32 :=
  val_main_v38 (F := Ideal) (a0 m c) (a1 m c) (a2 m c) (a3 m c) (a4 m c) (a5 m c) (a6 m c) (a7 m c) (a8 m c) (a14 m c)

theorem dhp_at (r : Fin 256) (k : Fin 1024) : dhp m c t (ix2 r k) = DH m c (ix2 (row (nn t) r) k) :=
  dh_at (a0 m c) (a1 m c) (a2 m c) (a3 m c) (a4 m c) (a5 m c) (a6 m c) (a7 m c) (a8 m c) (a14 m c) (nn t) (iblk m c 0 t) (iblk m c 1 t) (iblk m c 2 t) (iblk m c 3 t) (iblk m c 4 t) (iblk m c 5 t) (iblk m c 6 t) (iblk m c 7 t) (iblk m c 8 t) (iblk m c 13 t) (iblk m c 14 t)
    (rows0 m c t) (rows1 m c t) (rows2 m c t) (rows8 m c t) (rows3 m c t) (rows4 m c t) (rows5 m c t) (rows6 m c t) (rows7 m c t)
    (fun k a b ha hb h => (congrFun (whole13 m c t) _).trans (hMain_at _ k a b ha hb h)) (fun k l => (congrFun (whole14 m c t) _).trans (hGate_at _ k l)) r k

end Cert.ProjBwdIdeal.Grad

end
-- ==== Proof.ProjGradF.lean ====
/- The four result arrays the projection's backward kernel leaves are the reference's values. -/
module

public import proofs.«01_k».proof.Proof.ProjGradV

@[expose] public section

set_option maxRecDepth 16384

noncomputable section

namespace Cert.ProjBwdIdeal.Grad

open Idealize.ShloMosaic Idealize.ShloMosaic.TcCoe Idealize.ShloMosaic.Tactic
open Cert.ProjBwdIdeal Cert.ProjBwdIdeal.Gen Cert.ProjBwdIdeal.Value
open Cert.ProjBwdRefIdeal.Read
open Cert.Fox (coe_sum)

variable (m : (ℓ : Loc nD τ sig) → Buf (Elt Ideal) ℓ) (c : Dev nD)

theorem pay2_at (j : S1x1024.Idx) : k0_pay2 (F := Ideal) j = (0 : EReal) := by
  pointwise [k0_pay2]

theorem pay3_at (j : S1x1024.Idx) : k0_pay3 (F := Ideal) j = (0 : EReal) := by
  pointwise [k0_pay3]

theorem pay4_at (j : S1x1024.Idx) : k0_pay4 (F := Ideal) j = (0 : EReal) := by
  pointwise [k0_pay4]

theorem idx_row (j : S1x1024.Idx) : ∃ k : Fin 1024, j = ix2 0 k :=
  ⟨j 1, by funext a; fin_cases a; exacts [Subsingleton.elim (α := Fin 1) _ _, rfl]⟩

theorem pay10_at (dh : FVec Ideal S256x1024 .f32) (o : FVec Ideal S1x1024 .f32) (k : Fin 1024) :
    (show EReal from k0_pay10 (F := Ideal) dh o (ix2 0 k)) = (show EReal from o (ix2 0 k)) + ∑ r : Fin 256, (show EReal from dh (ix2 r k)) := by
  pointwise [k0_pay10]

theorem pay12_at (dh xn : FVec Ideal S256x1024 .f32) (gn o : FVec Ideal S1x1024 .f32) (k : Fin 1024) :
    (show EReal from k0_pay12 (F := Ideal) dh xn gn o (ix2 0 k)) = (show EReal from o (ix2 0 k)) + (∑ r : Fin 256, (show EReal from dh (ix2 r k)) * (show EReal from xn (ix2 r k))) * (show EReal from gn (ix2 0 k)) := by
  pointwise [k0_pay12, k0_pay11]

theorem pay13_at (dh xn : FVec Ideal S256x1024 .f32) (sc o : FVec Ideal S1x1024 .f32) (k : Fin 1024) :
    (show EReal from k0_pay13 (F := Ideal) dh xn sc o (ix2 0 k)) = (show EReal from o (ix2 0 k)) + (∑ r : Fin 256, (show EReal from dh (ix2 r k)) * (show EReal from xn (ix2 r k))) * (1 + (show EReal from sc (ix2 0 k))) := by
  pointwise [k0_pay13, k0_pay11, k0_pay9]

/-- The arguments on chip `c` are real where the precondition asks for it. -/
abbrev RealArgs : Prop := Reals (a0 m c) (a1 m c) (a2 m c) (a3 m c) (a4 m c) (a5 m c) (a6 m c) (a7 m c) (a8 m c) (a9 m c) (a12 m c) (a13 m c) (a14 m c)

/-- The reference's terms of the two gradients over the rows. -/
def tSc (s : Fin 8192) (k : Fin 1024) : EReal := val_main_v20 (F := Ideal) (a9 m c) (a13 m c) (ix2 s k) * DH m c (ix2 s k)
def tGn (s : Fin 8192) (k : Fin 1024) : EReal :=
  val_main_v18 (F := Ideal) (a9 m c) (ix2 s k) * val_main_v45 (F := Ideal) (a0 m c) (a1 m c) (a2 m c) (a3 m c) (a4 m c) (a5 m c) (a6 m c) (a7 m c) (a8 m c) (a12 m c) (a14 m c) (ix2 s k)

variable (t : Fin cfg0.N)

/-- A point's part of the gradient of `scale`. -/
theorem part_sc (R : RealArgs m c) (k : Fin 1024) :
    (∑ r : Fin 256, (show EReal from dhp m c t (ix2 r k)) * (show EReal from k0_pay8 (F := Ideal) (iblk m c 9 t) (ix2 r k))) * (show EReal from (iblk m c 12 t : FVec Ideal S1x1024 .f32) (ix2 0 k))
      = ∑ r : Fin 256, tSc m c (row (nn t) r) k := by
  choose D hD using dh_real _ _ _ _ _ _ _ _ _ _ _ _ _ R
  choose X hX using fun (s : Fin 8192) (k : Fin 1024) => R.h9 (ix2 s k)
  choose S hS using fun k : Fin 1024 => R.h12 (ix2 0 k)
  choose G hG using fun k : Fin 1024 => R.h13 (ix2 0 k)
  have e (r : Fin 256) : tSc m c (row (nn t) r) k = _ :=
    ref_dsc _ _ G S _ _ _ _ _ _ _ _ _ _ _ _ _ (row (nn t) r) (hX _) (hD _) hS hG k
  have x (r : Fin 256) := ker_xn _ (iblk m c 9 t) r (fun k => (rows9 m c t r k).trans (hX _ k)) k
  have d (r : Fin 256) : dhp m c t (ix2 r k) = _ := (dhp_at m c t r k).trans (hD _ k)
  have g : (iblk m c 12 t : FVec Ideal S1x1024 .f32) (ix2 0 k) = _ := (congrFun (whole12 m c t) _).trans (hG k)
  simp only [e, x, d, g, ← EReal.coe_mul, coe_sum, Finset.sum_mul]

/-- A point's part of the gradient of `g_norm`. -/
theorem part_gn (R : RealArgs m c) (k : Fin 1024) :
    (∑ r : Fin 256, (show EReal from dhp m c t (ix2 r k)) * (show EReal from k0_pay8 (F := Ideal) (iblk m c 9 t) (ix2 r k))) * (1 + (show EReal from (iblk m c 11 t : FVec Ideal S1x1024 .f32) (ix2 0 k)))
      = ∑ r : Fin 256, tGn m c (row (nn t) r) k := by
  choose D hD using dh_real _ _ _ _ _ _ _ _ _ _ _ _ _ R
  choose X hX using fun (s : Fin 8192) (k : Fin 1024) => R.h9 (ix2 s k)
  choose S hS using fun k : Fin 1024 => R.h12 (ix2 0 k)
  choose G hG using fun k : Fin 1024 => R.h13 (ix2 0 k)
  have e (r : Fin 256) : tGn m c (row (nn t) r) k = _ :=
    ref_dgn _ _ G S _ _ _ _ _ _ _ _ _ _ _ _ _ (row (nn t) r) (hX _) (hD _) hS hG k
  have x (r : Fin 256) := ker_xn _ (iblk m c 9 t) r (fun k => (rows9 m c t r k).trans (hX _ k)) k
  have d (r : Fin 256) : dhp m c t (ix2 r k) = _ := (dhp_at m c t r k).trans (hD _ k)
  have g : (iblk m c 11 t : FVec Ideal S1x1024 .f32) (ix2 0 k) = _ := (congrFun (whole11 m c t) _).trans (hS k)
  simp only [e, x, d, g, ← EReal.coe_one, ← EReal.coe_add, ← EReal.coe_mul, coe_sum, Finset.sum_mul]

/-- The last point. -/
def last : Fin cfg0.N := ⟨31, by rw [show cfg0.N = 32 from N_0]; decide⟩

/-- The reference's term of the gradient of `shift`. -/
def tSh (s : Fin 8192) (k : Fin 1024) : EReal := DH m c (ix2 s k)

theorem part_sh (k : Fin 1024) : ∑ r : Fin 256, (show EReal from dhp m c t (ix2 r k)) = ∑ r : Fin 256, tSh m c (row (nn t) r) k :=
  Finset.sum_congr rfl fun r _ => dhp_at m c t r k

/-- After the last point this block holds the sum of the points' parts: the gradient of `shift`. -/
theorem outs16 (j : S1x1024.Idx) : (show EReal from (outsAt0 m c last.val last.isLt).2.1 j) = 0 + ∑ p : Fin cfg0.N, ∑ r : Fin 256, tSh m c (row (nn p) r) (j 1) :=
  Pipeline.eq_sum_fin_of_reset_step_apply_last (M := EReal) (fun n h => (outsAt0 m c n h).2.1) 32 (fun _ => 0) (fun p j => ∑ r : Fin 256, tSh m c (row (nn p) r) (j 1))
    (fun t h j => by
      obtain ⟨k, rfl⟩ := idx_row j
      rw [outsAt0_A m c t h]
      dsimp only
      rw [out_A_16]
      exact (pay10_at _ _ k).trans (congrArg₂ (· + ·) (pay2_at _) (part_sh m c t k)))
    (fun t h j => by
      obtain ⟨k, rfl⟩ := idx_row j
      rw [outsAt0_B m c t h]
      dsimp only
      rw [out_B_16]
      exact (pay10_at _ _ k).trans (congrArg _ (part_sh m c t k)))
    (le_of_eq N_0) last rfl j

/-- After the last point this block holds the sum of the points' parts: the gradient of `scale`. -/
theorem outs17 (R : RealArgs m c) (j : S1x1024.Idx) : (show EReal from (outsAt0 m c last.val last.isLt).2.2.1 j) = 0 + ∑ p : Fin cfg0.N, ∑ r : Fin 256, tSc m c (row (nn p) r) (j 1) :=
  Pipeline.eq_sum_fin_of_reset_step_apply_last (M := EReal) (fun n h => (outsAt0 m c n h).2.2.1) 32 (fun _ => 0) (fun p j => ∑ r : Fin 256, tSc m c (row (nn p) r) (j 1))
    (fun t h j => by
      obtain ⟨k, rfl⟩ := idx_row j
      rw [outsAt0_A m c t h]
      dsimp only
      rw [out_A_17]
      exact (pay12_at _ _ _ _ k).trans (congrArg₂ (· + ·) (pay3_at _) (part_sc m c t R k)))
    (fun t h j => by
      obtain ⟨k, rfl⟩ := idx_row j
      rw [outsAt0_B m c t h]
      dsimp only
      rw [out_B_17]
      exact (pay12_at _ _ _ _ k).trans (congrArg _ (part_sc m c t R k)))
    (le_of_eq N_0) last rfl j

/-- After the last point this block holds the sum of the points' parts: the gradient of `g_norm`. -/
theorem outs18 (R : RealArgs m c) (j : S1x1024.Idx) : (show EReal from (outsAt0 m c last.val last.isLt).2.2.2 j) = 0 + ∑ p : Fin cfg0.N, ∑ r : Fin 256, tGn m c (row (nn p) r) (j 1) :=
  Pipeline.eq_sum_fin_of_reset_step_apply_last (M := EReal) (fun n h => (outsAt0 m c n h).2.2.2) 32 (fun _ => 0) (fun p j => ∑ r : Fin 256, tGn m c (row (nn p) r) (j 1))
    (fun t h j => by
      obtain ⟨k, rfl⟩ := idx_row j
      rw [outsAt0_A m c t h]
      dsimp only
      rw [out_A_18]
      exact (pay13_at _ _ _ _ k).trans (congrArg₂ (· + ·) (pay4_at _) (part_gn m c t R k)))
    (fun t h j => by
      obtain ⟨k, rfl⟩ := idx_row j
      rw [outsAt0_B m c t h]
      dsimp only
      rw [out_B_18]
      exact (pay13_at _ _ _ _ k).trans (congrArg _ (part_gn m c t R k)))
    (le_of_eq N_0) last rfl j

theorem ref16 (k : Fin 1024) : (show EReal from val_main_v40 (F := Ideal) (a0 m c) (a1 m c) (a2 m c) (a3 m c) (a4 m c) (a5 m c) (a6 m c) (a7 m c) (a8 m c) (a14 m c) (ix2 0 k)) = ∑ s : Fin 8192, tSh m c s k := by
  pointwise [val_main_v40, val_main_v39, val_main_cst_4]
  rfl

theorem ref17 (k : Fin 1024) : (show EReal from val_main_v43 (F := Ideal) (a0 m c) (a1 m c) (a2 m c) (a3 m c) (a4 m c) (a5 m c) (a6 m c) (a7 m c) (a8 m c) (a9 m c) (a13 m c) (a14 m c) (ix2 0 k)) = ∑ s : Fin 8192, tSc m c s k := by
  pointwise [val_main_v43, val_main_v42, val_main_v41, val_main_cst_5]
  rfl

theorem ref18 (k : Fin 1024) : (show EReal from val_main_v48 (F := Ideal) (a0 m c) (a1 m c) (a2 m c) (a3 m c) (a4 m c) (a5 m c) (a6 m c) (a7 m c) (a8 m c) (a9 m c) (a12 m c) (a14 m c) (ix2 0 k)) = ∑ s : Fin 8192, tGn m c s k := by
  pointwise [val_main_v48, val_main_v47, val_main_v46, val_main_cst_6]
  rfl

theorem final16 : (dats m 0 c).arrAt 16 cfg0.N = val_main_v40 (F := Ideal) (a0 m c) (a1 m c) (a2 m c) (a3 m c) (a4 m c) (a5 m c) (a6 m c) (a7 m c) (a8 m c) (a14 m c) := by
  refine (dats m 0 c).arrAt_eq_of_after_last 16 last (by decide +kernel) _ fun j => ?_
  rw [after0_16]
  blk_simp
  obtain ⟨k, rfl⟩ := idx_row j
  refine Eq.trans (b := (show EReal from (outsAt0 m c last.val last.isLt).2.1 (ix2 0 k))) rfl ((outs16 m c _).trans ((zero_add _).trans (Eq.trans ?_ (ref16 m c k).symm)))
  refine Fin.sum_mul_add_congr (S := cfg0.N) (n := 256) (fun t r h => ?_) (by rw [show cfg0.N = 32 from N_0])
  exact congrArg (fun s => tSh m c s k) (Fin.ext (by simp [row, nn]))

theorem final17 (R : RealArgs m c) : (dats m 0 c).arrAt 17 cfg0.N = val_main_v43 (F := Ideal) (a0 m c) (a1 m c) (a2 m c) (a3 m c) (a4 m c) (a5 m c) (a6 m c) (a7 m c) (a8 m c) (a9 m c) (a13 m c) (a14 m c) := by
  refine (dats m 0 c).arrAt_eq_of_after_last 17 last (by decide +kernel) _ fun j => ?_
  rw [after0_17]
  blk_simp
  obtain ⟨k, rfl⟩ := idx_row j
  refine Eq.trans (b := (show EReal from (outsAt0 m c last.val last.isLt).2.2.1 (ix2 0 k))) rfl ((outs17 m c R _).trans ((zero_add _).trans (Eq.trans ?_ (ref17 m c k).symm)))
  refine Fin.sum_mul_add_congr (S := cfg0.N) (n := 256) (fun t r h => ?_) (by rw [show cfg0.N = 32 from N_0])
  exact congrArg (fun s => tSc m c s k) (Fin.ext (by simp [row, nn]))

theorem final18 (R : RealArgs m c) : (dats m 0 c).arrAt 18 cfg0.N = val_main_v48 (F := Ideal) (a0 m c) (a1 m c) (a2 m c) (a3 m c) (a4 m c) (a5 m c) (a6 m c) (a7 m c) (a8 m c) (a9 m c) (a12 m c) (a14 m c) := by
  refine (dats m 0 c).arrAt_eq_of_after_last 18 last (by decide +kernel) _ fun j => ?_
  rw [after0_18]
  blk_simp
  obtain ⟨k, rfl⟩ := idx_row j
  refine Eq.trans (b := (show EReal from (outsAt0 m c last.val last.isLt).2.2.2 (ix2 0 k))) rfl ((outs18 m c R _).trans ((zero_add _).trans (Eq.trans ?_ (ref18 m c k).symm)))
  refine Fin.sum_mul_add_congr (S := cfg0.N) (n := 256) (fun t r h => ?_) (by rw [show cfg0.N = 32 from N_0])
  exact congrArg (fun s => tGn m c s k) (Fin.ext (by simp [row, nn]))

/-- A point's rows of the gradient of the input. -/
theorem gxb_at (R : RealArgs m c) (r : Fin 256) (k : Fin 1024) :
    gxb (F := Ideal) (iblk m c 0 t) (iblk m c 1 t) (iblk m c 2 t) (iblk m c 3 t) (iblk m c 4 t) (iblk m c 5 t) (iblk m c 6 t) (iblk m c 7 t) (iblk m c 8 t) (iblk m c 13 t) (iblk m c 14 t) (iblk m c 9 t) (iblk m c 10 t) (iblk m c 11 t) (iblk m c 12 t) (ix2 r k) = val_main_v65 (F := Ideal) (a0 m c) (a1 m c) (a2 m c) (a3 m c) (a4 m c) (a5 m c) (a6 m c) (a7 m c) (a8 m c) (a9 m c) (a10 m c) (a12 m c) (a13 m c) (a14 m c) (ix2 (row (nn t) r) k) := by
  choose D hD using dh_real _ _ _ _ _ _ _ _ _ _ _ _ _ R
  choose X hX using fun (s : Fin 8192) (k : Fin 1024) => R.h9 (ix2 s k)
  choose S hS using fun k : Fin 1024 => R.h12 (ix2 0 k)
  choose G hG using fun k : Fin 1024 => R.h13 (ix2 0 k)
  have u := ker_gx (X (row (nn t) r)) (D (row (nn t) r)) G S (iblk m c 9 t) (iblk m c 10 t) (dhp m c t) (iblk m c 11 t) (iblk m c 12 t) r
    (fun k => (rows9 m c t r k).trans (hX _ k)) (fun k => (dhp_at m c t r k).trans (hD _ k))
    (fun k => (congrFun (whole11 m c t) _).trans (hS k)) (fun k => (congrFun (whole12 m c t) _).trans (hG k)) k
  have v := ref_gx (X (row (nn t) r)) (D (row (nn t) r)) G S (a0 m c) (a1 m c) (a2 m c) (a3 m c) (a4 m c) (a5 m c) (a6 m c) (a7 m c) (a8 m c) (a14 m c) (a9 m c) (a10 m c) (a12 m c) (a13 m c) (row (nn t) r) (hX _) (hD _) hS hG k
  rw [kerG_eq] at u
  exact u.trans ((congrArg (· + _) (rows10 m c t r k)).trans v.symm)

theorem final15 (R : RealArgs m c) : (dats m 0 c).arrAt 15 cfg0.N = val_main_v65 (F := Ideal) (a0 m c) (a1 m c) (a2 m c) (a3 m c) (a4 m c) (a5 m c) (a6 m c) (a7 m c) (a8 m c) (a9 m c) (a10 m c) (a12 m c) (a13 m c) (a14 m c) := by
  refine (dats m 0 c).arrAt_eq_of_covers 15 _ (by decide +kernel) fun t hf y => ?_
  blk_simp
  rw [after0_15]
  obtain ⟨x, l, rfl⟩ : ∃ (x : Fin 256) (l : Fin 1024), y = ix2 x l := ⟨y 0, y 1, by blk_ext!⟩
  have e : ((cfg0.win 15).blk t).view.emb (ix2 x l) = ix2 (row (nn t) x) l := by
    blk_ext! [idx t, nn, row]
  rw [e]
  refine Eq.trans ?_ (gxb_at m c t R x l)
  by_cases h : t.val % 32 = 0
  · rw [outsAt0_A m c t h]
    dsimp only
    rw [out_A_15]
  · rw [outsAt0_B m c t h]
    dsimp only
    rw [out_B_15]

end Cert.ProjBwdIdeal.Grad

end
-- ==== Proof.Adam.lean ====
/- AdamW's step, at the constants the programs carry: on one entry, on whole arrays, and on a block of rows of them. -/
module

public import Idealize.ShloMosaic.Lib.Pointwise

@[expose] public section

noncomputable section

namespace Cert.Adam

open Idealize.ShloMosaic

variable (w m v g : EReal)

/-- The first moment: 0.9 of the old one and 0.1 of the gradient. -/
def newM : EReal := Ideal.ofBits FTy.f32 0x3F666666#32 * m + Ideal.ofBits FTy.f32 0x3DCCCCCD#32 * g

/-- The second moment: 0.999 of the old one and 0.001 of the gradient's square. -/
def newV : EReal := Ideal.ofBits FTy.f32 0x3F7FBE77#32 * v + Ideal.ofBits FTy.f32 0x3A83126F#32 * (g * g)

/-- The weight's change: the first moment over the second's root, each over its bias correction, with the weight decay, by minus the learning rate. -/
def delta : EReal :=
  Ideal.ofBits FTy.f32 0xBA83126F#32 *
    (Ideal.div (Ideal.div (newM m g) (Ideal.ofBits FTy.f32 0x3F26BD02#32)) (Ideal.sqrt (Ideal.div (newV v g) (Ideal.ofBits FTy.f32 0x3C231ACC#32)) + Ideal.ofBits FTy.f32 0x322BCC77#32) + Ideal.ofBits FTy.f32 0x3C23D70A#32 * w)

/-- Arrays of `R` rows and `C` columns, and the `P` parts of one. -/
abbrev Mat (R C : ℕ) := FVec Ideal (⟨2, ![R, C]⟩) .f32
abbrev Parts (P R C : ℕ) (e : FTy) := FVec Ideal (⟨3, ![P, R, C]⟩) e

variable {P T R C : ℕ} {e : FTy}

/-- `g`, `d`, `m'`, `v'` are the gradient, the weight's change and the two new moments of the step from the gradient's parts `p`, the weight
    `w` and the moments `m`, `v`. -/
structure IsStep (p : Parts P R C e) (w m v g d m' v' : Mat R C) : Prop where
  grad : ∀ r l, (show EReal from g (ix2 r l)) = ∑ i : Fin P, (show EReal from p (ix3 i r l))
  change : ∀ r l, d (ix2 r l) = delta (w (ix2 r l)) (m (ix2 r l)) (v (ix2 r l)) (g (ix2 r l))
  mean : ∀ r l, m' (ix2 r l) = newM (m (ix2 r l)) (g (ix2 r l))
  square : ∀ r l, v' (ix2 r l) = newV (v (ix2 r l)) (g (ix2 r l))

/-- `a` is made of the rows `row r` of `A`. -/
def IsRows (row : Fin T → Fin R) (a : Mat T C) (A : Mat R C) : Prop := ∀ r l, a (ix2 r l) = A (ix2 (row r) l)

def IsRowsOfParts (row : Fin T → Fin R) (a : Parts P T C e) (A : Parts P R C e) : Prop := ∀ i r l, a (ix3 i r l) = A (ix3 i (row r) l)

theorem IsRows.at {row : Fin T → Fin R} {a : Mat T C} {A : Mat R C} (h : IsRows row a A) (y : (⟨2, ![T, C]⟩ : Shape).Idx) :
    a y = A (ix2 (row (y 0)) (y 1)) := by
  have hy : y = ix2 (y 0) (y 1) := by funext a; fin_cases a <;> rfl
  exact (congrArg a hy).trans (h _ _)

/-! The step of a block of rows is that block of rows of the step: each entry needs its own place of the arguments only. -/

section Rows

variable {row : Fin T → Fin R} {p : Parts P T C e} {w m v g d m' v' : Mat T C} {p₁ : Parts P R C e} {w₁ m₁ v₁ g₁ d₁ m₁' v₁' : Mat R C}
  (h : IsStep p w m v g d m' v') (h₁ : IsStep p₁ w₁ m₁ v₁ g₁ d₁ m₁' v₁')
  (hp : IsRowsOfParts row p p₁) (hw : IsRows row w w₁) (hm : IsRows row m m₁) (hv : IsRows row v v₁)

include h h₁ hp

theorem IsStep.rows_grad : IsRows row g g₁ := fun r l =>
  (h.grad r l).trans ((Finset.sum_congr rfl fun i _ => hp i r l).trans (h₁.grad _ l).symm)

include hm in
theorem IsStep.rows_mean : IsRows row m' m₁' := fun r l => by
  rw [h.mean, h₁.mean, hm r l, h.rows_grad h₁ hp r l]

include hv in
theorem IsStep.rows_square : IsRows row v' v₁' := fun r l => by
  rw [h.square, h₁.square, hv r l, h.rows_grad h₁ hp r l]

include hw hm hv in
theorem IsStep.rows_change : IsRows row d d₁ := fun r l => by
  rw [h.change, h₁.change, hw r l, hm r l, hv r l, h.rows_grad h₁ hp r l]

end Rows

end Cert.Adam
-- ==== Proof.AdamInV.lean ====
/- AdamW on the input projection's weight: what its kernel leaves in each result's array is the reference's value. -/
module

public import proofs.«01_k».proof.Proof.Gen.AdamInIdeal.Value
public import proofs.«01_k».proof.Proof.Gen.AdamInRefIdeal.Read
public import proofs.«01_k».proof.Proof.Adam
public import Idealize.ShloMosaic.Lib.Pointwise
public import Idealize.ShloMosaic.Lib.Pipeline.ValueKit
public import Idealize.ShloMosaic.Lib.Claim
public import Idealize.ShloMosaic.Lib.StableHlo.RunRead

@[expose] public section

set_option maxRecDepth 16384

noncomputable section

namespace Cert.AdamInIdeal.Step

open Idealize.ShloMosaic Idealize.ShloMosaic.TcCoe Idealize.ShloMosaic.Tactic
open Cert.AdamInIdeal Cert.AdamInIdeal.Gen Cert.AdamInIdeal.Value
open Cert.AdamInRefIdeal.Read

open Cert.Adam

/-- What the kernel's body computes on a block. -/
theorem body_step (p : FVec Ideal S4x256x641 .bf16) (w m v : FVec Ideal S256x641 .f32) :
    IsStep p w m v (out0_4 (F := Ideal) p w m v) (out0_5 (F := Ideal) p w m v) (out0_6 (F := Ideal) p w m v) (out0_7 (F := Ideal) p w m v) where
  grad r l := by
    frame_out
    pointwise [k0_pay2]
    exact (Fin.sum_univ_four fun i => (show EReal from p (ix3 i r l))).symm
  change r l := by
    frame_out
    pointwise [k0_pay1, k0_pay5, k0_pay4, k0_pay3, k0_pay2, delta, newM, newV]
  mean r l := by
    frame_out
    pointwise [k0_pay3, k0_pay2, newM]
  square r l := by
    frame_out
    pointwise [k0_pay5, k0_pay4, k0_pay2, newV]

/-- What the reference computes. -/
theorem reference_step (p : FVec Ideal S4x1024x641 .bf16) (w m v : FVec Ideal S1024x641 .f32) :
    IsStep p w m v (val_main_v1 (F := Ideal) p) (val_main_v25 (F := Ideal) p w m v) (val_main_v6 (F := Ideal) p m) (val_main_v12 (F := Ideal) p v) where
  grad r l := by
    pointwise [val_main_v1, val_main_v0, val_main_cst]
  change r l := by
    pointwise [val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_cst_0, val_main_cst_1, val_main_cst_2, val_main_cst_3, val_main_cst_4, val_main_cst_5, val_main_cst_6, val_main_cst_7, val_main_cst_8, delta, newM, newV]
  mean r l := by
    pointwise [val_main_v6, val_main_v5, val_main_v4, val_main_v3, val_main_v2, val_main_cst_0, val_main_cst_1, newM]
  square r l := by
    pointwise [val_main_v12, val_main_v11, val_main_v10, val_main_v9, val_main_v8, val_main_v7, val_main_cst_2, val_main_cst_3, newV]

variable (m : (ℓ : Loc nD τ sig) → Buf (Elt Ideal) ℓ) (c : Dev nD) (t : Fin cfg0.N)

/-- Row `r` of the point's block of rows. -/
def row (t : Fin cfg0.N) (r : Fin 256) : Fin 1024 := ⟨t.val * 256 + r.val, by have := r.isLt; have : t.val < 4 := t.isLt; omega⟩

theorem idx : ∀ t : Fin cfg0.N, win0_0.index t = ![0, t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] :=
  (by decide +kernel : ∀ t : Fin grid0.N, _)

/-! The arguments on chip `c`; the point's blocks are rows of them. -/

abbrev a0 : FVec Ideal S4x1024x641 .bf16 := m ((c.tc : Thread nD τ).loc main_arg0)
abbrev a1 : FVec Ideal S1024x641 .f32 := m ((c.tc : Thread nD τ).loc main_arg1)
abbrev a2 : FVec Ideal S1024x641 .f32 := m ((c.tc : Thread nD τ).loc main_arg2)
abbrev a3 : FVec Ideal S1024x641 .f32 := m ((c.tc : Thread nD τ).loc main_arg3)

theorem rows0 : IsRowsOfParts (e := .bf16) (row t) (iblk m c 0 t : FVec Ideal S4x256x641 .bf16) (a0 m c) := by
  have h : ∀ A : FVec Ideal S4x1024x641 .bf16, IsRowsOfParts (e := .bf16) (row t) (((cfg0.win 0).blk t).view.read (Elt Ideal) A : FVec Ideal S4x256x641 .bf16) A := fun A i r l => by blk_ext! [idx t, row]
  exact fun i r l => (congrFun (congrArg (((cfg0.win 0).blk t).view.read (Elt Ideal)) (V_main_arg0 m c)) _).trans (h _ i r l)

theorem rows1 : IsRows (row t) (iblk m c 1 t : FVec Ideal S256x641 .f32) (a1 m c) := by
  have h : ∀ A : FVec Ideal S1024x641 .f32, IsRows (row t) (((cfg0.win 1).blk t).view.read (Elt Ideal) A : FVec Ideal S256x641 .f32) A := fun A r l => by blk_ext! [idx t, row]
  exact fun r l => (congrFun (congrArg (((cfg0.win 1).blk t).view.read (Elt Ideal)) (V_main_arg1 m c)) _).trans (h _ r l)

theorem rows2 : IsRows (row t) (iblk m c 2 t : FVec Ideal S256x641 .f32) (a2 m c) := by
  have h : ∀ A : FVec Ideal S1024x641 .f32, IsRows (row t) (((cfg0.win 2).blk t).view.read (Elt Ideal) A : FVec Ideal S256x641 .f32) A := fun A r l => by blk_ext! [idx t, row]
  exact fun r l => (congrFun (congrArg (((cfg0.win 2).blk t).view.read (Elt Ideal)) (V_main_arg2 m c)) _).trans (h _ r l)

theorem rows3 : IsRows (row t) (iblk m c 3 t : FVec Ideal S256x641 .f32) (a3 m c) := by
  have h : ∀ A : FVec Ideal S1024x641 .f32, IsRows (row t) (((cfg0.win 3).blk t).view.read (Elt Ideal) A : FVec Ideal S256x641 .f32) A := fun A r l => by blk_ext! [idx t, row]
  exact fun r l => (congrFun (congrArg (((cfg0.win 3).blk t).view.read (Elt Ideal)) (V_main_arg3 m c)) _).trans (h _ r l)

/-! The result arrays. -/

theorem final4 : (dats m 0 c).arrAt 4 (cfgs 0).N = val_main_v1 (F := Ideal) (a0 m c) := by
  refine (dats m 0 c).arrAt_eq_of_covers 4 _ (by decide +kernel) fun t hf y => ?_
  blk_simp
  rw [after0_4, show ((cfg0.win 4).blk t).view.emb y = ix2 (row t (y 0)) (y 1) by blk_ext! [idx t, row]]
  exact ((body_step _ _ _ _).rows_grad (reference_step _ (a1 m c) (a2 m c) (a3 m c)) (rows0 m c t)).at y

theorem final5 : (dats m 0 c).arrAt 5 (cfgs 0).N = val_main_v25 (F := Ideal) (a0 m c) (a1 m c) (a2 m c) (a3 m c) := by
  refine (dats m 0 c).arrAt_eq_of_covers 5 _ (by decide +kernel) fun t hf y => ?_
  blk_simp
  rw [after0_5, show ((cfg0.win 5).blk t).view.emb y = ix2 (row t (y 0)) (y 1) by blk_ext! [idx t, row]]
  exact ((body_step _ _ _ _).rows_change (reference_step _ _ _ _) (rows0 m c t) (rows1 m c t) (rows2 m c t) (rows3 m c t)).at y

theorem final6 : (dats m 0 c).arrAt 6 (cfgs 0).N = val_main_v6 (F := Ideal) (a0 m c) (a2 m c) := by
  refine (dats m 0 c).arrAt_eq_of_covers 6 _ (by decide +kernel) fun t hf y => ?_
  blk_simp
  rw [after0_6, show ((cfg0.win 6).blk t).view.emb y = ix2 (row t (y 0)) (y 1) by blk_ext! [idx t, row]]
  exact ((body_step _ _ _ _).rows_mean (reference_step _ (a1 m c) _ (a3 m c)) (rows0 m c t) (rows2 m c t)).at y

theorem final7 : (dats m 0 c).arrAt 7 (cfgs 0).N = val_main_v12 (F := Ideal) (a0 m c) (a3 m c) := by
  refine (dats m 0 c).arrAt_eq_of_covers 7 _ (by decide +kernel) fun t hf y => ?_
  blk_simp
  rw [after0_7, show ((cfg0.win 7).blk t).view.emb y = ix2 (row t (y 0)) (y 1) by blk_ext! [idx t, row]]
  exact ((body_step _ _ _ _).rows_square (reference_step _ (a1 m c) (a2 m c) _) (rows0 m c t) (rows3 m c t)).at y

end Cert.AdamInIdeal.Step
-- ==== Proof.AdamGluV.lean ====
/- AdamW on the weight of the gated linear unit: what its kernel leaves in each result's array is the reference's value. -/
module

public import proofs.«01_k».proof.Proof.Gen.AdamGluIdeal.Value
public import proofs.«01_k».proof.Proof.Gen.AdamGluRefIdeal.Read
public import proofs.«01_k».proof.Proof.Adam
public import Idealize.ShloMosaic.Lib.Pointwise
public import Idealize.ShloMosaic.Lib.Pipeline.ValueKit
public import Idealize.ShloMosaic.Lib.Claim
public import Idealize.ShloMosaic.Lib.StableHlo.RunRead

@[expose] public section

set_option maxRecDepth 16384

noncomputable section

namespace Cert.AdamGluIdeal.Step

open Idealize.ShloMosaic Idealize.ShloMosaic.TcCoe Idealize.ShloMosaic.Tactic
open Cert.AdamGluIdeal Cert.AdamGluIdeal.Gen Cert.AdamGluIdeal.Value
open Cert.AdamGluRefIdeal.Read

open Cert.Adam

/-- What the kernel's body computes on a block. -/
theorem body_step (p : FVec Ideal S4x64x512 .bf16) (w m v : FVec Ideal S64x512 .f32) :
    IsStep p w m v (out0_4 (F := Ideal) p w m v) (out0_5 (F := Ideal) p w m v) (out0_6 (F := Ideal) p w m v) (out0_7 (F := Ideal) p w m v) where
  grad r l := by
    frame_out
    pointwise [k0_pay2]
    exact (Fin.sum_univ_four fun i => (show EReal from p (ix3 i r l))).symm
  change r l := by
    frame_out
    pointwise [k0_pay1, k0_pay5, k0_pay4, k0_pay3, k0_pay2, delta, newM, newV]
  mean r l := by
    frame_out
    pointwise [k0_pay3, k0_pay2, newM]
  square r l := by
    frame_out
    pointwise [k0_pay5, k0_pay4, k0_pay2, newV]

/-- What the reference computes. -/
theorem reference_step (p : FVec Ideal S4x64x512 .bf16) (w m v : FVec Ideal S64x512 .f32) :
    IsStep p w m v (val_main_v1 (F := Ideal) p) (val_main_v25 (F := Ideal) p w m v) (val_main_v6 (F := Ideal) p m) (val_main_v12 (F := Ideal) p v) where
  grad r l := by
    pointwise [val_main_v1, val_main_v0, val_main_cst]
  change r l := by
    pointwise [val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_cst_0, val_main_cst_1, val_main_cst_2, val_main_cst_3, val_main_cst_4, val_main_cst_5, val_main_cst_6, val_main_cst_7, val_main_cst_8, delta, newM, newV]
  mean r l := by
    pointwise [val_main_v6, val_main_v5, val_main_v4, val_main_v3, val_main_v2, val_main_cst_0, val_main_cst_1, newM]
  square r l := by
    pointwise [val_main_v12, val_main_v11, val_main_v10, val_main_v9, val_main_v8, val_main_v7, val_main_cst_2, val_main_cst_3, newV]

variable (m : (ℓ : Loc nD τ sig) → Buf (Elt Ideal) ℓ) (c : Dev nD) (t : Fin cfg0.N)

/-- Row `r` of the point's block of rows. -/
def row (t : Fin cfg0.N) (r : Fin 64) : Fin 64 := ⟨t.val * 64 + r.val, by have := r.isLt; have : t.val < 1 := t.isLt; omega⟩

theorem idx : ∀ t : Fin cfg0.N, win0_0.index t = ![0, t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] :=
  (by decide +kernel : ∀ t : Fin grid0.N, _)

/-! The arguments on chip `c`; the point's blocks are rows of them. -/

abbrev a0 : FVec Ideal S4x64x512 .bf16 := m ((c.tc : Thread nD τ).loc main_arg0)
abbrev a1 : FVec Ideal S64x512 .f32 := m ((c.tc : Thread nD τ).loc main_arg1)
abbrev a2 : FVec Ideal S64x512 .f32 := m ((c.tc : Thread nD τ).loc main_arg2)
abbrev a3 : FVec Ideal S64x512 .f32 := m ((c.tc : Thread nD τ).loc main_arg3)

theorem rows0 : IsRowsOfParts (e := .bf16) (row t) (iblk m c 0 t : FVec Ideal S4x64x512 .bf16) (a0 m c) := by
  have h : ∀ A : FVec Ideal S4x64x512 .bf16, IsRowsOfParts (e := .bf16) (row t) (((cfg0.win 0).blk t).view.read (Elt Ideal) A : FVec Ideal S4x64x512 .bf16) A := fun A i r l => by blk_ext! [idx t, row]
  exact fun i r l => (congrFun (congrArg (((cfg0.win 0).blk t).view.read (Elt Ideal)) (V_main_arg0 m c)) _).trans (h _ i r l)

theorem rows1 : IsRows (row t) (iblk m c 1 t : FVec Ideal S64x512 .f32) (a1 m c) := by
  have h : ∀ A : FVec Ideal S64x512 .f32, IsRows (row t) (((cfg0.win 1).blk t).view.read (Elt Ideal) A : FVec Ideal S64x512 .f32) A := fun A r l => by blk_ext! [idx t, row]
  exact fun r l => (congrFun (congrArg (((cfg0.win 1).blk t).view.read (Elt Ideal)) (V_main_arg1 m c)) _).trans (h _ r l)

theorem rows2 : IsRows (row t) (iblk m c 2 t : FVec Ideal S64x512 .f32) (a2 m c) := by
  have h : ∀ A : FVec Ideal S64x512 .f32, IsRows (row t) (((cfg0.win 2).blk t).view.read (Elt Ideal) A : FVec Ideal S64x512 .f32) A := fun A r l => by blk_ext! [idx t, row]
  exact fun r l => (congrFun (congrArg (((cfg0.win 2).blk t).view.read (Elt Ideal)) (V_main_arg2 m c)) _).trans (h _ r l)

theorem rows3 : IsRows (row t) (iblk m c 3 t : FVec Ideal S64x512 .f32) (a3 m c) := by
  have h : ∀ A : FVec Ideal S64x512 .f32, IsRows (row t) (((cfg0.win 3).blk t).view.read (Elt Ideal) A : FVec Ideal S64x512 .f32) A := fun A r l => by blk_ext! [idx t, row]
  exact fun r l => (congrFun (congrArg (((cfg0.win 3).blk t).view.read (Elt Ideal)) (V_main_arg3 m c)) _).trans (h _ r l)

/-! The result arrays. -/

theorem final4 : (dats m 0 c).arrAt 4 (cfgs 0).N = val_main_v1 (F := Ideal) (a0 m c) := by
  refine (dats m 0 c).arrAt_eq_of_covers 4 _ (by decide +kernel) fun t hf y => ?_
  blk_simp
  rw [after0_4, show ((cfg0.win 4).blk t).view.emb y = ix2 (row t (y 0)) (y 1) by blk_ext! [idx t, row]]
  exact ((body_step _ _ _ _).rows_grad (reference_step _ (a1 m c) (a2 m c) (a3 m c)) (rows0 m c t)).at y

theorem final5 : (dats m 0 c).arrAt 5 (cfgs 0).N = val_main_v25 (F := Ideal) (a0 m c) (a1 m c) (a2 m c) (a3 m c) := by
  refine (dats m 0 c).arrAt_eq_of_covers 5 _ (by decide +kernel) fun t hf y => ?_
  blk_simp
  rw [after0_5, show ((cfg0.win 5).blk t).view.emb y = ix2 (row t (y 0)) (y 1) by blk_ext! [idx t, row]]
  exact ((body_step _ _ _ _).rows_change (reference_step _ _ _ _) (rows0 m c t) (rows1 m c t) (rows2 m c t) (rows3 m c t)).at y

theorem final6 : (dats m 0 c).arrAt 6 (cfgs 0).N = val_main_v6 (F := Ideal) (a0 m c) (a2 m c) := by
  refine (dats m 0 c).arrAt_eq_of_covers 6 _ (by decide +kernel) fun t hf y => ?_
  blk_simp
  rw [after0_6, show ((cfg0.win 6).blk t).view.emb y = ix2 (row t (y 0)) (y 1) by blk_ext! [idx t, row]]
  exact ((body_step _ _ _ _).rows_mean (reference_step _ (a1 m c) _ (a3 m c)) (rows0 m c t) (rows2 m c t)).at y

theorem final7 : (dats m 0 c).arrAt 7 (cfgs 0).N = val_main_v12 (F := Ideal) (a0 m c) (a3 m c) := by
  refine (dats m 0 c).arrAt_eq_of_covers 7 _ (by decide +kernel) fun t hf y => ?_
  blk_simp
  rw [after0_7, show ((cfg0.win 7).blk t).view.emb y = ix2 (row t (y 0)) (y 1) by blk_ext! [idx t, row]]
  exact ((body_step _ _ _ _).rows_square (reference_step _ (a1 m c) (a2 m c) _) (rows0 m c t) (rows3 m c t)).at y

end Cert.AdamGluIdeal.Step
-- ==== Proof.AdamUpV.lean ====
/- AdamW on the two up projections' weights: what its kernel leaves in each result's array is the reference's value. -/
module

public import proofs.«01_k».proof.Proof.Gen.AdamUpIdeal.Value
public import proofs.«01_k».proof.Proof.Gen.AdamUpRefIdeal.Read
public import proofs.«01_k».proof.Proof.Adam
public import Idealize.ShloMosaic.Lib.Pointwise
public import Idealize.ShloMosaic.Lib.Pipeline.ValueKit
public import Idealize.ShloMosaic.Lib.Claim
public import Idealize.ShloMosaic.Lib.StableHlo.RunRead

@[expose] public section

set_option maxRecDepth 16384

noncomputable section

namespace Cert.AdamUpIdeal.Step

open Idealize.ShloMosaic Idealize.ShloMosaic.TcCoe Idealize.ShloMosaic.Tactic
open Cert.AdamUpIdeal Cert.AdamUpIdeal.Gen Cert.AdamUpIdeal.Value
open Cert.AdamUpRefIdeal.Read

open Cert.Adam

/-- What the kernel's body computes on a block. -/
theorem body_step (p : FVec Ideal S4x256x128 .bf16) (w m v : FVec Ideal S256x128 .f32) :
    IsStep p w m v (out0_4 (F := Ideal) p w m v) (out0_5 (F := Ideal) p w m v) (out0_6 (F := Ideal) p w m v) (out0_7 (F := Ideal) p w m v) where
  grad r l := by
    frame_out
    pointwise [k0_pay2]
    exact (Fin.sum_univ_four fun i => (show EReal from p (ix3 i r l))).symm
  change r l := by
    frame_out
    pointwise [k0_pay1, k0_pay5, k0_pay4, k0_pay3, k0_pay2, delta, newM, newV]
  mean r l := by
    frame_out
    pointwise [k0_pay3, k0_pay2, newM]
  square r l := by
    frame_out
    pointwise [k0_pay5, k0_pay4, k0_pay2, newV]

/-- What the reference computes. -/
theorem reference_step (p : FVec Ideal S4x512x128 .bf16) (w m v : FVec Ideal S512x128 .f32) :
    IsStep p w m v (val_main_v1 (F := Ideal) p) (val_main_v25 (F := Ideal) p w m v) (val_main_v6 (F := Ideal) p m) (val_main_v12 (F := Ideal) p v) where
  grad r l := by
    pointwise [val_main_v1, val_main_v0, val_main_cst]
  change r l := by
    pointwise [val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_cst_0, val_main_cst_1, val_main_cst_2, val_main_cst_3, val_main_cst_4, val_main_cst_5, val_main_cst_6, val_main_cst_7, val_main_cst_8, delta, newM, newV]
  mean r l := by
    pointwise [val_main_v6, val_main_v5, val_main_v4, val_main_v3, val_main_v2, val_main_cst_0, val_main_cst_1, newM]
  square r l := by
    pointwise [val_main_v12, val_main_v11, val_main_v10, val_main_v9, val_main_v8, val_main_v7, val_main_cst_2, val_main_cst_3, newV]

variable (m : (ℓ : Loc nD τ sig) → Buf (Elt Ideal) ℓ) (c : Dev nD) (t : Fin cfg0.N)

/-- Row `r` of the point's block of rows. -/
def row (t : Fin cfg0.N) (r : Fin 256) : Fin 512 := ⟨t.val * 256 + r.val, by have := r.isLt; have : t.val < 2 := t.isLt; omega⟩

theorem idx : ∀ t : Fin cfg0.N, win0_0.index t = ![0, t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] :=
  (by decide +kernel : ∀ t : Fin grid0.N, _)

/-! The arguments on chip `c`; the point's blocks are rows of them. -/

abbrev a0 : FVec Ideal S4x512x128 .bf16 := m ((c.tc : Thread nD τ).loc main_arg0)
abbrev a1 : FVec Ideal S512x128 .f32 := m ((c.tc : Thread nD τ).loc main_arg1)
abbrev a2 : FVec Ideal S512x128 .f32 := m ((c.tc : Thread nD τ).loc main_arg2)
abbrev a3 : FVec Ideal S512x128 .f32 := m ((c.tc : Thread nD τ).loc main_arg3)

theorem rows0 : IsRowsOfParts (e := .bf16) (row t) (iblk m c 0 t : FVec Ideal S4x256x128 .bf16) (a0 m c) := by
  have h : ∀ A : FVec Ideal S4x512x128 .bf16, IsRowsOfParts (e := .bf16) (row t) (((cfg0.win 0).blk t).view.read (Elt Ideal) A : FVec Ideal S4x256x128 .bf16) A := fun A i r l => by blk_ext! [idx t, row]
  exact fun i r l => (congrFun (congrArg (((cfg0.win 0).blk t).view.read (Elt Ideal)) (V_main_arg0 m c)) _).trans (h _ i r l)

theorem rows1 : IsRows (row t) (iblk m c 1 t : FVec Ideal S256x128 .f32) (a1 m c) := by
  have h : ∀ A : FVec Ideal S512x128 .f32, IsRows (row t) (((cfg0.win 1).blk t).view.read (Elt Ideal) A : FVec Ideal S256x128 .f32) A := fun A r l => by blk_ext! [idx t, row]
  exact fun r l => (congrFun (congrArg (((cfg0.win 1).blk t).view.read (Elt Ideal)) (V_main_arg1 m c)) _).trans (h _ r l)

theorem rows2 : IsRows (row t) (iblk m c 2 t : FVec Ideal S256x128 .f32) (a2 m c) := by
  have h : ∀ A : FVec Ideal S512x128 .f32, IsRows (row t) (((cfg0.win 2).blk t).view.read (Elt Ideal) A : FVec Ideal S256x128 .f32) A := fun A r l => by blk_ext! [idx t, row]
  exact fun r l => (congrFun (congrArg (((cfg0.win 2).blk t).view.read (Elt Ideal)) (V_main_arg2 m c)) _).trans (h _ r l)

theorem rows3 : IsRows (row t) (iblk m c 3 t : FVec Ideal S256x128 .f32) (a3 m c) := by
  have h : ∀ A : FVec Ideal S512x128 .f32, IsRows (row t) (((cfg0.win 3).blk t).view.read (Elt Ideal) A : FVec Ideal S256x128 .f32) A := fun A r l => by blk_ext! [idx t, row]
  exact fun r l => (congrFun (congrArg (((cfg0.win 3).blk t).view.read (Elt Ideal)) (V_main_arg3 m c)) _).trans (h _ r l)

/-! The result arrays. -/

theorem final4 : (dats m 0 c).arrAt 4 (cfgs 0).N = val_main_v1 (F := Ideal) (a0 m c) := by
  refine (dats m 0 c).arrAt_eq_of_covers 4 _ (by decide +kernel) fun t hf y => ?_
  blk_simp
  rw [after0_4, show ((cfg0.win 4).blk t).view.emb y = ix2 (row t (y 0)) (y 1) by blk_ext! [idx t, row]]
  exact ((body_step _ _ _ _).rows_grad (reference_step _ (a1 m c) (a2 m c) (a3 m c)) (rows0 m c t)).at y

theorem final5 : (dats m 0 c).arrAt 5 (cfgs 0).N = val_main_v25 (F := Ideal) (a0 m c) (a1 m c) (a2 m c) (a3 m c) := by
  refine (dats m 0 c).arrAt_eq_of_covers 5 _ (by decide +kernel) fun t hf y => ?_
  blk_simp
  rw [after0_5, show ((cfg0.win 5).blk t).view.emb y = ix2 (row t (y 0)) (y 1) by blk_ext! [idx t, row]]
  exact ((body_step _ _ _ _).rows_change (reference_step _ _ _ _) (rows0 m c t) (rows1 m c t) (rows2 m c t) (rows3 m c t)).at y

theorem final6 : (dats m 0 c).arrAt 6 (cfgs 0).N = val_main_v6 (F := Ideal) (a0 m c) (a2 m c) := by
  refine (dats m 0 c).arrAt_eq_of_covers 6 _ (by decide +kernel) fun t hf y => ?_
  blk_simp
  rw [after0_6, show ((cfg0.win 6).blk t).view.emb y = ix2 (row t (y 0)) (y 1) by blk_ext! [idx t, row]]
  exact ((body_step _ _ _ _).rows_mean (reference_step _ (a1 m c) _ (a3 m c)) (rows0 m c t) (rows2 m c t)).at y

theorem final7 : (dats m 0 c).arrAt 7 (cfgs 0).N = val_main_v12 (F := Ideal) (a0 m c) (a3 m c) := by
  refine (dats m 0 c).arrAt_eq_of_covers 7 _ (by decide +kernel) fun t hf y => ?_
  blk_simp
  rw [after0_7, show ((cfg0.win 7).blk t).view.emb y = ix2 (row t (y 0)) (y 1) by blk_ext! [idx t, row]]
  exact ((body_step _ _ _ _).rows_square (reference_step _ (a1 m c) (a2 m c) _) (rows0 m c t) (rows3 m c t)).at y

end Cert.AdamUpIdeal.Step
-- ==== Proof.AdamOutV.lean ====
/- AdamW on the output projection's weight: what its kernel leaves in each result's array is the reference's value. -/
module

public import proofs.«01_k».proof.Proof.Gen.AdamOutIdeal.Value
public import proofs.«01_k».proof.Proof.Gen.AdamOutRefIdeal.Read
public import proofs.«01_k».proof.Proof.Adam
public import Idealize.ShloMosaic.Lib.Pointwise
public import Idealize.ShloMosaic.Lib.Pipeline.ValueKit
public import Idealize.ShloMosaic.Lib.Claim
public import Idealize.ShloMosaic.Lib.StableHlo.RunRead

@[expose] public section

set_option maxRecDepth 16384

noncomputable section

namespace Cert.AdamOutIdeal.Step

open Idealize.ShloMosaic Idealize.ShloMosaic.TcCoe Idealize.ShloMosaic.Tactic
open Cert.AdamOutIdeal Cert.AdamOutIdeal.Gen Cert.AdamOutIdeal.Value
open Cert.AdamOutRefIdeal.Read

open Cert.Adam

/-- What the kernel's body computes on a block. -/
theorem body_step (p : FVec Ideal S4x128x1024 .bf16) (w m v : FVec Ideal S128x1024 .f32) :
    IsStep p w m v (out0_4 (F := Ideal) p w m v) (out0_5 (F := Ideal) p w m v) (out0_6 (F := Ideal) p w m v) (out0_7 (F := Ideal) p w m v) where
  grad r l := by
    frame_out
    pointwise [k0_pay2]
    exact (Fin.sum_univ_four fun i => (show EReal from p (ix3 i r l))).symm
  change r l := by
    frame_out
    pointwise [k0_pay1, k0_pay5, k0_pay4, k0_pay3, k0_pay2, delta, newM, newV]
  mean r l := by
    frame_out
    pointwise [k0_pay3, k0_pay2, newM]
  square r l := by
    frame_out
    pointwise [k0_pay5, k0_pay4, k0_pay2, newV]

/-- What the reference computes. -/
theorem reference_step (p : FVec Ideal S4x128x1024 .bf16) (w m v : FVec Ideal S128x1024 .f32) :
    IsStep p w m v (val_main_v1 (F := Ideal) p) (val_main_v25 (F := Ideal) p w m v) (val_main_v6 (F := Ideal) p m) (val_main_v12 (F := Ideal) p v) where
  grad r l := by
    pointwise [val_main_v1, val_main_v0, val_main_cst]
  change r l := by
    pointwise [val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_cst_0, val_main_cst_1, val_main_cst_2, val_main_cst_3, val_main_cst_4, val_main_cst_5, val_main_cst_6, val_main_cst_7, val_main_cst_8, delta, newM, newV]
  mean r l := by
    pointwise [val_main_v6, val_main_v5, val_main_v4, val_main_v3, val_main_v2, val_main_cst_0, val_main_cst_1, newM]
  square r l := by
    pointwise [val_main_v12, val_main_v11, val_main_v10, val_main_v9, val_main_v8, val_main_v7, val_main_cst_2, val_main_cst_3, newV]

variable (m : (ℓ : Loc nD τ sig) → Buf (Elt Ideal) ℓ) (c : Dev nD) (t : Fin cfg0.N)

/-- Row `r` of the point's block of rows. -/
def row (t : Fin cfg0.N) (r : Fin 128) : Fin 128 := ⟨t.val * 128 + r.val, by have := r.isLt; have : t.val < 1 := t.isLt; omega⟩

theorem idx : ∀ t : Fin cfg0.N, win0_0.index t = ![0, t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] :=
  (by decide +kernel : ∀ t : Fin grid0.N, _)

/-! The arguments on chip `c`; the point's blocks are rows of them. -/

abbrev a0 : FVec Ideal S4x128x1024 .bf16 := m ((c.tc : Thread nD τ).loc main_arg0)
abbrev a1 : FVec Ideal S128x1024 .f32 := m ((c.tc : Thread nD τ).loc main_arg1)
abbrev a2 : FVec Ideal S128x1024 .f32 := m ((c.tc : Thread nD τ).loc main_arg2)
abbrev a3 : FVec Ideal S128x1024 .f32 := m ((c.tc : Thread nD τ).loc main_arg3)

theorem rows0 : IsRowsOfParts (e := .bf16) (row t) (iblk m c 0 t : FVec Ideal S4x128x1024 .bf16) (a0 m c) := by
  have h : ∀ A : FVec Ideal S4x128x1024 .bf16, IsRowsOfParts (e := .bf16) (row t) (((cfg0.win 0).blk t).view.read (Elt Ideal) A : FVec Ideal S4x128x1024 .bf16) A := fun A i r l => by blk_ext! [idx t, row]
  exact fun i r l => (congrFun (congrArg (((cfg0.win 0).blk t).view.read (Elt Ideal)) (V_main_arg0 m c)) _).trans (h _ i r l)

theorem rows1 : IsRows (row t) (iblk m c 1 t : FVec Ideal S128x1024 .f32) (a1 m c) := by
  have h : ∀ A : FVec Ideal S128x1024 .f32, IsRows (row t) (((cfg0.win 1).blk t).view.read (Elt Ideal) A : FVec Ideal S128x1024 .f32) A := fun A r l => by blk_ext! [idx t, row]
  exact fun r l => (congrFun (congrArg (((cfg0.win 1).blk t).view.read (Elt Ideal)) (V_main_arg1 m c)) _).trans (h _ r l)

theorem rows2 : IsRows (row t) (iblk m c 2 t : FVec Ideal S128x1024 .f32) (a2 m c) := by
  have h : ∀ A : FVec Ideal S128x1024 .f32, IsRows (row t) (((cfg0.win 2).blk t).view.read (Elt Ideal) A : FVec Ideal S128x1024 .f32) A := fun A r l => by blk_ext! [idx t, row]
  exact fun r l => (congrFun (congrArg (((cfg0.win 2).blk t).view.read (Elt Ideal)) (V_main_arg2 m c)) _).trans (h _ r l)

theorem rows3 : IsRows (row t) (iblk m c 3 t : FVec Ideal S128x1024 .f32) (a3 m c) := by
  have h : ∀ A : FVec Ideal S128x1024 .f32, IsRows (row t) (((cfg0.win 3).blk t).view.read (Elt Ideal) A : FVec Ideal S128x1024 .f32) A := fun A r l => by blk_ext! [idx t, row]
  exact fun r l => (congrFun (congrArg (((cfg0.win 3).blk t).view.read (Elt Ideal)) (V_main_arg3 m c)) _).trans (h _ r l)

/-! The result arrays. -/

theorem final4 : (dats m 0 c).arrAt 4 (cfgs 0).N = val_main_v1 (F := Ideal) (a0 m c) := by
  refine (dats m 0 c).arrAt_eq_of_covers 4 _ (by decide +kernel) fun t hf y => ?_
  blk_simp
  rw [after0_4, show ((cfg0.win 4).blk t).view.emb y = ix2 (row t (y 0)) (y 1) by blk_ext! [idx t, row]]
  exact ((body_step _ _ _ _).rows_grad (reference_step _ (a1 m c) (a2 m c) (a3 m c)) (rows0 m c t)).at y

theorem final5 : (dats m 0 c).arrAt 5 (cfgs 0).N = val_main_v25 (F := Ideal) (a0 m c) (a1 m c) (a2 m c) (a3 m c) := by
  refine (dats m 0 c).arrAt_eq_of_covers 5 _ (by decide +kernel) fun t hf y => ?_
  blk_simp
  rw [after0_5, show ((cfg0.win 5).blk t).view.emb y = ix2 (row t (y 0)) (y 1) by blk_ext! [idx t, row]]
  exact ((body_step _ _ _ _).rows_change (reference_step _ _ _ _) (rows0 m c t) (rows1 m c t) (rows2 m c t) (rows3 m c t)).at y

theorem final6 : (dats m 0 c).arrAt 6 (cfgs 0).N = val_main_v6 (F := Ideal) (a0 m c) (a2 m c) := by
  refine (dats m 0 c).arrAt_eq_of_covers 6 _ (by decide +kernel) fun t hf y => ?_
  blk_simp
  rw [after0_6, show ((cfg0.win 6).blk t).view.emb y = ix2 (row t (y 0)) (y 1) by blk_ext! [idx t, row]]
  exact ((body_step _ _ _ _).rows_mean (reference_step _ (a1 m c) _ (a3 m c)) (rows0 m c t) (rows2 m c t)).at y

theorem final7 : (dats m 0 c).arrAt 7 (cfgs 0).N = val_main_v12 (F := Ideal) (a0 m c) (a3 m c) := by
  refine (dats m 0 c).arrAt_eq_of_covers 7 _ (by decide +kernel) fun t hf y => ?_
  blk_simp
  rw [after0_7, show ((cfg0.win 7).blk t).view.emb y = ix2 (row t (y 0)) (y 1) by blk_ext! [idx t, row]]
  exact ((body_step _ _ _ _).rows_square (reference_step _ (a1 m c) (a2 m c) _) (rows0 m c t) (rows3 m c t)).at y

end Cert.AdamOutIdeal.Step
-- ==== Proof.AdamAdaV.lean ====
/- AdamW on the modulation's weight: what its kernel leaves in each result's array is the reference's value. -/
module

public import proofs.«01_k».proof.Proof.Gen.AdamAdaIdeal.Value
public import proofs.«01_k».proof.Proof.Gen.AdamAdaRefIdeal.Read
public import proofs.«01_k».proof.Proof.Adam
public import Idealize.ShloMosaic.Lib.Pointwise
public import Idealize.ShloMosaic.Lib.Pipeline.ValueKit
public import Idealize.ShloMosaic.Lib.Claim
public import Idealize.ShloMosaic.Lib.StableHlo.RunRead

@[expose] public section

set_option maxRecDepth 16384

noncomputable section

namespace Cert.AdamAdaIdeal.Step

open Idealize.ShloMosaic Idealize.ShloMosaic.TcCoe Idealize.ShloMosaic.Tactic
open Cert.AdamAdaIdeal Cert.AdamAdaIdeal.Gen Cert.AdamAdaIdeal.Value
open Cert.AdamAdaRefIdeal.Read

open Cert.Adam

/-- What the kernel's body computes on a block. -/
theorem body_step (p : FVec Ideal S1x256x384 .f32) (w m v : FVec Ideal S256x384 .f32) :
    IsStep p w m v (out0_4 (F := Ideal) p w m v) (out0_5 (F := Ideal) p w m v) (out0_6 (F := Ideal) p w m v) (out0_7 (F := Ideal) p w m v) where
  grad r l := by
    frame_out
    pointwise [k0_pay1]
    exact (Fin.sum_univ_one fun i => (show EReal from p (ix3 i r l))).symm
  change r l := by
    frame_out
    pointwise [k0_pay4, k0_pay3, k0_pay2, k0_pay1, delta, newM, newV]
  mean r l := by
    frame_out
    pointwise [k0_pay2, k0_pay1, newM]
  square r l := by
    frame_out
    pointwise [k0_pay3, k0_pay1, newV]

/-- What the reference computes. -/
theorem reference_step (p : FVec Ideal S1x1024x384 .f32) (w m v : FVec Ideal S1024x384 .f32) :
    IsStep p w m v (val_main_v0 (F := Ideal) p) (val_main_v24 (F := Ideal) p w m v) (val_main_v5 (F := Ideal) p m) (val_main_v11 (F := Ideal) p v) where
  grad r l := by
    pointwise [val_main_v0, val_main_cst]
  change r l := by
    pointwise [val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_cst_0, val_main_cst_1, val_main_cst_2, val_main_cst_3, val_main_cst_4, val_main_cst_5, val_main_cst_6, val_main_cst_7, val_main_cst_8, delta, newM, newV]
  mean r l := by
    pointwise [val_main_v5, val_main_v4, val_main_v3, val_main_v2, val_main_v1, val_main_cst_0, val_main_cst_1, newM]
  square r l := by
    pointwise [val_main_v11, val_main_v10, val_main_v9, val_main_v8, val_main_v7, val_main_v6, val_main_cst_2, val_main_cst_3, newV]

variable (m : (ℓ : Loc nD τ sig) → Buf (Elt Ideal) ℓ) (c : Dev nD) (t : Fin cfg0.N)

/-- Row `r` of the point's block of rows. -/
def row (t : Fin cfg0.N) (r : Fin 256) : Fin 1024 := ⟨t.val * 256 + r.val, by have := r.isLt; have : t.val < 4 := t.isLt; omega⟩

theorem idx : ∀ t : Fin cfg0.N, win0_0.index t = ![0, t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] :=
  (by decide +kernel : ∀ t : Fin grid0.N, _)

/-! The arguments on chip `c`; the point's blocks are rows of them. -/

abbrev a0 : FVec Ideal S1x1024x384 .f32 := m ((c.tc : Thread nD τ).loc main_arg0)
abbrev a1 : FVec Ideal S1024x384 .f32 := m ((c.tc : Thread nD τ).loc main_arg1)
abbrev a2 : FVec Ideal S1024x384 .f32 := m ((c.tc : Thread nD τ).loc main_arg2)
abbrev a3 : FVec Ideal S1024x384 .f32 := m ((c.tc : Thread nD τ).loc main_arg3)

theorem rows0 : IsRowsOfParts (e := .f32) (row t) (iblk m c 0 t : FVec Ideal S1x256x384 .f32) (a0 m c) := by
  have h : ∀ A : FVec Ideal S1x1024x384 .f32, IsRowsOfParts (e := .f32) (row t) (((cfg0.win 0).blk t).view.read (Elt Ideal) A : FVec Ideal S1x256x384 .f32) A := fun A i r l => by blk_ext! [idx t, row]
  exact fun i r l => (congrFun (congrArg (((cfg0.win 0).blk t).view.read (Elt Ideal)) (V_main_arg0 m c)) _).trans (h _ i r l)

theorem rows1 : IsRows (row t) (iblk m c 1 t : FVec Ideal S256x384 .f32) (a1 m c) := by
  have h : ∀ A : FVec Ideal S1024x384 .f32, IsRows (row t) (((cfg0.win 1).blk t).view.read (Elt Ideal) A : FVec Ideal S256x384 .f32) A := fun A r l => by blk_ext! [idx t, row]
  exact fun r l => (congrFun (congrArg (((cfg0.win 1).blk t).view.read (Elt Ideal)) (V_main_arg1 m c)) _).trans (h _ r l)

theorem rows2 : IsRows (row t) (iblk m c 2 t : FVec Ideal S256x384 .f32) (a2 m c) := by
  have h : ∀ A : FVec Ideal S1024x384 .f32, IsRows (row t) (((cfg0.win 2).blk t).view.read (Elt Ideal) A : FVec Ideal S256x384 .f32) A := fun A r l => by blk_ext! [idx t, row]
  exact fun r l => (congrFun (congrArg (((cfg0.win 2).blk t).view.read (Elt Ideal)) (V_main_arg2 m c)) _).trans (h _ r l)

theorem rows3 : IsRows (row t) (iblk m c 3 t : FVec Ideal S256x384 .f32) (a3 m c) := by
  have h : ∀ A : FVec Ideal S1024x384 .f32, IsRows (row t) (((cfg0.win 3).blk t).view.read (Elt Ideal) A : FVec Ideal S256x384 .f32) A := fun A r l => by blk_ext! [idx t, row]
  exact fun r l => (congrFun (congrArg (((cfg0.win 3).blk t).view.read (Elt Ideal)) (V_main_arg3 m c)) _).trans (h _ r l)

/-! The result arrays. -/

theorem final4 : (dats m 0 c).arrAt 4 (cfgs 0).N = val_main_v0 (F := Ideal) (a0 m c) := by
  refine (dats m 0 c).arrAt_eq_of_covers 4 _ (by decide +kernel) fun t hf y => ?_
  blk_simp
  rw [after0_4, show ((cfg0.win 4).blk t).view.emb y = ix2 (row t (y 0)) (y 1) by blk_ext! [idx t, row]]
  exact ((body_step _ _ _ _).rows_grad (reference_step _ (a1 m c) (a2 m c) (a3 m c)) (rows0 m c t)).at y

theorem final5 : (dats m 0 c).arrAt 5 (cfgs 0).N = val_main_v24 (F := Ideal) (a0 m c) (a1 m c) (a2 m c) (a3 m c) := by
  refine (dats m 0 c).arrAt_eq_of_covers 5 _ (by decide +kernel) fun t hf y => ?_
  blk_simp
  rw [after0_5, show ((cfg0.win 5).blk t).view.emb y = ix2 (row t (y 0)) (y 1) by blk_ext! [idx t, row]]
  exact ((body_step _ _ _ _).rows_change (reference_step _ _ _ _) (rows0 m c t) (rows1 m c t) (rows2 m c t) (rows3 m c t)).at y

theorem final6 : (dats m 0 c).arrAt 6 (cfgs 0).N = val_main_v5 (F := Ideal) (a0 m c) (a2 m c) := by
  refine (dats m 0 c).arrAt_eq_of_covers 6 _ (by decide +kernel) fun t hf y => ?_
  blk_simp
  rw [after0_6, show ((cfg0.win 6).blk t).view.emb y = ix2 (row t (y 0)) (y 1) by blk_ext! [idx t, row]]
  exact ((body_step _ _ _ _).rows_mean (reference_step _ (a1 m c) _ (a3 m c)) (rows0 m c t) (rows2 m c t)).at y

theorem final7 : (dats m 0 c).arrAt 7 (cfgs 0).N = val_main_v11 (F := Ideal) (a0 m c) (a3 m c) := by
  refine (dats m 0 c).arrAt_eq_of_covers 7 _ (by decide +kernel) fun t hf y => ?_
  blk_simp
  rw [after0_7, show ((cfg0.win 7).blk t).view.emb y = ix2 (row t (y 0)) (y 1) by blk_ext! [idx t, row]]
  exact ((body_step _ _ _ _).rows_square (reference_step _ (a1 m c) (a2 m c) _) (rows0 m c t) (rows3 m c t)).at y

end Cert.AdamAdaIdeal.Step
-- ==== Proof.AdamSmallV.lean ====
/- AdamW on the thirteen smaller weights, packed: what its kernel leaves in each result's array is the reference's value. -/
module

public import proofs.«01_k».proof.Proof.Gen.AdamSmallIdeal.Value
public import proofs.«01_k».proof.Proof.Gen.AdamSmallRefIdeal.Read
public import proofs.«01_k».proof.Proof.Adam
public import Idealize.ShloMosaic.Lib.Pointwise
public import Idealize.ShloMosaic.Lib.Pipeline.ValueKit
public import Idealize.ShloMosaic.Lib.Claim
public import Idealize.ShloMosaic.Lib.StableHlo.RunRead

@[expose] public section

set_option maxRecDepth 16384

noncomputable section

namespace Cert.AdamSmallIdeal.Step

open Idealize.ShloMosaic Idealize.ShloMosaic.TcCoe Idealize.ShloMosaic.Tactic
open Cert.AdamSmallIdeal Cert.AdamSmallIdeal.Gen Cert.AdamSmallIdeal.Value
open Cert.AdamSmallRefIdeal.Read

open Cert.Adam

/-- What the kernel's body computes on a block. -/
theorem body_step (p : FVec Ideal S8x1112x128 .f32) (w m v : FVec Ideal S1112x128 .f32) :
    IsStep p w m v (out0_4 (F := Ideal) p w m v) (out0_5 (F := Ideal) p w m v) (out0_6 (F := Ideal) p w m v) (out0_7 (F := Ideal) p w m v) where
  grad r l := by
    frame_out
    pointwise [k0_pay4]
    exact (Fin.sum_univ_eight fun i => (show EReal from p (ix3 i r l))).symm
  change r l := by
    frame_out
    pointwise [k0_pay3, k0_pay2, k0_pay1, k0_pay7, k0_pay8, k0_pay9, k0_pay4, k0_pay5, k0_pay6, delta, newM, newV]
  mean r l := by
    frame_out
    pointwise [k0_pay1, k0_pay7, k0_pay8, k0_pay9, k0_pay4, k0_pay5, k0_pay6, newM]
  square r l := by
    frame_out
    pointwise [k0_pay2, k0_pay7, k0_pay4, newV]

/-- What the reference computes. -/
theorem reference_step (p : FVec Ideal S8x1112x128 .f32) (w m v : FVec Ideal S1112x128 .f32) :
    IsStep p w m v (val_main_v0 (F := Ideal) p) (val_main_v24 (F := Ideal) p w m v) (val_main_v5 (F := Ideal) p m) (val_main_v11 (F := Ideal) p v) where
  grad r l := by
    pointwise [val_main_v0, val_main_cst]
  change r l := by
    pointwise [val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_cst_0, val_main_cst_1, val_main_cst_2, val_main_cst_3, val_main_cst_4, val_main_cst_5, val_main_cst_6, val_main_cst_7, val_main_cst_8, delta, newM, newV]
  mean r l := by
    pointwise [val_main_v5, val_main_v4, val_main_v3, val_main_v2, val_main_v1, val_main_cst_0, val_main_cst_1, newM]
  square r l := by
    pointwise [val_main_v11, val_main_v10, val_main_v9, val_main_v8, val_main_v7, val_main_v6, val_main_cst_2, val_main_cst_3, newV]

variable (m : (ℓ : Loc nD τ sig) → Buf (Elt Ideal) ℓ) (c : Dev nD) (t : Fin cfg0.N)

/-- Row `r` of the point's block of rows. -/
def row (t : Fin cfg0.N) (r : Fin 1112) : Fin 1112 := ⟨t.val * 1112 + r.val, by have := r.isLt; have : t.val < 1 := t.isLt; omega⟩

theorem idx : ∀ t : Fin cfg0.N, win0_0.index t = ![0, t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] :=
  (by decide +kernel : ∀ t : Fin grid0.N, _)

/-! The arguments on chip `c`; the point's blocks are rows of them. -/

abbrev a0 : FVec Ideal S8x1112x128 .f32 := m ((c.tc : Thread nD τ).loc main_arg0)
abbrev a1 : FVec Ideal S1112x128 .f32 := m ((c.tc : Thread nD τ).loc main_arg1)
abbrev a2 : FVec Ideal S1112x128 .f32 := m ((c.tc : Thread nD τ).loc main_arg2)
abbrev a3 : FVec Ideal S1112x128 .f32 := m ((c.tc : Thread nD τ).loc main_arg3)

theorem rows0 : IsRowsOfParts (e := .f32) (row t) (iblk m c 0 t : FVec Ideal S8x1112x128 .f32) (a0 m c) := by
  have h : ∀ A : FVec Ideal S8x1112x128 .f32, IsRowsOfParts (e := .f32) (row t) (((cfg0.win 0).blk t).view.read (Elt Ideal) A : FVec Ideal S8x1112x128 .f32) A := fun A i r l => by blk_ext! [idx t, row]
  exact fun i r l => (congrFun (congrArg (((cfg0.win 0).blk t).view.read (Elt Ideal)) (V_main_arg0 m c)) _).trans (h _ i r l)

theorem rows1 : IsRows (row t) (iblk m c 1 t : FVec Ideal S1112x128 .f32) (a1 m c) := by
  have h : ∀ A : FVec Ideal S1112x128 .f32, IsRows (row t) (((cfg0.win 1).blk t).view.read (Elt Ideal) A : FVec Ideal S1112x128 .f32) A := fun A r l => by blk_ext! [idx t, row]
  exact fun r l => (congrFun (congrArg (((cfg0.win 1).blk t).view.read (Elt Ideal)) (V_main_arg1 m c)) _).trans (h _ r l)

theorem rows2 : IsRows (row t) (iblk m c 2 t : FVec Ideal S1112x128 .f32) (a2 m c) := by
  have h : ∀ A : FVec Ideal S1112x128 .f32, IsRows (row t) (((cfg0.win 2).blk t).view.read (Elt Ideal) A : FVec Ideal S1112x128 .f32) A := fun A r l => by blk_ext! [idx t, row]
  exact fun r l => (congrFun (congrArg (((cfg0.win 2).blk t).view.read (Elt Ideal)) (V_main_arg2 m c)) _).trans (h _ r l)

theorem rows3 : IsRows (row t) (iblk m c 3 t : FVec Ideal S1112x128 .f32) (a3 m c) := by
  have h : ∀ A : FVec Ideal S1112x128 .f32, IsRows (row t) (((cfg0.win 3).blk t).view.read (Elt Ideal) A : FVec Ideal S1112x128 .f32) A := fun A r l => by blk_ext! [idx t, row]
  exact fun r l => (congrFun (congrArg (((cfg0.win 3).blk t).view.read (Elt Ideal)) (V_main_arg3 m c)) _).trans (h _ r l)

/-! The result arrays. -/

theorem final4 : (dats m 0 c).arrAt 4 (cfgs 0).N = val_main_v0 (F := Ideal) (a0 m c) := by
  refine (dats m 0 c).arrAt_eq_of_covers 4 _ (by decide +kernel) fun t hf y => ?_
  blk_simp
  rw [after0_4, show ((cfg0.win 4).blk t).view.emb y = ix2 (row t (y 0)) (y 1) by blk_ext! [idx t, row]]
  exact ((body_step _ _ _ _).rows_grad (reference_step _ (a1 m c) (a2 m c) (a3 m c)) (rows0 m c t)).at y

theorem final5 : (dats m 0 c).arrAt 5 (cfgs 0).N = val_main_v24 (F := Ideal) (a0 m c) (a1 m c) (a2 m c) (a3 m c) := by
  refine (dats m 0 c).arrAt_eq_of_covers 5 _ (by decide +kernel) fun t hf y => ?_
  blk_simp
  rw [after0_5, show ((cfg0.win 5).blk t).view.emb y = ix2 (row t (y 0)) (y 1) by blk_ext! [idx t, row]]
  exact ((body_step _ _ _ _).rows_change (reference_step _ _ _ _) (rows0 m c t) (rows1 m c t) (rows2 m c t) (rows3 m c t)).at y

theorem final6 : (dats m 0 c).arrAt 6 (cfgs 0).N = val_main_v5 (F := Ideal) (a0 m c) (a2 m c) := by
  refine (dats m 0 c).arrAt_eq_of_covers 6 _ (by decide +kernel) fun t hf y => ?_
  blk_simp
  rw [after0_6, show ((cfg0.win 6).blk t).view.emb y = ix2 (row t (y 0)) (y 1) by blk_ext! [idx t, row]]
  exact ((body_step _ _ _ _).rows_mean (reference_step _ (a1 m c) _ (a3 m c)) (rows0 m c t) (rows2 m c t)).at y

theorem final7 : (dats m 0 c).arrAt 7 (cfgs 0).N = val_main_v11 (F := Ideal) (a0 m c) (a3 m c) := by
  refine (dats m 0 c).arrAt_eq_of_covers 7 _ (by decide +kernel) fun t hf y => ?_
  blk_simp
  rw [after0_7, show ((cfg0.win 7).blk t).view.emb y = ix2 (row t (y 0)) (y 1) by blk_ext! [idx t, row]]
  exact ((body_step _ _ _ _).rows_square (reference_step _ (a1 m c) (a2 m c) _) (rows0 m c t) (rows3 m c t)).at y

end Cert.AdamSmallIdeal.Step
-- ==== Proof.WAdaV.lean ====
/- The gradient of the modulation's weight: the kernel's product is the reference's. -/
module

public import proofs.«01_k».proof.Proof.Gen.WAdaIdeal.Value
public import proofs.«01_k».proof.Proof.Gen.WAdaRefIdeal.Read
public import Idealize.ShloMosaic.Lib.Pointwise
public import Idealize.ShloMosaic.Lib.Pipeline.ValueKit
public import Idealize.ShloMosaic.Lib.Claim

@[expose] public section

set_option maxRecDepth 16384

noncomputable section

namespace Cert.WAdaIdeal.Grad

open Idealize.ShloMosaic Idealize.ShloMosaic.TcCoe Idealize.ShloMosaic.Tactic
open Cert.WAdaIdeal Cert.WAdaIdeal.Gen Cert.WAdaIdeal.Value
open Cert.WAdaRefIdeal.Read

theorem product (a : FVec Ideal S8x1024 .f32) (b : FVec Ideal S8x384 .f32) : G2 (F := Ideal) a b = val_main_v7 (F := Ideal) a b := by
  funext j
  obtain ⟨i, r, l, rfl⟩ : ∃ i r l, j = ix3 i r l := ⟨j 0, j 1, j 2, by funext a; fin_cases a <;> rfl⟩
  pointwise [k0_pay1, val_main_v7, val_main_v6, val_main_v5]
  exact Finset.sum_congr rfl fun _ _ => mul_comm _ _

end Cert.WAdaIdeal.Grad

end
-- ==== Proof.DwQV.lean ====
/- The array the call with operands 1024 and 512 wide leaves is the reference's gradient of the weight: the four points' products, added
   up, are the product over all the rows. -/
module

public import proofs.«01_k».proof.Proof.Gen.DwQIdeal.Value
public import proofs.«01_k».proof.Proof.Gen.DwQRefIdeal.Read
public import Idealize.ShloMosaic.Lib.Pointwise
public import Idealize.ShloMosaic.Lib.Pipeline.ValueKit
public import Idealize.ShloMosaic.Lib.Claim

@[expose] public section

set_option maxRecDepth 16384

noncomputable section

namespace Cert.DwQIdeal.Grad

open Idealize.ShloMosaic Idealize.ShloMosaic.TcCoe Idealize.ShloMosaic.Tactic
open Cert.DwQIdeal Cert.DwQIdeal.Gen Cert.DwQIdeal.Value
open Cert.DwQRefIdeal.Read

/-- The product over the rows `a` and `b` share, at one place of the weight. -/
def part {n : ℕ} {ea eb : FTy} (a : FVec Ideal (⟨2, ![n, 1024]⟩) ea) (b : FVec Ideal (⟨2, ![n, 512]⟩) eb) (j : S1024x512.Idx) : EReal :=
  ∑ k : Fin n, (show EReal from a (ix2 k (j 0))) * (show EReal from b (ix2 k (j 1)))

theorem pay1_at (j : S1024x512.Idx) : k0_pay1 (F := Ideal) j = (0 : EReal) := by
  pointwise [k0_pay1]

theorem pay2_at (o : FVec Ideal S1024x512 .f32) (a : FVec Ideal S2048x1024 .bf16) (b : FVec Ideal S2048x512 .f32) (j : S1024x512.Idx) :
    (show EReal from k0_pay2 (F := Ideal) o a b j) = (show EReal from o j) + part a b j := by
  obtain ⟨r, l, rfl⟩ : ∃ r l, j = ix2 r l := ⟨j 0, j 1, by funext a; fin_cases a <;> rfl⟩
  pointwise [k0_pay2, part]

theorem ref_at (a : FVec Ideal S8192x1024 .bf16) (b : FVec Ideal S8192x512 .f32) (j : S1024x512.Idx) :
    (show EReal from val_main_v4 (F := Ideal) a b j) = part a b j := by
  obtain ⟨r, l, rfl⟩ : ∃ r l, j = ix2 r l := ⟨j 0, j 1, by funext a; fin_cases a <;> rfl⟩
  pointwise [val_main_v4, val_main_v3, val_main_v1, part]
  exact Finset.sum_congr rfl fun _ _ => mul_comm _ _

variable (m : (ℓ : Loc nD τ sig) → Buf (Elt Ideal) ℓ) (c : Dev nD)

theorem idx : ∀ t : Fin cfg0.N, win0_0.index t = ![t.val, 0] ∧ win0_1.index t = ![t.val, 0] ∧ win0_2.index t = ![0, 0] :=
  (by decide +kernel : ∀ t : Fin grid0.N, _)

variable (t : Fin cfg0.N)

/-- Row `r` of point `t`'s block is row `2048 t + r` of the array. -/
theorem rowsA (k : Fin 2048) (r : Fin 1024) (h : t.val * 2048 + k.val < 8192) : (show FVec Ideal S2048x1024 .bf16 from iblk m c 0 t) (ix2 k r) = (m ((c.tc : Thread nD τ).loc main_arg0) : FVec Ideal S8192x1024 .bf16) (ix2 ⟨t.val * 2048 + k.val, h⟩ r) := by
  have h : ∀ A : FVec Ideal S8192x1024 .bf16, (show FVec Ideal S2048x1024 .bf16 from ((cfg0.win 0).blk t).view.read (Elt Ideal) A) (ix2 k r) = A (ix2 ⟨t.val * 2048 + k.val, h⟩ r) := fun A => by
    blk_ext! [idx t]
  exact (congrFun (congrArg (((cfg0.win 0).blk t).view.read (Elt Ideal)) (V_main_arg0 m c)) _).trans (h _)

theorem rowsB (k : Fin 2048) (r : Fin 512) (h : t.val * 2048 + k.val < 8192) : (show FVec Ideal S2048x512 .f32 from iblk m c 1 t) (ix2 k r) = (m ((c.tc : Thread nD τ).loc main_arg1) : FVec Ideal S8192x512 .f32) (ix2 ⟨t.val * 2048 + k.val, h⟩ r) := by
  have h : ∀ A : FVec Ideal S8192x512 .f32, (show FVec Ideal S2048x512 .f32 from ((cfg0.win 1).blk t).view.read (Elt Ideal) A) (ix2 k r) = A (ix2 ⟨t.val * 2048 + k.val, h⟩ r) := fun A => by
    blk_ext! [idx t]
  exact (congrFun (congrArg (((cfg0.win 1).blk t).view.read (Elt Ideal)) (V_main_arg1 m c)) _).trans (h _)

/-- After the last point the output block holds the sum of the four points' products. -/
theorem outs (j : S1024x512.Idx) : (show EReal from outsAt0 m c t0_3.val t0_3.isLt j) = 0 + ∑ p : Fin cfg0.N, part (ea := .bf16) (eb := .f32) (iblk m c 0 p) (iblk m c 1 p) j :=
  Pipeline.eq_sum_fin_of_reset_step_apply_last (M := EReal) (fun n h => outsAt0 m c n h) 4 (fun _ => 0) (fun p j => part (ea := .bf16) (eb := .f32) (iblk m c 0 p) (iblk m c 1 p) j)
    (fun t h j => by
      rw [outsAt0_A m c t h, out_A_2_eq]
      exact (pay2_at _ _ _ j).trans (congrArg (· + part (ea := .bf16) (eb := .f32) (iblk m c 0 t) (iblk m c 1 t) j) (pay1_at j)))
    (fun t h j => by
      rw [outsAt0_B m c t h, out_B_2_eq]
      exact pay2_at _ _ _ j)
    (le_of_eq N_0) t0_3 rfl j

/-- The array after the run. -/
theorem final : (dats m 0 c).arrAt 2 cfg0.N = val_main_v4 (F := Ideal) (m ((c.tc : Thread nD τ).loc main_arg0)) (m ((c.tc : Thread nD τ).loc main_arg1)) := by
  refine (dats m 0 c).arrAt_eq_of_after_last 2 t0_3 (by decide +kernel) _ fun j => ?_
  rw [after0_2]
  blk_simp
  refine Eq.trans (b := (show EReal from outsAt0 m c t0_3.val t0_3.isLt j)) rfl ((outs m c j).trans ((zero_add _).trans (Eq.trans ?_ (ref_at _ _ j).symm)))
  unfold part
  refine Fin.sum_mul_add_congr (S := cfg0.N) (n := 2048) (fun t k h => ?_) (by rw [show cfg0.N = 4 from N_0])
  exact congrArg₂ (fun x y : EReal => x * y) (rowsA m c t k _ h) (rowsB m c t k _ h)

end Cert.DwQIdeal.Grad

end
-- ==== Proof.DwKV.lean ====
/- The array the call with operands 1024 and 512 wide leaves is the reference's gradient of the weight: the four points' products, added
   up, are the product over all the rows. -/
module

public import proofs.«01_k».proof.Proof.Gen.DwKIdeal.Value
public import proofs.«01_k».proof.Proof.Gen.DwKRefIdeal.Read
public import Idealize.ShloMosaic.Lib.Pointwise
public import Idealize.ShloMosaic.Lib.Pipeline.ValueKit
public import Idealize.ShloMosaic.Lib.Claim

@[expose] public section

set_option maxRecDepth 16384

noncomputable section

namespace Cert.DwKIdeal.Grad

open Idealize.ShloMosaic Idealize.ShloMosaic.TcCoe Idealize.ShloMosaic.Tactic
open Cert.DwKIdeal Cert.DwKIdeal.Gen Cert.DwKIdeal.Value
open Cert.DwKRefIdeal.Read

/-- The product over the rows `a` and `b` share, at one place of the weight. -/
def part {n : ℕ} {ea eb : FTy} (a : FVec Ideal (⟨2, ![n, 1024]⟩) ea) (b : FVec Ideal (⟨2, ![n, 512]⟩) eb) (j : S1024x512.Idx) : EReal :=
  ∑ k : Fin n, (show EReal from a (ix2 k (j 0))) * (show EReal from b (ix2 k (j 1)))

theorem pay1_at (j : S1024x512.Idx) : k0_pay1 (F := Ideal) j = (0 : EReal) := by
  pointwise [k0_pay1]

theorem pay2_at (o : FVec Ideal S1024x512 .f32) (a : FVec Ideal S2048x1024 .bf16) (b : FVec Ideal S2048x512 .bf16) (j : S1024x512.Idx) :
    (show EReal from k0_pay2 (F := Ideal) o a b j) = (show EReal from o j) + part a b j := by
  obtain ⟨r, l, rfl⟩ : ∃ r l, j = ix2 r l := ⟨j 0, j 1, by funext a; fin_cases a <;> rfl⟩
  pointwise [k0_pay2, part]

theorem ref_at (a : FVec Ideal S8192x1024 .bf16) (b : FVec Ideal S8192x512 .bf16) (j : S1024x512.Idx) :
    (show EReal from val_main_v5 (F := Ideal) a b j) = part a b j := by
  obtain ⟨r, l, rfl⟩ : ∃ r l, j = ix2 r l := ⟨j 0, j 1, by funext a; fin_cases a <;> rfl⟩
  pointwise [val_main_v5, val_main_v4, val_main_v3, val_main_v1, part]
  exact Finset.sum_congr rfl fun _ _ => mul_comm _ _

variable (m : (ℓ : Loc nD τ sig) → Buf (Elt Ideal) ℓ) (c : Dev nD)

theorem idx : ∀ t : Fin cfg0.N, win0_0.index t = ![t.val, 0] ∧ win0_1.index t = ![t.val, 0] ∧ win0_2.index t = ![0, 0] :=
  (by decide +kernel : ∀ t : Fin grid0.N, _)

variable (t : Fin cfg0.N)

/-- Row `r` of point `t`'s block is row `2048 t + r` of the array. -/
theorem rowsA (k : Fin 2048) (r : Fin 1024) (h : t.val * 2048 + k.val < 8192) : (show FVec Ideal S2048x1024 .bf16 from iblk m c 0 t) (ix2 k r) = (m ((c.tc : Thread nD τ).loc main_arg0) : FVec Ideal S8192x1024 .bf16) (ix2 ⟨t.val * 2048 + k.val, h⟩ r) := by
  have h : ∀ A : FVec Ideal S8192x1024 .bf16, (show FVec Ideal S2048x1024 .bf16 from ((cfg0.win 0).blk t).view.read (Elt Ideal) A) (ix2 k r) = A (ix2 ⟨t.val * 2048 + k.val, h⟩ r) := fun A => by
    blk_ext! [idx t]
  exact (congrFun (congrArg (((cfg0.win 0).blk t).view.read (Elt Ideal)) (V_main_arg0 m c)) _).trans (h _)

theorem rowsB (k : Fin 2048) (r : Fin 512) (h : t.val * 2048 + k.val < 8192) : (show FVec Ideal S2048x512 .bf16 from iblk m c 1 t) (ix2 k r) = (m ((c.tc : Thread nD τ).loc main_arg1) : FVec Ideal S8192x512 .bf16) (ix2 ⟨t.val * 2048 + k.val, h⟩ r) := by
  have h : ∀ A : FVec Ideal S8192x512 .bf16, (show FVec Ideal S2048x512 .bf16 from ((cfg0.win 1).blk t).view.read (Elt Ideal) A) (ix2 k r) = A (ix2 ⟨t.val * 2048 + k.val, h⟩ r) := fun A => by
    blk_ext! [idx t]
  exact (congrFun (congrArg (((cfg0.win 1).blk t).view.read (Elt Ideal)) (V_main_arg1 m c)) _).trans (h _)

/-- After the last point the output block holds the sum of the four points' products. -/
theorem outs (j : S1024x512.Idx) : (show EReal from outsAt0 m c t0_3.val t0_3.isLt j) = 0 + ∑ p : Fin cfg0.N, part (ea := .bf16) (eb := .bf16) (iblk m c 0 p) (iblk m c 1 p) j :=
  Pipeline.eq_sum_fin_of_reset_step_apply_last (M := EReal) (fun n h => outsAt0 m c n h) 4 (fun _ => 0) (fun p j => part (ea := .bf16) (eb := .bf16) (iblk m c 0 p) (iblk m c 1 p) j)
    (fun t h j => by
      rw [outsAt0_A m c t h, out_A_2_eq]
      exact (pay2_at _ _ _ j).trans (congrArg (· + part (ea := .bf16) (eb := .bf16) (iblk m c 0 t) (iblk m c 1 t) j) (pay1_at j)))
    (fun t h j => by
      rw [outsAt0_B m c t h, out_B_2_eq]
      exact pay2_at _ _ _ j)
    (le_of_eq N_0) t0_3 rfl j

/-- The array after the run. -/
theorem final : (dats m 0 c).arrAt 2 cfg0.N = val_main_v5 (F := Ideal) (m ((c.tc : Thread nD τ).loc main_arg0)) (m ((c.tc : Thread nD τ).loc main_arg1)) := by
  refine (dats m 0 c).arrAt_eq_of_after_last 2 t0_3 (by decide +kernel) _ fun j => ?_
  rw [after0_2]
  blk_simp
  refine Eq.trans (b := (show EReal from outsAt0 m c t0_3.val t0_3.isLt j)) rfl ((outs m c j).trans ((zero_add _).trans (Eq.trans ?_ (ref_at _ _ j).symm)))
  unfold part
  refine Fin.sum_mul_add_congr (S := cfg0.N) (n := 2048) (fun t k h => ?_) (by rw [show cfg0.N = 4 from N_0])
  exact congrArg₂ (fun x y : EReal => x * y) (rowsA m c t k _ h) (rowsB m c t k _ h)

end Cert.DwKIdeal.Grad

end
-- ==== Proof.DwFV.lean ====
/- The array the call with operands 1024 and 8 wide leaves is the reference's gradient of the weight: the four points' products, added
   up, are the product over all the rows. -/
module

public import proofs.«01_k».proof.Proof.Gen.DwFIdeal.Value
public import proofs.«01_k».proof.Proof.Gen.DwFRefIdeal.Read
public import Idealize.ShloMosaic.Lib.Pointwise
public import Idealize.ShloMosaic.Lib.Pipeline.ValueKit
public import Idealize.ShloMosaic.Lib.Claim

@[expose] public section

set_option maxRecDepth 16384

noncomputable section

namespace Cert.DwFIdeal.Grad

open Idealize.ShloMosaic Idealize.ShloMosaic.TcCoe Idealize.ShloMosaic.Tactic
open Cert.DwFIdeal Cert.DwFIdeal.Gen Cert.DwFIdeal.Value
open Cert.DwFRefIdeal.Read

/-- The product over the rows `a` and `b` share, at one place of the weight. -/
def part {n : ℕ} {ea eb : FTy} (a : FVec Ideal (⟨2, ![n, 1024]⟩) ea) (b : FVec Ideal (⟨2, ![n, 8]⟩) eb) (j : S1024x8.Idx) : EReal :=
  ∑ k : Fin n, (show EReal from a (ix2 k (j 0))) * (show EReal from b (ix2 k (j 1)))

theorem pay1_at (j : S1024x8.Idx) : k0_pay1 (F := Ideal) j = (0 : EReal) := by
  pointwise [k0_pay1]

theorem pay2_at (o : FVec Ideal S1024x8 .f32) (a : FVec Ideal S2048x1024 .bf16) (b : FVec Ideal S2048x8 .f32) (j : S1024x8.Idx) :
    (show EReal from k0_pay2 (F := Ideal) o a b j) = (show EReal from o j) + part a b j := by
  obtain ⟨r, l, rfl⟩ : ∃ r l, j = ix2 r l := ⟨j 0, j 1, by funext a; fin_cases a <;> rfl⟩
  pointwise [k0_pay2, part]

theorem ref_at (a : FVec Ideal S8192x1024 .bf16) (b : FVec Ideal S8192x8 .f32) (j : S1024x8.Idx) :
    (show EReal from val_main_v4 (F := Ideal) a b j) = part a b j := by
  obtain ⟨r, l, rfl⟩ : ∃ r l, j = ix2 r l := ⟨j 0, j 1, by funext a; fin_cases a <;> rfl⟩
  pointwise [val_main_v4, val_main_v3, val_main_v1, part]
  exact Finset.sum_congr rfl fun _ _ => mul_comm _ _

variable (m : (ℓ : Loc nD τ sig) → Buf (Elt Ideal) ℓ) (c : Dev nD)

theorem idx : ∀ t : Fin cfg0.N, win0_0.index t = ![t.val, 0] ∧ win0_1.index t = ![t.val, 0] ∧ win0_2.index t = ![0, 0] :=
  (by decide +kernel : ∀ t : Fin grid0.N, _)

variable (t : Fin cfg0.N)

/-- Row `r` of point `t`'s block is row `2048 t + r` of the array. -/
theorem rowsA (k : Fin 2048) (r : Fin 1024) (h : t.val * 2048 + k.val < 8192) : (show FVec Ideal S2048x1024 .bf16 from iblk m c 0 t) (ix2 k r) = (m ((c.tc : Thread nD τ).loc main_arg0) : FVec Ideal S8192x1024 .bf16) (ix2 ⟨t.val * 2048 + k.val, h⟩ r) := by
  have h : ∀ A : FVec Ideal S8192x1024 .bf16, (show FVec Ideal S2048x1024 .bf16 from ((cfg0.win 0).blk t).view.read (Elt Ideal) A) (ix2 k r) = A (ix2 ⟨t.val * 2048 + k.val, h⟩ r) := fun A => by
    blk_ext! [idx t]
  exact (congrFun (congrArg (((cfg0.win 0).blk t).view.read (Elt Ideal)) (V_main_arg0 m c)) _).trans (h _)

theorem rowsB (k : Fin 2048) (r : Fin 8) (h : t.val * 2048 + k.val < 8192) : (show FVec Ideal S2048x8 .f32 from iblk m c 1 t) (ix2 k r) = (m ((c.tc : Thread nD τ).loc main_arg1) : FVec Ideal S8192x8 .f32) (ix2 ⟨t.val * 2048 + k.val, h⟩ r) := by
  have h : ∀ A : FVec Ideal S8192x8 .f32, (show FVec Ideal S2048x8 .f32 from ((cfg0.win 1).blk t).view.read (Elt Ideal) A) (ix2 k r) = A (ix2 ⟨t.val * 2048 + k.val, h⟩ r) := fun A => by
    blk_ext! [idx t]
  exact (congrFun (congrArg (((cfg0.win 1).blk t).view.read (Elt Ideal)) (V_main_arg1 m c)) _).trans (h _)

/-- After the last point the output block holds the sum of the four points' products. -/
theorem outs (j : S1024x8.Idx) : (show EReal from outsAt0 m c t0_3.val t0_3.isLt j) = 0 + ∑ p : Fin cfg0.N, part (ea := .bf16) (eb := .f32) (iblk m c 0 p) (iblk m c 1 p) j :=
  Pipeline.eq_sum_fin_of_reset_step_apply_last (M := EReal) (fun n h => outsAt0 m c n h) 4 (fun _ => 0) (fun p j => part (ea := .bf16) (eb := .f32) (iblk m c 0 p) (iblk m c 1 p) j)
    (fun t h j => by
      rw [outsAt0_A m c t h, out_A_2_eq]
      exact (pay2_at _ _ _ j).trans (congrArg (· + part (ea := .bf16) (eb := .f32) (iblk m c 0 t) (iblk m c 1 t) j) (pay1_at j)))
    (fun t h j => by
      rw [outsAt0_B m c t h, out_B_2_eq]
      exact pay2_at _ _ _ j)
    (le_of_eq N_0) t0_3 rfl j

/-- The array after the run. -/
theorem final : (dats m 0 c).arrAt 2 cfg0.N = val_main_v4 (F := Ideal) (m ((c.tc : Thread nD τ).loc main_arg0)) (m ((c.tc : Thread nD τ).loc main_arg1)) := by
  refine (dats m 0 c).arrAt_eq_of_after_last 2 t0_3 (by decide +kernel) _ fun j => ?_
  rw [after0_2]
  blk_simp
  refine Eq.trans (b := (show EReal from outsAt0 m c t0_3.val t0_3.isLt j)) rfl ((outs m c j).trans ((zero_add _).trans (Eq.trans ?_ (ref_at _ _ j).symm)))
  unfold part
  refine Fin.sum_mul_add_congr (S := cfg0.N) (n := 2048) (fun t k h => ?_) (by rw [show cfg0.N = 4 from N_0])
  exact congrArg₂ (fun x y : EReal => x * y) (rowsA m c t k _ h) (rowsB m c t k _ h)

end Cert.DwFIdeal.Grad

end
-- ==== Proof.DwGV.lean ====
/- The array the call with operands 1024 and 1024 wide leaves is the reference's gradient of the weight: the four points' products, added
   up, are the product over all the rows. -/
module

public import proofs.«01_k».proof.Proof.Gen.DwGIdeal.Value
public import proofs.«01_k».proof.Proof.Gen.DwGRefIdeal.Read
public import Idealize.ShloMosaic.Lib.Pointwise
public import Idealize.ShloMosaic.Lib.Pipeline.ValueKit
public import Idealize.ShloMosaic.Lib.Claim

@[expose] public section

set_option maxRecDepth 16384

noncomputable section

namespace Cert.DwGIdeal.Grad

open Idealize.ShloMosaic Idealize.ShloMosaic.TcCoe Idealize.ShloMosaic.Tactic
open Cert.DwGIdeal Cert.DwGIdeal.Gen Cert.DwGIdeal.Value
open Cert.DwGRefIdeal.Read

/-- The product over the rows `a` and `b` share, at one place of the weight. -/
def part {n : ℕ} {ea eb : FTy} (a : FVec Ideal (⟨2, ![n, 1024]⟩) ea) (b : FVec Ideal (⟨2, ![n, 1024]⟩) eb) (j : S1024x1024.Idx) : EReal :=
  ∑ k : Fin n, (show EReal from a (ix2 k (j 0))) * (show EReal from b (ix2 k (j 1)))

theorem pay1_at (j : S1024x1024.Idx) : k0_pay1 (F := Ideal) j = (0 : EReal) := by
  pointwise [k0_pay1]

theorem pay2_at (o : FVec Ideal S1024x1024 .f32) (a : FVec Ideal S2048x1024 .bf16) (b : FVec Ideal S2048x1024 .bf16) (j : S1024x1024.Idx) :
    (show EReal from k0_pay2 (F := Ideal) o a b j) = (show EReal from o j) + part a b j := by
  obtain ⟨r, l, rfl⟩ : ∃ r l, j = ix2 r l := ⟨j 0, j 1, by funext a; fin_cases a <;> rfl⟩
  pointwise [k0_pay2, part]

theorem ref_at (a : FVec Ideal S8192x1024 .bf16) (b : FVec Ideal S8192x1024 .bf16) (j : S1024x1024.Idx) :
    (show EReal from val_main_v5 (F := Ideal) a b j) = part a b j := by
  obtain ⟨r, l, rfl⟩ : ∃ r l, j = ix2 r l := ⟨j 0, j 1, by funext a; fin_cases a <;> rfl⟩
  pointwise [val_main_v5, val_main_v4, val_main_v3, val_main_v1, part]
  exact Finset.sum_congr rfl fun _ _ => mul_comm _ _

variable (m : (ℓ : Loc nD τ sig) → Buf (Elt Ideal) ℓ) (c : Dev nD)

theorem idx : ∀ t : Fin cfg0.N, win0_0.index t = ![t.val, 0] ∧ win0_1.index t = ![t.val, 0] ∧ win0_2.index t = ![0, 0] :=
  (by decide +kernel : ∀ t : Fin grid0.N, _)

variable (t : Fin cfg0.N)

/-- Row `r` of point `t`'s block is row `2048 t + r` of the array. -/
theorem rowsA (k : Fin 2048) (r : Fin 1024) (h : t.val * 2048 + k.val < 8192) : (show FVec Ideal S2048x1024 .bf16 from iblk m c 0 t) (ix2 k r) = (m ((c.tc : Thread nD τ).loc main_arg0) : FVec Ideal S8192x1024 .bf16) (ix2 ⟨t.val * 2048 + k.val, h⟩ r) := by
  have h : ∀ A : FVec Ideal S8192x1024 .bf16, (show FVec Ideal S2048x1024 .bf16 from ((cfg0.win 0).blk t).view.read (Elt Ideal) A) (ix2 k r) = A (ix2 ⟨t.val * 2048 + k.val, h⟩ r) := fun A => by
    blk_ext! [idx t]
  exact (congrFun (congrArg (((cfg0.win 0).blk t).view.read (Elt Ideal)) (V_main_arg0 m c)) _).trans (h _)

theorem rowsB (k : Fin 2048) (r : Fin 1024) (h : t.val * 2048 + k.val < 8192) : (show FVec Ideal S2048x1024 .bf16 from iblk m c 1 t) (ix2 k r) = (m ((c.tc : Thread nD τ).loc main_arg1) : FVec Ideal S8192x1024 .bf16) (ix2 ⟨t.val * 2048 + k.val, h⟩ r) := by
  have h : ∀ A : FVec Ideal S8192x1024 .bf16, (show FVec Ideal S2048x1024 .bf16 from ((cfg0.win 1).blk t).view.read (Elt Ideal) A) (ix2 k r) = A (ix2 ⟨t.val * 2048 + k.val, h⟩ r) := fun A => by
    blk_ext! [idx t]
  exact (congrFun (congrArg (((cfg0.win 1).blk t).view.read (Elt Ideal)) (V_main_arg1 m c)) _).trans (h _)

/-- After the last point the output block holds the sum of the four points' products. -/
theorem outs (j : S1024x1024.Idx) : (show EReal from outsAt0 m c t0_3.val t0_3.isLt j) = 0 + ∑ p : Fin cfg0.N, part (ea := .bf16) (eb := .bf16) (iblk m c 0 p) (iblk m c 1 p) j :=
  Pipeline.eq_sum_fin_of_reset_step_apply_last (M := EReal) (fun n h => outsAt0 m c n h) 4 (fun _ => 0) (fun p j => part (ea := .bf16) (eb := .bf16) (iblk m c 0 p) (iblk m c 1 p) j)
    (fun t h j => by
      rw [outsAt0_A m c t h, out_A_2_eq]
      exact (pay2_at _ _ _ j).trans (congrArg (· + part (ea := .bf16) (eb := .bf16) (iblk m c 0 t) (iblk m c 1 t) j) (pay1_at j)))
    (fun t h j => by
      rw [outsAt0_B m c t h, out_B_2_eq]
      exact pay2_at _ _ _ j)
    (le_of_eq N_0) t0_3 rfl j

/-- The array after the run. -/
theorem final : (dats m 0 c).arrAt 2 cfg0.N = val_main_v5 (F := Ideal) (m ((c.tc : Thread nD τ).loc main_arg0)) (m ((c.tc : Thread nD τ).loc main_arg1)) := by
  refine (dats m 0 c).arrAt_eq_of_after_last 2 t0_3 (by decide +kernel) _ fun j => ?_
  rw [after0_2]
  blk_simp
  refine Eq.trans (b := (show EReal from outsAt0 m c t0_3.val t0_3.isLt j)) rfl ((outs m c j).trans ((zero_add _).trans (Eq.trans ?_ (ref_at _ _ j).symm)))
  unfold part
  refine Fin.sum_mul_add_congr (S := cfg0.N) (n := 2048) (fun t k h => ?_) (by rw [show cfg0.N = 4 from N_0])
  exact congrArg₂ (fun x y : EReal => x * y) (rowsA m c t k _ h) (rowsB m c t k _ h)

end Cert.DwGIdeal.Grad

end
-- ==== Proof.DwUpV.lean ====
/- The array the call with operands 512 and 1024 wide leaves is the reference's gradient of the weight: the four points' products, added
   up, are the product over all the rows. -/
module

public import proofs.«01_k».proof.Proof.Gen.DwUpIdeal.Value
public import proofs.«01_k».proof.Proof.Gen.DwUpRefIdeal.Read
public import Idealize.ShloMosaic.Lib.Pointwise
public import Idealize.ShloMosaic.Lib.Pipeline.ValueKit
public import Idealize.ShloMosaic.Lib.Claim

@[expose] public section

set_option maxRecDepth 16384

noncomputable section

namespace Cert.DwUpIdeal.Grad

open Idealize.ShloMosaic Idealize.ShloMosaic.TcCoe Idealize.ShloMosaic.Tactic
open Cert.DwUpIdeal Cert.DwUpIdeal.Gen Cert.DwUpIdeal.Value
open Cert.DwUpRefIdeal.Read

/-- The product over the rows `a` and `b` share, at one place of the weight. -/
def part {n : ℕ} {ea eb : FTy} (a : FVec Ideal (⟨2, ![n, 512]⟩) ea) (b : FVec Ideal (⟨2, ![n, 1024]⟩) eb) (j : S512x1024.Idx) : EReal :=
  ∑ k : Fin n, (show EReal from a (ix2 k (j 0))) * (show EReal from b (ix2 k (j 1)))

theorem pay1_at (j : S512x1024.Idx) : k0_pay1 (F := Ideal) j = (0 : EReal) := by
  pointwise [k0_pay1]

theorem pay2_at (o : FVec Ideal S512x1024 .f32) (a : FVec Ideal S2048x512 .bf16) (b : FVec Ideal S2048x1024 .bf16) (j : S512x1024.Idx) :
    (show EReal from k0_pay2 (F := Ideal) o a b j) = (show EReal from o j) + part a b j := by
  obtain ⟨r, l, rfl⟩ : ∃ r l, j = ix2 r l := ⟨j 0, j 1, by funext a; fin_cases a <;> rfl⟩
  pointwise [k0_pay2, part]

theorem ref_at (a : FVec Ideal S8192x512 .bf16) (b : FVec Ideal S8192x1024 .bf16) (j : S512x1024.Idx) :
    (show EReal from val_main_v5 (F := Ideal) a b j) = part a b j := by
  obtain ⟨r, l, rfl⟩ : ∃ r l, j = ix2 r l := ⟨j 0, j 1, by funext a; fin_cases a <;> rfl⟩
  pointwise [val_main_v5, val_main_v4, val_main_v3, val_main_v1, part]
  exact Finset.sum_congr rfl fun _ _ => mul_comm _ _

variable (m : (ℓ : Loc nD τ sig) → Buf (Elt Ideal) ℓ) (c : Dev nD)

theorem idx : ∀ t : Fin cfg0.N, win0_0.index t = ![t.val, 0] ∧ win0_1.index t = ![t.val, 0] ∧ win0_2.index t = ![0, 0] :=
  (by decide +kernel : ∀ t : Fin grid0.N, _)

variable (t : Fin cfg0.N)

/-- Row `r` of point `t`'s block is row `2048 t + r` of the array. -/
theorem rowsA (k : Fin 2048) (r : Fin 512) (h : t.val * 2048 + k.val < 8192) : (show FVec Ideal S2048x512 .bf16 from iblk m c 0 t) (ix2 k r) = (m ((c.tc : Thread nD τ).loc main_arg0) : FVec Ideal S8192x512 .bf16) (ix2 ⟨t.val * 2048 + k.val, h⟩ r) := by
  have h : ∀ A : FVec Ideal S8192x512 .bf16, (show FVec Ideal S2048x512 .bf16 from ((cfg0.win 0).blk t).view.read (Elt Ideal) A) (ix2 k r) = A (ix2 ⟨t.val * 2048 + k.val, h⟩ r) := fun A => by
    blk_ext! [idx t]
  exact (congrFun (congrArg (((cfg0.win 0).blk t).view.read (Elt Ideal)) (V_main_arg0 m c)) _).trans (h _)

theorem rowsB (k : Fin 2048) (r : Fin 1024) (h : t.val * 2048 + k.val < 8192) : (show FVec Ideal S2048x1024 .bf16 from iblk m c 1 t) (ix2 k r) = (m ((c.tc : Thread nD τ).loc main_arg1) : FVec Ideal S8192x1024 .bf16) (ix2 ⟨t.val * 2048 + k.val, h⟩ r) := by
  have h : ∀ A : FVec Ideal S8192x1024 .bf16, (show FVec Ideal S2048x1024 .bf16 from ((cfg0.win 1).blk t).view.read (Elt Ideal) A) (ix2 k r) = A (ix2 ⟨t.val * 2048 + k.val, h⟩ r) := fun A => by
    blk_ext! [idx t]
  exact (congrFun (congrArg (((cfg0.win 1).blk t).view.read (Elt Ideal)) (V_main_arg1 m c)) _).trans (h _)

/-- After the last point the output block holds the sum of the four points' products. -/
theorem outs (j : S512x1024.Idx) : (show EReal from outsAt0 m c t0_3.val t0_3.isLt j) = 0 + ∑ p : Fin cfg0.N, part (ea := .bf16) (eb := .bf16) (iblk m c 0 p) (iblk m c 1 p) j :=
  Pipeline.eq_sum_fin_of_reset_step_apply_last (M := EReal) (fun n h => outsAt0 m c n h) 4 (fun _ => 0) (fun p j => part (ea := .bf16) (eb := .bf16) (iblk m c 0 p) (iblk m c 1 p) j)
    (fun t h j => by
      rw [outsAt0_A m c t h, out_A_2_eq]
      exact (pay2_at _ _ _ j).trans (congrArg (· + part (ea := .bf16) (eb := .bf16) (iblk m c 0 t) (iblk m c 1 t) j) (pay1_at j)))
    (fun t h j => by
      rw [outsAt0_B m c t h, out_B_2_eq]
      exact pay2_at _ _ _ j)
    (le_of_eq N_0) t0_3 rfl j

/-- The array after the run. -/
theorem final : (dats m 0 c).arrAt 2 cfg0.N = val_main_v5 (F := Ideal) (m ((c.tc : Thread nD τ).loc main_arg0)) (m ((c.tc : Thread nD τ).loc main_arg1)) := by
  refine (dats m 0 c).arrAt_eq_of_after_last 2 t0_3 (by decide +kernel) _ fun j => ?_
  rw [after0_2]
  blk_simp
  refine Eq.trans (b := (show EReal from outsAt0 m c t0_3.val t0_3.isLt j)) rfl ((outs m c j).trans ((zero_add _).trans (Eq.trans ?_ (ref_at _ _ j).symm)))
  unfold part
  refine Fin.sum_mul_add_congr (S := cfg0.N) (n := 2048) (fun t k h => ?_) (by rw [show cfg0.N = 4 from N_0])
  exact congrArg₂ (fun x y : EReal => x * y) (rowsA m c t k _ h) (rowsB m c t k _ h)

end Cert.DwUpIdeal.Grad

end
-- ==== Proof.DwGluV.lean ====
/- The array the call with operands 512 and 512 wide leaves is the reference's gradient of the weight: the four points' products, added
   up, are the product over all the rows. -/
module

public import proofs.«01_k».proof.Proof.Gen.DwGluIdeal.Value
public import proofs.«01_k».proof.Proof.Gen.DwGluRefIdeal.Read
public import Idealize.ShloMosaic.Lib.Pointwise
public import Idealize.ShloMosaic.Lib.Pipeline.ValueKit
public import Idealize.ShloMosaic.Lib.Claim

@[expose] public section

set_option maxRecDepth 16384

noncomputable section

namespace Cert.DwGluIdeal.Grad

open Idealize.ShloMosaic Idealize.ShloMosaic.TcCoe Idealize.ShloMosaic.Tactic
open Cert.DwGluIdeal Cert.DwGluIdeal.Gen Cert.DwGluIdeal.Value
open Cert.DwGluRefIdeal.Read

/-- The product over the rows `a` and `b` share, at one place of the weight. -/
def part {n : ℕ} {ea eb : FTy} (a : FVec Ideal (⟨2, ![n, 512]⟩) ea) (b : FVec Ideal (⟨2, ![n, 512]⟩) eb) (j : S512x512.Idx) : EReal :=
  ∑ k : Fin n, (show EReal from a (ix2 k (j 0))) * (show EReal from b (ix2 k (j 1)))

theorem pay1_at (j : S512x512.Idx) : k0_pay1 (F := Ideal) j = (0 : EReal) := by
  pointwise [k0_pay1]

theorem pay2_at (o : FVec Ideal S512x512 .f32) (a : FVec Ideal S2048x512 .bf16) (b : FVec Ideal S2048x512 .bf16) (j : S512x512.Idx) :
    (show EReal from k0_pay2 (F := Ideal) o a b j) = (show EReal from o j) + part a b j := by
  obtain ⟨r, l, rfl⟩ : ∃ r l, j = ix2 r l := ⟨j 0, j 1, by funext a; fin_cases a <;> rfl⟩
  pointwise [k0_pay2, part]

theorem ref_at (a : FVec Ideal S8192x512 .bf16) (b : FVec Ideal S8192x512 .bf16) (j : S512x512.Idx) :
    (show EReal from val_main_v5 (F := Ideal) a b j) = part a b j := by
  obtain ⟨r, l, rfl⟩ : ∃ r l, j = ix2 r l := ⟨j 0, j 1, by funext a; fin_cases a <;> rfl⟩
  pointwise [val_main_v5, val_main_v4, val_main_v3, val_main_v1, part]
  exact Finset.sum_congr rfl fun _ _ => mul_comm _ _

variable (m : (ℓ : Loc nD τ sig) → Buf (Elt Ideal) ℓ) (c : Dev nD)

theorem idx : ∀ t : Fin cfg0.N, win0_0.index t = ![t.val, 0] ∧ win0_1.index t = ![t.val, 0] ∧ win0_2.index t = ![0, 0] :=
  (by decide +kernel : ∀ t : Fin grid0.N, _)

variable (t : Fin cfg0.N)

/-- Row `r` of point `t`'s block is row `2048 t + r` of the array. -/
theorem rowsA (k : Fin 2048) (r : Fin 512) (h : t.val * 2048 + k.val < 8192) : (show FVec Ideal S2048x512 .bf16 from iblk m c 0 t) (ix2 k r) = (m ((c.tc : Thread nD τ).loc main_arg0) : FVec Ideal S8192x512 .bf16) (ix2 ⟨t.val * 2048 + k.val, h⟩ r) := by
  have h : ∀ A : FVec Ideal S8192x512 .bf16, (show FVec Ideal S2048x512 .bf16 from ((cfg0.win 0).blk t).view.read (Elt Ideal) A) (ix2 k r) = A (ix2 ⟨t.val * 2048 + k.val, h⟩ r) := fun A => by
    blk_ext! [idx t]
  exact (congrFun (congrArg (((cfg0.win 0).blk t).view.read (Elt Ideal)) (V_main_arg0 m c)) _).trans (h _)

theorem rowsB (k : Fin 2048) (r : Fin 512) (h : t.val * 2048 + k.val < 8192) : (show FVec Ideal S2048x512 .bf16 from iblk m c 1 t) (ix2 k r) = (m ((c.tc : Thread nD τ).loc main_arg1) : FVec Ideal S8192x512 .bf16) (ix2 ⟨t.val * 2048 + k.val, h⟩ r) := by
  have h : ∀ A : FVec Ideal S8192x512 .bf16, (show FVec Ideal S2048x512 .bf16 from ((cfg0.win 1).blk t).view.read (Elt Ideal) A) (ix2 k r) = A (ix2 ⟨t.val * 2048 + k.val, h⟩ r) := fun A => by
    blk_ext! [idx t]
  exact (congrFun (congrArg (((cfg0.win 1).blk t).view.read (Elt Ideal)) (V_main_arg1 m c)) _).trans (h _)

/-- After the last point the output block holds the sum of the four points' products. -/
theorem outs (j : S512x512.Idx) : (show EReal from outsAt0 m c t0_3.val t0_3.isLt j) = 0 + ∑ p : Fin cfg0.N, part (ea := .bf16) (eb := .bf16) (iblk m c 0 p) (iblk m c 1 p) j :=
  Pipeline.eq_sum_fin_of_reset_step_apply_last (M := EReal) (fun n h => outsAt0 m c n h) 4 (fun _ => 0) (fun p j => part (ea := .bf16) (eb := .bf16) (iblk m c 0 p) (iblk m c 1 p) j)
    (fun t h j => by
      rw [outsAt0_A m c t h, out_A_2_eq]
      exact (pay2_at _ _ _ j).trans (congrArg (· + part (ea := .bf16) (eb := .bf16) (iblk m c 0 t) (iblk m c 1 t) j) (pay1_at j)))
    (fun t h j => by
      rw [outsAt0_B m c t h, out_B_2_eq]
      exact pay2_at _ _ _ j)
    (le_of_eq N_0) t0_3 rfl j

/-- The array after the run. -/
theorem final : (dats m 0 c).arrAt 2 cfg0.N = val_main_v5 (F := Ideal) (m ((c.tc : Thread nD τ).loc main_arg0)) (m ((c.tc : Thread nD τ).loc main_arg1)) := by
  refine (dats m 0 c).arrAt_eq_of_after_last 2 t0_3 (by decide +kernel) _ fun j => ?_
  rw [after0_2]
  blk_simp
  refine Eq.trans (b := (show EReal from outsAt0 m c t0_3.val t0_3.isLt j)) rfl ((outs m c j).trans ((zero_add _).trans (Eq.trans ?_ (ref_at _ _ j).symm)))
  unfold part
  refine Fin.sum_mul_add_congr (S := cfg0.N) (n := 2048) (fun t k h => ?_) (by rw [show cfg0.N = 4 from N_0])
  exact congrArg₂ (fun x y : EReal => x * y) (rowsA m c t k _ h) (rowsB m c t k _ h)

end Cert.DwGluIdeal.Grad

end
-- ==== Proof.Ref.lean ====
module

public import proofs.«01_k».proof.Proof.Model
public import proofs.«01_k».proof.Proof.Gen.ReferenceIdeal.Read
public import Idealize.ShloMosaic.Lib.Pointwise
public import Idealize.ShloMosaic.Lib.Claim
public import Idealize.ShloMosaic.Lib.WordCmp

@[expose] public section

set_option maxRecDepth 16384

noncomputable section

namespace Cert.ReferenceIdeal.Fox

open Idealize.ShloMosaic Idealize.ShloMosaic.TcCoe
open Cert.ReferenceIdeal Cert.ReferenceIdeal.Gen Cert.ReferenceIdeal.Read
open Cert.Fox (Inputs coe_sum div_real log_real fold_max_real)

/-- The arguments' entries, the running log gates and the rows' largest scores are the reals of `D`. -/
structure Reads (D : Inputs) (x0 x1 x2 : FVec Ideal S8192x8x64 .f32) (x3 : FVec Ideal S8192x8 .f32) (x4 : FVec Ideal S8192x8x64 .f32) : Prop where
  q : ∀ (r : Fin 8192) (h : Fin 8) (d : Fin 64), x0 (ix3 r h d) = ((D.q r h d : ℝ) : EReal)
  k : ∀ (r : Fin 8192) (h : Fin 8) (d : Fin 64), x1 (ix3 r h d) = ((D.k r h d : ℝ) : EReal)
  v : ∀ (r : Fin 8192) (h : Fin 8) (d : Fin 64), x2 (ix3 r h d) = ((D.v r h d : ℝ) : EReal)
  g : ∀ (r : Fin 8192) (h : Fin 8) (d : Fin 64), x4 (ix3 r h d) = ((D.g r h d : ℝ) : EReal)
  f : ∀ (h : Fin 8) (r : Fin 8192), val_main_v1 (F := Ideal) x3 (ix2 h r) = ((D.f h r : ℝ) : EReal)
  M : ∀ (h : Fin 8) (r : Fin 8192), val_main_v18 (F := Ideal) x0 x1 x3 (ix2 h r) = ((D.M h r : ℝ) : EReal)

/-- The scale `1/8` as the reals have it. -/
theorem eighth : Ideal.ofBits .f32 0x3E000000#32 = ((1 / 8 : ℝ) : EReal) := by
  simp [Ideal.ofBits, Ideal.ieee, -EReal.coe_mul]; norm_num

/-- The masked scores' value, `-∞`. -/
theorem minf : Ideal.ofBits .f32 0xFF800000#32 = (⊥ : EReal) := by
  simp [Ideal.ofBits, Ideal.ieee]

variable {x0 x1 x2 : FVec Ideal S8192x8x64 .f32} {x3 : FVec Ideal S8192x8 .f32} {x4 : FVec Ideal S8192x8x64 .f32}

/-- The scores before the mask, from real arguments. -/
theorem score_real (qr kr : Fin 8192 → Fin 8 → Fin 64 → ℝ) (f : Fin 8 → Fin 8192 → ℝ)
    (hq : ∀ (r : Fin 8192) (h : Fin 8) (d : Fin 64), x0 (ix3 r h d) = ((qr r h d : ℝ) : EReal))
    (hk : ∀ (r : Fin 8192) (h : Fin 8) (d : Fin 64), x1 (ix3 r h d) = ((kr r h d : ℝ) : EReal))
    (hf : ∀ (h : Fin 8) (r : Fin 8192), val_main_v1 (F := Ideal) x3 (ix2 h r) = ((f h r : ℝ) : EReal))
    (h : Fin 8) (r c : Fin 8192) :
    val_main_v10 (F := Ideal) x0 x1 x3 (ix3 h r c) = (((∑ d : Fin 64, qr r h d * kr c h d) * (1 / 8) + f h r - f h c : ℝ) : EReal) := by
  pointwise [val_main_v10, val_main_v9, val_main_v8, val_main_v7, val_main_v6, val_main_v5, val_main_v4, val_main_v3, val_main_cst, val_main_v2]
  simp only [hq, hk, hf, eighth, ← EReal.coe_mul, coe_sum, ← EReal.coe_add, ← EReal.coe_sub]

/-- The causal mask. -/
theorem mask_at (h : Fin 8) (r c : Fin 8192) : val_main_v17_1 (F := Ideal) (ix3 h r c) = if c ≤ r then 1#1 else 0#1 := by
  pointwise [val_main_v17_1, val_main_v16, val_main_v15, val_main_v14, val_main_v13, val_main_v12, val_main_v11]
  have h1 := c.isLt
  have h2 := r.isLt
  split_ifs with hc
  · have hc' : c.val ≤ r.val := hc
    word_cmp
  · have hc' : ¬ c.val ≤ r.val := hc
    rcases BitVec.eq_zero_or_eq_one (IntOp.cmpi CmpIPredicate.sle (BitVec.ofNat 32 c.val) (BitVec.ofNat 32 r.val)) with e | e
    · exact e
    · exact absurd e (by word_cmp)

/-- The masked scores. -/
theorem masked_at (h : Fin 8) (r c : Fin 8192) :
    val_main_v17_0 (F := Ideal) x0 x1 x3 (ix3 h r c) = if c ≤ r then val_main_v10 (F := Ideal) x0 x1 x3 (ix3 h r c) else ⊥ := by
  have : val_main_v17_0 (F := Ideal) x0 x1 x3 (ix3 h r c) =
      Scalar.select (val_main_v17_1 (F := Ideal) (ix3 h r c)) (val_main_v10 (F := Ideal) x0 x1 x3 (ix3 h r c)) (⊥ : EReal) := by
    pointwise [val_main_v17_0, val_main_call1_v2, val_main_call1_v0, val_main_cst_0, id_eq]
    rw [minf]
  rw [this, mask_at]
  split_ifs <;> rfl

/-- A row's largest score. -/
theorem max_at (h : Fin 8) (r : Fin 8192) :
    val_main_v18 (F := Ideal) x0 x1 x3 (ix2 h r) = Finset.univ.fold max (⊥ : EReal) fun c : Fin 8192 => val_main_v17_0 (F := Ideal) x0 x1 x3 (ix3 h r c) := by
  pointwise [val_main_v18, val_main_cst_1]
  rw [minf]

variable {D : Inputs} (H : Reads D x0 x1 x2 x3 x4)
include H

theorem score_at (h : Fin 8) (r c : Fin 8192) : val_main_v10 (F := Ideal) x0 x1 x3 (ix3 h r c) = ((D.sc h r c : ℝ) : EReal) :=
  score_real D.q D.k D.f H.q H.k H.f h r c

/-- A row's largest score, compared with `-∞`. -/
theorem M_at (h : Fin 8) (r : Fin 8192) : val_main_v25 (F := Ideal) x0 x1 x3 (ix2 h r) = ((D.M h r : ℝ) : EReal) := by
  have e (y : FVec Ideal S8x8192 .f32) (M : ℝ) (hy : y (ix2 h r) = ((M : ℝ) : EReal)) :
      maximumf (val_main_v24 (F := Ideal)) y (ix2 h r) = ((M : ℝ) : EReal) := by
    pointwise [val_main_v24, val_main_cst_3]
    rw [hy, minf]
    exact max_eq_right bot_le
  exact e _ _ (H.M h r)

omit H in
theorem exp_masked (p : Prop) [Decidable p] (s M : ℝ) :
    Ideal.exp ((if p then ((s : ℝ) : EReal) else ⊥) - ((M : ℝ) : EReal)) = ((if p then Real.exp (s - M) else 0 : ℝ) : EReal) := by
  split_ifs
  · rw [← EReal.coe_sub, Ideal.exp_coe]
  · rw [EReal.bot_sub, Ideal.exp_bot, EReal.coe_zero]

omit H in
theorem exp_read (h : Fin 8) (r c : Fin 8192) : val_main_v38 (F := Ideal) x0 x1 x3 (ix3 h r c) =
    Ideal.exp (val_main_v17_0 (F := Ideal) x0 x1 x3 (ix3 h r c) - val_main_v25 (F := Ideal) x0 x1 x3 (ix2 h r)) := by
  pointwise [val_main_v38, val_main_v37, val_main_v36, val_main_v35]

/-- The unnormalised weights. -/
theorem ex_at (h : Fin 8) (r c : Fin 8192) : val_main_v38 (F := Ideal) x0 x1 x3 (ix3 h r c) = ((D.ex h r c : ℝ) : EReal) :=
  (exp_read h r c).trans ((congrArg₂ (fun a b => Ideal.exp (a - b)) ((masked_at h r c).trans (by rw [score_at H])) (M_at H h r)).trans
    (exp_masked (c ≤ r) (D.sc h r c) (D.M h r)))

/-- The rows' normalisers. -/
theorem L_at (h : Fin 8) (r : Fin 8192) : val_main_v39 (F := Ideal) x0 x1 x3 (ix2 h r) = ((D.L h r : ℝ) : EReal) := by
  pointwise [val_main_v39, val_main_cst_9]
  simp only [ex_at H, coe_sum, zero_add]; rfl

theorem L1_at (h : Fin 8) (r : Fin 8192) : val_main_v40 (F := Ideal) x0 x1 x3 (ix3 h r 0) = ((D.L h r : ℝ) : EReal) := by
  pointwise [val_main_v40]
  exact L_at H h r

/-- The attention weights. -/
theorem pr_at (h : Fin 8) (r c : Fin 8192) : val_main_v42 (F := Ideal) x0 x1 x3 (ix3 h r c) = ((D.pr h r c : ℝ) : EReal) := by
  pointwise [val_main_v42, val_main_v41]
  rw [ex_at H, L1_at H, div_real (D.L_pos h r).ne']; rfl

theorem inv_at (h : Fin 8) (r : Fin 8192) : val_main_v45 (F := Ideal) x0 x1 x3 (ix3 h r 0) = ((1 / (D.L h r * D.L h r) : ℝ) : EReal) := by
  pointwise [val_main_v45, val_main_v44, val_main_v43, val_main_cst_10]
  rw [L1_at H, ← EReal.coe_mul, ← EReal.coe_one, div_real (mul_pos (D.L_pos h r) (D.L_pos h r)).ne']

/-- The weights' gradients. -/
theorem dp_at (h : Fin 8) (r c : Fin 8192) : val_main_v49 (F := Ideal) x2 x4 (ix3 h r c) = ((D.dp h r c : ℝ) : EReal) := by
  pointwise [val_main_v49, val_main_v48]
  simp only [H.g, H.v, ← EReal.coe_mul, coe_sum]; rfl

/-- The scores' gradients. -/
theorem ds_at (h : Fin 8) (r c : Fin 8192) : val_main_v64 (F := Ideal) x0 x1 x2 x3 x4 (ix3 h r c) = ((D.ds h r c : ℝ) : EReal) := by
  have h55 : val_main_v55 (F := Ideal) x0 x1 x2 x3 x4 (ix2 h r) = ((∑ c', D.dp h r c' * (1 / (D.L h r * D.L h r)) * D.ex h r c' : ℝ) : EReal) := by
    pointwise [val_main_v55, val_main_v54, val_main_v53, val_main_v52, val_main_cst_11]
    simp only [dp_at H, inv_at H, ex_at H, ← EReal.coe_mul, coe_sum, zero_add]
  have h60 : val_main_v60 (F := Ideal) x0 x1 x2 x3 x4 (ix2 h r) = ((-(∑ c', D.dp h r c' * (1 / (D.L h r * D.L h r)) * D.ex h r c') : ℝ) : EReal) := by
    pointwise [val_main_v60, val_main_v57, val_main_v56, val_main_cst_12]
    simp only [h55, ← EReal.coe_neg, zero_add, Fin.sum_univ_one]
  have h63 : val_main_v63 (F := Ideal) x0 x1 x2 x3 x4 (ix3 h r c) = ((D.ds h r c : ℝ) : EReal) := by
    rw [← D.ds_eq h r c]
    pointwise [val_main_v63, val_main_v62, val_main_v61, val_main_v59, val_main_v58]
    rw [dp_at H, L1_at H, h60, ex_at H, div_real (D.L_pos h r).ne', ← EReal.coe_add, ← EReal.coe_mul]
  have h64 : val_main_v64 (F := Ideal) x0 x1 x2 x3 x4 (ix3 h r c) =
      Scalar.select (val_main_v17_1 (F := Ideal) (ix3 h r c)) (val_main_v63 (F := Ideal) x0 x1 x2 x3 x4 (ix3 h r c)) (0 : EReal) := by
    pointwise [val_main_v64, val_main_call2_v0, val_main_call2_cst]
  rw [h64, mask_at, h63]
  split_ifs with hc
  · rfl
  · rw [D.ds_of_lt (not_le.1 hc)]; rfl

/-- The first result, the queries' gradient, at a row and a column. -/
theorem out0_at (r : Fin 8192) (j : Fin 512) :
    val_main_v78 (F := Ideal) x0 x1 x2 x3 x4 (ix2 r j) = ((D.gq r ⟨j.val / 64, by omega⟩ ⟨j.val % 64, by omega⟩ : ℝ) : EReal) := by
  pointwise [val_main_v78, val_main_v77, val_main_v76, val_main_v73, val_main_v72, val_main_cst_17]
  simp only [ds_at H, H.k, eighth, ← EReal.coe_mul, coe_sum, Inputs.gq, Finset.sum_mul]
  exact congrArg _ (Finset.sum_congr rfl fun c _ => by ring)

/-- The second result, the keys' gradient. -/
theorem out1_at (r : Fin 8192) (j : Fin 512) :
    val_main_v80 (F := Ideal) x0 x1 x2 x3 x4 (ix2 r j) = ((D.gk r ⟨j.val / 64, by omega⟩ ⟨j.val % 64, by omega⟩ : ℝ) : EReal) := by
  pointwise [val_main_v80, val_main_v79, val_main_v75, val_main_v74, val_main_v73, val_main_v72, val_main_cst_17]
  simp only [ds_at H, H.q, eighth, ← EReal.coe_mul, coe_sum, Inputs.gk, Finset.sum_mul]
  exact congrArg _ (Finset.sum_congr rfl fun c _ => by ring)

/-- The third result, the values' gradient. -/
theorem out2_at (r : Fin 8192) (j : Fin 512) :
    val_main_v82 (F := Ideal) x0 x1 x3 x4 (ix2 r j) = ((D.gv r ⟨j.val / 64, by omega⟩ ⟨j.val % 64, by omega⟩ : ℝ) : EReal) := by
  pointwise [val_main_v82, val_main_v81, val_main_v51, val_main_v50, val_main_v48]
  simp only [pr_at H, H.g, ← EReal.coe_mul, coe_sum, Inputs.gv]
  exact congrArg _ (Finset.sum_congr rfl fun c _ => by ring)

/-- The fourth result, the gradient of the queries' running log gates, by pair of heads and block of rows. -/
theorem out3_at (p : Fin 4) (b : Fin 16) (h : Fin 2) (x : Fin 512) :
    val_main_v84 (F := Ideal) x0 x1 x2 x3 x4 (ix4 p b h x) = ((D.gfq ⟨p.val * 2 + h.val, by omega⟩ ⟨b.val * 512 + x.val, by omega⟩ : ℝ) : EReal) := by
  pointwise [val_main_v84, val_main_v83, val_main_v71, val_main_v70, val_main_v69, val_main_cst_15, val_main_cst_16]
  simp only [ds_at H, ← EReal.coe_mul, coe_sum, Inputs.gfq, zero_add, Fin.sum_univ_one]

/-- The fifth result, the gradient of the keys' running log gates. -/
theorem out4_at (p : Fin 4) (c : Fin 8192) (h : Fin 2) :
    val_main_v87 (F := Ideal) x0 x1 x2 x3 x4 (ix3 p c h) = ((D.gfk ⟨p.val * 2 + h.val, by omega⟩ c : ℝ) : EReal) := by
  pointwise [val_main_v87, val_main_v86, val_main_v85, val_main_v68, val_main_v67, val_main_v66, val_main_v65, val_main_cst_13, val_main_cst_14]
  simp only [ds_at H, ← EReal.coe_neg, coe_sum, Inputs.gfk, zero_add, Finset.sum_neg_distrib, neg_neg, Fin.sum_univ_one]

end Cert.ReferenceIdeal.Fox

end
-- ==== Proof.Finite.lean ====
module

public import proofs.«01_k».proof.Proof.Ref
public import proofs.«01_k».proof.Pre_finite
public import Idealize.ShloMosaic.Lib.Pointwise
public import Idealize.ShloMosaic.Lib.Claim

@[expose] public section

set_option maxRecDepth 16384

noncomputable section

namespace Cert.ReferenceIdeal.Fox

open Idealize.ShloMosaic Idealize.ShloMosaic.TcCoe
open Cert.ReferenceIdeal Cert.ReferenceIdeal.Gen Cert.ReferenceIdeal.Read
open Cert.Fox (Inputs real_of_abs_lt fold_max_real)

variable {x0 x1 x2 : FVec Ideal S8192x8x64 .f32} {x3 : FVec Ideal S8192x8 .f32} {x4 : FVec Ideal S8192x8x64 .f32}

/-- The bound of the precondition, `+∞`. -/
theorem pinf : Ideal.ofBits .f32 0x7F800000#32 = (⊤ : EReal) := by
  simp [Ideal.ofBits, Ideal.ieee]

/-- A comparison below `+∞` that holds makes its operand real. -/
theorem real_of_test {x : EReal} (h : BitVec.ofBool (decide (FloatOps.absf (F := Ideal) (φ := .f32) x < Ideal.ofBits .f32 0x7F800000#32)) = 1#1) :
    x = ((x.toReal : ℝ) : EReal) := by
  refine real_of_abs_lt ?_
  rw [pinf] at h
  by_contra hn
  have : decide (FloatOps.absf (F := Ideal) (φ := .f32) x < (⊤ : EReal)) = false := decide_eq_false hn
  rw [this] at h
  exact absurd h (by decide)

theorem and_left {a b : BitVec 1} (h : IntOp.andi a b = 1#1) : a = 1#1 ∧ b = 1#1 := by
  revert a b; decide

/-- Under the precondition every argument's entry is real. -/
theorem entries_real [Cert.Pre_finite.Facts] (h : Cert.Pre_finite.fn (F := Ideal) x0 x1 x2 x3 x4 = fun _ => 1#1)
    (r : Fin 8192) (a : Fin 8) (d : Fin 64) :
    x0 (ix3 r a d) = ((x0 (ix3 r a d)).toReal : EReal) ∧ x1 (ix3 r a d) = ((x1 (ix3 r a d)).toReal : EReal) ∧
    x2 (ix3 r a d) = ((x2 (ix3 r a d)).toReal : EReal) ∧ x3 (ix2 r a) = ((x3 (ix2 r a)).toReal : EReal) ∧
    x4 (ix3 r a d) = ((x4 (ix3 r a d)).toReal : EReal) := by
  have h := congrFun h (ix3 r a d)
  pointwise [Cert.Pre_finite.fn, Cert.Pre_finite.fn_part1] at h
  obtain ⟨h, h4⟩ := and_left h
  obtain ⟨h, h3⟩ := and_left h
  obtain ⟨h, h2⟩ := and_left h
  obtain ⟨h0, h1⟩ := and_left h
  exact ⟨real_of_test h0, real_of_test h1, real_of_test h2, real_of_test h3, real_of_test h4⟩

/-- A left fold of sums of reals from a real is real. -/
theorem foldl_real {ι : Type*} (g : ι → EReal) (hg : ∀ n, ∃ y : ℝ, g n = (y : EReal)) :
    ∀ (l : List ι) (a : EReal), (∃ y : ℝ, a = (y : EReal)) → ∃ y : ℝ, l.foldl (fun r n => r + g n) a = (y : EReal)
  | [], a, ha => ha
  | n :: l, a, ⟨y, hy⟩ => by
    obtain ⟨z, hz⟩ := hg n
    exact foldl_real g hg l _ ⟨y + z, by show a + g n = _; rw [hy, hz, EReal.coe_add]⟩

/-- The running log gates of real log gates are real. -/
theorem cum_real (h3 : ∀ i, ∃ y : ℝ, x3 i = (y : EReal)) (h : Fin 8) (r : Fin 8192) :
    ∃ y : ℝ, val_main_v1 (F := Ideal) x3 (ix2 h r) = (y : EReal) := by
  rw [val_main_v1_apply]
  unfold val_main_v0
  simp only [Host.reduceWindowAdd, Ideal.hostReduceWindowAdd_def, Ideal.hostReduceWindowAdd, Host.reduceWindow]
  have hz : (val_main_call0_call0_v0 (F := Ideal)) (Shape.Idx.first h_S_) = ((0 : ℝ) : EReal) := by
    rw [val_main_call0_call0_v0_apply, val_main_call0_call0_cst_apply]
    exact Ideal.ofBits_zero_f32
  refine foldl_real _ (fun n => ?_) _ _ ⟨0, hz⟩
  split
  · exact h3 _
  · exact ⟨0, hz⟩

/-- Under the precondition the arguments are reals, with real running log gates and real row maxima. -/
theorem reads_of_finite [Cert.Pre_finite.Facts] (hp : Cert.Pre_finite.fn (F := Ideal) x0 x1 x2 x3 x4 = fun _ => 1#1) :
    ∃ D, Reads D x0 x1 x2 x3 x4 := by
  have e := entries_real hp
  have hf (h : Fin 8) (r : Fin 8192) : ∃ y : ℝ, val_main_v1 (F := Ideal) x3 (ix2 h r) = (y : EReal) :=
    cum_real (fun i => by
      obtain ⟨r, h, rfl⟩ : ∃ (r : Fin 8192) (h : Fin 8), i = ix2 r h := ⟨_, _, eq_ix2 i⟩
      exact ⟨_, (e r h 0).2.2.2.1⟩) h r
  choose f hf using hf
  have hs := score_real (x0 := x0) (x1 := x1) (x3 := x3) (fun r h d => (x0 (ix3 r h d)).toReal) (fun r h d => (x1 (ix3 r h d)).toReal) f
    (fun r h d => (e r h d).1) (fun r h d => (e r h d).2.1) hf
  have hM (h : Fin 8) (r : Fin 8192) : ∃ y : ℝ, val_main_v18 (F := Ideal) x0 x1 x3 (ix2 h r) = (y : EReal) := by
    rw [max_at]
    refine fold_max_real _ r ?_ fun c => ?_
    · rw [masked_at, if_pos le_rfl, hs]; exact EReal.coe_ne_bot _
    · rw [masked_at, hs]
      split_ifs
      · exact EReal.coe_ne_top _
      · exact bot_ne_top
  choose M hM using hM
  exact ⟨⟨fun r h d => (x0 (ix3 r h d)).toReal, fun r h d => (x1 (ix3 r h d)).toReal, fun r h d => (x2 (ix3 r h d)).toReal,
    fun r h d => (x4 (ix3 r h d)).toReal, f, M⟩, fun r h d => (e r h d).1, fun r h d => (e r h d).2.1, fun r h d => (e r h d).2.2.1,
    fun r h d => (e r h d).2.2.2.2, hf, hM⟩

end Cert.ReferenceIdeal.Fox

end
-- ==== Proof.Spec.lean ====
/- What one step of the kernel (a block of queries against a block of keys) adds to each gradient, at an index. -/
module

public import proofs.«01_k».proof.Proof.Gen.KernelIdeal.Skeleton
public import Idealize.ShloMosaic.Lib.VecWindow
public import Idealize.ShloMosaic.Lib.Pipeline.ValueKit

@[expose] public section

set_option maxRecDepth 16384

noncomputable section

namespace Cert.KernelIdeal.Fox

open Idealize.ShloMosaic Idealize.ShloMosaic.TcCoe Idealize.ShloMosaic.Tactic
open Idealize.SL Idealize.SL.RA Idealize.SL.BI
open Idealize.SL.Sem
open Cert.KernelIdeal Cert.KernelIdeal.Gen

/-! ## One step of the kernel, at an index -/

/-- The query in place `cc` of block `b`. -/
def row (b : Fin 16) (cc : Fin 512) : Fin 8192 := ⟨b.val * 512 + cc.val, by omega⟩

/-- Lane `l` is one of head `h`'s own 64 of its pair's 128. -/
def own (h : Fin 2) (l : Fin 128) : Prop := (l.val < 64 ↔ h.val = 0)

instance (h : Fin 2) (l : Fin 128) : Decidable (own h l) := by unfold own; infer_instance

theorem sel1 {α : Type} (a b : α) : Scalar.select 1#1 a b = a := rfl
theorem sel_if {α : Type} (p : Prop) [Decidable p] (a b : α) : Scalar.select (if p then 0#1 else 1#1) a b = if p then b else a := by split_ifs <;> rfl
theorem sel0 {α : Type} (a b : α) : Scalar.select 0#1 a b = b := rfl

/-- The weight of key `kk` for the query in place `cc` of block `b`; on the diagonal block (`mk`) it is `0` for a
    key behind the query. -/
def prA (mk : Bool) (q : FVec Ideal S2x8192x128 .bf16) (k : FVec Ideal S2x512x128 .bf16) (ls : FVec Ideal S1x16x2x512 .f32)
    (b : Fin 16) (h : Fin 2) (kk cc : Fin 512) : EReal :=
  Ideal.exp (if mk = true ∧ cc.val < kk.val then ⊥ else (∑ l : Fin 128, k (ix3 h kk l) * q (ix3 h (row b cc) l)) - ls (ix4 (0 : Fin 1) b h cc))

/-- The gradient of that weight's score. -/
def dsA (mk : Bool) (q : FVec Ideal S2x8192x128 .bf16) (d : FVec Ideal S8192x128 .bf16) (k vh : FVec Ideal S2x512x128 .bf16)
    (ls dl : FVec Ideal S1x16x2x512 .f32) (b : Fin 16) (h : Fin 2) (kk cc : Fin 512) : EReal :=
  prA mk q k ls b h kk cc * ((∑ l : Fin 128, vh (ix3 h kk l) * d (ix2 (row b cc) l)) - dl (ix4 (0 : Fin 1) b h cc))

/-- What a step adds to the gradient of the values. -/
def uDv (mk : Bool) (q : FVec Ideal S2x8192x128 .bf16) (d : FVec Ideal S8192x128 .bf16) (k : FVec Ideal S2x512x128 .bf16)
    (ls : FVec Ideal S1x16x2x512 .f32) (b : Fin 16) (kk : Fin 512) (l : Fin 128) : EReal :=
  ∑ h : Fin 2, ∑ cc : Fin 512, prA mk q k ls b h kk cc * (if own h l then d (ix2 (row b cc) l) else 0)

/-- What a step adds to the gradient of the keys. -/
def uDk (mk : Bool) (q : FVec Ideal S2x8192x128 .bf16) (d : FVec Ideal S8192x128 .bf16) (k vh : FVec Ideal S2x512x128 .bf16)
    (ls dl : FVec Ideal S1x16x2x512 .f32) (b : Fin 16) (kk : Fin 512) (l : Fin 128) : EReal :=
  ∑ h : Fin 2, ∑ cc : Fin 512, dsA mk q d k vh ls dl b h kk cc * (if own h l then q (ix3 h (row b cc) l) else 0)

/-- What a step adds to the gradient of the queries of block `b`. -/
def uDq (mk : Bool) (q : FVec Ideal S2x8192x128 .bf16) (d : FVec Ideal S8192x128 .bf16) (k vh kc : FVec Ideal S2x512x128 .bf16)
    (ls dl : FVec Ideal S1x16x2x512 .f32) (b : Fin 16) (cc : Fin 512) (l : Fin 128) : EReal :=
  ∑ h : Fin 2, ∑ kk : Fin 512, dsA mk q d k vh ls dl b h kk cc * kc (ix3 h kk l)

/-- What a step adds to the gradient of the keys' running log gates. -/
def uDfk (mk : Bool) (q : FVec Ideal S2x8192x128 .bf16) (d : FVec Ideal S8192x128 .bf16) (k vh : FVec Ideal S2x512x128 .bf16)
    (ls dl : FVec Ideal S1x16x2x512 .f32) (b : Fin 16) (h : Fin 2) (kk : Fin 512) : EReal :=
  ∑ cc : Fin 512, dsA mk q d k vh ls dl b h kk cc

/-- What a step adds to the gradient of block `b`'s queries' running log gates. -/
def uDfq (mk : Bool) (q : FVec Ideal S2x8192x128 .bf16) (d : FVec Ideal S8192x128 .bf16) (k vh : FVec Ideal S2x512x128 .bf16)
    (ls dl : FVec Ideal S1x16x2x512 .f32) (b : Fin 16) (h : Fin 2) (cc : Fin 512) : EReal :=
  ∑ kk : Fin 512, dsA mk q d k vh ls dl b h kk cc

/-! ## What one grid point leaves -/

/-- A pair's keys, each head's cut to its own lanes. -/
def kcOf (k : FVec Ideal S2x512x128 .bf16) : FVec Ideal S2x512x128 .bf16 :=
  fun y => if own (show Fin 2 from y 0) (show Fin 128 from y 2) then k y else 0

/-- A pair's values as one block per head, cut to the head's own lanes. -/
def vhOf (v : FVec Ideal S512x128 .bf16) : FVec Ideal S2x512x128 .bf16 :=
  fun y => if own (show Fin 2 from y 0) (show Fin 128 from y 2) then v (ix2 (y 1) (y 2)) else 0

/-- The gradient of the values of key block `j`: the sum of the steps of all query blocks from `j` on. -/
def outDv (j : ℕ) (q : FVec Ideal S2x8192x128 .bf16) (d : FVec Ideal S8192x128 .bf16) (k : FVec Ideal S2x512x128 .bf16)
    (ls : FVec Ideal S1x16x2x512 .f32) : FVec Ideal S512x128 .bf16 :=
  fun y => ∑ b : Fin 16, if j ≤ b.val then uDv (decide (b.val = j)) q d k ls b (y 0) (y 1) else 0

/-- The gradient of the keys of key block `j`. -/
def outDk (j : ℕ) (q : FVec Ideal S2x8192x128 .bf16) (d : FVec Ideal S8192x128 .bf16) (k : FVec Ideal S2x512x128 .bf16)
    (v : FVec Ideal S512x128 .bf16) (ls dl : FVec Ideal S1x16x2x512 .f32) : FVec Ideal S512x128 .bf16 :=
  fun y => ∑ b : Fin 16, if j ≤ b.val then uDk (decide (b.val = j)) q d k (vhOf v) ls dl b (y 0) (y 1) else 0

/-- The gradient of the running log gates of key block `j`'s keys. -/
def outDfk (j : ℕ) (q : FVec Ideal S2x8192x128 .bf16) (d : FVec Ideal S8192x128 .bf16) (k : FVec Ideal S2x512x128 .bf16)
    (v : FVec Ideal S512x128 .bf16) (ls dl : FVec Ideal S1x16x2x512 .f32) : FVec Ideal S1x512x2 .f32 :=
  fun y => ∑ b : Fin 16, if j ≤ b.val then uDfk (decide (b.val = j)) q d k (vhOf v) ls dl b (y 2) (y 1) else 0

/-- The gradient of the queries with what key block `j` adds to it. -/
def addDq (j : ℕ) (a : FVec Ideal S8192x128 .f32) (q : FVec Ideal S2x8192x128 .bf16) (d : FVec Ideal S8192x128 .bf16) (k : FVec Ideal S2x512x128 .bf16)
    (v : FVec Ideal S512x128 .bf16) (ls dl : FVec Ideal S1x16x2x512 .f32) : FVec Ideal S8192x128 .f32 :=
  fun y => a y + if j ≤ (y 0).val / 512 then
    uDq (decide ((y 0).val / 512 = j)) q d k (vhOf v) (kcOf k) ls dl ⟨(y 0).val / 512, by have := (y 0).isLt; change (y 0).val < 8192 at this; omega⟩ ⟨(y 0).val % 512, by omega⟩ (y 1) else 0

/-- The gradient of the queries' running log gates with what key block `j` adds to it. -/
def addDfq (j : ℕ) (a : FVec Ideal S1x16x2x512 .f32) (q : FVec Ideal S2x8192x128 .bf16) (d : FVec Ideal S8192x128 .bf16) (k : FVec Ideal S2x512x128 .bf16)
    (v : FVec Ideal S512x128 .bf16) (ls dl : FVec Ideal S1x16x2x512 .f32) : FVec Ideal S1x16x2x512 .f32 :=
  fun y => a y + if j ≤ (y 1).val then uDfq (decide ((y 1).val = j)) q d k (vhOf v) ls dl (y 1) (y 2) (y 3) else 0

/-! ## Loads and stores of blocks, at an index -/

section Loads

variable {sig : RefSig} {κ : Kind} {sp : Space} {e : EltTy} {Val : EltTy → Type}

theorem ld_rows (v : View sig κ sp S8192x128 e) (f : v.ty.Contents Val) {off : Fin 2 → ℕ} (b : Fin 16)
    (h : off = ![512 * b.val, 0]) (inb : ∀ a, off a + S512x128.size a ≤ S8192x128.size a) (x : Fin 512) (l : Fin 128) :
    v.readAt Val (Rect.unit (s := S8192x128) off S512x128.size inb).toLoadRect f (ix2 x l) = v.read Val f (ix2 (row b x) l) := by
  subst h
  show v.read Val f ((Rect.unit (s := S8192x128) _ S512x128.size inb).emb (ix2 x l)) = _
  congr 1
  funext a; apply Fin.ext
  fin_cases a
  · show 512 * b.val + 1 * x.val = b.val * 512 + x.val; omega
  · show 0 + 1 * l.val = l.val; omega

theorem ld_head_rows (v : View sig κ sp S2x8192x128 e) (f : v.ty.Contents Val) {off : Fin 3 → ℕ} (g : Fin 2) (b : Fin 16)
    (h : off = ![g.val, 512 * b.val, 0]) (inb : ∀ a, off a + S1x512x128.size a ≤ S2x8192x128.size a) (z : Fin 1) (x : Fin 512) (l : Fin 128) :
    v.readAt Val (Rect.unit (s := S2x8192x128) off S1x512x128.size inb).toLoadRect f (ix3 z x l) = v.read Val f (ix3 g (row b x) l) := by
  subst h
  show v.read Val f ((Rect.unit (s := S2x8192x128) _ S1x512x128.size inb).emb (ix3 z x l)) = _
  congr 1
  funext a; apply Fin.ext
  fin_cases a
  · show g.val + 1 * z.val = g.val; omega
  · show 512 * b.val + 1 * x.val = b.val * 512 + x.val; omega
  · show 0 + 1 * l.val = l.val; omega

theorem ld_stat (v : View sig κ sp S1x16x2x512 e) (f : v.ty.Contents Val) {off : Fin 4 → ℕ} (b : Fin 16)
    (h : off = ![0, b.val, 0, 0]) (inb : ∀ a, off a + S1x1x2x512.size a ≤ S1x16x2x512.size a) (z z' : Fin 1) (g : Fin 2) (x : Fin 512) :
    v.readAt Val (Rect.unit (s := S1x16x2x512) off S1x1x2x512.size inb).toLoadRect f (ix4 z z' g x) = v.read Val f (ix4 (0 : Fin 1) b g x) := by
  subst h
  show v.read Val f ((Rect.unit (s := S1x16x2x512) _ S1x1x2x512.size inb).emb (ix4 z z' g x)) = _
  congr 1
  funext a; apply Fin.ext
  fin_cases a
  · show 0 + 1 * z.val = 0; omega
  · show b.val + 1 * z'.val = b.val; omega
  · show 0 + 1 * g.val = g.val; omega
  · show 0 + 1 * x.val = x.val; omega

theorem ld_head (v : View sig κ sp S2x512x128 e) (f : v.ty.Contents Val) {off : Fin 3 → ℕ} (g : Fin 2)
    (h : off = ![g.val, 0, 0]) (inb : ∀ a, off a + S1x512x128.size a ≤ S2x512x128.size a) (z : Fin 1) (x : Fin 512) (l : Fin 128) :
    v.readAt Val (Rect.unit (s := S2x512x128) off S1x512x128.size inb).toLoadRect f (ix3 z x l) = v.read Val f (ix3 g x l) := by
  subst h
  show v.read Val f ((Rect.unit (s := S2x512x128) _ S1x512x128.size inb).emb (ix3 z x l)) = _
  congr 1
  funext a; apply Fin.ext
  fin_cases a
  · show g.val + 1 * z.val = g.val; omega
  · show 0 + 1 * x.val = x.val; omega
  · show 0 + 1 * l.val = l.val; omega

theorem ld_col (v : View sig κ sp S2x512x1 e) (f : v.ty.Contents Val) {off : Fin 3 → ℕ} (g : Fin 2)
    (h : off = ![g.val, 0, 0]) (inb : ∀ a, off a + S1x512x1.size a ≤ S2x512x1.size a) (z : Fin 1) (x : Fin 512) (l : Fin 1) :
    v.readAt Val (Rect.unit (s := S2x512x1) off S1x512x1.size inb).toLoadRect f (ix3 z x l) = v.read Val f (ix3 g x (0 : Fin 1)) := by
  subst h
  show v.read Val f ((Rect.unit (s := S2x512x1) _ S1x512x1.size inb).emb (ix3 z x l)) = _
  congr 1
  funext a; apply Fin.ext
  fin_cases a
  · show g.val + 1 * z.val = g.val; omega
  · show 0 + 1 * x.val = x.val; omega
  · show 0 + 1 * l.val = 0; omega

theorem st_rows (v : View sig κ sp S8192x128 e) (f : v.ty.Contents Val) {off : Fin 2 → ℕ} (b : Fin 16)
    (h : off = ![512 * b.val, 0]) (inb : ∀ a, off a + S512x128.size a ≤ S8192x128.size a)
    (w : (Rect.unit (s := S8192x128) off S512x128.size inb).shape.Idx → Val e) (L : List (View.Piece Val S8192x128 e)) (b' : Fin 16) (x : Fin 512) (l : Fin 128) :
    v.read Val (v.writes Val f (⟨Rect.unit off S512x128.size inb, w⟩ :: L)) (ix2 (row b' x) l)
      = if b' = b then w (ix2 x l) else v.read Val (v.writes Val f L) (ix2 (row b' x) l) := by
  split_ifs with hb
  · subst hb
    refine View.read_writes_cons_unit_of_mem v f inb w L (ix2 (row b' x) l) (ix2 x l) h fun a => ?_
    fin_cases a
    · show b'.val * 512 + x.val = 512 * b'.val + x.val; omega
    · show l.val = 0 + l.val; omega
  · refine View.read_writes_cons_unit_of_not_mem v f inb w L (ix2 (row b' x) l) h (0 : Fin _) ?_
    have : b'.val ≠ b.val := fun h => hb (Fin.ext h)
    show b'.val * 512 + x.val < 512 * b.val ∨ 512 * b.val + 512 ≤ b'.val * 512 + x.val
    have := x.isLt
    omega

theorem st_stat (v : View sig κ sp S1x16x2x512 e) (f : v.ty.Contents Val) {off : Fin 4 → ℕ} (b : Fin 16)
    (h : off = ![0, b.val, 0, 0]) (inb : ∀ a, off a + S1x1x2x512.size a ≤ S1x16x2x512.size a)
    (w : (Rect.unit (s := S1x16x2x512) off S1x1x2x512.size inb).shape.Idx → Val e) (L : List (View.Piece Val S1x16x2x512 e))
    (b' : Fin 16) (g : Fin 2) (x : Fin 512) :
    v.read Val (v.writes Val f (⟨Rect.unit off S1x1x2x512.size inb, w⟩ :: L)) (ix4 (0 : Fin 1) b' g x)
      = if b' = b then w (ix4 (0 : Fin 1) (0 : Fin 1) g x) else v.read Val (v.writes Val f L) (ix4 (0 : Fin 1) b' g x) := by
  split_ifs with hb
  · subst hb
    refine View.read_writes_cons_unit_of_mem v f inb w L (ix4 (0 : Fin 1) b' g x) (ix4 (0 : Fin 1) (0 : Fin 1) g x) h fun a => ?_
    fin_cases a
    · rfl
    · rfl
    · show g.val = 0 + g.val; omega
    · show x.val = 0 + x.val; omega
  · refine View.read_writes_cons_unit_of_not_mem v f inb w L (ix4 (0 : Fin 1) b' g x) h (1 : Fin _) ?_
    have : b'.val ≠ b.val := fun h => hb (Fin.ext h)
    show b'.val < b.val ∨ b.val + 1 ≤ b'.val
    omega

theorem st_head (v : View sig κ sp S2x512x128 e) (f : v.ty.Contents Val) {off : Fin 3 → ℕ} (g : Fin 2)
    (h : off = ![g.val, 0, 0]) (inb : ∀ a, off a + S1x512x128.size a ≤ S2x512x128.size a)
    (w : (Rect.unit (s := S2x512x128) off S1x512x128.size inb).shape.Idx → Val e) (L : List (View.Piece Val S2x512x128 e)) (g' : Fin 2) (x : Fin 512) (l : Fin 128) :
    v.read Val (v.writes Val f (⟨Rect.unit off S1x512x128.size inb, w⟩ :: L)) (ix3 g' x l)
      = if g' = g then w (ix3 (0 : Fin 1) x l) else v.read Val (v.writes Val f L) (ix3 g' x l) := by
  split_ifs with hb
  · subst hb
    refine View.read_writes_cons_unit_of_mem v f inb w L (ix3 g' x l) (ix3 (0 : Fin 1) x l) h fun a => ?_
    fin_cases a
    · rfl
    · show x.val = 0 + x.val; omega
    · show l.val = 0 + l.val; omega
  · refine View.read_writes_cons_unit_of_not_mem v f inb w L (ix3 g' x l) h (0 : Fin _) ?_
    have : g'.val ≠ g.val := fun h => hb (Fin.ext h)
    show g'.val < g.val ∨ g.val + 1 ≤ g'.val
    omega

theorem st_col (v : View sig κ sp S2x512x1 e) (f : v.ty.Contents Val) {off : Fin 3 → ℕ} (g : Fin 2)
    (h : off = ![g.val, 0, 0]) (inb : ∀ a, off a + S1x512x1.size a ≤ S2x512x1.size a)
    (w : (Rect.unit (s := S2x512x1) off S1x512x1.size inb).shape.Idx → Val e) (L : List (View.Piece Val S2x512x1 e)) (g' : Fin 2) (x : Fin 512) :
    v.read Val (v.writes Val f (⟨Rect.unit off S1x512x1.size inb, w⟩ :: L)) (ix3 g' x (0 : Fin 1))
      = if g' = g then w (ix3 (0 : Fin 1) x (0 : Fin 1)) else v.read Val (v.writes Val f L) (ix3 g' x (0 : Fin 1)) := by
  split_ifs with hb
  · subst hb
    refine View.read_writes_cons_unit_of_mem v f inb w L (ix3 g' x (0 : Fin 1)) (ix3 (0 : Fin 1) x (0 : Fin 1)) h fun a => ?_
    fin_cases a
    · rfl
    · show x.val = 0 + x.val; omega
    · rfl
  · refine View.read_writes_cons_unit_of_not_mem v f inb w L (ix3 g' x (0 : Fin 1)) h (0 : Fin _) ?_
    have : g'.val ≠ g.val := fun h => hb (Fin.ext h)
    show g'.val < g.val ∨ g.val + 1 ≤ g'.val
    omega

theorem ra_all (v : View sig κ sp S512x128 e) (f : v.ty.Contents Val) (inb : ∀ a, (![0, 0] : Fin 2 → ℕ) a + S512x128.size a ≤ S512x128.size a) :
    v.readAt Val (Rect.unit (s := S512x128) ![0, 0] S512x128.size inb).toLoadRect f = v.read Val f := View.readAt_full v f inb

theorem rc_all [∀ e, Nonempty (Val e)] (v : View sig κ sp S512x128 e) (inb inb' : ∀ a, (![0, 0] : Fin 2 → ℕ) a + S512x128.size a ≤ S512x128.size a)
    (w : (Rect.unit (s := S512x128) ![0, 0] S512x128.size inb').shape.Idx → Val e) (L : List (View.Piece Val S512x128 e)) :
    v.readCov (⟨Rect.unit (s := S512x128) ![0, 0] S512x128.size inb', w⟩ :: L) (Rect.unit (s := S512x128) ![0, 0] S512x128.size inb).toLoadRect = w :=
  View.readCov_full v inb inb' w L

theorem rc_rows [∀ e, Nonempty (Val e)] (v : View sig κ sp S8192x128 e) {off : Fin 2 → ℕ} (inb inb' : ∀ a, off a + S512x128.size a ≤ S8192x128.size a)
    (w : (Rect.unit (s := S8192x128) off S512x128.size inb').shape.Idx → Val e) (L : List (View.Piece Val S8192x128 e)) :
    v.readCov (⟨Rect.unit (s := S8192x128) off S512x128.size inb', w⟩ :: L) (Rect.unit (s := S8192x128) off S512x128.size inb).toLoadRect = w := by
  funext x
  exact View.read_writes_cons_emb v v.junk (Rect.unit off S512x128.size inb') w L x

end Loads

end Cert.KernelIdeal.Fox
end
-- ==== Proof.Trip.lean ====
module

public import proofs.«01_k».proof.Proof.Spec
public import proofs.«01_k».proof.Proof.Gen.KernelIdeal.Skeleton
public import proofs.«01_k».proof.Proof.Gen.KernelIdeal.Loops
public import proofs.«01_k».proof.Proof.Gen.KernelIdeal.Frame
public import Idealize.ShloMosaic.Lib.VecWindow
public import Idealize.ShloMosaic.Lib.Pipeline.ValueKit

@[expose] public section

set_option maxRecDepth 16384

noncomputable section

namespace Cert.KernelIdeal.Fox

open Idealize.ShloMosaic Idealize.ShloMosaic.TcCoe Idealize.ShloMosaic.Tactic
open Idealize.SL Idealize.SL.RA Idealize.SL.BI
open Idealize.SL.Sem
open Cert.KernelIdeal Cert.KernelIdeal.Gen

theorem trip16 (𝒱 : Variants) (c : Dev nD) (bd : Option 𝒱.V) (i : grid0.Coords) (arg2 : Memref sig .tc .vmem S2x8192x128 .bf16) (harg2 : arg2.IsWhole) (arg3 : Memref sig .tc .vmem S8192x128 .bf16) (harg3 : arg3.IsWhole) (arg4 : Memref sig .tc .vmem S2x512x128 .bf16) (harg4 : arg4.IsWhole) (arg5 : Memref sig .tc .vmem S512x128 .bf16) (harg5 : arg5.IsWhole) (arg6 : Memref sig .tc .vmem S1x16x2x512 .f32) (harg6 : arg6.IsWhole) (arg7 : Memref sig .tc .vmem S1x16x2x512 .f32) (harg7 : arg7.IsWhole) (arg8 : Memref sig .tc .vmem S8192x128 .f32) (harg8 : arg8.IsWhole) (arg9 : Memref sig .tc .vmem S512x128 .bf16) (harg9 : arg9.IsWhole) (arg10 : Memref sig .tc .vmem S512x128 .bf16) (harg10 : arg10.IsWhole) (arg11 : Memref sig .tc .vmem S1x16x2x512 .f32) (harg11 : arg11.IsWhole) (arg12 : Memref sig .tc .vmem S1x512x2 .f32) (harg12 : arg12.IsWhole) (arg13 : Memref sig .tc .vmem S2x512x128 .bf16) (harg13 : arg13.IsWhole) (arg14 : Memref sig .tc .vmem S2x512x128 .bf16) (harg14 : arg14.IsWhole) (arg15 : Memref sig .tc .vmem S512x128 .f32) (harg15 : arg15.IsWhole) (arg16 : Memref sig .tc .vmem S512x128 .f32) (harg16 : arg16.IsWhole) (arg17 : Memref sig .tc .vmem S2x512x1 .f32) (harg17 : arg17.IsWhole) (arg1 : BitVec 32) (v2 : IVec S512x128 1) (v42 : BitVec 32) (v92 : FVec Ideal S1x512 .f32) (v152 : FVec Ideal S1x512 .f32) (v164 : FVec Ideal S512x128 .f32) (v166 : FVec Ideal S512x128 .bf16) (v167 : FVec Ideal S512x512 .bf16) (cst_108 : FVec Ideal S512x128 .f32) (v181 : BitVec 32) (X_arg2 : BufTy.Contents (Elt Ideal) arg2.view.ty) (X_arg3 : BufTy.Contents (Elt Ideal) arg3.view.ty) (X_arg4 : BufTy.Contents (Elt Ideal) arg4.view.ty) (X_arg6 : BufTy.Contents (Elt Ideal) arg6.view.ty) (X_arg7 : BufTy.Contents (Elt Ideal) arg7.view.ty) (X_arg13 : BufTy.Contents (Elt Ideal) arg13.view.ty) (X_arg14 : BufTy.Contents (Elt Ideal) arg14.view.ty) (k : Fin (k0_t1_loop i).trips) (f_arg8 : BufTy.Contents (Elt Ideal) arg8.view.ty) (f_arg11 : BufTy.Contents (Elt Ideal) arg11.view.ty) (f_arg15 : BufTy.Contents (Elt Ideal) arg15.view.ty) (f_arg16 : BufTy.Contents (Elt Ideal) arg16.view.ty) (f_arg17 : BufTy.Contents (Elt Ideal) arg17.view.ty)
   (hv2 : ∀ (r : Fin 512) (l : Fin 128), v2 (ix2 r l) = if l.val < 64 then 1#1 else 0#1) (b : Fin 16) (hb : b.val = (i 1).val + 1 + k.val) (kk : Fin 512) (l : Fin 128) :
    arg16.view.read (Elt Ideal) (arg16.view.writes (Elt Ideal) f_arg16 (tripL_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v2 v42 v92 v152 v164 v166 v167 cst_108 v181 X_arg2 X_arg3 X_arg4 X_arg6 X_arg7 X_arg13 X_arg14 k f_arg8 f_arg11 f_arg15 f_arg16 f_arg17).2.2.2.1) (ix2 kk l)
     = arg16.view.read (Elt Ideal) f_arg16 (ix2 kk l) + uDv false (arg2.view.read (Elt Ideal) X_arg2) (arg3.view.read (Elt Ideal) X_arg3) (arg4.view.read (Elt Ideal) X_arg4) (arg6.view.read (Elt Ideal) X_arg6) b kk l := by
  have h0 : (![0, 0, 0] : Fin 3 → ℕ) = ![(0 : Fin 2).val, 0, 0] := rfl
  have h1 : (![1, 0, 0] : Fin 3 → ℕ) = ![(1 : Fin 2).val, 0, 0] := rfl
  have e5 : k0_off5 i k = ![512 * b.val, 0] := by rw [k0_off5_eq, hb]; congr 1; omega
  have e6 : k0_off6 i k = ![0, b.val, 0, 0] := by rw [k0_off6_eq, hb]; congr 2; omega
  have e7 : k0_off7 i k = ![(0 : Fin 2).val, 512 * b.val, 0] := by rw [k0_off7_eq, hb]; congr 2; omega
  have e8 : k0_off8 i k = ![(1 : Fin 2).val, 512 * b.val, 0] := by rw [k0_off8_eq, hb]; congr 2; omega
  unfold tripL_k0_t1
  unfold trip_k0_t1
  dsimp only
  rw [View.read_writes_full]
  sl_unfold_run_names
  repeat rw [rc_all]
  repeat rw [ra_all]
  pointwise [k0_pay20, k0_pay9]
  simp only [ld_rows _ _ b e5, ld_stat _ _ b e6, ld_head_rows _ _ (0 : Fin 2) b e7, ld_head_rows _ _ (1 : Fin 2) b e8, ld_head _ _ (0 : Fin 2) h0, ld_head _ _ (1 : Fin 2) h1, ld_col _ _ (0 : Fin 2) h0, ld_col _ _ (1 : Fin 2) h1]
  simp only [uDv, uDk, uDq, uDfk, uDfq, dsA, prA, Fin.sum_univ_two, hv2, Bool.false_eq_true, false_and, if_false]
  by_cases hl : l.val < 64
  · have o0 : own (0 : Fin 2) l := by simp [own, hl]
    have o1 : ¬ own (1 : Fin 2) l := by simp [own, hl]
    simp only [hl, o0, o1, if_true, if_false, (by decide : IntOp.xori (1#1 : BitVec 1) 1#1 = 0#1), sel1, sel0, Finset.sum_const_zero, add_zero, zero_add, mul_zero]
    try simp only [add_assoc]
  · have o0 : ¬ own (0 : Fin 2) l := by simp [own, hl]
    have o1 : own (1 : Fin 2) l := by simp [own, hl]
    simp only [hl, o0, o1, if_true, if_false, (by decide : IntOp.xori (0#1 : BitVec 1) 1#1 = 1#1), sel1, sel0, Finset.sum_const_zero, add_zero, zero_add, mul_zero]
    try simp only [add_assoc]

theorem trip15 (𝒱 : Variants) (c : Dev nD) (bd : Option 𝒱.V) (i : grid0.Coords) (arg2 : Memref sig .tc .vmem S2x8192x128 .bf16) (harg2 : arg2.IsWhole) (arg3 : Memref sig .tc .vmem S8192x128 .bf16) (harg3 : arg3.IsWhole) (arg4 : Memref sig .tc .vmem S2x512x128 .bf16) (harg4 : arg4.IsWhole) (arg5 : Memref sig .tc .vmem S512x128 .bf16) (harg5 : arg5.IsWhole) (arg6 : Memref sig .tc .vmem S1x16x2x512 .f32) (harg6 : arg6.IsWhole) (arg7 : Memref sig .tc .vmem S1x16x2x512 .f32) (harg7 : arg7.IsWhole) (arg8 : Memref sig .tc .vmem S8192x128 .f32) (harg8 : arg8.IsWhole) (arg9 : Memref sig .tc .vmem S512x128 .bf16) (harg9 : arg9.IsWhole) (arg10 : Memref sig .tc .vmem S512x128 .bf16) (harg10 : arg10.IsWhole) (arg11 : Memref sig .tc .vmem S1x16x2x512 .f32) (harg11 : arg11.IsWhole) (arg12 : Memref sig .tc .vmem S1x512x2 .f32) (harg12 : arg12.IsWhole) (arg13 : Memref sig .tc .vmem S2x512x128 .bf16) (harg13 : arg13.IsWhole) (arg14 : Memref sig .tc .vmem S2x512x128 .bf16) (harg14 : arg14.IsWhole) (arg15 : Memref sig .tc .vmem S512x128 .f32) (harg15 : arg15.IsWhole) (arg16 : Memref sig .tc .vmem S512x128 .f32) (harg16 : arg16.IsWhole) (arg17 : Memref sig .tc .vmem S2x512x1 .f32) (harg17 : arg17.IsWhole) (arg1 : BitVec 32) (v2 : IVec S512x128 1) (v42 : BitVec 32) (v92 : FVec Ideal S1x512 .f32) (v152 : FVec Ideal S1x512 .f32) (v164 : FVec Ideal S512x128 .f32) (v166 : FVec Ideal S512x128 .bf16) (v167 : FVec Ideal S512x512 .bf16) (cst_108 : FVec Ideal S512x128 .f32) (v181 : BitVec 32) (X_arg2 : BufTy.Contents (Elt Ideal) arg2.view.ty) (X_arg3 : BufTy.Contents (Elt Ideal) arg3.view.ty) (X_arg4 : BufTy.Contents (Elt Ideal) arg4.view.ty) (X_arg6 : BufTy.Contents (Elt Ideal) arg6.view.ty) (X_arg7 : BufTy.Contents (Elt Ideal) arg7.view.ty) (X_arg13 : BufTy.Contents (Elt Ideal) arg13.view.ty) (X_arg14 : BufTy.Contents (Elt Ideal) arg14.view.ty) (k : Fin (k0_t1_loop i).trips) (f_arg8 : BufTy.Contents (Elt Ideal) arg8.view.ty) (f_arg11 : BufTy.Contents (Elt Ideal) arg11.view.ty) (f_arg15 : BufTy.Contents (Elt Ideal) arg15.view.ty) (f_arg16 : BufTy.Contents (Elt Ideal) arg16.view.ty) (f_arg17 : BufTy.Contents (Elt Ideal) arg17.view.ty)
   (hv2 : ∀ (r : Fin 512) (l : Fin 128), v2 (ix2 r l) = if l.val < 64 then 1#1 else 0#1) (b : Fin 16) (hb : b.val = (i 1).val + 1 + k.val) (kk : Fin 512) (l : Fin 128) :
    arg15.view.read (Elt Ideal) (arg15.view.writes (Elt Ideal) f_arg15 (tripL_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v2 v42 v92 v152 v164 v166 v167 cst_108 v181 X_arg2 X_arg3 X_arg4 X_arg6 X_arg7 X_arg13 X_arg14 k f_arg8 f_arg11 f_arg15 f_arg16 f_arg17).2.2.1) (ix2 kk l)
     = arg15.view.read (Elt Ideal) f_arg15 (ix2 kk l) + uDk false (arg2.view.read (Elt Ideal) X_arg2) (arg3.view.read (Elt Ideal) X_arg3) (arg4.view.read (Elt Ideal) X_arg4) (arg14.view.read (Elt Ideal) X_arg14) (arg6.view.read (Elt Ideal) X_arg6) (arg7.view.read (Elt Ideal) X_arg7) b kk l := by
  have h0 : (![0, 0, 0] : Fin 3 → ℕ) = ![(0 : Fin 2).val, 0, 0] := rfl
  have h1 : (![1, 0, 0] : Fin 3 → ℕ) = ![(1 : Fin 2).val, 0, 0] := rfl
  have e5 : k0_off5 i k = ![512 * b.val, 0] := by rw [k0_off5_eq, hb]; congr 1; omega
  have e6 : k0_off6 i k = ![0, b.val, 0, 0] := by rw [k0_off6_eq, hb]; congr 2; omega
  have e7 : k0_off7 i k = ![(0 : Fin 2).val, 512 * b.val, 0] := by rw [k0_off7_eq, hb]; congr 2; omega
  have e8 : k0_off8 i k = ![(1 : Fin 2).val, 512 * b.val, 0] := by rw [k0_off8_eq, hb]; congr 2; omega
  unfold tripL_k0_t1
  unfold trip_k0_t1
  dsimp only
  rw [View.read_writes_full]
  sl_unfold_run_names
  repeat rw [rc_all]
  repeat rw [ra_all]
  pointwise [k0_pay87, k0_pay15]
  simp only [ld_rows _ _ b e5, ld_stat _ _ b e6, ld_head_rows _ _ (0 : Fin 2) b e7, ld_head_rows _ _ (1 : Fin 2) b e8, ld_head _ _ (0 : Fin 2) h0, ld_head _ _ (1 : Fin 2) h1, ld_col _ _ (0 : Fin 2) h0, ld_col _ _ (1 : Fin 2) h1]
  simp only [uDv, uDk, uDq, uDfk, uDfq, dsA, prA, Fin.sum_univ_two, hv2, Bool.false_eq_true, false_and, if_false]
  by_cases hl : l.val < 64
  · have o0 : own (0 : Fin 2) l := by simp [own, hl]
    have o1 : ¬ own (1 : Fin 2) l := by simp [own, hl]
    simp only [hl, o0, o1, if_true, if_false, (by decide : IntOp.xori (1#1 : BitVec 1) 1#1 = 0#1), sel1, sel0, Finset.sum_const_zero, add_zero, zero_add, mul_zero]
    try simp only [add_assoc]
  · have o0 : ¬ own (0 : Fin 2) l := by simp [own, hl]
    have o1 : own (1 : Fin 2) l := by simp [own, hl]
    simp only [hl, o0, o1, if_true, if_false, (by decide : IntOp.xori (0#1 : BitVec 1) 1#1 = 1#1), sel1, sel0, Finset.sum_const_zero, add_zero, zero_add, mul_zero]
    try simp only [add_assoc]

theorem trip17 (𝒱 : Variants) (c : Dev nD) (bd : Option 𝒱.V) (i : grid0.Coords) (arg2 : Memref sig .tc .vmem S2x8192x128 .bf16) (harg2 : arg2.IsWhole) (arg3 : Memref sig .tc .vmem S8192x128 .bf16) (harg3 : arg3.IsWhole) (arg4 : Memref sig .tc .vmem S2x512x128 .bf16) (harg4 : arg4.IsWhole) (arg5 : Memref sig .tc .vmem S512x128 .bf16) (harg5 : arg5.IsWhole) (arg6 : Memref sig .tc .vmem S1x16x2x512 .f32) (harg6 : arg6.IsWhole) (arg7 : Memref sig .tc .vmem S1x16x2x512 .f32) (harg7 : arg7.IsWhole) (arg8 : Memref sig .tc .vmem S8192x128 .f32) (harg8 : arg8.IsWhole) (arg9 : Memref sig .tc .vmem S512x128 .bf16) (harg9 : arg9.IsWhole) (arg10 : Memref sig .tc .vmem S512x128 .bf16) (harg10 : arg10.IsWhole) (arg11 : Memref sig .tc .vmem S1x16x2x512 .f32) (harg11 : arg11.IsWhole) (arg12 : Memref sig .tc .vmem S1x512x2 .f32) (harg12 : arg12.IsWhole) (arg13 : Memref sig .tc .vmem S2x512x128 .bf16) (harg13 : arg13.IsWhole) (arg14 : Memref sig .tc .vmem S2x512x128 .bf16) (harg14 : arg14.IsWhole) (arg15 : Memref sig .tc .vmem S512x128 .f32) (harg15 : arg15.IsWhole) (arg16 : Memref sig .tc .vmem S512x128 .f32) (harg16 : arg16.IsWhole) (arg17 : Memref sig .tc .vmem S2x512x1 .f32) (harg17 : arg17.IsWhole) (arg1 : BitVec 32) (v2 : IVec S512x128 1) (v42 : BitVec 32) (v92 : FVec Ideal S1x512 .f32) (v152 : FVec Ideal S1x512 .f32) (v164 : FVec Ideal S512x128 .f32) (v166 : FVec Ideal S512x128 .bf16) (v167 : FVec Ideal S512x512 .bf16) (cst_108 : FVec Ideal S512x128 .f32) (v181 : BitVec 32) (X_arg2 : BufTy.Contents (Elt Ideal) arg2.view.ty) (X_arg3 : BufTy.Contents (Elt Ideal) arg3.view.ty) (X_arg4 : BufTy.Contents (Elt Ideal) arg4.view.ty) (X_arg6 : BufTy.Contents (Elt Ideal) arg6.view.ty) (X_arg7 : BufTy.Contents (Elt Ideal) arg7.view.ty) (X_arg13 : BufTy.Contents (Elt Ideal) arg13.view.ty) (X_arg14 : BufTy.Contents (Elt Ideal) arg14.view.ty) (k : Fin (k0_t1_loop i).trips) (f_arg8 : BufTy.Contents (Elt Ideal) arg8.view.ty) (f_arg11 : BufTy.Contents (Elt Ideal) arg11.view.ty) (f_arg15 : BufTy.Contents (Elt Ideal) arg15.view.ty) (f_arg16 : BufTy.Contents (Elt Ideal) arg16.view.ty) (f_arg17 : BufTy.Contents (Elt Ideal) arg17.view.ty)
   (hv2 : ∀ (r : Fin 512) (l : Fin 128), v2 (ix2 r l) = if l.val < 64 then 1#1 else 0#1) (b : Fin 16) (hb : b.val = (i 1).val + 1 + k.val) (h : Fin 2) (kk : Fin 512) :
    arg17.view.read (Elt Ideal) (arg17.view.writes (Elt Ideal) f_arg17 (tripL_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v2 v42 v92 v152 v164 v166 v167 cst_108 v181 X_arg2 X_arg3 X_arg4 X_arg6 X_arg7 X_arg13 X_arg14 k f_arg8 f_arg11 f_arg15 f_arg16 f_arg17).2.2.2.2) (ix3 h kk (0 : Fin 1))
     = arg17.view.read (Elt Ideal) f_arg17 (ix3 h kk (0 : Fin 1)) + uDfk false (arg2.view.read (Elt Ideal) X_arg2) (arg3.view.read (Elt Ideal) X_arg3) (arg4.view.read (Elt Ideal) X_arg4) (arg14.view.read (Elt Ideal) X_arg14) (arg6.view.read (Elt Ideal) X_arg6) (arg7.view.read (Elt Ideal) X_arg7) b h kk := by
  have h0 : (![0, 0, 0] : Fin 3 → ℕ) = ![(0 : Fin 2).val, 0, 0] := rfl
  have h1 : (![1, 0, 0] : Fin 3 → ℕ) = ![(1 : Fin 2).val, 0, 0] := rfl
  have e5 : k0_off5 i k = ![512 * b.val, 0] := by rw [k0_off5_eq, hb]; congr 1; omega
  have e6 : k0_off6 i k = ![0, b.val, 0, 0] := by rw [k0_off6_eq, hb]; congr 2; omega
  have e7 : k0_off7 i k = ![(0 : Fin 2).val, 512 * b.val, 0] := by rw [k0_off7_eq, hb]; congr 2; omega
  have e8 : k0_off8 i k = ![(1 : Fin 2).val, 512 * b.val, 0] := by rw [k0_off8_eq, hb]; congr 2; omega
  unfold tripL_k0_t1
  unfold trip_k0_t1
  dsimp only
  sl_unfold_run_names
  rw [st_col _ _ (1 : Fin 2) h1, st_col _ _ (0 : Fin 2) h0, View.writes_nil]
  have hh : h = 0 ∨ h = 1 := by omega
  rcases hh with rfl | rfl
  · rw [if_neg (by decide), if_pos rfl]
    pointwise [k0_pay13]
    simp only [ld_rows _ _ b e5, ld_stat _ _ b e6, ld_head_rows _ _ (0 : Fin 2) b e7, ld_head_rows _ _ (1 : Fin 2) b e8, ld_head _ _ (0 : Fin 2) h0, ld_head _ _ (1 : Fin 2) h1, ld_col _ _ (0 : Fin 2) h0, ld_col _ _ (1 : Fin 2) h1]
    simp only [uDv, uDk, uDq, uDfk, uDfq, dsA, prA, Fin.sum_univ_two, Bool.false_eq_true, false_and, if_false]
    try simp only [add_assoc]
  · rw [if_pos rfl]
    pointwise [k0_pay22]
    simp only [ld_rows _ _ b e5, ld_stat _ _ b e6, ld_head_rows _ _ (0 : Fin 2) b e7, ld_head_rows _ _ (1 : Fin 2) b e8, ld_head _ _ (0 : Fin 2) h0, ld_head _ _ (1 : Fin 2) h1, ld_col _ _ (0 : Fin 2) h0, ld_col _ _ (1 : Fin 2) h1]
    simp only [uDv, uDk, uDq, uDfk, uDfq, dsA, prA, Fin.sum_univ_two, Bool.false_eq_true, false_and, if_false]
    try simp only [add_assoc]

theorem trip8 (𝒱 : Variants) (c : Dev nD) (bd : Option 𝒱.V) (i : grid0.Coords) (arg2 : Memref sig .tc .vmem S2x8192x128 .bf16) (harg2 : arg2.IsWhole) (arg3 : Memref sig .tc .vmem S8192x128 .bf16) (harg3 : arg3.IsWhole) (arg4 : Memref sig .tc .vmem S2x512x128 .bf16) (harg4 : arg4.IsWhole) (arg5 : Memref sig .tc .vmem S512x128 .bf16) (harg5 : arg5.IsWhole) (arg6 : Memref sig .tc .vmem S1x16x2x512 .f32) (harg6 : arg6.IsWhole) (arg7 : Memref sig .tc .vmem S1x16x2x512 .f32) (harg7 : arg7.IsWhole) (arg8 : Memref sig .tc .vmem S8192x128 .f32) (harg8 : arg8.IsWhole) (arg9 : Memref sig .tc .vmem S512x128 .bf16) (harg9 : arg9.IsWhole) (arg10 : Memref sig .tc .vmem S512x128 .bf16) (harg10 : arg10.IsWhole) (arg11 : Memref sig .tc .vmem S1x16x2x512 .f32) (harg11 : arg11.IsWhole) (arg12 : Memref sig .tc .vmem S1x512x2 .f32) (harg12 : arg12.IsWhole) (arg13 : Memref sig .tc .vmem S2x512x128 .bf16) (harg13 : arg13.IsWhole) (arg14 : Memref sig .tc .vmem S2x512x128 .bf16) (harg14 : arg14.IsWhole) (arg15 : Memref sig .tc .vmem S512x128 .f32) (harg15 : arg15.IsWhole) (arg16 : Memref sig .tc .vmem S512x128 .f32) (harg16 : arg16.IsWhole) (arg17 : Memref sig .tc .vmem S2x512x1 .f32) (harg17 : arg17.IsWhole) (arg1 : BitVec 32) (v2 : IVec S512x128 1) (v42 : BitVec 32) (v92 : FVec Ideal S1x512 .f32) (v152 : FVec Ideal S1x512 .f32) (v164 : FVec Ideal S512x128 .f32) (v166 : FVec Ideal S512x128 .bf16) (v167 : FVec Ideal S512x512 .bf16) (cst_108 : FVec Ideal S512x128 .f32) (v181 : BitVec 32) (X_arg2 : BufTy.Contents (Elt Ideal) arg2.view.ty) (X_arg3 : BufTy.Contents (Elt Ideal) arg3.view.ty) (X_arg4 : BufTy.Contents (Elt Ideal) arg4.view.ty) (X_arg6 : BufTy.Contents (Elt Ideal) arg6.view.ty) (X_arg7 : BufTy.Contents (Elt Ideal) arg7.view.ty) (X_arg13 : BufTy.Contents (Elt Ideal) arg13.view.ty) (X_arg14 : BufTy.Contents (Elt Ideal) arg14.view.ty) (k : Fin (k0_t1_loop i).trips) (f_arg8 : BufTy.Contents (Elt Ideal) arg8.view.ty) (f_arg11 : BufTy.Contents (Elt Ideal) arg11.view.ty) (f_arg15 : BufTy.Contents (Elt Ideal) arg15.view.ty) (f_arg16 : BufTy.Contents (Elt Ideal) arg16.view.ty) (f_arg17 : BufTy.Contents (Elt Ideal) arg17.view.ty)
   (hv2 : ∀ (r : Fin 512) (l : Fin 128), v2 (ix2 r l) = if l.val < 64 then 1#1 else 0#1) (b : Fin 16) (hb : b.val = (i 1).val + 1 + k.val) (b' : Fin 16) (x : Fin 512) (l : Fin 128) :
    arg8.view.read (Elt Ideal) (arg8.view.writes (Elt Ideal) f_arg8 (tripL_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v2 v42 v92 v152 v164 v166 v167 cst_108 v181 X_arg2 X_arg3 X_arg4 X_arg6 X_arg7 X_arg13 X_arg14 k f_arg8 f_arg11 f_arg15 f_arg16 f_arg17).1) (ix2 (row b' x) l)
     = arg8.view.read (Elt Ideal) f_arg8 (ix2 (row b' x) l) + if b' = b then uDq false (arg2.view.read (Elt Ideal) X_arg2) (arg3.view.read (Elt Ideal) X_arg3) (arg4.view.read (Elt Ideal) X_arg4) (arg14.view.read (Elt Ideal) X_arg14) (arg13.view.read (Elt Ideal) X_arg13) (arg6.view.read (Elt Ideal) X_arg6) (arg7.view.read (Elt Ideal) X_arg7) b x l else 0 := by
  have h0 : (![0, 0, 0] : Fin 3 → ℕ) = ![(0 : Fin 2).val, 0, 0] := rfl
  have h1 : (![1, 0, 0] : Fin 3 → ℕ) = ![(1 : Fin 2).val, 0, 0] := rfl
  have e5 : k0_off5 i k = ![512 * b.val, 0] := by rw [k0_off5_eq, hb]; congr 1; omega
  have e6 : k0_off6 i k = ![0, b.val, 0, 0] := by rw [k0_off6_eq, hb]; congr 2; omega
  have e7 : k0_off7 i k = ![(0 : Fin 2).val, 512 * b.val, 0] := by rw [k0_off7_eq, hb]; congr 2; omega
  have e8 : k0_off8 i k = ![(1 : Fin 2).val, 512 * b.val, 0] := by rw [k0_off8_eq, hb]; congr 2; omega
  unfold tripL_k0_t1
  unfold trip_k0_t1
  dsimp only
  sl_unfold_run_names
  rw [st_rows _ _ b e5, st_rows _ _ b e5]
  split_ifs with hbb
  · rw [hbb, rc_rows]
    pointwise [k0_pay88, k0_pay16]
    simp only [ld_rows _ _ b e5, ld_stat _ _ b e6, ld_head_rows _ _ (0 : Fin 2) b e7, ld_head_rows _ _ (1 : Fin 2) b e8, ld_head _ _ (0 : Fin 2) h0, ld_head _ _ (1 : Fin 2) h1, ld_col _ _ (0 : Fin 2) h0, ld_col _ _ (1 : Fin 2) h1]
    simp only [uDv, uDk, uDq, uDfk, uDfq, dsA, prA, Fin.sum_univ_two, Bool.false_eq_true, false_and, if_false]
    try simp only [add_assoc]
  · simp

theorem pay89_0 (u w : FVec Ideal S1x512 .f32) (v : Vec Ideal S1x1x2x512 .f32) (x : Fin 512) :
    k0_pay89 u w v (ix4 (0 : Fin 1) (0 : Fin 1) (0 : Fin 2) x) = v (ix4 (0 : Fin 1) (0 : Fin 1) (0 : Fin 2) x) + u (ix2 (0 : Fin 1) x) := by
  pointwise [k0_pay89]

theorem pay89_1 (u w : FVec Ideal S1x512 .f32) (v : Vec Ideal S1x1x2x512 .f32) (x : Fin 512) :
    k0_pay89 u w v (ix4 (0 : Fin 1) (0 : Fin 1) (1 : Fin 2) x) = v (ix4 (0 : Fin 1) (0 : Fin 1) (1 : Fin 2) x) + w (ix2 (0 : Fin 1) x) := by
  pointwise [k0_pay89]

theorem trip11 (𝒱 : Variants) (c : Dev nD) (bd : Option 𝒱.V) (i : grid0.Coords) (arg2 : Memref sig .tc .vmem S2x8192x128 .bf16) (harg2 : arg2.IsWhole) (arg3 : Memref sig .tc .vmem S8192x128 .bf16) (harg3 : arg3.IsWhole) (arg4 : Memref sig .tc .vmem S2x512x128 .bf16) (harg4 : arg4.IsWhole) (arg5 : Memref sig .tc .vmem S512x128 .bf16) (harg5 : arg5.IsWhole) (arg6 : Memref sig .tc .vmem S1x16x2x512 .f32) (harg6 : arg6.IsWhole) (arg7 : Memref sig .tc .vmem S1x16x2x512 .f32) (harg7 : arg7.IsWhole) (arg8 : Memref sig .tc .vmem S8192x128 .f32) (harg8 : arg8.IsWhole) (arg9 : Memref sig .tc .vmem S512x128 .bf16) (harg9 : arg9.IsWhole) (arg10 : Memref sig .tc .vmem S512x128 .bf16) (harg10 : arg10.IsWhole) (arg11 : Memref sig .tc .vmem S1x16x2x512 .f32) (harg11 : arg11.IsWhole) (arg12 : Memref sig .tc .vmem S1x512x2 .f32) (harg12 : arg12.IsWhole) (arg13 : Memref sig .tc .vmem S2x512x128 .bf16) (harg13 : arg13.IsWhole) (arg14 : Memref sig .tc .vmem S2x512x128 .bf16) (harg14 : arg14.IsWhole) (arg15 : Memref sig .tc .vmem S512x128 .f32) (harg15 : arg15.IsWhole) (arg16 : Memref sig .tc .vmem S512x128 .f32) (harg16 : arg16.IsWhole) (arg17 : Memref sig .tc .vmem S2x512x1 .f32) (harg17 : arg17.IsWhole) (arg1 : BitVec 32) (v2 : IVec S512x128 1) (v42 : BitVec 32) (v92 : FVec Ideal S1x512 .f32) (v152 : FVec Ideal S1x512 .f32) (v164 : FVec Ideal S512x128 .f32) (v166 : FVec Ideal S512x128 .bf16) (v167 : FVec Ideal S512x512 .bf16) (cst_108 : FVec Ideal S512x128 .f32) (v181 : BitVec 32) (X_arg2 : BufTy.Contents (Elt Ideal) arg2.view.ty) (X_arg3 : BufTy.Contents (Elt Ideal) arg3.view.ty) (X_arg4 : BufTy.Contents (Elt Ideal) arg4.view.ty) (X_arg6 : BufTy.Contents (Elt Ideal) arg6.view.ty) (X_arg7 : BufTy.Contents (Elt Ideal) arg7.view.ty) (X_arg13 : BufTy.Contents (Elt Ideal) arg13.view.ty) (X_arg14 : BufTy.Contents (Elt Ideal) arg14.view.ty) (k : Fin (k0_t1_loop i).trips) (f_arg8 : BufTy.Contents (Elt Ideal) arg8.view.ty) (f_arg11 : BufTy.Contents (Elt Ideal) arg11.view.ty) (f_arg15 : BufTy.Contents (Elt Ideal) arg15.view.ty) (f_arg16 : BufTy.Contents (Elt Ideal) arg16.view.ty) (f_arg17 : BufTy.Contents (Elt Ideal) arg17.view.ty)
   (hv2 : ∀ (r : Fin 512) (l : Fin 128), v2 (ix2 r l) = if l.val < 64 then 1#1 else 0#1) (b : Fin 16) (hb : b.val = (i 1).val + 1 + k.val) (b' : Fin 16) (h : Fin 2) (x : Fin 512) :
    arg11.view.read (Elt Ideal) (arg11.view.writes (Elt Ideal) f_arg11 (tripL_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v2 v42 v92 v152 v164 v166 v167 cst_108 v181 X_arg2 X_arg3 X_arg4 X_arg6 X_arg7 X_arg13 X_arg14 k f_arg8 f_arg11 f_arg15 f_arg16 f_arg17).2.1) (ix4 (0 : Fin 1) b' h x)
     = arg11.view.read (Elt Ideal) f_arg11 (ix4 (0 : Fin 1) b' h x) + if b' = b then uDfq false (arg2.view.read (Elt Ideal) X_arg2) (arg3.view.read (Elt Ideal) X_arg3) (arg4.view.read (Elt Ideal) X_arg4) (arg14.view.read (Elt Ideal) X_arg14) (arg6.view.read (Elt Ideal) X_arg6) (arg7.view.read (Elt Ideal) X_arg7) b h x else 0 := by
  have h0 : (![0, 0, 0] : Fin 3 → ℕ) = ![(0 : Fin 2).val, 0, 0] := rfl
  have h1 : (![1, 0, 0] : Fin 3 → ℕ) = ![(1 : Fin 2).val, 0, 0] := rfl
  have e5 : k0_off5 i k = ![512 * b.val, 0] := by rw [k0_off5_eq, hb]; congr 1; omega
  have e6 : k0_off6 i k = ![0, b.val, 0, 0] := by rw [k0_off6_eq, hb]; congr 2; omega
  have e7 : k0_off7 i k = ![(0 : Fin 2).val, 512 * b.val, 0] := by rw [k0_off7_eq, hb]; congr 2; omega
  have e8 : k0_off8 i k = ![(1 : Fin 2).val, 512 * b.val, 0] := by rw [k0_off8_eq, hb]; congr 2; omega
  unfold tripL_k0_t1
  unfold trip_k0_t1
  dsimp only
  sl_unfold_run_names
  rw [st_stat _ _ b e6]
  split_ifs with hbb
  · rw [hbb]
    have hh : h = 0 ∨ h = 1 := by omega
    rcases hh with rfl | rfl
    · rw [pay89_0]
      pointwise [k0_pay14]
      simp only [ld_rows _ _ b e5, ld_stat _ _ b e6, ld_head_rows _ _ (0 : Fin 2) b e7, ld_head_rows _ _ (1 : Fin 2) b e8, ld_head _ _ (0 : Fin 2) h0, ld_head _ _ (1 : Fin 2) h1, ld_col _ _ (0 : Fin 2) h0, ld_col _ _ (1 : Fin 2) h1]
      simp only [uDv, uDk, uDq, uDfk, uDfq, dsA, prA, Fin.sum_univ_two, Bool.false_eq_true, false_and, if_false]
      try simp only [add_assoc]
    · rw [pay89_1]
      pointwise [k0_pay23]
      simp only [ld_rows _ _ b e5, ld_stat _ _ b e6, ld_head_rows _ _ (0 : Fin 2) b e7, ld_head_rows _ _ (1 : Fin 2) b e8, ld_head _ _ (0 : Fin 2) h0, ld_head _ _ (1 : Fin 2) h1, ld_col _ _ (0 : Fin 2) h0, ld_col _ _ (1 : Fin 2) h1]
      simp only [uDv, uDk, uDq, uDfk, uDfq, dsA, prA, Fin.sum_univ_two, Bool.false_eq_true, false_and, if_false]
      try simp only [add_assoc]
  · simp [View.writes_nil]
end Cert.KernelIdeal.Fox
end
-- ==== Proof.Sweep.lean ====
module

public import proofs.«01_k».proof.Proof.Trip
public import proofs.«01_k».proof.Proof.Gen.KernelIdeal.Skeleton
public import proofs.«01_k».proof.Proof.Gen.KernelIdeal.Loops
public import proofs.«01_k».proof.Proof.Gen.KernelIdeal.Frame
public import Idealize.ShloMosaic.Lib.VecWindow
public import Idealize.ShloMosaic.Lib.Pipeline.ValueKit

@[expose] public section

set_option maxRecDepth 16384

noncomputable section

namespace Cert.KernelIdeal.Fox

open Idealize.ShloMosaic Idealize.ShloMosaic.TcCoe Idealize.ShloMosaic.Tactic
open Idealize.SL Idealize.SL.RA Idealize.SL.BI
open Idealize.SL.Sem
open Cert.KernelIdeal Cert.KernelIdeal.Gen

/-- The block of queries the loop meets in trip `m`. -/
def later (i : grid0.Coords) (m : ℕ) : Fin 16 := ⟨((i 1).val + 1 + m) % 16, Nat.mod_lt _ (by decide)⟩

theorem trips1 (i : grid0.Coords) : (k0_t1_loop i).trips = 15 - (i 1).val := by
  have h1 : (i 1).val < 16 := (i 1).isLt
  unfold k0_t1_loop
  generalize (i 1).val = j at h1
  interval_cases j <;> decide

theorem trips2 (i : grid0.Coords) : (k0_t2_loop i).trips = 0 := by
  have h1 : (i 1).val < 16 := (i 1).isLt
  unfold k0_t2_loop
  generalize (i 1).val = j at h1
  interval_cases j <;> decide

theorem later_val (i : grid0.Coords) (k : Fin (k0_t1_loop i).trips) : (later i k.val).val = (i 1).val + 1 + k.val := by
  have h1 : (i 1).val < 16 := (i 1).isLt
  have h2 : k.val < 15 - (i 1).val := trips1 i ▸ k.isLt
  show ((i 1).val + 1 + k.val) % 16 = _
  exact Nat.mod_eq_of_lt (by omega)

theorem sweep16 (𝒱 : Variants) (c : Dev nD) (bd : Option 𝒱.V) (i : grid0.Coords) (arg2 : Memref sig .tc .vmem S2x8192x128 .bf16) (harg2 : arg2.IsWhole) (arg3 : Memref sig .tc .vmem S8192x128 .bf16) (harg3 : arg3.IsWhole) (arg4 : Memref sig .tc .vmem S2x512x128 .bf16) (harg4 : arg4.IsWhole) (arg5 : Memref sig .tc .vmem S512x128 .bf16) (harg5 : arg5.IsWhole) (arg6 : Memref sig .tc .vmem S1x16x2x512 .f32) (harg6 : arg6.IsWhole) (arg7 : Memref sig .tc .vmem S1x16x2x512 .f32) (harg7 : arg7.IsWhole) (arg8 : Memref sig .tc .vmem S8192x128 .f32) (harg8 : arg8.IsWhole) (arg9 : Memref sig .tc .vmem S512x128 .bf16) (harg9 : arg9.IsWhole) (arg10 : Memref sig .tc .vmem S512x128 .bf16) (harg10 : arg10.IsWhole) (arg11 : Memref sig .tc .vmem S1x16x2x512 .f32) (harg11 : arg11.IsWhole) (arg12 : Memref sig .tc .vmem S1x512x2 .f32) (harg12 : arg12.IsWhole) (arg13 : Memref sig .tc .vmem S2x512x128 .bf16) (harg13 : arg13.IsWhole) (arg14 : Memref sig .tc .vmem S2x512x128 .bf16) (harg14 : arg14.IsWhole) (arg15 : Memref sig .tc .vmem S512x128 .f32) (harg15 : arg15.IsWhole) (arg16 : Memref sig .tc .vmem S512x128 .f32) (harg16 : arg16.IsWhole) (arg17 : Memref sig .tc .vmem S2x512x1 .f32) (harg17 : arg17.IsWhole) (arg1 : BitVec 32) (v2 : IVec S512x128 1) (v42 : BitVec 32) (v92 : FVec Ideal S1x512 .f32) (v152 : FVec Ideal S1x512 .f32) (v164 : FVec Ideal S512x128 .f32) (v166 : FVec Ideal S512x128 .bf16) (v167 : FVec Ideal S512x512 .bf16) (cst_108 : FVec Ideal S512x128 .f32) (v181 : BitVec 32) (X_arg2 : BufTy.Contents (Elt Ideal) arg2.view.ty) (X_arg3 : BufTy.Contents (Elt Ideal) arg3.view.ty) (X_arg4 : BufTy.Contents (Elt Ideal) arg4.view.ty) (X_arg6 : BufTy.Contents (Elt Ideal) arg6.view.ty) (X_arg7 : BufTy.Contents (Elt Ideal) arg7.view.ty) (X_arg13 : BufTy.Contents (Elt Ideal) arg13.view.ty) (X_arg14 : BufTy.Contents (Elt Ideal) arg14.view.ty) (G_arg8 : BufTy.Contents (Elt Ideal) arg8.view.ty) (G_arg11 : BufTy.Contents (Elt Ideal) arg11.view.ty) (G_arg15 : BufTy.Contents (Elt Ideal) arg15.view.ty) (G_arg16 : BufTy.Contents (Elt Ideal) arg16.view.ty) (G_arg17 : BufTy.Contents (Elt Ideal) arg17.view.ty)
   (hv2 : ∀ (r : Fin 512) (l : Fin 128), v2 (ix2 r l) = if l.val < 64 then 1#1 else 0#1) (kk : Fin 512) (l : Fin 128) (n : ℕ) (hn : n ≤ (k0_t1_loop i).trips) :
    arg16.view.read (Elt Ideal) (arg16.view.writes (Elt Ideal) G_arg16 (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v2 v42 v92 v152 v164 v166 v167 cst_108 v181 X_arg2 X_arg3 X_arg4 X_arg6 X_arg7 X_arg13 X_arg14 G_arg8 G_arg11 G_arg15 G_arg16 G_arg17 n).2.2.2.1) (ix2 kk l)
     = arg16.view.read (Elt Ideal) G_arg16 (ix2 kk l) + ∑ m ∈ Finset.range n, uDv false (arg2.view.read (Elt Ideal) X_arg2) (arg3.view.read (Elt Ideal) X_arg3) (arg4.view.read (Elt Ideal) X_arg4) (arg6.view.read (Elt Ideal) X_arg6) (later i m) kk l := by
  induction n with
  | zero => rw [Finset.sum_range_zero, add_zero]; rfl
  | succ n ih =>
    have e := pb_k0_t1_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v2 v42 v92 v152 v164 v166 v167 cst_108 v181 X_arg2 X_arg3 X_arg4 X_arg6 X_arg7 X_arg13 X_arg14 G_arg8 G_arg11 G_arg15 G_arg16 G_arg17 ⟨n, hn⟩
    dsimp only at e
    rw [e, View.writes_append, trip16 (hv2 := hv2) (b := later i n) (hb := later_val i ⟨n, hn⟩), ih (Nat.le_of_succ_le hn), Finset.sum_range_succ, add_assoc]

theorem sweep15 (𝒱 : Variants) (c : Dev nD) (bd : Option 𝒱.V) (i : grid0.Coords) (arg2 : Memref sig .tc .vmem S2x8192x128 .bf16) (harg2 : arg2.IsWhole) (arg3 : Memref sig .tc .vmem S8192x128 .bf16) (harg3 : arg3.IsWhole) (arg4 : Memref sig .tc .vmem S2x512x128 .bf16) (harg4 : arg4.IsWhole) (arg5 : Memref sig .tc .vmem S512x128 .bf16) (harg5 : arg5.IsWhole) (arg6 : Memref sig .tc .vmem S1x16x2x512 .f32) (harg6 : arg6.IsWhole) (arg7 : Memref sig .tc .vmem S1x16x2x512 .f32) (harg7 : arg7.IsWhole) (arg8 : Memref sig .tc .vmem S8192x128 .f32) (harg8 : arg8.IsWhole) (arg9 : Memref sig .tc .vmem S512x128 .bf16) (harg9 : arg9.IsWhole) (arg10 : Memref sig .tc .vmem S512x128 .bf16) (harg10 : arg10.IsWhole) (arg11 : Memref sig .tc .vmem S1x16x2x512 .f32) (harg11 : arg11.IsWhole) (arg12 : Memref sig .tc .vmem S1x512x2 .f32) (harg12 : arg12.IsWhole) (arg13 : Memref sig .tc .vmem S2x512x128 .bf16) (harg13 : arg13.IsWhole) (arg14 : Memref sig .tc .vmem S2x512x128 .bf16) (harg14 : arg14.IsWhole) (arg15 : Memref sig .tc .vmem S512x128 .f32) (harg15 : arg15.IsWhole) (arg16 : Memref sig .tc .vmem S512x128 .f32) (harg16 : arg16.IsWhole) (arg17 : Memref sig .tc .vmem S2x512x1 .f32) (harg17 : arg17.IsWhole) (arg1 : BitVec 32) (v2 : IVec S512x128 1) (v42 : BitVec 32) (v92 : FVec Ideal S1x512 .f32) (v152 : FVec Ideal S1x512 .f32) (v164 : FVec Ideal S512x128 .f32) (v166 : FVec Ideal S512x128 .bf16) (v167 : FVec Ideal S512x512 .bf16) (cst_108 : FVec Ideal S512x128 .f32) (v181 : BitVec 32) (X_arg2 : BufTy.Contents (Elt Ideal) arg2.view.ty) (X_arg3 : BufTy.Contents (Elt Ideal) arg3.view.ty) (X_arg4 : BufTy.Contents (Elt Ideal) arg4.view.ty) (X_arg6 : BufTy.Contents (Elt Ideal) arg6.view.ty) (X_arg7 : BufTy.Contents (Elt Ideal) arg7.view.ty) (X_arg13 : BufTy.Contents (Elt Ideal) arg13.view.ty) (X_arg14 : BufTy.Contents (Elt Ideal) arg14.view.ty) (G_arg8 : BufTy.Contents (Elt Ideal) arg8.view.ty) (G_arg11 : BufTy.Contents (Elt Ideal) arg11.view.ty) (G_arg15 : BufTy.Contents (Elt Ideal) arg15.view.ty) (G_arg16 : BufTy.Contents (Elt Ideal) arg16.view.ty) (G_arg17 : BufTy.Contents (Elt Ideal) arg17.view.ty)
   (hv2 : ∀ (r : Fin 512) (l : Fin 128), v2 (ix2 r l) = if l.val < 64 then 1#1 else 0#1) (kk : Fin 512) (l : Fin 128) (n : ℕ) (hn : n ≤ (k0_t1_loop i).trips) :
    arg15.view.read (Elt Ideal) (arg15.view.writes (Elt Ideal) G_arg15 (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v2 v42 v92 v152 v164 v166 v167 cst_108 v181 X_arg2 X_arg3 X_arg4 X_arg6 X_arg7 X_arg13 X_arg14 G_arg8 G_arg11 G_arg15 G_arg16 G_arg17 n).2.2.1) (ix2 kk l)
     = arg15.view.read (Elt Ideal) G_arg15 (ix2 kk l) + ∑ m ∈ Finset.range n, uDk false (arg2.view.read (Elt Ideal) X_arg2) (arg3.view.read (Elt Ideal) X_arg3) (arg4.view.read (Elt Ideal) X_arg4) (arg14.view.read (Elt Ideal) X_arg14) (arg6.view.read (Elt Ideal) X_arg6) (arg7.view.read (Elt Ideal) X_arg7) (later i m) kk l := by
  induction n with
  | zero => rw [Finset.sum_range_zero, add_zero]; rfl
  | succ n ih =>
    have e := pb_k0_t1_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v2 v42 v92 v152 v164 v166 v167 cst_108 v181 X_arg2 X_arg3 X_arg4 X_arg6 X_arg7 X_arg13 X_arg14 G_arg8 G_arg11 G_arg15 G_arg16 G_arg17 ⟨n, hn⟩
    dsimp only at e
    rw [e, View.writes_append, trip15 (hv2 := hv2) (b := later i n) (hb := later_val i ⟨n, hn⟩), ih (Nat.le_of_succ_le hn), Finset.sum_range_succ, add_assoc]

theorem sweep17 (𝒱 : Variants) (c : Dev nD) (bd : Option 𝒱.V) (i : grid0.Coords) (arg2 : Memref sig .tc .vmem S2x8192x128 .bf16) (harg2 : arg2.IsWhole) (arg3 : Memref sig .tc .vmem S8192x128 .bf16) (harg3 : arg3.IsWhole) (arg4 : Memref sig .tc .vmem S2x512x128 .bf16) (harg4 : arg4.IsWhole) (arg5 : Memref sig .tc .vmem S512x128 .bf16) (harg5 : arg5.IsWhole) (arg6 : Memref sig .tc .vmem S1x16x2x512 .f32) (harg6 : arg6.IsWhole) (arg7 : Memref sig .tc .vmem S1x16x2x512 .f32) (harg7 : arg7.IsWhole) (arg8 : Memref sig .tc .vmem S8192x128 .f32) (harg8 : arg8.IsWhole) (arg9 : Memref sig .tc .vmem S512x128 .bf16) (harg9 : arg9.IsWhole) (arg10 : Memref sig .tc .vmem S512x128 .bf16) (harg10 : arg10.IsWhole) (arg11 : Memref sig .tc .vmem S1x16x2x512 .f32) (harg11 : arg11.IsWhole) (arg12 : Memref sig .tc .vmem S1x512x2 .f32) (harg12 : arg12.IsWhole) (arg13 : Memref sig .tc .vmem S2x512x128 .bf16) (harg13 : arg13.IsWhole) (arg14 : Memref sig .tc .vmem S2x512x128 .bf16) (harg14 : arg14.IsWhole) (arg15 : Memref sig .tc .vmem S512x128 .f32) (harg15 : arg15.IsWhole) (arg16 : Memref sig .tc .vmem S512x128 .f32) (harg16 : arg16.IsWhole) (arg17 : Memref sig .tc .vmem S2x512x1 .f32) (harg17 : arg17.IsWhole) (arg1 : BitVec 32) (v2 : IVec S512x128 1) (v42 : BitVec 32) (v92 : FVec Ideal S1x512 .f32) (v152 : FVec Ideal S1x512 .f32) (v164 : FVec Ideal S512x128 .f32) (v166 : FVec Ideal S512x128 .bf16) (v167 : FVec Ideal S512x512 .bf16) (cst_108 : FVec Ideal S512x128 .f32) (v181 : BitVec 32) (X_arg2 : BufTy.Contents (Elt Ideal) arg2.view.ty) (X_arg3 : BufTy.Contents (Elt Ideal) arg3.view.ty) (X_arg4 : BufTy.Contents (Elt Ideal) arg4.view.ty) (X_arg6 : BufTy.Contents (Elt Ideal) arg6.view.ty) (X_arg7 : BufTy.Contents (Elt Ideal) arg7.view.ty) (X_arg13 : BufTy.Contents (Elt Ideal) arg13.view.ty) (X_arg14 : BufTy.Contents (Elt Ideal) arg14.view.ty) (G_arg8 : BufTy.Contents (Elt Ideal) arg8.view.ty) (G_arg11 : BufTy.Contents (Elt Ideal) arg11.view.ty) (G_arg15 : BufTy.Contents (Elt Ideal) arg15.view.ty) (G_arg16 : BufTy.Contents (Elt Ideal) arg16.view.ty) (G_arg17 : BufTy.Contents (Elt Ideal) arg17.view.ty)
   (hv2 : ∀ (r : Fin 512) (l : Fin 128), v2 (ix2 r l) = if l.val < 64 then 1#1 else 0#1) (h : Fin 2) (kk : Fin 512) (n : ℕ) (hn : n ≤ (k0_t1_loop i).trips) :
    arg17.view.read (Elt Ideal) (arg17.view.writes (Elt Ideal) G_arg17 (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v2 v42 v92 v152 v164 v166 v167 cst_108 v181 X_arg2 X_arg3 X_arg4 X_arg6 X_arg7 X_arg13 X_arg14 G_arg8 G_arg11 G_arg15 G_arg16 G_arg17 n).2.2.2.2) (ix3 h kk (0 : Fin 1))
     = arg17.view.read (Elt Ideal) G_arg17 (ix3 h kk (0 : Fin 1)) + ∑ m ∈ Finset.range n, uDfk false (arg2.view.read (Elt Ideal) X_arg2) (arg3.view.read (Elt Ideal) X_arg3) (arg4.view.read (Elt Ideal) X_arg4) (arg14.view.read (Elt Ideal) X_arg14) (arg6.view.read (Elt Ideal) X_arg6) (arg7.view.read (Elt Ideal) X_arg7) (later i m) h kk := by
  induction n with
  | zero => rw [Finset.sum_range_zero, add_zero]; rfl
  | succ n ih =>
    have e := pb_k0_t1_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v2 v42 v92 v152 v164 v166 v167 cst_108 v181 X_arg2 X_arg3 X_arg4 X_arg6 X_arg7 X_arg13 X_arg14 G_arg8 G_arg11 G_arg15 G_arg16 G_arg17 ⟨n, hn⟩
    dsimp only at e
    rw [e, View.writes_append, trip17 (hv2 := hv2) (b := later i n) (hb := later_val i ⟨n, hn⟩), ih (Nat.le_of_succ_le hn), Finset.sum_range_succ, add_assoc]

theorem sweep8 (𝒱 : Variants) (c : Dev nD) (bd : Option 𝒱.V) (i : grid0.Coords) (arg2 : Memref sig .tc .vmem S2x8192x128 .bf16) (harg2 : arg2.IsWhole) (arg3 : Memref sig .tc .vmem S8192x128 .bf16) (harg3 : arg3.IsWhole) (arg4 : Memref sig .tc .vmem S2x512x128 .bf16) (harg4 : arg4.IsWhole) (arg5 : Memref sig .tc .vmem S512x128 .bf16) (harg5 : arg5.IsWhole) (arg6 : Memref sig .tc .vmem S1x16x2x512 .f32) (harg6 : arg6.IsWhole) (arg7 : Memref sig .tc .vmem S1x16x2x512 .f32) (harg7 : arg7.IsWhole) (arg8 : Memref sig .tc .vmem S8192x128 .f32) (harg8 : arg8.IsWhole) (arg9 : Memref sig .tc .vmem S512x128 .bf16) (harg9 : arg9.IsWhole) (arg10 : Memref sig .tc .vmem S512x128 .bf16) (harg10 : arg10.IsWhole) (arg11 : Memref sig .tc .vmem S1x16x2x512 .f32) (harg11 : arg11.IsWhole) (arg12 : Memref sig .tc .vmem S1x512x2 .f32) (harg12 : arg12.IsWhole) (arg13 : Memref sig .tc .vmem S2x512x128 .bf16) (harg13 : arg13.IsWhole) (arg14 : Memref sig .tc .vmem S2x512x128 .bf16) (harg14 : arg14.IsWhole) (arg15 : Memref sig .tc .vmem S512x128 .f32) (harg15 : arg15.IsWhole) (arg16 : Memref sig .tc .vmem S512x128 .f32) (harg16 : arg16.IsWhole) (arg17 : Memref sig .tc .vmem S2x512x1 .f32) (harg17 : arg17.IsWhole) (arg1 : BitVec 32) (v2 : IVec S512x128 1) (v42 : BitVec 32) (v92 : FVec Ideal S1x512 .f32) (v152 : FVec Ideal S1x512 .f32) (v164 : FVec Ideal S512x128 .f32) (v166 : FVec Ideal S512x128 .bf16) (v167 : FVec Ideal S512x512 .bf16) (cst_108 : FVec Ideal S512x128 .f32) (v181 : BitVec 32) (X_arg2 : BufTy.Contents (Elt Ideal) arg2.view.ty) (X_arg3 : BufTy.Contents (Elt Ideal) arg3.view.ty) (X_arg4 : BufTy.Contents (Elt Ideal) arg4.view.ty) (X_arg6 : BufTy.Contents (Elt Ideal) arg6.view.ty) (X_arg7 : BufTy.Contents (Elt Ideal) arg7.view.ty) (X_arg13 : BufTy.Contents (Elt Ideal) arg13.view.ty) (X_arg14 : BufTy.Contents (Elt Ideal) arg14.view.ty) (G_arg8 : BufTy.Contents (Elt Ideal) arg8.view.ty) (G_arg11 : BufTy.Contents (Elt Ideal) arg11.view.ty) (G_arg15 : BufTy.Contents (Elt Ideal) arg15.view.ty) (G_arg16 : BufTy.Contents (Elt Ideal) arg16.view.ty) (G_arg17 : BufTy.Contents (Elt Ideal) arg17.view.ty)
   (hv2 : ∀ (r : Fin 512) (l : Fin 128), v2 (ix2 r l) = if l.val < 64 then 1#1 else 0#1) (b' : Fin 16) (x : Fin 512) (l : Fin 128) (n : ℕ) (hn : n ≤ (k0_t1_loop i).trips) :
    arg8.view.read (Elt Ideal) (arg8.view.writes (Elt Ideal) G_arg8 (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v2 v42 v92 v152 v164 v166 v167 cst_108 v181 X_arg2 X_arg3 X_arg4 X_arg6 X_arg7 X_arg13 X_arg14 G_arg8 G_arg11 G_arg15 G_arg16 G_arg17 n).1) (ix2 (row b' x) l)
     = arg8.view.read (Elt Ideal) G_arg8 (ix2 (row b' x) l) + ∑ m ∈ Finset.range n, if b' = later i m then uDq false (arg2.view.read (Elt Ideal) X_arg2) (arg3.view.read (Elt Ideal) X_arg3) (arg4.view.read (Elt Ideal) X_arg4) (arg14.view.read (Elt Ideal) X_arg14) (arg13.view.read (Elt Ideal) X_arg13) (arg6.view.read (Elt Ideal) X_arg6) (arg7.view.read (Elt Ideal) X_arg7) (later i m) x l else 0 := by
  induction n with
  | zero => rw [Finset.sum_range_zero, add_zero]; rfl
  | succ n ih =>
    have e := pb_k0_t1_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v2 v42 v92 v152 v164 v166 v167 cst_108 v181 X_arg2 X_arg3 X_arg4 X_arg6 X_arg7 X_arg13 X_arg14 G_arg8 G_arg11 G_arg15 G_arg16 G_arg17 ⟨n, hn⟩
    dsimp only at e
    rw [e, View.writes_append, trip8 (hv2 := hv2) (b := later i n) (hb := later_val i ⟨n, hn⟩), ih (Nat.le_of_succ_le hn), Finset.sum_range_succ, add_assoc]

theorem sweep11 (𝒱 : Variants) (c : Dev nD) (bd : Option 𝒱.V) (i : grid0.Coords) (arg2 : Memref sig .tc .vmem S2x8192x128 .bf16) (harg2 : arg2.IsWhole) (arg3 : Memref sig .tc .vmem S8192x128 .bf16) (harg3 : arg3.IsWhole) (arg4 : Memref sig .tc .vmem S2x512x128 .bf16) (harg4 : arg4.IsWhole) (arg5 : Memref sig .tc .vmem S512x128 .bf16) (harg5 : arg5.IsWhole) (arg6 : Memref sig .tc .vmem S1x16x2x512 .f32) (harg6 : arg6.IsWhole) (arg7 : Memref sig .tc .vmem S1x16x2x512 .f32) (harg7 : arg7.IsWhole) (arg8 : Memref sig .tc .vmem S8192x128 .f32) (harg8 : arg8.IsWhole) (arg9 : Memref sig .tc .vmem S512x128 .bf16) (harg9 : arg9.IsWhole) (arg10 : Memref sig .tc .vmem S512x128 .bf16) (harg10 : arg10.IsWhole) (arg11 : Memref sig .tc .vmem S1x16x2x512 .f32) (harg11 : arg11.IsWhole) (arg12 : Memref sig .tc .vmem S1x512x2 .f32) (harg12 : arg12.IsWhole) (arg13 : Memref sig .tc .vmem S2x512x128 .bf16) (harg13 : arg13.IsWhole) (arg14 : Memref sig .tc .vmem S2x512x128 .bf16) (harg14 : arg14.IsWhole) (arg15 : Memref sig .tc .vmem S512x128 .f32) (harg15 : arg15.IsWhole) (arg16 : Memref sig .tc .vmem S512x128 .f32) (harg16 : arg16.IsWhole) (arg17 : Memref sig .tc .vmem S2x512x1 .f32) (harg17 : arg17.IsWhole) (arg1 : BitVec 32) (v2 : IVec S512x128 1) (v42 : BitVec 32) (v92 : FVec Ideal S1x512 .f32) (v152 : FVec Ideal S1x512 .f32) (v164 : FVec Ideal S512x128 .f32) (v166 : FVec Ideal S512x128 .bf16) (v167 : FVec Ideal S512x512 .bf16) (cst_108 : FVec Ideal S512x128 .f32) (v181 : BitVec 32) (X_arg2 : BufTy.Contents (Elt Ideal) arg2.view.ty) (X_arg3 : BufTy.Contents (Elt Ideal) arg3.view.ty) (X_arg4 : BufTy.Contents (Elt Ideal) arg4.view.ty) (X_arg6 : BufTy.Contents (Elt Ideal) arg6.view.ty) (X_arg7 : BufTy.Contents (Elt Ideal) arg7.view.ty) (X_arg13 : BufTy.Contents (Elt Ideal) arg13.view.ty) (X_arg14 : BufTy.Contents (Elt Ideal) arg14.view.ty) (G_arg8 : BufTy.Contents (Elt Ideal) arg8.view.ty) (G_arg11 : BufTy.Contents (Elt Ideal) arg11.view.ty) (G_arg15 : BufTy.Contents (Elt Ideal) arg15.view.ty) (G_arg16 : BufTy.Contents (Elt Ideal) arg16.view.ty) (G_arg17 : BufTy.Contents (Elt Ideal) arg17.view.ty)
   (hv2 : ∀ (r : Fin 512) (l : Fin 128), v2 (ix2 r l) = if l.val < 64 then 1#1 else 0#1) (b' : Fin 16) (h : Fin 2) (x : Fin 512) (n : ℕ) (hn : n ≤ (k0_t1_loop i).trips) :
    arg11.view.read (Elt Ideal) (arg11.view.writes (Elt Ideal) G_arg11 (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v2 v42 v92 v152 v164 v166 v167 cst_108 v181 X_arg2 X_arg3 X_arg4 X_arg6 X_arg7 X_arg13 X_arg14 G_arg8 G_arg11 G_arg15 G_arg16 G_arg17 n).2.1) (ix4 (0 : Fin 1) b' h x)
     = arg11.view.read (Elt Ideal) G_arg11 (ix4 (0 : Fin 1) b' h x) + ∑ m ∈ Finset.range n, if b' = later i m then uDfq false (arg2.view.read (Elt Ideal) X_arg2) (arg3.view.read (Elt Ideal) X_arg3) (arg4.view.read (Elt Ideal) X_arg4) (arg14.view.read (Elt Ideal) X_arg14) (arg6.view.read (Elt Ideal) X_arg6) (arg7.view.read (Elt Ideal) X_arg7) (later i m) h x else 0 := by
  induction n with
  | zero => rw [Finset.sum_range_zero, add_zero]; rfl
  | succ n ih =>
    have e := pb_k0_t1_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v2 v42 v92 v152 v164 v166 v167 cst_108 v181 X_arg2 X_arg3 X_arg4 X_arg6 X_arg7 X_arg13 X_arg14 G_arg8 G_arg11 G_arg15 G_arg16 G_arg17 ⟨n, hn⟩
    dsimp only at e
    rw [e, View.writes_append, trip11 (hv2 := hv2) (b := later i n) (hb := later_val i ⟨n, hn⟩), ih (Nat.le_of_succ_le hn), Finset.sum_range_succ, add_assoc]

end Cert.KernelIdeal.Fox
end
-- ==== Proof.Body.lean ====
module

public import proofs.«01_k».proof.Proof.Sweep
public import proofs.«01_k».proof.Proof.Gen.KernelIdeal.Skeleton
public import proofs.«01_k».proof.Proof.Gen.KernelIdeal.Loops
public import proofs.«01_k».proof.Proof.Gen.KernelIdeal.Frame
public import Idealize.ShloMosaic.Lib.VecWindow
public import Idealize.ShloMosaic.Lib.Pipeline.ValueKit

@[expose] public section

set_option maxRecDepth 16384

noncomputable section

namespace Cert.KernelIdeal.Fox

open Idealize.ShloMosaic Idealize.ShloMosaic.TcCoe Idealize.ShloMosaic.Tactic
open Idealize.SL Idealize.SL.RA Idealize.SL.BI
open Idealize.SL.Sem
open Cert.KernelIdeal Cert.KernelIdeal.Gen

/-! ## The two conditions of the body -/

/-- The grid point is its pair's first. -/
abbrev cond0_0 (i : grid0.Coords) : Prop := (Scalar.cmpi .ne (Scalar.extui (Scalar.cmpi .eq (BitVec.ofNat 32 (i 1).val) 0#32)) 0#32) = 1#1

/-- The grid point is its pair's last. -/
abbrev cond0_1 (i : grid0.Coords) : Prop := (Scalar.cmpi .ne (Scalar.extui (Scalar.cmpi .eq (BitVec.ofNat 32 (i 1).val) 15#32)) 0#32) = 1#1

theorem pair_coord (t : Fin cfg0.N) : (grid0.coords t 0).val = t.val / 16 := by
  have ht : t.val < 64 := Nat.lt_of_lt_of_eq t.isLt N_0
  have e0 : (grid0.coords t 0).val = t.val / 16 % 4 := Pipeline.Grid.coords_val t 0 (by decide) rfl
  omega

theorem key_coord (t : Fin cfg0.N) : (grid0.coords t 1).val = t.val % 16 := by
  have e1 : (grid0.coords t 1).val = t.val / 1 % 16 := Pipeline.Grid.coords_val t 1 (by decide) rfl
  omega

theorem first_iff (t : Fin cfg0.N) : cond0_0 (grid0.coords t) ↔ t.val % 16 = 0 := by
  have ht : t.val < 64 := Nat.lt_of_lt_of_eq t.isLt N_0
  simp only [cond0_0, key_coord]
  word_cmp

theorem last_iff (t : Fin cfg0.N) : cond0_1 (grid0.coords t) ↔ t.val % 16 = 15 := by
  have ht : t.val < 64 := Nat.lt_of_lt_of_eq t.isLt N_0
  simp only [cond0_1, key_coord]
  word_cmp

/-- The block of queries on the diagonal. -/
def cur (i : grid0.Coords) : Fin 16 := ⟨(i 1).val, (i 1).isLt⟩

/-- The step on the diagonal and the loop's steps are the steps of all query blocks from the key block on. -/
theorem collect (i : grid0.Coords) (u : Bool → Fin 16 → EReal) :
    u true (cur i) + ∑ m ∈ Finset.range (15 - (i 1).val), u false (later i m)
      = ∑ b : Fin 16, if (i 1).val ≤ b.val then u (decide (b.val = (i 1).val)) b else 0 := by
  have hj : (i 1).val < 16 := (i 1).isLt
  have e : ∀ b : Fin 16, (if (i 1).val ≤ b.val then u (decide (b.val = (i 1).val)) b else 0)
      = (fun n : ℕ => if (i 1).val ≤ n then u (decide (n = (i 1).val)) ⟨n % 16, Nat.mod_lt _ (by decide)⟩ else 0) b.val := by
    intro b
    have : (⟨b.val % 16, Nat.mod_lt _ (by decide)⟩ : Fin 16) = b := Fin.ext (Nat.mod_eq_of_lt b.isLt)
    simp only [this]
  rw [Finset.sum_congr rfl fun b _ => e b, Fin.sum_univ_eq_sum_range (fun n : ℕ => if (i 1).val ≤ n then u (decide (n = (i 1).val)) ⟨n % 16, Nat.mod_lt _ (by decide)⟩ else 0) 16, show Finset.range 16 = Finset.range ((i 1).val + (1 + (15 - (i 1).val))) from congrArg Finset.range (by omega),
    Finset.sum_range_add, Finset.sum_range_add, Finset.sum_range_one, Finset.sum_eq_zero (s := Finset.range (i 1).val), zero_add]
  · congr 1
    · have : (⟨((i 1).val + 0) % 16, Nat.mod_lt _ (by decide)⟩ : Fin 16) = cur i := Fin.ext (Nat.mod_eq_of_lt (by omega))
      simp only [this]; simp
    · refine Finset.sum_congr rfl fun m hm => ?_
      have hm' : m < 15 - (i 1).val := by simpa using hm
      have : (⟨((i 1).val + (1 + m)) % 16, Nat.mod_lt _ (by decide)⟩ : Fin 16) = later i m := Fin.ext (by show _ % 16 = _ % 16; congr 1; omega)
      simp only [this, show (i 1).val ≤ (i 1).val + (1 + m) by omega, if_true]
      rw [show decide ((i 1).val + (1 + m) = (i 1).val) = false by simp]
  · intro n hn
    have : n < (i 1).val := by simpa using hn
    simp only [show ¬ (i 1).val ≤ n by omega, if_false]

theorem lane_mask (r : Fin 512) (l : Fin 128) : k0_pay45 (ix2 r l) = if l.val < 64 then 1#1 else 0#1 := by
  pointwise [k0_pay45]
  exact (by decide +kernel : ∀ l : Fin 128, IntOp.cmpi CmpIPredicate.slt (BitVec.ofNat 32 l.val) 64#32 = if l.val < 64 then 1#1 else 0#1) l

/-- The causal comparison of the diagonal step, at an index. -/
theorem causal_cmp (cc kk : Fin 512) : IntOp.cmpi CmpIPredicate.sge (BitVec.ofNat 32 cc.val) (BitVec.ofNat 32 kk.val) = if cc.val < kk.val then 0#1 else 1#1 := by
  have h1 := cc.isLt
  have h2 := kk.isLt
  split_ifs with h
  · rcases BitVec.eq_zero_or_eq_one (IntOp.cmpi CmpIPredicate.sge (BitVec.ofNat 32 cc.val) (BitVec.ofNat 32 kk.val)) with e | e
    · exact e
    · exact absurd e (by word_cmp)
  · word_cmp

theorem col_mask (r : Fin 512) (h : Fin 2) : k0_pay95 (ix2 r h) = if h = 0 then 1#1 else 0#1 := by
  pointwise [k0_pay95]
  exact (by decide +kernel : ∀ l : Fin 2, IntOp.cmpi CmpIPredicate.eq (BitVec.ofNat 32 l.val) 0#32 = if l = 0 then 1#1 else 0#1) h

theorem rc_list {Val : EltTy → Type} [∀ e, Nonempty (Val e)] {sig : RefSig} {κ : Kind} {sp : Space} {e : EltTy} (v : View sig κ sp S512x128 e) (inb : ∀ a, (![0, 0] : Fin 2 → ℕ) a + S512x128.size a ≤ S512x128.size a)
    (L : List (View.Piece Val S512x128 e)) :
    v.readCov L (Rect.unit (s := S512x128) ![0, 0] S512x128.size inb).toLoadRect = v.read Val (v.writes Val v.junk L) :=
  View.readAt_full v _ inb

theorem mask_bot : Named.named (F := Ideal) κ "mask" (φ := .f32) 0xFF7FFFFF#32 = (⊥ : EReal) := rfl

theorem pay86_0 (u w : FVec Ideal S1x512 .f32) (v : Vec Ideal S1x1x2x512 .f32) (x : Fin 512) :
    k0_pay86 u w v (ix4 (0 : Fin 1) (0 : Fin 1) (0 : Fin 2) x) = v (ix4 (0 : Fin 1) (0 : Fin 1) (0 : Fin 2) x) + u (ix2 (0 : Fin 1) x) := by
  pointwise [k0_pay86]

theorem pay86_1 (u w : FVec Ideal S1x512 .f32) (v : Vec Ideal S1x1x2x512 .f32) (x : Fin 512) :
    k0_pay86 u w v (ix4 (0 : Fin 1) (0 : Fin 1) (1 : Fin 2) x) = v (ix4 (0 : Fin 1) (0 : Fin 1) (1 : Fin 2) x) + w (ix2 (0 : Fin 1) x) := by
  pointwise [k0_pay86]

theorem pay1_at (a b : Vec Ideal S1x512x1 .f32) (z : Fin 1) (kk : Fin 512) (h : Fin 2) :
    k0_pay1 (F := Ideal) k0_pay95 a b (ix3 z kk h) = if h = 0 then a (ix3 (0 : Fin 1) kk (0 : Fin 1)) else b (ix3 (0 : Fin 1) kk (0 : Fin 1)) := by
  pointwise [k0_pay1]
  rw [col_mask]
  split_ifs <;> rfl

theorem eighth : Ideal.ofBits FTy.f32 0x3E000000#32 = ((1 / 8 : ℝ) : EReal) := by
  simp [Ideal.ofBits, Ideal.ieee, -EReal.coe_mul]; norm_num

theorem pay2_at (a : Vec Ideal S8192x128 .f32) (y : S8192x128.Idx) : k0_pay2 (F := Ideal) a y = a y * ((1 / 8 : ℝ) : EReal) := by
  obtain ⟨r, l, rfl⟩ : ∃ (r : Fin 8192) (l : Fin 128), y = ix2 r l := ⟨_, _, eq_ix2 y⟩
  pointwise [k0_pay2]
  rw [eighth]

/-- The scratch of the keys, after its two stores. -/
theorem kc_read (arg13 : Memref sig .tc .vmem S2x512x128 .bf16) (arg4 : Memref sig .tc .vmem S2x512x128 .bf16) (f : arg13.view.ty.Contents (Elt Ideal)) (g : arg4.view.ty.Contents (Elt Ideal))
    (i0 i1 j0 j1) :
    arg13.view.read (Elt Ideal) (arg13.view.writes (Elt Ideal) f
      [⟨Rect.unit (s := S2x512x128) ![1, 0, 0] S1x512x128.size i1, k0_pay51 (arg4.view.readAt (Elt Ideal) (Rect.unit (s := S2x512x128) ![1, 0, 0] S1x512x128.size j1).toLoadRect g)⟩,
       ⟨Rect.unit (s := S2x512x128) ![0, 0, 0] S1x512x128.size i0, k0_pay50 (arg4.view.readAt (Elt Ideal) (Rect.unit (s := S2x512x128) ![0, 0, 0] S1x512x128.size j0).toLoadRect g)⟩])
      = kcOf (arg4.view.read (Elt Ideal) g) := by
  have h0 : (![0, 0, 0] : Fin 3 → ℕ) = ![(0 : Fin 2).val, 0, 0] := rfl
  have h1 : (![1, 0, 0] : Fin 3 → ℕ) = ![(1 : Fin 2).val, 0, 0] := rfl
  funext y
  obtain ⟨h, kk, l, rfl⟩ : ∃ (h : Fin 2) (kk : Fin 512) (l : Fin 128), y = ix3 h kk l := ⟨_, _, _, eq_ix3 y⟩
  rw [st_head _ _ (1 : Fin 2) h1, st_head _ _ (0 : Fin 2) h0]
  have hh : h = 0 ∨ h = 1 := by omega
  show _ = if own h l then arg4.view.read (Elt Ideal) g (ix3 h kk l) else 0
  rcases hh with rfl | rfl
  · rw [if_neg (by decide), if_pos rfl]
    pointwise [k0_pay50, k0_pay49]
    simp only [ld_head _ _ (0 : Fin 2) h0, lane_mask]
    by_cases hl : l.val < 64
    · have o : own (0 : Fin 2) l := by simp [own, hl]
      simp only [hl, o, if_true, sel1]
    · have o : ¬ own (0 : Fin 2) l := by simp [own, hl]
      simp only [hl, o, if_false, sel0]
  · rw [if_pos rfl]
    pointwise [k0_pay51, k0_pay49]
    simp only [ld_head _ _ (1 : Fin 2) h1, lane_mask]
    by_cases hl : l.val < 64
    · have o : ¬ own (1 : Fin 2) l := by simp [own, hl]
      simp only [hl, o, if_true, if_false, sel1]
    · have o : own (1 : Fin 2) l := by simp [own, hl]
      simp only [hl, o, if_true, if_false, sel0]

/-- The scratch of the values, after its two stores. -/
theorem vh_read (arg14 : Memref sig .tc .vmem S2x512x128 .bf16) (f : arg14.view.ty.Contents (Elt Ideal)) (v : Vec Ideal S512x128 .bf16)
    (i0 i1) :
    arg14.view.read (Elt Ideal) (arg14.view.writes (Elt Ideal) f
      [⟨Rect.unit (s := S2x512x128) ![1, 0, 0] S1x512x128.size i1, k0_pay53 v⟩,
       ⟨Rect.unit (s := S2x512x128) ![0, 0, 0] S1x512x128.size i0, k0_pay52 v⟩])
      = vhOf v := by
  have h0 : (![0, 0, 0] : Fin 3 → ℕ) = ![(0 : Fin 2).val, 0, 0] := rfl
  have h1 : (![1, 0, 0] : Fin 3 → ℕ) = ![(1 : Fin 2).val, 0, 0] := rfl
  funext y
  obtain ⟨h, kk, l, rfl⟩ : ∃ (h : Fin 2) (kk : Fin 512) (l : Fin 128), y = ix3 h kk l := ⟨_, _, _, eq_ix3 y⟩
  rw [st_head _ _ (1 : Fin 2) h1, st_head _ _ (0 : Fin 2) h0]
  have hh : h = 0 ∨ h = 1 := by omega
  show _ = if own h l then v (ix2 kk l) else 0
  rcases hh with rfl | rfl
  · rw [if_neg (by decide), if_pos rfl]
    pointwise [k0_pay52, k0_pay49, k0_pay48]
    simp only [lane_mask]
    by_cases hl : l.val < 64
    · have o : own (0 : Fin 2) l := by simp [own, hl]
      simp only [hl, o, if_true, sel1]
    · have o : ¬ own (0 : Fin 2) l := by simp [own, hl]
      simp only [hl, o, if_false, sel0]
  · rw [if_pos rfl]
    pointwise [k0_pay53, k0_pay49, k0_pay48]
    simp only [lane_mask]
    by_cases hl : l.val < 64
    · have o : ¬ own (1 : Fin 2) l := by simp [own, hl]
      simp only [hl, o, if_true, if_false, sel1]
    · have o : own (1 : Fin 2) l := by simp [own, hl]
      simp only [hl, o, if_true, if_false, sel0]

theorem kc_cov (arg13 : Memref sig .tc .vmem S2x512x128 .bf16) (arg4 : Memref sig .tc .vmem S2x512x128 .bf16) (g : arg4.view.ty.Contents (Elt Ideal))
    (i0 i1 j0 j1) {off : Fin 3 → ℕ} (h : Fin 2) (e : off = ![h.val, 0, 0]) (inb : ∀ a, off a + S1x512x128.size a ≤ S2x512x128.size a) (kk : Fin 512) (l : Fin 128) :
    arg13.view.readCov (Val := Elt Ideal)
      [⟨Rect.unit (s := S2x512x128) ![1, 0, 0] S1x512x128.size i1, k0_pay51 (arg4.view.readAt (Elt Ideal) (Rect.unit (s := S2x512x128) ![1, 0, 0] S1x512x128.size j1).toLoadRect g)⟩,
       ⟨Rect.unit (s := S2x512x128) ![0, 0, 0] S1x512x128.size i0, k0_pay50 (arg4.view.readAt (Elt Ideal) (Rect.unit (s := S2x512x128) ![0, 0, 0] S1x512x128.size j0).toLoadRect g)⟩]
      (Rect.unit (s := S2x512x128) off S1x512x128.size inb).toLoadRect (ix3 (0 : Fin 1) kk l)
      = kcOf (arg4.view.read (Elt Ideal) g) (ix3 h kk l) := by
  rw [← kc_read arg13 arg4 arg13.view.junk g i0 i1 j0 j1]
  exact ld_head _ _ h e inb 0 kk l

theorem vh_cov (arg14 : Memref sig .tc .vmem S2x512x128 .bf16) (v : Vec Ideal S512x128 .bf16)
    (i0 i1) {off : Fin 3 → ℕ} (h : Fin 2) (e : off = ![h.val, 0, 0]) (inb : ∀ a, off a + S1x512x128.size a ≤ S2x512x128.size a) (kk : Fin 512) (l : Fin 128) :
    arg14.view.readCov (Val := Elt Ideal)
      [⟨Rect.unit (s := S2x512x128) ![1, 0, 0] S1x512x128.size i1, k0_pay53 v⟩,
       ⟨Rect.unit (s := S2x512x128) ![0, 0, 0] S1x512x128.size i0, k0_pay52 v⟩]
      (Rect.unit (s := S2x512x128) off S1x512x128.size inb).toLoadRect (ix3 (0 : Fin 1) kk l)
      = vhOf v (ix3 h kk l) := by
  rw [← vh_read arg14 arg14.view.junk v i0 i1]
  exact ld_head _ _ h e inb 0 kk l

/-- A column of the key gates' scratch, after any stores. -/
theorem rc_col (v : View sig .tc .vmem S2x512x1 .f32) (L : List (View.Piece (Elt Ideal) S2x512x1 .f32)) {off : Fin 3 → ℕ} (h : Fin 2) (e : off = ![h.val, 0, 0])
    (inb : ∀ a, off a + S1x512x1.size a ≤ S2x512x1.size a) (kk : Fin 512) :
    v.readCov (Val := Elt Ideal) L (Rect.unit (s := S2x512x1) off S1x512x1.size inb).toLoadRect (ix3 (0 : Fin 1) kk (0 : Fin 1))
      = v.read (Elt Ideal) (v.writes (Elt Ideal) v.junk L) (ix3 h kk (0 : Fin 1)) := ld_col _ _ h e inb 0 kk 0

theorem fill_col (v : View sig .tc .vmem S2x512x1 .f32) (f : v.ty.Contents (Elt Ideal)) (inb : ∀ a, (![0, 0, 0] : Fin 3 → ℕ) a + S2x512x1.size a ≤ S2x512x1.size a)
    (w : (Rect.unit (s := S2x512x1) ![0, 0, 0] S2x512x1.size inb).shape.Idx → Elt Ideal .f32) :
    v.read (Elt Ideal) (v.writes (Elt Ideal) f [⟨Rect.unit (s := S2x512x1) ![0, 0, 0] S2x512x1.size inb, w⟩]) = w := View.read_writes_full v f inb w []

theorem fill_rows (v : View sig .tc .vmem S8192x128 .f32) (f : v.ty.Contents (Elt Ideal)) (inb : ∀ a, (![0, 0] : Fin 2 → ℕ) a + S8192x128.size a ≤ S8192x128.size a) (y : S8192x128.Idx) :
    v.read (Elt Ideal) (v.writes (Elt Ideal) f [⟨Rect.unit (s := S8192x128) ![0, 0] S8192x128.size inb, k0_pay46 (F := Ideal)⟩]) y = 0 := by
  rw [View.read_writes_full v f inb _ []]
  obtain ⟨r, l, rfl⟩ : ∃ (r : Fin 8192) (l : Fin 128), y = ix2 r l := ⟨_, _, eq_ix2 y⟩
  pointwise [k0_pay46]

theorem fill_stat (v : View sig .tc .vmem S1x16x2x512 .f32) (f : v.ty.Contents (Elt Ideal)) (inb : ∀ a, (![0, 0, 0, 0] : Fin 4 → ℕ) a + S1x16x2x512.size a ≤ S1x16x2x512.size a) (y : S1x16x2x512.Idx) :
    v.read (Elt Ideal) (v.writes (Elt Ideal) f [⟨Rect.unit (s := S1x16x2x512) ![0, 0, 0, 0] S1x16x2x512.size inb, k0_pay47 (F := Ideal)⟩]) y = 0 := by
  rw [View.read_writes_full v f inb _ []]
  obtain ⟨a, b, r, l, rfl⟩ : ∃ (a : Fin 1) (b : Fin 16) (r : Fin 2) (l : Fin 512), y = ix4 a b r l := ⟨_, _, _, _, eq_ix4 y⟩
  pointwise [k0_pay47]

theorem rc_list_rows (v : View sig .tc .vmem S8192x128 .f32) (inb : ∀ a, (![0, 0] : Fin 2 → ℕ) a + S8192x128.size a ≤ S8192x128.size a)
    (L : List (View.Piece (Elt Ideal) S8192x128 .f32)) :
    v.readCov L (Rect.unit (s := S8192x128) ![0, 0] S8192x128.size inb).toLoadRect = v.read (Elt Ideal) (v.writes (Elt Ideal) v.junk L) :=
  View.readAt_full v _ inb

theorem ra_all_rows (v : View sig .tc .vmem S8192x128 .f32) (f : v.ty.Contents (Elt Ideal)) (inb : ∀ a, (![0, 0] : Fin 2 → ℕ) a + S8192x128.size a ≤ S8192x128.size a) :
    v.readAt (Elt Ideal) (Rect.unit (s := S8192x128) ![0, 0] S8192x128.size inb).toLoadRect f = v.read (Elt Ideal) f :=
  View.readAt_full v f inb

theorem row_eq (r : Fin 8192) : ∃ (b : Fin 16) (x : Fin 512), r = row b x :=
  ⟨⟨r.val / 512, by omega⟩, ⟨r.val % 512, by omega⟩, Fin.ext (by show r.val = r.val / 512 * 512 + r.val % 512; omega)⟩

theorem addDq_row (j : ℕ) (a q d k v ls dl) (b : Fin 16) (x : Fin 512) (l : Fin 128) :
    addDq j a q d k v ls dl (ix2 (row b x) l) = a (ix2 (row b x) l) + if j ≤ b.val then uDq (decide (b.val = j)) q d k (vhOf v) (kcOf k) ls dl b x l else 0 := by
  have hq : (row b x).val / 512 = b.val := by show (b.val * 512 + x.val) / 512 = _; omega
  have hr : (row b x).val % 512 = x.val := by show (b.val * 512 + x.val) % 512 = _; omega
  show a (ix2 (row b x) l) + (if j ≤ (row b x).val / 512 then uDq (decide ((row b x).val / 512 = j)) q d k (vhOf v) (kcOf k) ls dl ⟨(row b x).val / 512, _⟩ ⟨(row b x).val % 512, _⟩ l else 0) = _
  simp only [hq, hr, Fin.eta]

/-- `collect` for the one block `b'`. -/
theorem collect_at (i : grid0.Coords) (b' : Fin 16) (u : Bool → Fin 16 → EReal) (A : EReal) :
    (A + if b' = cur i then u true (cur i) else 0) + ∑ m ∈ Finset.range (15 - (i 1).val), (if b' = later i m then u false (later i m) else 0)
      = A + if (i 1).val ≤ b'.val then u (decide (b'.val = (i 1).val)) b' else 0 := by
  rw [add_assoc, collect i (fun mk b => if b' = b then u mk b else 0)]
  congr 1
  rw [Finset.sum_eq_single b']
  · simp
  · intro b _ hb
    rw [if_neg (Ne.symm hb), ite_self]
  · simp

end Cert.KernelIdeal.Fox
end
-- ==== Proof.RunA.lean ====
module

public import proofs.«01_k».proof.Proof.Body
public import proofs.«01_k».proof.Proof.Gen.KernelIdeal.Skeleton
public import proofs.«01_k».proof.Proof.Gen.KernelIdeal.Loops
public import proofs.«01_k».proof.Proof.Gen.KernelIdeal.Frame
public import Idealize.ShloMosaic.Lib.VecWindow
public import Idealize.ShloMosaic.Lib.Pipeline.ValueKit

@[expose] public section

set_option maxRecDepth 16384

noncomputable section

namespace Cert.KernelIdeal.Fox

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

local notation "𝕄" => MT nD τ sig Unit (Elt Ideal) ℕ (UR sig nD τ) ℕ

set_option maxHeartbeats 4000000 in
theorem runA (c : Dev nD) (i : grid0.Coords) (arg2 : Memref sig .tc .vmem S2x8192x128 .bf16) (harg2 : arg2.IsWhole) (arg3 : Memref sig .tc .vmem S8192x128 .bf16) (harg3 : arg3.IsWhole) (arg4 : Memref sig .tc .vmem S2x512x128 .bf16) (harg4 : arg4.IsWhole) (arg5 : Memref sig .tc .vmem S512x128 .bf16) (harg5 : arg5.IsWhole) (arg6 : Memref sig .tc .vmem S1x16x2x512 .f32) (harg6 : arg6.IsWhole) (arg7 : Memref sig .tc .vmem S1x16x2x512 .f32) (harg7 : arg7.IsWhole) (arg8 : Memref sig .tc .vmem S8192x128 .f32) (harg8 : arg8.IsWhole) (arg9 : Memref sig .tc .vmem S512x128 .bf16) (harg9 : arg9.IsWhole) (arg10 : Memref sig .tc .vmem S512x128 .bf16) (harg10 : arg10.IsWhole) (arg11 : Memref sig .tc .vmem S1x16x2x512 .f32) (harg11 : arg11.IsWhole) (arg12 : Memref sig .tc .vmem S1x512x2 .f32) (harg12 : arg12.IsWhole) (arg13 : Memref sig .tc .vmem S2x512x128 .bf16) (harg13 : arg13.IsWhole) (arg14 : Memref sig .tc .vmem S2x512x128 .bf16) (harg14 : arg14.IsWhole) (arg15 : Memref sig .tc .vmem S512x128 .f32) (harg15 : arg15.IsWhole) (arg16 : Memref sig .tc .vmem S512x128 .f32) (harg16 : arg16.IsWhole) (arg17 : Memref sig .tc .vmem S2x512x1 .f32) (harg17 : arg17.IsWhole) (hc0 : cond0_0 i) (hc1 : ¬cond0_1 i)
    (x0 : FVec Ideal S2x8192x128 .bf16) (x1 : FVec Ideal S8192x128 .bf16) (x2 : FVec Ideal S2x512x128 .bf16) (x3 : FVec Ideal S512x128 .bf16) (x4 : FVec Ideal S1x16x2x512 .f32) (x5 : FVec Ideal S1x16x2x512 .f32) (a6 : FVec Ideal S8192x128 .f32) (a9 : FVec Ideal S1x16x2x512 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (addDq (i 1).val (fun _ => 0) x0 x1 x2 x3 x4 x5) ∗ owns (c : Thread nD τ) arg9 fullShare (outDk (i 1).val x0 x1 x2 x3 x4 x5) ∗ owns (c : Thread nD τ) arg10 fullShare (outDv (i 1).val x0 x1 x2 x4) ∗ owns (c : Thread nD τ) arg11 fullShare (addDfq (i 1).val (fun _ => 0) x0 x1 x2 x3 x4 x5) ∗ owns (c : Thread nD τ) arg12 fullShare (outDfk (i 1).val x0 x1 x2 x3 x4 x5) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)) -∗ K ⟨⟩))
          ⊢ wp frame (wpE (defs₀ (F := Ideal)) Variants.none c none) E (cc0_attn_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
    intro E K
    simp only [cc0_attn_bwd_eq_skeleton]; unfold cc0_attn_bwd_skel
    simp only [k0_part7_eq_skeleton, k0_part8_eq_skeleton, k0_part9_eq_skeleton, k0_part10_eq_skeleton, k0_part11_eq_skeleton, k0_part12_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; swap; · iexact H6
      ipureintro; have t2 : Scf.trips (k0_t2_loop i).lb (k0_t2_loop i).ub (k0_t2_loop i).st = 0 := trips2 i
      have t1 : Scf.trips (k0_t1_loop i).lb (k0_t1_loop i).ub (k0_t1_loop i).st = 15 - (i 1).val := trips1 i
      have e1 : k0_off1 i = ![512 * (cur i).val, 0] := k0_off1_eq i
      have e2 : k0_off2 i = ![0, (cur i).val, 0, 0] := k0_off2_eq i
      have e3 : k0_off3 i = ![(0 : Fin 2).val, 512 * (cur i).val, 0] := k0_off3_eq i
      have e4 : k0_off4 i = ![(1 : Fin 2).val, 512 * (cur i).val, 0] := k0_off4_eq i
      have h0 : (![0, 0, 0] : Fin 3 → ℕ) = ![(0 : Fin 2).val, 0, 0] := rfl
      have h1 : (![1, 0, 0] : Fin 3 → ℕ) = ![(1 : Fin 2).val, 0, 0] := rfl
      have kc : arg13.view.read (Elt Ideal) (arg13.view.writes (Elt Ideal) arg13.view.junk (runA.sl.HS0_2 c arg4 harg4 x2)) = kcOf x2 := by
        unfold runA.sl.HS0_2
        sl_unfold_run_names
        exact (kc_read _ _ _ _ _ _ _ _).trans (congrArg kcOf hf2)
      have vh : arg14.view.read (Elt Ideal) (arg14.view.writes (Elt Ideal) arg14.view.junk (runA.sl.HS1_2 c arg5 harg5 x3)) = vhOf x3 := by
        unfold runA.sl.HS1_2
        sl_unfold_run_names
        rw [ra_all, hf3]
        exact vh_read _ _ _ _ _
      funext y; obtain ⟨r, l, rfl⟩ : ∃ (r : Fin 8192) (l : Fin 128), y = ix2 r l := ⟨_, _, eq_ix2 y⟩
      obtain ⟨b', x, rfl⟩ := row_eq r
      rw [addDq_row]
      simp only [t2, pb_k0_t2.eq_1, List.nil_append]
      rw [View.writes_append, sweep8 (hv2 := lane_mask) (hn := le_refl _), trips1, hf0, hf1, hf2, hf4, hf5, vh, kc]
      refine Eq.trans (congrArg (· + _) ?_) (collect_at i b' (fun mk b => uDq mk x0 x1 x2 (vhOf x3) (kcOf x2) x4 x5 b x l) _)
      unfold runA.sl.H6_2
      rw [st_rows _ _ (cur i) e1, st_rows _ _ (cur i) e1]
      by_cases hb : b' = cur i
      · rw [if_pos hb, if_pos hb]
        sl_unfold_run_names
        rw [ra_all arg5.view, hf3]
        repeat rw [rc_rows]
        pointwise [k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85]
        simp only [vh_cov _ _ _ _ (0 : Fin 2) h0, vh_cov _ _ _ _ (1 : Fin 2) h1, kc_cov _ _ _ _ _ _ _ (0 : Fin 2) h0, kc_cov _ _ _ _ _ _ _ (1 : Fin 2) h1, ld_rows _ _ (cur i) e1, ld_stat _ _ (cur i) e2, ld_head_rows _ _ (0 : Fin 2) (cur i) e3, ld_head_rows _ _ (1 : Fin 2) (cur i) e4, ld_head _ _ (0 : Fin 2) h0, ld_head _ _ (1 : Fin 2) h1, ld_col _ _ (0 : Fin 2) h0, ld_col _ _ (1 : Fin 2) h1, causal_cmp, lane_mask, hf0, hf1, hf2, hf3, hf4, hf5]
        simp only [uDv, uDk, uDq, uDfk, uDfq, dsA, prA, Fin.sum_univ_two, _root_.true_and, sel_if, mask_bot]
        rw [add_assoc]
        exact (congrArg (· + _) (fill_rows _ _ _ _)).trans (zero_add _)
      · rw [if_neg hb, if_neg hb, if_neg hb, add_zero]
        unfold runA.sl.H6_1
        exact fill_rows _ _ _ _
    isplitl [H7]
    · iexists _; isplitr; swap; · iexact H7
      ipureintro; have t2 : Scf.trips (k0_t2_loop i).lb (k0_t2_loop i).ub (k0_t2_loop i).st = 0 := trips2 i
      have t1 : Scf.trips (k0_t1_loop i).lb (k0_t1_loop i).ub (k0_t1_loop i).st = 15 - (i 1).val := trips1 i
      have e1 : k0_off1 i = ![512 * (cur i).val, 0] := k0_off1_eq i
      have e2 : k0_off2 i = ![0, (cur i).val, 0, 0] := k0_off2_eq i
      have e3 : k0_off3 i = ![(0 : Fin 2).val, 512 * (cur i).val, 0] := k0_off3_eq i
      have e4 : k0_off4 i = ![(1 : Fin 2).val, 512 * (cur i).val, 0] := k0_off4_eq i
      have h0 : (![0, 0, 0] : Fin 3 → ℕ) = ![(0 : Fin 2).val, 0, 0] := rfl
      have h1 : (![1, 0, 0] : Fin 3 → ℕ) = ![(1 : Fin 2).val, 0, 0] := rfl
      rw [View.read_writes_full]
      have kc : arg13.view.read (Elt Ideal) (arg13.view.writes (Elt Ideal) arg13.view.junk (runA.sl.HS0_2 c arg4 harg4 x2)) = kcOf x2 := by
        unfold runA.sl.HS0_2
        sl_unfold_run_names
        exact (kc_read _ _ _ _ _ _ _ _).trans (congrArg kcOf hf2)
      have vh : arg14.view.read (Elt Ideal) (arg14.view.writes (Elt Ideal) arg14.view.junk (runA.sl.HS1_2 c arg5 harg5 x3)) = vhOf x3 := by
        unfold runA.sl.HS1_2
        sl_unfold_run_names
        rw [ra_all, hf3]
        exact vh_read _ _ _ _ _
      funext y; obtain ⟨kk, l, rfl⟩ : ∃ (kk : Fin 512) (l : Fin 128), y = ix2 kk l := ⟨_, _, eq_ix2 y⟩
      unfold runA.sl.v187
      simp only [t2, pb_k0_t2.eq_1, List.nil_append]
      unfold k0_pay93
      rw [rc_list]
      show View.read (Elt Ideal) arg15.view _ (ix2 kk l) = _
      rw [View.writes_append, sweep15 (hv2 := lane_mask) (hn := le_refl _), trips1, hf0, hf1, hf2, hf4]
      rw [hf5, vh]
      refine Eq.trans (congrArg (· + _) ?_) (collect i (fun mk b => uDk mk x0 x1 x2 (vhOf x3) x4 x5 b kk l))
      unfold runA.sl.HS2_3
      rw [View.read_writes_full]
      sl_unfold_run_names
      repeat rw [rc_all]
      rw [ra_all arg5.view, hf3]
      pointwise [k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85]
      simp only [vh_cov _ _ _ _ (0 : Fin 2) h0, vh_cov _ _ _ _ (1 : Fin 2) h1, kc_cov _ _ _ _ _ _ _ (0 : Fin 2) h0, kc_cov _ _ _ _ _ _ _ (1 : Fin 2) h1, ld_rows _ _ (cur i) e1, ld_stat _ _ (cur i) e2, ld_head_rows _ _ (0 : Fin 2) (cur i) e3, ld_head_rows _ _ (1 : Fin 2) (cur i) e4, ld_head _ _ (0 : Fin 2) h0, ld_head _ _ (1 : Fin 2) h1, ld_col _ _ (0 : Fin 2) h0, ld_col _ _ (1 : Fin 2) h1, causal_cmp, lane_mask, hf0, hf1, hf2, hf3, hf4, hf5]

      simp only [uDv, uDk, uDq, uDfk, uDfq, dsA, prA, Fin.sum_univ_two, _root_.true_and, sel_if, mask_bot]
      by_cases hl : l.val < 64
      · have o0 : own (0 : Fin 2) l := by simp [own, hl]
        have o1 : ¬ own (1 : Fin 2) l := by simp [own, hl]
        simp only [hl, o0, o1, if_true, if_false, (by decide : IntOp.xori (1#1 : BitVec 1) 1#1 = 0#1), sel1, sel0, mul_zero, Finset.sum_const_zero, add_zero, zero_add]
        try simp only [add_assoc]
      · have o0 : ¬ own (0 : Fin 2) l := by simp [own, hl]
        have o1 : own (1 : Fin 2) l := by simp [own, hl]
        simp only [hl, o0, o1, if_true, if_false, (by decide : IntOp.xori (0#1 : BitVec 1) 1#1 = 1#1), sel1, sel0, mul_zero, Finset.sum_const_zero, add_zero, zero_add]
        try simp only [add_assoc]

    isplitl [H8]
    · iexists _; isplitr; swap; · iexact H8
      ipureintro; have t2 : Scf.trips (k0_t2_loop i).lb (k0_t2_loop i).ub (k0_t2_loop i).st = 0 := trips2 i
      have t1 : Scf.trips (k0_t1_loop i).lb (k0_t1_loop i).ub (k0_t1_loop i).st = 15 - (i 1).val := trips1 i
      have e1 : k0_off1 i = ![512 * (cur i).val, 0] := k0_off1_eq i
      have e2 : k0_off2 i = ![0, (cur i).val, 0, 0] := k0_off2_eq i
      have e3 : k0_off3 i = ![(0 : Fin 2).val, 512 * (cur i).val, 0] := k0_off3_eq i
      have e4 : k0_off4 i = ![(1 : Fin 2).val, 512 * (cur i).val, 0] := k0_off4_eq i
      have h0 : (![0, 0, 0] : Fin 3 → ℕ) = ![(0 : Fin 2).val, 0, 0] := rfl
      have h1 : (![1, 0, 0] : Fin 3 → ℕ) = ![(1 : Fin 2).val, 0, 0] := rfl
      rw [View.read_writes_full]
      have kc : arg13.view.read (Elt Ideal) (arg13.view.writes (Elt Ideal) arg13.view.junk (runA.sl.HS0_2 c arg4 harg4 x2)) = kcOf x2 := by
        unfold runA.sl.HS0_2
        sl_unfold_run_names
        exact (kc_read _ _ _ _ _ _ _ _).trans (congrArg kcOf hf2)
      have vh : arg14.view.read (Elt Ideal) (arg14.view.writes (Elt Ideal) arg14.view.junk (runA.sl.HS1_2 c arg5 harg5 x3)) = vhOf x3 := by
        unfold runA.sl.HS1_2
        sl_unfold_run_names
        rw [ra_all, hf3]
        exact vh_read _ _ _ _ _
      funext y; obtain ⟨kk, l, rfl⟩ : ∃ (kk : Fin 512) (l : Fin 128), y = ix2 kk l := ⟨_, _, eq_ix2 y⟩
      unfold runA.sl.v190
      simp only [t2, pb_k0_t2.eq_1, List.nil_append]
      unfold k0_pay94
      rw [rc_list]
      show View.read (Elt Ideal) arg16.view _ (ix2 kk l) = _
      rw [View.writes_append, sweep16 (hv2 := lane_mask) (hn := le_refl _), trips1, hf0, hf1, hf2, hf4]
      refine Eq.trans (congrArg (· + _) ?_) (collect i (fun mk b => uDv mk x0 x1 x2 x4 b kk l))
      unfold runA.sl.HS3_3
      rw [View.read_writes_full]
      sl_unfold_run_names
      repeat rw [rc_all]
      pointwise [k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85]
      simp only [vh_cov _ _ _ _ (0 : Fin 2) h0, vh_cov _ _ _ _ (1 : Fin 2) h1, kc_cov _ _ _ _ _ _ _ (0 : Fin 2) h0, kc_cov _ _ _ _ _ _ _ (1 : Fin 2) h1, ld_rows _ _ (cur i) e1, ld_stat _ _ (cur i) e2, ld_head_rows _ _ (0 : Fin 2) (cur i) e3, ld_head_rows _ _ (1 : Fin 2) (cur i) e4, ld_head _ _ (0 : Fin 2) h0, ld_head _ _ (1 : Fin 2) h1, ld_col _ _ (0 : Fin 2) h0, ld_col _ _ (1 : Fin 2) h1, causal_cmp, lane_mask, hf0, hf1, hf2, hf3, hf4, hf5]

      simp only [uDv, uDk, uDq, uDfk, uDfq, dsA, prA, Fin.sum_univ_two, _root_.true_and, sel_if, mask_bot]
      by_cases hl : l.val < 64
      · have o0 : own (0 : Fin 2) l := by simp [own, hl]
        have o1 : ¬ own (1 : Fin 2) l := by simp [own, hl]
        simp only [hl, o0, o1, if_true, if_false, (by decide : IntOp.xori (1#1 : BitVec 1) 1#1 = 0#1), sel1, sel0, mul_zero, Finset.sum_const_zero, add_zero, zero_add]
        try simp only [add_assoc]
      · have o0 : ¬ own (0 : Fin 2) l := by simp [own, hl]
        have o1 : own (1 : Fin 2) l := by simp [own, hl]
        simp only [hl, o0, o1, if_true, if_false, (by decide : IntOp.xori (0#1 : BitVec 1) 1#1 = 1#1), sel1, sel0, mul_zero, Finset.sum_const_zero, add_zero, zero_add]
        try simp only [add_assoc]

    isplitl [H9]
    · iexists _; isplitr; swap; · iexact H9
      ipureintro; have t2 : Scf.trips (k0_t2_loop i).lb (k0_t2_loop i).ub (k0_t2_loop i).st = 0 := trips2 i
      have t1 : Scf.trips (k0_t1_loop i).lb (k0_t1_loop i).ub (k0_t1_loop i).st = 15 - (i 1).val := trips1 i
      have e1 : k0_off1 i = ![512 * (cur i).val, 0] := k0_off1_eq i
      have e2 : k0_off2 i = ![0, (cur i).val, 0, 0] := k0_off2_eq i
      have e3 : k0_off3 i = ![(0 : Fin 2).val, 512 * (cur i).val, 0] := k0_off3_eq i
      have e4 : k0_off4 i = ![(1 : Fin 2).val, 512 * (cur i).val, 0] := k0_off4_eq i
      have h0 : (![0, 0, 0] : Fin 3 → ℕ) = ![(0 : Fin 2).val, 0, 0] := rfl
      have h1 : (![1, 0, 0] : Fin 3 → ℕ) = ![(1 : Fin 2).val, 0, 0] := rfl
      have kc : arg13.view.read (Elt Ideal) (arg13.view.writes (Elt Ideal) arg13.view.junk (runA.sl.HS0_2 c arg4 harg4 x2)) = kcOf x2 := by
        unfold runA.sl.HS0_2
        sl_unfold_run_names
        exact (kc_read _ _ _ _ _ _ _ _).trans (congrArg kcOf hf2)
      have vh : arg14.view.read (Elt Ideal) (arg14.view.writes (Elt Ideal) arg14.view.junk (runA.sl.HS1_2 c arg5 harg5 x3)) = vhOf x3 := by
        unfold runA.sl.HS1_2
        sl_unfold_run_names
        rw [ra_all, hf3]
        exact vh_read _ _ _ _ _
      funext y; obtain ⟨z, b', g, x, rfl⟩ : ∃ (z : Fin 1) (b' : Fin 16) (g : Fin 2) (x : Fin 512), y = ix4 z b' g x := ⟨_, _, _, _, eq_ix4 y⟩
      obtain rfl : z = 0 := Subsingleton.elim _ _
      simp only [t2, pb_k0_t2.eq_1, List.nil_append]
      rw [View.writes_append, sweep11 (hv2 := lane_mask) (hn := le_refl _), trips1, hf0, hf1, hf2, hf4, hf5, vh]
      refine Eq.trans (congrArg (· + _) ?_) (collect_at i b' (fun mk b => uDfq mk x0 x1 x2 (vhOf x3) x4 x5 b g x) _)
      rw [st_stat _ _ (cur i) e2]
      by_cases hb : b' = cur i
      · rw [if_pos hb, if_pos hb]
        sl_unfold_run_names
        rw [ra_all arg5.view, hf3]
        obtain rfl | rfl : g = 0 ∨ g = 1 := by omega
        · rw [pay86_0]
          pointwise [k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85]
          simp only [vh_cov _ _ _ _ (0 : Fin 2) h0, vh_cov _ _ _ _ (1 : Fin 2) h1, kc_cov _ _ _ _ _ _ _ (0 : Fin 2) h0, kc_cov _ _ _ _ _ _ _ (1 : Fin 2) h1, ld_rows _ _ (cur i) e1, ld_stat _ _ (cur i) e2, ld_head_rows _ _ (0 : Fin 2) (cur i) e3, ld_head_rows _ _ (1 : Fin 2) (cur i) e4, ld_head _ _ (0 : Fin 2) h0, ld_head _ _ (1 : Fin 2) h1, ld_col _ _ (0 : Fin 2) h0, ld_col _ _ (1 : Fin 2) h1, causal_cmp, lane_mask, hf0, hf1, hf2, hf3, hf4, hf5]
          simp only [uDv, uDk, uDq, uDfk, uDfq, dsA, prA, Fin.sum_univ_two, _root_.true_and, sel_if, mask_bot]
          exact (congrArg (· + _) (fill_stat _ _ _ _)).trans (zero_add _)
        · rw [pay86_1]
          pointwise [k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85]
          simp only [vh_cov _ _ _ _ (0 : Fin 2) h0, vh_cov _ _ _ _ (1 : Fin 2) h1, kc_cov _ _ _ _ _ _ _ (0 : Fin 2) h0, kc_cov _ _ _ _ _ _ _ (1 : Fin 2) h1, ld_rows _ _ (cur i) e1, ld_stat _ _ (cur i) e2, ld_head_rows _ _ (0 : Fin 2) (cur i) e3, ld_head_rows _ _ (1 : Fin 2) (cur i) e4, ld_head _ _ (0 : Fin 2) h0, ld_head _ _ (1 : Fin 2) h1, ld_col _ _ (0 : Fin 2) h0, ld_col _ _ (1 : Fin 2) h1, causal_cmp, lane_mask, hf0, hf1, hf2, hf3, hf4, hf5]
          simp only [uDv, uDk, uDq, uDfk, uDfq, dsA, prA, Fin.sum_univ_two, _root_.true_and, sel_if, mask_bot]
          exact (congrArg (· + _) (fill_stat _ _ _ _)).trans (zero_add _)
      · rw [if_neg hb, if_neg hb, add_zero]
        unfold runA.sl.H9_1
        exact fill_stat _ _ _ _
    isplitl [H10]
    · iexists _; isplitr; swap; · iexact H10
      ipureintro; have t2 : Scf.trips (k0_t2_loop i).lb (k0_t2_loop i).ub (k0_t2_loop i).st = 0 := trips2 i
      have t1 : Scf.trips (k0_t1_loop i).lb (k0_t1_loop i).ub (k0_t1_loop i).st = 15 - (i 1).val := trips1 i
      have e1 : k0_off1 i = ![512 * (cur i).val, 0] := k0_off1_eq i
      have e2 : k0_off2 i = ![0, (cur i).val, 0, 0] := k0_off2_eq i
      have e3 : k0_off3 i = ![(0 : Fin 2).val, 512 * (cur i).val, 0] := k0_off3_eq i
      have e4 : k0_off4 i = ![(1 : Fin 2).val, 512 * (cur i).val, 0] := k0_off4_eq i
      have h0 : (![0, 0, 0] : Fin 3 → ℕ) = ![(0 : Fin 2).val, 0, 0] := rfl
      have h1 : (![1, 0, 0] : Fin 3 → ℕ) = ![(1 : Fin 2).val, 0, 0] := rfl
      rw [View.read_writes_full]
      have kc : arg13.view.read (Elt Ideal) (arg13.view.writes (Elt Ideal) arg13.view.junk (runA.sl.HS0_2 c arg4 harg4 x2)) = kcOf x2 := by
        unfold runA.sl.HS0_2
        sl_unfold_run_names
        exact (kc_read _ _ _ _ _ _ _ _).trans (congrArg kcOf hf2)
      have vh : arg14.view.read (Elt Ideal) (arg14.view.writes (Elt Ideal) arg14.view.junk (runA.sl.HS1_2 c arg5 harg5 x3)) = vhOf x3 := by
        unfold runA.sl.HS1_2
        sl_unfold_run_names
        rw [ra_all, hf3]
        exact vh_read _ _ _ _ _
      funext y; obtain ⟨z, kk, h, rfl⟩ : ∃ (z : Fin 1) (kk : Fin 512) (h : Fin 2), y = ix3 z kk h := ⟨_, _, _, eq_ix3 y⟩
      rw [pay1_at]
      obtain rfl | rfl : h = 0 ∨ h = 1 := by omega
      · rw [if_pos rfl]
        unfold runA.sl.v196
        simp only [t2, pb_k0_t2.eq_1, List.nil_append]
        rw [rc_col _ _ (0 : Fin 2) h0]
        rw [View.writes_append, sweep17 (hv2 := lane_mask) (hn := le_refl _), trips1, hf0, hf1, hf2, hf4, hf5, vh]
        refine Eq.trans (congrArg (· + _) ?_) (collect i (fun mk b => uDfk mk x0 x1 x2 (vhOf x3) x4 x5 b (0 : Fin 2) kk))
        unfold runA.sl.HS4_3
        sl_unfold_run_names
        rw [ra_all arg5.view, hf3]
        rw [st_col _ _ (1 : Fin 2) h1, st_col _ _ (0 : Fin 2) h0]
        rw [if_neg (by decide), if_pos rfl]
        pointwise [k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85]
        simp only [vh_cov _ _ _ _ (0 : Fin 2) h0, vh_cov _ _ _ _ (1 : Fin 2) h1, kc_cov _ _ _ _ _ _ _ (0 : Fin 2) h0, kc_cov _ _ _ _ _ _ _ (1 : Fin 2) h1, ld_rows _ _ (cur i) e1, ld_stat _ _ (cur i) e2, ld_head_rows _ _ (0 : Fin 2) (cur i) e3, ld_head_rows _ _ (1 : Fin 2) (cur i) e4, ld_head _ _ (0 : Fin 2) h0, ld_head _ _ (1 : Fin 2) h1, ld_col _ _ (0 : Fin 2) h0, ld_col _ _ (1 : Fin 2) h1, causal_cmp, lane_mask, hf0, hf1, hf2, hf3, hf4, hf5]
        simp only [uDv, uDk, uDq, uDfk, uDfq, dsA, prA, Fin.sum_univ_two, _root_.true_and, sel_if, mask_bot]
        simp only [rc_col _ _ (0 : Fin 2) h0, rc_col _ _ (1 : Fin 2) h1, st_col _ _ (0 : Fin 2) h0, fill_col, (by decide : ((1 : Fin 2) = 0) = False), if_false]
        rw [fill_col]
        exact zero_add _
      · rw [if_neg (by decide)]
        unfold runA.sl.v198
        simp only [t2, pb_k0_t2.eq_1, List.nil_append]
        rw [rc_col _ _ (1 : Fin 2) h1]
        rw [View.writes_append, sweep17 (hv2 := lane_mask) (hn := le_refl _), trips1, hf0, hf1, hf2, hf4, hf5, vh]
        refine Eq.trans (congrArg (· + _) ?_) (collect i (fun mk b => uDfk mk x0 x1 x2 (vhOf x3) x4 x5 b (1 : Fin 2) kk))
        unfold runA.sl.HS4_3
        sl_unfold_run_names
        rw [ra_all arg5.view, hf3]
        rw [st_col _ _ (1 : Fin 2) h1]
        rw [if_pos rfl]
        pointwise [k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85]
        simp only [vh_cov _ _ _ _ (0 : Fin 2) h0, vh_cov _ _ _ _ (1 : Fin 2) h1, kc_cov _ _ _ _ _ _ _ (0 : Fin 2) h0, kc_cov _ _ _ _ _ _ _ (1 : Fin 2) h1, ld_rows _ _ (cur i) e1, ld_stat _ _ (cur i) e2, ld_head_rows _ _ (0 : Fin 2) (cur i) e3, ld_head_rows _ _ (1 : Fin 2) (cur i) e4, ld_head _ _ (0 : Fin 2) h0, ld_head _ _ (1 : Fin 2) h1, ld_col _ _ (0 : Fin 2) h0, ld_col _ _ (1 : Fin 2) h1, causal_cmp, lane_mask, hf0, hf1, hf2, hf3, hf4, hf5]
        simp only [uDv, uDk, uDq, uDfk, uDfq, dsA, prA, Fin.sum_univ_two, _root_.true_and, sel_if, mask_bot]
        simp only [rc_col _ _ (0 : Fin 2) h0, rc_col _ _ (1 : Fin 2) h1, st_col _ _ (0 : Fin 2) h0, fill_col, (by decide : ((1 : Fin 2) = 0) = False), if_false]
        rw [fill_col]
        exact zero_add _

    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    iexists _, _; isplitr; swap; · iexact HS4
    ipureintro; rfl

end Cert.KernelIdeal.Fox
end
-- ==== Proof.RunB.lean ====
module

public import proofs.«01_k».proof.Proof.Body
public import proofs.«01_k».proof.Proof.Gen.KernelIdeal.Skeleton
public import proofs.«01_k».proof.Proof.Gen.KernelIdeal.Loops
public import proofs.«01_k».proof.Proof.Gen.KernelIdeal.Frame
public import Idealize.ShloMosaic.Lib.VecWindow
public import Idealize.ShloMosaic.Lib.Pipeline.ValueKit

@[expose] public section

set_option maxRecDepth 16384

noncomputable section

namespace Cert.KernelIdeal.Fox

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

local notation "𝕄" => MT nD τ sig Unit (Elt Ideal) ℕ (UR sig nD τ) ℕ

set_option maxHeartbeats 4000000 in
theorem runB (c : Dev nD) (i : grid0.Coords) (arg2 : Memref sig .tc .vmem S2x8192x128 .bf16) (harg2 : arg2.IsWhole) (arg3 : Memref sig .tc .vmem S8192x128 .bf16) (harg3 : arg3.IsWhole) (arg4 : Memref sig .tc .vmem S2x512x128 .bf16) (harg4 : arg4.IsWhole) (arg5 : Memref sig .tc .vmem S512x128 .bf16) (harg5 : arg5.IsWhole) (arg6 : Memref sig .tc .vmem S1x16x2x512 .f32) (harg6 : arg6.IsWhole) (arg7 : Memref sig .tc .vmem S1x16x2x512 .f32) (harg7 : arg7.IsWhole) (arg8 : Memref sig .tc .vmem S8192x128 .f32) (harg8 : arg8.IsWhole) (arg9 : Memref sig .tc .vmem S512x128 .bf16) (harg9 : arg9.IsWhole) (arg10 : Memref sig .tc .vmem S512x128 .bf16) (harg10 : arg10.IsWhole) (arg11 : Memref sig .tc .vmem S1x16x2x512 .f32) (harg11 : arg11.IsWhole) (arg12 : Memref sig .tc .vmem S1x512x2 .f32) (harg12 : arg12.IsWhole) (arg13 : Memref sig .tc .vmem S2x512x128 .bf16) (harg13 : arg13.IsWhole) (arg14 : Memref sig .tc .vmem S2x512x128 .bf16) (harg14 : arg14.IsWhole) (arg15 : Memref sig .tc .vmem S512x128 .f32) (harg15 : arg15.IsWhole) (arg16 : Memref sig .tc .vmem S512x128 .f32) (harg16 : arg16.IsWhole) (arg17 : Memref sig .tc .vmem S2x512x1 .f32) (harg17 : arg17.IsWhole) (hc0 : ¬cond0_0 i) (hc1 : ¬cond0_1 i)
    (x0 : FVec Ideal S2x8192x128 .bf16) (x1 : FVec Ideal S8192x128 .bf16) (x2 : FVec Ideal S2x512x128 .bf16) (x3 : FVec Ideal S512x128 .bf16) (x4 : FVec Ideal S1x16x2x512 .f32) (x5 : FVec Ideal S1x16x2x512 .f32) (a6 : FVec Ideal S8192x128 .f32) (a9 : FVec Ideal S1x16x2x512 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare a6 ∗ (∃ d, owns (c : Thread nD τ) arg9 fullShare d) ∗ (∃ d, owns (c : Thread nD τ) arg10 fullShare d) ∗ owns (c : Thread nD τ) arg11 fullShare a9 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (addDq (i 1).val a6 x0 x1 x2 x3 x4 x5) ∗ owns (c : Thread nD τ) arg9 fullShare (outDk (i 1).val x0 x1 x2 x3 x4 x5) ∗ owns (c : Thread nD τ) arg10 fullShare (outDv (i 1).val x0 x1 x2 x4) ∗ owns (c : Thread nD τ) arg11 fullShare (addDfq (i 1).val a9 x0 x1 x2 x3 x4 x5) ∗ owns (c : Thread nD τ) arg12 fullShare (outDfk (i 1).val x0 x1 x2 x3 x4 x5) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)) -∗ K ⟨⟩))
          ⊢ wp frame (wpE (defs₀ (F := Ideal)) Variants.none c none) E (cc0_attn_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
    intro E K
    simp only [cc0_attn_bwd_eq_skeleton]; unfold cc0_attn_bwd_skel
    simp only [k0_part7_eq_skeleton, k0_part8_eq_skeleton, k0_part9_eq_skeleton, k0_part10_eq_skeleton, k0_part11_eq_skeleton, k0_part12_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%f9, %hf9, H9⟩, ⟨%d10, %f10, -, H10⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg11.eq_unread hf9
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; swap; · iexact H6
      ipureintro; have t2 : Scf.trips (k0_t2_loop i).lb (k0_t2_loop i).ub (k0_t2_loop i).st = 0 := trips2 i
      have t1 : Scf.trips (k0_t1_loop i).lb (k0_t1_loop i).ub (k0_t1_loop i).st = 15 - (i 1).val := trips1 i
      have e1 : k0_off1 i = ![512 * (cur i).val, 0] := k0_off1_eq i
      have e2 : k0_off2 i = ![0, (cur i).val, 0, 0] := k0_off2_eq i
      have e3 : k0_off3 i = ![(0 : Fin 2).val, 512 * (cur i).val, 0] := k0_off3_eq i
      have e4 : k0_off4 i = ![(1 : Fin 2).val, 512 * (cur i).val, 0] := k0_off4_eq i
      have h0 : (![0, 0, 0] : Fin 3 → ℕ) = ![(0 : Fin 2).val, 0, 0] := rfl
      have h1 : (![1, 0, 0] : Fin 3 → ℕ) = ![(1 : Fin 2).val, 0, 0] := rfl
      have kc : arg13.view.read (Elt Ideal) (arg13.view.writes (Elt Ideal) arg13.view.junk (runB.sl.HS0_2 c arg4 harg4 x2)) = kcOf x2 := by
        unfold runB.sl.HS0_2
        sl_unfold_run_names
        exact (kc_read _ _ _ _ _ _ _ _).trans (congrArg kcOf hf2)
      have vh : arg14.view.read (Elt Ideal) (arg14.view.writes (Elt Ideal) arg14.view.junk (runB.sl.HS1_2 c arg5 harg5 x3)) = vhOf x3 := by
        unfold runB.sl.HS1_2
        sl_unfold_run_names
        rw [ra_all, hf3]
        exact vh_read _ _ _ _ _
      funext y; obtain ⟨r, l, rfl⟩ : ∃ (r : Fin 8192) (l : Fin 128), y = ix2 r l := ⟨_, _, eq_ix2 y⟩
      obtain ⟨b', x, rfl⟩ := row_eq r
      rw [addDq_row]
      simp only [t2, pb_k0_t2.eq_1, List.nil_append]
      rw [View.writes_append, sweep8 (hv2 := lane_mask) (hn := le_refl _), trips1, hf0, hf1, hf2, hf4, hf5, vh, kc]
      refine Eq.trans (congrArg (· + _) ?_) (collect_at i b' (fun mk b => uDq mk x0 x1 x2 (vhOf x3) (kcOf x2) x4 x5 b x l) _)
      unfold runB.sl.H6_1
      rw [st_rows _ _ (cur i) e1, st_rows _ _ (cur i) e1]
      by_cases hb : b' = cur i
      · rw [if_pos hb, if_pos hb, hb]
        sl_unfold_run_names
        rw [ra_all arg5.view, hf3]
        repeat rw [rc_rows]
        pointwise [k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85]
        simp only [vh_cov _ _ _ _ (0 : Fin 2) h0, vh_cov _ _ _ _ (1 : Fin 2) h1, kc_cov _ _ _ _ _ _ _ (0 : Fin 2) h0, kc_cov _ _ _ _ _ _ _ (1 : Fin 2) h1, ld_rows _ _ (cur i) e1, ld_stat _ _ (cur i) e2, ld_head_rows _ _ (0 : Fin 2) (cur i) e3, ld_head_rows _ _ (1 : Fin 2) (cur i) e4, ld_head _ _ (0 : Fin 2) h0, ld_head _ _ (1 : Fin 2) h1, ld_col _ _ (0 : Fin 2) h0, ld_col _ _ (1 : Fin 2) h1, causal_cmp, lane_mask, hf0, hf1, hf2, hf3, hf4, hf5]
        simp only [uDv, uDk, uDq, uDfk, uDfq, dsA, prA, Fin.sum_univ_two, true_and, sel_if, mask_bot]
        rw [add_assoc]
        exact congrArg (· + _) (congrFun hf6 _)
      · rw [if_neg hb, if_neg hb, if_neg hb, add_zero]
        rw [View.writes_nil]
        exact congrFun hf6 _
    isplitl [H7]
    · iexists _; isplitr; swap; · iexact H7
      ipureintro; have t2 : Scf.trips (k0_t2_loop i).lb (k0_t2_loop i).ub (k0_t2_loop i).st = 0 := trips2 i
      have t1 : Scf.trips (k0_t1_loop i).lb (k0_t1_loop i).ub (k0_t1_loop i).st = 15 - (i 1).val := trips1 i
      have e1 : k0_off1 i = ![512 * (cur i).val, 0] := k0_off1_eq i
      have e2 : k0_off2 i = ![0, (cur i).val, 0, 0] := k0_off2_eq i
      have e3 : k0_off3 i = ![(0 : Fin 2).val, 512 * (cur i).val, 0] := k0_off3_eq i
      have e4 : k0_off4 i = ![(1 : Fin 2).val, 512 * (cur i).val, 0] := k0_off4_eq i
      have h0 : (![0, 0, 0] : Fin 3 → ℕ) = ![(0 : Fin 2).val, 0, 0] := rfl
      have h1 : (![1, 0, 0] : Fin 3 → ℕ) = ![(1 : Fin 2).val, 0, 0] := rfl
      rw [View.read_writes_full]
      have kc : arg13.view.read (Elt Ideal) (arg13.view.writes (Elt Ideal) arg13.view.junk (runB.sl.HS0_2 c arg4 harg4 x2)) = kcOf x2 := by
        unfold runB.sl.HS0_2
        sl_unfold_run_names
        exact (kc_read _ _ _ _ _ _ _ _).trans (congrArg kcOf hf2)
      have vh : arg14.view.read (Elt Ideal) (arg14.view.writes (Elt Ideal) arg14.view.junk (runB.sl.HS1_2 c arg5 harg5 x3)) = vhOf x3 := by
        unfold runB.sl.HS1_2
        sl_unfold_run_names
        rw [ra_all, hf3]
        exact vh_read _ _ _ _ _
      funext y; obtain ⟨kk, l, rfl⟩ : ∃ (kk : Fin 512) (l : Fin 128), y = ix2 kk l := ⟨_, _, eq_ix2 y⟩
      unfold runB.sl.v187
      simp only [t2, pb_k0_t2.eq_1, List.nil_append]
      unfold k0_pay93
      rw [rc_list]
      show View.read (Elt Ideal) arg15.view _ (ix2 kk l) = _
      rw [View.writes_append, sweep15 (hv2 := lane_mask) (hn := le_refl _), trips1, hf0, hf1, hf2, hf4]
      rw [hf5, vh]
      refine Eq.trans (congrArg (· + _) ?_) (collect i (fun mk b => uDk mk x0 x1 x2 (vhOf x3) x4 x5 b kk l))
      unfold runB.sl.HS2_3
      rw [View.read_writes_full]
      sl_unfold_run_names
      repeat rw [rc_all]
      rw [ra_all arg5.view, hf3]
      pointwise [k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85]
      simp only [vh_cov _ _ _ _ (0 : Fin 2) h0, vh_cov _ _ _ _ (1 : Fin 2) h1, kc_cov _ _ _ _ _ _ _ (0 : Fin 2) h0, kc_cov _ _ _ _ _ _ _ (1 : Fin 2) h1, ld_rows _ _ (cur i) e1, ld_stat _ _ (cur i) e2, ld_head_rows _ _ (0 : Fin 2) (cur i) e3, ld_head_rows _ _ (1 : Fin 2) (cur i) e4, ld_head _ _ (0 : Fin 2) h0, ld_head _ _ (1 : Fin 2) h1, ld_col _ _ (0 : Fin 2) h0, ld_col _ _ (1 : Fin 2) h1, causal_cmp, lane_mask, hf0, hf1, hf2, hf3, hf4, hf5]

      simp only [uDv, uDk, uDq, uDfk, uDfq, dsA, prA, Fin.sum_univ_two, true_and, sel_if, mask_bot]
      by_cases hl : l.val < 64
      · have o0 : own (0 : Fin 2) l := by simp [own, hl]
        have o1 : ¬ own (1 : Fin 2) l := by simp [own, hl]
        simp only [hl, o0, o1, if_true, if_false, (by decide : IntOp.xori (1#1 : BitVec 1) 1#1 = 0#1), sel1, sel0, mul_zero, Finset.sum_const_zero, add_zero, zero_add]
        try simp only [add_assoc]
      · have o0 : ¬ own (0 : Fin 2) l := by simp [own, hl]
        have o1 : own (1 : Fin 2) l := by simp [own, hl]
        simp only [hl, o0, o1, if_true, if_false, (by decide : IntOp.xori (0#1 : BitVec 1) 1#1 = 1#1), sel1, sel0, mul_zero, Finset.sum_const_zero, add_zero, zero_add]
        try simp only [add_assoc]

    isplitl [H8]
    · iexists _; isplitr; swap; · iexact H8
      ipureintro; have t2 : Scf.trips (k0_t2_loop i).lb (k0_t2_loop i).ub (k0_t2_loop i).st = 0 := trips2 i
      have t1 : Scf.trips (k0_t1_loop i).lb (k0_t1_loop i).ub (k0_t1_loop i).st = 15 - (i 1).val := trips1 i
      have e1 : k0_off1 i = ![512 * (cur i).val, 0] := k0_off1_eq i
      have e2 : k0_off2 i = ![0, (cur i).val, 0, 0] := k0_off2_eq i
      have e3 : k0_off3 i = ![(0 : Fin 2).val, 512 * (cur i).val, 0] := k0_off3_eq i
      have e4 : k0_off4 i = ![(1 : Fin 2).val, 512 * (cur i).val, 0] := k0_off4_eq i
      have h0 : (![0, 0, 0] : Fin 3 → ℕ) = ![(0 : Fin 2).val, 0, 0] := rfl
      have h1 : (![1, 0, 0] : Fin 3 → ℕ) = ![(1 : Fin 2).val, 0, 0] := rfl
      rw [View.read_writes_full]
      have kc : arg13.view.read (Elt Ideal) (arg13.view.writes (Elt Ideal) arg13.view.junk (runB.sl.HS0_2 c arg4 harg4 x2)) = kcOf x2 := by
        unfold runB.sl.HS0_2
        sl_unfold_run_names
        exact (kc_read _ _ _ _ _ _ _ _).trans (congrArg kcOf hf2)
      have vh : arg14.view.read (Elt Ideal) (arg14.view.writes (Elt Ideal) arg14.view.junk (runB.sl.HS1_2 c arg5 harg5 x3)) = vhOf x3 := by
        unfold runB.sl.HS1_2
        sl_unfold_run_names
        rw [ra_all, hf3]
        exact vh_read _ _ _ _ _
      funext y; obtain ⟨kk, l, rfl⟩ : ∃ (kk : Fin 512) (l : Fin 128), y = ix2 kk l := ⟨_, _, eq_ix2 y⟩
      unfold runB.sl.v190
      simp only [t2, pb_k0_t2.eq_1, List.nil_append]
      unfold k0_pay94
      rw [rc_list]
      show View.read (Elt Ideal) arg16.view _ (ix2 kk l) = _
      rw [View.writes_append, sweep16 (hv2 := lane_mask) (hn := le_refl _), trips1, hf0, hf1, hf2, hf4]
      refine Eq.trans (congrArg (· + _) ?_) (collect i (fun mk b => uDv mk x0 x1 x2 x4 b kk l))
      unfold runB.sl.HS3_3
      rw [View.read_writes_full]
      sl_unfold_run_names
      repeat rw [rc_all]
      pointwise [k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85]
      simp only [vh_cov _ _ _ _ (0 : Fin 2) h0, vh_cov _ _ _ _ (1 : Fin 2) h1, kc_cov _ _ _ _ _ _ _ (0 : Fin 2) h0, kc_cov _ _ _ _ _ _ _ (1 : Fin 2) h1, ld_rows _ _ (cur i) e1, ld_stat _ _ (cur i) e2, ld_head_rows _ _ (0 : Fin 2) (cur i) e3, ld_head_rows _ _ (1 : Fin 2) (cur i) e4, ld_head _ _ (0 : Fin 2) h0, ld_head _ _ (1 : Fin 2) h1, ld_col _ _ (0 : Fin 2) h0, ld_col _ _ (1 : Fin 2) h1, causal_cmp, lane_mask, hf0, hf1, hf2, hf3, hf4, hf5]

      simp only [uDv, uDk, uDq, uDfk, uDfq, dsA, prA, Fin.sum_univ_two, true_and, sel_if, mask_bot]
      by_cases hl : l.val < 64
      · have o0 : own (0 : Fin 2) l := by simp [own, hl]
        have o1 : ¬ own (1 : Fin 2) l := by simp [own, hl]
        simp only [hl, o0, o1, if_true, if_false, (by decide : IntOp.xori (1#1 : BitVec 1) 1#1 = 0#1), sel1, sel0, mul_zero, Finset.sum_const_zero, add_zero, zero_add]
        try simp only [add_assoc]
      · have o0 : ¬ own (0 : Fin 2) l := by simp [own, hl]
        have o1 : own (1 : Fin 2) l := by simp [own, hl]
        simp only [hl, o0, o1, if_true, if_false, (by decide : IntOp.xori (0#1 : BitVec 1) 1#1 = 1#1), sel1, sel0, mul_zero, Finset.sum_const_zero, add_zero, zero_add]
        try simp only [add_assoc]

    isplitl [H9]
    · iexists _; isplitr; swap; · iexact H9
      ipureintro; have t2 : Scf.trips (k0_t2_loop i).lb (k0_t2_loop i).ub (k0_t2_loop i).st = 0 := trips2 i
      have t1 : Scf.trips (k0_t1_loop i).lb (k0_t1_loop i).ub (k0_t1_loop i).st = 15 - (i 1).val := trips1 i
      have e1 : k0_off1 i = ![512 * (cur i).val, 0] := k0_off1_eq i
      have e2 : k0_off2 i = ![0, (cur i).val, 0, 0] := k0_off2_eq i
      have e3 : k0_off3 i = ![(0 : Fin 2).val, 512 * (cur i).val, 0] := k0_off3_eq i
      have e4 : k0_off4 i = ![(1 : Fin 2).val, 512 * (cur i).val, 0] := k0_off4_eq i
      have h0 : (![0, 0, 0] : Fin 3 → ℕ) = ![(0 : Fin 2).val, 0, 0] := rfl
      have h1 : (![1, 0, 0] : Fin 3 → ℕ) = ![(1 : Fin 2).val, 0, 0] := rfl
      have kc : arg13.view.read (Elt Ideal) (arg13.view.writes (Elt Ideal) arg13.view.junk (runB.sl.HS0_2 c arg4 harg4 x2)) = kcOf x2 := by
        unfold runB.sl.HS0_2
        sl_unfold_run_names
        exact (kc_read _ _ _ _ _ _ _ _).trans (congrArg kcOf hf2)
      have vh : arg14.view.read (Elt Ideal) (arg14.view.writes (Elt Ideal) arg14.view.junk (runB.sl.HS1_2 c arg5 harg5 x3)) = vhOf x3 := by
        unfold runB.sl.HS1_2
        sl_unfold_run_names
        rw [ra_all, hf3]
        exact vh_read _ _ _ _ _
      funext y; obtain ⟨z, b', g, x, rfl⟩ : ∃ (z : Fin 1) (b' : Fin 16) (g : Fin 2) (x : Fin 512), y = ix4 z b' g x := ⟨_, _, _, _, eq_ix4 y⟩
      obtain rfl : z = 0 := Subsingleton.elim _ _
      simp only [t2, pb_k0_t2.eq_1, List.nil_append]
      rw [View.writes_append, sweep11 (hv2 := lane_mask) (hn := le_refl _), trips1, hf0, hf1, hf2, hf4, hf5, vh]
      refine Eq.trans (congrArg (· + _) ?_) (collect_at i b' (fun mk b => uDfq mk x0 x1 x2 (vhOf x3) x4 x5 b g x) _)
      rw [st_stat _ _ (cur i) e2]
      by_cases hb : b' = cur i
      · rw [if_pos hb, if_pos hb, hb]
        sl_unfold_run_names
        rw [ra_all arg5.view, hf3]
        obtain rfl | rfl : g = 0 ∨ g = 1 := by omega
        · rw [pay86_0]
          pointwise [k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85]
          simp only [vh_cov _ _ _ _ (0 : Fin 2) h0, vh_cov _ _ _ _ (1 : Fin 2) h1, kc_cov _ _ _ _ _ _ _ (0 : Fin 2) h0, kc_cov _ _ _ _ _ _ _ (1 : Fin 2) h1, ld_rows _ _ (cur i) e1, ld_stat _ _ (cur i) e2, ld_head_rows _ _ (0 : Fin 2) (cur i) e3, ld_head_rows _ _ (1 : Fin 2) (cur i) e4, ld_head _ _ (0 : Fin 2) h0, ld_head _ _ (1 : Fin 2) h1, ld_col _ _ (0 : Fin 2) h0, ld_col _ _ (1 : Fin 2) h1, causal_cmp, lane_mask, hf0, hf1, hf2, hf3, hf4, hf5]
          simp only [uDv, uDk, uDq, uDfk, uDfq, dsA, prA, Fin.sum_univ_two, true_and, sel_if, mask_bot]
          exact congrArg (· + _) (congrFun hf9 _)
        · rw [pay86_1]
          pointwise [k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85]
          simp only [vh_cov _ _ _ _ (0 : Fin 2) h0, vh_cov _ _ _ _ (1 : Fin 2) h1, kc_cov _ _ _ _ _ _ _ (0 : Fin 2) h0, kc_cov _ _ _ _ _ _ _ (1 : Fin 2) h1, ld_rows _ _ (cur i) e1, ld_stat _ _ (cur i) e2, ld_head_rows _ _ (0 : Fin 2) (cur i) e3, ld_head_rows _ _ (1 : Fin 2) (cur i) e4, ld_head _ _ (0 : Fin 2) h0, ld_head _ _ (1 : Fin 2) h1, ld_col _ _ (0 : Fin 2) h0, ld_col _ _ (1 : Fin 2) h1, causal_cmp, lane_mask, hf0, hf1, hf2, hf3, hf4, hf5]
          simp only [uDv, uDk, uDq, uDfk, uDfq, dsA, prA, Fin.sum_univ_two, true_and, sel_if, mask_bot]
          exact congrArg (· + _) (congrFun hf9 _)
      · rw [if_neg hb, if_neg hb, add_zero]
        rw [View.writes_nil]
        exact congrFun hf9 _
    isplitl [H10]
    · iexists _; isplitr; swap; · iexact H10
      ipureintro; have t2 : Scf.trips (k0_t2_loop i).lb (k0_t2_loop i).ub (k0_t2_loop i).st = 0 := trips2 i
      have t1 : Scf.trips (k0_t1_loop i).lb (k0_t1_loop i).ub (k0_t1_loop i).st = 15 - (i 1).val := trips1 i
      have e1 : k0_off1 i = ![512 * (cur i).val, 0] := k0_off1_eq i
      have e2 : k0_off2 i = ![0, (cur i).val, 0, 0] := k0_off2_eq i
      have e3 : k0_off3 i = ![(0 : Fin 2).val, 512 * (cur i).val, 0] := k0_off3_eq i
      have e4 : k0_off4 i = ![(1 : Fin 2).val, 512 * (cur i).val, 0] := k0_off4_eq i
      have h0 : (![0, 0, 0] : Fin 3 → ℕ) = ![(0 : Fin 2).val, 0, 0] := rfl
      have h1 : (![1, 0, 0] : Fin 3 → ℕ) = ![(1 : Fin 2).val, 0, 0] := rfl
      rw [View.read_writes_full]
      have kc : arg13.view.read (Elt Ideal) (arg13.view.writes (Elt Ideal) arg13.view.junk (runB.sl.HS0_2 c arg4 harg4 x2)) = kcOf x2 := by
        unfold runB.sl.HS0_2
        sl_unfold_run_names
        exact (kc_read _ _ _ _ _ _ _ _).trans (congrArg kcOf hf2)
      have vh : arg14.view.read (Elt Ideal) (arg14.view.writes (Elt Ideal) arg14.view.junk (runB.sl.HS1_2 c arg5 harg5 x3)) = vhOf x3 := by
        unfold runB.sl.HS1_2
        sl_unfold_run_names
        rw [ra_all, hf3]
        exact vh_read _ _ _ _ _
      funext y; obtain ⟨z, kk, h, rfl⟩ : ∃ (z : Fin 1) (kk : Fin 512) (h : Fin 2), y = ix3 z kk h := ⟨_, _, _, eq_ix3 y⟩
      rw [pay1_at]
      obtain rfl | rfl : h = 0 ∨ h = 1 := by omega
      · rw [if_pos rfl]
        unfold runB.sl.v196
        simp only [t2, pb_k0_t2.eq_1, List.nil_append]
        rw [rc_col _ _ (0 : Fin 2) h0]
        rw [View.writes_append, sweep17 (hv2 := lane_mask) (hn := le_refl _), trips1, hf0, hf1, hf2, hf4, hf5, vh]
        refine Eq.trans (congrArg (· + _) ?_) (collect i (fun mk b => uDfk mk x0 x1 x2 (vhOf x3) x4 x5 b (0 : Fin 2) kk))
        unfold runB.sl.HS4_3
        sl_unfold_run_names
        rw [ra_all arg5.view, hf3]
        rw [st_col _ _ (1 : Fin 2) h1, st_col _ _ (0 : Fin 2) h0]
        rw [if_neg (by decide), if_pos rfl]
        pointwise [k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85]
        simp only [vh_cov _ _ _ _ (0 : Fin 2) h0, vh_cov _ _ _ _ (1 : Fin 2) h1, kc_cov _ _ _ _ _ _ _ (0 : Fin 2) h0, kc_cov _ _ _ _ _ _ _ (1 : Fin 2) h1, ld_rows _ _ (cur i) e1, ld_stat _ _ (cur i) e2, ld_head_rows _ _ (0 : Fin 2) (cur i) e3, ld_head_rows _ _ (1 : Fin 2) (cur i) e4, ld_head _ _ (0 : Fin 2) h0, ld_head _ _ (1 : Fin 2) h1, ld_col _ _ (0 : Fin 2) h0, ld_col _ _ (1 : Fin 2) h1, causal_cmp, lane_mask, hf0, hf1, hf2, hf3, hf4, hf5]
        simp only [uDv, uDk, uDq, uDfk, uDfq, dsA, prA, Fin.sum_univ_two, true_and, sel_if, mask_bot]
        simp only [rc_col _ _ (0 : Fin 2) h0, rc_col _ _ (1 : Fin 2) h1, st_col _ _ (0 : Fin 2) h0, fill_col, (by decide : ((1 : Fin 2) = 0) = False), if_false]
        rw [fill_col]
        exact zero_add _
      · rw [if_neg (by decide)]
        unfold runB.sl.v198
        simp only [t2, pb_k0_t2.eq_1, List.nil_append]
        rw [rc_col _ _ (1 : Fin 2) h1]
        rw [View.writes_append, sweep17 (hv2 := lane_mask) (hn := le_refl _), trips1, hf0, hf1, hf2, hf4, hf5, vh]
        refine Eq.trans (congrArg (· + _) ?_) (collect i (fun mk b => uDfk mk x0 x1 x2 (vhOf x3) x4 x5 b (1 : Fin 2) kk))
        unfold runB.sl.HS4_3
        sl_unfold_run_names
        rw [ra_all arg5.view, hf3]
        rw [st_col _ _ (1 : Fin 2) h1]
        rw [if_pos rfl]
        pointwise [k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85]
        simp only [vh_cov _ _ _ _ (0 : Fin 2) h0, vh_cov _ _ _ _ (1 : Fin 2) h1, kc_cov _ _ _ _ _ _ _ (0 : Fin 2) h0, kc_cov _ _ _ _ _ _ _ (1 : Fin 2) h1, ld_rows _ _ (cur i) e1, ld_stat _ _ (cur i) e2, ld_head_rows _ _ (0 : Fin 2) (cur i) e3, ld_head_rows _ _ (1 : Fin 2) (cur i) e4, ld_head _ _ (0 : Fin 2) h0, ld_head _ _ (1 : Fin 2) h1, ld_col _ _ (0 : Fin 2) h0, ld_col _ _ (1 : Fin 2) h1, causal_cmp, lane_mask, hf0, hf1, hf2, hf3, hf4, hf5]
        simp only [uDv, uDk, uDq, uDfk, uDfq, dsA, prA, Fin.sum_univ_two, true_and, sel_if, mask_bot]
        simp only [rc_col _ _ (0 : Fin 2) h0, rc_col _ _ (1 : Fin 2) h1, st_col _ _ (0 : Fin 2) h0, fill_col, (by decide : ((1 : Fin 2) = 0) = False), if_false]
        rw [fill_col]
        exact zero_add _

    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    iexists _, _; isplitr; swap; · iexact HS4
    ipureintro; rfl

end Cert.KernelIdeal.Fox
end
-- ==== Proof.RunC.lean ====
module

public import proofs.«01_k».proof.Proof.Body
public import proofs.«01_k».proof.Proof.Gen.KernelIdeal.Skeleton
public import proofs.«01_k».proof.Proof.Gen.KernelIdeal.Loops
public import proofs.«01_k».proof.Proof.Gen.KernelIdeal.Frame
public import Idealize.ShloMosaic.Lib.VecWindow
public import Idealize.ShloMosaic.Lib.Pipeline.ValueKit

@[expose] public section

set_option maxRecDepth 16384

noncomputable section

namespace Cert.KernelIdeal.Fox

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

local notation "𝕄" => MT nD τ sig Unit (Elt Ideal) ℕ (UR sig nD τ) ℕ

set_option maxHeartbeats 4000000 in
theorem runC (c : Dev nD) (i : grid0.Coords) (arg2 : Memref sig .tc .vmem S2x8192x128 .bf16) (harg2 : arg2.IsWhole) (arg3 : Memref sig .tc .vmem S8192x128 .bf16) (harg3 : arg3.IsWhole) (arg4 : Memref sig .tc .vmem S2x512x128 .bf16) (harg4 : arg4.IsWhole) (arg5 : Memref sig .tc .vmem S512x128 .bf16) (harg5 : arg5.IsWhole) (arg6 : Memref sig .tc .vmem S1x16x2x512 .f32) (harg6 : arg6.IsWhole) (arg7 : Memref sig .tc .vmem S1x16x2x512 .f32) (harg7 : arg7.IsWhole) (arg8 : Memref sig .tc .vmem S8192x128 .f32) (harg8 : arg8.IsWhole) (arg9 : Memref sig .tc .vmem S512x128 .bf16) (harg9 : arg9.IsWhole) (arg10 : Memref sig .tc .vmem S512x128 .bf16) (harg10 : arg10.IsWhole) (arg11 : Memref sig .tc .vmem S1x16x2x512 .f32) (harg11 : arg11.IsWhole) (arg12 : Memref sig .tc .vmem S1x512x2 .f32) (harg12 : arg12.IsWhole) (arg13 : Memref sig .tc .vmem S2x512x128 .bf16) (harg13 : arg13.IsWhole) (arg14 : Memref sig .tc .vmem S2x512x128 .bf16) (harg14 : arg14.IsWhole) (arg15 : Memref sig .tc .vmem S512x128 .f32) (harg15 : arg15.IsWhole) (arg16 : Memref sig .tc .vmem S512x128 .f32) (harg16 : arg16.IsWhole) (arg17 : Memref sig .tc .vmem S2x512x1 .f32) (harg17 : arg17.IsWhole) (hc0 : ¬cond0_0 i) (hc1 : cond0_1 i)
    (x0 : FVec Ideal S2x8192x128 .bf16) (x1 : FVec Ideal S8192x128 .bf16) (x2 : FVec Ideal S2x512x128 .bf16) (x3 : FVec Ideal S512x128 .bf16) (x4 : FVec Ideal S1x16x2x512 .f32) (x5 : FVec Ideal S1x16x2x512 .f32) (a6 : FVec Ideal S8192x128 .f32) (a9 : FVec Ideal S1x16x2x512 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare a6 ∗ (∃ d, owns (c : Thread nD τ) arg9 fullShare d) ∗ (∃ d, owns (c : Thread nD τ) arg10 fullShare d) ∗ owns (c : Thread nD τ) arg11 fullShare a9 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (fun y => (addDq (i 1).val a6 x0 x1 x2 x3 x4 x5) y * ((1 / 8 : ℝ) : EReal)) ∗ owns (c : Thread nD τ) arg9 fullShare (outDk (i 1).val x0 x1 x2 x3 x4 x5) ∗ owns (c : Thread nD τ) arg10 fullShare (outDv (i 1).val x0 x1 x2 x4) ∗ owns (c : Thread nD τ) arg11 fullShare (addDfq (i 1).val a9 x0 x1 x2 x3 x4 x5) ∗ owns (c : Thread nD τ) arg12 fullShare (outDfk (i 1).val x0 x1 x2 x3 x4 x5) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)) -∗ K ⟨⟩))
          ⊢ wp frame (wpE (defs₀ (F := Ideal)) Variants.none c none) E (cc0_attn_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
    intro E K
    simp only [cc0_attn_bwd_eq_skeleton]; unfold cc0_attn_bwd_skel
    simp only [k0_part7_eq_skeleton, k0_part8_eq_skeleton, k0_part9_eq_skeleton, k0_part10_eq_skeleton, k0_part11_eq_skeleton, k0_part12_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%f9, %hf9, H9⟩, ⟨%d10, %f10, -, H10⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg11.eq_unread hf9
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; swap; · iexact H6
      ipureintro; have t2 : Scf.trips (k0_t2_loop i).lb (k0_t2_loop i).ub (k0_t2_loop i).st = 0 := trips2 i
      have t1 : Scf.trips (k0_t1_loop i).lb (k0_t1_loop i).ub (k0_t1_loop i).st = 15 - (i 1).val := trips1 i
      have e1 : k0_off1 i = ![512 * (cur i).val, 0] := k0_off1_eq i
      have e2 : k0_off2 i = ![0, (cur i).val, 0, 0] := k0_off2_eq i
      have e3 : k0_off3 i = ![(0 : Fin 2).val, 512 * (cur i).val, 0] := k0_off3_eq i
      have e4 : k0_off4 i = ![(1 : Fin 2).val, 512 * (cur i).val, 0] := k0_off4_eq i
      have h0 : (![0, 0, 0] : Fin 3 → ℕ) = ![(0 : Fin 2).val, 0, 0] := rfl
      have h1 : (![1, 0, 0] : Fin 3 → ℕ) = ![(1 : Fin 2).val, 0, 0] := rfl
      have kc : arg13.view.read (Elt Ideal) (arg13.view.writes (Elt Ideal) arg13.view.junk (runC.sl.HS0_2 c arg4 harg4 x2)) = kcOf x2 := by
        unfold runC.sl.HS0_2
        sl_unfold_run_names
        exact (kc_read _ _ _ _ _ _ _ _).trans (congrArg kcOf hf2)
      have vh : arg14.view.read (Elt Ideal) (arg14.view.writes (Elt Ideal) arg14.view.junk (runC.sl.HS1_2 c arg5 harg5 x3)) = vhOf x3 := by
        unfold runC.sl.HS1_2
        sl_unfold_run_names
        rw [ra_all, hf3]
        exact vh_read _ _ _ _ _
      funext y; obtain ⟨r, l, rfl⟩ : ∃ (r : Fin 8192) (l : Fin 128), y = ix2 r l := ⟨_, _, eq_ix2 y⟩
      obtain ⟨b', x, rfl⟩ := row_eq r
      rw [View.read_writes_full, pay2_at]
      refine congrArg (· * _) ?_
      rw [addDq_row]
      unfold runC.sl.v211
      rw [ra_all_rows]
      simp only [t2, pb_k0_t2.eq_1, List.nil_append]
      rw [View.writes_append, sweep8 (hv2 := lane_mask) (hn := le_refl _), trips1, hf0, hf1, hf2, hf4, hf5, vh, kc]
      refine Eq.trans (congrArg (· + _) ?_) (collect_at i b' (fun mk b => uDq mk x0 x1 x2 (vhOf x3) (kcOf x2) x4 x5 b x l) _)
      unfold runC.sl.H6_1
      rw [st_rows _ _ (cur i) e1, st_rows _ _ (cur i) e1]
      by_cases hb : b' = cur i
      · rw [if_pos hb, if_pos hb, hb]
        sl_unfold_run_names
        rw [ra_all arg5.view, hf3]
        repeat rw [rc_rows]
        pointwise [k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85]
        simp only [vh_cov _ _ _ _ (0 : Fin 2) h0, vh_cov _ _ _ _ (1 : Fin 2) h1, kc_cov _ _ _ _ _ _ _ (0 : Fin 2) h0, kc_cov _ _ _ _ _ _ _ (1 : Fin 2) h1, ld_rows _ _ (cur i) e1, ld_stat _ _ (cur i) e2, ld_head_rows _ _ (0 : Fin 2) (cur i) e3, ld_head_rows _ _ (1 : Fin 2) (cur i) e4, ld_head _ _ (0 : Fin 2) h0, ld_head _ _ (1 : Fin 2) h1, ld_col _ _ (0 : Fin 2) h0, ld_col _ _ (1 : Fin 2) h1, causal_cmp, lane_mask, hf0, hf1, hf2, hf3, hf4, hf5]
        simp only [uDv, uDk, uDq, uDfk, uDfq, dsA, prA, Fin.sum_univ_two, _root_.true_and, sel_if, mask_bot]
        rw [add_assoc]
        exact congrArg (· + _) (congrFun hf6 _)
      · rw [if_neg hb, if_neg hb, if_neg hb, add_zero]
        rw [View.writes_nil]
        exact congrFun hf6 _
    isplitl [H7]
    · iexists _; isplitr; swap; · iexact H7
      ipureintro; have t2 : Scf.trips (k0_t2_loop i).lb (k0_t2_loop i).ub (k0_t2_loop i).st = 0 := trips2 i
      have t1 : Scf.trips (k0_t1_loop i).lb (k0_t1_loop i).ub (k0_t1_loop i).st = 15 - (i 1).val := trips1 i
      have e1 : k0_off1 i = ![512 * (cur i).val, 0] := k0_off1_eq i
      have e2 : k0_off2 i = ![0, (cur i).val, 0, 0] := k0_off2_eq i
      have e3 : k0_off3 i = ![(0 : Fin 2).val, 512 * (cur i).val, 0] := k0_off3_eq i
      have e4 : k0_off4 i = ![(1 : Fin 2).val, 512 * (cur i).val, 0] := k0_off4_eq i
      have h0 : (![0, 0, 0] : Fin 3 → ℕ) = ![(0 : Fin 2).val, 0, 0] := rfl
      have h1 : (![1, 0, 0] : Fin 3 → ℕ) = ![(1 : Fin 2).val, 0, 0] := rfl
      rw [View.read_writes_full]
      have kc : arg13.view.read (Elt Ideal) (arg13.view.writes (Elt Ideal) arg13.view.junk (runC.sl.HS0_2 c arg4 harg4 x2)) = kcOf x2 := by
        unfold runC.sl.HS0_2
        sl_unfold_run_names
        exact (kc_read _ _ _ _ _ _ _ _).trans (congrArg kcOf hf2)
      have vh : arg14.view.read (Elt Ideal) (arg14.view.writes (Elt Ideal) arg14.view.junk (runC.sl.HS1_2 c arg5 harg5 x3)) = vhOf x3 := by
        unfold runC.sl.HS1_2
        sl_unfold_run_names
        rw [ra_all, hf3]
        exact vh_read _ _ _ _ _
      funext y; obtain ⟨kk, l, rfl⟩ : ∃ (kk : Fin 512) (l : Fin 128), y = ix2 kk l := ⟨_, _, eq_ix2 y⟩
      unfold runC.sl.v187
      simp only [t2, pb_k0_t2.eq_1, List.nil_append]
      unfold k0_pay93
      rw [rc_list]
      show View.read (Elt Ideal) arg15.view _ (ix2 kk l) = _
      rw [View.writes_append, sweep15 (hv2 := lane_mask) (hn := le_refl _), trips1, hf0, hf1, hf2, hf4]
      rw [hf5, vh]
      refine Eq.trans (congrArg (· + _) ?_) (collect i (fun mk b => uDk mk x0 x1 x2 (vhOf x3) x4 x5 b kk l))
      unfold runC.sl.HS2_3
      rw [View.read_writes_full]
      sl_unfold_run_names
      repeat rw [rc_all]
      rw [ra_all arg5.view, hf3]
      pointwise [k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85]
      simp only [vh_cov _ _ _ _ (0 : Fin 2) h0, vh_cov _ _ _ _ (1 : Fin 2) h1, kc_cov _ _ _ _ _ _ _ (0 : Fin 2) h0, kc_cov _ _ _ _ _ _ _ (1 : Fin 2) h1, ld_rows _ _ (cur i) e1, ld_stat _ _ (cur i) e2, ld_head_rows _ _ (0 : Fin 2) (cur i) e3, ld_head_rows _ _ (1 : Fin 2) (cur i) e4, ld_head _ _ (0 : Fin 2) h0, ld_head _ _ (1 : Fin 2) h1, ld_col _ _ (0 : Fin 2) h0, ld_col _ _ (1 : Fin 2) h1, causal_cmp, lane_mask, hf0, hf1, hf2, hf3, hf4, hf5]

      simp only [uDv, uDk, uDq, uDfk, uDfq, dsA, prA, Fin.sum_univ_two, _root_.true_and, sel_if, mask_bot]
      by_cases hl : l.val < 64
      · have o0 : own (0 : Fin 2) l := by simp [own, hl]
        have o1 : ¬ own (1 : Fin 2) l := by simp [own, hl]
        simp only [hl, o0, o1, if_true, if_false, (by decide : IntOp.xori (1#1 : BitVec 1) 1#1 = 0#1), sel1, sel0, mul_zero, Finset.sum_const_zero, add_zero, zero_add]
        try simp only [add_assoc]
      · have o0 : ¬ own (0 : Fin 2) l := by simp [own, hl]
        have o1 : own (1 : Fin 2) l := by simp [own, hl]
        simp only [hl, o0, o1, if_true, if_false, (by decide : IntOp.xori (0#1 : BitVec 1) 1#1 = 1#1), sel1, sel0, mul_zero, Finset.sum_const_zero, add_zero, zero_add]
        try simp only [add_assoc]

    isplitl [H8]
    · iexists _; isplitr; swap; · iexact H8
      ipureintro; have t2 : Scf.trips (k0_t2_loop i).lb (k0_t2_loop i).ub (k0_t2_loop i).st = 0 := trips2 i
      have t1 : Scf.trips (k0_t1_loop i).lb (k0_t1_loop i).ub (k0_t1_loop i).st = 15 - (i 1).val := trips1 i
      have e1 : k0_off1 i = ![512 * (cur i).val, 0] := k0_off1_eq i
      have e2 : k0_off2 i = ![0, (cur i).val, 0, 0] := k0_off2_eq i
      have e3 : k0_off3 i = ![(0 : Fin 2).val, 512 * (cur i).val, 0] := k0_off3_eq i
      have e4 : k0_off4 i = ![(1 : Fin 2).val, 512 * (cur i).val, 0] := k0_off4_eq i
      have h0 : (![0, 0, 0] : Fin 3 → ℕ) = ![(0 : Fin 2).val, 0, 0] := rfl
      have h1 : (![1, 0, 0] : Fin 3 → ℕ) = ![(1 : Fin 2).val, 0, 0] := rfl
      rw [View.read_writes_full]
      have kc : arg13.view.read (Elt Ideal) (arg13.view.writes (Elt Ideal) arg13.view.junk (runC.sl.HS0_2 c arg4 harg4 x2)) = kcOf x2 := by
        unfold runC.sl.HS0_2
        sl_unfold_run_names
        exact (kc_read _ _ _ _ _ _ _ _).trans (congrArg kcOf hf2)
      have vh : arg14.view.read (Elt Ideal) (arg14.view.writes (Elt Ideal) arg14.view.junk (runC.sl.HS1_2 c arg5 harg5 x3)) = vhOf x3 := by
        unfold runC.sl.HS1_2
        sl_unfold_run_names
        rw [ra_all, hf3]
        exact vh_read _ _ _ _ _
      funext y; obtain ⟨kk, l, rfl⟩ : ∃ (kk : Fin 512) (l : Fin 128), y = ix2 kk l := ⟨_, _, eq_ix2 y⟩
      unfold runC.sl.v190
      simp only [t2, pb_k0_t2.eq_1, List.nil_append]
      unfold k0_pay94
      rw [rc_list]
      show View.read (Elt Ideal) arg16.view _ (ix2 kk l) = _
      rw [View.writes_append, sweep16 (hv2 := lane_mask) (hn := le_refl _), trips1, hf0, hf1, hf2, hf4]
      refine Eq.trans (congrArg (· + _) ?_) (collect i (fun mk b => uDv mk x0 x1 x2 x4 b kk l))
      unfold runC.sl.HS3_3
      rw [View.read_writes_full]
      sl_unfold_run_names
      repeat rw [rc_all]
      pointwise [k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85]
      simp only [vh_cov _ _ _ _ (0 : Fin 2) h0, vh_cov _ _ _ _ (1 : Fin 2) h1, kc_cov _ _ _ _ _ _ _ (0 : Fin 2) h0, kc_cov _ _ _ _ _ _ _ (1 : Fin 2) h1, ld_rows _ _ (cur i) e1, ld_stat _ _ (cur i) e2, ld_head_rows _ _ (0 : Fin 2) (cur i) e3, ld_head_rows _ _ (1 : Fin 2) (cur i) e4, ld_head _ _ (0 : Fin 2) h0, ld_head _ _ (1 : Fin 2) h1, ld_col _ _ (0 : Fin 2) h0, ld_col _ _ (1 : Fin 2) h1, causal_cmp, lane_mask, hf0, hf1, hf2, hf3, hf4, hf5]

      simp only [uDv, uDk, uDq, uDfk, uDfq, dsA, prA, Fin.sum_univ_two, _root_.true_and, sel_if, mask_bot]
      by_cases hl : l.val < 64
      · have o0 : own (0 : Fin 2) l := by simp [own, hl]
        have o1 : ¬ own (1 : Fin 2) l := by simp [own, hl]
        simp only [hl, o0, o1, if_true, if_false, (by decide : IntOp.xori (1#1 : BitVec 1) 1#1 = 0#1), sel1, sel0, mul_zero, Finset.sum_const_zero, add_zero, zero_add]
        try simp only [add_assoc]
      · have o0 : ¬ own (0 : Fin 2) l := by simp [own, hl]
        have o1 : own (1 : Fin 2) l := by simp [own, hl]
        simp only [hl, o0, o1, if_true, if_false, (by decide : IntOp.xori (0#1 : BitVec 1) 1#1 = 1#1), sel1, sel0, mul_zero, Finset.sum_const_zero, add_zero, zero_add]
        try simp only [add_assoc]

    isplitl [H9]
    · iexists _; isplitr; swap; · iexact H9
      ipureintro; have t2 : Scf.trips (k0_t2_loop i).lb (k0_t2_loop i).ub (k0_t2_loop i).st = 0 := trips2 i
      have t1 : Scf.trips (k0_t1_loop i).lb (k0_t1_loop i).ub (k0_t1_loop i).st = 15 - (i 1).val := trips1 i
      have e1 : k0_off1 i = ![512 * (cur i).val, 0] := k0_off1_eq i
      have e2 : k0_off2 i = ![0, (cur i).val, 0, 0] := k0_off2_eq i
      have e3 : k0_off3 i = ![(0 : Fin 2).val, 512 * (cur i).val, 0] := k0_off3_eq i
      have e4 : k0_off4 i = ![(1 : Fin 2).val, 512 * (cur i).val, 0] := k0_off4_eq i
      have h0 : (![0, 0, 0] : Fin 3 → ℕ) = ![(0 : Fin 2).val, 0, 0] := rfl
      have h1 : (![1, 0, 0] : Fin 3 → ℕ) = ![(1 : Fin 2).val, 0, 0] := rfl
      have kc : arg13.view.read (Elt Ideal) (arg13.view.writes (Elt Ideal) arg13.view.junk (runC.sl.HS0_2 c arg4 harg4 x2)) = kcOf x2 := by
        unfold runC.sl.HS0_2
        sl_unfold_run_names
        exact (kc_read _ _ _ _ _ _ _ _).trans (congrArg kcOf hf2)
      have vh : arg14.view.read (Elt Ideal) (arg14.view.writes (Elt Ideal) arg14.view.junk (runC.sl.HS1_2 c arg5 harg5 x3)) = vhOf x3 := by
        unfold runC.sl.HS1_2
        sl_unfold_run_names
        rw [ra_all, hf3]
        exact vh_read _ _ _ _ _
      funext y; obtain ⟨z, b', g, x, rfl⟩ : ∃ (z : Fin 1) (b' : Fin 16) (g : Fin 2) (x : Fin 512), y = ix4 z b' g x := ⟨_, _, _, _, eq_ix4 y⟩
      obtain rfl : z = 0 := Subsingleton.elim _ _
      simp only [t2, pb_k0_t2.eq_1, List.nil_append]
      rw [View.writes_append, sweep11 (hv2 := lane_mask) (hn := le_refl _), trips1, hf0, hf1, hf2, hf4, hf5, vh]
      refine Eq.trans (congrArg (· + _) ?_) (collect_at i b' (fun mk b => uDfq mk x0 x1 x2 (vhOf x3) x4 x5 b g x) _)
      rw [st_stat _ _ (cur i) e2]
      by_cases hb : b' = cur i
      · rw [if_pos hb, if_pos hb, hb]
        sl_unfold_run_names
        rw [ra_all arg5.view, hf3]
        obtain rfl | rfl : g = 0 ∨ g = 1 := by omega
        · rw [pay86_0]
          pointwise [k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85]
          simp only [vh_cov _ _ _ _ (0 : Fin 2) h0, vh_cov _ _ _ _ (1 : Fin 2) h1, kc_cov _ _ _ _ _ _ _ (0 : Fin 2) h0, kc_cov _ _ _ _ _ _ _ (1 : Fin 2) h1, ld_rows _ _ (cur i) e1, ld_stat _ _ (cur i) e2, ld_head_rows _ _ (0 : Fin 2) (cur i) e3, ld_head_rows _ _ (1 : Fin 2) (cur i) e4, ld_head _ _ (0 : Fin 2) h0, ld_head _ _ (1 : Fin 2) h1, ld_col _ _ (0 : Fin 2) h0, ld_col _ _ (1 : Fin 2) h1, causal_cmp, lane_mask, hf0, hf1, hf2, hf3, hf4, hf5]
          simp only [uDv, uDk, uDq, uDfk, uDfq, dsA, prA, Fin.sum_univ_two, _root_.true_and, sel_if, mask_bot]
          exact congrArg (· + _) (congrFun hf9 _)
        · rw [pay86_1]
          pointwise [k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85]
          simp only [vh_cov _ _ _ _ (0 : Fin 2) h0, vh_cov _ _ _ _ (1 : Fin 2) h1, kc_cov _ _ _ _ _ _ _ (0 : Fin 2) h0, kc_cov _ _ _ _ _ _ _ (1 : Fin 2) h1, ld_rows _ _ (cur i) e1, ld_stat _ _ (cur i) e2, ld_head_rows _ _ (0 : Fin 2) (cur i) e3, ld_head_rows _ _ (1 : Fin 2) (cur i) e4, ld_head _ _ (0 : Fin 2) h0, ld_head _ _ (1 : Fin 2) h1, ld_col _ _ (0 : Fin 2) h0, ld_col _ _ (1 : Fin 2) h1, causal_cmp, lane_mask, hf0, hf1, hf2, hf3, hf4, hf5]
          simp only [uDv, uDk, uDq, uDfk, uDfq, dsA, prA, Fin.sum_univ_two, _root_.true_and, sel_if, mask_bot]
          exact congrArg (· + _) (congrFun hf9 _)
      · rw [if_neg hb, if_neg hb, add_zero]
        rw [View.writes_nil]
        exact congrFun hf9 _
    isplitl [H10]
    · iexists _; isplitr; swap; · iexact H10
      ipureintro; have t2 : Scf.trips (k0_t2_loop i).lb (k0_t2_loop i).ub (k0_t2_loop i).st = 0 := trips2 i
      have t1 : Scf.trips (k0_t1_loop i).lb (k0_t1_loop i).ub (k0_t1_loop i).st = 15 - (i 1).val := trips1 i
      have e1 : k0_off1 i = ![512 * (cur i).val, 0] := k0_off1_eq i
      have e2 : k0_off2 i = ![0, (cur i).val, 0, 0] := k0_off2_eq i
      have e3 : k0_off3 i = ![(0 : Fin 2).val, 512 * (cur i).val, 0] := k0_off3_eq i
      have e4 : k0_off4 i = ![(1 : Fin 2).val, 512 * (cur i).val, 0] := k0_off4_eq i
      have h0 : (![0, 0, 0] : Fin 3 → ℕ) = ![(0 : Fin 2).val, 0, 0] := rfl
      have h1 : (![1, 0, 0] : Fin 3 → ℕ) = ![(1 : Fin 2).val, 0, 0] := rfl
      rw [View.read_writes_full]
      have kc : arg13.view.read (Elt Ideal) (arg13.view.writes (Elt Ideal) arg13.view.junk (runC.sl.HS0_2 c arg4 harg4 x2)) = kcOf x2 := by
        unfold runC.sl.HS0_2
        sl_unfold_run_names
        exact (kc_read _ _ _ _ _ _ _ _).trans (congrArg kcOf hf2)
      have vh : arg14.view.read (Elt Ideal) (arg14.view.writes (Elt Ideal) arg14.view.junk (runC.sl.HS1_2 c arg5 harg5 x3)) = vhOf x3 := by
        unfold runC.sl.HS1_2
        sl_unfold_run_names
        rw [ra_all, hf3]
        exact vh_read _ _ _ _ _
      funext y; obtain ⟨z, kk, h, rfl⟩ : ∃ (z : Fin 1) (kk : Fin 512) (h : Fin 2), y = ix3 z kk h := ⟨_, _, _, eq_ix3 y⟩
      rw [pay1_at]
      obtain rfl | rfl : h = 0 ∨ h = 1 := by omega
      · rw [if_pos rfl]
        unfold runC.sl.v196
        simp only [t2, pb_k0_t2.eq_1, List.nil_append]
        rw [rc_col _ _ (0 : Fin 2) h0]
        rw [View.writes_append, sweep17 (hv2 := lane_mask) (hn := le_refl _), trips1, hf0, hf1, hf2, hf4, hf5, vh]
        refine Eq.trans (congrArg (· + _) ?_) (collect i (fun mk b => uDfk mk x0 x1 x2 (vhOf x3) x4 x5 b (0 : Fin 2) kk))
        unfold runC.sl.HS4_3
        sl_unfold_run_names
        rw [ra_all arg5.view, hf3]
        rw [st_col _ _ (1 : Fin 2) h1, st_col _ _ (0 : Fin 2) h0]
        rw [if_neg (by decide), if_pos rfl]
        pointwise [k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85]
        simp only [vh_cov _ _ _ _ (0 : Fin 2) h0, vh_cov _ _ _ _ (1 : Fin 2) h1, kc_cov _ _ _ _ _ _ _ (0 : Fin 2) h0, kc_cov _ _ _ _ _ _ _ (1 : Fin 2) h1, ld_rows _ _ (cur i) e1, ld_stat _ _ (cur i) e2, ld_head_rows _ _ (0 : Fin 2) (cur i) e3, ld_head_rows _ _ (1 : Fin 2) (cur i) e4, ld_head _ _ (0 : Fin 2) h0, ld_head _ _ (1 : Fin 2) h1, ld_col _ _ (0 : Fin 2) h0, ld_col _ _ (1 : Fin 2) h1, causal_cmp, lane_mask, hf0, hf1, hf2, hf3, hf4, hf5]
        simp only [uDv, uDk, uDq, uDfk, uDfq, dsA, prA, Fin.sum_univ_two, _root_.true_and, sel_if, mask_bot]
        simp only [rc_col _ _ (0 : Fin 2) h0, rc_col _ _ (1 : Fin 2) h1, st_col _ _ (0 : Fin 2) h0, fill_col, (by decide : ((1 : Fin 2) = 0) = False), if_false]
        rw [fill_col]
        exact zero_add _
      · rw [if_neg (by decide)]
        unfold runC.sl.v198
        simp only [t2, pb_k0_t2.eq_1, List.nil_append]
        rw [rc_col _ _ (1 : Fin 2) h1]
        rw [View.writes_append, sweep17 (hv2 := lane_mask) (hn := le_refl _), trips1, hf0, hf1, hf2, hf4, hf5, vh]
        refine Eq.trans (congrArg (· + _) ?_) (collect i (fun mk b => uDfk mk x0 x1 x2 (vhOf x3) x4 x5 b (1 : Fin 2) kk))
        unfold runC.sl.HS4_3
        sl_unfold_run_names
        rw [ra_all arg5.view, hf3]
        rw [st_col _ _ (1 : Fin 2) h1]
        rw [if_pos rfl]
        pointwise [k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85]
        simp only [vh_cov _ _ _ _ (0 : Fin 2) h0, vh_cov _ _ _ _ (1 : Fin 2) h1, kc_cov _ _ _ _ _ _ _ (0 : Fin 2) h0, kc_cov _ _ _ _ _ _ _ (1 : Fin 2) h1, ld_rows _ _ (cur i) e1, ld_stat _ _ (cur i) e2, ld_head_rows _ _ (0 : Fin 2) (cur i) e3, ld_head_rows _ _ (1 : Fin 2) (cur i) e4, ld_head _ _ (0 : Fin 2) h0, ld_head _ _ (1 : Fin 2) h1, ld_col _ _ (0 : Fin 2) h0, ld_col _ _ (1 : Fin 2) h1, causal_cmp, lane_mask, hf0, hf1, hf2, hf3, hf4, hf5]
        simp only [uDv, uDk, uDq, uDfk, uDfq, dsA, prA, Fin.sum_univ_two, _root_.true_and, sel_if, mask_bot]
        simp only [rc_col _ _ (0 : Fin 2) h0, rc_col _ _ (1 : Fin 2) h1, st_col _ _ (0 : Fin 2) h0, fill_col, (by decide : ((1 : Fin 2) = 0) = False), if_false]
        rw [fill_col]
        exact zero_add _

    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    iexists _, _; isplitr; swap; · iexact HS4
    ipureintro; rfl

end Cert.KernelIdeal.Fox
end
-- ==== Proof.FrameV.lean ====
module

public import proofs.«01_k».proof.Proof.RunA
public import proofs.«01_k».proof.Proof.RunB
public import proofs.«01_k».proof.Proof.RunC
public import Idealize.ShloMosaic.Lib.Claim
public import proofs.«01_k».proof.Proof.Gen.KernelIdeal.Skeleton
public import proofs.«01_k».proof.Proof.Gen.KernelIdeal.Loops
public import proofs.«01_k».proof.Proof.Gen.KernelIdeal.Frame
public import Idealize.ShloMosaic.Lib.VecWindow
public import Idealize.ShloMosaic.Lib.Pipeline.ValueKit

@[expose] public section

set_option maxRecDepth 16384

noncomputable section

namespace Cert.KernelIdeal.Fox

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

local notation "𝕄" => MT nD τ sig Unit (Elt Ideal) ℕ (UR sig nD τ) ℕ

variable (m : (ℓ : Loc nD τ sig) → Buf (Elt Ideal) ℓ) (ρ : Dev nD → PrngReg)

/-- Each window's current staging memref at point `t`, spelled as the pipeline passes it (`bodyAt0`), and its wholeness. -/
abbrev ms0_0 (t : Fin cfg0.N) : Memref sig .tc .vmem S2x8192x128 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8192x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2x512x128 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x128 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x16x2x512 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x16x2x512 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S8192x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S512x128 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S512x128 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x16x2x512 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x512x2 .f32 := win0_10.stage (cfg0.slots t 10)
abbrev hs0_10 (t : Fin cfg0.N) : (ms0_10 t).IsWhole := hstage0_10 ((cfg0.slots t 10).cast nbuf0_10)
/-- The scratch operands: whole scoped buffers of the kernel's own, passed beside the windows. -/
abbrev scM0_0 : Memref sig .tc .vmem S2x512x128 .bf16 := Memref.whole cc0_scratch0
abbrev scM0_1 : Memref sig .tc .vmem S2x512x128 .bf16 := Memref.whole cc0_scratch1
abbrev scM0_2 : Memref sig .tc .vmem S512x128 .f32 := Memref.whole cc0_scratch2
abbrev scM0_3 : Memref sig .tc .vmem S512x128 .f32 := Memref.whole cc0_scratch3
abbrev scM0_4 : Memref sig .tc .vmem S2x512x1 .f32 := Memref.whole cc0_scratch4

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) := by
  unfold Pipeline.ΦA; rw [scopedRest0_eq]; simp only [scM0_0, scM0_1, scM0_2, scM0_3, scM0_4, owns_whole]; try rfl

/-! ## What the body leaves, point by point -/

/-- The `n`-th grid point. -/
def pt (n : ℕ) : Fin cfg0.N := ⟨n % 64, lt_of_lt_of_eq (Nat.mod_lt _ (by decide)) N_0.symm⟩

theorem pt_val (t : Fin cfg0.N) : pt t.val = t := Fin.ext (Nat.mod_eq_of_lt (lt_of_lt_of_eq t.isLt N_0))

/-- The gradient of a pair's queries, before its last scaling, after point `n`: each point adds its key block's part. -/
def sumDq (c : Dev nD) : ℕ → FVec Ideal S8192x128 .f32
  | 0 => addDq 0 (fun _ => 0) (iblk m c 0 (pt 0)) (iblk m c 1 (pt 0)) (iblk m c 2 (pt 0)) (iblk m c 3 (pt 0)) (iblk m c 4 (pt 0)) (iblk m c 5 (pt 0))
  | n + 1 => addDq ((n + 1) % 16) (if (n + 1) % 16 = 0 then fun _ => 0 else sumDq c n) (iblk m c 0 (pt (n + 1))) (iblk m c 1 (pt (n + 1))) (iblk m c 2 (pt (n + 1))) (iblk m c 3 (pt (n + 1))) (iblk m c 4 (pt (n + 1))) (iblk m c 5 (pt (n + 1)))

/-- The gradient of a pair's queries' running log gates after point `n`. -/
def sumDfq (c : Dev nD) : ℕ → FVec Ideal S1x16x2x512 .f32
  | 0 => addDfq 0 (fun _ => 0) (iblk m c 0 (pt 0)) (iblk m c 1 (pt 0)) (iblk m c 2 (pt 0)) (iblk m c 3 (pt 0)) (iblk m c 4 (pt 0)) (iblk m c 5 (pt 0))
  | n + 1 => addDfq ((n + 1) % 16) (if (n + 1) % 16 = 0 then fun _ => 0 else sumDfq c n) (iblk m c 0 (pt (n + 1))) (iblk m c 1 (pt (n + 1))) (iblk m c 2 (pt (n + 1))) (iblk m c 3 (pt (n + 1))) (iblk m c 4 (pt (n + 1))) (iblk m c 5 (pt (n + 1)))

theorem sumDq_first (c : Dev nD) (t : Fin cfg0.N) (h : t.val % 16 = 0) : sumDq m c t.val = addDq (t.val % 16) (fun _ => 0) (iblk m c 0 t) (iblk m c 1 t) (iblk m c 2 t) (iblk m c 3 t) (iblk m c 4 t) (iblk m c 5 t) := by
  have e := pt_val t
  generalize ht : t.val = n at *
  subst e
  cases n with
  | zero => rfl
  | succ n => rw [sumDq, if_pos h]

theorem sumDq_next (c : Dev nD) (t : Fin cfg0.N) (h : ¬t.val % 16 = 0) : sumDq m c t.val = addDq (t.val % 16) (sumDq m c (t.val - 1)) (iblk m c 0 t) (iblk m c 1 t) (iblk m c 2 t) (iblk m c 3 t) (iblk m c 4 t) (iblk m c 5 t) := by
  have e := pt_val t
  generalize ht : t.val = n at *
  subst e
  cases n with
  | zero => exact absurd rfl h
  | succ n => rw [sumDq, if_neg h]; rfl

theorem sumDfq_first (c : Dev nD) (t : Fin cfg0.N) (h : t.val % 16 = 0) : sumDfq m c t.val = addDfq (t.val % 16) (fun _ => 0) (iblk m c 0 t) (iblk m c 1 t) (iblk m c 2 t) (iblk m c 3 t) (iblk m c 4 t) (iblk m c 5 t) := by
  have e := pt_val t
  generalize ht : t.val = n at *
  subst e
  cases n with
  | zero => rfl
  | succ n => rw [sumDfq, if_pos h]

theorem sumDfq_next (c : Dev nD) (t : Fin cfg0.N) (h : ¬t.val % 16 = 0) : sumDfq m c t.val = addDfq (t.val % 16) (sumDfq m c (t.val - 1)) (iblk m c 0 t) (iblk m c 1 t) (iblk m c 2 t) (iblk m c 3 t) (iblk m c 4 t) (iblk m c 5 t) := by
  have e := pt_val t
  generalize ht : t.val = n at *
  subst e
  cases n with
  | zero => exact absurd rfl h
  | succ n => rw [sumDfq, if_neg h]; rfl

/-- The gradient of a pair's queries after point `t`: at the pair's last point it is scaled. -/
def leftDq (c : Dev nD) (t : Fin cfg0.N) : FVec Ideal S8192x128 .f32 :=
  if t.val % 16 = 15 then fun y => sumDq m c t.val y * ((1 / 8 : ℝ) : EReal) else sumDq m c t.val

/-- The pipeline's proof data: each input's buffer at its block, each output's at what the body leaves there. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => leftDq m c t
    | ⟨7, _⟩ => outDk (t.val % 16) (iblk m c 0 t) (iblk m c 1 t) (iblk m c 2 t) (iblk m c 3 t) (iblk m c 4 t) (iblk m c 5 t)
    | ⟨8, _⟩ => outDv (t.val % 16) (iblk m c 0 t) (iblk m c 1 t) (iblk m c 2 t) (iblk m c 4 t)
    | ⟨9, _⟩ => sumDfq m c t.val
    | ⟨10, _⟩ => outDfk (t.val % 16) (iblk m c 0 t) (iblk m c 1 t) (iblk m c 2 t) (iblk m c 3 t) (iblk m c 4 t) (iblk m c 5 t)
  Φ _ := Pipeline.ΦA spec0 c
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = leftDq m c t := by dsimp only [dats]
theorem after0_7 (c : Dev nD) (t : Fin cfg0.N) : (dats m 0 c).after 7 t = outDk (t.val % 16) (iblk m c 0 t) (iblk m c 1 t) (iblk m c 2 t) (iblk m c 3 t) (iblk m c 4 t) (iblk m c 5 t) := by dsimp only [dats]
theorem after0_8 (c : Dev nD) (t : Fin cfg0.N) : (dats m 0 c).after 8 t = outDv (t.val % 16) (iblk m c 0 t) (iblk m c 1 t) (iblk m c 2 t) (iblk m c 4 t) := by dsimp only [dats]
theorem after0_9 (c : Dev nD) (t : Fin cfg0.N) : (dats m 0 c).after 9 t = sumDfq m c t.val := by dsimp only [dats]
theorem after0_10 (c : Dev nD) (t : Fin cfg0.N) : (dats m 0 c).after 10 t = outDfk (t.val % 16) (iblk m c 0 t) (iblk m c 1 t) (iblk m c 2 t) (iblk m c 3 t) (iblk m c 4 t) (iblk m c 5 t) := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- Output 6's buffer, at a point that is not its pair's first, holds what the point before left. -/
theorem before0_6 (c : Dev nD) (t : Fin cfg0.N) (h : ¬t.val % 16 = 0) (d) : (dats m 0 c).before 6 t d = sumDq m c (t.val - 1) := by
  have ht : t.val ≠ 0 := fun e => h (by rw [e])
  have hN : t.val < 64 := lt_of_lt_of_eq t.isLt N_0
  have h15 : ¬(t.val - 1) % 16 = 15 := by omega
  have hfl : (cfg0.win 6).flush ⟨t.val - 1, Nat.lt_of_le_of_lt (Nat.sub_le _ _) t.isLt⟩ = false := by
    rw [← Bool.not_eq_true]
    exact fun e => h15 ((flush0_6 _).mp e)
  rw [(dats m 0 c).before_out_kept 6 rfl t ht hfl (fun _ => rfl) (fun _ _ => rfl) d, after0_6]
  exact if_neg h15

/-- Output 9's buffer, at a point that is not its pair's first, holds what the point before left. -/
theorem before0_9 (c : Dev nD) (t : Fin cfg0.N) (h : ¬t.val % 16 = 0) (d) : (dats m 0 c).before 9 t d = sumDfq m c (t.val - 1) := by
  have ht : t.val ≠ 0 := fun e => h (by rw [e])
  have hN : t.val < 64 := lt_of_lt_of_eq t.isLt N_0
  have h15 : ¬(t.val - 1) % 16 = 15 := by omega
  have hfl : (cfg0.win 9).flush ⟨t.val - 1, Nat.lt_of_le_of_lt (Nat.sub_le _ _) t.isLt⟩ = false := by
    rw [← Bool.not_eq_true]
    exact fun e => h15 ((flush0_9 _).mp e)
  rw [(dats m 0 c).before_out_kept 9 rfl t ht hfl (fun _ => rfl) (fun _ _ => rfl) d, after0_9]

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t))

set_option maxHeartbeats 4800000 in
/-- The body at any point: the inputs' memrefs hold their blocks (`before0_W`); the closed forms say which case the point is in (`by_cases`), an output the case reads before covering holds what the point before left (`before0_W_κ`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10]
  rw [show (dats m 0 c).Φ t.castSucc = Pipeline.ΦA spec0 c from rfl, PhiA0_eq]
  have hN : t.val < 64 := lt_of_lt_of_eq t.isLt (show cfg0.N = 64 from N_0)
  have hk := key_coord t
  by_cases h0 : t.val % 16 = 0
  · by_cases h1 : t.val % 16 = 15
    · exfalso; omega
    · rw [sumDfq_first m c t h0, show leftDq m c t = sumDq m c t.val from if_neg h1, sumDq_first m c t h0, ← hk]
      iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((runA c (grid0.coords t) _ _ _ _ _ _ _ _ _ _ _ _ _ _ _ _ _ _ _ _ _ _ _ _ _ _ _ _ _ _ _ _ ((first_iff t).mpr h0) (fun h => h1 ((last_iff t).mp h)) (iblk m c 0 t) (iblk m c 1 t) (iblk m c 2 t) (iblk m c 3 t) (iblk m c 4 t) (iblk m c 5 t) (fun _ => 0) (fun _ => 0)) Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [H8]; · iexists _; iexact H8
      isplitl [H9]; · iexists _; iexact H9
      isplitl [H10]; · iexists _; iexact H10
      isplitl [HS0]; · iexact HS0
      isplitl [HS1]; · iexact HS1
      isplitl [HS2]; · iexact HS2
      isplitl [HS3]; · iexact HS3
      isplitl [HS4]; · iexact HS4
      iintro ⟨H0, H1, H2, H3, H4, H5, H6, H7, H8, H9, H10, HS0, HS1, HS2, HS3, HS4⟩
      isplitl [HS0 HS1 HS2 HS3 HS4 Hg]
      · isplitl [HS0 HS1 HS2 HS3 HS4]
        · isplitl [HS0]
          · iexact HS0
          isplitl [HS1]
          · iexact HS1
          isplitl [HS2]
          · iexact HS2
          isplitl [HS3]
          · iexact HS3
          iexact HS4
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexact H10
  · by_cases h1 : t.val % 16 = 15
    · simp only [before0_6 m c t h0, before0_9 m c t h0]
      rw [sumDfq_next m c t h0, show leftDq m c t = (fun y => sumDq m c t.val y * ((1 / 8 : ℝ) : EReal)) from if_pos h1, sumDq_next m c t h0, ← hk]
      iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((runC c (grid0.coords t) _ _ _ _ _ _ _ _ _ _ _ _ _ _ _ _ _ _ _ _ _ _ _ _ _ _ _ _ _ _ _ _ (fun h => h0 ((first_iff t).mp h)) ((last_iff t).mpr h1) (iblk m c 0 t) (iblk m c 1 t) (iblk m c 2 t) (iblk m c 3 t) (iblk m c 4 t) (iblk m c 5 t) (sumDq m c (t.val - 1)) (sumDfq m c (t.val - 1))) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexists _; iexact H8
      isplitl [H9]; · iexact H9
      isplitl [H10]; · iexists _; iexact H10
      isplitl [HS0]; · iexact HS0
      isplitl [HS1]; · iexact HS1
      isplitl [HS2]; · iexact HS2
      isplitl [HS3]; · iexact HS3
      isplitl [HS4]; · iexact HS4
      iintro ⟨H0, H1, H2, H3, H4, H5, H6, H7, H8, H9, H10, HS0, HS1, HS2, HS3, HS4⟩
      isplitl [HS0 HS1 HS2 HS3 HS4 Hg]
      · isplitl [HS0 HS1 HS2 HS3 HS4]
        · isplitl [HS0]
          · iexact HS0
          isplitl [HS1]
          · iexact HS1
          isplitl [HS2]
          · iexact HS2
          isplitl [HS3]
          · iexact HS3
          iexact HS4
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexact H10
    · simp only [before0_6 m c t h0, before0_9 m c t h0]
      rw [sumDfq_next m c t h0, show leftDq m c t = sumDq m c t.val from if_neg h1, sumDq_next m c t h0, ← hk]
      iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((runB c (grid0.coords t) _ _ _ _ _ _ _ _ _ _ _ _ _ _ _ _ _ _ _ _ _ _ _ _ _ _ _ _ _ _ _ _ (fun h => h0 ((first_iff t).mp h)) (fun h => h1 ((last_iff t).mp h)) (iblk m c 0 t) (iblk m c 1 t) (iblk m c 2 t) (iblk m c 3 t) (iblk m c 4 t) (iblk m c 5 t) (sumDq m c (t.val - 1)) (sumDfq m c (t.val - 1))) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexists _; iexact H8
      isplitl [H9]; · iexact H9
      isplitl [H10]; · iexists _; iexact H10
      isplitl [HS0]; · iexact HS0
      isplitl [HS1]; · iexact HS1
      isplitl [HS2]; · iexact HS2
      isplitl [HS3]; · iexact HS3
      isplitl [HS4]; · iexact HS4
      iintro ⟨H0, H1, H2, H3, H4, H5, H6, H7, H8, H9, H10, HS0, HS1, HS2, HS3, HS4⟩
      isplitl [HS0 HS1 HS2 HS3 HS4 Hg]
      · isplitl [HS0 HS1 HS2 HS3 HS4]
        · isplitl [HS0]
          · iexact HS0
          isplitl [HS1]
          · iexact HS1
          isplitl [HS2]
          · iexact HS2
          isplitl [HS3]
          · iexact HS3
          iexact HS4
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexact H10

/-- The body table's row at point `t`'s slots is the body as `bodyAt0` spells it. -/
theorem defs₀_row (t : Fin cfg0.N) :
    defs₀ (F := Ideal) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

set_option backward.isDefEq.respectTransparency.types false in
/-- The launch: every execution terminates, each window's array holding what `dats` says, with every semaphore at zero. -/
theorem run_main : θ_run defs (onTc (τ := τ) (main (F := Ideal))) (s₀ m ρ) (fun r => Pipeline.FramePost cfgs (dats m) 0 (V m) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

end Cert.KernelIdeal.Fox
end
-- ==== Proof.Prep.lean ====
/- What the host prepares for the kernel: the six operands, as functions of the arguments. -/
module

public import proofs.«01_k».proof.Proof.Spec
public import Idealize.ShloMosaic.Lib.Pointwise
public import Idealize.ShloMosaic.Lib.Claim

@[expose] public section

set_option maxRecDepth 16384

noncomputable section

namespace Cert.KernelIdeal.Fox

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

local notation "𝕄" => MT nD τ sig Unit (Elt Ideal) ℕ (UR sig nD τ) ℕ

section defs

/- `s` the masked scores, `y` their largest by rows, `f` the running log gates, `x`, `v`, `g` arguments. -/
variable (s : FVec Ideal S8x8192x8192 .f32) (y f : FVec Ideal S8x8192 .f32) (x v g : FVec Ideal S8192x8x64 .f32)

/-! ## The saved row statistics -/

/-- The largest score of each query, as a column. -/
def hM : FVec Ideal S8x8192x1 .f32 := broadcastInDim S8x8192x1 ![0, 1] bcast_S8x8192_S8x8192x1_0_1 y

/-- The exponentials of the masked scores less the largest one. -/
def hE : FVec Ideal S8x8192x8192 .f32 :=
  Host.exp (subf s (broadcastInDim S8x8192x8192 ![0, 1, 2] bcast_S8x8192x1_S8x8192x8192_0_1_2 (hM y)))

/-- Their sums, as a column. -/
def hL : FVec Ideal S8x8192x1 .f32 :=
  broadcastInDim S8x8192x1 ![0, 1] bcast_S8x8192_S8x8192x1_0_1 (Host.reduceAdd (hE s y) (constant S_ .f32 0x00000000#32) reducesTo_S8x8192x8192_S8x8192_d2 h_S_)

/-- The weights. -/
def hP : FVec Ideal S8x8192x8192 .f32 := Host.divf (hE s y) (broadcastInDim S8x8192x8192 ![0, 1, 2] bcast_S8x8192x1_S8x8192x8192_0_1_2 (hL s y))

/-- The attention's output. -/
def hO : FVec Ideal S8192x8x64 .f32 :=
  transpose S8192x8x64 [2, 0, 1] (Host.dotGeneral dot_S8192x8x64_S8x8192x8192_S8x64x8192_0_2_2_1_1_0 none v (hP s y)) transposes_S8x64x8192_S8192x8x64_2_0_1

/-- The logarithms of the rows' sums of exponentials, by pair of heads and block of queries. -/
def hLse : FVec Ideal S4x16x2x512 .f32 :=
  transpose S4x16x2x512 [0, 2, 1, 3] (shapeCast S4x2x16x512 (addf (hM y) (Host.log (hL s y))) shapeCasts_S8x8192x1_S4x2x16x512) transposes_S4x2x16x512_S4x16x2x512_0_2_1_3

/-- The products of output and cotangent, summed over a head. -/
def hS : FVec Ideal S8192x8 .f32 :=
  Host.reduceAdd (mulf g (hO s y v)) (constant S_ .f32 0x00000000#32) reducesTo_S8192x8x64_S8192x8_d2 h_S_

/-- The same, by pair of heads and block of queries. -/
def hDl : FVec Ideal S4x16x2x512 .f32 :=
  transpose S4x16x2x512 [0, 2, 1, 3]
    (shapeCast S4x2x16x512 (transpose S8x8192 [1, 0] (hS s y v g) transposes_S8192x8_S8x8192_1_0) shapeCasts_S8x8192_S4x2x16x512)
    transposes_S4x2x16x512_S4x16x2x512_0_2_1_3

/-! ## The running log gates in three parts -/

def hF : FVec Ideal S4x2x8192x1 .f32 := shapeCast S4x2x8192x1 f shapeCasts_S8x8192_S4x2x8192x1
def hF0 : FVec Ideal S4x2x8192x1 .bf16 := truncf .bf16 (hF f) bitsLt_bf16_f32
def hR1 : FVec Ideal S4x2x8192x1 .f32 := subf (hF f) (extf .f32 (hF0 f) bitsLt_bf16_f32)
def hF1 : FVec Ideal S4x2x8192x1 .bf16 := truncf .bf16 (hR1 f) bitsLt_bf16_f32
def hF2 : FVec Ideal S4x2x8192x1 .bf16 := truncf .bf16 (subf (hR1 f) (extf .f32 (hF1 f) bitsLt_bf16_f32)) bitsLt_bf16_f32

/-! ## Lanes -/

def hNum (n : BitVec 32) : IVec S1x2x1x128 32 := broadcastInDim S1x2x1x128 ![] bcast_S_S1x2x1x128 (constantI S_ 32 n)
def hLane : IVec S1x2x1x128 32 := iotaInDim S1x2x1x128 32 3
def hHead : IVec S1x2x1x128 32 := iotaInDim S1x2x1x128 32 1
/-- The lanes a head's own entries stand in. -/
def hOwn : IVec S1x2x1x128 1 := cmpi .eq (cmpi .sge hLane (hNum 64#32)) (cmpi .eq hHead (hNum 1#32))
/-- A lane's place among the other head's. -/
def hRel : IVec S1x2x1x128 32 := select (cmpi .eq hHead (hNum 0#32)) (subi hLane (hNum 64#32)) hLane
def hAt (n : BitVec 32) : IVec S1x2x1x128 1 := cmpi .eq hRel (hNum n)
/-- `x` in the lanes that `i` marks, else `y`. -/
def hPut (i : IVec S1x2x1x128 1) (x y : FVec Ideal S4x2x8192x128 .bf16) : FVec Ideal S4x2x8192x128 .bf16 :=
  select (broadcastInDim S4x2x8192x128 ![0, 1, 2, 3] bcast_S1x2x1x128_S4x2x8192x128_0_1_2_3 i) x y
def hCol (x : FVec Ideal S4x2x8192x1 .bf16) : FVec Ideal S4x2x8192x128 .bf16 :=
  broadcastInDim S4x2x8192x128 ![0, 1, 2, 3] bcast_S4x2x8192x1_S4x2x8192x128_0_1_2_3 x
def hOne : FVec Ideal S4x2x8192x128 .bf16 := broadcastInDim S4x2x8192x128 ![] bcast_S_S4x2x8192x128 (constant S_ .bf16 0x3F80#16)
def hZero : FVec Ideal S4x2x8192x128 .bf16 := broadcastInDim S4x2x8192x128 ![] bcast_S_S4x2x8192x128 (constant S_ .bf16 0x0000#16)

/-- The queries' lanes that carry the gates: the three parts, then three ones. -/
def hEq : FVec Ideal S4x2x8192x128 .bf16 :=
  hPut (hAt 5#32) hOne (hPut (hAt 2#32) (hCol (hF2 f)) (hPut (hAt 4#32) hOne (hPut (hAt 1#32) (hCol (hF1 f)) (hPut (hAt 3#32) hOne (hPut (hAt 0#32) (hCol (hF0 f)) hZero)))))

/-- The keys' lanes that carry the gates: three ones, then the three parts with the sign changed. -/
def hEk : FVec Ideal S4x2x8192x128 .bf16 :=
  hPut (hAt 5#32) (hCol (Host.negf (hF2 f))) (hPut (hAt 2#32) hOne (hPut (hAt 4#32) (hCol (Host.negf (hF1 f))) (hPut (hAt 1#32) hOne (hPut (hAt 3#32) (hCol (Host.negf (hF0 f))) (hPut (hAt 0#32) hOne hZero)))))

/-! ## The operands -/

/-- The heads' entries by pairs: the two heads of a pair side by side. -/
def hPairs : FVec Ideal S4x2x8192x128 .bf16 :=
  broadcastInDim S4x2x8192x128 ![0, 1, 2, 3] bcast_S4x1x8192x128_S4x2x8192x128_0_1_2_3
    (transpose S4x1x8192x128 [1, 2, 0, 3] (shapeCast S8192x4x1x128 (truncf (F := Ideal) .bf16 x bitsLt_bf16_f32) shapeCasts_S8192x8x64_S8192x4x1x128) transposes_S8192x4x1x128_S4x1x8192x128_1_2_0_3)

/-- The queries, scaled, with the gates in the other head's lanes. -/
def hQh : FVec Ideal S8x8192x128 .bf16 :=
  shapeCast S8x8192x128 (hPut hOwn (hPairs (mulf x (broadcastInDim S8192x8x64 ![] bcast_S_S8192x8x64 (constant S_ .f32 0x3E000000#32)))) (hEq f)) shapeCasts_S4x2x8192x128_S8x8192x128

/-- The keys, with the gates in the other head's lanes. -/
def hKh : FVec Ideal S8x8192x128 .bf16 :=
  shapeCast S8x8192x128 (hPut hOwn (hPairs x) (hEk f)) shapeCasts_S4x2x8192x128_S8x8192x128

/-- The heads side by side. -/
def hFlat : FVec Ideal S8192x512 .bf16 :=
  truncf (F := Ideal) .bf16 (shapeCast S8192x512 x shapeCasts_S8192x8x64_S8192x512) bitsLt_bf16_f32

end defs

end Cert.KernelIdeal.Fox

end
-- ==== Proof.PrepV.lean ====
/- What stands in the arrays of the six operands when the kernel starts. -/
module

public import proofs.«01_k».proof.Proof.FrameV
public import proofs.«01_k».proof.Proof.Prep
public import proofs.«01_k».proof.Proof.Gen.ReferenceIdeal.Read
public import Idealize.ShloMosaic.Lib.StableHlo.RunRead

@[expose] public section

set_option maxRecDepth 16384

noncomputable section

namespace Cert.KernelIdeal.Fox

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

local notation "𝕄" => MT nD τ sig Unit (Elt Ideal) ℕ (UR sig nD τ) ℕ

/-! ## What stands in the operands' arrays -/

open Cert.ReferenceIdeal.Read (val_main_v1 val_main_v17_0 val_main_v18)

variable (m : (ℓ : Loc nD τ sig) → Buf (Elt Ideal) ℓ)

theorem V_108 (c : Dev nD) : V m c main_v108 = hQh (val_main_v1 (F := Ideal) (m ((c.tc : Thread nD τ).loc main_arg3))) (m ((c.tc : Thread nD τ).loc main_arg0)) := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, List.flatten_cons, List.flatten_nil, List.append_nil, List.cons_append, List.nil_append]
  after_reads_simp
  rfl

theorem V_115 (c : Dev nD) : V m c main_v115 = hFlat (m ((c.tc : Thread nD τ).loc main_arg4)) := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, List.flatten_cons, List.flatten_nil, List.append_nil, List.cons_append, List.nil_append]
  after_reads_simp
  rfl

theorem V_113 (c : Dev nD) : V m c main_v113 = hKh (val_main_v1 (F := Ideal) (m ((c.tc : Thread nD τ).loc main_arg3))) (m ((c.tc : Thread nD τ).loc main_arg1)) := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, List.flatten_cons, List.flatten_nil, List.append_nil, List.cons_append, List.nil_append]
  after_reads_simp
  rfl

theorem V_117 (c : Dev nD) : V m c main_v117 = hFlat (m ((c.tc : Thread nD τ).loc main_arg2)) := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, List.flatten_cons, List.flatten_nil, List.append_nil, List.cons_append, List.nil_append]
  after_reads_simp
  rfl

theorem V_32 (c : Dev nD) : V m c main_v32 = hLse (val_main_v17_0 (F := Ideal) (m ((c.tc : Thread nD τ).loc main_arg0)) (m ((c.tc : Thread nD τ).loc main_arg1)) (m ((c.tc : Thread nD τ).loc main_arg3))) (val_main_v18 (F := Ideal) (m ((c.tc : Thread nD τ).loc main_arg0)) (m ((c.tc : Thread nD τ).loc main_arg1)) (m ((c.tc : Thread nD τ).loc main_arg3))) := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, List.flatten_cons, List.flatten_nil, List.append_nil, List.cons_append, List.nil_append]
  after_reads_simp
  rfl

theorem V_37 (c : Dev nD) : V m c main_v37 = hDl (val_main_v17_0 (F := Ideal) (m ((c.tc : Thread nD τ).loc main_arg0)) (m ((c.tc : Thread nD τ).loc main_arg1)) (m ((c.tc : Thread nD τ).loc main_arg3))) (val_main_v18 (F := Ideal) (m ((c.tc : Thread nD τ).loc main_arg0)) (m ((c.tc : Thread nD τ).loc main_arg1)) (m ((c.tc : Thread nD τ).loc main_arg3))) (m ((c.tc : Thread nD τ).loc main_arg2)) (m ((c.tc : Thread nD τ).loc main_arg4)) := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, List.flatten_cons, List.flatten_nil, List.append_nil, List.cons_append, List.nil_append]
  after_reads_simp
  rfl

end Cert.KernelIdeal.Fox

end
-- ==== Proof.PrepR.lean ====
/- The six operands, at an index, as reals. -/
module

public import proofs.«01_k».proof.Proof.Prep
public import proofs.«01_k».proof.Proof.Ref

@[expose] public section

set_option maxRecDepth 16384

noncomputable section

namespace Cert.KernelIdeal.Fox

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

local notation "𝕄" => MT nD τ sig Unit (Elt Ideal) ℕ (UR sig nD τ) ℕ

open Cert.ReferenceIdeal.Fox (eighth exp_masked)
open Cert.Fox (Inputs coe_sum div_real log_real)

/-! ## Lanes -/

/-- A head's place in its pair. -/
def par (hd : Fin 8) : Fin 2 := ⟨hd.val % 2, by omega⟩

/-- A lane's place among the 64 of its half. -/
def lane (l : Fin 128) : Fin 64 := ⟨l.val % 64, by omega⟩

/-- What the queries carry of the running gate `F` in place `e` of the other head's lanes. -/
def gateQ (F : ℝ) (e : Fin 64) : ℝ := if e.val = 0 then F else if e.val = 3 ∨ e.val = 4 ∨ e.val = 5 then 1 else 0

/-- What the keys carry of it. -/
def gateK (F : ℝ) (e : Fin 64) : ℝ := if e.val = 0 ∨ e.val = 1 ∨ e.val = 2 then 1 else if e.val = 3 then -F else 0

/-- The gates' lanes of a query and a key multiply to the difference of the two running gates. -/
theorem gate_sum (F G : ℝ) : ∑ e : Fin 64, gateK G e * gateQ F e = F - G := by
  have h := Fin.sum_univ_add (fun e : Fin (6 + 58) => gateK G e * gateQ F e)
  have h0 : ∀ i : Fin 58, gateK G (Fin.natAdd 6 i) * gateQ F (Fin.natAdd 6 i) = 0 := by
    intro i
    have h1 : gateK G (Fin.natAdd 6 i) = 0 := by
      unfold gateK
      rw [if_neg (by simp; omega), if_neg (by simp; omega)]
    rw [h1, zero_mul]
  refine h.trans ?_
  rw [Finset.sum_eq_zero (fun i _ => h0 i)]
  simp [Fin.sum_univ_succ, gateK, gateQ]
  ring

theorem sel_one {α : Type} (p : Prop) [Decidable p] (a b : α) : Scalar.select (if p then 1#1 else 0#1) a b = if p then a else b := by split_ifs <;> rfl

theorem own_at : ∀ (h : Fin 2) (l : Fin 128), hOwn (ix4 0 h 0 l) = if own h l then 1#1 else 0#1 := by
  intro h l
  pointwise [hOwn, hLane, hHead, hNum]
  revert h l
  decide +kernel

theorem at_0 : ∀ (h : Fin 2) (l : Fin 128), ¬ own h l → hAt 0#32 (ix4 0 h 0 l) = if (lane l).val = 0 then 1#1 else 0#1 := by
  intro h l
  pointwise [hAt, hRel, hLane, hHead, hNum]
  revert h l
  decide +kernel

theorem at_1 : ∀ (h : Fin 2) (l : Fin 128), ¬ own h l → hAt 1#32 (ix4 0 h 0 l) = if (lane l).val = 1 then 1#1 else 0#1 := by
  intro h l
  pointwise [hAt, hRel, hLane, hHead, hNum]
  revert h l
  decide +kernel

theorem at_2 : ∀ (h : Fin 2) (l : Fin 128), ¬ own h l → hAt 2#32 (ix4 0 h 0 l) = if (lane l).val = 2 then 1#1 else 0#1 := by
  intro h l
  pointwise [hAt, hRel, hLane, hHead, hNum]
  revert h l
  decide +kernel

theorem at_3 : ∀ (h : Fin 2) (l : Fin 128), ¬ own h l → hAt 3#32 (ix4 0 h 0 l) = if (lane l).val = 3 then 1#1 else 0#1 := by
  intro h l
  pointwise [hAt, hRel, hLane, hHead, hNum]
  revert h l
  decide +kernel

theorem at_4 : ∀ (h : Fin 2) (l : Fin 128), ¬ own h l → hAt 4#32 (ix4 0 h 0 l) = if (lane l).val = 4 then 1#1 else 0#1 := by
  intro h l
  pointwise [hAt, hRel, hLane, hHead, hNum]
  revert h l
  decide +kernel

theorem at_5 : ∀ (h : Fin 2) (l : Fin 128), ¬ own h l → hAt 5#32 (ix4 0 h 0 l) = if (lane l).val = 5 then 1#1 else 0#1 := by
  intro h l
  pointwise [hAt, hRel, hLane, hHead, hNum]
  revert h l
  decide +kernel

theorem own_head {hd : Fin 8} {l : Fin 128} (ho : own (par hd) l) (h : hd.val / 2 * 2 + l.val / 64 < 8) : (⟨hd.val / 2 * 2 + l.val / 64, h⟩ : Fin 8) = hd := by
  unfold own par at ho
  apply Fin.ext
  simp only at ho ⊢
  omega

section reads

variable {s : FVec Ideal S8x8192x8192 .f32} {y f : FVec Ideal S8x8192 .f32} {x v g : FVec Ideal S8192x8x64 .f32}

/-! ## Queries and keys -/

theorem hQh_read (hd : Fin 8) (r : Fin 8192) (l : Fin 128) : hQh f x (ix3 hd r l) =
    Scalar.select (hOwn (ix4 0 (par hd) 0 l))
      (x (ix3 r ⟨hd.val / 2 * 2 + l.val / 64, by omega⟩ (lane l)) * Ideal.ofBits FTy.f32 1040187392#32)
      (Scalar.select (hAt (5#32) (ix4 0 (par hd) 0 l)) 1
        (Scalar.select (hAt (2#32) (ix4 0 (par hd) 0 l)) (f (ix2 hd r) - f (ix2 hd r) - (f (ix2 hd r) - f (ix2 hd r)))
          (Scalar.select (hAt (4#32) (ix4 0 (par hd) 0 l)) 1
            (Scalar.select (hAt (1#32) (ix4 0 (par hd) 0 l)) (f (ix2 hd r) - f (ix2 hd r))
              (Scalar.select (hAt (3#32) (ix4 0 (par hd) 0 l)) 1
                (Scalar.select (hAt (0#32) (ix4 0 (par hd) 0 l)) (f (ix2 hd r)) 0)))))) := by
  pointwise [hQh, hPut, hPairs, hEq, hCol, hOne, hZero, hF0, hF1, hF2, hR1, hF]
  rfl

theorem hKh_read (hd : Fin 8) (r : Fin 8192) (l : Fin 128) : hKh f x (ix3 hd r l) =
    Scalar.select (hOwn (ix4 0 (par hd) 0 l))
      (x (ix3 r ⟨hd.val / 2 * 2 + l.val / 64, by omega⟩ (lane l)))
      (Scalar.select (hAt (5#32) (ix4 0 (par hd) 0 l)) (-(f (ix2 hd r) - f (ix2 hd r) - (f (ix2 hd r) - f (ix2 hd r))))
        (Scalar.select (hAt (2#32) (ix4 0 (par hd) 0 l)) 1
          (Scalar.select (hAt (4#32) (ix4 0 (par hd) 0 l)) (-(f (ix2 hd r) - f (ix2 hd r)))
            (Scalar.select (hAt (1#32) (ix4 0 (par hd) 0 l)) 1
              (Scalar.select (hAt (3#32) (ix4 0 (par hd) 0 l)) (-f (ix2 hd r))
                (Scalar.select (hAt (0#32) (ix4 0 (par hd) 0 l)) 1 0)))))) := by
  pointwise [hKh, hPut, hPairs, hEk, hCol, hOne, hZero, hF0, hF1, hF2, hR1, hF]
  rfl

variable {xr vr gr : Fin 8192 → Fin 8 → Fin 64 → ℝ} {fr : Fin 8 → Fin 8192 → ℝ}

/-- The queries: in its own lanes a head's scaled entries, in the others the gates. -/
theorem hQh_at (hx : ∀ r h d, x (ix3 r h d) = ((xr r h d : ℝ) : EReal)) (hf : ∀ h r, f (ix2 h r) = ((fr h r : ℝ) : EReal))
    (hd : Fin 8) (r : Fin 8192) (l : Fin 128) :
    hQh f x (ix3 hd r l) = ((if own (par hd) l then xr r hd (lane l) * (1 / 8) else gateQ (fr hd r) (lane l) : ℝ) : EReal) := by
  rw [hQh_read, own_at, sel_one]
  by_cases ho : own (par hd) l
  · rw [if_pos ho, if_pos ho, own_head ho, hx, eighth, ← EReal.coe_mul]
  · rw [if_neg ho, if_neg ho, at_0 _ _ ho, at_1 _ _ ho, at_2 _ _ ho, at_3 _ _ ho, at_4 _ _ ho, at_5 _ _ ho]
    simp only [sel_one, hf, ← EReal.coe_sub, sub_self, ← EReal.coe_one, ← EReal.coe_zero]
    unfold gateQ
    split_ifs <;> first | rfl | omega

/-- The keys: in its own lanes a head's entries, in the others the gates. -/
theorem hKh_at (hx : ∀ r h d, x (ix3 r h d) = ((xr r h d : ℝ) : EReal)) (hf : ∀ h r, f (ix2 h r) = ((fr h r : ℝ) : EReal))
    (hd : Fin 8) (r : Fin 8192) (l : Fin 128) :
    hKh f x (ix3 hd r l) = ((if own (par hd) l then xr r hd (lane l) else gateK (fr hd r) (lane l) : ℝ) : EReal) := by
  rw [hKh_read, own_at, sel_one]
  by_cases ho : own (par hd) l
  · rw [if_pos ho, if_pos ho, own_head ho, hx]
  · rw [if_neg ho, if_neg ho, at_0 _ _ ho, at_1 _ _ ho, at_2 _ _ ho, at_3 _ _ ho, at_4 _ _ ho, at_5 _ _ ho]
    simp only [sel_one, hf, ← EReal.coe_sub, sub_self, ← EReal.coe_one, ← EReal.coe_zero, ← EReal.coe_neg, neg_zero]
    unfold gateK
    split_ifs <;> first | rfl | omega

/-! ## Values and cotangents -/

theorem hFlat_at (hx : ∀ r h d, x (ix3 r h d) = ((xr r h d : ℝ) : EReal)) (r : Fin 8192) (j : Fin 512) :
    hFlat x (ix2 r j) = ((xr r ⟨j.val / 64, by omega⟩ ⟨j.val % 64, by omega⟩ : ℝ) : EReal) := by
  pointwise [hFlat]
  exact hx _ _ _

/-! ## The row statistics -/

theorem hM_read (h : Fin 8) (r : Fin 8192) : hM y (ix3 h r 0) = y (ix2 h r) := by
  pointwise [hM]

theorem hE_read (h : Fin 8) (r c : Fin 8192) : hE s y (ix3 h r c) = Ideal.exp (s (ix3 h r c) - y (ix2 h r)) := by
  pointwise [hE, hM]

theorem hL_read (h : Fin 8) (r : Fin 8192) : hL s y (ix3 h r 0) = ∑ c : Fin 8192, hE s y (ix3 h r c) := by
  pointwise [hL]

theorem hP_read (h : Fin 8) (r c : Fin 8192) : hP s y (ix3 h r c) = Ideal.div (hE s y (ix3 h r c)) (hL s y (ix3 h r 0)) := by
  pointwise [hP]

theorem hO_read (h : Fin 8) (r : Fin 8192) (d : Fin 64) : hO s y v (ix3 r h d) = ∑ c : Fin 8192, v (ix3 c h d) * hP s y (ix3 h r c) := by
  pointwise [hO]

theorem hS_read (h : Fin 8) (r : Fin 8192) : hS s y v g (ix2 r h) = ∑ d : Fin 64, g (ix3 r h d) * hO s y v (ix3 r h d) := by
  pointwise [hS]

theorem hLse_read (p : Fin 4) (b : Fin 16) (h : Fin 2) (cc : Fin 512) :
    hLse s y (ix4 p b h cc) = hM y (ix3 ⟨p.val * 2 + h.val, by omega⟩ ⟨b.val * 512 + cc.val, by omega⟩ 0)
      + Ideal.log (hL s y (ix3 ⟨p.val * 2 + h.val, by omega⟩ ⟨b.val * 512 + cc.val, by omega⟩ 0)) := by
  pointwise [hLse]

theorem hDl_read (p : Fin 4) (b : Fin 16) (h : Fin 2) (cc : Fin 512) :
    hDl s y v g (ix4 p b h cc) = hS s y v g (ix2 ⟨b.val * 512 + cc.val, by omega⟩ ⟨p.val * 2 + h.val, by omega⟩) := by
  pointwise [hDl]

variable {D : Inputs}

theorem hE_at (hs : ∀ h r c, s (ix3 h r c) = if c ≤ r then ((D.sc h r c : ℝ) : EReal) else ⊥) (hy : ∀ h r, y (ix2 h r) = ((D.M h r : ℝ) : EReal))
    (h : Fin 8) (r c : Fin 8192) : hE s y (ix3 h r c) = ((D.ex h r c : ℝ) : EReal) := by
  rw [hE_read, hs, hy]
  exact exp_masked _ _ _

theorem hL_at (hs : ∀ h r c, s (ix3 h r c) = if c ≤ r then ((D.sc h r c : ℝ) : EReal) else ⊥) (hy : ∀ h r, y (ix2 h r) = ((D.M h r : ℝ) : EReal))
    (h : Fin 8) (r : Fin 8192) : hL s y (ix3 h r 0) = ((D.L h r : ℝ) : EReal) := by
  rw [hL_read, Finset.sum_congr rfl (fun c _ => hE_at hs hy h r c), coe_sum]
  rfl

/-- The logarithm of a row's sum of exponentials. -/
theorem hLse_at (hs : ∀ h r c, s (ix3 h r c) = if c ≤ r then ((D.sc h r c : ℝ) : EReal) else ⊥) (hy : ∀ h r, y (ix2 h r) = ((D.M h r : ℝ) : EReal))
    (p : Fin 4) (b : Fin 16) (h : Fin 2) (cc : Fin 512) :
    hLse s y (ix4 p b h cc) = ((D.lse ⟨p.val * 2 + h.val, by omega⟩ ⟨b.val * 512 + cc.val, by omega⟩ : ℝ) : EReal) := by
  rw [hLse_read, hM_read, hy, hL_at hs hy, log_real (D.L_pos _ _), ← EReal.coe_add]
  rfl

theorem hP_at (hs : ∀ h r c, s (ix3 h r c) = if c ≤ r then ((D.sc h r c : ℝ) : EReal) else ⊥) (hy : ∀ h r, y (ix2 h r) = ((D.M h r : ℝ) : EReal))
    (h : Fin 8) (r c : Fin 8192) : hP s y (ix3 h r c) = ((D.pr h r c : ℝ) : EReal) := by
  rw [hP_read, hE_at hs hy, hL_at hs hy, div_real (D.L_pos _ _).ne']
  rfl

/-- The mean of the weights' gradients. -/
theorem hDl_at (hs : ∀ h r c, s (ix3 h r c) = if c ≤ r then ((D.sc h r c : ℝ) : EReal) else ⊥) (hy : ∀ h r, y (ix2 h r) = ((D.M h r : ℝ) : EReal))
    (hv : ∀ r h d, v (ix3 r h d) = ((D.v r h d : ℝ) : EReal)) (hg : ∀ r h d, g (ix3 r h d) = ((D.g r h d : ℝ) : EReal))
    (p : Fin 4) (b : Fin 16) (h : Fin 2) (cc : Fin 512) :
    hDl s y v g (ix4 p b h cc) = ((D.dl ⟨p.val * 2 + h.val, by omega⟩ ⟨b.val * 512 + cc.val, by omega⟩ : ℝ) : EReal) := by
  rw [hDl_read, hS_read]
  simp only [hO_read, hP_at hs hy, hv, hg, ← EReal.coe_mul, coe_sum]
  rw [D.dl_eq]

end reads

end Cert.KernelIdeal.Fox

end
-- ==== Proof.Step.lean ====
/- One step of the kernel, with real operands: the weights and their gradients are those of the attention. -/
module

public import proofs.«01_k».proof.Proof.PrepR
public import proofs.«01_k».proof.Proof.Model
public import proofs.«01_k».proof.Proof.Body

@[expose] public section

set_option maxRecDepth 16384

noncomputable section

namespace Cert.KernelIdeal.Fox

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

local notation "𝕄" => MT nD τ sig Unit (Elt Ideal) ℕ (UR sig nD τ) ℕ

open Cert.Fox (Inputs coe_sum)

/-- Head `h` of pair `p`. -/
def hp (p : Fin 4) (h : Fin 2) : Fin 8 := ⟨p.val * 2 + h.val, by omega⟩

/-- The head a lane belongs to. -/
def half (l : Fin 128) : Fin 2 := ⟨l.val / 64, by omega⟩

theorem own_iff (h : Fin 2) (l : Fin 128) : own h l ↔ h = half l := by
  unfold own half
  rw [Fin.ext_iff]
  simp only
  omega

theorem par_hp (p : Fin 4) (h : Fin 2) : par (hp p h) = h := by
  unfold par hp
  apply Fin.ext
  simp only
  omega

/-! ## Sums over lanes -/

/-- Lane `e` of head `h`'s half. -/
def mine (h : Fin 2) (e : Fin 64) : Fin 128 := ⟨h.val * 64 + e.val, by omega⟩
/-- Lane `e` of the other half. -/
def other (h : Fin 2) (e : Fin 64) : Fin 128 := ⟨(1 - h.val) * 64 + e.val, by omega⟩

theorem half_mine (h : Fin 2) (e : Fin 64) : half (mine h e) = h := by
  unfold half mine; apply Fin.ext; simp only; omega
theorem half_other (h : Fin 2) (e : Fin 64) : h ≠ half (other h e) := by
  unfold half other; rw [Ne, Fin.ext_iff]; simp only; omega
theorem lane_mine (h : Fin 2) (e : Fin 64) : lane (mine h e) = e := by
  unfold lane mine; apply Fin.ext; simp only; omega
theorem lane_other (h : Fin 2) (e : Fin 64) : lane (other h e) = e := by
  unfold lane other; apply Fin.ext; simp only; omega

/-- A sum over the lanes is one over a head's own half and one over the other. -/
theorem sum_lanes (h : Fin 2) (f : Fin 128 → ℝ) : ∑ l : Fin 128, f l = (∑ e : Fin 64, f (mine h e)) + ∑ e : Fin 64, f (other h e) := by
  have e := Fin.sum_univ_add (fun i : Fin (64 + 64) => f i)
  refine e.trans ?_
  fin_cases h
  · refine congrArg₂ (· + ·) (Finset.sum_congr rfl fun i _ => congrArg f ?_) (Finset.sum_congr rfl fun i _ => congrArg f ?_) <;>
      (apply Fin.ext; simp [mine, other, add_comm])
  · rw [add_comm]
    refine congrArg₂ (· + ·) (Finset.sum_congr rfl fun i _ => congrArg f ?_) (Finset.sum_congr rfl fun i _ => congrArg f ?_) <;>
      (apply Fin.ext; simp [mine, other, add_comm])

/-- Of the two heads only the lane's own counts. -/
theorem sum_own {ι : Type*} [Fintype ι] (l : Fin 128) (a : Fin 2 → ι → ℝ) (x : Fin 2 → ι → ℝ) :
    ∑ h : Fin 2, ∑ i : ι, a h i * (if h = half l then x h i else 0) = ∑ i : ι, a (half l) i * x (half l) i := by
  rw [Finset.sum_eq_single (half l)]
  · simp
  · intro h _ hh
    simp [hh]
  · simp

/-! ## The operands' blocks -/

/-- The six blocks of pair `p` and key block `j` hold the reals of `D`. -/
structure Blk (D : Inputs) (p : Fin 4) (j : Fin 16) (q : FVec Ideal S2x8192x128 .bf16) (d : FVec Ideal S8192x128 .bf16)
    (k : FVec Ideal S2x512x128 .bf16) (v : FVec Ideal S512x128 .bf16) (ls dl : FVec Ideal S1x16x2x512 .f32) : Prop where
  q : ∀ (h : Fin 2) (r : Fin 8192) (l : Fin 128), q (ix3 h r l) =
    ((if h = half l then D.q r (hp p h) (lane l) * (1 / 8) else gateQ (D.f (hp p h) r) (lane l) : ℝ) : EReal)
  d : ∀ (r : Fin 8192) (l : Fin 128), d (ix2 r l) = ((D.g r (hp p (half l)) (lane l) : ℝ) : EReal)
  k : ∀ (h : Fin 2) (x : Fin 512) (l : Fin 128), k (ix3 h x l) =
    ((if h = half l then D.k (row j x) (hp p h) (lane l) else gateK (D.f (hp p h) (row j x)) (lane l) : ℝ) : EReal)
  v : ∀ (x : Fin 512) (l : Fin 128), v (ix2 x l) = ((D.v (row j x) (hp p (half l)) (lane l) : ℝ) : EReal)
  ls : ∀ (b : Fin 16) (h : Fin 2) (x : Fin 512), ls (ix4 0 b h x) = ((D.lse (hp p h) (row b x) : ℝ) : EReal)
  dl : ∀ (b : Fin 16) (h : Fin 2) (x : Fin 512), dl (ix4 0 b h x) = ((D.dl (hp p h) (row b x) : ℝ) : EReal)

section step

variable {D : Inputs} {p : Fin 4} {j : Fin 16} {q : FVec Ideal S2x8192x128 .bf16} {d : FVec Ideal S8192x128 .bf16}
  {k : FVec Ideal S2x512x128 .bf16} {v : FVec Ideal S512x128 .bf16} {ls dl : FVec Ideal S1x16x2x512 .f32}

variable (H : Blk D p j q d k v ls dl)
include H

/-- The product of a query and a key over all lanes is the score. -/
theorem Blk.score (h : Fin 2) (r : Fin 8192) (x : Fin 512) :
    ∑ l : Fin 128, k (ix3 h x l) * q (ix3 h r l) = ((D.sc (hp p h) r (row j x) : ℝ) : EReal) := by
  simp only [H.k, H.q, ← EReal.coe_mul, coe_sum]
  rw [sum_lanes h]
  simp only [half_mine, lane_mine, lane_other, if_true, if_neg (half_other h _), gate_sum]
  unfold Inputs.sc
  rw [Finset.sum_mul, add_sub_assoc]
  congr 2
  exact Finset.sum_congr rfl fun e _ => by ring

/-- The values' products with a query's cotangent. -/
theorem Blk.dp (h : Fin 2) (r : Fin 8192) (x : Fin 512) :
    ∑ l : Fin 128, vhOf v (ix3 h x l) * d (ix2 r l) = ((D.dp (hp p h) r (row j x) : ℝ) : EReal) := by
  have e : ∀ l : Fin 128, vhOf v (ix3 h x l) = ((if h = half l then D.v (row j x) (hp p (half l)) (lane l) else 0 : ℝ) : EReal) := by
    intro l
    show (if own h l then v (ix2 x l) else 0) = _
    rw [H.v]
    simp only [own_iff]
    split_ifs <;> rfl
  simp only [e, H.d, ← EReal.coe_mul, coe_sum]
  rw [sum_lanes h]
  simp only [half_mine, lane_mine, lane_other, if_true, if_neg (half_other h _), zero_mul, Finset.sum_const_zero, add_zero]
  unfold Inputs.dp
  congr 1
  exact Finset.sum_congr rfl fun e _ => by ring

/-- The weights of a block of queries from the keys' block on. -/
theorem Blk.pr {b : Fin 16} (hb : j.val ≤ b.val) (h : Fin 2) (x cc : Fin 512) :
    prA (decide (b.val = j.val)) q k ls b h x cc = ((D.pr (hp p h) (row b cc) (row j x) : ℝ) : EReal) := by
  unfold prA
  rw [H.score, H.ls, ← EReal.coe_sub]
  have h1 := cc.isLt
  have h2 := x.isLt
  split_ifs with hc
  · rw [decide_eq_true_iff] at hc
    rw [Ideal.exp_bot, D.pr_of_lt]
    · rfl
    · show b.val * 512 + cc.val < j.val * 512 + x.val
      omega
  · rw [decide_eq_true_iff] at hc
    rw [Ideal.exp_coe, D.pr_of_le]
    show j.val * 512 + x.val ≤ b.val * 512 + cc.val
    omega

/-- The gradients of the scores. -/
theorem Blk.ds {b : Fin 16} (hb : j.val ≤ b.val) (h : Fin 2) (x cc : Fin 512) :
    dsA (decide (b.val = j.val)) q d k (vhOf v) ls dl b h x cc = ((D.ds (hp p h) (row b cc) (row j x) : ℝ) : EReal) := by
  unfold dsA
  rw [H.pr hb, H.dp, H.dl, ← EReal.coe_sub, ← EReal.coe_mul]
  rfl

theorem Blk.uDv {b : Fin 16} (hb : j.val ≤ b.val) (x : Fin 512) (l : Fin 128) :
    uDv (decide (b.val = j.val)) q d k ls b x l =
      ((∑ cc : Fin 512, D.pr (hp p (half l)) (row b cc) (row j x) * D.g (row b cc) (hp p (half l)) (lane l) : ℝ) : EReal) := by
  unfold Fox.uDv
  have e : ∀ h (cc : Fin 512), (if own h l then d (ix2 (row b cc) l) else 0) = ((if h = half l then D.g (row b cc) (hp p h) (lane l) else 0 : ℝ) : EReal) := by
    intro h cc
    simp only [own_iff, H.d]
    split_ifs with hh
    · rw [hh]
    · rfl
  simp only [H.pr hb, e, ← EReal.coe_mul, coe_sum]
  rw [sum_own l]

theorem Blk.uDk {b : Fin 16} (hb : j.val ≤ b.val) (x : Fin 512) (l : Fin 128) :
    uDk (decide (b.val = j.val)) q d k (vhOf v) ls dl b x l =
      ((∑ cc : Fin 512, D.ds (hp p (half l)) (row b cc) (row j x) * (D.q (row b cc) (hp p (half l)) (lane l) * (1 / 8)) : ℝ) : EReal) := by
  unfold Fox.uDk
  have e : ∀ h (cc : Fin 512), (if own h l then q (ix3 h (row b cc) l) else 0) = ((if h = half l then D.q (row b cc) (hp p h) (lane l) * (1 / 8) else 0 : ℝ) : EReal) := by
    intro h cc
    simp only [own_iff, H.q]
    split_ifs with hh <;> rfl
  simp only [H.ds hb, e, ← EReal.coe_mul, coe_sum]
  rw [sum_own l]

theorem Blk.uDq {b : Fin 16} (hb : j.val ≤ b.val) (cc : Fin 512) (l : Fin 128) :
    uDq (decide (b.val = j.val)) q d k (vhOf v) (kcOf k) ls dl b cc l =
      ((∑ x : Fin 512, D.ds (hp p (half l)) (row b cc) (row j x) * D.k (row j x) (hp p (half l)) (lane l) : ℝ) : EReal) := by
  unfold Fox.uDq
  have e : ∀ h (x : Fin 512), kcOf k (ix3 h x l) = ((if h = half l then D.k (row j x) (hp p h) (lane l) else 0 : ℝ) : EReal) := by
    intro h x
    show (if own h l then k (ix3 h x l) else 0) = _
    simp only [own_iff, H.k]
    split_ifs with hh <;> rfl
  simp only [H.ds hb, e, ← EReal.coe_mul, coe_sum]
  rw [sum_own l]

theorem Blk.uDfk {b : Fin 16} (hb : j.val ≤ b.val) (h : Fin 2) (x : Fin 512) :
    uDfk (decide (b.val = j.val)) q d k (vhOf v) ls dl b h x = ((∑ cc : Fin 512, D.ds (hp p h) (row b cc) (row j x) : ℝ) : EReal) := by
  unfold Fox.uDfk
  simp only [H.ds hb, coe_sum]

theorem Blk.uDfq {b : Fin 16} (hb : j.val ≤ b.val) (h : Fin 2) (cc : Fin 512) :
    uDfq (decide (b.val = j.val)) q d k (vhOf v) ls dl b h cc = ((∑ x : Fin 512, D.ds (hp p h) (row b cc) (row j x) : ℝ) : EReal) := by
  unfold Fox.uDfq
  simp only [H.ds hb, coe_sum]

end step

/-! ## Sums over blocks -/

theorem sum_rows (f : Fin 8192 → ℝ) : ∑ r : Fin 8192, f r = ∑ b : Fin 16, ∑ x : Fin 512, f (row b x) :=
  Fin.sum_univ_tiles 16 512 rfl f

theorem row_lt {b j : Fin 16} (hb : ¬ j.val ≤ b.val) (cc x : Fin 512) : row b cc < row j x := by
  have h1 := cc.isLt
  show b.val * 512 + cc.val < j.val * 512 + x.val
  omega

/-- A query block before the keys' block adds nothing, so the sum from there on is the whole sum. -/
theorem sum_from (j : Fin 16) (u : Fin 16 → EReal) (f : Fin 8192 → ℝ) (hu : ∀ b : Fin 16, j.val ≤ b.val → u b = ((∑ cc : Fin 512, f (row b cc) : ℝ) : EReal))
    (h0 : ∀ b : Fin 16, ¬ j.val ≤ b.val → ∀ cc : Fin 512, f (row b cc) = 0) :
    (∑ b : Fin 16, if j.val ≤ b.val then u b else 0) = ((∑ r : Fin 8192, f r : ℝ) : EReal) := by
  rw [sum_rows, ← coe_sum]
  refine Finset.sum_congr rfl fun b _ => ?_
  split_ifs with hb
  · exact hu b hb
  · rw [Finset.sum_eq_zero (fun cc _ => h0 b hb cc)]
    rfl

section outs

variable {D : Inputs} {p : Fin 4} {j : Fin 16} {q : FVec Ideal S2x8192x128 .bf16} {d : FVec Ideal S8192x128 .bf16}
  {k : FVec Ideal S2x512x128 .bf16} {v : FVec Ideal S512x128 .bf16} {ls dl : FVec Ideal S1x16x2x512 .f32}

variable (H : Blk D p j q d k v ls dl)
include H

/-- A block of the values' gradient. -/
theorem Blk.outDv (x : Fin 512) (l : Fin 128) : outDv j.val q d k ls (ix2 x l) = ((D.gv (row j x) (hp p (half l)) (lane l) : ℝ) : EReal) := by
  show (∑ b : Fin 16, if j.val ≤ b.val then Fox.uDv (decide (b.val = j.val)) q d k ls b x l else 0) = _
  exact sum_from j _ (fun r => D.pr (hp p (half l)) r (row j x) * D.g r (hp p (half l)) (lane l)) (fun b hb => H.uDv hb x l)
    (fun b hb cc => by rw [D.pr_of_lt (row_lt hb cc x), zero_mul])

/-- A block of the keys' gradient. -/
theorem Blk.outDk (x : Fin 512) (l : Fin 128) : outDk j.val q d k v ls dl (ix2 x l) = ((D.gk (row j x) (hp p (half l)) (lane l) : ℝ) : EReal) := by
  show (∑ b : Fin 16, if j.val ≤ b.val then Fox.uDk (decide (b.val = j.val)) q d k (vhOf v) ls dl b x l else 0) = _
  refine (sum_from j _ (fun r => D.ds (hp p (half l)) r (row j x) * (D.q r (hp p (half l)) (lane l) * (1 / 8))) (fun b hb => H.uDk hb x l)
    (fun b hb cc => by rw [D.ds_of_lt (row_lt hb cc x), zero_mul])).trans ?_
  unfold Inputs.gk
  rw [Finset.sum_mul]
  congr 1
  exact Finset.sum_congr rfl fun r _ => by ring

/-- A block of the gradient of the keys' running gates. -/
theorem Blk.outDfk (x : Fin 512) (h : Fin 2) : outDfk j.val q d k v ls dl (ix3 0 x h) = ((D.gfk (hp p h) (row j x) : ℝ) : EReal) := by
  show (∑ b : Fin 16, if j.val ≤ b.val then Fox.uDfk (decide (b.val = j.val)) q d k (vhOf v) ls dl b h x else 0) = _
  exact sum_from j _ (fun r => D.ds (hp p h) r (row j x)) (fun b hb => H.uDfk hb h x) (fun b hb cc => D.ds_of_lt (row_lt hb cc x))

/-- What key block `j` adds to the queries' gradient. -/
theorem Blk.addDq (a : FVec Ideal S8192x128 .f32) (b : Fin 16) (cc : Fin 512) (l : Fin 128) : addDq j.val a q d k v ls dl (ix2 (row b cc) l) =
    a (ix2 (row b cc) l) + ((∑ x : Fin 512, D.ds (hp p (half l)) (row b cc) (row j x) * D.k (row j x) (hp p (half l)) (lane l) : ℝ) : EReal) := by
  rw [addDq_row]
  congr 1
  split_ifs with hb
  · exact H.uDq hb cc l
  · rw [Finset.sum_eq_zero (fun x _ => by rw [D.ds_of_lt (row_lt hb cc x), zero_mul])]
    rfl

/-- What key block `j` adds to the gradient of the queries' running gates. -/
theorem Blk.addDfq (a : FVec Ideal S1x16x2x512 .f32) (b : Fin 16) (h : Fin 2) (cc : Fin 512) : addDfq j.val a q d k v ls dl (ix4 0 b h cc) =
    a (ix4 0 b h cc) + ((∑ x : Fin 512, D.ds (hp p h) (row b cc) (row j x) : ℝ) : EReal) := by
  show a (ix4 0 b h cc) + (if j.val ≤ b.val then Fox.uDfq (decide (b.val = j.val)) q d k (vhOf v) ls dl b h cc else 0) = _
  congr 1
  split_ifs with hb
  · exact H.uDfq hb h cc
  · rw [Finset.sum_eq_zero (fun x _ => D.ds_of_lt (row_lt hb cc x))]
    rfl

end outs

end Cert.KernelIdeal.Fox

end
-- ==== Proof.Blocks.lean ====
/- The five gradients the kernel leaves, at an index, as reals. -/
module

public import proofs.«01_k».proof.Proof.FrameV
public import proofs.«01_k».proof.Proof.PrepV
public import proofs.«01_k».proof.Proof.Step
public import Idealize.ShloMosaic.Lib.Pipeline.ValueKit

@[expose] public section

set_option maxRecDepth 16384

noncomputable section

namespace Cert.KernelIdeal.Fox

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

local notation "𝕄" => MT nD τ sig Unit (Elt Ideal) ℕ (UR sig nD τ) ℕ

open Cert.Fox (Inputs coe_sum)
open Cert.ReferenceIdeal.Fox (Reads score_real masked_at)
open Cert.ReferenceIdeal.Read (val_main_v1 val_main_v17_0 val_main_v18)

variable (m : (ℓ : Loc nD τ sig) → Buf (Elt Ideal) ℓ)

/-- The windows' blocks: pair `t / 16`, key block `t % 16`. -/
theorem idx : ∀ t : Fin cfg0.N, t.val < 64 ∧ win0_0.index t = ![t.val / 16, 0, 0] ∧ win0_1.index t = ![0, t.val / 16] ∧ win0_2.index t = ![t.val / 16, t.val % 16, 0]
    ∧ win0_3.index t = ![t.val % 16, t.val / 16] ∧ win0_4.index t = ![t.val / 16, 0, 0, 0] ∧ win0_5.index t = ![t.val / 16, 0, 0, 0]
    ∧ win0_6.index t = ![0, t.val / 16] ∧ win0_7.index t = ![t.val % 16, t.val / 16] ∧ win0_8.index t = ![t.val % 16, t.val / 16]
    ∧ win0_9.index t = ![t.val / 16, 0, 0, 0] ∧ win0_10.index t = ![t.val / 16, t.val % 16, 0] :=
  (by decide +kernel : ∀ t : Fin grid0.N, _)

/-- A point's pair and key block. -/
def pp (t : Fin cfg0.N) : Fin 4 := ⟨t.val / 16, by have := (idx t).1; omega⟩
def jj (t : Fin cfg0.N) : Fin 16 := ⟨t.val % 16, by omega⟩

theorem col_hp (p : Fin 4) (l : Fin 128) (h : (p.val * 128 + l.val) / 64 < 8) : (⟨(p.val * 128 + l.val) / 64, h⟩ : Fin 8) = hp p (half l) := by
  apply Fin.ext; simp only [hp, half]; omega

theorem col_lane (p : Fin 4) (l : Fin 128) (h : (p.val * 128 + l.val) % 64 < 64) : (⟨(p.val * 128 + l.val) % 64, h⟩ : Fin 64) = lane l := by
  apply Fin.ext; simp only [lane]; omega

/-! ## The input blocks -/

section blocks

theorem masked {D : Inputs} {x0 x1 x2 : FVec Ideal S8192x8x64 .f32} {x3 : FVec Ideal S8192x8 .f32} {x4 : FVec Ideal S8192x8x64 .f32} (H : Reads D x0 x1 x2 x3 x4)
    (h : Fin 8) (r c : Fin 8192) : val_main_v17_0 (F := Ideal) x0 x1 x3 (ix3 h r c) = if c ≤ r then ((D.sc h r c : ℝ) : EReal) else ⊥ := by
  rw [masked_at, Cert.ReferenceIdeal.Fox.score_at H]

variable (c : Dev nD) (t : Fin cfg0.N)

theorem blk0 (A : FVec Ideal S8x8192x128 .bf16) (h : Fin 2) (r : Fin 8192) (l : Fin 128) : (show FVec Ideal S2x8192x128 .bf16 from ((cfg0.win 0).blk t).view.read (Elt Ideal) A) (ix3 h r l) = A (ix3 (hp (pp t) h) r l) := by
  blk_ext! [idx t, hp, pp, row, jj]

theorem iblk0 : iblk m c 0 t = ((cfg0.win 0).blk t).view.read (Elt Ideal) (hQh (val_main_v1 (F := Ideal) (m ((c.tc : Thread nD τ).loc main_arg3))) (m ((c.tc : Thread nD τ).loc main_arg0))) :=
  congrArg (((cfg0.win 0).blk t).view.read (Elt Ideal)) (V_108 m c)

theorem blk1 (A : FVec Ideal S8192x512 .bf16) (r : Fin 8192) (l : Fin 128) : (show FVec Ideal S8192x128 .bf16 from ((cfg0.win 1).blk t).view.read (Elt Ideal) A) (ix2 r l) = A (ix2 r ⟨(pp t).val * 128 + l.val, by have := (pp t).isLt; omega⟩) := by
  blk_ext! [idx t, hp, pp, row, jj]

theorem iblk1 : iblk m c 1 t = ((cfg0.win 1).blk t).view.read (Elt Ideal) (hFlat (m ((c.tc : Thread nD τ).loc main_arg4))) :=
  congrArg (((cfg0.win 1).blk t).view.read (Elt Ideal)) (V_115 m c)

theorem blk2 (A : FVec Ideal S8x8192x128 .bf16) (h : Fin 2) (x : Fin 512) (l : Fin 128) : (show FVec Ideal S2x512x128 .bf16 from ((cfg0.win 2).blk t).view.read (Elt Ideal) A) (ix3 h x l) = A (ix3 (hp (pp t) h) (row (jj t) x) l) := by
  blk_ext! [idx t, hp, pp, row, jj]

theorem iblk2 : iblk m c 2 t = ((cfg0.win 2).blk t).view.read (Elt Ideal) (hKh (val_main_v1 (F := Ideal) (m ((c.tc : Thread nD τ).loc main_arg3))) (m ((c.tc : Thread nD τ).loc main_arg1))) :=
  congrArg (((cfg0.win 2).blk t).view.read (Elt Ideal)) (V_113 m c)

theorem blk3 (A : FVec Ideal S8192x512 .bf16) (x : Fin 512) (l : Fin 128) : (show FVec Ideal S512x128 .bf16 from ((cfg0.win 3).blk t).view.read (Elt Ideal) A) (ix2 x l) = A (ix2 (row (jj t) x) ⟨(pp t).val * 128 + l.val, by have := (pp t).isLt; omega⟩) := by
  blk_ext! [idx t, hp, pp, row, jj]

theorem iblk3 : iblk m c 3 t = ((cfg0.win 3).blk t).view.read (Elt Ideal) (hFlat (m ((c.tc : Thread nD τ).loc main_arg2))) :=
  congrArg (((cfg0.win 3).blk t).view.read (Elt Ideal)) (V_117 m c)

theorem blk4 (A : FVec Ideal S4x16x2x512 .f32) (b : Fin 16) (h : Fin 2) (x : Fin 512) : (show FVec Ideal S1x16x2x512 .f32 from ((cfg0.win 4).blk t).view.read (Elt Ideal) A) (ix4 0 b h x) = A (ix4 (pp t) b h x) := by
  blk_ext! [idx t, hp, pp, row, jj]

theorem iblk4 : iblk m c 4 t = ((cfg0.win 4).blk t).view.read (Elt Ideal) (hLse (val_main_v17_0 (F := Ideal) (m ((c.tc : Thread nD τ).loc main_arg0)) (m ((c.tc : Thread nD τ).loc main_arg1)) (m ((c.tc : Thread nD τ).loc main_arg3))) (val_main_v18 (F := Ideal) (m ((c.tc : Thread nD τ).loc main_arg0)) (m ((c.tc : Thread nD τ).loc main_arg1)) (m ((c.tc : Thread nD τ).loc main_arg3)))) :=
  congrArg (((cfg0.win 4).blk t).view.read (Elt Ideal)) (V_32 m c)

theorem blk5 (A : FVec Ideal S4x16x2x512 .f32) (b : Fin 16) (h : Fin 2) (x : Fin 512) : (show FVec Ideal S1x16x2x512 .f32 from ((cfg0.win 5).blk t).view.read (Elt Ideal) A) (ix4 0 b h x) = A (ix4 (pp t) b h x) := by
  blk_ext! [idx t, hp, pp, row, jj]

theorem iblk5 : iblk m c 5 t = ((cfg0.win 5).blk t).view.read (Elt Ideal) (hDl (val_main_v17_0 (F := Ideal) (m ((c.tc : Thread nD τ).loc main_arg0)) (m ((c.tc : Thread nD τ).loc main_arg1)) (m ((c.tc : Thread nD τ).loc main_arg3))) (val_main_v18 (F := Ideal) (m ((c.tc : Thread nD τ).loc main_arg0)) (m ((c.tc : Thread nD τ).loc main_arg1)) (m ((c.tc : Thread nD τ).loc main_arg3))) (m ((c.tc : Thread nD τ).loc main_arg2)) (m ((c.tc : Thread nD τ).loc main_arg4))) :=
  congrArg (((cfg0.win 5).blk t).view.read (Elt Ideal)) (V_37 m c)

variable {D : Inputs} (H : Reads D (m ((c.tc : Thread nD τ).loc main_arg0)) (m ((c.tc : Thread nD τ).loc main_arg1)) (m ((c.tc : Thread nD τ).loc main_arg2))
  (m ((c.tc : Thread nD τ).loc main_arg3)) (m ((c.tc : Thread nD τ).loc main_arg4)))
include H

/-- At every point the six blocks hold the reals of `D`. -/
theorem blk : Blk D (pp t) (jj t) (iblk m c 0 t) (iblk m c 1 t) (iblk m c 2 t) (iblk m c 3 t) (iblk m c 4 t) (iblk m c 5 t) where
  q h r l := by
    rw [iblk0]
    refine (blk0 t _ h r l).trans ?_
    refine (hQh_at H.q H.f _ r l).trans ?_
    rw [par_hp]
    simp only [own_iff]
  d r l := by
    rw [iblk1]
    refine (blk1 t _ r l).trans ?_
    refine (hFlat_at H.g r _).trans ?_
    rw [col_hp, col_lane]
  k h x l := by
    rw [iblk2]
    refine (blk2 t _ h x l).trans ?_
    refine (hKh_at H.k H.f _ _ l).trans ?_
    rw [par_hp]
    simp only [own_iff]
  v x l := by
    rw [iblk3]
    refine (blk3 t _ x l).trans ?_
    refine (hFlat_at H.v _ _).trans ?_
    rw [col_hp, col_lane]
  ls b h x := by
    rw [iblk4]
    refine (blk4 t _ b h x).trans ?_
    exact hLse_at (masked H) H.M (pp t) b h x
  dl b h x := by
    rw [iblk5]
    refine (blk5 t _ b h x).trans ?_
    exact hDl_at (masked H) H.M H.v H.g (pp t) b h x

/-! ## The two gradients that are summed over the key blocks -/

theorem sumDq_at (b : Fin 16) (cc : Fin 512) (l : Fin 128) : ∀ (n : ℕ) (hn : n < 16) (t : Fin cfg0.N), t.val % 16 = n →
    sumDq m c t.val (ix2 (row b cc) l) = ((∑ i : Fin (n + 1), ∑ x : Fin 512, D.ds (hp (pp t) (half l)) (row b cc) (row ⟨i.val, by omega⟩ x) * D.k (row ⟨i.val, by omega⟩ x) (hp (pp t) (half l)) (lane l) : ℝ) : EReal) := by
  intro n
  induction n with
  | zero =>
    intro hn t ht
    rw [sumDq_first m c t ht]
    have e := (blk m c t H).addDq (fun _ => 0) b cc l
    refine e.trans ?_
    rw [zero_add, Fin.sum_univ_one]
    have ej : jj t = ⟨0, by omega⟩ := Fin.ext ht
    rw [ej]
    rfl
  | succ n ih =>
    intro hn t ht
    have htl := (idx t).1
    rw [sumDq_next m c t (by omega)]
    have e := (blk m c t H).addDq (sumDq m c (t.val - 1)) b cc l
    refine e.trans ?_
    have ep : pp ⟨t.val - 1, by omega⟩ = pp t := Fin.ext (by show (t.val - 1) / 16 = t.val / 16; omega)
    have h1 := ih (by omega) ⟨t.val - 1, by omega⟩ (by show (t.val - 1) % 16 = n; omega)
    rw [ep] at h1
    rw [h1, ← EReal.coe_add, Fin.sum_univ_castSucc (n := n + 1)]
    have ej : jj t = ⟨n + 1, by omega⟩ := Fin.ext ht
    rw [ej]
    rfl

theorem sumDfq_at (b : Fin 16) (h : Fin 2) (cc : Fin 512) : ∀ (n : ℕ) (hn : n < 16) (t : Fin cfg0.N), t.val % 16 = n →
    sumDfq m c t.val (ix4 0 b h cc) = ((∑ i : Fin (n + 1), ∑ x : Fin 512, D.ds (hp (pp t) h) (row b cc) (row ⟨i.val, by omega⟩ x) : ℝ) : EReal) := by
  intro n
  induction n with
  | zero =>
    intro hn t ht
    rw [sumDfq_first m c t ht]
    have e := (blk m c t H).addDfq (fun _ => 0) b h cc
    refine e.trans ?_
    rw [zero_add, Fin.sum_univ_one]
    have ej : jj t = ⟨0, by omega⟩ := Fin.ext ht
    rw [ej]
    rfl
  | succ n ih =>
    intro hn t ht
    have htl := (idx t).1
    rw [sumDfq_next m c t (by omega)]
    have e := (blk m c t H).addDfq (sumDfq m c (t.val - 1)) b h cc
    refine e.trans ?_
    have ep : pp ⟨t.val - 1, by omega⟩ = pp t := Fin.ext (by show (t.val - 1) / 16 = t.val / 16; omega)
    have h1 := ih (by omega) ⟨t.val - 1, by omega⟩ (by show (t.val - 1) % 16 = n; omega)
    rw [ep] at h1
    rw [h1, ← EReal.coe_add, Fin.sum_univ_castSucc (n := n + 1)]
    have ej : jj t = ⟨n + 1, by omega⟩ := Fin.ext ht
    rw [ej]
    rfl

/-- What stands in the queries' gradient's block when it is written back. -/
theorem leftDq_at (ht : t.val % 16 = 15) (b : Fin 16) (cc : Fin 512) (l : Fin 128) :
    leftDq m c t (ix2 (row b cc) l) = ((D.gq (row b cc) (hp (pp t) (half l)) (lane l) : ℝ) : EReal) := by
  unfold leftDq
  rw [if_pos ht]
  show sumDq m c t.val (ix2 (row b cc) l) * ((1 / 8 : ℝ) : EReal) = _
  rw [sumDq_at m c H b cc l 15 (by omega) t ht, ← EReal.coe_mul]
  unfold Inputs.gq
  rw [sum_rows]

theorem sumDfq_last (ht : t.val % 16 = 15) (b : Fin 16) (h : Fin 2) (cc : Fin 512) :
    sumDfq m c t.val (ix4 0 b h cc) = ((D.gfq (hp (pp t) h) (row b cc) : ℝ) : EReal) := by
  rw [sumDfq_at m c H b h cc 15 (by omega) t ht]
  unfold Inputs.gfq
  rw [sum_rows]

end blocks

end Cert.KernelIdeal.Fox

end
-- ==== Proof.Final.lean ====
/- The kernel's five result arrays are the reference's gradients. -/
module

public import proofs.«01_k».proof.Proof.Blocks

@[expose] public section

set_option maxRecDepth 16384

noncomputable section

namespace Cert.KernelIdeal.Fox

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

local notation "𝕄" => MT nD τ sig Unit (Elt Ideal) ℕ (UR sig nD τ) ℕ

open Cert.Fox (Inputs)
open Cert.ReferenceIdeal.Fox (Reads out0_at out1_at out2_at out3_at out4_at)
open Cert.ReferenceIdeal.Read (val_main_v78 val_main_v80 val_main_v82 val_main_v84 val_main_v87)

variable (m : (ℓ : Loc nD τ sig) → Buf (Elt Ideal) ℓ) (c : Dev nD)

variable {D : Inputs} (H : Reads D (m ((c.tc : Thread nD τ).loc main_arg0)) (m ((c.tc : Thread nD τ).loc main_arg1)) (m ((c.tc : Thread nD τ).loc main_arg2))
  (m ((c.tc : Thread nD τ).loc main_arg3)) (m ((c.tc : Thread nD τ).loc main_arg4)))

theorem row_split (r : Fin 8192) : r = row ⟨r.val / 512, by omega⟩ ⟨r.val % 512, by omega⟩ :=
  Fin.ext (by show r.val = r.val / 512 * 512 + r.val % 512; omega)

include H

theorem leftDq_row (t : Fin cfg0.N) (ht : t.val % 16 = 15) (r : Fin 8192) (l : Fin 128) :
    leftDq m c t (ix2 r l) = ((D.gq r (hp (pp t) (half l)) (lane l) : ℝ) : EReal) := by
  rw [row_split r]
  exact leftDq_at m c t H ht _ _ l

theorem final6 : (dats m 0 c).arrAt 6 (cfgs 0).N = val_main_v78 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine (dats m 0 c).arrAt_eq_of_covers 6 _ (by decide +kernel) fun t hf y => ?_
  blk_simp
  rw [after0_6]
  obtain ⟨x, l, rfl⟩ : ∃ (x : Fin 8192) (l : Fin 128), y = ix2 x l := ⟨y 0, y 1, by blk_ext!⟩
  have e : ((cfg0.win 6).blk t).view.emb (ix2 x l) = ix2 x (⟨(pp t).val * 128 + l.val, by have := (pp t).isLt; omega⟩ : Fin 512) := by
    blk_ext! [idx t, pp, row, jj]
  rw [e]
  have o := out0_at H x (⟨(pp t).val * 128 + l.val, by have := (pp t).isLt; omega⟩ : Fin 512)
  rw [col_hp, col_lane] at o
  exact Eq.trans (leftDq_row m c H t ((flush0_6 t).mp hf) x l) o.symm

theorem final7 : (dats m 0 c).arrAt 7 (cfgs 0).N = val_main_v80 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine (dats m 0 c).arrAt_eq_of_covers 7 _ (by decide +kernel) fun t hf y => ?_
  blk_simp
  rw [after0_7]
  obtain ⟨x, l, rfl⟩ : ∃ (x : Fin 512) (l : Fin 128), y = ix2 x l := ⟨y 0, y 1, by blk_ext!⟩
  have e : ((cfg0.win 7).blk t).view.emb (ix2 x l) = ix2 (row (jj t) x) (⟨(pp t).val * 128 + l.val, by have := (pp t).isLt; omega⟩ : Fin 512) := by
    blk_ext! [idx t, pp, row, jj]
  rw [e]
  have o := out1_at H (row (jj t) x) (⟨(pp t).val * 128 + l.val, by have := (pp t).isLt; omega⟩ : Fin 512)
  rw [col_hp, col_lane] at o
  exact Eq.trans ((blk m c t H).outDk x l) o.symm

theorem final8 : (dats m 0 c).arrAt 8 (cfgs 0).N = val_main_v82 (F := Ideal) (m ((c.tc : Thread nD τ).loc main_arg0)) (m ((c.tc : Thread nD τ).loc main_arg1)) (m ((c.tc : Thread nD τ).loc main_arg3)) (m ((c.tc : Thread nD τ).loc main_arg4)) := by
  refine (dats m 0 c).arrAt_eq_of_covers 8 _ (by decide +kernel) fun t hf y => ?_
  blk_simp
  rw [after0_8]
  obtain ⟨x, l, rfl⟩ : ∃ (x : Fin 512) (l : Fin 128), y = ix2 x l := ⟨y 0, y 1, by blk_ext!⟩
  have e : ((cfg0.win 8).blk t).view.emb (ix2 x l) = ix2 (row (jj t) x) (⟨(pp t).val * 128 + l.val, by have := (pp t).isLt; omega⟩ : Fin 512) := by
    blk_ext! [idx t, pp, row, jj]
  rw [e]
  have o := out2_at H (row (jj t) x) (⟨(pp t).val * 128 + l.val, by have := (pp t).isLt; omega⟩ : Fin 512)
  rw [col_hp, col_lane] at o
  exact Eq.trans ((blk m c t H).outDv x l) o.symm

theorem final9 : (dats m 0 c).arrAt 9 (cfgs 0).N = val_main_v84 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine (dats m 0 c).arrAt_eq_of_covers 9 _ (by decide +kernel) fun t hf y => ?_
  blk_simp
  rw [after0_9]
  obtain ⟨z, b, h, x, rfl⟩ : ∃ (z : Fin 1) (b : Fin 16) (h : Fin 2) (x : Fin 512), y = ix4 z b h x := ⟨y 0, y 1, y 2, y 3, by blk_ext!⟩
  have e : ((cfg0.win 9).blk t).view.emb (ix4 z b h x) = ix4 (pp t) b h x := by
    blk_ext! [idx t, pp]
  rw [e]
  obtain rfl : z = 0 := Subsingleton.elim _ _
  exact (sumDfq_last m c t H ((flush0_9 t).mp hf) b h x).trans (out3_at H _ _ _ _).symm

theorem final10 : (dats m 0 c).arrAt 10 (cfgs 0).N = val_main_v87 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine (dats m 0 c).arrAt_eq_of_covers 10 _ (by decide +kernel) fun t hf y => ?_
  blk_simp
  rw [after0_10]
  obtain ⟨z, x, h, rfl⟩ : ∃ (z : Fin 1) (x : Fin 512) (h : Fin 2), y = ix3 z x h := ⟨y 0, y 1, y 2, by blk_ext!⟩
  have e : ((cfg0.win 10).blk t).view.emb (ix3 z x h) = ix3 (pp t) (row (jj t) x) h := by
    blk_ext! [idx t, pp, row, jj]
  rw [e]
  obtain rfl : z = 0 := Subsingleton.elim _ _
  exact ((blk m c t H).outDfk x h).trans (out4_at H _ _ _).symm

end Cert.KernelIdeal.Fox

end
-- ==== Proof.KRun.lean ====
module

public import proofs.«01_k».proof.Proof.Gen.Kernel.Skeleton
public import proofs.«01_k».proof.Proof.Gen.Kernel.Loops
public import Idealize.ShloMosaic.Lib.Claim

@[expose] public section

set_option maxRecDepth 16384

noncomputable section

namespace Cert.Kernel.Fox

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- Whether a grid point is its pair's first, and its last, as the body asks it. -/
abbrev First (i : grid0.Coords) : Prop := (Scalar.cmpi .ne (Scalar.extui (Scalar.cmpi .eq (BitVec.ofNat 32 (i 1).val) 0#32)) 0#32) = 1#1
abbrev Last (i : grid0.Coords) : Prop := (Scalar.cmpi .ne (Scalar.extui (Scalar.cmpi .eq (BitVec.ofNat 32 (i 1).val) 15#32)) 0#32) = 1#1

set_option maxHeartbeats 4000000 in
/-- The body at any grid point: it terminates, leaves the six operand blocks as it found them, and hands back the
    five results' buffers and the scratch at some contents.  The two branches are taken as the point is the pair's
    first or last, so there are four runs, which end alike. -/
theorem body_run (c : Dev nD) (i : grid0.Coords) (arg2 : Memref sig .tc .vmem S2x8192x128 .bf16) (harg2 : arg2.IsWhole) (arg3 : Memref sig .tc .vmem S8192x128 .bf16) (harg3 : arg3.IsWhole) (arg4 : Memref sig .tc .vmem S2x512x128 .bf16) (harg4 : arg4.IsWhole) (arg5 : Memref sig .tc .vmem S512x128 .bf16) (harg5 : arg5.IsWhole) (arg6 : Memref sig .tc .vmem S1x16x2x512 .f32) (harg6 : arg6.IsWhole) (arg7 : Memref sig .tc .vmem S1x16x2x512 .f32) (harg7 : arg7.IsWhole) (arg8 : Memref sig .tc .vmem S8192x128 .f32) (harg8 : arg8.IsWhole) (arg9 : Memref sig .tc .vmem S512x128 .bf16) (harg9 : arg9.IsWhole) (arg10 : Memref sig .tc .vmem S512x128 .bf16) (harg10 : arg10.IsWhole) (arg11 : Memref sig .tc .vmem S1x16x2x512 .f32) (harg11 : arg11.IsWhole) (arg12 : Memref sig .tc .vmem S1x512x2 .f32) (harg12 : arg12.IsWhole) (arg13 : Memref sig .tc .vmem S2x512x128 .bf16) (harg13 : arg13.IsWhole) (arg14 : Memref sig .tc .vmem S2x512x128 .bf16) (harg14 : arg14.IsWhole) (arg15 : Memref sig .tc .vmem S512x128 .f32) (harg15 : arg15.IsWhole) (arg16 : Memref sig .tc .vmem S512x128 .f32) (harg16 : arg16.IsWhole) (arg17 : Memref sig .tc .vmem S2x512x1 .f32) (harg17 : arg17.IsWhole)
    (x0 : Vec F S2x8192x128 .bf16) (x1 : Vec F S8192x128 .bf16) (x2 : Vec F S2x512x128 .bf16) (x3 : Vec F S512x128 .bf16) (x4 : Vec F S1x16x2x512 .f32) (x5 : Vec F S1x16x2x512 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)
          ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)) -∗ K ⟨⟩))
      ⊢ wp frame (wpE (defs₀ (F := F)) Variants.none c none) E (cc0_attn_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  by_cases hc0 : First i <;> by_cases hc1 : Last i
  all_goals
    simp only [cc0_attn_bwd_eq_skeleton]; unfold cc0_attn_bwd_skel
    simp only [k0_part7_eq_skeleton, k0_part8_eq_skeleton, k0_part9_eq_skeleton, k0_part10_eq_skeleton, k0_part11_eq_skeleton, k0_part12_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    iexists _, _; isplitr; swap; · iexact H15
    ipureintro; rfl

end Cert.Kernel.Fox
end
-- ==== Proof.KFrame.lean ====
module

public import proofs.«01_k».proof.Proof.KRun
public import proofs.«01_k».proof.Proof.Gen.Kernel.Frame

@[expose] public section

set_option maxRecDepth 16384

noncomputable section

namespace Cert.Kernel.Fox

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Each window's current staging memref at point `t`, spelled as the pipeline passes it (`bodyAt0`), and its wholeness. -/
abbrev ms0_0 (t : Fin cfg0.N) : Memref sig .tc .vmem S2x8192x128 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8192x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2x512x128 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x128 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x16x2x512 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x16x2x512 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S8192x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S512x128 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S512x128 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x16x2x512 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x512x2 .f32 := win0_10.stage (cfg0.slots t 10)
abbrev hs0_10 (t : Fin cfg0.N) : (ms0_10 t).IsWhole := hstage0_10 ((cfg0.slots t 10).cast nbuf0_10)
/-- The scratch operands: whole scoped buffers of the kernel's own, passed beside the windows. -/
abbrev scM0_0 : Memref sig .tc .vmem S2x512x128 .bf16 := Memref.whole cc0_scratch0
abbrev scM0_1 : Memref sig .tc .vmem S2x512x128 .bf16 := Memref.whole cc0_scratch1
abbrev scM0_2 : Memref sig .tc .vmem S512x128 .f32 := Memref.whole cc0_scratch2
abbrev scM0_3 : Memref sig .tc .vmem S512x128 .f32 := Memref.whole cc0_scratch3
abbrev scM0_4 : Memref sig .tc .vmem S2x512x1 .f32 := Memref.whole cc0_scratch4

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) := by
  unfold Pipeline.ΦA; rw [scopedRest0_eq]; simp only [scM0_0, scM0_1, scM0_2, scM0_3, scM0_4, owns_whole]; try rfl

/-! ## The pipeline's proof data: the operands at their blocks, the five results left open -/

/-- The five results, of which the frame says nothing. -/
def open0 : Fin 11 → Bool
  | ⟨6, _⟩ | ⟨7, _⟩ | ⟨8, _⟩ | ⟨9, _⟩ | ⟨10, _⟩ => true
  | _ => false

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Pipeline.Dat.unnamed (cfg := cfg0) ⟨6, h⟩ t
    | ⟨7, h⟩ => Pipeline.Dat.unnamed (cfg := cfg0) ⟨7, h⟩ t
    | ⟨8, h⟩ => Pipeline.Dat.unnamed (cfg := cfg0) ⟨8, h⟩ t
    | ⟨9, h⟩ => Pipeline.Dat.unnamed (cfg := cfg0) ⟨9, h⟩ t
    | ⟨10, h⟩ => Pipeline.Dat.unnamed (cfg := cfg0) ⟨10, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem before0_0 (c : Dev nD) (t : Fin cfg0.N) (d) : (dats m 0 c).before 0 t d = iblk m c 0 t :=  before0_0_of m (dats m 0 c) (A_eq m c 0) (after0_0 m c) t d
theorem before0_1 (c : Dev nD) (t : Fin cfg0.N) (d) : (dats m 0 c).before 1 t d = iblk m c 1 t :=  before0_1_of m (dats m 0 c) (A_eq m c 1) (after0_1 m c) t d
theorem before0_2 (c : Dev nD) (t : Fin cfg0.N) (d) : (dats m 0 c).before 2 t d = iblk m c 2 t :=  before0_2_of m (dats m 0 c) (A_eq m c 2) (after0_2 m c) t d
theorem before0_3 (c : Dev nD) (t : Fin cfg0.N) (d) : (dats m 0 c).before 3 t d = iblk m c 3 t :=  before0_3_of m (dats m 0 c) (A_eq m c 3) (after0_3 m c) t d
theorem before0_4 (c : Dev nD) (t : Fin cfg0.N) (d) : (dats m 0 c).before 4 t d = iblk m c 4 t :=  before0_4_of m (dats m 0 c) (A_eq m c 4) (after0_4 m c) t d
theorem before0_5 (c : Dev nD) (t : Fin cfg0.N) (d) : (dats m 0 c).before 5 t d = iblk m c 5 t :=  before0_5_of m (dats m 0 c) (A_eq m c 5) (after0_5 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare d)
    ∗ (∃ d, owns (c : Thread nD τ) (ms0_7 t) fullShare d)
    ∗ (∃ d, owns (c : Thread nD τ) (ms0_8 t) fullShare d)
    ∗ (∃ d, owns (c : Thread nD τ) (ms0_9 t) fullShare d)
    ∗ (∃ d, owns (c : Thread nD τ) (ms0_10 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ (∃ d, owns (c : Thread nD τ) (ms0_6 t) fullShare d)
    ∗ (∃ d, owns (c : Thread nD τ) (ms0_7 t) fullShare d)
    ∗ (∃ d, owns (c : Thread nD τ) (ms0_8 t) fullShare d)
    ∗ (∃ d, owns (c : Thread nD τ) (ms0_9 t) fullShare d)
    ∗ (∃ d, owns (c : Thread nD τ) (ms0_10 t) fullShare d))

set_option maxHeartbeats 4000000 in
/-- The body at any point, by `body_run`. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  rw [show (dats m 0 c).Φ t.castSucc = Pipeline.ΦA spec0 c from rfl, PhiA0_eq]
  iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, H6, H7, H8, H9, H10⟩
  iapply (body_run c (grid0.coords t) _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [HS0]; · iexact HS0
  isplitl [HS1]; · iexact HS1
  isplitl [HS2]; · iexact HS2
  isplitl [HS3]; · iexact HS3
  isplitl [HS4]; · iexact HS4
  iintro ⟨H0, H1, H2, H3, H4, H5, H6, H7, H8, H9, H10, HS0, HS1, HS2, HS3, HS4⟩
  isplitl [HS0 HS1 HS2 HS3 HS4 Hg]
  · isplitl [HS0 HS1 HS2 HS3 HS4]
    · isplitl [HS0]; · iexact HS0
      isplitl [HS1]; · iexact HS1
      isplitl [HS2]; · iexact HS2
      isplitl [HS3]; · iexact HS3
      iexact HS4
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

theorem defs₀_row (t : Fin cfg0.N) : defs₀ (F := F) .tc cfg0.body (cfg0.bodyArgs t (cfg0.slots t)) = bodyAt0 t := by
  unfold defs₀; rw [Defs.onTc_tc]

/-- The pipeline's obligation on the body, with the results left open. -/
theorem body_obligation (c : Dev nD) : BodyObligation (dats (F := F) m 0 c) (defs₀ (F := F)) Variants.none () Set.univ open0 := fun t => by
  rw [bigSep_W0, bigSep_W0, defs₀_row]
  exact triple_restated (sound_body m c t) rfl .rfl fun _ => .rfl

set_option backward.isDefEq.respectTransparency.types false in
/-- The launch: every execution terminates, the arguments keep their contents, and every semaphore ends at zero. -/
theorem run_main : θ_run defs (onTc (τ := τ) (main (F := F))) (s₀ m ρ)
    (fun r => (Pipeline.RDat.FramePost (cfgs 0) (fun c => (dats m 0 c).toRForget open0) (V m)) r ∧ r.2.sem = fun _ => 0) :=
  Pipeline.θ_run_frame_forget (Q' := _) cfgs (dats m) (0 : Fin 1) launch0 defs₀ Variants.none open0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

end Cert.Kernel.Fox
end
-- ==== Proof.lean ====
module

public import proofs.«01_k».proof.Defs
public import proofs.«01_k».proof.Proof.Gen.Kernel
public import proofs.«01_k».proof.Proof.Gen.Kernel.Frame
public import proofs.«01_k».proof.Proof.Gen.Kernel.Skeleton
public import proofs.«01_k».proof.Proof.Gen.Kernel.Loops
public import proofs.«01_k».proof.Proof.Gen.KernelIdeal
public import proofs.«01_k».proof.Proof.Gen.KernelIdeal.Frame
public import proofs.«01_k».proof.Proof.Gen.KernelIdeal.Skeleton
public import proofs.«01_k».proof.Proof.Gen.KernelIdeal.Loops
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite
public import proofs.«01_k».proof.Proof.Gen.ProjFwd
public import proofs.«01_k».proof.Proof.Gen.ProjFwd.Frame
public import proofs.«01_k».proof.Proof.Gen.ProjFwdIdeal
public import proofs.«01_k».proof.Proof.Gen.ProjFwdIdeal.Frame
public import proofs.«01_k».proof.Proof.Gen.ProjFwdIdeal.Value
public import proofs.«01_k».proof.Proof.Gen.ProjectionIdeal
public import proofs.«01_k».proof.Proof.Gen.ProjectionIdeal.Run
public import proofs.«01_k».proof.Proof.Gen.ProjectionIdeal.Read
public import proofs.«01_k».proof.Proof.Gen.DwQ
public import proofs.«01_k».proof.Proof.Gen.DwQ.Frame
public import proofs.«01_k».proof.Proof.Gen.DwQIdeal
public import proofs.«01_k».proof.Proof.Gen.DwQIdeal.Frame
public import proofs.«01_k».proof.Proof.Gen.DwQIdeal.Value
public import proofs.«01_k».proof.Proof.Gen.DwQRefIdeal
public import proofs.«01_k».proof.Proof.Gen.DwQRefIdeal.Run
public import proofs.«01_k».proof.Proof.Gen.DwQRefIdeal.Read
public import proofs.«01_k».proof.Proof.Gen.DwK
public import proofs.«01_k».proof.Proof.Gen.DwK.Frame
public import proofs.«01_k».proof.Proof.Gen.DwKIdeal
public import proofs.«01_k».proof.Proof.Gen.DwKIdeal.Frame
public import proofs.«01_k».proof.Proof.Gen.DwKIdeal.Value
public import proofs.«01_k».proof.Proof.Gen.DwKRefIdeal
public import proofs.«01_k».proof.Proof.Gen.DwKRefIdeal.Run
public import proofs.«01_k».proof.Proof.Gen.DwKRefIdeal.Read
public import proofs.«01_k».proof.Proof.Gen.DwF
public import proofs.«01_k».proof.Proof.Gen.DwF.Frame
public import proofs.«01_k».proof.Proof.Gen.DwFIdeal
public import proofs.«01_k».proof.Proof.Gen.DwFIdeal.Frame
public import proofs.«01_k».proof.Proof.Gen.DwFIdeal.Value
public import proofs.«01_k».proof.Proof.Gen.DwFRefIdeal
public import proofs.«01_k».proof.Proof.Gen.DwFRefIdeal.Run
public import proofs.«01_k».proof.Proof.Gen.DwFRefIdeal.Read
public import proofs.«01_k».proof.Proof.Gen.DwG
public import proofs.«01_k».proof.Proof.Gen.DwG.Frame
public import proofs.«01_k».proof.Proof.Gen.DwGIdeal
public import proofs.«01_k».proof.Proof.Gen.DwGIdeal.Frame
public import proofs.«01_k».proof.Proof.Gen.DwGIdeal.Value
public import proofs.«01_k».proof.Proof.Gen.DwGRefIdeal
public import proofs.«01_k».proof.Proof.Gen.DwGRefIdeal.Run
public import proofs.«01_k».proof.Proof.Gen.DwGRefIdeal.Read
public import proofs.«01_k».proof.Proof.Gen.DwUp
public import proofs.«01_k».proof.Proof.Gen.DwUp.Frame
public import proofs.«01_k».proof.Proof.Gen.DwUpIdeal
public import proofs.«01_k».proof.Proof.Gen.DwUpIdeal.Frame
public import proofs.«01_k».proof.Proof.Gen.DwUpIdeal.Value
public import proofs.«01_k».proof.Proof.Gen.DwUpRefIdeal
public import proofs.«01_k».proof.Proof.Gen.DwUpRefIdeal.Run
public import proofs.«01_k».proof.Proof.Gen.DwUpRefIdeal.Read
public import proofs.«01_k».proof.Proof.Gen.DwGlu
public import proofs.«01_k».proof.Proof.Gen.DwGlu.Frame
public import proofs.«01_k».proof.Proof.Gen.DwGluIdeal
public import proofs.«01_k».proof.Proof.Gen.DwGluIdeal.Frame
public import proofs.«01_k».proof.Proof.Gen.DwGluIdeal.Value
public import proofs.«01_k».proof.Proof.Gen.DwGluRefIdeal
public import proofs.«01_k».proof.Proof.Gen.DwGluRefIdeal.Run
public import proofs.«01_k».proof.Proof.Gen.DwGluRefIdeal.Read
public import proofs.«01_k».proof.Proof.Gen.ProjBwd
public import proofs.«01_k».proof.Proof.Gen.ProjBwd.Frame
public import proofs.«01_k».proof.Proof.Gen.ProjBwdIdeal
public import proofs.«01_k».proof.Proof.Gen.ProjBwdIdeal.Frame
public import proofs.«01_k».proof.Proof.Gen.ProjBwdIdeal.Value
public import proofs.«01_k».proof.Proof.Gen.ProjBwdRefIdeal
public import proofs.«01_k».proof.Proof.Gen.ProjBwdRefIdeal.Run
public import proofs.«01_k».proof.Proof.Gen.ProjBwdRefIdeal.Read
public import proofs.«01_k».proof.Proof.Gen.AdamIn
public import proofs.«01_k».proof.Proof.Gen.AdamIn.Frame
public import proofs.«01_k».proof.Proof.Gen.AdamInIdeal
public import proofs.«01_k».proof.Proof.Gen.AdamInIdeal.Frame
public import proofs.«01_k».proof.Proof.Gen.AdamInIdeal.Value
public import proofs.«01_k».proof.Proof.Gen.AdamInRefIdeal
public import proofs.«01_k».proof.Proof.Gen.AdamInRefIdeal.Run
public import proofs.«01_k».proof.Proof.Gen.AdamInRefIdeal.Read
public import proofs.«01_k».proof.Proof.Gen.AdamGlu
public import proofs.«01_k».proof.Proof.Gen.AdamGlu.Frame
public import proofs.«01_k».proof.Proof.Gen.AdamGluIdeal
public import proofs.«01_k».proof.Proof.Gen.AdamGluIdeal.Frame
public import proofs.«01_k».proof.Proof.Gen.AdamGluIdeal.Value
public import proofs.«01_k».proof.Proof.Gen.AdamGluRefIdeal
public import proofs.«01_k».proof.Proof.Gen.AdamGluRefIdeal.Run
public import proofs.«01_k».proof.Proof.Gen.AdamGluRefIdeal.Read
public import proofs.«01_k».proof.Proof.Gen.AdamUp
public import proofs.«01_k».proof.Proof.Gen.AdamUp.Frame
public import proofs.«01_k».proof.Proof.Gen.AdamUpIdeal
public import proofs.«01_k».proof.Proof.Gen.AdamUpIdeal.Frame
public import proofs.«01_k».proof.Proof.Gen.AdamUpIdeal.Value
public import proofs.«01_k».proof.Proof.Gen.AdamUpRefIdeal
public import proofs.«01_k».proof.Proof.Gen.AdamUpRefIdeal.Run
public import proofs.«01_k».proof.Proof.Gen.AdamUpRefIdeal.Read
public import proofs.«01_k».proof.Proof.Gen.AdamOut
public import proofs.«01_k».proof.Proof.Gen.AdamOut.Frame
public import proofs.«01_k».proof.Proof.Gen.AdamOutIdeal
public import proofs.«01_k».proof.Proof.Gen.AdamOutIdeal.Frame
public import proofs.«01_k».proof.Proof.Gen.AdamOutIdeal.Value
public import proofs.«01_k».proof.Proof.Gen.AdamOutRefIdeal
public import proofs.«01_k».proof.Proof.Gen.AdamOutRefIdeal.Run
public import proofs.«01_k».proof.Proof.Gen.AdamOutRefIdeal.Read
public import proofs.«01_k».proof.Proof.Gen.AdamAda
public import proofs.«01_k».proof.Proof.Gen.AdamAda.Frame
public import proofs.«01_k».proof.Proof.Gen.AdamAdaIdeal
public import proofs.«01_k».proof.Proof.Gen.AdamAdaIdeal.Frame
public import proofs.«01_k».proof.Proof.Gen.AdamAdaIdeal.Value
public import proofs.«01_k».proof.Proof.Gen.AdamAdaRefIdeal
public import proofs.«01_k».proof.Proof.Gen.AdamAdaRefIdeal.Run
public import proofs.«01_k».proof.Proof.Gen.AdamAdaRefIdeal.Read
public import proofs.«01_k».proof.Proof.Gen.AdamSmall
public import proofs.«01_k».proof.Proof.Gen.AdamSmall.Frame
public import proofs.«01_k».proof.Proof.Gen.AdamSmallIdeal
public import proofs.«01_k».proof.Proof.Gen.AdamSmallIdeal.Frame
public import proofs.«01_k».proof.Proof.Gen.AdamSmallIdeal.Value
public import proofs.«01_k».proof.Proof.Gen.AdamSmallRefIdeal
public import proofs.«01_k».proof.Proof.Gen.AdamSmallRefIdeal.Run
public import proofs.«01_k».proof.Proof.Gen.AdamSmallRefIdeal.Read
public import proofs.«01_k».proof.Proof.Gen.WAda
public import proofs.«01_k».proof.Proof.Gen.WAda.Frame
public import proofs.«01_k».proof.Proof.Gen.WAdaIdeal
public import proofs.«01_k».proof.Proof.Gen.WAdaIdeal.Frame
public import proofs.«01_k».proof.Proof.Gen.WAdaIdeal.Value
public import proofs.«01_k».proof.Proof.Gen.WAdaRefIdeal
public import proofs.«01_k».proof.Proof.Gen.WAdaRefIdeal.Run
public import proofs.«01_k».proof.Proof.Gen.WAdaRefIdeal.Read
public import proofs.«01_k».proof.Proof.Gen.Pre_real
public import proofs.«01_k».proof.Proof.ProjV
public import proofs.«01_k».proof.Proof.ProjGradF
public import proofs.«01_k».proof.Proof.AdamInV
public import proofs.«01_k».proof.Proof.AdamGluV
public import proofs.«01_k».proof.Proof.AdamUpV
public import proofs.«01_k».proof.Proof.AdamOutV
public import proofs.«01_k».proof.Proof.AdamAdaV
public import proofs.«01_k».proof.Proof.AdamSmallV
public import proofs.«01_k».proof.Proof.WAdaV
public import proofs.«01_k».proof.Proof.DwQV
public import proofs.«01_k».proof.Proof.DwKV
public import proofs.«01_k».proof.Proof.DwFV
public import proofs.«01_k».proof.Proof.DwGV
public import proofs.«01_k».proof.Proof.DwUpV
public import proofs.«01_k».proof.Proof.DwGluV
public import proofs.«01_k».proof.Proof.Finite
public import proofs.«01_k».proof.Proof.Final
public import proofs.«01_k».proof.Proof.KFrame
public import Idealize.ShloMosaic.Adequacy
public import Idealize.ShloMosaic.Init
public import Idealize.ShloMosaic.Lib.Claim

@[expose] public section

noncomputable section

namespace Cert.Proof

open Idealize.ShloMosaic Idealize.ShloMosaic.TcCoe Idealize.ShloMosaic.Tactic Idealize.SL.Sem

/-- The reference runs to its end, leaves its arguments as they were, and has no semaphore. -/
theorem frame_reference : Cert.quiescent_ReferenceIdeal := by
  intro m ρ _
  exact (θ_run Cert.ReferenceIdeal.defs _ _).mono
    (fun r h => ⟨fun c => (h c).2.2.2.2.2, Idealize.ShloMosaic.sem_eq_zero_of_no_sems (by decide) r.2⟩)
    (Cert.ReferenceIdeal.Value.run (F := Ideal) m ρ)

/-- The idealized kernel runs to its end and leaves its arguments as they were. -/
theorem frame_kernel_ideal : Cert.quiescent_KernelIdeal := by
  intro m ρ _
  exact θ_run_and
    (Cert.KernelIdeal.Gen.frame_of m ρ (Cert.KernelIdeal.Fox.dats m) (Cert.KernelIdeal.Fox.A_eq m)
      ((θ_run Cert.KernelIdeal.defs _ _).mono (fun _ h => h.1) (Cert.KernelIdeal.Fox.run_main m ρ)))
    ((θ_run Cert.KernelIdeal.defs _ _).mono (fun _ h => h.2) (Cert.KernelIdeal.Fox.run_main m ρ))

/-- A function of five arguments takes equal values at equal arguments. -/
theorem congr5 {α β γ δ ε ζ : Type} (f : α → β → γ → δ → ε → ζ) {a a' : α} {b b' : β} {c c' : γ} {d d' : δ} {e e' : ε}
    (ha : a = a') (hb : b = b') (hc : c = c') (hd : d = d') (he : e = e') : f a b c d e = f a' b' c' d' e' := by
  subst ha hb hc hd he
  rfl

/-- From finite arguments both programs leave the gradients of the attention. -/
theorem gradients : Cert.algebraic_KernelIdeal_ReferenceIdeal_pre_finite := by
  intro m g m' g' hp ha
  choose D H using fun c => Cert.ReferenceIdeal.Fox.reads_of_finite (hp c)
  refine ⟨(fun c => Cert.ReferenceIdeal.Read.val_main_v78 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))),
    (fun c => Cert.ReferenceIdeal.Read.val_main_v80 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))),
    (fun c => Cert.ReferenceIdeal.Read.val_main_v82 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))),
    (fun c => Cert.ReferenceIdeal.Read.val_main_v84 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))),
    (fun c => Cert.ReferenceIdeal.Read.val_main_v87 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))), ?_, ?_⟩
  · refine (θ_run Cert.KernelIdeal.defs _ _).mono (fun r h c => ?_) (Cert.KernelIdeal.Fox.run_main m g)
    have h1 := (h.1 c).1
    have h2 := fun b hb => (h.1 c).2 b hb
    refine ⟨?_, ?_, ?_, ?_, ?_, ?_, ?_, ?_, ?_, ?_⟩
    · exact (h1 6).trans (Cert.KernelIdeal.Fox.final6 m c (H c))
    · exact (h1 7).trans (Cert.KernelIdeal.Fox.final7 m c (H c))
    · exact (h1 8).trans (Cert.KernelIdeal.Fox.final8 m c (H c))
    · exact (h1 9).trans (Cert.KernelIdeal.Fox.final9 m c (H c))
    · exact (h1 10).trans (Cert.KernelIdeal.Fox.final10 m c (H c))
    · exact (h2 Cert.KernelIdeal.main_arg0 (Pipeline.mem_restRefs_of Cert.KernelIdeal.main_arg0 (by decide) (by decide))).trans (Cert.KernelIdeal.Gen.V_main_arg0 m c)
    · exact (h2 Cert.KernelIdeal.main_arg1 (Pipeline.mem_restRefs_of Cert.KernelIdeal.main_arg1 (by decide) (by decide))).trans (Cert.KernelIdeal.Gen.V_main_arg1 m c)
    · exact (h2 Cert.KernelIdeal.main_arg2 (Pipeline.mem_restRefs_of Cert.KernelIdeal.main_arg2 (by decide) (by decide))).trans (Cert.KernelIdeal.Gen.V_main_arg2 m c)
    · exact (h2 Cert.KernelIdeal.main_arg3 (Pipeline.mem_restRefs_of Cert.KernelIdeal.main_arg3 (by decide) (by decide))).trans (Cert.KernelIdeal.Gen.V_main_arg3 m c)
    · exact (h2 Cert.KernelIdeal.main_arg4 (Pipeline.mem_restRefs_of Cert.KernelIdeal.main_arg4 (by decide) (by decide))).trans (Cert.KernelIdeal.Gen.V_main_arg4 m c)
  · refine (θ_run Cert.ReferenceIdeal.defs _ _).mono (fun r h c => ?_) (Cert.ReferenceIdeal.Value.run (F := Ideal) m' g')
    have h1 := h c
    obtain ⟨e0, e1, e2, e3, e4⟩ := ha c
    refine ⟨?_, ?_, ?_, ?_, ?_, h1.2.2.2.2.2⟩
    · rw [h1.1, Cert.ReferenceIdeal.Read.val_main_v78_eq m' c, e0, e1, e2, e3, e4]
    · rw [h1.2.1, Cert.ReferenceIdeal.Read.val_main_v80_eq m' c, e0, e1, e2, e3, e4]
    · rw [h1.2.2.1, Cert.ReferenceIdeal.Read.val_main_v82_eq m' c, e0, e1, e3, e4]
    · rw [h1.2.2.2.1, Cert.ReferenceIdeal.Read.val_main_v84_eq m' c, e0, e1, e2, e3, e4]
    · exact h1.2.2.2.2.1.trans ((Cert.ReferenceIdeal.Read.val_main_v87_eq m' c).trans (congr5 (Cert.ReferenceIdeal.Read.val_main_v87 (F := Ideal)) e0 e1 e2 e3 e4))

/-- The kernel runs to its end and leaves its arguments as they were. -/
theorem frame_kernel : Cert.quiescent_Kernel := by
  intro m ρ _
  refine (θ_run Cert.Kernel.defs _ _).mono (fun r h => ⟨fun c => ?_, h.2⟩) (Cert.Kernel.Fox.run_main (F := Bits) m ρ)
  have h2 := fun b hb => (h.1 c).2 b hb
  refine ⟨?_, ?_, ?_, ?_, ?_⟩
  · exact (h2 Cert.Kernel.main_arg0 (Pipeline.mem_restRefs_of Cert.Kernel.main_arg0 (by decide) (by decide))).trans (Cert.Kernel.Gen.V_main_arg0 m c)
  · exact (h2 Cert.Kernel.main_arg1 (Pipeline.mem_restRefs_of Cert.Kernel.main_arg1 (by decide) (by decide))).trans (Cert.Kernel.Gen.V_main_arg1 m c)
  · exact (h2 Cert.Kernel.main_arg2 (Pipeline.mem_restRefs_of Cert.Kernel.main_arg2 (by decide) (by decide))).trans (Cert.Kernel.Gen.V_main_arg2 m c)
  · exact (h2 Cert.Kernel.main_arg3 (Pipeline.mem_restRefs_of Cert.Kernel.main_arg3 (by decide) (by decide))).trans (Cert.Kernel.Gen.V_main_arg3 m c)
  · exact (h2 Cert.Kernel.main_arg4 (Pipeline.mem_restRefs_of Cert.Kernel.main_arg4 (by decide) (by decide))).trans (Cert.Kernel.Gen.V_main_arg4 m c)

/-- The projection kernel runs to its end and leaves its arguments as they were. -/
theorem frame_projection_kernel : Cert.quiescent_ProjFwd := fun m ρ _ => Cert.ProjFwd.Gen.frame (F := Bits) m ρ

/-- So does the idealized projection kernel. -/
theorem frame_projection_ideal : Cert.quiescent_ProjFwdIdeal := fun m ρ _ => Cert.ProjFwdIdeal.Gen.frame (F := Ideal) m ρ

/-- So does its reference. -/
theorem frame_projection_reference : Cert.quiescent_ProjectionIdeal := by
  intro m ρ _
  exact (θ_run Cert.ProjectionIdeal.defs _ _).mono
    (fun r h => ⟨fun c => (h c).2.2.2.2.2.2.2.2.2.2, Idealize.ShloMosaic.sem_eq_zero_of_no_sems (by decide) r.2⟩)
    (Cert.ProjectionIdeal.Value.run (F := Ideal) m ρ)

/-- A function of four arguments takes equal values at equal arguments. -/
theorem congr4 {α β γ δ ζ : Type} (f : α → β → γ → δ → ζ) {a a' : α} {b b' : β} {c c' : γ} {d d' : δ}
    (ha : a = a') (hb : b = b') (hc : c = c') (hd : d = d') : f a b c d = f a' b' c' d' := by
  subst ha hb hc hd
  rfl

/-- Both programs leave the projections of the normalised input. -/
theorem projections : Cert.algebraic_ProjFwdIdeal_ProjectionIdeal := by
  intro m g m' g' _ ha
  refine ⟨(fun c => Cert.ProjectionIdeal.Read.val_main_v30 (F := Ideal) (m ((c.tc : Thread Cert.ProjFwdIdeal.nD Cert.ProjFwdIdeal.τ).loc Cert.ProjFwdIdeal.main_arg0)) (m ((c.tc : Thread Cert.ProjFwdIdeal.nD Cert.ProjFwdIdeal.τ).loc Cert.ProjFwdIdeal.main_arg1)) (m ((c.tc : Thread Cert.ProjFwdIdeal.nD Cert.ProjFwdIdeal.τ).loc Cert.ProjFwdIdeal.main_arg2)) (m ((c.tc : Thread Cert.ProjFwdIdeal.nD Cert.ProjFwdIdeal.τ).loc Cert.ProjFwdIdeal.main_arg3)) (m ((c.tc : Thread Cert.ProjFwdIdeal.nD Cert.ProjFwdIdeal.τ).loc Cert.ProjFwdIdeal.main_arg4))),
    (fun c => Cert.ProjectionIdeal.Read.val_main_v31 (F := Ideal) (m ((c.tc : Thread Cert.ProjFwdIdeal.nD Cert.ProjFwdIdeal.τ).loc Cert.ProjFwdIdeal.main_arg0)) (m ((c.tc : Thread Cert.ProjFwdIdeal.nD Cert.ProjFwdIdeal.τ).loc Cert.ProjFwdIdeal.main_arg1)) (m ((c.tc : Thread Cert.ProjFwdIdeal.nD Cert.ProjFwdIdeal.τ).loc Cert.ProjFwdIdeal.main_arg2)) (m ((c.tc : Thread Cert.ProjFwdIdeal.nD Cert.ProjFwdIdeal.τ).loc Cert.ProjFwdIdeal.main_arg3)) (m ((c.tc : Thread Cert.ProjFwdIdeal.nD Cert.ProjFwdIdeal.τ).loc Cert.ProjFwdIdeal.main_arg4))),
    (fun c => Cert.ProjectionIdeal.Read.val_main_v32 (F := Ideal) (m ((c.tc : Thread Cert.ProjFwdIdeal.nD Cert.ProjFwdIdeal.τ).loc Cert.ProjFwdIdeal.main_arg0)) (m ((c.tc : Thread Cert.ProjFwdIdeal.nD Cert.ProjFwdIdeal.τ).loc Cert.ProjFwdIdeal.main_arg1)) (m ((c.tc : Thread Cert.ProjFwdIdeal.nD Cert.ProjFwdIdeal.τ).loc Cert.ProjFwdIdeal.main_arg2)) (m ((c.tc : Thread Cert.ProjFwdIdeal.nD Cert.ProjFwdIdeal.τ).loc Cert.ProjFwdIdeal.main_arg3)) (m ((c.tc : Thread Cert.ProjFwdIdeal.nD Cert.ProjFwdIdeal.τ).loc Cert.ProjFwdIdeal.main_arg4))),
    (fun c => Cert.ProjectionIdeal.Read.val_main_v23 (F := Ideal) (m ((c.tc : Thread Cert.ProjFwdIdeal.nD Cert.ProjFwdIdeal.τ).loc Cert.ProjFwdIdeal.main_arg0)) (m ((c.tc : Thread Cert.ProjFwdIdeal.nD Cert.ProjFwdIdeal.τ).loc Cert.ProjFwdIdeal.main_arg1)) (m ((c.tc : Thread Cert.ProjFwdIdeal.nD Cert.ProjFwdIdeal.τ).loc Cert.ProjFwdIdeal.main_arg2)) (m ((c.tc : Thread Cert.ProjFwdIdeal.nD Cert.ProjFwdIdeal.τ).loc Cert.ProjFwdIdeal.main_arg3)) (m ((c.tc : Thread Cert.ProjFwdIdeal.nD Cert.ProjFwdIdeal.τ).loc Cert.ProjFwdIdeal.main_arg4))),
    (fun c => Cert.ProjectionIdeal.Read.val_main_v24 (F := Ideal) (m ((c.tc : Thread Cert.ProjFwdIdeal.nD Cert.ProjFwdIdeal.τ).loc Cert.ProjFwdIdeal.main_arg0)) (m ((c.tc : Thread Cert.ProjFwdIdeal.nD Cert.ProjFwdIdeal.τ).loc Cert.ProjFwdIdeal.main_arg1)) (m ((c.tc : Thread Cert.ProjFwdIdeal.nD Cert.ProjFwdIdeal.τ).loc Cert.ProjFwdIdeal.main_arg2)) (m ((c.tc : Thread Cert.ProjFwdIdeal.nD Cert.ProjFwdIdeal.τ).loc Cert.ProjFwdIdeal.main_arg3)) (m ((c.tc : Thread Cert.ProjFwdIdeal.nD Cert.ProjFwdIdeal.τ).loc Cert.ProjFwdIdeal.main_arg4))),
    (fun c => Cert.ProjectionIdeal.Read.val_main_v25 (F := Ideal) (m ((c.tc : Thread Cert.ProjFwdIdeal.nD Cert.ProjFwdIdeal.τ).loc Cert.ProjFwdIdeal.main_arg0)) (m ((c.tc : Thread Cert.ProjFwdIdeal.nD Cert.ProjFwdIdeal.τ).loc Cert.ProjFwdIdeal.main_arg1)) (m ((c.tc : Thread Cert.ProjFwdIdeal.nD Cert.ProjFwdIdeal.τ).loc Cert.ProjFwdIdeal.main_arg2)) (m ((c.tc : Thread Cert.ProjFwdIdeal.nD Cert.ProjFwdIdeal.τ).loc Cert.ProjFwdIdeal.main_arg3)) (m ((c.tc : Thread Cert.ProjFwdIdeal.nD Cert.ProjFwdIdeal.τ).loc Cert.ProjFwdIdeal.main_arg4))),
    (fun c => Cert.ProjectionIdeal.Read.val_main_v26 (F := Ideal) (m ((c.tc : Thread Cert.ProjFwdIdeal.nD Cert.ProjFwdIdeal.τ).loc Cert.ProjFwdIdeal.main_arg0)) (m ((c.tc : Thread Cert.ProjFwdIdeal.nD Cert.ProjFwdIdeal.τ).loc Cert.ProjFwdIdeal.main_arg1)) (m ((c.tc : Thread Cert.ProjFwdIdeal.nD Cert.ProjFwdIdeal.τ).loc Cert.ProjFwdIdeal.main_arg2)) (m ((c.tc : Thread Cert.ProjFwdIdeal.nD Cert.ProjFwdIdeal.τ).loc Cert.ProjFwdIdeal.main_arg3)) (m ((c.tc : Thread Cert.ProjFwdIdeal.nD Cert.ProjFwdIdeal.τ).loc Cert.ProjFwdIdeal.main_arg4))),
    (fun c => Cert.ProjectionIdeal.Read.val_main_v27 (F := Ideal) (m ((c.tc : Thread Cert.ProjFwdIdeal.nD Cert.ProjFwdIdeal.τ).loc Cert.ProjFwdIdeal.main_arg0)) (m ((c.tc : Thread Cert.ProjFwdIdeal.nD Cert.ProjFwdIdeal.τ).loc Cert.ProjFwdIdeal.main_arg1)) (m ((c.tc : Thread Cert.ProjFwdIdeal.nD Cert.ProjFwdIdeal.τ).loc Cert.ProjFwdIdeal.main_arg2)) (m ((c.tc : Thread Cert.ProjFwdIdeal.nD Cert.ProjFwdIdeal.τ).loc Cert.ProjFwdIdeal.main_arg3)) (m ((c.tc : Thread Cert.ProjFwdIdeal.nD Cert.ProjFwdIdeal.τ).loc Cert.ProjFwdIdeal.main_arg4))),
    (fun c => Cert.ProjectionIdeal.Read.val_main_v22 (F := Ideal) (m ((c.tc : Thread Cert.ProjFwdIdeal.nD Cert.ProjFwdIdeal.τ).loc Cert.ProjFwdIdeal.main_arg0)) (m ((c.tc : Thread Cert.ProjFwdIdeal.nD Cert.ProjFwdIdeal.τ).loc Cert.ProjFwdIdeal.main_arg1)) (m ((c.tc : Thread Cert.ProjFwdIdeal.nD Cert.ProjFwdIdeal.τ).loc Cert.ProjFwdIdeal.main_arg2)) (m ((c.tc : Thread Cert.ProjFwdIdeal.nD Cert.ProjFwdIdeal.τ).loc Cert.ProjFwdIdeal.main_arg3)) (m ((c.tc : Thread Cert.ProjFwdIdeal.nD Cert.ProjFwdIdeal.τ).loc Cert.ProjFwdIdeal.main_arg4))),
    (fun c => Cert.ProjectionIdeal.Read.val_main_v33 (F := Ideal) (m ((c.tc : Thread Cert.ProjFwdIdeal.nD Cert.ProjFwdIdeal.τ).loc Cert.ProjFwdIdeal.main_arg0)) (m ((c.tc : Thread Cert.ProjFwdIdeal.nD Cert.ProjFwdIdeal.τ).loc Cert.ProjFwdIdeal.main_arg1)) (m ((c.tc : Thread Cert.ProjFwdIdeal.nD Cert.ProjFwdIdeal.τ).loc Cert.ProjFwdIdeal.main_arg2)) (m ((c.tc : Thread Cert.ProjFwdIdeal.nD Cert.ProjFwdIdeal.τ).loc Cert.ProjFwdIdeal.main_arg3))), ?_, ?_⟩
  · refine (θ_run Cert.ProjFwdIdeal.defs _ _).mono (fun r h c => ?_) (Cert.ProjFwdIdeal.Value.run_blocks (F := Ideal) m g)
    have h1 := h c
    exact ⟨h1.1.trans (Cert.ProjFwdIdeal.Proj.final6 m c),
      h1.2.1.trans (Cert.ProjFwdIdeal.Proj.final7 m c),
      h1.2.2.1.trans (Cert.ProjFwdIdeal.Proj.final8 m c),
      h1.2.2.2.1.trans (Cert.ProjFwdIdeal.Proj.final9 m c),
      h1.2.2.2.2.1.trans (Cert.ProjFwdIdeal.Proj.final10 m c),
      h1.2.2.2.2.2.1.trans (Cert.ProjFwdIdeal.Proj.final11 m c),
      h1.2.2.2.2.2.2.1.trans (Cert.ProjFwdIdeal.Proj.final12 m c),
      h1.2.2.2.2.2.2.2.1.trans (Cert.ProjFwdIdeal.Proj.final13 m c),
      h1.2.2.2.2.2.2.2.2.1.trans (Cert.ProjFwdIdeal.Proj.final14 m c),
      h1.2.2.2.2.2.2.2.2.2.1.trans (Cert.ProjFwdIdeal.Proj.final15 m c),
      h1.2.2.2.2.2.2.2.2.2.2⟩
  · refine (θ_run Cert.ProjectionIdeal.defs _ _).mono (fun r h c => ?_) (Cert.ProjectionIdeal.Value.run (F := Ideal) m' g')
    have h1 := h c
    obtain ⟨e0, e1, e2, e3, e4⟩ := ha c
    exact ⟨h1.1.trans ((Cert.ProjectionIdeal.Read.val_main_v30_eq _ _ _ _ _).trans (congr5 (Cert.ProjectionIdeal.Read.val_main_v30 (F := Ideal)) e0 e1 e2 e3 e4)),
      h1.2.1.trans ((Cert.ProjectionIdeal.Read.val_main_v31_eq _ _ _ _ _).trans (congr5 (Cert.ProjectionIdeal.Read.val_main_v31 (F := Ideal)) e0 e1 e2 e3 e4)),
      h1.2.2.1.trans ((Cert.ProjectionIdeal.Read.val_main_v32_eq _ _ _ _ _).trans (congr5 (Cert.ProjectionIdeal.Read.val_main_v32 (F := Ideal)) e0 e1 e2 e3 e4)),
      h1.2.2.2.1.trans ((Cert.ProjectionIdeal.Read.val_main_v23_eq _ _ _ _ _).trans (congr5 (Cert.ProjectionIdeal.Read.val_main_v23 (F := Ideal)) e0 e1 e2 e3 e4)),
      h1.2.2.2.2.1.trans ((Cert.ProjectionIdeal.Read.val_main_v24_eq _ _ _ _ _).trans (congr5 (Cert.ProjectionIdeal.Read.val_main_v24 (F := Ideal)) e0 e1 e2 e3 e4)),
      h1.2.2.2.2.2.1.trans ((Cert.ProjectionIdeal.Read.val_main_v25_eq _ _ _ _ _).trans (congr5 (Cert.ProjectionIdeal.Read.val_main_v25 (F := Ideal)) e0 e1 e2 e3 e4)),
      h1.2.2.2.2.2.2.1.trans ((Cert.ProjectionIdeal.Read.val_main_v26_eq _ _ _ _ _).trans (congr5 (Cert.ProjectionIdeal.Read.val_main_v26 (F := Ideal)) e0 e1 e2 e3 e4)),
      h1.2.2.2.2.2.2.2.1.trans ((Cert.ProjectionIdeal.Read.val_main_v27_eq _ _ _ _ _).trans (congr5 (Cert.ProjectionIdeal.Read.val_main_v27 (F := Ideal)) e0 e1 e2 e3 e4)),
      h1.2.2.2.2.2.2.2.2.1.trans ((Cert.ProjectionIdeal.Read.val_main_v22_eq _ _ _ _ _).trans (congr5 (Cert.ProjectionIdeal.Read.val_main_v22 (F := Ideal)) e0 e1 e2 e3 e4)),
      h1.2.2.2.2.2.2.2.2.2.1.trans ((Cert.ProjectionIdeal.Read.val_main_v33_eq _ _ _ _).trans (congr4 (Cert.ProjectionIdeal.Read.val_main_v33 (F := Ideal)) e0 e1 e2 e3)),
      h1.2.2.2.2.2.2.2.2.2.2⟩

/-- The reference of the weight gradient `DwQ` runs to its end and leaves its arguments as they were. -/
theorem frame_reference_DwQ : Cert.quiescent_DwQRefIdeal := by
  intro m ρ _
  exact (θ_run Cert.DwQRefIdeal.defs _ _).mono
    (fun r h => ⟨fun c => (h c).2, Idealize.ShloMosaic.sem_eq_zero_of_no_sems (by decide) r.2⟩)
    (Cert.DwQRefIdeal.Value.run (F := Ideal) m ρ)

/-- Both programs leave the weight gradient. -/
theorem gradient_DwQ : Cert.algebraic_DwQIdeal_DwQRefIdeal := by
  intro m g m' g' _ ha
  refine ⟨(fun c => Cert.DwQRefIdeal.Read.val_main_v4 (F := Ideal) (m ((c.tc : Thread Cert.DwQIdeal.nD Cert.DwQIdeal.τ).loc Cert.DwQIdeal.main_arg0)) (m ((c.tc : Thread Cert.DwQIdeal.nD Cert.DwQIdeal.τ).loc Cert.DwQIdeal.main_arg1))), ?_, ?_⟩
  · refine (θ_run Cert.DwQIdeal.defs _ _).mono (fun r h c => ?_) (Cert.DwQIdeal.Value.run_blocks (F := Ideal) m g)
    exact ⟨(h c).1.trans (Cert.DwQIdeal.Grad.final m c), (h c).2⟩
  · refine (θ_run Cert.DwQRefIdeal.defs _ _).mono (fun r h c => ?_) (Cert.DwQRefIdeal.Value.run (F := Ideal) m' g')
    obtain ⟨e0, e1⟩ := ha c
    exact ⟨(h c).1.trans ((Cert.DwQRefIdeal.Read.val_main_v4_eq _ _).trans (congrArg₂ (Cert.DwQRefIdeal.Read.val_main_v4 (F := Ideal)) e0 e1)), (h c).2⟩

/-- The reference of the weight gradient `DwK` runs to its end and leaves its arguments as they were. -/
theorem frame_reference_DwK : Cert.quiescent_DwKRefIdeal := by
  intro m ρ _
  exact (θ_run Cert.DwKRefIdeal.defs _ _).mono
    (fun r h => ⟨fun c => (h c).2, Idealize.ShloMosaic.sem_eq_zero_of_no_sems (by decide) r.2⟩)
    (Cert.DwKRefIdeal.Value.run (F := Ideal) m ρ)

/-- Both programs leave the weight gradient. -/
theorem gradient_DwK : Cert.algebraic_DwKIdeal_DwKRefIdeal := by
  intro m g m' g' _ ha
  refine ⟨(fun c => Cert.DwKRefIdeal.Read.val_main_v5 (F := Ideal) (m ((c.tc : Thread Cert.DwKIdeal.nD Cert.DwKIdeal.τ).loc Cert.DwKIdeal.main_arg0)) (m ((c.tc : Thread Cert.DwKIdeal.nD Cert.DwKIdeal.τ).loc Cert.DwKIdeal.main_arg1))), ?_, ?_⟩
  · refine (θ_run Cert.DwKIdeal.defs _ _).mono (fun r h c => ?_) (Cert.DwKIdeal.Value.run_blocks (F := Ideal) m g)
    exact ⟨(h c).1.trans (Cert.DwKIdeal.Grad.final m c), (h c).2⟩
  · refine (θ_run Cert.DwKRefIdeal.defs _ _).mono (fun r h c => ?_) (Cert.DwKRefIdeal.Value.run (F := Ideal) m' g')
    obtain ⟨e0, e1⟩ := ha c
    exact ⟨(h c).1.trans ((Cert.DwKRefIdeal.Read.val_main_v5_eq _ _).trans (congrArg₂ (Cert.DwKRefIdeal.Read.val_main_v5 (F := Ideal)) e0 e1)), (h c).2⟩

/-- The reference of the weight gradient `DwF` runs to its end and leaves its arguments as they were. -/
theorem frame_reference_DwF : Cert.quiescent_DwFRefIdeal := by
  intro m ρ _
  exact (θ_run Cert.DwFRefIdeal.defs _ _).mono
    (fun r h => ⟨fun c => (h c).2, Idealize.ShloMosaic.sem_eq_zero_of_no_sems (by decide) r.2⟩)
    (Cert.DwFRefIdeal.Value.run (F := Ideal) m ρ)

/-- Both programs leave the weight gradient. -/
theorem gradient_DwF : Cert.algebraic_DwFIdeal_DwFRefIdeal := by
  intro m g m' g' _ ha
  refine ⟨(fun c => Cert.DwFRefIdeal.Read.val_main_v4 (F := Ideal) (m ((c.tc : Thread Cert.DwFIdeal.nD Cert.DwFIdeal.τ).loc Cert.DwFIdeal.main_arg0)) (m ((c.tc : Thread Cert.DwFIdeal.nD Cert.DwFIdeal.τ).loc Cert.DwFIdeal.main_arg1))), ?_, ?_⟩
  · refine (θ_run Cert.DwFIdeal.defs _ _).mono (fun r h c => ?_) (Cert.DwFIdeal.Value.run_blocks (F := Ideal) m g)
    exact ⟨(h c).1.trans (Cert.DwFIdeal.Grad.final m c), (h c).2⟩
  · refine (θ_run Cert.DwFRefIdeal.defs _ _).mono (fun r h c => ?_) (Cert.DwFRefIdeal.Value.run (F := Ideal) m' g')
    obtain ⟨e0, e1⟩ := ha c
    exact ⟨(h c).1.trans ((Cert.DwFRefIdeal.Read.val_main_v4_eq _ _).trans (congrArg₂ (Cert.DwFRefIdeal.Read.val_main_v4 (F := Ideal)) e0 e1)), (h c).2⟩

/-- The reference of the weight gradient `DwG` runs to its end and leaves its arguments as they were. -/
theorem frame_reference_DwG : Cert.quiescent_DwGRefIdeal := by
  intro m ρ _
  exact (θ_run Cert.DwGRefIdeal.defs _ _).mono
    (fun r h => ⟨fun c => (h c).2, Idealize.ShloMosaic.sem_eq_zero_of_no_sems (by decide) r.2⟩)
    (Cert.DwGRefIdeal.Value.run (F := Ideal) m ρ)

/-- Both programs leave the weight gradient. -/
theorem gradient_DwG : Cert.algebraic_DwGIdeal_DwGRefIdeal := by
  intro m g m' g' _ ha
  refine ⟨(fun c => Cert.DwGRefIdeal.Read.val_main_v5 (F := Ideal) (m ((c.tc : Thread Cert.DwGIdeal.nD Cert.DwGIdeal.τ).loc Cert.DwGIdeal.main_arg0)) (m ((c.tc : Thread Cert.DwGIdeal.nD Cert.DwGIdeal.τ).loc Cert.DwGIdeal.main_arg1))), ?_, ?_⟩
  · refine (θ_run Cert.DwGIdeal.defs _ _).mono (fun r h c => ?_) (Cert.DwGIdeal.Value.run_blocks (F := Ideal) m g)
    exact ⟨(h c).1.trans (Cert.DwGIdeal.Grad.final m c), (h c).2⟩
  · refine (θ_run Cert.DwGRefIdeal.defs _ _).mono (fun r h c => ?_) (Cert.DwGRefIdeal.Value.run (F := Ideal) m' g')
    obtain ⟨e0, e1⟩ := ha c
    exact ⟨(h c).1.trans ((Cert.DwGRefIdeal.Read.val_main_v5_eq _ _).trans (congrArg₂ (Cert.DwGRefIdeal.Read.val_main_v5 (F := Ideal)) e0 e1)), (h c).2⟩

/-- The reference of the weight gradient `DwUp` runs to its end and leaves its arguments as they were. -/
theorem frame_reference_DwUp : Cert.quiescent_DwUpRefIdeal := by
  intro m ρ _
  exact (θ_run Cert.DwUpRefIdeal.defs _ _).mono
    (fun r h => ⟨fun c => (h c).2, Idealize.ShloMosaic.sem_eq_zero_of_no_sems (by decide) r.2⟩)
    (Cert.DwUpRefIdeal.Value.run (F := Ideal) m ρ)

/-- Both programs leave the weight gradient. -/
theorem gradient_DwUp : Cert.algebraic_DwUpIdeal_DwUpRefIdeal := by
  intro m g m' g' _ ha
  refine ⟨(fun c => Cert.DwUpRefIdeal.Read.val_main_v5 (F := Ideal) (m ((c.tc : Thread Cert.DwUpIdeal.nD Cert.DwUpIdeal.τ).loc Cert.DwUpIdeal.main_arg0)) (m ((c.tc : Thread Cert.DwUpIdeal.nD Cert.DwUpIdeal.τ).loc Cert.DwUpIdeal.main_arg1))), ?_, ?_⟩
  · refine (θ_run Cert.DwUpIdeal.defs _ _).mono (fun r h c => ?_) (Cert.DwUpIdeal.Value.run_blocks (F := Ideal) m g)
    exact ⟨(h c).1.trans (Cert.DwUpIdeal.Grad.final m c), (h c).2⟩
  · refine (θ_run Cert.DwUpRefIdeal.defs _ _).mono (fun r h c => ?_) (Cert.DwUpRefIdeal.Value.run (F := Ideal) m' g')
    obtain ⟨e0, e1⟩ := ha c
    exact ⟨(h c).1.trans ((Cert.DwUpRefIdeal.Read.val_main_v5_eq _ _).trans (congrArg₂ (Cert.DwUpRefIdeal.Read.val_main_v5 (F := Ideal)) e0 e1)), (h c).2⟩

/-- The reference of the weight gradient `DwGlu` runs to its end and leaves its arguments as they were. -/
theorem frame_reference_DwGlu : Cert.quiescent_DwGluRefIdeal := by
  intro m ρ _
  exact (θ_run Cert.DwGluRefIdeal.defs _ _).mono
    (fun r h => ⟨fun c => (h c).2, Idealize.ShloMosaic.sem_eq_zero_of_no_sems (by decide) r.2⟩)
    (Cert.DwGluRefIdeal.Value.run (F := Ideal) m ρ)

/-- Both programs leave the weight gradient. -/
theorem gradient_DwGlu : Cert.algebraic_DwGluIdeal_DwGluRefIdeal := by
  intro m g m' g' _ ha
  refine ⟨(fun c => Cert.DwGluRefIdeal.Read.val_main_v5 (F := Ideal) (m ((c.tc : Thread Cert.DwGluIdeal.nD Cert.DwGluIdeal.τ).loc Cert.DwGluIdeal.main_arg0)) (m ((c.tc : Thread Cert.DwGluIdeal.nD Cert.DwGluIdeal.τ).loc Cert.DwGluIdeal.main_arg1))), ?_, ?_⟩
  · refine (θ_run Cert.DwGluIdeal.defs _ _).mono (fun r h c => ?_) (Cert.DwGluIdeal.Value.run_blocks (F := Ideal) m g)
    exact ⟨(h c).1.trans (Cert.DwGluIdeal.Grad.final m c), (h c).2⟩
  · refine (θ_run Cert.DwGluRefIdeal.defs _ _).mono (fun r h c => ?_) (Cert.DwGluRefIdeal.Value.run (F := Ideal) m' g')
    obtain ⟨e0, e1⟩ := ha c
    exact ⟨(h c).1.trans ((Cert.DwGluRefIdeal.Read.val_main_v5_eq _ _).trans (congrArg₂ (Cert.DwGluRefIdeal.Read.val_main_v5 (F := Ideal)) e0 e1)), (h c).2⟩

/-- A function of ten arguments takes equal values at equal arguments. -/
theorem congr10 {α β γ δ ε ζ η θ ι κ ω : Type} (f : α → β → γ → δ → ε → ζ → η → θ → ι → κ → ω) {a a' : α} {b b' : β} {c c' : γ} {d d' : δ} {e e' : ε} {o o' : ζ} {g g' : η} {h h' : θ} {i i' : ι} {j j' : κ}
    (ha : a = a') (hb : b = b') (hc : c = c') (hd : d = d') (he : e = e') (ho : o = o') (hg : g = g') (hh : h = h') (hi : i = i') (hj : j = j') :
    f a b c d e o g h i j = f a' b' c' d' e' o' g' h' i' j' := by
  subst ha hb hc hd he ho hg hh hi hj
  rfl

/-- A function of twelve arguments takes equal values at equal arguments. -/
theorem congr12 {α β γ δ ε ζ η θ ι κ φ μ ω : Type} (f : α → β → γ → δ → ε → ζ → η → θ → ι → κ → φ → μ → ω) {a a' : α} {b b' : β} {c c' : γ} {d d' : δ} {e e' : ε} {o o' : ζ} {g g' : η} {h h' : θ} {i i' : ι} {j j' : κ} {k k' : φ} {l l' : μ}
    (ha : a = a') (hb : b = b') (hc : c = c') (hd : d = d') (he : e = e') (ho : o = o') (hg : g = g') (hh : h = h') (hi : i = i') (hj : j = j') (hk : k = k') (hl : l = l') :
    f a b c d e o g h i j k l = f a' b' c' d' e' o' g' h' i' j' k' l' := by
  subst ha hb hc hd he ho hg hh hi hj hk hl
  rfl

/-- A function of fourteen arguments takes equal values at equal arguments. -/
theorem congr14 {α β γ δ ε ζ η θ ι κ φ μ ν ξ ω : Type} (f : α → β → γ → δ → ε → ζ → η → θ → ι → κ → φ → μ → ν → ξ → ω) {a a' : α} {b b' : β} {c c' : γ} {d d' : δ} {e e' : ε} {o o' : ζ} {g g' : η} {h h' : θ} {i i' : ι} {j j' : κ} {k k' : φ} {l l' : μ} {m m' : ν} {n n' : ξ}
    (ha : a = a') (hb : b = b') (hc : c = c') (hd : d = d') (he : e = e') (ho : o = o') (hg : g = g') (hh : h = h') (hi : i = i') (hj : j = j') (hk : k = k') (hl : l = l') (hm : m = m') (hn : n = n') :
    f a b c d e o g h i j k l m n = f a' b' c' d' e' o' g' h' i' j' k' l' m' n' := by
  subst ha hb hc hd he ho hg hh hi hj hk hl hm hn
  rfl

/-- The reference of the projection's gradients runs to its end and leaves its arguments as they were. -/
theorem frame_reference_ProjBwd : Cert.quiescent_ProjBwdRefIdeal := by
  intro m ρ _
  exact (θ_run Cert.ProjBwdRefIdeal.defs _ _).mono
    (fun r h => ⟨fun c => (h c).2.2.2.2, Idealize.ShloMosaic.sem_eq_zero_of_no_sems (by decide) r.2⟩)
    (Cert.ProjBwdRefIdeal.Value.run (F := Ideal) m ρ)

/-- From real arguments both programs leave the gradients of the projection's input, of `shift`, of `scale` and of `g_norm`. -/
theorem gradients_ProjBwd : Cert.algebraic_ProjBwdIdeal_ProjBwdRefIdeal_pre_real := by
  intro m g m' g' hp ha
  have H (c : Dev Cert.ProjBwdIdeal.nD) : Cert.ProjBwdIdeal.Grad.RealArgs m c := Cert.ProjBwdIdeal.Grad.reals _ _ _ _ _ _ _ _ _ _ _ _ _ _ _ (hp c)
  refine ⟨(fun c => Cert.ProjBwdRefIdeal.Read.val_main_v65 (F := Ideal) (Cert.ProjBwdIdeal.Grad.a0 m c) (Cert.ProjBwdIdeal.Grad.a1 m c) (Cert.ProjBwdIdeal.Grad.a2 m c) (Cert.ProjBwdIdeal.Grad.a3 m c) (Cert.ProjBwdIdeal.Grad.a4 m c) (Cert.ProjBwdIdeal.Grad.a5 m c) (Cert.ProjBwdIdeal.Grad.a6 m c) (Cert.ProjBwdIdeal.Grad.a7 m c) (Cert.ProjBwdIdeal.Grad.a8 m c) (Cert.ProjBwdIdeal.Grad.a9 m c) (Cert.ProjBwdIdeal.Grad.a10 m c) (Cert.ProjBwdIdeal.Grad.a12 m c) (Cert.ProjBwdIdeal.Grad.a13 m c) (Cert.ProjBwdIdeal.Grad.a14 m c)),
    (fun c => Cert.ProjBwdRefIdeal.Read.val_main_v40 (F := Ideal) (Cert.ProjBwdIdeal.Grad.a0 m c) (Cert.ProjBwdIdeal.Grad.a1 m c) (Cert.ProjBwdIdeal.Grad.a2 m c) (Cert.ProjBwdIdeal.Grad.a3 m c) (Cert.ProjBwdIdeal.Grad.a4 m c) (Cert.ProjBwdIdeal.Grad.a5 m c) (Cert.ProjBwdIdeal.Grad.a6 m c) (Cert.ProjBwdIdeal.Grad.a7 m c) (Cert.ProjBwdIdeal.Grad.a8 m c) (Cert.ProjBwdIdeal.Grad.a14 m c)),
    (fun c => Cert.ProjBwdRefIdeal.Read.val_main_v43 (F := Ideal) (Cert.ProjBwdIdeal.Grad.a0 m c) (Cert.ProjBwdIdeal.Grad.a1 m c) (Cert.ProjBwdIdeal.Grad.a2 m c) (Cert.ProjBwdIdeal.Grad.a3 m c) (Cert.ProjBwdIdeal.Grad.a4 m c) (Cert.ProjBwdIdeal.Grad.a5 m c) (Cert.ProjBwdIdeal.Grad.a6 m c) (Cert.ProjBwdIdeal.Grad.a7 m c) (Cert.ProjBwdIdeal.Grad.a8 m c) (Cert.ProjBwdIdeal.Grad.a9 m c) (Cert.ProjBwdIdeal.Grad.a13 m c) (Cert.ProjBwdIdeal.Grad.a14 m c)),
    (fun c => Cert.ProjBwdRefIdeal.Read.val_main_v48 (F := Ideal) (Cert.ProjBwdIdeal.Grad.a0 m c) (Cert.ProjBwdIdeal.Grad.a1 m c) (Cert.ProjBwdIdeal.Grad.a2 m c) (Cert.ProjBwdIdeal.Grad.a3 m c) (Cert.ProjBwdIdeal.Grad.a4 m c) (Cert.ProjBwdIdeal.Grad.a5 m c) (Cert.ProjBwdIdeal.Grad.a6 m c) (Cert.ProjBwdIdeal.Grad.a7 m c) (Cert.ProjBwdIdeal.Grad.a8 m c) (Cert.ProjBwdIdeal.Grad.a9 m c) (Cert.ProjBwdIdeal.Grad.a12 m c) (Cert.ProjBwdIdeal.Grad.a14 m c)), ?_, ?_⟩
  · refine (θ_run Cert.ProjBwdIdeal.defs _ _).mono (fun r h c => ?_) (Cert.ProjBwdIdeal.Value.run_blocks (F := Ideal) m g)
    have h1 := h c
    exact ⟨h1.1.trans (Cert.ProjBwdIdeal.Grad.final15 m c (H c)), h1.2.1.trans (Cert.ProjBwdIdeal.Grad.final16 m c), h1.2.2.1.trans (Cert.ProjBwdIdeal.Grad.final17 m c (H c)),
      h1.2.2.2.1.trans (Cert.ProjBwdIdeal.Grad.final18 m c (H c)), h1.2.2.2.2⟩
  · refine (θ_run Cert.ProjBwdRefIdeal.defs _ _).mono (fun r h c => ?_) (Cert.ProjBwdRefIdeal.Value.run (F := Ideal) m' g')
    have h1 := h c
    obtain ⟨e0, e1, e2, e3, e4, e5, e6, e7, e8, e9, e10, e11, e12, e13, e14⟩ := ha c
    exact ⟨h1.1.trans ((Cert.ProjBwdRefIdeal.Read.val_main_v65_eq _ _).trans (congr14 (Cert.ProjBwdRefIdeal.Read.val_main_v65 (F := Ideal)) e0 e1 e2 e3 e4 e5 e6 e7 e8 e9 e10 e12 e13 e14)),
      h1.2.1.trans ((Cert.ProjBwdRefIdeal.Read.val_main_v40_eq _ _ _ _ _ _ _ _ _ _).trans (congr10 (Cert.ProjBwdRefIdeal.Read.val_main_v40 (F := Ideal)) e0 e1 e2 e3 e4 e5 e6 e7 e8 e14)),
      h1.2.2.1.trans ((Cert.ProjBwdRefIdeal.Read.val_main_v43_eq _ _ _ _ _ _ _ _ _ _ _ _).trans (congr12 (Cert.ProjBwdRefIdeal.Read.val_main_v43 (F := Ideal)) e0 e1 e2 e3 e4 e5 e6 e7 e8 e9 e13 e14)),
      h1.2.2.2.1.trans ((Cert.ProjBwdRefIdeal.Read.val_main_v48_eq _ _ _ _ _ _ _ _ _ _ _ _).trans (congr12 (Cert.ProjBwdRefIdeal.Read.val_main_v48 (F := Ideal)) e0 e1 e2 e3 e4 e5 e6 e7 e8 e9 e12 e14)),
      h1.2.2.2.2⟩

/-- The reference of AdamW on the input projection's weight runs to its end and leaves its arguments as they were. -/
theorem frame_reference_AdamIn : Cert.quiescent_AdamInRefIdeal := by
  intro m ρ _
  exact (θ_run Cert.AdamInRefIdeal.defs _ _).mono
    (fun r h => ⟨fun c => (h c).2.2.2.2, Idealize.ShloMosaic.sem_eq_zero_of_no_sems (by decide) r.2⟩)
    (Cert.AdamInRefIdeal.Value.run (F := Ideal) m ρ)

/-- AdamW on the input projection's weight: both programs leave the gradient, the weight's change and the two new moments. -/
theorem step_AdamIn : Cert.algebraic_AdamInIdeal_AdamInRefIdeal := by
  intro m g m' g' _ ha
  refine ⟨fun c => Cert.AdamInRefIdeal.Read.val_main_v1 (F := Ideal) (Cert.AdamInIdeal.Step.a0 m c), fun c => Cert.AdamInRefIdeal.Read.val_main_v25 (F := Ideal) (Cert.AdamInIdeal.Step.a0 m c) (Cert.AdamInIdeal.Step.a1 m c) (Cert.AdamInIdeal.Step.a2 m c) (Cert.AdamInIdeal.Step.a3 m c),
    fun c => Cert.AdamInRefIdeal.Read.val_main_v6 (F := Ideal) (Cert.AdamInIdeal.Step.a0 m c) (Cert.AdamInIdeal.Step.a2 m c), fun c => Cert.AdamInRefIdeal.Read.val_main_v12 (F := Ideal) (Cert.AdamInIdeal.Step.a0 m c) (Cert.AdamInIdeal.Step.a3 m c), ?_, ?_⟩
  · refine (θ_run Cert.AdamInIdeal.defs _ _).mono (fun r h c => ?_) (Cert.AdamInIdeal.Value.run_blocks (F := Ideal) m g)
    obtain ⟨h4, h5, h6, h7, hk⟩ := h c
    exact ⟨h4.trans (Cert.AdamInIdeal.Step.final4 m c), h5.trans (Cert.AdamInIdeal.Step.final5 m c), h6.trans (Cert.AdamInIdeal.Step.final6 m c), h7.trans (Cert.AdamInIdeal.Step.final7 m c), hk⟩
  · refine (θ_run Cert.AdamInRefIdeal.defs _ _).mono (fun r h c => ?_) (Cert.AdamInRefIdeal.Value.run (F := Ideal) m' g')
    obtain ⟨hg, hd, hm, hv, hk⟩ := h c
    obtain ⟨e0, e1, e2, e3⟩ := ha c
    exact ⟨hg.trans ((Cert.AdamInRefIdeal.Read.val_main_v1_eq _).trans (congrArg (Cert.AdamInRefIdeal.Read.val_main_v1 (F := Ideal)) e0)),
      hd.trans ((Cert.AdamInRefIdeal.Read.val_main_v25_eq _ _ _ _).trans (congr4 (Cert.AdamInRefIdeal.Read.val_main_v25 (F := Ideal)) e0 e1 e2 e3)),
      hm.trans ((Cert.AdamInRefIdeal.Read.val_main_v6_eq _ _).trans (congrArg₂ (Cert.AdamInRefIdeal.Read.val_main_v6 (F := Ideal)) e0 e2)),
      hv.trans ((Cert.AdamInRefIdeal.Read.val_main_v12_eq _ _).trans (congrArg₂ (Cert.AdamInRefIdeal.Read.val_main_v12 (F := Ideal)) e0 e3)), hk⟩

/-- The reference of AdamW on the gated linear unit's weight runs to its end and leaves its arguments as they were. -/
theorem frame_reference_AdamGlu : Cert.quiescent_AdamGluRefIdeal := by
  intro m ρ _
  exact (θ_run Cert.AdamGluRefIdeal.defs _ _).mono
    (fun r h => ⟨fun c => (h c).2.2.2.2, Idealize.ShloMosaic.sem_eq_zero_of_no_sems (by decide) r.2⟩)
    (Cert.AdamGluRefIdeal.Value.run (F := Ideal) m ρ)

/-- AdamW on the gated linear unit's weight: both programs leave the gradient, the weight's change and the two new moments. -/
theorem step_AdamGlu : Cert.algebraic_AdamGluIdeal_AdamGluRefIdeal := by
  intro m g m' g' _ ha
  refine ⟨fun c => Cert.AdamGluRefIdeal.Read.val_main_v1 (F := Ideal) (Cert.AdamGluIdeal.Step.a0 m c), fun c => Cert.AdamGluRefIdeal.Read.val_main_v25 (F := Ideal) (Cert.AdamGluIdeal.Step.a0 m c) (Cert.AdamGluIdeal.Step.a1 m c) (Cert.AdamGluIdeal.Step.a2 m c) (Cert.AdamGluIdeal.Step.a3 m c),
    fun c => Cert.AdamGluRefIdeal.Read.val_main_v6 (F := Ideal) (Cert.AdamGluIdeal.Step.a0 m c) (Cert.AdamGluIdeal.Step.a2 m c), fun c => Cert.AdamGluRefIdeal.Read.val_main_v12 (F := Ideal) (Cert.AdamGluIdeal.Step.a0 m c) (Cert.AdamGluIdeal.Step.a3 m c), ?_, ?_⟩
  · refine (θ_run Cert.AdamGluIdeal.defs _ _).mono (fun r h c => ?_) (Cert.AdamGluIdeal.Value.run_blocks (F := Ideal) m g)
    obtain ⟨h4, h5, h6, h7, hk⟩ := h c
    exact ⟨h4.trans (Cert.AdamGluIdeal.Step.final4 m c), h5.trans (Cert.AdamGluIdeal.Step.final5 m c), h6.trans (Cert.AdamGluIdeal.Step.final6 m c), h7.trans (Cert.AdamGluIdeal.Step.final7 m c), hk⟩
  · refine (θ_run Cert.AdamGluRefIdeal.defs _ _).mono (fun r h c => ?_) (Cert.AdamGluRefIdeal.Value.run (F := Ideal) m' g')
    obtain ⟨hg, hd, hm, hv, hk⟩ := h c
    obtain ⟨e0, e1, e2, e3⟩ := ha c
    exact ⟨hg.trans ((Cert.AdamGluRefIdeal.Read.val_main_v1_eq _).trans (congrArg (Cert.AdamGluRefIdeal.Read.val_main_v1 (F := Ideal)) e0)),
      hd.trans ((Cert.AdamGluRefIdeal.Read.val_main_v25_eq _ _ _ _).trans (congr4 (Cert.AdamGluRefIdeal.Read.val_main_v25 (F := Ideal)) e0 e1 e2 e3)),
      hm.trans ((Cert.AdamGluRefIdeal.Read.val_main_v6_eq _ _).trans (congrArg₂ (Cert.AdamGluRefIdeal.Read.val_main_v6 (F := Ideal)) e0 e2)),
      hv.trans ((Cert.AdamGluRefIdeal.Read.val_main_v12_eq _ _).trans (congrArg₂ (Cert.AdamGluRefIdeal.Read.val_main_v12 (F := Ideal)) e0 e3)), hk⟩

/-- The reference of AdamW on an up projection's weight runs to its end and leaves its arguments as they were. -/
theorem frame_reference_AdamUp : Cert.quiescent_AdamUpRefIdeal := by
  intro m ρ _
  exact (θ_run Cert.AdamUpRefIdeal.defs _ _).mono
    (fun r h => ⟨fun c => (h c).2.2.2.2, Idealize.ShloMosaic.sem_eq_zero_of_no_sems (by decide) r.2⟩)
    (Cert.AdamUpRefIdeal.Value.run (F := Ideal) m ρ)

/-- AdamW on an up projection's weight: both programs leave the gradient, the weight's change and the two new moments. -/
theorem step_AdamUp : Cert.algebraic_AdamUpIdeal_AdamUpRefIdeal := by
  intro m g m' g' _ ha
  refine ⟨fun c => Cert.AdamUpRefIdeal.Read.val_main_v1 (F := Ideal) (Cert.AdamUpIdeal.Step.a0 m c), fun c => Cert.AdamUpRefIdeal.Read.val_main_v25 (F := Ideal) (Cert.AdamUpIdeal.Step.a0 m c) (Cert.AdamUpIdeal.Step.a1 m c) (Cert.AdamUpIdeal.Step.a2 m c) (Cert.AdamUpIdeal.Step.a3 m c),
    fun c => Cert.AdamUpRefIdeal.Read.val_main_v6 (F := Ideal) (Cert.AdamUpIdeal.Step.a0 m c) (Cert.AdamUpIdeal.Step.a2 m c), fun c => Cert.AdamUpRefIdeal.Read.val_main_v12 (F := Ideal) (Cert.AdamUpIdeal.Step.a0 m c) (Cert.AdamUpIdeal.Step.a3 m c), ?_, ?_⟩
  · refine (θ_run Cert.AdamUpIdeal.defs _ _).mono (fun r h c => ?_) (Cert.AdamUpIdeal.Value.run_blocks (F := Ideal) m g)
    obtain ⟨h4, h5, h6, h7, hk⟩ := h c
    exact ⟨h4.trans (Cert.AdamUpIdeal.Step.final4 m c), h5.trans (Cert.AdamUpIdeal.Step.final5 m c), h6.trans (Cert.AdamUpIdeal.Step.final6 m c), h7.trans (Cert.AdamUpIdeal.Step.final7 m c), hk⟩
  · refine (θ_run Cert.AdamUpRefIdeal.defs _ _).mono (fun r h c => ?_) (Cert.AdamUpRefIdeal.Value.run (F := Ideal) m' g')
    obtain ⟨hg, hd, hm, hv, hk⟩ := h c
    obtain ⟨e0, e1, e2, e3⟩ := ha c
    exact ⟨hg.trans ((Cert.AdamUpRefIdeal.Read.val_main_v1_eq _).trans (congrArg (Cert.AdamUpRefIdeal.Read.val_main_v1 (F := Ideal)) e0)),
      hd.trans ((Cert.AdamUpRefIdeal.Read.val_main_v25_eq _ _ _ _).trans (congr4 (Cert.AdamUpRefIdeal.Read.val_main_v25 (F := Ideal)) e0 e1 e2 e3)),
      hm.trans ((Cert.AdamUpRefIdeal.Read.val_main_v6_eq _ _).trans (congrArg₂ (Cert.AdamUpRefIdeal.Read.val_main_v6 (F := Ideal)) e0 e2)),
      hv.trans ((Cert.AdamUpRefIdeal.Read.val_main_v12_eq _ _).trans (congrArg₂ (Cert.AdamUpRefIdeal.Read.val_main_v12 (F := Ideal)) e0 e3)), hk⟩

/-- The reference of AdamW on the output projection's weight runs to its end and leaves its arguments as they were. -/
theorem frame_reference_AdamOut : Cert.quiescent_AdamOutRefIdeal := by
  intro m ρ _
  exact (θ_run Cert.AdamOutRefIdeal.defs _ _).mono
    (fun r h => ⟨fun c => (h c).2.2.2.2, Idealize.ShloMosaic.sem_eq_zero_of_no_sems (by decide) r.2⟩)
    (Cert.AdamOutRefIdeal.Value.run (F := Ideal) m ρ)

/-- AdamW on the output projection's weight: both programs leave the gradient, the weight's change and the two new moments. -/
theorem step_AdamOut : Cert.algebraic_AdamOutIdeal_AdamOutRefIdeal := by
  intro m g m' g' _ ha
  refine ⟨fun c => Cert.AdamOutRefIdeal.Read.val_main_v1 (F := Ideal) (Cert.AdamOutIdeal.Step.a0 m c), fun c => Cert.AdamOutRefIdeal.Read.val_main_v25 (F := Ideal) (Cert.AdamOutIdeal.Step.a0 m c) (Cert.AdamOutIdeal.Step.a1 m c) (Cert.AdamOutIdeal.Step.a2 m c) (Cert.AdamOutIdeal.Step.a3 m c),
    fun c => Cert.AdamOutRefIdeal.Read.val_main_v6 (F := Ideal) (Cert.AdamOutIdeal.Step.a0 m c) (Cert.AdamOutIdeal.Step.a2 m c), fun c => Cert.AdamOutRefIdeal.Read.val_main_v12 (F := Ideal) (Cert.AdamOutIdeal.Step.a0 m c) (Cert.AdamOutIdeal.Step.a3 m c), ?_, ?_⟩
  · refine (θ_run Cert.AdamOutIdeal.defs _ _).mono (fun r h c => ?_) (Cert.AdamOutIdeal.Value.run_blocks (F := Ideal) m g)
    obtain ⟨h4, h5, h6, h7, hk⟩ := h c
    exact ⟨h4.trans (Cert.AdamOutIdeal.Step.final4 m c), h5.trans (Cert.AdamOutIdeal.Step.final5 m c), h6.trans (Cert.AdamOutIdeal.Step.final6 m c), h7.trans (Cert.AdamOutIdeal.Step.final7 m c), hk⟩
  · refine (θ_run Cert.AdamOutRefIdeal.defs _ _).mono (fun r h c => ?_) (Cert.AdamOutRefIdeal.Value.run (F := Ideal) m' g')
    obtain ⟨hg, hd, hm, hv, hk⟩ := h c
    obtain ⟨e0, e1, e2, e3⟩ := ha c
    exact ⟨hg.trans ((Cert.AdamOutRefIdeal.Read.val_main_v1_eq _).trans (congrArg (Cert.AdamOutRefIdeal.Read.val_main_v1 (F := Ideal)) e0)),
      hd.trans ((Cert.AdamOutRefIdeal.Read.val_main_v25_eq _ _ _ _).trans (congr4 (Cert.AdamOutRefIdeal.Read.val_main_v25 (F := Ideal)) e0 e1 e2 e3)),
      hm.trans ((Cert.AdamOutRefIdeal.Read.val_main_v6_eq _ _).trans (congrArg₂ (Cert.AdamOutRefIdeal.Read.val_main_v6 (F := Ideal)) e0 e2)),
      hv.trans ((Cert.AdamOutRefIdeal.Read.val_main_v12_eq _ _).trans (congrArg₂ (Cert.AdamOutRefIdeal.Read.val_main_v12 (F := Ideal)) e0 e3)), hk⟩

/-- The reference of AdamW on the modulation's weight runs to its end and leaves its arguments as they were. -/
theorem frame_reference_AdamAda : Cert.quiescent_AdamAdaRefIdeal := by
  intro m ρ _
  exact (θ_run Cert.AdamAdaRefIdeal.defs _ _).mono
    (fun r h => ⟨fun c => (h c).2.2.2.2, Idealize.ShloMosaic.sem_eq_zero_of_no_sems (by decide) r.2⟩)
    (Cert.AdamAdaRefIdeal.Value.run (F := Ideal) m ρ)

/-- AdamW on the modulation's weight: both programs leave the gradient, the weight's change and the two new moments. -/
theorem step_AdamAda : Cert.algebraic_AdamAdaIdeal_AdamAdaRefIdeal := by
  intro m g m' g' _ ha
  refine ⟨fun c => Cert.AdamAdaRefIdeal.Read.val_main_v0 (F := Ideal) (Cert.AdamAdaIdeal.Step.a0 m c), fun c => Cert.AdamAdaRefIdeal.Read.val_main_v24 (F := Ideal) (Cert.AdamAdaIdeal.Step.a0 m c) (Cert.AdamAdaIdeal.Step.a1 m c) (Cert.AdamAdaIdeal.Step.a2 m c) (Cert.AdamAdaIdeal.Step.a3 m c),
    fun c => Cert.AdamAdaRefIdeal.Read.val_main_v5 (F := Ideal) (Cert.AdamAdaIdeal.Step.a0 m c) (Cert.AdamAdaIdeal.Step.a2 m c), fun c => Cert.AdamAdaRefIdeal.Read.val_main_v11 (F := Ideal) (Cert.AdamAdaIdeal.Step.a0 m c) (Cert.AdamAdaIdeal.Step.a3 m c), ?_, ?_⟩
  · refine (θ_run Cert.AdamAdaIdeal.defs _ _).mono (fun r h c => ?_) (Cert.AdamAdaIdeal.Value.run_blocks (F := Ideal) m g)
    obtain ⟨h4, h5, h6, h7, hk⟩ := h c
    exact ⟨h4.trans (Cert.AdamAdaIdeal.Step.final4 m c), h5.trans (Cert.AdamAdaIdeal.Step.final5 m c), h6.trans (Cert.AdamAdaIdeal.Step.final6 m c), h7.trans (Cert.AdamAdaIdeal.Step.final7 m c), hk⟩
  · refine (θ_run Cert.AdamAdaRefIdeal.defs _ _).mono (fun r h c => ?_) (Cert.AdamAdaRefIdeal.Value.run (F := Ideal) m' g')
    obtain ⟨hg, hd, hm, hv, hk⟩ := h c
    obtain ⟨e0, e1, e2, e3⟩ := ha c
    exact ⟨hg.trans ((Cert.AdamAdaRefIdeal.Read.val_main_v0_eq _).trans (congrArg (Cert.AdamAdaRefIdeal.Read.val_main_v0 (F := Ideal)) e0)),
      hd.trans ((Cert.AdamAdaRefIdeal.Read.val_main_v24_eq _ _ _ _).trans (congr4 (Cert.AdamAdaRefIdeal.Read.val_main_v24 (F := Ideal)) e0 e1 e2 e3)),
      hm.trans ((Cert.AdamAdaRefIdeal.Read.val_main_v5_eq _ _).trans (congrArg₂ (Cert.AdamAdaRefIdeal.Read.val_main_v5 (F := Ideal)) e0 e2)),
      hv.trans ((Cert.AdamAdaRefIdeal.Read.val_main_v11_eq _ _).trans (congrArg₂ (Cert.AdamAdaRefIdeal.Read.val_main_v11 (F := Ideal)) e0 e3)), hk⟩

/-- The reference of AdamW on the packed smaller weights runs to its end and leaves its arguments as they were. -/
theorem frame_reference_AdamSmall : Cert.quiescent_AdamSmallRefIdeal := by
  intro m ρ _
  exact (θ_run Cert.AdamSmallRefIdeal.defs _ _).mono
    (fun r h => ⟨fun c => (h c).2.2.2.2, Idealize.ShloMosaic.sem_eq_zero_of_no_sems (by decide) r.2⟩)
    (Cert.AdamSmallRefIdeal.Value.run (F := Ideal) m ρ)

/-- AdamW on the packed smaller weights: both programs leave the gradient, the weight's change and the two new moments. -/
theorem step_AdamSmall : Cert.algebraic_AdamSmallIdeal_AdamSmallRefIdeal := by
  intro m g m' g' _ ha
  refine ⟨fun c => Cert.AdamSmallRefIdeal.Read.val_main_v0 (F := Ideal) (Cert.AdamSmallIdeal.Step.a0 m c), fun c => Cert.AdamSmallRefIdeal.Read.val_main_v24 (F := Ideal) (Cert.AdamSmallIdeal.Step.a0 m c) (Cert.AdamSmallIdeal.Step.a1 m c) (Cert.AdamSmallIdeal.Step.a2 m c) (Cert.AdamSmallIdeal.Step.a3 m c),
    fun c => Cert.AdamSmallRefIdeal.Read.val_main_v5 (F := Ideal) (Cert.AdamSmallIdeal.Step.a0 m c) (Cert.AdamSmallIdeal.Step.a2 m c), fun c => Cert.AdamSmallRefIdeal.Read.val_main_v11 (F := Ideal) (Cert.AdamSmallIdeal.Step.a0 m c) (Cert.AdamSmallIdeal.Step.a3 m c), ?_, ?_⟩
  · refine (θ_run Cert.AdamSmallIdeal.defs _ _).mono (fun r h c => ?_) (Cert.AdamSmallIdeal.Value.run_blocks (F := Ideal) m g)
    obtain ⟨h4, h5, h6, h7, hk⟩ := h c
    exact ⟨h4.trans (Cert.AdamSmallIdeal.Step.final4 m c), h5.trans (Cert.AdamSmallIdeal.Step.final5 m c), h6.trans (Cert.AdamSmallIdeal.Step.final6 m c), h7.trans (Cert.AdamSmallIdeal.Step.final7 m c), hk⟩
  · refine (θ_run Cert.AdamSmallRefIdeal.defs _ _).mono (fun r h c => ?_) (Cert.AdamSmallRefIdeal.Value.run (F := Ideal) m' g')
    obtain ⟨hg, hd, hm, hv, hk⟩ := h c
    obtain ⟨e0, e1, e2, e3⟩ := ha c
    exact ⟨hg.trans ((Cert.AdamSmallRefIdeal.Read.val_main_v0_eq _).trans (congrArg (Cert.AdamSmallRefIdeal.Read.val_main_v0 (F := Ideal)) e0)),
      hd.trans ((Cert.AdamSmallRefIdeal.Read.val_main_v24_eq _ _ _ _).trans (congr4 (Cert.AdamSmallRefIdeal.Read.val_main_v24 (F := Ideal)) e0 e1 e2 e3)),
      hm.trans ((Cert.AdamSmallRefIdeal.Read.val_main_v5_eq _ _).trans (congrArg₂ (Cert.AdamSmallRefIdeal.Read.val_main_v5 (F := Ideal)) e0 e2)),
      hv.trans ((Cert.AdamSmallRefIdeal.Read.val_main_v11_eq _ _).trans (congrArg₂ (Cert.AdamSmallRefIdeal.Read.val_main_v11 (F := Ideal)) e0 e3)), hk⟩

/-- The reference of the modulation's gradient runs to its end and leaves its arguments as they were. -/
theorem frame_reference_WAda : Cert.quiescent_WAdaRefIdeal := by
  intro m ρ _
  exact (θ_run Cert.WAdaRefIdeal.defs _ _).mono
    (fun r h => ⟨fun c => (h c).2, Idealize.ShloMosaic.sem_eq_zero_of_no_sems (by decide) r.2⟩)
    (Cert.WAdaRefIdeal.Value.run (F := Ideal) m ρ)

/-- The modulation's gradient: both programs leave the gradient of its weight. -/
theorem gradient_WAda : Cert.algebraic_WAdaIdeal_WAdaRefIdeal := by
  intro m g m' g' _ ha
  refine ⟨fun c => Cert.WAdaIdeal.Value.G2 (F := Ideal) (m ((c.tc : Thread Cert.WAdaIdeal.nD Cert.WAdaIdeal.τ).loc Cert.WAdaIdeal.main_arg0)) (m ((c.tc : Thread Cert.WAdaIdeal.nD Cert.WAdaIdeal.τ).loc Cert.WAdaIdeal.main_arg1)),
    Cert.WAdaIdeal.Value.run (F := Ideal) m g, ?_⟩
  refine (θ_run Cert.WAdaRefIdeal.defs _ _).mono (fun r h c => ?_) (Cert.WAdaRefIdeal.Value.run (F := Ideal) m' g')
  obtain ⟨e0, e1⟩ := ha c
  exact ⟨(h c).1.trans ((Cert.WAdaRefIdeal.Read.val_main_v7_eq _ _).trans ((congrArg₂ (Cert.WAdaRefIdeal.Read.val_main_v7 (F := Ideal)) e0 e1).trans
    (Cert.WAdaIdeal.Grad.product _ _).symm)), (h c).2⟩

/-- The certificate's claims. -/
theorem claim : Cert.Claim :=
  ⟨Cert.Kernel.Gen.facts, Cert.KernelIdeal.Gen.facts, Cert.ReferenceIdeal.Gen.facts, Cert.ProjFwd.Gen.facts, Cert.ProjFwdIdeal.Gen.facts, Cert.ProjectionIdeal.Gen.facts,
    Cert.DwQ.Gen.facts, Cert.DwQIdeal.Gen.facts, Cert.DwQRefIdeal.Gen.facts, Cert.DwK.Gen.facts, Cert.DwKIdeal.Gen.facts, Cert.DwKRefIdeal.Gen.facts, Cert.DwF.Gen.facts, Cert.DwFIdeal.Gen.facts, Cert.DwFRefIdeal.Gen.facts, Cert.DwG.Gen.facts, Cert.DwGIdeal.Gen.facts, Cert.DwGRefIdeal.Gen.facts, Cert.DwUp.Gen.facts, Cert.DwUpIdeal.Gen.facts, Cert.DwUpRefIdeal.Gen.facts, Cert.DwGlu.Gen.facts, Cert.DwGluIdeal.Gen.facts, Cert.DwGluRefIdeal.Gen.facts, Cert.ProjBwd.Gen.facts, Cert.ProjBwdIdeal.Gen.facts, Cert.ProjBwdRefIdeal.Gen.facts, Cert.AdamIn.Gen.facts, Cert.AdamInIdeal.Gen.facts, Cert.AdamInRefIdeal.Gen.facts, Cert.AdamGlu.Gen.facts, Cert.AdamGluIdeal.Gen.facts, Cert.AdamGluRefIdeal.Gen.facts, Cert.AdamUp.Gen.facts, Cert.AdamUpIdeal.Gen.facts, Cert.AdamUpRefIdeal.Gen.facts, Cert.AdamOut.Gen.facts, Cert.AdamOutIdeal.Gen.facts, Cert.AdamOutRefIdeal.Gen.facts, Cert.AdamAda.Gen.facts, Cert.AdamAdaIdeal.Gen.facts, Cert.AdamAdaRefIdeal.Gen.facts, Cert.AdamSmall.Gen.facts, Cert.AdamSmallIdeal.Gen.facts, Cert.AdamSmallRefIdeal.Gen.facts, Cert.WAda.Gen.facts, Cert.WAdaIdeal.Gen.facts, Cert.WAdaRefIdeal.Gen.facts, Cert.Pre_finite.Gen.facts, Cert.Pre_real.Gen.facts,
    frame_kernel,
    frame_kernel_ideal,
    fun m ρ _ => frame_kernel_ideal m ρ trivial,
    frame_reference,
    fun m ρ _ => frame_reference m ρ trivial,
    frame_projection_kernel,
    frame_projection_ideal,
    frame_projection_reference,
    fun m ρ _ => Cert.DwQ.Gen.frame (F := Bits) m ρ,
    fun m ρ _ => Cert.DwQIdeal.Gen.frame (F := Ideal) m ρ,
    frame_reference_DwQ,
    fun m ρ _ => Cert.DwK.Gen.frame (F := Bits) m ρ,
    fun m ρ _ => Cert.DwKIdeal.Gen.frame (F := Ideal) m ρ,
    frame_reference_DwK,
    fun m ρ _ => Cert.DwF.Gen.frame (F := Bits) m ρ,
    fun m ρ _ => Cert.DwFIdeal.Gen.frame (F := Ideal) m ρ,
    frame_reference_DwF,
    fun m ρ _ => Cert.DwG.Gen.frame (F := Bits) m ρ,
    fun m ρ _ => Cert.DwGIdeal.Gen.frame (F := Ideal) m ρ,
    frame_reference_DwG,
    fun m ρ _ => Cert.DwUp.Gen.frame (F := Bits) m ρ,
    fun m ρ _ => Cert.DwUpIdeal.Gen.frame (F := Ideal) m ρ,
    frame_reference_DwUp,
    fun m ρ _ => Cert.DwGlu.Gen.frame (F := Bits) m ρ,
    fun m ρ _ => Cert.DwGluIdeal.Gen.frame (F := Ideal) m ρ,
    frame_reference_DwGlu,
    fun m ρ _ => Cert.ProjBwd.Gen.frame (F := Bits) m ρ,
    fun m ρ _ => Cert.ProjBwdIdeal.Gen.frame (F := Ideal) m ρ,
    fun m ρ _ => Cert.ProjBwdIdeal.Gen.frame (F := Ideal) m ρ,
    frame_reference_ProjBwd,
    fun m ρ _ => frame_reference_ProjBwd m ρ trivial,
    fun m ρ _ => Cert.AdamIn.Gen.frame (F := Bits) m ρ,
    fun m ρ _ => Cert.AdamInIdeal.Gen.frame (F := Ideal) m ρ,
    frame_reference_AdamIn,
    fun m ρ _ => Cert.AdamGlu.Gen.frame (F := Bits) m ρ,
    fun m ρ _ => Cert.AdamGluIdeal.Gen.frame (F := Ideal) m ρ,
    frame_reference_AdamGlu,
    fun m ρ _ => Cert.AdamUp.Gen.frame (F := Bits) m ρ,
    fun m ρ _ => Cert.AdamUpIdeal.Gen.frame (F := Ideal) m ρ,
    frame_reference_AdamUp,
    fun m ρ _ => Cert.AdamOut.Gen.frame (F := Bits) m ρ,
    fun m ρ _ => Cert.AdamOutIdeal.Gen.frame (F := Ideal) m ρ,
    frame_reference_AdamOut,
    fun m ρ _ => Cert.AdamAda.Gen.frame (F := Bits) m ρ,
    fun m ρ _ => Cert.AdamAdaIdeal.Gen.frame (F := Ideal) m ρ,
    frame_reference_AdamAda,
    fun m ρ _ => Cert.AdamSmall.Gen.frame (F := Bits) m ρ,
    fun m ρ _ => Cert.AdamSmallIdeal.Gen.frame (F := Ideal) m ρ,
    frame_reference_AdamSmall,
    fun m ρ _ => Cert.WAda.Gen.frame (F := Bits) m ρ,
    fun m ρ _ => Cert.WAdaIdeal.Gen.frame (F := Ideal) m ρ,
    frame_reference_WAda,
    IdealRules.named_const.statement Cert.KernelIdeal.κ "mask" .f32 0xFF7FFFFF#32 ⊥ rfl,
    gradients,
    trivial,
    projections,
    trivial,
    gradient_DwQ,
    trivial,
    gradient_DwK,
    trivial,
    gradient_DwF,
    trivial,
    gradient_DwG,
    trivial,
    gradient_DwUp,
    trivial,
    gradient_DwGlu,
    trivial,
    gradients_ProjBwd,
    trivial,
    step_AdamIn,
    trivial,
    step_AdamGlu,
    trivial,
    step_AdamUp,
    trivial,
    step_AdamOut,
    trivial,
    step_AdamAda,
    trivial,
    step_AdamSmall,
    trivial,
    gradient_WAda⟩

end Cert.Proof

end
